-- ==== Defs.lean ====
def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_finite_ffn [hPre_finite_ffn : Cert.Pre_finite_ffn.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_finite_ffn.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))) = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_finite_ffn [hPre_finite_ffn : Cert.Pre_finite_ffn.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_finite_ffn.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))) = (fun _ => 1#1)

def Pre_GateUpDx (m : (ℓ : Loc Cert.GateUpDx.nD Cert.GateUpDx.τ Cert.GateUpDx.sig) → Buf (Elt Bits) ℓ) : Prop :=
  True

def Pre_GateUpDxIdeal (m : (ℓ : Loc Cert.GateUpDxIdeal.nD Cert.GateUpDxIdeal.τ Cert.GateUpDxIdeal.sig) → Buf (Elt Ideal) ℓ) : Prop :=
  True

def Pre_GateUpDxRefIdeal (m : (ℓ : Loc Cert.GateUpDxRefIdeal.nD Cert.GateUpDxRefIdeal.τ Cert.GateUpDxRefIdeal.sig) → Buf (Elt Ideal) ℓ) : Prop :=
  True

def Pre_AInDx (m : (ℓ : Loc Cert.AInDx.nD Cert.AInDx.τ Cert.AInDx.sig) → Buf (Elt Bits) ℓ) : Prop :=
  True

def Pre_AInDxIdeal (m : (ℓ : Loc Cert.AInDxIdeal.nD Cert.AInDxIdeal.τ Cert.AInDxIdeal.sig) → Buf (Elt Ideal) ℓ) : Prop :=
  True

def Pre_AInDxRefIdeal (m : (ℓ : Loc Cert.AInDxRefIdeal.nD Cert.AInDxRefIdeal.τ Cert.AInDxRefIdeal.sig) → Buf (Elt Ideal) ℓ) : Prop :=
  True

def Pre_BInDx (m : (ℓ : Loc Cert.BInDx.nD Cert.BInDx.τ Cert.BInDx.sig) → Buf (Elt Bits) ℓ) : Prop :=
  True

def Pre_BInDxIdeal (m : (ℓ : Loc Cert.BInDxIdeal.nD Cert.BInDxIdeal.τ Cert.BInDxIdeal.sig) → Buf (Elt Ideal) ℓ) : Prop :=
  True

def Pre_BInDxRefIdeal (m : (ℓ : Loc Cert.BInDxRefIdeal.nD Cert.BInDxRefIdeal.τ Cert.BInDxRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_MixB (m : (ℓ : Loc Cert.MixB.nD Cert.MixB.τ Cert.MixB.sig) → Buf (Elt Bits) ℓ) : Prop :=
  True

def Pre_MixBIdeal (m : (ℓ : Loc Cert.MixBIdeal.nD Cert.MixBIdeal.τ Cert.MixBIdeal.sig) → Buf (Elt Ideal) ℓ) : Prop :=
  True

def Pre_MixBIdeal_finite_heads_b [hPre_finite_heads_b : Cert.Pre_finite_heads_b.Facts] (m : (ℓ : Loc Cert.MixBIdeal.nD Cert.MixBIdeal.τ Cert.MixBIdeal.sig) → Buf (Elt Ideal) ℓ) : Prop :=
  ∀ c : Dev Cert.MixBIdeal.nD,
    (Cert.Pre_finite_heads_b.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4)) (m ((c.tc : Thread Cert.MixBIdeal.nD Cert.MixBIdeal.τ).loc Cert.MixBIdeal.main_arg5)) (m ((c.tc : Thread Cert.MixBIdeal.nD Cert.MixBIdeal.τ).loc Cert.MixBIdeal.main_arg6))) = (fun _ => 1#1)

def Pre_MixBRefIdeal (m : (ℓ : Loc Cert.MixBRefIdeal.nD Cert.MixBRefIdeal.τ Cert.MixBRefIdeal.sig) → Buf (Elt Ideal) ℓ) : Prop :=
  True

def Pre_MixBRefIdeal_finite_heads_b [hPre_finite_heads_b : Cert.Pre_finite_heads_b.Facts] (m : (ℓ : Loc Cert.MixBRefIdeal.nD Cert.MixBRefIdeal.τ Cert.MixBRefIdeal.sig) → Buf (Elt Ideal) ℓ) : Prop :=
  ∀ c : Dev Cert.MixBRefIdeal.nD,
    (Cert.Pre_finite_heads_b.fn (F := Ideal) (m ((c.tc : Thread Cert.MixBRefIdeal.nD Cert.MixBRefIdeal.τ).loc Cert.MixBRefIdeal.main_arg0)) (m ((c.tc : Thread Cert.MixBRefIdeal.nD Cert.MixBRefIdeal.τ).loc Cert.MixBRefIdeal.main_arg1)) (m ((c.tc : Thread Cert.MixBRefIdeal.nD Cert.MixBRefIdeal.τ).loc Cert.MixBRefIdeal.main_arg2)) (m ((c.tc : Thread Cert.MixBRefIdeal.nD Cert.MixBRefIdeal.τ).loc Cert.MixBRefIdeal.main_arg3)) (m ((c.tc : Thread Cert.MixBRefIdeal.nD Cert.MixBRefIdeal.τ).loc Cert.MixBRefIdeal.main_arg4)) (m ((c.tc : Thread Cert.MixBRefIdeal.nD Cert.MixBRefIdeal.τ).loc Cert.MixBRefIdeal.main_arg5)) (m ((c.tc : Thread Cert.MixBRefIdeal.nD Cert.MixBRefIdeal.τ).loc Cert.MixBRefIdeal.main_arg6))) = (fun _ => 1#1)

def Pre_MixA (m : (ℓ : Loc Cert.MixA.nD Cert.MixA.τ Cert.MixA.sig) → Buf (Elt Bits) ℓ) : Prop :=
  True

def Pre_MixAIdeal (m : (ℓ : Loc Cert.MixAIdeal.nD Cert.MixAIdeal.τ Cert.MixAIdeal.sig) → Buf (Elt Ideal) ℓ) : Prop :=
  True

def Pre_MixAIdeal_finite_heads_a [hPre_finite_heads_a : Cert.Pre_finite_heads_a.Facts] (m : (ℓ : Loc Cert.MixAIdeal.nD Cert.MixAIdeal.τ Cert.MixAIdeal.sig) → Buf (Elt Ideal) ℓ) : Prop :=
  ∀ c : Dev Cert.MixAIdeal.nD,
    (Cert.Pre_finite_heads_a.fn (F := Ideal) (m ((c.tc : Thread Cert.MixAIdeal.nD Cert.MixAIdeal.τ).loc Cert.MixAIdeal.main_arg0)) (m ((c.tc : Thread Cert.MixAIdeal.nD Cert.MixAIdeal.τ).loc Cert.MixAIdeal.main_arg1)) (m ((c.tc : Thread Cert.MixAIdeal.nD Cert.MixAIdeal.τ).loc Cert.MixAIdeal.main_arg2)) (m ((c.tc : Thread Cert.MixAIdeal.nD Cert.MixAIdeal.τ).loc Cert.MixAIdeal.main_arg3))) = (fun _ => 1#1)

def Pre_MixARefIdeal (m : (ℓ : Loc Cert.MixARefIdeal.nD Cert.MixARefIdeal.τ Cert.MixARefIdeal.sig) → Buf (Elt Ideal) ℓ) : Prop :=
  True

def Pre_MixARefIdeal_finite_heads_a [hPre_finite_heads_a : Cert.Pre_finite_heads_a.Facts] (m : (ℓ : Loc Cert.MixARefIdeal.nD Cert.MixARefIdeal.τ Cert.MixARefIdeal.sig) → Buf (Elt Ideal) ℓ) : Prop :=
  ∀ c : Dev Cert.MixARefIdeal.nD,
    (Cert.Pre_finite_heads_a.fn (F := Ideal) (m ((c.tc : Thread Cert.MixARefIdeal.nD Cert.MixARefIdeal.τ).loc Cert.MixARefIdeal.main_arg0)) (m ((c.tc : Thread Cert.MixARefIdeal.nD Cert.MixARefIdeal.τ).loc Cert.MixARefIdeal.main_arg1)) (m ((c.tc : Thread Cert.MixARefIdeal.nD Cert.MixARefIdeal.τ).loc Cert.MixARefIdeal.main_arg2)) (m ((c.tc : Thread Cert.MixARefIdeal.nD Cert.MixARefIdeal.τ).loc Cert.MixARefIdeal.main_arg3))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpIdeal_finite_gate_up [hPre_finite_gate_up : Cert.Pre_finite_gate_up.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_finite_gate_up.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2))) = (fun _ => 1#1)

def Pre_GateUpRefIdeal (m : (ℓ : Loc Cert.GateUpRefIdeal.nD Cert.GateUpRefIdeal.τ Cert.GateUpRefIdeal.sig) → Buf (Elt Ideal) ℓ) : Prop :=
  True

def Pre_GateUpRefIdeal_finite_gate_up [hPre_finite_gate_up : Cert.Pre_finite_gate_up.Facts] (m : (ℓ : Loc Cert.GateUpRefIdeal.nD Cert.GateUpRefIdeal.τ Cert.GateUpRefIdeal.sig) → Buf (Elt Ideal) ℓ) : Prop :=
  ∀ c : Dev Cert.GateUpRefIdeal.nD,
    (Cert.Pre_finite_gate_up.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2))) = (fun _ => 1#1)

def Pre_MixBFwd (m : (ℓ : Loc Cert.MixBFwd.nD Cert.MixBFwd.τ Cert.MixBFwd.sig) → Buf (Elt Bits) ℓ) : Prop :=
  True

def Pre_MixBFwdIdeal (m : (ℓ : Loc Cert.MixBFwdIdeal.nD Cert.MixBFwdIdeal.τ Cert.MixBFwdIdeal.sig) → Buf (Elt Ideal) ℓ) : Prop :=
  True

def Pre_MixBFwdIdeal_finite_mem [hPre_finite_mem : Cert.Pre_finite_mem.Facts] (m : (ℓ : Loc Cert.MixBFwdIdeal.nD Cert.MixBFwdIdeal.τ Cert.MixBFwdIdeal.sig) → Buf (Elt Ideal) ℓ) : Prop :=
  ∀ c : Dev Cert.MixBFwdIdeal.nD,
    (Cert.Pre_finite_mem.fn (F := Ideal) (m ((c.tc : Thread Cert.MixBFwdIdeal.nD Cert.MixBFwdIdeal.τ).loc Cert.MixBFwdIdeal.main_arg0)) (m ((c.tc : Thread Cert.MixBFwdIdeal.nD Cert.MixBFwdIdeal.τ).loc Cert.MixBFwdIdeal.main_arg1)) (m ((c.tc : Thread Cert.MixBFwdIdeal.nD Cert.MixBFwdIdeal.τ).loc Cert.MixBFwdIdeal.main_arg2)) (m ((c.tc : Thread Cert.MixBFwdIdeal.nD Cert.MixBFwdIdeal.τ).loc Cert.MixBFwdIdeal.main_arg3)) (m ((c.tc : Thread Cert.MixBFwdIdeal.nD Cert.MixBFwdIdeal.τ).loc Cert.MixBFwdIdeal.main_arg4)) (m ((c.tc : Thread Cert.MixBFwdIdeal.nD Cert.MixBFwdIdeal.τ).loc Cert.MixBFwdIdeal.main_arg5))) = (fun _ => 1#1)

def Pre_MixBFwdRefIdeal (m : (ℓ : Loc Cert.MixBFwdRefIdeal.nD Cert.MixBFwdRefIdeal.τ Cert.MixBFwdRefIdeal.sig) → Buf (Elt Ideal) ℓ) : Prop :=
  True

def Pre_MixBFwdRefIdeal_finite_mem [hPre_finite_mem : Cert.Pre_finite_mem.Facts] (m : (ℓ : Loc Cert.MixBFwdRefIdeal.nD Cert.MixBFwdRefIdeal.τ Cert.MixBFwdRefIdeal.sig) → Buf (Elt Ideal) ℓ) : Prop :=
  ∀ c : Dev Cert.MixBFwdRefIdeal.nD,
    (Cert.Pre_finite_mem.fn (F := Ideal) (m ((c.tc : Thread Cert.MixBFwdRefIdeal.nD Cert.MixBFwdRefIdeal.τ).loc Cert.MixBFwdRefIdeal.main_arg0)) (m ((c.tc : Thread Cert.MixBFwdRefIdeal.nD Cert.MixBFwdRefIdeal.τ).loc Cert.MixBFwdRefIdeal.main_arg1)) (m ((c.tc : Thread Cert.MixBFwdRefIdeal.nD Cert.MixBFwdRefIdeal.τ).loc Cert.MixBFwdRefIdeal.main_arg2)) (m ((c.tc : Thread Cert.MixBFwdRefIdeal.nD Cert.MixBFwdRefIdeal.τ).loc Cert.MixBFwdRefIdeal.main_arg3)) (m ((c.tc : Thread Cert.MixBFwdRefIdeal.nD Cert.MixBFwdRefIdeal.τ).loc Cert.MixBFwdRefIdeal.main_arg4)) (m ((c.tc : Thread Cert.MixBFwdRefIdeal.nD Cert.MixBFwdRefIdeal.τ).loc Cert.MixBFwdRefIdeal.main_arg5))) = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_MixAFwd (m : (ℓ : Loc Cert.MixAFwd.nD Cert.MixAFwd.τ Cert.MixAFwd.sig) → Buf (Elt Bits) ℓ) : Prop :=
  True

def Pre_MixAFwdIdeal (m : (ℓ : Loc Cert.MixAFwdIdeal.nD Cert.MixAFwdIdeal.τ Cert.MixAFwdIdeal.sig) → Buf (Elt Ideal) ℓ) : Prop :=
  True

def Pre_MixAFwdIdeal_finite_win [hPre_finite_win : Cert.Pre_finite_win.Facts] (m : (ℓ : Loc Cert.MixAFwdIdeal.nD Cert.MixAFwdIdeal.τ Cert.MixAFwdIdeal.sig) → Buf (Elt Ideal) ℓ) : Prop :=
  ∀ c : Dev Cert.MixAFwdIdeal.nD,
    (Cert.Pre_finite_win.fn (F := Ideal) (m ((c.tc : Thread Cert.MixAFwdIdeal.nD Cert.MixAFwdIdeal.τ).loc Cert.MixAFwdIdeal.main_arg0)) (m ((c.tc : Thread Cert.MixAFwdIdeal.nD Cert.MixAFwdIdeal.τ).loc Cert.MixAFwdIdeal.main_arg1)) (m ((c.tc : Thread Cert.MixAFwdIdeal.nD Cert.MixAFwdIdeal.τ).loc Cert.MixAFwdIdeal.main_arg2))) = (fun _ => 1#1)

def Pre_MixAFwdRefIdeal (m : (ℓ : Loc Cert.MixAFwdRefIdeal.nD Cert.MixAFwdRefIdeal.τ Cert.MixAFwdRefIdeal.sig) → Buf (Elt Ideal) ℓ) : Prop :=
  True

def Pre_MixAFwdRefIdeal_finite_win [hPre_finite_win : Cert.Pre_finite_win.Facts] (m : (ℓ : Loc Cert.MixAFwdRefIdeal.nD Cert.MixAFwdRefIdeal.τ Cert.MixAFwdRefIdeal.sig) → Buf (Elt Ideal) ℓ) : Prop :=
  ∀ c : Dev Cert.MixAFwdRefIdeal.nD,
    (Cert.Pre_finite_win.fn (F := Ideal) (m ((c.tc : Thread Cert.MixAFwdRefIdeal.nD Cert.MixAFwdRefIdeal.τ).loc Cert.MixAFwdRefIdeal.main_arg0)) (m ((c.tc : Thread Cert.MixAFwdRefIdeal.nD Cert.MixAFwdRefIdeal.τ).loc Cert.MixAFwdRefIdeal.main_arg1)) (m ((c.tc : Thread Cert.MixAFwdRefIdeal.nD Cert.MixAFwdRefIdeal.τ).loc Cert.MixAFwdRefIdeal.main_arg2))) = (fun _ => 1#1)

def Pre_BIn (m : (ℓ : Loc Cert.BIn.nD Cert.BIn.τ Cert.BIn.sig) → Buf (Elt Bits) ℓ) : Prop :=
  True

def Pre_BInIdeal (m : (ℓ : Loc Cert.BInIdeal.nD Cert.BInIdeal.τ Cert.BInIdeal.sig) → Buf (Elt Ideal) ℓ) : Prop :=
  True

def Pre_BInRefIdeal (m : (ℓ : Loc Cert.BInRefIdeal.nD Cert.BInRefIdeal.τ Cert.BInRefIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1)
      ∧ r.2.mem ((c.tc : Thread Cert.MemNorm.nD Cert.MemNorm.τ).loc Cert.MemNorm.main_arg2) = m ((c.tc : Thread Cert.MemNorm.nD Cert.MemNorm.τ).loc Cert.MemNorm.main_arg2))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1)
      ∧ r.2.mem ((c.tc : Thread Cert.MemNormIdeal.nD Cert.MemNormIdeal.τ).loc Cert.MemNormIdeal.main_arg2) = m ((c.tc : Thread Cert.MemNormIdeal.nD Cert.MemNormIdeal.τ).loc Cert.MemNormIdeal.main_arg2))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1)
      ∧ r.2.mem ((c.tc : Thread Cert.MemNormRefIdeal.nD Cert.MemNormRefIdeal.τ).loc Cert.MemNormRefIdeal.main_arg2) = m ((c.tc : Thread Cert.MemNormRefIdeal.nD Cert.MemNormRefIdeal.τ).loc Cert.MemNormRefIdeal.main_arg2))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3)
      ∧ r.2.mem ((c.tc : Thread Cert.Swiglu.nD Cert.Swiglu.τ).loc Cert.Swiglu.main_arg4) = m ((c.tc : Thread Cert.Swiglu.nD Cert.Swiglu.τ).loc Cert.Swiglu.main_arg4))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ r.2.sem = fun _ => 0)

def quiescent_SwigluIdeal_pre_finite_ffn [hSwigluIdeal : Cert.SwigluIdeal.Facts] [hPre_finite_ffn : Cert.Pre_finite_ffn.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_finite_ffn m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3)
      ∧ r.2.mem ((c.tc : Thread Cert.SwigluRefIdeal.nD Cert.SwigluRefIdeal.τ).loc Cert.SwigluRefIdeal.main_arg4) = m ((c.tc : Thread Cert.SwigluRefIdeal.nD Cert.SwigluRefIdeal.τ).loc Cert.SwigluRefIdeal.main_arg4))
      ∧ r.2.sem = fun _ => 0)

def quiescent_SwigluRefIdeal_pre_finite_ffn [hSwigluRefIdeal : Cert.SwigluRefIdeal.Facts] [hPre_finite_ffn : Cert.Pre_finite_ffn.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_finite_ffn m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3)
      ∧ r.2.mem ((c.tc : Thread Cert.SwigluRefIdeal.nD Cert.SwigluRefIdeal.τ).loc Cert.SwigluRefIdeal.main_arg4) = m ((c.tc : Thread Cert.SwigluRefIdeal.nD Cert.SwigluRefIdeal.τ).loc Cert.SwigluRefIdeal.main_arg4))
      ∧ r.2.sem = fun _ => 0)

def quiescent_GateUpDx [hGateUpDx : Cert.GateUpDx.Facts] : Prop :=
  ∀ (m : (ℓ : Loc Cert.GateUpDx.nD Cert.GateUpDx.τ Cert.GateUpDx.sig) → Buf (Elt Bits) ℓ) (g : Dev Cert.GateUpDx.nD → PrngReg), Pre_GateUpDx m →
    θ_run (Cert.GateUpDx.defs (F := Bits)) (onTc (τ := Cert.GateUpDx.τ) (Cert.GateUpDx.main (F := Bits))) ⟨m, fun _ => 0, g⟩ (fun r => (∀ c : Dev Cert.GateUpDx.nD,
      r.2.mem ((c.tc : Thread Cert.GateUpDx.nD Cert.GateUpDx.τ).loc Cert.GateUpDx.main_arg0) = m ((c.tc : Thread Cert.GateUpDx.nD Cert.GateUpDx.τ).loc Cert.GateUpDx.main_arg0)
      ∧ r.2.mem ((c.tc : Thread Cert.GateUpDx.nD Cert.GateUpDx.τ).loc Cert.GateUpDx.main_arg1) = m ((c.tc : Thread Cert.GateUpDx.nD Cert.GateUpDx.τ).loc Cert.GateUpDx.main_arg1)
      ∧ r.2.mem ((c.tc : Thread Cert.GateUpDx.nD Cert.GateUpDx.τ).loc Cert.GateUpDx.main_arg2) = m ((c.tc : Thread Cert.GateUpDx.nD Cert.GateUpDx.τ).loc Cert.GateUpDx.main_arg2)
      ∧ r.2.mem ((c.tc : Thread Cert.GateUpDx.nD Cert.GateUpDx.τ).loc Cert.GateUpDx.main_arg3) = m ((c.tc : Thread Cert.GateUpDx.nD Cert.GateUpDx.τ).loc Cert.GateUpDx.main_arg3)
      ∧ r.2.mem ((c.tc : Thread Cert.GateUpDx.nD Cert.GateUpDx.τ).loc Cert.GateUpDx.main_arg4) = m ((c.tc : Thread Cert.GateUpDx.nD Cert.GateUpDx.τ).loc Cert.GateUpDx.main_arg4))
      ∧ r.2.sem = fun _ => 0)

def quiescent_GateUpDxIdeal [hGateUpDxIdeal : Cert.GateUpDxIdeal.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg), Pre_GateUpDxIdeal m →
    θ_run (Cert.GateUpDxIdeal.defs (F := Ideal)) (onTc (τ := Cert.GateUpDxIdeal.τ) (Cert.GateUpDxIdeal.main (F := Ideal))) ⟨m, fun _ => 0, g⟩ (fun r => (∀ c : Dev Cert.GateUpDxIdeal.nD,
      r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
      ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1)
      ∧ r.2.mem ((c.tc : Thread Cert.GateUpDxIdeal.nD Cert.GateUpDxIdeal.τ).loc Cert.GateUpDxIdeal.main_arg2) = m ((c.tc : Thread Cert.GateUpDxIdeal.nD Cert.GateUpDxIdeal.τ).loc Cert.GateUpDxIdeal.main_arg2)
      ∧ r.2.mem ((c.tc : Thread Cert.GateUpDxIdeal.nD Cert.GateUpDxIdeal.τ).loc Cert.GateUpDxIdeal.main_arg3) = m ((c.tc : Thread Cert.GateUpDxIdeal.nD Cert.GateUpDxIdeal.τ).loc Cert.GateUpDxIdeal.main_arg3)
      ∧ r.2.mem ((c.tc : Thread Cert.GateUpDxIdeal.nD Cert.GateUpDxIdeal.τ).loc Cert.GateUpDxIdeal.main_arg4) = m ((c.tc : Thread Cert.GateUpDxIdeal.nD Cert.GateUpDxIdeal.τ).loc Cert.GateUpDxIdeal.main_arg4))
      ∧ r.2.sem = fun _ => 0)

def quiescent_GateUpDxRefIdeal [hGateUpDxRefIdeal : Cert.GateUpDxRefIdeal.Facts] : Prop :=
  ∀ (m : (ℓ : Loc Cert.GateUpDxRefIdeal.nD Cert.GateUpDxRefIdeal.τ Cert.GateUpDxRefIdeal.sig) → Buf (Elt Ideal) ℓ) (g : Dev Cert.GateUpDxRefIdeal.nD → PrngReg), Pre_GateUpDxRefIdeal m →
    θ_run (Cert.GateUpDxRefIdeal.defs (F := Ideal)) (onTc (τ := Cert.GateUpDxRefIdeal.τ) (Cert.GateUpDxRefIdeal.main (F := Ideal))) ⟨m, fun _ => 0, g⟩ (fun r => (∀ c : Dev Cert.GateUpDxRefIdeal.nD,
      r.2.mem ((c.tc : Thread Cert.GateUpDxRefIdeal.nD Cert.GateUpDxRefIdeal.τ).loc Cert.GateUpDxRefIdeal.main_arg0) = m ((c.tc : Thread Cert.GateUpDxRefIdeal.nD Cert.GateUpDxRefIdeal.τ).loc Cert.GateUpDxRefIdeal.main_arg0)
      ∧ r.2.mem ((c.tc : Thread Cert.GateUpDxRefIdeal.nD Cert.GateUpDxRefIdeal.τ).loc Cert.GateUpDxRefIdeal.main_arg1) = m ((c.tc : Thread Cert.GateUpDxRefIdeal.nD Cert.GateUpDxRefIdeal.τ).loc Cert.GateUpDxRefIdeal.main_arg1)
      ∧ r.2.mem ((c.tc : Thread Cert.GateUpDxRefIdeal.nD Cert.GateUpDxRefIdeal.τ).loc Cert.GateUpDxRefIdeal.main_arg2) = m ((c.tc : Thread Cert.GateUpDxRefIdeal.nD Cert.GateUpDxRefIdeal.τ).loc Cert.GateUpDxRefIdeal.main_arg2)
      ∧ r.2.mem ((c.tc : Thread Cert.GateUpDxRefIdeal.nD Cert.GateUpDxRefIdeal.τ).loc Cert.GateUpDxRefIdeal.main_arg3) = m ((c.tc : Thread Cert.GateUpDxRefIdeal.nD Cert.GateUpDxRefIdeal.τ).loc Cert.GateUpDxRefIdeal.main_arg3)
      ∧ r.2.mem ((c.tc : Thread Cert.GateUpDxRefIdeal.nD Cert.GateUpDxRefIdeal.τ).loc Cert.GateUpDxRefIdeal.main_arg4) = m ((c.tc : Thread Cert.GateUpDxRefIdeal.nD Cert.GateUpDxRefIdeal.τ).loc Cert.GateUpDxRefIdeal.main_arg4))
      ∧ r.2.sem = fun _ => 0)

def quiescent_AInDx [hAInDx : Cert.AInDx.Facts] : Prop :=
  ∀ (m : (ℓ : Loc Cert.AInDx.nD Cert.AInDx.τ Cert.AInDx.sig) → Buf (Elt Bits) ℓ) (g : Dev Cert.AInDx.nD → PrngReg), Pre_AInDx m →
    θ_run (Cert.AInDx.defs (F := Bits)) (onTc (τ := Cert.AInDx.τ) (Cert.AInDx.main (F := Bits))) ⟨m, fun _ => 0, g⟩ (fun r => (∀ c : Dev Cert.AInDx.nD,
      r.2.mem ((c.tc : Thread Cert.AInDx.nD Cert.AInDx.τ).loc Cert.AInDx.main_arg0) = m ((c.tc : Thread Cert.AInDx.nD Cert.AInDx.τ).loc Cert.AInDx.main_arg0)
      ∧ r.2.mem ((c.tc : Thread Cert.AInDx.nD Cert.AInDx.τ).loc Cert.AInDx.main_arg1) = m ((c.tc : Thread Cert.AInDx.nD Cert.AInDx.τ).loc Cert.AInDx.main_arg1)
      ∧ r.2.mem ((c.tc : Thread Cert.AInDx.nD Cert.AInDx.τ).loc Cert.AInDx.main_arg2) = m ((c.tc : Thread Cert.AInDx.nD Cert.AInDx.τ).loc Cert.AInDx.main_arg2)
      ∧ r.2.mem ((c.tc : Thread Cert.AInDx.nD Cert.AInDx.τ).loc Cert.AInDx.main_arg3) = m ((c.tc : Thread Cert.AInDx.nD Cert.AInDx.τ).loc Cert.AInDx.main_arg3)
      ∧ r.2.mem ((c.tc : Thread Cert.AInDx.nD Cert.AInDx.τ).loc Cert.AInDx.main_arg4) = m ((c.tc : Thread Cert.AInDx.nD Cert.AInDx.τ).loc Cert.AInDx.main_arg4))
      ∧ r.2.sem = fun _ => 0)

def quiescent_AInDxIdeal [hAInDxIdeal : Cert.AInDxIdeal.Facts] : Prop :=
  ∀ (m : (ℓ : Loc Cert.AInDxIdeal.nD Cert.AInDxIdeal.τ Cert.AInDxIdeal.sig) → Buf (Elt Ideal) ℓ) (g : Dev Cert.AInDxIdeal.nD → PrngReg), Pre_AInDxIdeal m →
    θ_run (Cert.AInDxIdeal.defs (F := Ideal)) (onTc (τ := Cert.AInDxIdeal.τ) (Cert.AInDxIdeal.main (F := Ideal))) ⟨m, fun _ => 0, g⟩ (fun r => (∀ c : Dev Cert.AInDxIdeal.nD,
      r.2.mem ((c.tc : Thread Cert.AInDxIdeal.nD Cert.AInDxIdeal.τ).loc Cert.AInDxIdeal.main_arg0) = m ((c.tc : Thread Cert.AInDxIdeal.nD Cert.AInDxIdeal.τ).loc Cert.AInDxIdeal.main_arg0)
      ∧ r.2.mem ((c.tc : Thread Cert.AInDxIdeal.nD Cert.AInDxIdeal.τ).loc Cert.AInDxIdeal.main_arg1) = m ((c.tc : Thread Cert.AInDxIdeal.nD Cert.AInDxIdeal.τ).loc Cert.AInDxIdeal.main_arg1)
      ∧ r.2.mem ((c.tc : Thread Cert.AInDxIdeal.nD Cert.AInDxIdeal.τ).loc Cert.AInDxIdeal.main_arg2) = m ((c.tc : Thread Cert.AInDxIdeal.nD Cert.AInDxIdeal.τ).loc Cert.AInDxIdeal.main_arg2)
      ∧ r.2.mem ((c.tc : Thread Cert.AInDxIdeal.nD Cert.AInDxIdeal.τ).loc Cert.AInDxIdeal.main_arg3) = m ((c.tc : Thread Cert.AInDxIdeal.nD Cert.AInDxIdeal.τ).loc Cert.AInDxIdeal.main_arg3)
      ∧ r.2.mem ((c.tc : Thread Cert.AInDxIdeal.nD Cert.AInDxIdeal.τ).loc Cert.AInDxIdeal.main_arg4) = m ((c.tc : Thread Cert.AInDxIdeal.nD Cert.AInDxIdeal.τ).loc Cert.AInDxIdeal.main_arg4))
      ∧ r.2.sem = fun _ => 0)

def quiescent_AInDxRefIdeal [hAInDxRefIdeal : Cert.AInDxRefIdeal.Facts] : Prop :=
  ∀ (m : (ℓ : Loc Cert.AInDxRefIdeal.nD Cert.AInDxRefIdeal.τ Cert.AInDxRefIdeal.sig) → Buf (Elt Ideal) ℓ) (g : Dev Cert.AInDxRefIdeal.nD → PrngReg), Pre_AInDxRefIdeal m →
    θ_run (Cert.AInDxRefIdeal.defs (F := Ideal)) (onTc (τ := Cert.AInDxRefIdeal.τ) (Cert.AInDxRefIdeal.main (F := Ideal))) ⟨m, fun _ => 0, g⟩ (fun r => (∀ c : Dev Cert.AInDxRefIdeal.nD,
      r.2.mem ((c.tc : Thread Cert.AInDxRefIdeal.nD Cert.AInDxRefIdeal.τ).loc Cert.AInDxRefIdeal.main_arg0) = m ((c.tc : Thread Cert.AInDxRefIdeal.nD Cert.AInDxRefIdeal.τ).loc Cert.AInDxRefIdeal.main_arg0)
      ∧ r.2.mem ((c.tc : Thread Cert.AInDxRefIdeal.nD Cert.AInDxRefIdeal.τ).loc Cert.AInDxRefIdeal.main_arg1) = m ((c.tc : Thread Cert.AInDxRefIdeal.nD Cert.AInDxRefIdeal.τ).loc Cert.AInDxRefIdeal.main_arg1)
      ∧ r.2.mem ((c.tc : Thread Cert.AInDxRefIdeal.nD Cert.AInDxRefIdeal.τ).loc Cert.AInDxRefIdeal.main_arg2) = m ((c.tc : Thread Cert.AInDxRefIdeal.nD Cert.AInDxRefIdeal.τ).loc Cert.AInDxRefIdeal.main_arg2)
      ∧ r.2.mem ((c.tc : Thread Cert.AInDxRefIdeal.nD Cert.AInDxRefIdeal.τ).loc Cert.AInDxRefIdeal.main_arg3) = m ((c.tc : Thread Cert.AInDxRefIdeal.nD Cert.AInDxRefIdeal.τ).loc Cert.AInDxRefIdeal.main_arg3)
      ∧ r.2.mem ((c.tc : Thread Cert.AInDxRefIdeal.nD Cert.AInDxRefIdeal.τ).loc Cert.AInDxRefIdeal.main_arg4) = m ((c.tc : Thread Cert.AInDxRefIdeal.nD Cert.AInDxRefIdeal.τ).loc Cert.AInDxRefIdeal.main_arg4))
      ∧ r.2.sem = fun _ => 0)

def quiescent_BInDx [hBInDx : Cert.BInDx.Facts] : Prop :=
  ∀ (m : (ℓ : Loc Cert.BInDx.nD Cert.BInDx.τ Cert.BInDx.sig) → Buf (Elt Bits) ℓ) (g : Dev Cert.BInDx.nD → PrngReg), Pre_BInDx m →
    θ_run (Cert.BInDx.defs (F := Bits)) (onTc (τ := Cert.BInDx.τ) (Cert.BInDx.main (F := Bits))) ⟨m, fun _ => 0, g⟩ (fun r => (∀ c : Dev Cert.BInDx.nD,
      r.2.mem ((c.tc : Thread Cert.BInDx.nD Cert.BInDx.τ).loc Cert.BInDx.main_arg0) = m ((c.tc : Thread Cert.BInDx.nD Cert.BInDx.τ).loc Cert.BInDx.main_arg0)
      ∧ r.2.mem ((c.tc : Thread Cert.BInDx.nD Cert.BInDx.τ).loc Cert.BInDx.main_arg1) = m ((c.tc : Thread Cert.BInDx.nD Cert.BInDx.τ).loc Cert.BInDx.main_arg1)
      ∧ r.2.mem ((c.tc : Thread Cert.BInDx.nD Cert.BInDx.τ).loc Cert.BInDx.main_arg2) = m ((c.tc : Thread Cert.BInDx.nD Cert.BInDx.τ).loc Cert.BInDx.main_arg2)
      ∧ r.2.mem ((c.tc : Thread Cert.BInDx.nD Cert.BInDx.τ).loc Cert.BInDx.main_arg3) = m ((c.tc : Thread Cert.BInDx.nD Cert.BInDx.τ).loc Cert.BInDx.main_arg3)
      ∧ r.2.mem ((c.tc : Thread Cert.BInDx.nD Cert.BInDx.τ).loc Cert.BInDx.main_arg4) = m ((c.tc : Thread Cert.BInDx.nD Cert.BInDx.τ).loc Cert.BInDx.main_arg4))
      ∧ r.2.sem = fun _ => 0)

def quiescent_BInDxIdeal [hBInDxIdeal : Cert.BInDxIdeal.Facts] : Prop :=
  ∀ (m : (ℓ : Loc Cert.BInDxIdeal.nD Cert.BInDxIdeal.τ Cert.BInDxIdeal.sig) → Buf (Elt Ideal) ℓ) (g : Dev Cert.BInDxIdeal.nD → PrngReg), Pre_BInDxIdeal m →
    θ_run (Cert.BInDxIdeal.defs (F := Ideal)) (onTc (τ := Cert.BInDxIdeal.τ) (Cert.BInDxIdeal.main (F := Ideal))) ⟨m, fun _ => 0, g⟩ (fun r => (∀ c : Dev Cert.BInDxIdeal.nD,
      r.2.mem ((c.tc : Thread Cert.BInDxIdeal.nD Cert.BInDxIdeal.τ).loc Cert.BInDxIdeal.main_arg0) = m ((c.tc : Thread Cert.BInDxIdeal.nD Cert.BInDxIdeal.τ).loc Cert.BInDxIdeal.main_arg0)
      ∧ r.2.mem ((c.tc : Thread Cert.BInDxIdeal.nD Cert.BInDxIdeal.τ).loc Cert.BInDxIdeal.main_arg1) = m ((c.tc : Thread Cert.BInDxIdeal.nD Cert.BInDxIdeal.τ).loc Cert.BInDxIdeal.main_arg1)
      ∧ r.2.mem ((c.tc : Thread Cert.BInDxIdeal.nD Cert.BInDxIdeal.τ).loc Cert.BInDxIdeal.main_arg2) = m ((c.tc : Thread Cert.BInDxIdeal.nD Cert.BInDxIdeal.τ).loc Cert.BInDxIdeal.main_arg2)
      ∧ r.2.mem ((c.tc : Thread Cert.BInDxIdeal.nD Cert.BInDxIdeal.τ).loc Cert.BInDxIdeal.main_arg3) = m ((c.tc : Thread Cert.BInDxIdeal.nD Cert.BInDxIdeal.τ).loc Cert.BInDxIdeal.main_arg3)
      ∧ r.2.mem ((c.tc : Thread Cert.BInDxIdeal.nD Cert.BInDxIdeal.τ).loc Cert.BInDxIdeal.main_arg4) = m ((c.tc : Thread Cert.BInDxIdeal.nD Cert.BInDxIdeal.τ).loc Cert.BInDxIdeal.main_arg4))
      ∧ r.2.sem = fun _ => 0)

def quiescent_BInDxRefIdeal [hBInDxRefIdeal : Cert.BInDxRefIdeal.Facts] : Prop :=
  ∀ (m : (ℓ : Loc Cert.BInDxRefIdeal.nD Cert.BInDxRefIdeal.τ Cert.BInDxRefIdeal.sig) → Buf (Elt Ideal) ℓ) (g : Dev Cert.BInDxRefIdeal.nD → PrngReg), Pre_BInDxRefIdeal m →
    θ_run (Cert.BInDxRefIdeal.defs (F := Ideal)) (onTc (τ := Cert.BInDxRefIdeal.τ) (Cert.BInDxRefIdeal.main (F := Ideal))) ⟨m, fun _ => 0, g⟩ (fun r => (∀ c : Dev Cert.BInDxRefIdeal.nD,
      r.2.mem ((c.tc : Thread Cert.BInDxRefIdeal.nD Cert.BInDxRefIdeal.τ).loc Cert.BInDxRefIdeal.main_arg0) = m ((c.tc : Thread Cert.BInDxRefIdeal.nD Cert.BInDxRefIdeal.τ).loc Cert.BInDxRefIdeal.main_arg0)
      ∧ r.2.mem ((c.tc : Thread Cert.BInDxRefIdeal.nD Cert.BInDxRefIdeal.τ).loc Cert.BInDxRefIdeal.main_arg1) = m ((c.tc : Thread Cert.BInDxRefIdeal.nD Cert.BInDxRefIdeal.τ).loc Cert.BInDxRefIdeal.main_arg1)
      ∧ r.2.mem ((c.tc : Thread Cert.BInDxRefIdeal.nD Cert.BInDxRefIdeal.τ).loc Cert.BInDxRefIdeal.main_arg2) = m ((c.tc : Thread Cert.BInDxRefIdeal.nD Cert.BInDxRefIdeal.τ).loc Cert.BInDxRefIdeal.main_arg2)
      ∧ r.2.mem ((c.tc : Thread Cert.BInDxRefIdeal.nD Cert.BInDxRefIdeal.τ).loc Cert.BInDxRefIdeal.main_arg3) = m ((c.tc : Thread Cert.BInDxRefIdeal.nD Cert.BInDxRefIdeal.τ).loc Cert.BInDxRefIdeal.main_arg3)
      ∧ r.2.mem ((c.tc : Thread Cert.BInDxRefIdeal.nD Cert.BInDxRefIdeal.τ).loc Cert.BInDxRefIdeal.main_arg4) = m ((c.tc : Thread Cert.BInDxRefIdeal.nD Cert.BInDxRefIdeal.τ).loc Cert.BInDxRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_MixB [hMixB : Cert.MixB.Facts] : Prop :=
  ∀ (m : (ℓ : Loc Cert.MixB.nD Cert.MixB.τ Cert.MixB.sig) → Buf (Elt Bits) ℓ) (g : Dev Cert.MixB.nD → PrngReg), Pre_MixB m →
    θ_run (Cert.MixB.defs (F := Bits)) (onTc (τ := Cert.MixB.τ) (Cert.MixB.main (F := Bits))) ⟨m, fun _ => 0, g⟩ (fun r => (∀ c : Dev Cert.MixB.nD,
      r.2.mem ((c.tc : Thread Cert.MixB.nD Cert.MixB.τ).loc Cert.MixB.main_arg0) = m ((c.tc : Thread Cert.MixB.nD Cert.MixB.τ).loc Cert.MixB.main_arg0)
      ∧ r.2.mem ((c.tc : Thread Cert.MixB.nD Cert.MixB.τ).loc Cert.MixB.main_arg1) = m ((c.tc : Thread Cert.MixB.nD Cert.MixB.τ).loc Cert.MixB.main_arg1)
      ∧ r.2.mem ((c.tc : Thread Cert.MixB.nD Cert.MixB.τ).loc Cert.MixB.main_arg2) = m ((c.tc : Thread Cert.MixB.nD Cert.MixB.τ).loc Cert.MixB.main_arg2)
      ∧ r.2.mem ((c.tc : Thread Cert.MixB.nD Cert.MixB.τ).loc Cert.MixB.main_arg3) = m ((c.tc : Thread Cert.MixB.nD Cert.MixB.τ).loc Cert.MixB.main_arg3)
      ∧ r.2.mem ((c.tc : Thread Cert.MixB.nD Cert.MixB.τ).loc Cert.MixB.main_arg4) = m ((c.tc : Thread Cert.MixB.nD Cert.MixB.τ).loc Cert.MixB.main_arg4)
      ∧ r.2.mem ((c.tc : Thread Cert.MixB.nD Cert.MixB.τ).loc Cert.MixB.main_arg5) = m ((c.tc : Thread Cert.MixB.nD Cert.MixB.τ).loc Cert.MixB.main_arg5)
      ∧ r.2.mem ((c.tc : Thread Cert.MixB.nD Cert.MixB.τ).loc Cert.MixB.main_arg6) = m ((c.tc : Thread Cert.MixB.nD Cert.MixB.τ).loc Cert.MixB.main_arg6))
      ∧ r.2.sem = fun _ => 0)

def quiescent_MixBIdeal [hMixBIdeal : Cert.MixBIdeal.Facts] : Prop :=
  ∀ (m : (ℓ : Loc Cert.MixBIdeal.nD Cert.MixBIdeal.τ Cert.MixBIdeal.sig) → Buf (Elt Ideal) ℓ) (g : Dev Cert.MixBIdeal.nD → PrngReg), Pre_MixBIdeal m →
    θ_run (Cert.MixBIdeal.defs (F := Ideal)) (onTc (τ := Cert.MixBIdeal.τ) (Cert.MixBIdeal.main (F := Ideal))) ⟨m, fun _ => 0, g⟩ (fun r => (∀ c : Dev Cert.MixBIdeal.nD,
      r.2.mem ((c.tc : Thread Cert.MixBIdeal.nD Cert.MixBIdeal.τ).loc Cert.MixBIdeal.main_arg0) = m ((c.tc : Thread Cert.MixBIdeal.nD Cert.MixBIdeal.τ).loc Cert.MixBIdeal.main_arg0)
      ∧ r.2.mem ((c.tc : Thread Cert.MixBIdeal.nD Cert.MixBIdeal.τ).loc Cert.MixBIdeal.main_arg1) = m ((c.tc : Thread Cert.MixBIdeal.nD Cert.MixBIdeal.τ).loc Cert.MixBIdeal.main_arg1)
      ∧ r.2.mem ((c.tc : Thread Cert.MixBIdeal.nD Cert.MixBIdeal.τ).loc Cert.MixBIdeal.main_arg2) = m ((c.tc : Thread Cert.MixBIdeal.nD Cert.MixBIdeal.τ).loc Cert.MixBIdeal.main_arg2)
      ∧ r.2.mem ((c.tc : Thread Cert.MixBIdeal.nD Cert.MixBIdeal.τ).loc Cert.MixBIdeal.main_arg3) = m ((c.tc : Thread Cert.MixBIdeal.nD Cert.MixBIdeal.τ).loc Cert.MixBIdeal.main_arg3)
      ∧ r.2.mem ((c.tc : Thread Cert.MixBIdeal.nD Cert.MixBIdeal.τ).loc Cert.MixBIdeal.main_arg4) = m ((c.tc : Thread Cert.MixBIdeal.nD Cert.MixBIdeal.τ).loc Cert.MixBIdeal.main_arg4)
      ∧ r.2.mem ((c.tc : Thread Cert.MixBIdeal.nD Cert.MixBIdeal.τ).loc Cert.MixBIdeal.main_arg5) = m ((c.tc : Thread Cert.MixBIdeal.nD Cert.MixBIdeal.τ).loc Cert.MixBIdeal.main_arg5)
      ∧ r.2.mem ((c.tc : Thread Cert.MixBIdeal.nD Cert.MixBIdeal.τ).loc Cert.MixBIdeal.main_arg6) = m ((c.tc : Thread Cert.MixBIdeal.nD Cert.MixBIdeal.τ).loc Cert.MixBIdeal.main_arg6))
      ∧ r.2.sem = fun _ => 0)

def quiescent_MixBIdeal_pre_finite_heads_b [hMixBIdeal : Cert.MixBIdeal.Facts] [hPre_finite_heads_b : Cert.Pre_finite_heads_b.Facts] : Prop :=
  ∀ (m : (ℓ : Loc Cert.MixBIdeal.nD Cert.MixBIdeal.τ Cert.MixBIdeal.sig) → Buf (Elt Ideal) ℓ) (g : Dev Cert.MixBIdeal.nD → PrngReg), Pre_MixBIdeal_finite_heads_b m →
    θ_run (Cert.MixBIdeal.defs (F := Ideal)) (onTc (τ := Cert.MixBIdeal.τ) (Cert.MixBIdeal.main (F := Ideal))) ⟨m, fun _ => 0, g⟩ (fun r => (∀ c : Dev Cert.MixBIdeal.nD,
      r.2.mem ((c.tc : Thread Cert.MixBIdeal.nD Cert.MixBIdeal.τ).loc Cert.MixBIdeal.main_arg0) = m ((c.tc : Thread Cert.MixBIdeal.nD Cert.MixBIdeal.τ).loc Cert.MixBIdeal.main_arg0)
      ∧ r.2.mem ((c.tc : Thread Cert.MixBIdeal.nD Cert.MixBIdeal.τ).loc Cert.MixBIdeal.main_arg1) = m ((c.tc : Thread Cert.MixBIdeal.nD Cert.MixBIdeal.τ).loc Cert.MixBIdeal.main_arg1)
      ∧ r.2.mem ((c.tc : Thread Cert.MixBIdeal.nD Cert.MixBIdeal.τ).loc Cert.MixBIdeal.main_arg2) = m ((c.tc : Thread Cert.MixBIdeal.nD Cert.MixBIdeal.τ).loc Cert.MixBIdeal.main_arg2)
      ∧ r.2.mem ((c.tc : Thread Cert.MixBIdeal.nD Cert.MixBIdeal.τ).loc Cert.MixBIdeal.main_arg3) = m ((c.tc : Thread Cert.MixBIdeal.nD Cert.MixBIdeal.τ).loc Cert.MixBIdeal.main_arg3)
      ∧ r.2.mem ((c.tc : Thread Cert.MixBIdeal.nD Cert.MixBIdeal.τ).loc Cert.MixBIdeal.main_arg4) = m ((c.tc : Thread Cert.MixBIdeal.nD Cert.MixBIdeal.τ).loc Cert.MixBIdeal.main_arg4)
      ∧ r.2.mem ((c.tc : Thread Cert.MixBIdeal.nD Cert.MixBIdeal.τ).loc Cert.MixBIdeal.main_arg5) = m ((c.tc : Thread Cert.MixBIdeal.nD Cert.MixBIdeal.τ).loc Cert.MixBIdeal.main_arg5)
      ∧ r.2.mem ((c.tc : Thread Cert.MixBIdeal.nD Cert.MixBIdeal.τ).loc Cert.MixBIdeal.main_arg6) = m ((c.tc : Thread Cert.MixBIdeal.nD Cert.MixBIdeal.τ).loc Cert.MixBIdeal.main_arg6))
      ∧ r.2.sem = fun _ => 0)

def quiescent_MixBRefIdeal [hMixBRefIdeal : Cert.MixBRefIdeal.Facts] : Prop :=
  ∀ (m : (ℓ : Loc Cert.MixBRefIdeal.nD Cert.MixBRefIdeal.τ Cert.MixBRefIdeal.sig) → Buf (Elt Ideal) ℓ) (g : Dev Cert.MixBRefIdeal.nD → PrngReg), Pre_MixBRefIdeal m →
    θ_run (Cert.MixBRefIdeal.defs (F := Ideal)) (onTc (τ := Cert.MixBRefIdeal.τ) (Cert.MixBRefIdeal.main (F := Ideal))) ⟨m, fun _ => 0, g⟩ (fun r => (∀ c : Dev Cert.MixBRefIdeal.nD,
      r.2.mem ((c.tc : Thread Cert.MixBRefIdeal.nD Cert.MixBRefIdeal.τ).loc Cert.MixBRefIdeal.main_arg0) = m ((c.tc : Thread Cert.MixBRefIdeal.nD Cert.MixBRefIdeal.τ).loc Cert.MixBRefIdeal.main_arg0)
      ∧ r.2.mem ((c.tc : Thread Cert.MixBRefIdeal.nD Cert.MixBRefIdeal.τ).loc Cert.MixBRefIdeal.main_arg1) = m ((c.tc : Thread Cert.MixBRefIdeal.nD Cert.MixBRefIdeal.τ).loc Cert.MixBRefIdeal.main_arg1)
      ∧ r.2.mem ((c.tc : Thread Cert.MixBRefIdeal.nD Cert.MixBRefIdeal.τ).loc Cert.MixBRefIdeal.main_arg2) = m ((c.tc : Thread Cert.MixBRefIdeal.nD Cert.MixBRefIdeal.τ).loc Cert.MixBRefIdeal.main_arg2)
      ∧ r.2.mem ((c.tc : Thread Cert.MixBRefIdeal.nD Cert.MixBRefIdeal.τ).loc Cert.MixBRefIdeal.main_arg3) = m ((c.tc : Thread Cert.MixBRefIdeal.nD Cert.MixBRefIdeal.τ).loc Cert.MixBRefIdeal.main_arg3)
      ∧ r.2.mem ((c.tc : Thread Cert.MixBRefIdeal.nD Cert.MixBRefIdeal.τ).loc Cert.MixBRefIdeal.main_arg4) = m ((c.tc : Thread Cert.MixBRefIdeal.nD Cert.MixBRefIdeal.τ).loc Cert.MixBRefIdeal.main_arg4)
      ∧ r.2.mem ((c.tc : Thread Cert.MixBRefIdeal.nD Cert.MixBRefIdeal.τ).loc Cert.MixBRefIdeal.main_arg5) = m ((c.tc : Thread Cert.MixBRefIdeal.nD Cert.MixBRefIdeal.τ).loc Cert.MixBRefIdeal.main_arg5)
      ∧ r.2.mem ((c.tc : Thread Cert.MixBRefIdeal.nD Cert.MixBRefIdeal.τ).loc Cert.MixBRefIdeal.main_arg6) = m ((c.tc : Thread Cert.MixBRefIdeal.nD Cert.MixBRefIdeal.τ).loc Cert.MixBRefIdeal.main_arg6))
      ∧ r.2.sem = fun _ => 0)

def quiescent_MixBRefIdeal_pre_finite_heads_b [hMixBRefIdeal : Cert.MixBRefIdeal.Facts] [hPre_finite_heads_b : Cert.Pre_finite_heads_b.Facts] : Prop :=
  ∀ (m : (ℓ : Loc Cert.MixBRefIdeal.nD Cert.MixBRefIdeal.τ Cert.MixBRefIdeal.sig) → Buf (Elt Ideal) ℓ) (g : Dev Cert.MixBRefIdeal.nD → PrngReg), Pre_MixBRefIdeal_finite_heads_b m →
    θ_run (Cert.MixBRefIdeal.defs (F := Ideal)) (onTc (τ := Cert.MixBRefIdeal.τ) (Cert.MixBRefIdeal.main (F := Ideal))) ⟨m, fun _ => 0, g⟩ (fun r => (∀ c : Dev Cert.MixBRefIdeal.nD,
      r.2.mem ((c.tc : Thread Cert.MixBRefIdeal.nD Cert.MixBRefIdeal.τ).loc Cert.MixBRefIdeal.main_arg0) = m ((c.tc : Thread Cert.MixBRefIdeal.nD Cert.MixBRefIdeal.τ).loc Cert.MixBRefIdeal.main_arg0)
      ∧ r.2.mem ((c.tc : Thread Cert.MixBRefIdeal.nD Cert.MixBRefIdeal.τ).loc Cert.MixBRefIdeal.main_arg1) = m ((c.tc : Thread Cert.MixBRefIdeal.nD Cert.MixBRefIdeal.τ).loc Cert.MixBRefIdeal.main_arg1)
      ∧ r.2.mem ((c.tc : Thread Cert.MixBRefIdeal.nD Cert.MixBRefIdeal.τ).loc Cert.MixBRefIdeal.main_arg2) = m ((c.tc : Thread Cert.MixBRefIdeal.nD Cert.MixBRefIdeal.τ).loc Cert.MixBRefIdeal.main_arg2)
      ∧ r.2.mem ((c.tc : Thread Cert.MixBRefIdeal.nD Cert.MixBRefIdeal.τ).loc Cert.MixBRefIdeal.main_arg3) = m ((c.tc : Thread Cert.MixBRefIdeal.nD Cert.MixBRefIdeal.τ).loc Cert.MixBRefIdeal.main_arg3)
      ∧ r.2.mem ((c.tc : Thread Cert.MixBRefIdeal.nD Cert.MixBRefIdeal.τ).loc Cert.MixBRefIdeal.main_arg4) = m ((c.tc : Thread Cert.MixBRefIdeal.nD Cert.MixBRefIdeal.τ).loc Cert.MixBRefIdeal.main_arg4)
      ∧ r.2.mem ((c.tc : Thread Cert.MixBRefIdeal.nD Cert.MixBRefIdeal.τ).loc Cert.MixBRefIdeal.main_arg5) = m ((c.tc : Thread Cert.MixBRefIdeal.nD Cert.MixBRefIdeal.τ).loc Cert.MixBRefIdeal.main_arg5)
      ∧ r.2.mem ((c.tc : Thread Cert.MixBRefIdeal.nD Cert.MixBRefIdeal.τ).loc Cert.MixBRefIdeal.main_arg6) = m ((c.tc : Thread Cert.MixBRefIdeal.nD Cert.MixBRefIdeal.τ).loc Cert.MixBRefIdeal.main_arg6))
      ∧ r.2.sem = fun _ => 0)

def quiescent_MixA [hMixA : Cert.MixA.Facts] : Prop :=
  ∀ (m : (ℓ : Loc Cert.MixA.nD Cert.MixA.τ Cert.MixA.sig) → Buf (Elt Bits) ℓ) (g : Dev Cert.MixA.nD → PrngReg), Pre_MixA m →
    θ_run (Cert.MixA.defs (F := Bits)) (onTc (τ := Cert.MixA.τ) (Cert.MixA.main (F := Bits))) ⟨m, fun _ => 0, g⟩ (fun r => (∀ c : Dev Cert.MixA.nD,
      r.2.mem ((c.tc : Thread Cert.MixA.nD Cert.MixA.τ).loc Cert.MixA.main_arg0) = m ((c.tc : Thread Cert.MixA.nD Cert.MixA.τ).loc Cert.MixA.main_arg0)
      ∧ r.2.mem ((c.tc : Thread Cert.MixA.nD Cert.MixA.τ).loc Cert.MixA.main_arg1) = m ((c.tc : Thread Cert.MixA.nD Cert.MixA.τ).loc Cert.MixA.main_arg1)
      ∧ r.2.mem ((c.tc : Thread Cert.MixA.nD Cert.MixA.τ).loc Cert.MixA.main_arg2) = m ((c.tc : Thread Cert.MixA.nD Cert.MixA.τ).loc Cert.MixA.main_arg2)
      ∧ r.2.mem ((c.tc : Thread Cert.MixA.nD Cert.MixA.τ).loc Cert.MixA.main_arg3) = m ((c.tc : Thread Cert.MixA.nD Cert.MixA.τ).loc Cert.MixA.main_arg3))
      ∧ r.2.sem = fun _ => 0)

def quiescent_MixAIdeal [hMixAIdeal : Cert.MixAIdeal.Facts] : Prop :=
  ∀ (m : (ℓ : Loc Cert.MixAIdeal.nD Cert.MixAIdeal.τ Cert.MixAIdeal.sig) → Buf (Elt Ideal) ℓ) (g : Dev Cert.MixAIdeal.nD → PrngReg), Pre_MixAIdeal m →
    θ_run (Cert.MixAIdeal.defs (F := Ideal)) (onTc (τ := Cert.MixAIdeal.τ) (Cert.MixAIdeal.main (F := Ideal))) ⟨m, fun _ => 0, g⟩ (fun r => (∀ c : Dev Cert.MixAIdeal.nD,
      r.2.mem ((c.tc : Thread Cert.MixAIdeal.nD Cert.MixAIdeal.τ).loc Cert.MixAIdeal.main_arg0) = m ((c.tc : Thread Cert.MixAIdeal.nD Cert.MixAIdeal.τ).loc Cert.MixAIdeal.main_arg0)
      ∧ r.2.mem ((c.tc : Thread Cert.MixAIdeal.nD Cert.MixAIdeal.τ).loc Cert.MixAIdeal.main_arg1) = m ((c.tc : Thread Cert.MixAIdeal.nD Cert.MixAIdeal.τ).loc Cert.MixAIdeal.main_arg1)
      ∧ r.2.mem ((c.tc : Thread Cert.MixAIdeal.nD Cert.MixAIdeal.τ).loc Cert.MixAIdeal.main_arg2) = m ((c.tc : Thread Cert.MixAIdeal.nD Cert.MixAIdeal.τ).loc Cert.MixAIdeal.main_arg2)
      ∧ r.2.mem ((c.tc : Thread Cert.MixAIdeal.nD Cert.MixAIdeal.τ).loc Cert.MixAIdeal.main_arg3) = m ((c.tc : Thread Cert.MixAIdeal.nD Cert.MixAIdeal.τ).loc Cert.MixAIdeal.main_arg3))
      ∧ r.2.sem = fun _ => 0)

def quiescent_MixAIdeal_pre_finite_heads_a [hMixAIdeal : Cert.MixAIdeal.Facts] [hPre_finite_heads_a : Cert.Pre_finite_heads_a.Facts] : Prop :=
  ∀ (m : (ℓ : Loc Cert.MixAIdeal.nD Cert.MixAIdeal.τ Cert.MixAIdeal.sig) → Buf (Elt Ideal) ℓ) (g : Dev Cert.MixAIdeal.nD → PrngReg), Pre_MixAIdeal_finite_heads_a m →
    θ_run (Cert.MixAIdeal.defs (F := Ideal)) (onTc (τ := Cert.MixAIdeal.τ) (Cert.MixAIdeal.main (F := Ideal))) ⟨m, fun _ => 0, g⟩ (fun r => (∀ c : Dev Cert.MixAIdeal.nD,
      r.2.mem ((c.tc : Thread Cert.MixAIdeal.nD Cert.MixAIdeal.τ).loc Cert.MixAIdeal.main_arg0) = m ((c.tc : Thread Cert.MixAIdeal.nD Cert.MixAIdeal.τ).loc Cert.MixAIdeal.main_arg0)
      ∧ r.2.mem ((c.tc : Thread Cert.MixAIdeal.nD Cert.MixAIdeal.τ).loc Cert.MixAIdeal.main_arg1) = m ((c.tc : Thread Cert.MixAIdeal.nD Cert.MixAIdeal.τ).loc Cert.MixAIdeal.main_arg1)
      ∧ r.2.mem ((c.tc : Thread Cert.MixAIdeal.nD Cert.MixAIdeal.τ).loc Cert.MixAIdeal.main_arg2) = m ((c.tc : Thread Cert.MixAIdeal.nD Cert.MixAIdeal.τ).loc Cert.MixAIdeal.main_arg2)
      ∧ r.2.mem ((c.tc : Thread Cert.MixAIdeal.nD Cert.MixAIdeal.τ).loc Cert.MixAIdeal.main_arg3) = m ((c.tc : Thread Cert.MixAIdeal.nD Cert.MixAIdeal.τ).loc Cert.MixAIdeal.main_arg3))
      ∧ r.2.sem = fun _ => 0)

def quiescent_MixARefIdeal [hMixARefIdeal : Cert.MixARefIdeal.Facts] : Prop :=
  ∀ (m : (ℓ : Loc Cert.MixARefIdeal.nD Cert.MixARefIdeal.τ Cert.MixARefIdeal.sig) → Buf (Elt Ideal) ℓ) (g : Dev Cert.MixARefIdeal.nD → PrngReg), Pre_MixARefIdeal m →
    θ_run (Cert.MixARefIdeal.defs (F := Ideal)) (onTc (τ := Cert.MixARefIdeal.τ) (Cert.MixARefIdeal.main (F := Ideal))) ⟨m, fun _ => 0, g⟩ (fun r => (∀ c : Dev Cert.MixARefIdeal.nD,
      r.2.mem ((c.tc : Thread Cert.MixARefIdeal.nD Cert.MixARefIdeal.τ).loc Cert.MixARefIdeal.main_arg0) = m ((c.tc : Thread Cert.MixARefIdeal.nD Cert.MixARefIdeal.τ).loc Cert.MixARefIdeal.main_arg0)
      ∧ r.2.mem ((c.tc : Thread Cert.MixARefIdeal.nD Cert.MixARefIdeal.τ).loc Cert.MixARefIdeal.main_arg1) = m ((c.tc : Thread Cert.MixARefIdeal.nD Cert.MixARefIdeal.τ).loc Cert.MixARefIdeal.main_arg1)
      ∧ r.2.mem ((c.tc : Thread Cert.MixARefIdeal.nD Cert.MixARefIdeal.τ).loc Cert.MixARefIdeal.main_arg2) = m ((c.tc : Thread Cert.MixARefIdeal.nD Cert.MixARefIdeal.τ).loc Cert.MixARefIdeal.main_arg2)
      ∧ r.2.mem ((c.tc : Thread Cert.MixARefIdeal.nD Cert.MixARefIdeal.τ).loc Cert.MixARefIdeal.main_arg3) = m ((c.tc : Thread Cert.MixARefIdeal.nD Cert.MixARefIdeal.τ).loc Cert.MixARefIdeal.main_arg3))
      ∧ r.2.sem = fun _ => 0)

def quiescent_MixARefIdeal_pre_finite_heads_a [hMixARefIdeal : Cert.MixARefIdeal.Facts] [hPre_finite_heads_a : Cert.Pre_finite_heads_a.Facts] : Prop :=
  ∀ (m : (ℓ : Loc Cert.MixARefIdeal.nD Cert.MixARefIdeal.τ Cert.MixARefIdeal.sig) → Buf (Elt Ideal) ℓ) (g : Dev Cert.MixARefIdeal.nD → PrngReg), Pre_MixARefIdeal_finite_heads_a m →
    θ_run (Cert.MixARefIdeal.defs (F := Ideal)) (onTc (τ := Cert.MixARefIdeal.τ) (Cert.MixARefIdeal.main (F := Ideal))) ⟨m, fun _ => 0, g⟩ (fun r => (∀ c : Dev Cert.MixARefIdeal.nD,
      r.2.mem ((c.tc : Thread Cert.MixARefIdeal.nD Cert.MixARefIdeal.τ).loc Cert.MixARefIdeal.main_arg0) = m ((c.tc : Thread Cert.MixARefIdeal.nD Cert.MixARefIdeal.τ).loc Cert.MixARefIdeal.main_arg0)
      ∧ r.2.mem ((c.tc : Thread Cert.MixARefIdeal.nD Cert.MixARefIdeal.τ).loc Cert.MixARefIdeal.main_arg1) = m ((c.tc : Thread Cert.MixARefIdeal.nD Cert.MixARefIdeal.τ).loc Cert.MixARefIdeal.main_arg1)
      ∧ r.2.mem ((c.tc : Thread Cert.MixARefIdeal.nD Cert.MixARefIdeal.τ).loc Cert.MixARefIdeal.main_arg2) = m ((c.tc : Thread Cert.MixARefIdeal.nD Cert.MixARefIdeal.τ).loc Cert.MixARefIdeal.main_arg2)
      ∧ r.2.mem ((c.tc : Thread Cert.MixARefIdeal.nD Cert.MixARefIdeal.τ).loc Cert.MixARefIdeal.main_arg3) = m ((c.tc : Thread Cert.MixARefIdeal.nD Cert.MixARefIdeal.τ).loc Cert.MixARefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpIdeal_pre_finite_gate_up [hGateUpIdeal : Cert.GateUpIdeal.Facts] [hPre_finite_gate_up : Cert.Pre_finite_gate_up.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal_finite_gate_up m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_GateUpRefIdeal_pre_finite_gate_up [hGateUpRefIdeal : Cert.GateUpRefIdeal.Facts] [hPre_finite_gate_up : Cert.Pre_finite_gate_up.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal_finite_gate_up m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_MixBFwd [hMixBFwd : Cert.MixBFwd.Facts] : Prop :=
  ∀ (m : (ℓ : Loc Cert.MixBFwd.nD Cert.MixBFwd.τ Cert.MixBFwd.sig) → Buf (Elt Bits) ℓ) (g : Dev Cert.MixBFwd.nD → PrngReg), Pre_MixBFwd m →
    θ_run (Cert.MixBFwd.defs (F := Bits)) (onTc (τ := Cert.MixBFwd.τ) (Cert.MixBFwd.main (F := Bits))) ⟨m, fun _ => 0, g⟩ (fun r => (∀ c : Dev Cert.MixBFwd.nD,
      r.2.mem ((c.tc : Thread Cert.MixBFwd.nD Cert.MixBFwd.τ).loc Cert.MixBFwd.main_arg0) = m ((c.tc : Thread Cert.MixBFwd.nD Cert.MixBFwd.τ).loc Cert.MixBFwd.main_arg0)
      ∧ r.2.mem ((c.tc : Thread Cert.MixBFwd.nD Cert.MixBFwd.τ).loc Cert.MixBFwd.main_arg1) = m ((c.tc : Thread Cert.MixBFwd.nD Cert.MixBFwd.τ).loc Cert.MixBFwd.main_arg1)
      ∧ r.2.mem ((c.tc : Thread Cert.MixBFwd.nD Cert.MixBFwd.τ).loc Cert.MixBFwd.main_arg2) = m ((c.tc : Thread Cert.MixBFwd.nD Cert.MixBFwd.τ).loc Cert.MixBFwd.main_arg2)
      ∧ r.2.mem ((c.tc : Thread Cert.MixBFwd.nD Cert.MixBFwd.τ).loc Cert.MixBFwd.main_arg3) = m ((c.tc : Thread Cert.MixBFwd.nD Cert.MixBFwd.τ).loc Cert.MixBFwd.main_arg3)
      ∧ r.2.mem ((c.tc : Thread Cert.MixBFwd.nD Cert.MixBFwd.τ).loc Cert.MixBFwd.main_arg4) = m ((c.tc : Thread Cert.MixBFwd.nD Cert.MixBFwd.τ).loc Cert.MixBFwd.main_arg4)
      ∧ r.2.mem ((c.tc : Thread Cert.MixBFwd.nD Cert.MixBFwd.τ).loc Cert.MixBFwd.main_arg5) = m ((c.tc : Thread Cert.MixBFwd.nD Cert.MixBFwd.τ).loc Cert.MixBFwd.main_arg5))
      ∧ r.2.sem = fun _ => 0)

def quiescent_MixBFwdIdeal [hMixBFwdIdeal : Cert.MixBFwdIdeal.Facts] : Prop :=
  ∀ (m : (ℓ : Loc Cert.MixBFwdIdeal.nD Cert.MixBFwdIdeal.τ Cert.MixBFwdIdeal.sig) → Buf (Elt Ideal) ℓ) (g : Dev Cert.MixBFwdIdeal.nD → PrngReg), Pre_MixBFwdIdeal m →
    θ_run (Cert.MixBFwdIdeal.defs (F := Ideal)) (onTc (τ := Cert.MixBFwdIdeal.τ) (Cert.MixBFwdIdeal.main (F := Ideal))) ⟨m, fun _ => 0, g⟩ (fun r => (∀ c : Dev Cert.MixBFwdIdeal.nD,
      r.2.mem ((c.tc : Thread Cert.MixBFwdIdeal.nD Cert.MixBFwdIdeal.τ).loc Cert.MixBFwdIdeal.main_arg0) = m ((c.tc : Thread Cert.MixBFwdIdeal.nD Cert.MixBFwdIdeal.τ).loc Cert.MixBFwdIdeal.main_arg0)
      ∧ r.2.mem ((c.tc : Thread Cert.MixBFwdIdeal.nD Cert.MixBFwdIdeal.τ).loc Cert.MixBFwdIdeal.main_arg1) = m ((c.tc : Thread Cert.MixBFwdIdeal.nD Cert.MixBFwdIdeal.τ).loc Cert.MixBFwdIdeal.main_arg1)
      ∧ r.2.mem ((c.tc : Thread Cert.MixBFwdIdeal.nD Cert.MixBFwdIdeal.τ).loc Cert.MixBFwdIdeal.main_arg2) = m ((c.tc : Thread Cert.MixBFwdIdeal.nD Cert.MixBFwdIdeal.τ).loc Cert.MixBFwdIdeal.main_arg2)
      ∧ r.2.mem ((c.tc : Thread Cert.MixBFwdIdeal.nD Cert.MixBFwdIdeal.τ).loc Cert.MixBFwdIdeal.main_arg3) = m ((c.tc : Thread Cert.MixBFwdIdeal.nD Cert.MixBFwdIdeal.τ).loc Cert.MixBFwdIdeal.main_arg3)
      ∧ r.2.mem ((c.tc : Thread Cert.MixBFwdIdeal.nD Cert.MixBFwdIdeal.τ).loc Cert.MixBFwdIdeal.main_arg4) = m ((c.tc : Thread Cert.MixBFwdIdeal.nD Cert.MixBFwdIdeal.τ).loc Cert.MixBFwdIdeal.main_arg4)
      ∧ r.2.mem ((c.tc : Thread Cert.MixBFwdIdeal.nD Cert.MixBFwdIdeal.τ).loc Cert.MixBFwdIdeal.main_arg5) = m ((c.tc : Thread Cert.MixBFwdIdeal.nD Cert.MixBFwdIdeal.τ).loc Cert.MixBFwdIdeal.main_arg5))
      ∧ r.2.sem = fun _ => 0)

def quiescent_MixBFwdIdeal_pre_finite_mem [hMixBFwdIdeal : Cert.MixBFwdIdeal.Facts] [hPre_finite_mem : Cert.Pre_finite_mem.Facts] : Prop :=
  ∀ (m : (ℓ : Loc Cert.MixBFwdIdeal.nD Cert.MixBFwdIdeal.τ Cert.MixBFwdIdeal.sig) → Buf (Elt Ideal) ℓ) (g : Dev Cert.MixBFwdIdeal.nD → PrngReg), Pre_MixBFwdIdeal_finite_mem m →
    θ_run (Cert.MixBFwdIdeal.defs (F := Ideal)) (onTc (τ := Cert.MixBFwdIdeal.τ) (Cert.MixBFwdIdeal.main (F := Ideal))) ⟨m, fun _ => 0, g⟩ (fun r => (∀ c : Dev Cert.MixBFwdIdeal.nD,
      r.2.mem ((c.tc : Thread Cert.MixBFwdIdeal.nD Cert.MixBFwdIdeal.τ).loc Cert.MixBFwdIdeal.main_arg0) = m ((c.tc : Thread Cert.MixBFwdIdeal.nD Cert.MixBFwdIdeal.τ).loc Cert.MixBFwdIdeal.main_arg0)
      ∧ r.2.mem ((c.tc : Thread Cert.MixBFwdIdeal.nD Cert.MixBFwdIdeal.τ).loc Cert.MixBFwdIdeal.main_arg1) = m ((c.tc : Thread Cert.MixBFwdIdeal.nD Cert.MixBFwdIdeal.τ).loc Cert.MixBFwdIdeal.main_arg1)
      ∧ r.2.mem ((c.tc : Thread Cert.MixBFwdIdeal.nD Cert.MixBFwdIdeal.τ).loc Cert.MixBFwdIdeal.main_arg2) = m ((c.tc : Thread Cert.MixBFwdIdeal.nD Cert.MixBFwdIdeal.τ).loc Cert.MixBFwdIdeal.main_arg2)
      ∧ r.2.mem ((c.tc : Thread Cert.MixBFwdIdeal.nD Cert.MixBFwdIdeal.τ).loc Cert.MixBFwdIdeal.main_arg3) = m ((c.tc : Thread Cert.MixBFwdIdeal.nD Cert.MixBFwdIdeal.τ).loc Cert.MixBFwdIdeal.main_arg3)
      ∧ r.2.mem ((c.tc : Thread Cert.MixBFwdIdeal.nD Cert.MixBFwdIdeal.τ).loc Cert.MixBFwdIdeal.main_arg4) = m ((c.tc : Thread Cert.MixBFwdIdeal.nD Cert.MixBFwdIdeal.τ).loc Cert.MixBFwdIdeal.main_arg4)
      ∧ r.2.mem ((c.tc : Thread Cert.MixBFwdIdeal.nD Cert.MixBFwdIdeal.τ).loc Cert.MixBFwdIdeal.main_arg5) = m ((c.tc : Thread Cert.MixBFwdIdeal.nD Cert.MixBFwdIdeal.τ).loc Cert.MixBFwdIdeal.main_arg5))
      ∧ r.2.sem = fun _ => 0)

def quiescent_MixBFwdRefIdeal [hMixBFwdRefIdeal : Cert.MixBFwdRefIdeal.Facts] : Prop :=
  ∀ (m : (ℓ : Loc Cert.MixBFwdRefIdeal.nD Cert.MixBFwdRefIdeal.τ Cert.MixBFwdRefIdeal.sig) → Buf (Elt Ideal) ℓ) (g : Dev Cert.MixBFwdRefIdeal.nD → PrngReg), Pre_MixBFwdRefIdeal m →
    θ_run (Cert.MixBFwdRefIdeal.defs (F := Ideal)) (onTc (τ := Cert.MixBFwdRefIdeal.τ) (Cert.MixBFwdRefIdeal.main (F := Ideal))) ⟨m, fun _ => 0, g⟩ (fun r => (∀ c : Dev Cert.MixBFwdRefIdeal.nD,
      r.2.mem ((c.tc : Thread Cert.MixBFwdRefIdeal.nD Cert.MixBFwdRefIdeal.τ).loc Cert.MixBFwdRefIdeal.main_arg0) = m ((c.tc : Thread Cert.MixBFwdRefIdeal.nD Cert.MixBFwdRefIdeal.τ).loc Cert.MixBFwdRefIdeal.main_arg0)
      ∧ r.2.mem ((c.tc : Thread Cert.MixBFwdRefIdeal.nD Cert.MixBFwdRefIdeal.τ).loc Cert.MixBFwdRefIdeal.main_arg1) = m ((c.tc : Thread Cert.MixBFwdRefIdeal.nD Cert.MixBFwdRefIdeal.τ).loc Cert.MixBFwdRefIdeal.main_arg1)
      ∧ r.2.mem ((c.tc : Thread Cert.MixBFwdRefIdeal.nD Cert.MixBFwdRefIdeal.τ).loc Cert.MixBFwdRefIdeal.main_arg2) = m ((c.tc : Thread Cert.MixBFwdRefIdeal.nD Cert.MixBFwdRefIdeal.τ).loc Cert.MixBFwdRefIdeal.main_arg2)
      ∧ r.2.mem ((c.tc : Thread Cert.MixBFwdRefIdeal.nD Cert.MixBFwdRefIdeal.τ).loc Cert.MixBFwdRefIdeal.main_arg3) = m ((c.tc : Thread Cert.MixBFwdRefIdeal.nD Cert.MixBFwdRefIdeal.τ).loc Cert.MixBFwdRefIdeal.main_arg3)
      ∧ r.2.mem ((c.tc : Thread Cert.MixBFwdRefIdeal.nD Cert.MixBFwdRefIdeal.τ).loc Cert.MixBFwdRefIdeal.main_arg4) = m ((c.tc : Thread Cert.MixBFwdRefIdeal.nD Cert.MixBFwdRefIdeal.τ).loc Cert.MixBFwdRefIdeal.main_arg4)
      ∧ r.2.mem ((c.tc : Thread Cert.MixBFwdRefIdeal.nD Cert.MixBFwdRefIdeal.τ).loc Cert.MixBFwdRefIdeal.main_arg5) = m ((c.tc : Thread Cert.MixBFwdRefIdeal.nD Cert.MixBFwdRefIdeal.τ).loc Cert.MixBFwdRefIdeal.main_arg5))
      ∧ r.2.sem = fun _ => 0)

def quiescent_MixBFwdRefIdeal_pre_finite_mem [hMixBFwdRefIdeal : Cert.MixBFwdRefIdeal.Facts] [hPre_finite_mem : Cert.Pre_finite_mem.Facts] : Prop :=
  ∀ (m : (ℓ : Loc Cert.MixBFwdRefIdeal.nD Cert.MixBFwdRefIdeal.τ Cert.MixBFwdRefIdeal.sig) → Buf (Elt Ideal) ℓ) (g : Dev Cert.MixBFwdRefIdeal.nD → PrngReg), Pre_MixBFwdRefIdeal_finite_mem m →
    θ_run (Cert.MixBFwdRefIdeal.defs (F := Ideal)) (onTc (τ := Cert.MixBFwdRefIdeal.τ) (Cert.MixBFwdRefIdeal.main (F := Ideal))) ⟨m, fun _ => 0, g⟩ (fun r => (∀ c : Dev Cert.MixBFwdRefIdeal.nD,
      r.2.mem ((c.tc : Thread Cert.MixBFwdRefIdeal.nD Cert.MixBFwdRefIdeal.τ).loc Cert.MixBFwdRefIdeal.main_arg0) = m ((c.tc : Thread Cert.MixBFwdRefIdeal.nD Cert.MixBFwdRefIdeal.τ).loc Cert.MixBFwdRefIdeal.main_arg0)
      ∧ r.2.mem ((c.tc : Thread Cert.MixBFwdRefIdeal.nD Cert.MixBFwdRefIdeal.τ).loc Cert.MixBFwdRefIdeal.main_arg1) = m ((c.tc : Thread Cert.MixBFwdRefIdeal.nD Cert.MixBFwdRefIdeal.τ).loc Cert.MixBFwdRefIdeal.main_arg1)
      ∧ r.2.mem ((c.tc : Thread Cert.MixBFwdRefIdeal.nD Cert.MixBFwdRefIdeal.τ).loc Cert.MixBFwdRefIdeal.main_arg2) = m ((c.tc : Thread Cert.MixBFwdRefIdeal.nD Cert.MixBFwdRefIdeal.τ).loc Cert.MixBFwdRefIdeal.main_arg2)
      ∧ r.2.mem ((c.tc : Thread Cert.MixBFwdRefIdeal.nD Cert.MixBFwdRefIdeal.τ).loc Cert.MixBFwdRefIdeal.main_arg3) = m ((c.tc : Thread Cert.MixBFwdRefIdeal.nD Cert.MixBFwdRefIdeal.τ).loc Cert.MixBFwdRefIdeal.main_arg3)
      ∧ r.2.mem ((c.tc : Thread Cert.MixBFwdRefIdeal.nD Cert.MixBFwdRefIdeal.τ).loc Cert.MixBFwdRefIdeal.main_arg4) = m ((c.tc : Thread Cert.MixBFwdRefIdeal.nD Cert.MixBFwdRefIdeal.τ).loc Cert.MixBFwdRefIdeal.main_arg4)
      ∧ r.2.mem ((c.tc : Thread Cert.MixBFwdRefIdeal.nD Cert.MixBFwdRefIdeal.τ).loc Cert.MixBFwdRefIdeal.main_arg5) = m ((c.tc : Thread Cert.MixBFwdRefIdeal.nD Cert.MixBFwdRefIdeal.τ).loc Cert.MixBFwdRefIdeal.main_arg5))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_MixAFwd [hMixAFwd : Cert.MixAFwd.Facts] : Prop :=
  ∀ (m : (ℓ : Loc Cert.MixAFwd.nD Cert.MixAFwd.τ Cert.MixAFwd.sig) → Buf (Elt Bits) ℓ) (g : Dev Cert.MixAFwd.nD → PrngReg), Pre_MixAFwd m →
    θ_run (Cert.MixAFwd.defs (F := Bits)) (onTc (τ := Cert.MixAFwd.τ) (Cert.MixAFwd.main (F := Bits))) ⟨m, fun _ => 0, g⟩ (fun r => (∀ c : Dev Cert.MixAFwd.nD,
      r.2.mem ((c.tc : Thread Cert.MixAFwd.nD Cert.MixAFwd.τ).loc Cert.MixAFwd.main_arg0) = m ((c.tc : Thread Cert.MixAFwd.nD Cert.MixAFwd.τ).loc Cert.MixAFwd.main_arg0)
      ∧ r.2.mem ((c.tc : Thread Cert.MixAFwd.nD Cert.MixAFwd.τ).loc Cert.MixAFwd.main_arg1) = m ((c.tc : Thread Cert.MixAFwd.nD Cert.MixAFwd.τ).loc Cert.MixAFwd.main_arg1)
      ∧ r.2.mem ((c.tc : Thread Cert.MixAFwd.nD Cert.MixAFwd.τ).loc Cert.MixAFwd.main_arg2) = m ((c.tc : Thread Cert.MixAFwd.nD Cert.MixAFwd.τ).loc Cert.MixAFwd.main_arg2))
      ∧ r.2.sem = fun _ => 0)

def quiescent_MixAFwdIdeal [hMixAFwdIdeal : Cert.MixAFwdIdeal.Facts] : Prop :=
  ∀ (m : (ℓ : Loc Cert.MixAFwdIdeal.nD Cert.MixAFwdIdeal.τ Cert.MixAFwdIdeal.sig) → Buf (Elt Ideal) ℓ) (g : Dev Cert.MixAFwdIdeal.nD → PrngReg), Pre_MixAFwdIdeal m →
    θ_run (Cert.MixAFwdIdeal.defs (F := Ideal)) (onTc (τ := Cert.MixAFwdIdeal.τ) (Cert.MixAFwdIdeal.main (F := Ideal))) ⟨m, fun _ => 0, g⟩ (fun r => (∀ c : Dev Cert.MixAFwdIdeal.nD,
      r.2.mem ((c.tc : Thread Cert.MixAFwdIdeal.nD Cert.MixAFwdIdeal.τ).loc Cert.MixAFwdIdeal.main_arg0) = m ((c.tc : Thread Cert.MixAFwdIdeal.nD Cert.MixAFwdIdeal.τ).loc Cert.MixAFwdIdeal.main_arg0)
      ∧ r.2.mem ((c.tc : Thread Cert.MixAFwdIdeal.nD Cert.MixAFwdIdeal.τ).loc Cert.MixAFwdIdeal.main_arg1) = m ((c.tc : Thread Cert.MixAFwdIdeal.nD Cert.MixAFwdIdeal.τ).loc Cert.MixAFwdIdeal.main_arg1)
      ∧ r.2.mem ((c.tc : Thread Cert.MixAFwdIdeal.nD Cert.MixAFwdIdeal.τ).loc Cert.MixAFwdIdeal.main_arg2) = m ((c.tc : Thread Cert.MixAFwdIdeal.nD Cert.MixAFwdIdeal.τ).loc Cert.MixAFwdIdeal.main_arg2))
      ∧ r.2.sem = fun _ => 0)

def quiescent_MixAFwdIdeal_pre_finite_win [hMixAFwdIdeal : Cert.MixAFwdIdeal.Facts] [hPre_finite_win : Cert.Pre_finite_win.Facts] : Prop :=
  ∀ (m : (ℓ : Loc Cert.MixAFwdIdeal.nD Cert.MixAFwdIdeal.τ Cert.MixAFwdIdeal.sig) → Buf (Elt Ideal) ℓ) (g : Dev Cert.MixAFwdIdeal.nD → PrngReg), Pre_MixAFwdIdeal_finite_win m →
    θ_run (Cert.MixAFwdIdeal.defs (F := Ideal)) (onTc (τ := Cert.MixAFwdIdeal.τ) (Cert.MixAFwdIdeal.main (F := Ideal))) ⟨m, fun _ => 0, g⟩ (fun r => (∀ c : Dev Cert.MixAFwdIdeal.nD,
      r.2.mem ((c.tc : Thread Cert.MixAFwdIdeal.nD Cert.MixAFwdIdeal.τ).loc Cert.MixAFwdIdeal.main_arg0) = m ((c.tc : Thread Cert.MixAFwdIdeal.nD Cert.MixAFwdIdeal.τ).loc Cert.MixAFwdIdeal.main_arg0)
      ∧ r.2.mem ((c.tc : Thread Cert.MixAFwdIdeal.nD Cert.MixAFwdIdeal.τ).loc Cert.MixAFwdIdeal.main_arg1) = m ((c.tc : Thread Cert.MixAFwdIdeal.nD Cert.MixAFwdIdeal.τ).loc Cert.MixAFwdIdeal.main_arg1)
      ∧ r.2.mem ((c.tc : Thread Cert.MixAFwdIdeal.nD Cert.MixAFwdIdeal.τ).loc Cert.MixAFwdIdeal.main_arg2) = m ((c.tc : Thread Cert.MixAFwdIdeal.nD Cert.MixAFwdIdeal.τ).loc Cert.MixAFwdIdeal.main_arg2))
      ∧ r.2.sem = fun _ => 0)

def quiescent_MixAFwdRefIdeal [hMixAFwdRefIdeal : Cert.MixAFwdRefIdeal.Facts] : Prop :=
  ∀ (m : (ℓ : Loc Cert.MixAFwdRefIdeal.nD Cert.MixAFwdRefIdeal.τ Cert.MixAFwdRefIdeal.sig) → Buf (Elt Ideal) ℓ) (g : Dev Cert.MixAFwdRefIdeal.nD → PrngReg), Pre_MixAFwdRefIdeal m →
    θ_run (Cert.MixAFwdRefIdeal.defs (F := Ideal)) (onTc (τ := Cert.MixAFwdRefIdeal.τ) (Cert.MixAFwdRefIdeal.main (F := Ideal))) ⟨m, fun _ => 0, g⟩ (fun r => (∀ c : Dev Cert.MixAFwdRefIdeal.nD,
      r.2.mem ((c.tc : Thread Cert.MixAFwdRefIdeal.nD Cert.MixAFwdRefIdeal.τ).loc Cert.MixAFwdRefIdeal.main_arg0) = m ((c.tc : Thread Cert.MixAFwdRefIdeal.nD Cert.MixAFwdRefIdeal.τ).loc Cert.MixAFwdRefIdeal.main_arg0)
      ∧ r.2.mem ((c.tc : Thread Cert.MixAFwdRefIdeal.nD Cert.MixAFwdRefIdeal.τ).loc Cert.MixAFwdRefIdeal.main_arg1) = m ((c.tc : Thread Cert.MixAFwdRefIdeal.nD Cert.MixAFwdRefIdeal.τ).loc Cert.MixAFwdRefIdeal.main_arg1)
      ∧ r.2.mem ((c.tc : Thread Cert.MixAFwdRefIdeal.nD Cert.MixAFwdRefIdeal.τ).loc Cert.MixAFwdRefIdeal.main_arg2) = m ((c.tc : Thread Cert.MixAFwdRefIdeal.nD Cert.MixAFwdRefIdeal.τ).loc Cert.MixAFwdRefIdeal.main_arg2))
      ∧ r.2.sem = fun _ => 0)

def quiescent_MixAFwdRefIdeal_pre_finite_win [hMixAFwdRefIdeal : Cert.MixAFwdRefIdeal.Facts] [hPre_finite_win : Cert.Pre_finite_win.Facts] : Prop :=
  ∀ (m : (ℓ : Loc Cert.MixAFwdRefIdeal.nD Cert.MixAFwdRefIdeal.τ Cert.MixAFwdRefIdeal.sig) → Buf (Elt Ideal) ℓ) (g : Dev Cert.MixAFwdRefIdeal.nD → PrngReg), Pre_MixAFwdRefIdeal_finite_win m →
    θ_run (Cert.MixAFwdRefIdeal.defs (F := Ideal)) (onTc (τ := Cert.MixAFwdRefIdeal.τ) (Cert.MixAFwdRefIdeal.main (F := Ideal))) ⟨m, fun _ => 0, g⟩ (fun r => (∀ c : Dev Cert.MixAFwdRefIdeal.nD,
      r.2.mem ((c.tc : Thread Cert.MixAFwdRefIdeal.nD Cert.MixAFwdRefIdeal.τ).loc Cert.MixAFwdRefIdeal.main_arg0) = m ((c.tc : Thread Cert.MixAFwdRefIdeal.nD Cert.MixAFwdRefIdeal.τ).loc Cert.MixAFwdRefIdeal.main_arg0)
      ∧ r.2.mem ((c.tc : Thread Cert.MixAFwdRefIdeal.nD Cert.MixAFwdRefIdeal.τ).loc Cert.MixAFwdRefIdeal.main_arg1) = m ((c.tc : Thread Cert.MixAFwdRefIdeal.nD Cert.MixAFwdRefIdeal.τ).loc Cert.MixAFwdRefIdeal.main_arg1)
      ∧ r.2.mem ((c.tc : Thread Cert.MixAFwdRefIdeal.nD Cert.MixAFwdRefIdeal.τ).loc Cert.MixAFwdRefIdeal.main_arg2) = m ((c.tc : Thread Cert.MixAFwdRefIdeal.nD Cert.MixAFwdRefIdeal.τ).loc Cert.MixAFwdRefIdeal.main_arg2))
      ∧ r.2.sem = fun _ => 0)

def quiescent_BIn [hBIn : Cert.BIn.Facts] : Prop :=
  ∀ (m : (ℓ : Loc Cert.BIn.nD Cert.BIn.τ Cert.BIn.sig) → Buf (Elt Bits) ℓ) (g : Dev Cert.BIn.nD → PrngReg), Pre_BIn m →
    θ_run (Cert.BIn.defs (F := Bits)) (onTc (τ := Cert.BIn.τ) (Cert.BIn.main (F := Bits))) ⟨m, fun _ => 0, g⟩ (fun r => (∀ c : Dev Cert.BIn.nD,
      r.2.mem ((c.tc : Thread Cert.BIn.nD Cert.BIn.τ).loc Cert.BIn.main_arg0) = m ((c.tc : Thread Cert.BIn.nD Cert.BIn.τ).loc Cert.BIn.main_arg0)
      ∧ r.2.mem ((c.tc : Thread Cert.BIn.nD Cert.BIn.τ).loc Cert.BIn.main_arg1) = m ((c.tc : Thread Cert.BIn.nD Cert.BIn.τ).loc Cert.BIn.main_arg1)
      ∧ r.2.mem ((c.tc : Thread Cert.BIn.nD Cert.BIn.τ).loc Cert.BIn.main_arg2) = m ((c.tc : Thread Cert.BIn.nD Cert.BIn.τ).loc Cert.BIn.main_arg2))
      ∧ r.2.sem = fun _ => 0)

def quiescent_BInIdeal [hBInIdeal : Cert.BInIdeal.Facts] : Prop :=
  ∀ (m : (ℓ : Loc Cert.BInIdeal.nD Cert.BInIdeal.τ Cert.BInIdeal.sig) → Buf (Elt Ideal) ℓ) (g : Dev Cert.BInIdeal.nD → PrngReg), Pre_BInIdeal m →
    θ_run (Cert.BInIdeal.defs (F := Ideal)) (onTc (τ := Cert.BInIdeal.τ) (Cert.BInIdeal.main (F := Ideal))) ⟨m, fun _ => 0, g⟩ (fun r => (∀ c : Dev Cert.BInIdeal.nD,
      r.2.mem ((c.tc : Thread Cert.BInIdeal.nD Cert.BInIdeal.τ).loc Cert.BInIdeal.main_arg0) = m ((c.tc : Thread Cert.BInIdeal.nD Cert.BInIdeal.τ).loc Cert.BInIdeal.main_arg0)
      ∧ r.2.mem ((c.tc : Thread Cert.BInIdeal.nD Cert.BInIdeal.τ).loc Cert.BInIdeal.main_arg1) = m ((c.tc : Thread Cert.BInIdeal.nD Cert.BInIdeal.τ).loc Cert.BInIdeal.main_arg1)
      ∧ r.2.mem ((c.tc : Thread Cert.BInIdeal.nD Cert.BInIdeal.τ).loc Cert.BInIdeal.main_arg2) = m ((c.tc : Thread Cert.BInIdeal.nD Cert.BInIdeal.τ).loc Cert.BInIdeal.main_arg2))
      ∧ r.2.sem = fun _ => 0)

def quiescent_BInRefIdeal [hBInRefIdeal : Cert.BInRefIdeal.Facts] : Prop :=
  ∀ (m : (ℓ : Loc Cert.BInRefIdeal.nD Cert.BInRefIdeal.τ Cert.BInRefIdeal.sig) → Buf (Elt Ideal) ℓ) (g : Dev Cert.BInRefIdeal.nD → PrngReg), Pre_BInRefIdeal m →
    θ_run (Cert.BInRefIdeal.defs (F := Ideal)) (onTc (τ := Cert.BInRefIdeal.τ) (Cert.BInRefIdeal.main (F := Ideal))) ⟨m, fun _ => 0, g⟩ (fun r => (∀ c : Dev Cert.BInRefIdeal.nD,
      r.2.mem ((c.tc : Thread Cert.BInRefIdeal.nD Cert.BInRefIdeal.τ).loc Cert.BInRefIdeal.main_arg0) = m ((c.tc : Thread Cert.BInRefIdeal.nD Cert.BInRefIdeal.τ).loc Cert.BInRefIdeal.main_arg0)
      ∧ r.2.mem ((c.tc : Thread Cert.BInRefIdeal.nD Cert.BInRefIdeal.τ).loc Cert.BInRefIdeal.main_arg1) = m ((c.tc : Thread Cert.BInRefIdeal.nD Cert.BInRefIdeal.τ).loc Cert.BInRefIdeal.main_arg1)
      ∧ r.2.mem ((c.tc : Thread Cert.BInRefIdeal.nD Cert.BInRefIdeal.τ).loc Cert.BInRefIdeal.main_arg2) = m ((c.tc : Thread Cert.BInRefIdeal.nD Cert.BInRefIdeal.τ).loc Cert.BInRefIdeal.main_arg2))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1)
      ∧ r.2.mem ((c.tc : Thread Cert.AIn.nD Cert.AIn.τ).loc Cert.AIn.main_arg2) = m ((c.tc : Thread Cert.AIn.nD Cert.AIn.τ).loc Cert.AIn.main_arg2))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
      ∧ r.2.mem ((c.tc : Thread Cert.AInIdeal.nD Cert.AInIdeal.τ).loc Cert.AInIdeal.main_arg2) = m ((c.tc : Thread Cert.AInIdeal.nD Cert.AInIdeal.τ).loc Cert.AInIdeal.main_arg2))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1)
      ∧ r.2.mem ((c.tc : Thread Cert.AInRefIdeal.nD Cert.AInRefIdeal.τ).loc Cert.AInRefIdeal.main_arg2) = m ((c.tc : Thread Cert.AInRefIdeal.nD Cert.AInRefIdeal.τ).loc Cert.AInRefIdeal.main_arg2))
      ∧ r.2.sem = fun _ => 0)

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)
      ∧ m' ((c.tc : Thread Cert.MemNormRefIdeal.nD Cert.MemNormRefIdeal.τ).loc Cert.MemNormRefIdeal.main_arg2) = m ((c.tc : Thread Cert.MemNormIdeal.nD Cert.MemNormIdeal.τ).loc Cert.MemNormIdeal.main_arg2)) →
    ∃ (v0 : (c : Dev Cert.MemNormIdeal.nD) → Buf (Elt Ideal) ((c.tc : Thread Cert.MemNormIdeal.nD Cert.MemNormIdeal.τ).loc Cert.MemNormIdeal.main_v2_0)) (v1 : (c : Dev Cert.MemNormIdeal.nD) → Buf (Elt Ideal) ((c.tc : Thread Cert.MemNormIdeal.nD Cert.MemNormIdeal.τ).loc Cert.MemNormIdeal.main_v2_1)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v2_0) = v0 c
          ∧ r.2.mem ((c.tc : Thread Cert.MemNormIdeal.nD Cert.MemNormIdeal.τ).loc Cert.MemNormIdeal.main_v2_1) = v1 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1)
          ∧ r.2.mem ((c.tc : Thread Cert.MemNormIdeal.nD Cert.MemNormIdeal.τ).loc Cert.MemNormIdeal.main_arg2) = m ((c.tc : Thread Cert.MemNormIdeal.nD Cert.MemNormIdeal.τ).loc Cert.MemNormIdeal.main_arg2))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v35) = v0 c
          ∧ r.2.mem ((c.tc : Thread Cert.MemNormRefIdeal.nD Cert.MemNormRefIdeal.τ).loc Cert.MemNormRefIdeal.main_v36) = v1 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1)
          ∧ r.2.mem ((c.tc : Thread Cert.MemNormRefIdeal.nD Cert.MemNormRefIdeal.τ).loc Cert.MemNormRefIdeal.main_arg2) = m' ((c.tc : Thread Cert.MemNormRefIdeal.nD Cert.MemNormRefIdeal.τ).loc Cert.MemNormRefIdeal.main_arg2))

def preserves_Swiglu_SwigluIdeal : Prop :=
  True

def algebraic_SwigluIdeal_SwigluRefIdeal_pre_finite_ffn [hSwigluIdeal : Cert.SwigluIdeal.Facts] [hSwigluRefIdeal : Cert.SwigluRefIdeal.Facts] [hPre_finite_ffn : Cert.Pre_finite_ffn.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_finite_ffn m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)
      ∧ m' ((c.tc : Thread Cert.SwigluRefIdeal.nD Cert.SwigluRefIdeal.τ).loc Cert.SwigluRefIdeal.main_arg4) = m ((c.tc : Thread Cert.SwigluIdeal.nD Cert.SwigluIdeal.τ).loc Cert.SwigluIdeal.main_arg4)) →
    ∃ (v0 : (c : Dev Cert.SwigluIdeal.nD) → Buf (Elt Ideal) ((c.tc : Thread Cert.SwigluIdeal.nD Cert.SwigluIdeal.τ).loc Cert.SwigluIdeal.main_v9)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v9) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
          ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v26) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3)
          ∧ r.2.mem ((c.tc : Thread Cert.SwigluRefIdeal.nD Cert.SwigluRefIdeal.τ).loc Cert.SwigluRefIdeal.main_arg4) = m' ((c.tc : Thread Cert.SwigluRefIdeal.nD Cert.SwigluRefIdeal.τ).loc Cert.SwigluRefIdeal.main_arg4))

def preserves_GateUpDx_GateUpDxIdeal : Prop :=
  True

def algebraic_GateUpDxIdeal_GateUpDxRefIdeal [hGateUpDxIdeal : Cert.GateUpDxIdeal.Facts] [hGateUpDxRefIdeal : Cert.GateUpDxRefIdeal.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg)
    (m' : (ℓ : Loc Cert.GateUpDxRefIdeal.nD Cert.GateUpDxRefIdeal.τ Cert.GateUpDxRefIdeal.sig) → Buf (Elt Ideal) ℓ) (g' : Dev Cert.GateUpDxRefIdeal.nD → PrngReg), Pre_GateUpDxIdeal m →
    (∀ c : Dev Cert.GateUpDxIdeal.nD,
      m' ((c.tc : Thread Cert.GateUpDxRefIdeal.nD Cert.GateUpDxRefIdeal.τ).loc Cert.GateUpDxRefIdeal.main_arg0) = m ((c.tc : Thread Cert.GateUpDxIdeal.nD Cert.GateUpDxIdeal.τ).loc Cert.GateUpDxIdeal.main_arg0)
      ∧ m' ((c.tc : Thread Cert.GateUpDxRefIdeal.nD Cert.GateUpDxRefIdeal.τ).loc Cert.GateUpDxRefIdeal.main_arg1) = m ((c.tc : Thread Cert.GateUpDxIdeal.nD Cert.GateUpDxIdeal.τ).loc Cert.GateUpDxIdeal.main_arg1)
      ∧ m' ((c.tc : Thread Cert.GateUpDxRefIdeal.nD Cert.GateUpDxRefIdeal.τ).loc Cert.GateUpDxRefIdeal.main_arg2) = m ((c.tc : Thread Cert.GateUpDxIdeal.nD Cert.GateUpDxIdeal.τ).loc Cert.GateUpDxIdeal.main_arg2)
      ∧ m' ((c.tc : Thread Cert.GateUpDxRefIdeal.nD Cert.GateUpDxRefIdeal.τ).loc Cert.GateUpDxRefIdeal.main_arg3) = m ((c.tc : Thread Cert.GateUpDxIdeal.nD Cert.GateUpDxIdeal.τ).loc Cert.GateUpDxIdeal.main_arg3)
      ∧ m' ((c.tc : Thread Cert.GateUpDxRefIdeal.nD Cert.GateUpDxRefIdeal.τ).loc Cert.GateUpDxRefIdeal.main_arg4) = m ((c.tc : Thread Cert.GateUpDxIdeal.nD Cert.GateUpDxIdeal.τ).loc Cert.GateUpDxIdeal.main_arg4)) →
    ∃ (v0 : (c : Dev Cert.GateUpDxIdeal.nD) → Buf (Elt Ideal) ((c.tc : Thread Cert.GateUpDxIdeal.nD Cert.GateUpDxIdeal.τ).loc Cert.GateUpDxIdeal.main_v5_0)) (v1 : (c : Dev Cert.GateUpDxIdeal.nD) → Buf (Elt Ideal) ((c.tc : Thread Cert.GateUpDxIdeal.nD Cert.GateUpDxIdeal.τ).loc Cert.GateUpDxIdeal.main_v5_1)) (v2 : (c : Dev Cert.GateUpDxIdeal.nD) → Buf (Elt Ideal) ((c.tc : Thread Cert.GateUpDxIdeal.nD Cert.GateUpDxIdeal.τ).loc Cert.GateUpDxIdeal.main_v5_2)),
      θ_run (Cert.GateUpDxIdeal.defs (F := Ideal)) (onTc (τ := Cert.GateUpDxIdeal.τ) (Cert.GateUpDxIdeal.main (F := Ideal))) ⟨m, fun _ => 0, g⟩ (fun r => ∀ c : Dev Cert.GateUpDxIdeal.nD,
          r.2.mem ((c.tc : Thread Cert.GateUpDxIdeal.nD Cert.GateUpDxIdeal.τ).loc Cert.GateUpDxIdeal.main_v5_0) = v0 c
          ∧ r.2.mem ((c.tc : Thread Cert.GateUpDxIdeal.nD Cert.GateUpDxIdeal.τ).loc Cert.GateUpDxIdeal.main_v5_1) = v1 c
          ∧ r.2.mem ((c.tc : Thread Cert.GateUpDxIdeal.nD Cert.GateUpDxIdeal.τ).loc Cert.GateUpDxIdeal.main_v5_2) = v2 c
          ∧ r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
          ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1)
          ∧ r.2.mem ((c.tc : Thread Cert.GateUpDxIdeal.nD Cert.GateUpDxIdeal.τ).loc Cert.GateUpDxIdeal.main_arg2) = m ((c.tc : Thread Cert.GateUpDxIdeal.nD Cert.GateUpDxIdeal.τ).loc Cert.GateUpDxIdeal.main_arg2)
          ∧ r.2.mem ((c.tc : Thread Cert.GateUpDxIdeal.nD Cert.GateUpDxIdeal.τ).loc Cert.GateUpDxIdeal.main_arg3) = m ((c.tc : Thread Cert.GateUpDxIdeal.nD Cert.GateUpDxIdeal.τ).loc Cert.GateUpDxIdeal.main_arg3)
          ∧ r.2.mem ((c.tc : Thread Cert.GateUpDxIdeal.nD Cert.GateUpDxIdeal.τ).loc Cert.GateUpDxIdeal.main_arg4) = m ((c.tc : Thread Cert.GateUpDxIdeal.nD Cert.GateUpDxIdeal.τ).loc Cert.GateUpDxIdeal.main_arg4))
      ∧ θ_run (Cert.GateUpDxRefIdeal.defs (F := Ideal)) (onTc (τ := Cert.GateUpDxRefIdeal.τ) (Cert.GateUpDxRefIdeal.main (F := Ideal))) ⟨m', fun _ => 0, g'⟩ (fun r => ∀ c : Dev Cert.GateUpDxRefIdeal.nD,
          r.2.mem ((c.tc : Thread Cert.GateUpDxRefIdeal.nD Cert.GateUpDxRefIdeal.τ).loc Cert.GateUpDxRefIdeal.main_v44) = v0 c
          ∧ r.2.mem ((c.tc : Thread Cert.GateUpDxRefIdeal.nD Cert.GateUpDxRefIdeal.τ).loc Cert.GateUpDxRefIdeal.main_v45) = v1 c
          ∧ r.2.mem ((c.tc : Thread Cert.GateUpDxRefIdeal.nD Cert.GateUpDxRefIdeal.τ).loc Cert.GateUpDxRefIdeal.main_v46) = v2 c
          ∧ r.2.mem ((c.tc : Thread Cert.GateUpDxRefIdeal.nD Cert.GateUpDxRefIdeal.τ).loc Cert.GateUpDxRefIdeal.main_arg0) = m' ((c.tc : Thread Cert.GateUpDxRefIdeal.nD Cert.GateUpDxRefIdeal.τ).loc Cert.GateUpDxRefIdeal.main_arg0)
          ∧ r.2.mem ((c.tc : Thread Cert.GateUpDxRefIdeal.nD Cert.GateUpDxRefIdeal.τ).loc Cert.GateUpDxRefIdeal.main_arg1) = m' ((c.tc : Thread Cert.GateUpDxRefIdeal.nD Cert.GateUpDxRefIdeal.τ).loc Cert.GateUpDxRefIdeal.main_arg1)
          ∧ r.2.mem ((c.tc : Thread Cert.GateUpDxRefIdeal.nD Cert.GateUpDxRefIdeal.τ).loc Cert.GateUpDxRefIdeal.main_arg2) = m' ((c.tc : Thread Cert.GateUpDxRefIdeal.nD Cert.GateUpDxRefIdeal.τ).loc Cert.GateUpDxRefIdeal.main_arg2)
          ∧ r.2.mem ((c.tc : Thread Cert.GateUpDxRefIdeal.nD Cert.GateUpDxRefIdeal.τ).loc Cert.GateUpDxRefIdeal.main_arg3) = m' ((c.tc : Thread Cert.GateUpDxRefIdeal.nD Cert.GateUpDxRefIdeal.τ).loc Cert.GateUpDxRefIdeal.main_arg3)
          ∧ r.2.mem ((c.tc : Thread Cert.GateUpDxRefIdeal.nD Cert.GateUpDxRefIdeal.τ).loc Cert.GateUpDxRefIdeal.main_arg4) = m' ((c.tc : Thread Cert.GateUpDxRefIdeal.nD Cert.GateUpDxRefIdeal.τ).loc Cert.GateUpDxRefIdeal.main_arg4))

def preserves_AInDx_AInDxIdeal : Prop :=
  True

def algebraic_AInDxIdeal_AInDxRefIdeal [hAInDxIdeal : Cert.AInDxIdeal.Facts] [hAInDxRefIdeal : Cert.AInDxRefIdeal.Facts] : Prop :=
  ∀ (m : (ℓ : Loc Cert.AInDxIdeal.nD Cert.AInDxIdeal.τ Cert.AInDxIdeal.sig) → Buf (Elt Ideal) ℓ) (g : Dev Cert.AInDxIdeal.nD → PrngReg)
    (m' : (ℓ : Loc Cert.AInDxRefIdeal.nD Cert.AInDxRefIdeal.τ Cert.AInDxRefIdeal.sig) → Buf (Elt Ideal) ℓ) (g' : Dev Cert.AInDxRefIdeal.nD → PrngReg), Pre_AInDxIdeal m →
    (∀ c : Dev Cert.AInDxIdeal.nD,
      m' ((c.tc : Thread Cert.AInDxRefIdeal.nD Cert.AInDxRefIdeal.τ).loc Cert.AInDxRefIdeal.main_arg0) = m ((c.tc : Thread Cert.AInDxIdeal.nD Cert.AInDxIdeal.τ).loc Cert.AInDxIdeal.main_arg0)
      ∧ m' ((c.tc : Thread Cert.AInDxRefIdeal.nD Cert.AInDxRefIdeal.τ).loc Cert.AInDxRefIdeal.main_arg1) = m ((c.tc : Thread Cert.AInDxIdeal.nD Cert.AInDxIdeal.τ).loc Cert.AInDxIdeal.main_arg1)
      ∧ m' ((c.tc : Thread Cert.AInDxRefIdeal.nD Cert.AInDxRefIdeal.τ).loc Cert.AInDxRefIdeal.main_arg2) = m ((c.tc : Thread Cert.AInDxIdeal.nD Cert.AInDxIdeal.τ).loc Cert.AInDxIdeal.main_arg2)
      ∧ m' ((c.tc : Thread Cert.AInDxRefIdeal.nD Cert.AInDxRefIdeal.τ).loc Cert.AInDxRefIdeal.main_arg3) = m ((c.tc : Thread Cert.AInDxIdeal.nD Cert.AInDxIdeal.τ).loc Cert.AInDxIdeal.main_arg3)
      ∧ m' ((c.tc : Thread Cert.AInDxRefIdeal.nD Cert.AInDxRefIdeal.τ).loc Cert.AInDxRefIdeal.main_arg4) = m ((c.tc : Thread Cert.AInDxIdeal.nD Cert.AInDxIdeal.τ).loc Cert.AInDxIdeal.main_arg4)) →
    ∃ (v0 : (c : Dev Cert.AInDxIdeal.nD) → Buf (Elt Ideal) ((c.tc : Thread Cert.AInDxIdeal.nD Cert.AInDxIdeal.τ).loc Cert.AInDxIdeal.main_v5_0)) (v1 : (c : Dev Cert.AInDxIdeal.nD) → Buf (Elt Ideal) ((c.tc : Thread Cert.AInDxIdeal.nD Cert.AInDxIdeal.τ).loc Cert.AInDxIdeal.main_v5_1)) (v2 : (c : Dev Cert.AInDxIdeal.nD) → Buf (Elt Ideal) ((c.tc : Thread Cert.AInDxIdeal.nD Cert.AInDxIdeal.τ).loc Cert.AInDxIdeal.main_v5_2)),
      θ_run (Cert.AInDxIdeal.defs (F := Ideal)) (onTc (τ := Cert.AInDxIdeal.τ) (Cert.AInDxIdeal.main (F := Ideal))) ⟨m, fun _ => 0, g⟩ (fun r => ∀ c : Dev Cert.AInDxIdeal.nD,
          r.2.mem ((c.tc : Thread Cert.AInDxIdeal.nD Cert.AInDxIdeal.τ).loc Cert.AInDxIdeal.main_v5_0) = v0 c
          ∧ r.2.mem ((c.tc : Thread Cert.AInDxIdeal.nD Cert.AInDxIdeal.τ).loc Cert.AInDxIdeal.main_v5_1) = v1 c
          ∧ r.2.mem ((c.tc : Thread Cert.AInDxIdeal.nD Cert.AInDxIdeal.τ).loc Cert.AInDxIdeal.main_v5_2) = v2 c
          ∧ r.2.mem ((c.tc : Thread Cert.AInDxIdeal.nD Cert.AInDxIdeal.τ).loc Cert.AInDxIdeal.main_arg0) = m ((c.tc : Thread Cert.AInDxIdeal.nD Cert.AInDxIdeal.τ).loc Cert.AInDxIdeal.main_arg0)
          ∧ r.2.mem ((c.tc : Thread Cert.AInDxIdeal.nD Cert.AInDxIdeal.τ).loc Cert.AInDxIdeal.main_arg1) = m ((c.tc : Thread Cert.AInDxIdeal.nD Cert.AInDxIdeal.τ).loc Cert.AInDxIdeal.main_arg1)
          ∧ r.2.mem ((c.tc : Thread Cert.AInDxIdeal.nD Cert.AInDxIdeal.τ).loc Cert.AInDxIdeal.main_arg2) = m ((c.tc : Thread Cert.AInDxIdeal.nD Cert.AInDxIdeal.τ).loc Cert.AInDxIdeal.main_arg2)
          ∧ r.2.mem ((c.tc : Thread Cert.AInDxIdeal.nD Cert.AInDxIdeal.τ).loc Cert.AInDxIdeal.main_arg3) = m ((c.tc : Thread Cert.AInDxIdeal.nD Cert.AInDxIdeal.τ).loc Cert.AInDxIdeal.main_arg3)
          ∧ r.2.mem ((c.tc : Thread Cert.AInDxIdeal.nD Cert.AInDxIdeal.τ).loc Cert.AInDxIdeal.main_arg4) = m ((c.tc : Thread Cert.AInDxIdeal.nD Cert.AInDxIdeal.τ).loc Cert.AInDxIdeal.main_arg4))
      ∧ θ_run (Cert.AInDxRefIdeal.defs (F := Ideal)) (onTc (τ := Cert.AInDxRefIdeal.τ) (Cert.AInDxRefIdeal.main (F := Ideal))) ⟨m', fun _ => 0, g'⟩ (fun r => ∀ c : Dev Cert.AInDxRefIdeal.nD,
          r.2.mem ((c.tc : Thread Cert.AInDxRefIdeal.nD Cert.AInDxRefIdeal.τ).loc Cert.AInDxRefIdeal.main_v39) = v0 c
          ∧ r.2.mem ((c.tc : Thread Cert.AInDxRefIdeal.nD Cert.AInDxRefIdeal.τ).loc Cert.AInDxRefIdeal.main_v40) = v1 c
          ∧ r.2.mem ((c.tc : Thread Cert.AInDxRefIdeal.nD Cert.AInDxRefIdeal.τ).loc Cert.AInDxRefIdeal.main_v41) = v2 c
          ∧ r.2.mem ((c.tc : Thread Cert.AInDxRefIdeal.nD Cert.AInDxRefIdeal.τ).loc Cert.AInDxRefIdeal.main_arg0) = m' ((c.tc : Thread Cert.AInDxRefIdeal.nD Cert.AInDxRefIdeal.τ).loc Cert.AInDxRefIdeal.main_arg0)
          ∧ r.2.mem ((c.tc : Thread Cert.AInDxRefIdeal.nD Cert.AInDxRefIdeal.τ).loc Cert.AInDxRefIdeal.main_arg1) = m' ((c.tc : Thread Cert.AInDxRefIdeal.nD Cert.AInDxRefIdeal.τ).loc Cert.AInDxRefIdeal.main_arg1)
          ∧ r.2.mem ((c.tc : Thread Cert.AInDxRefIdeal.nD Cert.AInDxRefIdeal.τ).loc Cert.AInDxRefIdeal.main_arg2) = m' ((c.tc : Thread Cert.AInDxRefIdeal.nD Cert.AInDxRefIdeal.τ).loc Cert.AInDxRefIdeal.main_arg2)
          ∧ r.2.mem ((c.tc : Thread Cert.AInDxRefIdeal.nD Cert.AInDxRefIdeal.τ).loc Cert.AInDxRefIdeal.main_arg3) = m' ((c.tc : Thread Cert.AInDxRefIdeal.nD Cert.AInDxRefIdeal.τ).loc Cert.AInDxRefIdeal.main_arg3)
          ∧ r.2.mem ((c.tc : Thread Cert.AInDxRefIdeal.nD Cert.AInDxRefIdeal.τ).loc Cert.AInDxRefIdeal.main_arg4) = m' ((c.tc : Thread Cert.AInDxRefIdeal.nD Cert.AInDxRefIdeal.τ).loc Cert.AInDxRefIdeal.main_arg4))

def preserves_BInDx_BInDxIdeal : Prop :=
  True

def algebraic_BInDxIdeal_BInDxRefIdeal [hBInDxIdeal : Cert.BInDxIdeal.Facts] [hBInDxRefIdeal : Cert.BInDxRefIdeal.Facts] : Prop :=
  ∀ (m : (ℓ : Loc Cert.BInDxIdeal.nD Cert.BInDxIdeal.τ Cert.BInDxIdeal.sig) → Buf (Elt Ideal) ℓ) (g : Dev Cert.BInDxIdeal.nD → PrngReg)
    (m' : (ℓ : Loc Cert.BInDxRefIdeal.nD Cert.BInDxRefIdeal.τ Cert.BInDxRefIdeal.sig) → Buf (Elt Ideal) ℓ) (g' : Dev Cert.BInDxRefIdeal.nD → PrngReg), Pre_BInDxIdeal m →
    (∀ c : Dev Cert.BInDxIdeal.nD,
      m' ((c.tc : Thread Cert.BInDxRefIdeal.nD Cert.BInDxRefIdeal.τ).loc Cert.BInDxRefIdeal.main_arg0) = m ((c.tc : Thread Cert.BInDxIdeal.nD Cert.BInDxIdeal.τ).loc Cert.BInDxIdeal.main_arg0)
      ∧ m' ((c.tc : Thread Cert.BInDxRefIdeal.nD Cert.BInDxRefIdeal.τ).loc Cert.BInDxRefIdeal.main_arg1) = m ((c.tc : Thread Cert.BInDxIdeal.nD Cert.BInDxIdeal.τ).loc Cert.BInDxIdeal.main_arg1)
      ∧ m' ((c.tc : Thread Cert.BInDxRefIdeal.nD Cert.BInDxRefIdeal.τ).loc Cert.BInDxRefIdeal.main_arg2) = m ((c.tc : Thread Cert.BInDxIdeal.nD Cert.BInDxIdeal.τ).loc Cert.BInDxIdeal.main_arg2)
      ∧ m' ((c.tc : Thread Cert.BInDxRefIdeal.nD Cert.BInDxRefIdeal.τ).loc Cert.BInDxRefIdeal.main_arg3) = m ((c.tc : Thread Cert.BInDxIdeal.nD Cert.BInDxIdeal.τ).loc Cert.BInDxIdeal.main_arg3)
      ∧ m' ((c.tc : Thread Cert.BInDxRefIdeal.nD Cert.BInDxRefIdeal.τ).loc Cert.BInDxRefIdeal.main_arg4) = m ((c.tc : Thread Cert.BInDxIdeal.nD Cert.BInDxIdeal.τ).loc Cert.BInDxIdeal.main_arg4)) →
    ∃ (v0 : (c : Dev Cert.BInDxIdeal.nD) → Buf (Elt Ideal) ((c.tc : Thread Cert.BInDxIdeal.nD Cert.BInDxIdeal.τ).loc Cert.BInDxIdeal.main_v5_0)) (v1 : (c : Dev Cert.BInDxIdeal.nD) → Buf (Elt Ideal) ((c.tc : Thread Cert.BInDxIdeal.nD Cert.BInDxIdeal.τ).loc Cert.BInDxIdeal.main_v5_1)) (v2 : (c : Dev Cert.BInDxIdeal.nD) → Buf (Elt Ideal) ((c.tc : Thread Cert.BInDxIdeal.nD Cert.BInDxIdeal.τ).loc Cert.BInDxIdeal.main_v5_2)),
      θ_run (Cert.BInDxIdeal.defs (F := Ideal)) (onTc (τ := Cert.BInDxIdeal.τ) (Cert.BInDxIdeal.main (F := Ideal))) ⟨m, fun _ => 0, g⟩ (fun r => ∀ c : Dev Cert.BInDxIdeal.nD,
          r.2.mem ((c.tc : Thread Cert.BInDxIdeal.nD Cert.BInDxIdeal.τ).loc Cert.BInDxIdeal.main_v5_0) = v0 c
          ∧ r.2.mem ((c.tc : Thread Cert.BInDxIdeal.nD Cert.BInDxIdeal.τ).loc Cert.BInDxIdeal.main_v5_1) = v1 c
          ∧ r.2.mem ((c.tc : Thread Cert.BInDxIdeal.nD Cert.BInDxIdeal.τ).loc Cert.BInDxIdeal.main_v5_2) = v2 c
          ∧ r.2.mem ((c.tc : Thread Cert.BInDxIdeal.nD Cert.BInDxIdeal.τ).loc Cert.BInDxIdeal.main_arg0) = m ((c.tc : Thread Cert.BInDxIdeal.nD Cert.BInDxIdeal.τ).loc Cert.BInDxIdeal.main_arg0)
          ∧ r.2.mem ((c.tc : Thread Cert.BInDxIdeal.nD Cert.BInDxIdeal.τ).loc Cert.BInDxIdeal.main_arg1) = m ((c.tc : Thread Cert.BInDxIdeal.nD Cert.BInDxIdeal.τ).loc Cert.BInDxIdeal.main_arg1)
          ∧ r.2.mem ((c.tc : Thread Cert.BInDxIdeal.nD Cert.BInDxIdeal.τ).loc Cert.BInDxIdeal.main_arg2) = m ((c.tc : Thread Cert.BInDxIdeal.nD Cert.BInDxIdeal.τ).loc Cert.BInDxIdeal.main_arg2)
          ∧ r.2.mem ((c.tc : Thread Cert.BInDxIdeal.nD Cert.BInDxIdeal.τ).loc Cert.BInDxIdeal.main_arg3) = m ((c.tc : Thread Cert.BInDxIdeal.nD Cert.BInDxIdeal.τ).loc Cert.BInDxIdeal.main_arg3)
          ∧ r.2.mem ((c.tc : Thread Cert.BInDxIdeal.nD Cert.BInDxIdeal.τ).loc Cert.BInDxIdeal.main_arg4) = m ((c.tc : Thread Cert.BInDxIdeal.nD Cert.BInDxIdeal.τ).loc Cert.BInDxIdeal.main_arg4))
      ∧ θ_run (Cert.BInDxRefIdeal.defs (F := Ideal)) (onTc (τ := Cert.BInDxRefIdeal.τ) (Cert.BInDxRefIdeal.main (F := Ideal))) ⟨m', fun _ => 0, g'⟩ (fun r => ∀ c : Dev Cert.BInDxRefIdeal.nD,
          r.2.mem ((c.tc : Thread Cert.BInDxRefIdeal.nD Cert.BInDxRefIdeal.τ).loc Cert.BInDxRefIdeal.main_v39) = v0 c
          ∧ r.2.mem ((c.tc : Thread Cert.BInDxRefIdeal.nD Cert.BInDxRefIdeal.τ).loc Cert.BInDxRefIdeal.main_v40) = v1 c
          ∧ r.2.mem ((c.tc : Thread Cert.BInDxRefIdeal.nD Cert.BInDxRefIdeal.τ).loc Cert.BInDxRefIdeal.main_v41) = v2 c
          ∧ r.2.mem ((c.tc : Thread Cert.BInDxRefIdeal.nD Cert.BInDxRefIdeal.τ).loc Cert.BInDxRefIdeal.main_arg0) = m' ((c.tc : Thread Cert.BInDxRefIdeal.nD Cert.BInDxRefIdeal.τ).loc Cert.BInDxRefIdeal.main_arg0)
          ∧ r.2.mem ((c.tc : Thread Cert.BInDxRefIdeal.nD Cert.BInDxRefIdeal.τ).loc Cert.BInDxRefIdeal.main_arg1) = m' ((c.tc : Thread Cert.BInDxRefIdeal.nD Cert.BInDxRefIdeal.τ).loc Cert.BInDxRefIdeal.main_arg1)
          ∧ r.2.mem ((c.tc : Thread Cert.BInDxRefIdeal.nD Cert.BInDxRefIdeal.τ).loc Cert.BInDxRefIdeal.main_arg2) = m' ((c.tc : Thread Cert.BInDxRefIdeal.nD Cert.BInDxRefIdeal.τ).loc Cert.BInDxRefIdeal.main_arg2)
          ∧ r.2.mem ((c.tc : Thread Cert.BInDxRefIdeal.nD Cert.BInDxRefIdeal.τ).loc Cert.BInDxRefIdeal.main_arg3) = m' ((c.tc : Thread Cert.BInDxRefIdeal.nD Cert.BInDxRefIdeal.τ).loc Cert.BInDxRefIdeal.main_arg3)
          ∧ r.2.mem ((c.tc : Thread Cert.BInDxRefIdeal.nD Cert.BInDxRefIdeal.τ).loc Cert.BInDxRefIdeal.main_arg4) = m' ((c.tc : Thread Cert.BInDxRefIdeal.nD Cert.BInDxRefIdeal.τ).loc Cert.BInDxRefIdeal.main_arg4))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_v53) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_MixB_MixBIdeal : Prop :=
  True

def algebraic_MixBIdeal_MixBRefIdeal_pre_finite_heads_b [hMixBIdeal : Cert.MixBIdeal.Facts] [hMixBRefIdeal : Cert.MixBRefIdeal.Facts] [hPre_finite_heads_b : Cert.Pre_finite_heads_b.Facts] : Prop :=
  ∀ (m : (ℓ : Loc Cert.MixBIdeal.nD Cert.MixBIdeal.τ Cert.MixBIdeal.sig) → Buf (Elt Ideal) ℓ) (g : Dev Cert.MixBIdeal.nD → PrngReg)
    (m' : (ℓ : Loc Cert.MixBRefIdeal.nD Cert.MixBRefIdeal.τ Cert.MixBRefIdeal.sig) → Buf (Elt Ideal) ℓ) (g' : Dev Cert.MixBRefIdeal.nD → PrngReg), Pre_MixBIdeal_finite_heads_b m →
    (∀ c : Dev Cert.MixBIdeal.nD,
      m' ((c.tc : Thread Cert.MixBRefIdeal.nD Cert.MixBRefIdeal.τ).loc Cert.MixBRefIdeal.main_arg0) = m ((c.tc : Thread Cert.MixBIdeal.nD Cert.MixBIdeal.τ).loc Cert.MixBIdeal.main_arg0)
      ∧ m' ((c.tc : Thread Cert.MixBRefIdeal.nD Cert.MixBRefIdeal.τ).loc Cert.MixBRefIdeal.main_arg1) = m ((c.tc : Thread Cert.MixBIdeal.nD Cert.MixBIdeal.τ).loc Cert.MixBIdeal.main_arg1)
      ∧ m' ((c.tc : Thread Cert.MixBRefIdeal.nD Cert.MixBRefIdeal.τ).loc Cert.MixBRefIdeal.main_arg2) = m ((c.tc : Thread Cert.MixBIdeal.nD Cert.MixBIdeal.τ).loc Cert.MixBIdeal.main_arg2)
      ∧ m' ((c.tc : Thread Cert.MixBRefIdeal.nD Cert.MixBRefIdeal.τ).loc Cert.MixBRefIdeal.main_arg3) = m ((c.tc : Thread Cert.MixBIdeal.nD Cert.MixBIdeal.τ).loc Cert.MixBIdeal.main_arg3)
      ∧ m' ((c.tc : Thread Cert.MixBRefIdeal.nD Cert.MixBRefIdeal.τ).loc Cert.MixBRefIdeal.main_arg4) = m ((c.tc : Thread Cert.MixBIdeal.nD Cert.MixBIdeal.τ).loc Cert.MixBIdeal.main_arg4)
      ∧ m' ((c.tc : Thread Cert.MixBRefIdeal.nD Cert.MixBRefIdeal.τ).loc Cert.MixBRefIdeal.main_arg5) = m ((c.tc : Thread Cert.MixBIdeal.nD Cert.MixBIdeal.τ).loc Cert.MixBIdeal.main_arg5)
      ∧ m' ((c.tc : Thread Cert.MixBRefIdeal.nD Cert.MixBRefIdeal.τ).loc Cert.MixBRefIdeal.main_arg6) = m ((c.tc : Thread Cert.MixBIdeal.nD Cert.MixBIdeal.τ).loc Cert.MixBIdeal.main_arg6)) →
    ∃ (v0 : (c : Dev Cert.MixBIdeal.nD) → Buf (Elt Ideal) ((c.tc : Thread Cert.MixBIdeal.nD Cert.MixBIdeal.τ).loc Cert.MixBIdeal.main_v6_0)) (v1 : (c : Dev Cert.MixBIdeal.nD) → Buf (Elt Ideal) ((c.tc : Thread Cert.MixBIdeal.nD Cert.MixBIdeal.τ).loc Cert.MixBIdeal.main_v6_1)) (v2 : (c : Dev Cert.MixBIdeal.nD) → Buf (Elt Ideal) ((c.tc : Thread Cert.MixBIdeal.nD Cert.MixBIdeal.τ).loc Cert.MixBIdeal.main_v6_2)) (v3 : (c : Dev Cert.MixBIdeal.nD) → Buf (Elt Ideal) ((c.tc : Thread Cert.MixBIdeal.nD Cert.MixBIdeal.τ).loc Cert.MixBIdeal.main_v6_3)) (v4 : (c : Dev Cert.MixBIdeal.nD) → Buf (Elt Ideal) ((c.tc : Thread Cert.MixBIdeal.nD Cert.MixBIdeal.τ).loc Cert.MixBIdeal.main_v6_4)) (v5 : (c : Dev Cert.MixBIdeal.nD) → Buf (Elt Ideal) ((c.tc : Thread Cert.MixBIdeal.nD Cert.MixBIdeal.τ).loc Cert.MixBIdeal.main_v6_5)),
      θ_run (Cert.MixBIdeal.defs (F := Ideal)) (onTc (τ := Cert.MixBIdeal.τ) (Cert.MixBIdeal.main (F := Ideal))) ⟨m, fun _ => 0, g⟩ (fun r => ∀ c : Dev Cert.MixBIdeal.nD,
          r.2.mem ((c.tc : Thread Cert.MixBIdeal.nD Cert.MixBIdeal.τ).loc Cert.MixBIdeal.main_v6_0) = v0 c
          ∧ r.2.mem ((c.tc : Thread Cert.MixBIdeal.nD Cert.MixBIdeal.τ).loc Cert.MixBIdeal.main_v6_1) = v1 c
          ∧ r.2.mem ((c.tc : Thread Cert.MixBIdeal.nD Cert.MixBIdeal.τ).loc Cert.MixBIdeal.main_v6_2) = v2 c
          ∧ r.2.mem ((c.tc : Thread Cert.MixBIdeal.nD Cert.MixBIdeal.τ).loc Cert.MixBIdeal.main_v6_3) = v3 c
          ∧ r.2.mem ((c.tc : Thread Cert.MixBIdeal.nD Cert.MixBIdeal.τ).loc Cert.MixBIdeal.main_v6_4) = v4 c
          ∧ r.2.mem ((c.tc : Thread Cert.MixBIdeal.nD Cert.MixBIdeal.τ).loc Cert.MixBIdeal.main_v6_5) = v5 c
          ∧ r.2.mem ((c.tc : Thread Cert.MixBIdeal.nD Cert.MixBIdeal.τ).loc Cert.MixBIdeal.main_arg0) = m ((c.tc : Thread Cert.MixBIdeal.nD Cert.MixBIdeal.τ).loc Cert.MixBIdeal.main_arg0)
          ∧ r.2.mem ((c.tc : Thread Cert.MixBIdeal.nD Cert.MixBIdeal.τ).loc Cert.MixBIdeal.main_arg1) = m ((c.tc : Thread Cert.MixBIdeal.nD Cert.MixBIdeal.τ).loc Cert.MixBIdeal.main_arg1)
          ∧ r.2.mem ((c.tc : Thread Cert.MixBIdeal.nD Cert.MixBIdeal.τ).loc Cert.MixBIdeal.main_arg2) = m ((c.tc : Thread Cert.MixBIdeal.nD Cert.MixBIdeal.τ).loc Cert.MixBIdeal.main_arg2)
          ∧ r.2.mem ((c.tc : Thread Cert.MixBIdeal.nD Cert.MixBIdeal.τ).loc Cert.MixBIdeal.main_arg3) = m ((c.tc : Thread Cert.MixBIdeal.nD Cert.MixBIdeal.τ).loc Cert.MixBIdeal.main_arg3)
          ∧ r.2.mem ((c.tc : Thread Cert.MixBIdeal.nD Cert.MixBIdeal.τ).loc Cert.MixBIdeal.main_arg4) = m ((c.tc : Thread Cert.MixBIdeal.nD Cert.MixBIdeal.τ).loc Cert.MixBIdeal.main_arg4)
          ∧ r.2.mem ((c.tc : Thread Cert.MixBIdeal.nD Cert.MixBIdeal.τ).loc Cert.MixBIdeal.main_arg5) = m ((c.tc : Thread Cert.MixBIdeal.nD Cert.MixBIdeal.τ).loc Cert.MixBIdeal.main_arg5)
          ∧ r.2.mem ((c.tc : Thread Cert.MixBIdeal.nD Cert.MixBIdeal.τ).loc Cert.MixBIdeal.main_arg6) = m ((c.tc : Thread Cert.MixBIdeal.nD Cert.MixBIdeal.τ).loc Cert.MixBIdeal.main_arg6))
      ∧ θ_run (Cert.MixBRefIdeal.defs (F := Ideal)) (onTc (τ := Cert.MixBRefIdeal.τ) (Cert.MixBRefIdeal.main (F := Ideal))) ⟨m', fun _ => 0, g'⟩ (fun r => ∀ c : Dev Cert.MixBRefIdeal.nD,
          r.2.mem ((c.tc : Thread Cert.MixBRefIdeal.nD Cert.MixBRefIdeal.τ).loc Cert.MixBRefIdeal.main_v197) = v0 c
          ∧ r.2.mem ((c.tc : Thread Cert.MixBRefIdeal.nD Cert.MixBRefIdeal.τ).loc Cert.MixBRefIdeal.main_v148) = v1 c
          ∧ r.2.mem ((c.tc : Thread Cert.MixBRefIdeal.nD Cert.MixBRefIdeal.τ).loc Cert.MixBRefIdeal.main_v199) = v2 c
          ∧ r.2.mem ((c.tc : Thread Cert.MixBRefIdeal.nD Cert.MixBRefIdeal.τ).loc Cert.MixBRefIdeal.main_v200) = v3 c
          ∧ r.2.mem ((c.tc : Thread Cert.MixBRefIdeal.nD Cert.MixBRefIdeal.τ).loc Cert.MixBRefIdeal.main_v201) = v4 c
          ∧ r.2.mem ((c.tc : Thread Cert.MixBRefIdeal.nD Cert.MixBRefIdeal.τ).loc Cert.MixBRefIdeal.main_v135) = v5 c
          ∧ r.2.mem ((c.tc : Thread Cert.MixBRefIdeal.nD Cert.MixBRefIdeal.τ).loc Cert.MixBRefIdeal.main_arg0) = m' ((c.tc : Thread Cert.MixBRefIdeal.nD Cert.MixBRefIdeal.τ).loc Cert.MixBRefIdeal.main_arg0)
          ∧ r.2.mem ((c.tc : Thread Cert.MixBRefIdeal.nD Cert.MixBRefIdeal.τ).loc Cert.MixBRefIdeal.main_arg1) = m' ((c.tc : Thread Cert.MixBRefIdeal.nD Cert.MixBRefIdeal.τ).loc Cert.MixBRefIdeal.main_arg1)
          ∧ r.2.mem ((c.tc : Thread Cert.MixBRefIdeal.nD Cert.MixBRefIdeal.τ).loc Cert.MixBRefIdeal.main_arg2) = m' ((c.tc : Thread Cert.MixBRefIdeal.nD Cert.MixBRefIdeal.τ).loc Cert.MixBRefIdeal.main_arg2)
          ∧ r.2.mem ((c.tc : Thread Cert.MixBRefIdeal.nD Cert.MixBRefIdeal.τ).loc Cert.MixBRefIdeal.main_arg3) = m' ((c.tc : Thread Cert.MixBRefIdeal.nD Cert.MixBRefIdeal.τ).loc Cert.MixBRefIdeal.main_arg3)
          ∧ r.2.mem ((c.tc : Thread Cert.MixBRefIdeal.nD Cert.MixBRefIdeal.τ).loc Cert.MixBRefIdeal.main_arg4) = m' ((c.tc : Thread Cert.MixBRefIdeal.nD Cert.MixBRefIdeal.τ).loc Cert.MixBRefIdeal.main_arg4)
          ∧ r.2.mem ((c.tc : Thread Cert.MixBRefIdeal.nD Cert.MixBRefIdeal.τ).loc Cert.MixBRefIdeal.main_arg5) = m' ((c.tc : Thread Cert.MixBRefIdeal.nD Cert.MixBRefIdeal.τ).loc Cert.MixBRefIdeal.main_arg5)
          ∧ r.2.mem ((c.tc : Thread Cert.MixBRefIdeal.nD Cert.MixBRefIdeal.τ).loc Cert.MixBRefIdeal.main_arg6) = m' ((c.tc : Thread Cert.MixBRefIdeal.nD Cert.MixBRefIdeal.τ).loc Cert.MixBRefIdeal.main_arg6))

def preserves_MixA_MixAIdeal : Prop :=
  IdealRules.named_const.Statement Cert.MixAIdeal.κ "mask" .f32 0xF149F2CA#32 ⊥

def algebraic_MixAIdeal_MixARefIdeal_pre_finite_heads_a [hMixAIdeal : Cert.MixAIdeal.Facts] [hMixARefIdeal : Cert.MixARefIdeal.Facts] [hPre_finite_heads_a : Cert.Pre_finite_heads_a.Facts] : Prop :=
  ∀ (m : (ℓ : Loc Cert.MixAIdeal.nD Cert.MixAIdeal.τ Cert.MixAIdeal.sig) → Buf (Elt Ideal) ℓ) (g : Dev Cert.MixAIdeal.nD → PrngReg)
    (m' : (ℓ : Loc Cert.MixARefIdeal.nD Cert.MixARefIdeal.τ Cert.MixARefIdeal.sig) → Buf (Elt Ideal) ℓ) (g' : Dev Cert.MixARefIdeal.nD → PrngReg), Pre_MixAIdeal_finite_heads_a m →
    (∀ c : Dev Cert.MixAIdeal.nD,
      m' ((c.tc : Thread Cert.MixARefIdeal.nD Cert.MixARefIdeal.τ).loc Cert.MixARefIdeal.main_arg0) = m ((c.tc : Thread Cert.MixAIdeal.nD Cert.MixAIdeal.τ).loc Cert.MixAIdeal.main_arg0)
      ∧ m' ((c.tc : Thread Cert.MixARefIdeal.nD Cert.MixARefIdeal.τ).loc Cert.MixARefIdeal.main_arg1) = m ((c.tc : Thread Cert.MixAIdeal.nD Cert.MixAIdeal.τ).loc Cert.MixAIdeal.main_arg1)
      ∧ m' ((c.tc : Thread Cert.MixARefIdeal.nD Cert.MixARefIdeal.τ).loc Cert.MixARefIdeal.main_arg2) = m ((c.tc : Thread Cert.MixAIdeal.nD Cert.MixAIdeal.τ).loc Cert.MixAIdeal.main_arg2)
      ∧ m' ((c.tc : Thread Cert.MixARefIdeal.nD Cert.MixARefIdeal.τ).loc Cert.MixARefIdeal.main_arg3) = m ((c.tc : Thread Cert.MixAIdeal.nD Cert.MixAIdeal.τ).loc Cert.MixAIdeal.main_arg3)) →
    ∃ (v0 : (c : Dev Cert.MixAIdeal.nD) → Buf (Elt Ideal) ((c.tc : Thread Cert.MixAIdeal.nD Cert.MixAIdeal.τ).loc Cert.MixAIdeal.main_v5_0)) (v1 : (c : Dev Cert.MixAIdeal.nD) → Buf (Elt Ideal) ((c.tc : Thread Cert.MixAIdeal.nD Cert.MixAIdeal.τ).loc Cert.MixAIdeal.main_v5_1)) (v2 : (c : Dev Cert.MixAIdeal.nD) → Buf (Elt Ideal) ((c.tc : Thread Cert.MixAIdeal.nD Cert.MixAIdeal.τ).loc Cert.MixAIdeal.main_v5_2)),
      θ_run (Cert.MixAIdeal.defs (F := Ideal)) (onTc (τ := Cert.MixAIdeal.τ) (Cert.MixAIdeal.main (F := Ideal))) ⟨m, fun _ => 0, g⟩ (fun r => ∀ c : Dev Cert.MixAIdeal.nD,
          r.2.mem ((c.tc : Thread Cert.MixAIdeal.nD Cert.MixAIdeal.τ).loc Cert.MixAIdeal.main_v5_0) = v0 c
          ∧ r.2.mem ((c.tc : Thread Cert.MixAIdeal.nD Cert.MixAIdeal.τ).loc Cert.MixAIdeal.main_v5_1) = v1 c
          ∧ r.2.mem ((c.tc : Thread Cert.MixAIdeal.nD Cert.MixAIdeal.τ).loc Cert.MixAIdeal.main_v5_2) = v2 c
          ∧ r.2.mem ((c.tc : Thread Cert.MixAIdeal.nD Cert.MixAIdeal.τ).loc Cert.MixAIdeal.main_arg0) = m ((c.tc : Thread Cert.MixAIdeal.nD Cert.MixAIdeal.τ).loc Cert.MixAIdeal.main_arg0)
          ∧ r.2.mem ((c.tc : Thread Cert.MixAIdeal.nD Cert.MixAIdeal.τ).loc Cert.MixAIdeal.main_arg1) = m ((c.tc : Thread Cert.MixAIdeal.nD Cert.MixAIdeal.τ).loc Cert.MixAIdeal.main_arg1)
          ∧ r.2.mem ((c.tc : Thread Cert.MixAIdeal.nD Cert.MixAIdeal.τ).loc Cert.MixAIdeal.main_arg2) = m ((c.tc : Thread Cert.MixAIdeal.nD Cert.MixAIdeal.τ).loc Cert.MixAIdeal.main_arg2)
          ∧ r.2.mem ((c.tc : Thread Cert.MixAIdeal.nD Cert.MixAIdeal.τ).loc Cert.MixAIdeal.main_arg3) = m ((c.tc : Thread Cert.MixAIdeal.nD Cert.MixAIdeal.τ).loc Cert.MixAIdeal.main_arg3))
      ∧ θ_run (Cert.MixARefIdeal.defs (F := Ideal)) (onTc (τ := Cert.MixARefIdeal.τ) (Cert.MixARefIdeal.main (F := Ideal))) ⟨m', fun _ => 0, g'⟩ (fun r => ∀ c : Dev Cert.MixARefIdeal.nD,
          r.2.mem ((c.tc : Thread Cert.MixARefIdeal.nD Cert.MixARefIdeal.τ).loc Cert.MixARefIdeal.main_v238) = v0 c
          ∧ r.2.mem ((c.tc : Thread Cert.MixARefIdeal.nD Cert.MixARefIdeal.τ).loc Cert.MixARefIdeal.main_v237) = v1 c
          ∧ r.2.mem ((c.tc : Thread Cert.MixARefIdeal.nD Cert.MixARefIdeal.τ).loc Cert.MixARefIdeal.main_v169) = v2 c
          ∧ r.2.mem ((c.tc : Thread Cert.MixARefIdeal.nD Cert.MixARefIdeal.τ).loc Cert.MixARefIdeal.main_arg0) = m' ((c.tc : Thread Cert.MixARefIdeal.nD Cert.MixARefIdeal.τ).loc Cert.MixARefIdeal.main_arg0)
          ∧ r.2.mem ((c.tc : Thread Cert.MixARefIdeal.nD Cert.MixARefIdeal.τ).loc Cert.MixARefIdeal.main_arg1) = m' ((c.tc : Thread Cert.MixARefIdeal.nD Cert.MixARefIdeal.τ).loc Cert.MixARefIdeal.main_arg1)
          ∧ r.2.mem ((c.tc : Thread Cert.MixARefIdeal.nD Cert.MixARefIdeal.τ).loc Cert.MixARefIdeal.main_arg2) = m' ((c.tc : Thread Cert.MixARefIdeal.nD Cert.MixARefIdeal.τ).loc Cert.MixARefIdeal.main_arg2)
          ∧ r.2.mem ((c.tc : Thread Cert.MixARefIdeal.nD Cert.MixARefIdeal.τ).loc Cert.MixARefIdeal.main_arg3) = m' ((c.tc : Thread Cert.MixARefIdeal.nD Cert.MixARefIdeal.τ).loc Cert.MixARefIdeal.main_arg3))

def preserves_GateUp_GateUpIdeal : Prop :=
  True

def algebraic_GateUpIdeal_GateUpRefIdeal_pre_finite_gate_up [hGateUpIdeal : Cert.GateUpIdeal.Facts] [hGateUpRefIdeal : Cert.GateUpRefIdeal.Facts] [hPre_finite_gate_up : Cert.Pre_finite_gate_up.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal_finite_gate_up m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v5_0)) (v1 : (c : Dev Cert.GateUpIdeal.nD) → Buf (Elt Ideal) ((c.tc : Thread Cert.GateUpIdeal.nD Cert.GateUpIdeal.τ).loc Cert.GateUpIdeal.main_v5_1)) (v2 : (c : Dev Cert.GateUpIdeal.nD) → Buf (Elt Ideal) ((c.tc : Thread Cert.GateUpIdeal.nD Cert.GateUpIdeal.τ).loc Cert.GateUpIdeal.main_v5_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v5_0) = v0 c
          ∧ r.2.mem ((c.tc : Thread Cert.GateUpIdeal.nD Cert.GateUpIdeal.τ).loc Cert.GateUpIdeal.main_v5_1) = v1 c
          ∧ r.2.mem ((c.tc : Thread Cert.GateUpIdeal.nD Cert.GateUpIdeal.τ).loc Cert.GateUpIdeal.main_v5_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v21) = v0 c
          ∧ r.2.mem ((c.tc : Thread Cert.GateUpRefIdeal.nD Cert.GateUpRefIdeal.τ).loc Cert.GateUpRefIdeal.main_v29) = v1 c
          ∧ r.2.mem ((c.tc : Thread Cert.GateUpRefIdeal.nD Cert.GateUpRefIdeal.τ).loc Cert.GateUpRefIdeal.main_v30) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_MixBFwd_MixBFwdIdeal : Prop :=
  True

def algebraic_MixBFwdIdeal_MixBFwdRefIdeal_pre_finite_mem [hMixBFwdIdeal : Cert.MixBFwdIdeal.Facts] [hMixBFwdRefIdeal : Cert.MixBFwdRefIdeal.Facts] [hPre_finite_mem : Cert.Pre_finite_mem.Facts] : Prop :=
  ∀ (m : (ℓ : Loc Cert.MixBFwdIdeal.nD Cert.MixBFwdIdeal.τ Cert.MixBFwdIdeal.sig) → Buf (Elt Ideal) ℓ) (g : Dev Cert.MixBFwdIdeal.nD → PrngReg)
    (m' : (ℓ : Loc Cert.MixBFwdRefIdeal.nD Cert.MixBFwdRefIdeal.τ Cert.MixBFwdRefIdeal.sig) → Buf (Elt Ideal) ℓ) (g' : Dev Cert.MixBFwdRefIdeal.nD → PrngReg), Pre_MixBFwdIdeal_finite_mem m →
    (∀ c : Dev Cert.MixBFwdIdeal.nD,
      m' ((c.tc : Thread Cert.MixBFwdRefIdeal.nD Cert.MixBFwdRefIdeal.τ).loc Cert.MixBFwdRefIdeal.main_arg0) = m ((c.tc : Thread Cert.MixBFwdIdeal.nD Cert.MixBFwdIdeal.τ).loc Cert.MixBFwdIdeal.main_arg0)
      ∧ m' ((c.tc : Thread Cert.MixBFwdRefIdeal.nD Cert.MixBFwdRefIdeal.τ).loc Cert.MixBFwdRefIdeal.main_arg1) = m ((c.tc : Thread Cert.MixBFwdIdeal.nD Cert.MixBFwdIdeal.τ).loc Cert.MixBFwdIdeal.main_arg1)
      ∧ m' ((c.tc : Thread Cert.MixBFwdRefIdeal.nD Cert.MixBFwdRefIdeal.τ).loc Cert.MixBFwdRefIdeal.main_arg2) = m ((c.tc : Thread Cert.MixBFwdIdeal.nD Cert.MixBFwdIdeal.τ).loc Cert.MixBFwdIdeal.main_arg2)
      ∧ m' ((c.tc : Thread Cert.MixBFwdRefIdeal.nD Cert.MixBFwdRefIdeal.τ).loc Cert.MixBFwdRefIdeal.main_arg3) = m ((c.tc : Thread Cert.MixBFwdIdeal.nD Cert.MixBFwdIdeal.τ).loc Cert.MixBFwdIdeal.main_arg3)
      ∧ m' ((c.tc : Thread Cert.MixBFwdRefIdeal.nD Cert.MixBFwdRefIdeal.τ).loc Cert.MixBFwdRefIdeal.main_arg4) = m ((c.tc : Thread Cert.MixBFwdIdeal.nD Cert.MixBFwdIdeal.τ).loc Cert.MixBFwdIdeal.main_arg4)
      ∧ m' ((c.tc : Thread Cert.MixBFwdRefIdeal.nD Cert.MixBFwdRefIdeal.τ).loc Cert.MixBFwdRefIdeal.main_arg5) = m ((c.tc : Thread Cert.MixBFwdIdeal.nD Cert.MixBFwdIdeal.τ).loc Cert.MixBFwdIdeal.main_arg5)) →
    ∃ (v0 : (c : Dev Cert.MixBFwdIdeal.nD) → Buf (Elt Ideal) ((c.tc : Thread Cert.MixBFwdIdeal.nD Cert.MixBFwdIdeal.τ).loc Cert.MixBFwdIdeal.main_v6)),
      θ_run (Cert.MixBFwdIdeal.defs (F := Ideal)) (onTc (τ := Cert.MixBFwdIdeal.τ) (Cert.MixBFwdIdeal.main (F := Ideal))) ⟨m, fun _ => 0, g⟩ (fun r => ∀ c : Dev Cert.MixBFwdIdeal.nD,
          r.2.mem ((c.tc : Thread Cert.MixBFwdIdeal.nD Cert.MixBFwdIdeal.τ).loc Cert.MixBFwdIdeal.main_v6) = v0 c
          ∧ r.2.mem ((c.tc : Thread Cert.MixBFwdIdeal.nD Cert.MixBFwdIdeal.τ).loc Cert.MixBFwdIdeal.main_arg0) = m ((c.tc : Thread Cert.MixBFwdIdeal.nD Cert.MixBFwdIdeal.τ).loc Cert.MixBFwdIdeal.main_arg0)
          ∧ r.2.mem ((c.tc : Thread Cert.MixBFwdIdeal.nD Cert.MixBFwdIdeal.τ).loc Cert.MixBFwdIdeal.main_arg1) = m ((c.tc : Thread Cert.MixBFwdIdeal.nD Cert.MixBFwdIdeal.τ).loc Cert.MixBFwdIdeal.main_arg1)
          ∧ r.2.mem ((c.tc : Thread Cert.MixBFwdIdeal.nD Cert.MixBFwdIdeal.τ).loc Cert.MixBFwdIdeal.main_arg2) = m ((c.tc : Thread Cert.MixBFwdIdeal.nD Cert.MixBFwdIdeal.τ).loc Cert.MixBFwdIdeal.main_arg2)
          ∧ r.2.mem ((c.tc : Thread Cert.MixBFwdIdeal.nD Cert.MixBFwdIdeal.τ).loc Cert.MixBFwdIdeal.main_arg3) = m ((c.tc : Thread Cert.MixBFwdIdeal.nD Cert.MixBFwdIdeal.τ).loc Cert.MixBFwdIdeal.main_arg3)
          ∧ r.2.mem ((c.tc : Thread Cert.MixBFwdIdeal.nD Cert.MixBFwdIdeal.τ).loc Cert.MixBFwdIdeal.main_arg4) = m ((c.tc : Thread Cert.MixBFwdIdeal.nD Cert.MixBFwdIdeal.τ).loc Cert.MixBFwdIdeal.main_arg4)
          ∧ r.2.mem ((c.tc : Thread Cert.MixBFwdIdeal.nD Cert.MixBFwdIdeal.τ).loc Cert.MixBFwdIdeal.main_arg5) = m ((c.tc : Thread Cert.MixBFwdIdeal.nD Cert.MixBFwdIdeal.τ).loc Cert.MixBFwdIdeal.main_arg5))
      ∧ θ_run (Cert.MixBFwdRefIdeal.defs (F := Ideal)) (onTc (τ := Cert.MixBFwdRefIdeal.τ) (Cert.MixBFwdRefIdeal.main (F := Ideal))) ⟨m', fun _ => 0, g'⟩ (fun r => ∀ c : Dev Cert.MixBFwdRefIdeal.nD,
          r.2.mem ((c.tc : Thread Cert.MixBFwdRefIdeal.nD Cert.MixBFwdRefIdeal.τ).loc Cert.MixBFwdRefIdeal.main_v78) = v0 c
          ∧ r.2.mem ((c.tc : Thread Cert.MixBFwdRefIdeal.nD Cert.MixBFwdRefIdeal.τ).loc Cert.MixBFwdRefIdeal.main_arg0) = m' ((c.tc : Thread Cert.MixBFwdRefIdeal.nD Cert.MixBFwdRefIdeal.τ).loc Cert.MixBFwdRefIdeal.main_arg0)
          ∧ r.2.mem ((c.tc : Thread Cert.MixBFwdRefIdeal.nD Cert.MixBFwdRefIdeal.τ).loc Cert.MixBFwdRefIdeal.main_arg1) = m' ((c.tc : Thread Cert.MixBFwdRefIdeal.nD Cert.MixBFwdRefIdeal.τ).loc Cert.MixBFwdRefIdeal.main_arg1)
          ∧ r.2.mem ((c.tc : Thread Cert.MixBFwdRefIdeal.nD Cert.MixBFwdRefIdeal.τ).loc Cert.MixBFwdRefIdeal.main_arg2) = m' ((c.tc : Thread Cert.MixBFwdRefIdeal.nD Cert.MixBFwdRefIdeal.τ).loc Cert.MixBFwdRefIdeal.main_arg2)
          ∧ r.2.mem ((c.tc : Thread Cert.MixBFwdRefIdeal.nD Cert.MixBFwdRefIdeal.τ).loc Cert.MixBFwdRefIdeal.main_arg3) = m' ((c.tc : Thread Cert.MixBFwdRefIdeal.nD Cert.MixBFwdRefIdeal.τ).loc Cert.MixBFwdRefIdeal.main_arg3)
          ∧ r.2.mem ((c.tc : Thread Cert.MixBFwdRefIdeal.nD Cert.MixBFwdRefIdeal.τ).loc Cert.MixBFwdRefIdeal.main_arg4) = m' ((c.tc : Thread Cert.MixBFwdRefIdeal.nD Cert.MixBFwdRefIdeal.τ).loc Cert.MixBFwdRefIdeal.main_arg4)
          ∧ r.2.mem ((c.tc : Thread Cert.MixBFwdRefIdeal.nD Cert.MixBFwdRefIdeal.τ).loc Cert.MixBFwdRefIdeal.main_arg5) = m' ((c.tc : Thread Cert.MixBFwdRefIdeal.nD Cert.MixBFwdRefIdeal.τ).loc Cert.MixBFwdRefIdeal.main_arg5))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_MixAFwd_MixAFwdIdeal : Prop :=
  IdealRules.named_const.Statement Cert.MixAFwdIdeal.κ "mask" .f32 0xF149F2CA#32 ⊥

def algebraic_MixAFwdIdeal_MixAFwdRefIdeal_pre_finite_win [hMixAFwdIdeal : Cert.MixAFwdIdeal.Facts] [hMixAFwdRefIdeal : Cert.MixAFwdRefIdeal.Facts] [hPre_finite_win : Cert.Pre_finite_win.Facts] : Prop :=
  ∀ (m : (ℓ : Loc Cert.MixAFwdIdeal.nD Cert.MixAFwdIdeal.τ Cert.MixAFwdIdeal.sig) → Buf (Elt Ideal) ℓ) (g : Dev Cert.MixAFwdIdeal.nD → PrngReg)
    (m' : (ℓ : Loc Cert.MixAFwdRefIdeal.nD Cert.MixAFwdRefIdeal.τ Cert.MixAFwdRefIdeal.sig) → Buf (Elt Ideal) ℓ) (g' : Dev Cert.MixAFwdRefIdeal.nD → PrngReg), Pre_MixAFwdIdeal_finite_win m →
    (∀ c : Dev Cert.MixAFwdIdeal.nD,
      m' ((c.tc : Thread Cert.MixAFwdRefIdeal.nD Cert.MixAFwdRefIdeal.τ).loc Cert.MixAFwdRefIdeal.main_arg0) = m ((c.tc : Thread Cert.MixAFwdIdeal.nD Cert.MixAFwdIdeal.τ).loc Cert.MixAFwdIdeal.main_arg0)
      ∧ m' ((c.tc : Thread Cert.MixAFwdRefIdeal.nD Cert.MixAFwdRefIdeal.τ).loc Cert.MixAFwdRefIdeal.main_arg1) = m ((c.tc : Thread Cert.MixAFwdIdeal.nD Cert.MixAFwdIdeal.τ).loc Cert.MixAFwdIdeal.main_arg1)
      ∧ m' ((c.tc : Thread Cert.MixAFwdRefIdeal.nD Cert.MixAFwdRefIdeal.τ).loc Cert.MixAFwdRefIdeal.main_arg2) = m ((c.tc : Thread Cert.MixAFwdIdeal.nD Cert.MixAFwdIdeal.τ).loc Cert.MixAFwdIdeal.main_arg2)) →
    ∃ (v0 : (c : Dev Cert.MixAFwdIdeal.nD) → Buf (Elt Ideal) ((c.tc : Thread Cert.MixAFwdIdeal.nD Cert.MixAFwdIdeal.τ).loc Cert.MixAFwdIdeal.main_v5)),
      θ_run (Cert.MixAFwdIdeal.defs (F := Ideal)) (onTc (τ := Cert.MixAFwdIdeal.τ) (Cert.MixAFwdIdeal.main (F := Ideal))) ⟨m, fun _ => 0, g⟩ (fun r => ∀ c : Dev Cert.MixAFwdIdeal.nD,
          r.2.mem ((c.tc : Thread Cert.MixAFwdIdeal.nD Cert.MixAFwdIdeal.τ).loc Cert.MixAFwdIdeal.main_v5) = v0 c
          ∧ r.2.mem ((c.tc : Thread Cert.MixAFwdIdeal.nD Cert.MixAFwdIdeal.τ).loc Cert.MixAFwdIdeal.main_arg0) = m ((c.tc : Thread Cert.MixAFwdIdeal.nD Cert.MixAFwdIdeal.τ).loc Cert.MixAFwdIdeal.main_arg0)
          ∧ r.2.mem ((c.tc : Thread Cert.MixAFwdIdeal.nD Cert.MixAFwdIdeal.τ).loc Cert.MixAFwdIdeal.main_arg1) = m ((c.tc : Thread Cert.MixAFwdIdeal.nD Cert.MixAFwdIdeal.τ).loc Cert.MixAFwdIdeal.main_arg1)
          ∧ r.2.mem ((c.tc : Thread Cert.MixAFwdIdeal.nD Cert.MixAFwdIdeal.τ).loc Cert.MixAFwdIdeal.main_arg2) = m ((c.tc : Thread Cert.MixAFwdIdeal.nD Cert.MixAFwdIdeal.τ).loc Cert.MixAFwdIdeal.main_arg2))
      ∧ θ_run (Cert.MixAFwdRefIdeal.defs (F := Ideal)) (onTc (τ := Cert.MixAFwdRefIdeal.τ) (Cert.MixAFwdRefIdeal.main (F := Ideal))) ⟨m', fun _ => 0, g'⟩ (fun r => ∀ c : Dev Cert.MixAFwdRefIdeal.nD,
          r.2.mem ((c.tc : Thread Cert.MixAFwdRefIdeal.nD Cert.MixAFwdRefIdeal.τ).loc Cert.MixAFwdRefIdeal.main_v97) = v0 c
          ∧ r.2.mem ((c.tc : Thread Cert.MixAFwdRefIdeal.nD Cert.MixAFwdRefIdeal.τ).loc Cert.MixAFwdRefIdeal.main_arg0) = m' ((c.tc : Thread Cert.MixAFwdRefIdeal.nD Cert.MixAFwdRefIdeal.τ).loc Cert.MixAFwdRefIdeal.main_arg0)
          ∧ r.2.mem ((c.tc : Thread Cert.MixAFwdRefIdeal.nD Cert.MixAFwdRefIdeal.τ).loc Cert.MixAFwdRefIdeal.main_arg1) = m' ((c.tc : Thread Cert.MixAFwdRefIdeal.nD Cert.MixAFwdRefIdeal.τ).loc Cert.MixAFwdRefIdeal.main_arg1)
          ∧ r.2.mem ((c.tc : Thread Cert.MixAFwdRefIdeal.nD Cert.MixAFwdRefIdeal.τ).loc Cert.MixAFwdRefIdeal.main_arg2) = m' ((c.tc : Thread Cert.MixAFwdRefIdeal.nD Cert.MixAFwdRefIdeal.τ).loc Cert.MixAFwdRefIdeal.main_arg2))

def preserves_BIn_BInIdeal : Prop :=
  True

def algebraic_BInIdeal_BInRefIdeal [hBInIdeal : Cert.BInIdeal.Facts] [hBInRefIdeal : Cert.BInRefIdeal.Facts] : Prop :=
  ∀ (m : (ℓ : Loc Cert.BInIdeal.nD Cert.BInIdeal.τ Cert.BInIdeal.sig) → Buf (Elt Ideal) ℓ) (g : Dev Cert.BInIdeal.nD → PrngReg)
    (m' : (ℓ : Loc Cert.BInRefIdeal.nD Cert.BInRefIdeal.τ Cert.BInRefIdeal.sig) → Buf (Elt Ideal) ℓ) (g' : Dev Cert.BInRefIdeal.nD → PrngReg), Pre_BInIdeal m →
    (∀ c : Dev Cert.BInIdeal.nD,
      m' ((c.tc : Thread Cert.BInRefIdeal.nD Cert.BInRefIdeal.τ).loc Cert.BInRefIdeal.main_arg0) = m ((c.tc : Thread Cert.BInIdeal.nD Cert.BInIdeal.τ).loc Cert.BInIdeal.main_arg0)
      ∧ m' ((c.tc : Thread Cert.BInRefIdeal.nD Cert.BInRefIdeal.τ).loc Cert.BInRefIdeal.main_arg1) = m ((c.tc : Thread Cert.BInIdeal.nD Cert.BInIdeal.τ).loc Cert.BInIdeal.main_arg1)
      ∧ m' ((c.tc : Thread Cert.BInRefIdeal.nD Cert.BInRefIdeal.τ).loc Cert.BInRefIdeal.main_arg2) = m ((c.tc : Thread Cert.BInIdeal.nD Cert.BInIdeal.τ).loc Cert.BInIdeal.main_arg2)) →
    ∃ (v0 : (c : Dev Cert.BInIdeal.nD) → Buf (Elt Ideal) ((c.tc : Thread Cert.BInIdeal.nD Cert.BInIdeal.τ).loc Cert.BInIdeal.main_v5_0)) (v1 : (c : Dev Cert.BInIdeal.nD) → Buf (Elt Ideal) ((c.tc : Thread Cert.BInIdeal.nD Cert.BInIdeal.τ).loc Cert.BInIdeal.main_v5_1)),
      θ_run (Cert.BInIdeal.defs (F := Ideal)) (onTc (τ := Cert.BInIdeal.τ) (Cert.BInIdeal.main (F := Ideal))) ⟨m, fun _ => 0, g⟩ (fun r => ∀ c : Dev Cert.BInIdeal.nD,
          r.2.mem ((c.tc : Thread Cert.BInIdeal.nD Cert.BInIdeal.τ).loc Cert.BInIdeal.main_v5_0) = v0 c
          ∧ r.2.mem ((c.tc : Thread Cert.BInIdeal.nD Cert.BInIdeal.τ).loc Cert.BInIdeal.main_v5_1) = v1 c
          ∧ r.2.mem ((c.tc : Thread Cert.BInIdeal.nD Cert.BInIdeal.τ).loc Cert.BInIdeal.main_arg0) = m ((c.tc : Thread Cert.BInIdeal.nD Cert.BInIdeal.τ).loc Cert.BInIdeal.main_arg0)
          ∧ r.2.mem ((c.tc : Thread Cert.BInIdeal.nD Cert.BInIdeal.τ).loc Cert.BInIdeal.main_arg1) = m ((c.tc : Thread Cert.BInIdeal.nD Cert.BInIdeal.τ).loc Cert.BInIdeal.main_arg1)
          ∧ r.2.mem ((c.tc : Thread Cert.BInIdeal.nD Cert.BInIdeal.τ).loc Cert.BInIdeal.main_arg2) = m ((c.tc : Thread Cert.BInIdeal.nD Cert.BInIdeal.τ).loc Cert.BInIdeal.main_arg2))
      ∧ θ_run (Cert.BInRefIdeal.defs (F := Ideal)) (onTc (τ := Cert.BInRefIdeal.τ) (Cert.BInRefIdeal.main (F := Ideal))) ⟨m', fun _ => 0, g'⟩ (fun r => ∀ c : Dev Cert.BInRefIdeal.nD,
          r.2.mem ((c.tc : Thread Cert.BInRefIdeal.nD Cert.BInRefIdeal.τ).loc Cert.BInRefIdeal.main_v13) = v0 c
          ∧ r.2.mem ((c.tc : Thread Cert.BInRefIdeal.nD Cert.BInRefIdeal.τ).loc Cert.BInRefIdeal.main_v15) = v1 c
          ∧ r.2.mem ((c.tc : Thread Cert.BInRefIdeal.nD Cert.BInRefIdeal.τ).loc Cert.BInRefIdeal.main_arg0) = m' ((c.tc : Thread Cert.BInRefIdeal.nD Cert.BInRefIdeal.τ).loc Cert.BInRefIdeal.main_arg0)
          ∧ r.2.mem ((c.tc : Thread Cert.BInRefIdeal.nD Cert.BInRefIdeal.τ).loc Cert.BInRefIdeal.main_arg1) = m' ((c.tc : Thread Cert.BInRefIdeal.nD Cert.BInRefIdeal.τ).loc Cert.BInRefIdeal.main_arg1)
          ∧ r.2.mem ((c.tc : Thread Cert.BInRefIdeal.nD Cert.BInRefIdeal.τ).loc Cert.BInRefIdeal.main_arg2) = m' ((c.tc : Thread Cert.BInRefIdeal.nD Cert.BInRefIdeal.τ).loc Cert.BInRefIdeal.main_arg2))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)
      ∧ m' ((c.tc : Thread Cert.AInRefIdeal.nD Cert.AInRefIdeal.τ).loc Cert.AInRefIdeal.main_arg2) = m ((c.tc : Thread Cert.AInIdeal.nD Cert.AInIdeal.τ).loc Cert.AInIdeal.main_arg2)) →
    ∃ (v0 : (c : Dev Cert.AInIdeal.nD) → Buf (Elt Ideal) ((c.tc : Thread Cert.AInIdeal.nD Cert.AInIdeal.τ).loc Cert.AInIdeal.main_v5_0)) (v1 : (c : Dev Cert.AInIdeal.nD) → Buf (Elt Ideal) ((c.tc : Thread Cert.AInIdeal.nD Cert.AInIdeal.τ).loc Cert.AInIdeal.main_v5_1)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v5_0) = v0 c
          ∧ r.2.mem ((c.tc : Thread Cert.AInIdeal.nD Cert.AInIdeal.τ).loc Cert.AInIdeal.main_v5_1) = v1 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
          ∧ r.2.mem ((c.tc : Thread Cert.AInIdeal.nD Cert.AInIdeal.τ).loc Cert.AInIdeal.main_arg2) = m ((c.tc : Thread Cert.AInIdeal.nD Cert.AInIdeal.τ).loc Cert.AInIdeal.main_arg2))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v13) = v0 c
          ∧ r.2.mem ((c.tc : Thread Cert.AInRefIdeal.nD Cert.AInRefIdeal.τ).loc Cert.AInRefIdeal.main_v15) = v1 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1)
          ∧ r.2.mem ((c.tc : Thread Cert.AInRefIdeal.nD Cert.AInRefIdeal.τ).loc Cert.AInRefIdeal.main_arg2) = m' ((c.tc : Thread Cert.AInRefIdeal.nD Cert.AInRefIdeal.τ).loc Cert.AInRefIdeal.main_arg2))

def Claim : Prop :=
  ∃ (hMemNorm : Cert.MemNorm.Facts) (hMemNormIdeal : Cert.MemNormIdeal.Facts) (hMemNormRefIdeal : Cert.MemNormRefIdeal.Facts) (hSwiglu : Cert.Swiglu.Facts) (hSwigluIdeal : Cert.SwigluIdeal.Facts) (hSwigluRefIdeal : Cert.SwigluRefIdeal.Facts) (hGateUpDx : Cert.GateUpDx.Facts) (hGateUpDxIdeal : Cert.GateUpDxIdeal.Facts) (hGateUpDxRefIdeal : Cert.GateUpDxRefIdeal.Facts) (hAInDx : Cert.AInDx.Facts) (hAInDxIdeal : Cert.AInDxIdeal.Facts) (hAInDxRefIdeal : Cert.AInDxRefIdeal.Facts) (hBInDx : Cert.BInDx.Facts) (hBInDxIdeal : Cert.BInDxIdeal.Facts) (hBInDxRefIdeal : Cert.BInDxRefIdeal.Facts) (hLossHead : Cert.LossHead.Facts) (hLossHeadIdeal : Cert.LossHeadIdeal.Facts) (hLossHeadRefIdeal : Cert.LossHeadRefIdeal.Facts) (hMixB : Cert.MixB.Facts) (hMixBIdeal : Cert.MixBIdeal.Facts) (hMixBRefIdeal : Cert.MixBRefIdeal.Facts) (hMixA : Cert.MixA.Facts) (hMixAIdeal : Cert.MixAIdeal.Facts) (hMixARefIdeal : Cert.MixARefIdeal.Facts) (hGateUp : Cert.GateUp.Facts) (hGateUpIdeal : Cert.GateUpIdeal.Facts) (hGateUpRefIdeal : Cert.GateUpRefIdeal.Facts) (hMixBFwd : Cert.MixBFwd.Facts) (hMixBFwdIdeal : Cert.MixBFwdIdeal.Facts) (hMixBFwdRefIdeal : Cert.MixBFwdRefIdeal.Facts) (hNormFwd : Cert.NormFwd.Facts) (hNormFwdIdeal : Cert.NormFwdIdeal.Facts) (hNormFwdRefIdeal : Cert.NormFwdRefIdeal.Facts) (hMixAFwd : Cert.MixAFwd.Facts) (hMixAFwdIdeal : Cert.MixAFwdIdeal.Facts) (hMixAFwdRefIdeal : Cert.MixAFwdRefIdeal.Facts) (hBIn : Cert.BIn.Facts) (hBInIdeal : Cert.BInIdeal.Facts) (hBInRefIdeal : Cert.BInRefIdeal.Facts) (hAIn : Cert.AIn.Facts) (hAInIdeal : Cert.AInIdeal.Facts) (hAInRefIdeal : Cert.AInRefIdeal.Facts) (hPre_finite_ffn : Cert.Pre_finite_ffn.Facts) (hPre_finite_heads_b : Cert.Pre_finite_heads_b.Facts) (hPre_finite_heads_a : Cert.Pre_finite_heads_a.Facts) (hPre_finite_gate_up : Cert.Pre_finite_gate_up.Facts) (hPre_finite_mem : Cert.Pre_finite_mem.Facts) (hPre_finite_win : Cert.Pre_finite_win.Facts),
    quiescent_MemNorm (hMemNorm := hMemNorm)
    ∧ quiescent_MemNormIdeal (hMemNormIdeal := hMemNormIdeal)
    ∧ quiescent_MemNormRefIdeal (hMemNormRefIdeal := hMemNormRefIdeal)
    ∧ quiescent_Swiglu (hSwiglu := hSwiglu)
    ∧ quiescent_SwigluIdeal (hSwigluIdeal := hSwigluIdeal)
    ∧ quiescent_SwigluIdeal_pre_finite_ffn (hSwigluIdeal := hSwigluIdeal) (hPre_finite_ffn := hPre_finite_ffn)
    ∧ quiescent_SwigluRefIdeal (hSwigluRefIdeal := hSwigluRefIdeal)
    ∧ quiescent_SwigluRefIdeal_pre_finite_ffn (hSwigluRefIdeal := hSwigluRefIdeal) (hPre_finite_ffn := hPre_finite_ffn)
    ∧ quiescent_GateUpDx (hGateUpDx := hGateUpDx)
    ∧ quiescent_GateUpDxIdeal (hGateUpDxIdeal := hGateUpDxIdeal)
    ∧ quiescent_GateUpDxRefIdeal (hGateUpDxRefIdeal := hGateUpDxRefIdeal)
    ∧ quiescent_AInDx (hAInDx := hAInDx)
    ∧ quiescent_AInDxIdeal (hAInDxIdeal := hAInDxIdeal)
    ∧ quiescent_AInDxRefIdeal (hAInDxRefIdeal := hAInDxRefIdeal)
    ∧ quiescent_BInDx (hBInDx := hBInDx)
    ∧ quiescent_BInDxIdeal (hBInDxIdeal := hBInDxIdeal)
    ∧ quiescent_BInDxRefIdeal (hBInDxRefIdeal := hBInDxRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_MixB (hMixB := hMixB)
    ∧ quiescent_MixBIdeal (hMixBIdeal := hMixBIdeal)
    ∧ quiescent_MixBIdeal_pre_finite_heads_b (hMixBIdeal := hMixBIdeal) (hPre_finite_heads_b := hPre_finite_heads_b)
    ∧ quiescent_MixBRefIdeal (hMixBRefIdeal := hMixBRefIdeal)
    ∧ quiescent_MixBRefIdeal_pre_finite_heads_b (hMixBRefIdeal := hMixBRefIdeal) (hPre_finite_heads_b := hPre_finite_heads_b)
    ∧ quiescent_MixA (hMixA := hMixA)
    ∧ quiescent_MixAIdeal (hMixAIdeal := hMixAIdeal)
    ∧ quiescent_MixAIdeal_pre_finite_heads_a (hMixAIdeal := hMixAIdeal) (hPre_finite_heads_a := hPre_finite_heads_a)
    ∧ quiescent_MixARefIdeal (hMixARefIdeal := hMixARefIdeal)
    ∧ quiescent_MixARefIdeal_pre_finite_heads_a (hMixARefIdeal := hMixARefIdeal) (hPre_finite_heads_a := hPre_finite_heads_a)
    ∧ quiescent_GateUp (hGateUp := hGateUp)
    ∧ quiescent_GateUpIdeal (hGateUpIdeal := hGateUpIdeal)
    ∧ quiescent_GateUpIdeal_pre_finite_gate_up (hGateUpIdeal := hGateUpIdeal) (hPre_finite_gate_up := hPre_finite_gate_up)
    ∧ quiescent_GateUpRefIdeal (hGateUpRefIdeal := hGateUpRefIdeal)
    ∧ quiescent_GateUpRefIdeal_pre_finite_gate_up (hGateUpRefIdeal := hGateUpRefIdeal) (hPre_finite_gate_up := hPre_finite_gate_up)
    ∧ quiescent_MixBFwd (hMixBFwd := hMixBFwd)
    ∧ quiescent_MixBFwdIdeal (hMixBFwdIdeal := hMixBFwdIdeal)
    ∧ quiescent_MixBFwdIdeal_pre_finite_mem (hMixBFwdIdeal := hMixBFwdIdeal) (hPre_finite_mem := hPre_finite_mem)
    ∧ quiescent_MixBFwdRefIdeal (hMixBFwdRefIdeal := hMixBFwdRefIdeal)
    ∧ quiescent_MixBFwdRefIdeal_pre_finite_mem (hMixBFwdRefIdeal := hMixBFwdRefIdeal) (hPre_finite_mem := hPre_finite_mem)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_MixAFwd (hMixAFwd := hMixAFwd)
    ∧ quiescent_MixAFwdIdeal (hMixAFwdIdeal := hMixAFwdIdeal)
    ∧ quiescent_MixAFwdIdeal_pre_finite_win (hMixAFwdIdeal := hMixAFwdIdeal) (hPre_finite_win := hPre_finite_win)
    ∧ quiescent_MixAFwdRefIdeal (hMixAFwdRefIdeal := hMixAFwdRefIdeal)
    ∧ quiescent_MixAFwdRefIdeal_pre_finite_win (hMixAFwdRefIdeal := hMixAFwdRefIdeal) (hPre_finite_win := hPre_finite_win)
    ∧ quiescent_BIn (hBIn := hBIn)
    ∧ quiescent_BInIdeal (hBInIdeal := hBInIdeal)
    ∧ quiescent_BInRefIdeal (hBInRefIdeal := hBInRefIdeal)
    ∧ quiescent_AIn (hAIn := hAIn)
    ∧ quiescent_AInIdeal (hAInIdeal := hAInIdeal)
    ∧ quiescent_AInRefIdeal (hAInRefIdeal := hAInRefIdeal)
    ∧ preserves_MemNorm_MemNormIdeal
    ∧ algebraic_MemNormIdeal_MemNormRefIdeal (hMemNormIdeal := hMemNormIdeal) (hMemNormRefIdeal := hMemNormRefIdeal)
    ∧ preserves_Swiglu_SwigluIdeal
    ∧ algebraic_SwigluIdeal_SwigluRefIdeal_pre_finite_ffn (hSwigluIdeal := hSwigluIdeal) (hSwigluRefIdeal := hSwigluRefIdeal) (hPre_finite_ffn := hPre_finite_ffn)
    ∧ preserves_GateUpDx_GateUpDxIdeal
    ∧ algebraic_GateUpDxIdeal_GateUpDxRefIdeal (hGateUpDxIdeal := hGateUpDxIdeal) (hGateUpDxRefIdeal := hGateUpDxRefIdeal)
    ∧ preserves_AInDx_AInDxIdeal
    ∧ algebraic_AInDxIdeal_AInDxRefIdeal (hAInDxIdeal := hAInDxIdeal) (hAInDxRefIdeal := hAInDxRefIdeal)
    ∧ preserves_BInDx_BInDxIdeal
    ∧ algebraic_BInDxIdeal_BInDxRefIdeal (hBInDxIdeal := hBInDxIdeal) (hBInDxRefIdeal := hBInDxRefIdeal)
    ∧ preserves_LossHead_LossHeadIdeal
    ∧ algebraic_LossHeadIdeal_LossHeadRefIdeal (hLossHeadIdeal := hLossHeadIdeal) (hLossHeadRefIdeal := hLossHeadRefIdeal)
    ∧ preserves_MixB_MixBIdeal
    ∧ algebraic_MixBIdeal_MixBRefIdeal_pre_finite_heads_b (hMixBIdeal := hMixBIdeal) (hMixBRefIdeal := hMixBRefIdeal) (hPre_finite_heads_b := hPre_finite_heads_b)
    ∧ preserves_MixA_MixAIdeal
    ∧ algebraic_MixAIdeal_MixARefIdeal_pre_finite_heads_a (hMixAIdeal := hMixAIdeal) (hMixARefIdeal := hMixARefIdeal) (hPre_finite_heads_a := hPre_finite_heads_a)
    ∧ preserves_GateUp_GateUpIdeal
    ∧ algebraic_GateUpIdeal_GateUpRefIdeal_pre_finite_gate_up (hGateUpIdeal := hGateUpIdeal) (hGateUpRefIdeal := hGateUpRefIdeal) (hPre_finite_gate_up := hPre_finite_gate_up)
    ∧ preserves_MixBFwd_MixBFwdIdeal
    ∧ algebraic_MixBFwdIdeal_MixBFwdRefIdeal_pre_finite_mem (hMixBFwdIdeal := hMixBFwdIdeal) (hMixBFwdRefIdeal := hMixBFwdRefIdeal) (hPre_finite_mem := hPre_finite_mem)
    ∧ preserves_NormFwd_NormFwdIdeal
    ∧ algebraic_NormFwdIdeal_NormFwdRefIdeal (hNormFwdIdeal := hNormFwdIdeal) (hNormFwdRefIdeal := hNormFwdRefIdeal)
    ∧ preserves_MixAFwd_MixAFwdIdeal
    ∧ algebraic_MixAFwdIdeal_MixAFwdRefIdeal_pre_finite_win (hMixAFwdIdeal := hMixAFwdIdeal) (hMixAFwdRefIdeal := hMixAFwdRefIdeal) (hPre_finite_win := hPre_finite_win)
    ∧ preserves_BIn_BInIdeal
    ∧ algebraic_BInIdeal_BInRefIdeal (hBInIdeal := hBInIdeal) (hBInRefIdeal := hBInRefIdeal)
    ∧ preserves_AIn_AInIdeal
    ∧ algebraic_AInIdeal_AInRefIdeal (hAInIdeal := hAInIdeal) (hAInRefIdeal := hAInRefIdeal)
-- ==== Pre_finite_ffn.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x1024 .f32) (main_arg1 : FVec F S1024 .f32) (main_arg2 : FVec F S1024x5632 .f32) (main_arg3 : FVec F S2816x1024 .f32) (main_arg4 : FVec F S8192x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x5632 .f32 := Host.absf main_arg2
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : FVec F S2816x1024 .f32 := Host.absf main_arg3
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S8192x1024 .f32 := Host.absf main_arg4
  let main_cst_4 : FVec F S_ .f32 := constant S_ .f32 0x7F800000#32
  let main_v13 : FVec F S8192x1024 .f32 := broadcastInDim S8192x1024 ![] bcast_S_S8192x1024 main_cst_4
  let main_v14 : IVec S8192x1024 1 := cmpf .olt main_v12 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_v3 main_v7 main_v11 main_v15
-- ==== Pre_finite_gate_up.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S8192x1024 .f32) (main_arg1 : FVec F S1024 .f32) (main_arg2 : FVec F S1024x5632 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x5632 .f32 := Host.absf main_arg2
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  main_v8
-- ==== Pre_finite_heads_a.lean ====
abbrev S8192x1280 : Shape := ⟨2, ![8192, 1280]⟩
abbrev S256x512 : Shape := ⟨2, ![256, 512]⟩
abbrev S12 : Shape := ⟨1, ![12]⟩
abbrev S8192x1024 : Shape := ⟨2, ![8192, 1024]⟩
abbrev S256x256 : Shape := ⟨2, ![256, 256]⟩
abbrev S8192x768 : Shape := ⟨2, ![8192, 768]⟩
abbrev S_ : Shape := ⟨0, ![]⟩

class Facts : Prop where
  slices_S256x512_S256x256_0_0 : S256x512.Slices ![0, 0] S256x256
  slices_S8192x1024_S8192x768_0_0 : S8192x1024.Slices ![0, 0] S8192x768
  bcast_S_S8192x1280 : S_.BroadcastsInDim S8192x1280 (![] : Fin 0 → Fin S8192x1280.rank)
  reducesTo_S8192x1280_S_d0_1 : S8192x1280.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S12 : S_.BroadcastsInDim S12 (![] : Fin 0 → Fin S12.rank)
  reducesTo_S12_S_d0 : S12.ReducesTo [0] S_
  bcast_S_S8192x768 : S_.BroadcastsInDim S8192x768 (![] : Fin 0 → Fin S8192x768.rank)
  reducesTo_S8192x768_S_d0_1 : S8192x768.ReducesTo [0, 1] S_

variable [Facts]

def fn_part1 {F : FTy → Type} [FloatOps F] (main_v5 : IVec S_ 1) (main_v9 : IVec S_ 1) (main_v13 : IVec S_ 1) (main_v16 : IVec S8192x768 1) : IVec S_ 1 :=
  let main_c_5 : IVec S_ 1 := constantI S_ 1 1#1
  let main_v17 : IVec S_ 1 := (fun x v => Host.reduce IntOp.andi x v reducesTo_S8192x768_S_d0_1 h_S_) main_v16 main_c_5
  let main_v18 : IVec S_ 1 := andi main_v5 main_v9
  let main_v19 : IVec S_ 1 := andi main_v18 main_v13
  let main_v20 : IVec S_ 1 := andi main_v19 main_v17
  main_v20

def fn {F : FTy → Type} [FloatOps F] (main_arg0 : FVec F S8192x1280 .f32) (main_arg1 : FVec F S256x512 .f32) (main_arg2 : FVec F S12 .f32) (main_arg3 : FVec F S8192x1024 .f32) : IVec S_ 1 :=
  let main_v0 : FVec F S256x256 .f32 := (extractStridedSlice S256x256 ![0, 0] · slices_S256x512_S256x256_0_0) main_arg1
  let main_v1 : FVec F S8192x768 .f32 := (extractStridedSlice S8192x768 ![0, 0] · slices_S8192x1024_S8192x768_0_0) main_arg3
  let main_v2 : FVec F S8192x1280 .f32 := Host.absf main_arg0
  let main_cst : FVec F S_ .f32 := constant S_ .f32 0x7F800000#32
  let main_v3 : FVec F S8192x1280 .f32 := broadcastInDim S8192x1280 ![] bcast_S_S8192x1280 main_cst
  let main_v4 : IVec S8192x1280 1 := cmpf .olt main_v2 main_v3
  let main_c : IVec S_ 1 := constantI S_ 1 1#1
  let main_v5 : IVec S_ 1 := (fun x v => Host.reduce IntOp.andi x v reducesTo_S8192x1280_S_d0_1 h_S_) main_v4 main_c
  let main_v6 : FVec F S256x256 .f32 := Host.absf main_v0
  let main_cst_0 : FVec F S_ .f32 := constant S_ .f32 0x7F800000#32
  let main_v7 : FVec F S256x256 .f32 := broadcastInDim S256x256 ![] bcast_S_S256x256 main_cst_0
  let main_v8 : IVec S256x256 1 := cmpf .olt main_v6 main_v7
  let main_c_1 : IVec S_ 1 := constantI S_ 1 1#1
  let main_v9 : IVec S_ 1 := (fun x v => Host.reduce IntOp.andi x v reducesTo_S256x256_S_d0_1 h_S_) main_v8 main_c_1
  let main_v10 : FVec F S12 .f32 := Host.absf main_arg2
  let main_cst_2 : FVec F S_ .f32 := constant S_ .f32 0x7F800000#32
  let main_v11 : FVec F S12 .f32 := broadcastInDim S12 ![] bcast_S_S12 main_cst_2
  let main_v12 : IVec S12 1 := cmpf .olt main_v10 main_v11
  let main_c_3 : IVec S_ 1 := constantI S_ 1 1#1
  let main_v13 : IVec S_ 1 := (fun x v => Host.reduce IntOp.andi x v reducesTo_S12_S_d0 h_S_) main_v12 main_c_3
  let main_v14 : FVec F S8192x768 .f32 := Host.absf main_v1
  let main_cst_4 : FVec F S_ .f32 := constant S_ .f32 0x7F800000#32
  let main_v15 : FVec F S8192x768 .f32 := broadcastInDim S8192x768 ![] bcast_S_S8192x768 main_cst_4
  let main_v16 : IVec S8192x768 1 := cmpf .olt main_v14 main_v15
  fn_part1 (F := F) main_v5 main_v9 main_v13 main_v16
-- ==== Pre_finite_heads_b.lean ====
abbrev S8192x1792 : Shape := ⟨2, ![8192, 1792]⟩
abbrev S256x512 : Shape := ⟨2, ![256, 512]⟩
abbrev S6x128x128 : Shape := ⟨3, ![6, 128, 128]⟩
abbrev S6x128 : Shape := ⟨2, ![6, 128]⟩
abbrev S8192x1024 : Shape := ⟨2, ![8192, 1024]⟩
abbrev S8192x256 : Shape := ⟨2, ![8192, 256]⟩
abbrev S_ : Shape := ⟨0, ![]⟩
abbrev S256x256 : Shape := ⟨2, ![256, 256]⟩

class Facts : Prop where
  slices_S8192x1792_S8192x256_0_1536 : S8192x1792.Slices ![0, 1536] S8192x256
  bcast_S_S8192x256 : S_.BroadcastsInDim S8192x256 (![] : Fin 0 → Fin S8192x256.rank)
  reducesTo_S8192x256_S_d0_1 : S8192x256.ReducesTo [0, 1] S_
  h_S_ : 0 < S_.numel
  slices_S256x512_S256x256_0_0 : S256x512.Slices ![0, 0] S256x256
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S8192x1792 .f32) (main_arg1 : FVec F S256x512 .f32) (main_arg2 : FVec F S6x128x128 .f32) (main_arg3 : FVec F S6x128 .f32) (main_arg4 : FVec F S6x128 .f32) (main_arg5 : FVec F S6x128 .f32) (main_arg6 : FVec F S8192x1024 .f32) : IVec S_ 1 :=
  let main_v0 : FVec F S8192x256 .f32 := (extractStridedSlice S8192x256 ![0, 1536] · slices_S8192x1792_S8192x256_0_1536) main_arg0
  let main_v1 : FVec F S8192x256 .f32 := Host.absf main_v0
  let main_cst : FVec F S_ .f32 := constant S_ .f32 0x7F800000#32
  let main_v2 : FVec F S8192x256 .f32 := broadcastInDim S8192x256 ![] bcast_S_S8192x256 main_cst
  let main_v3 : IVec S8192x256 1 := cmpf .olt main_v1 main_v2
  let main_c : IVec S_ 1 := constantI S_ 1 1#1
  let main_v4 : IVec S_ 1 := (fun x v => Host.reduce IntOp.andi x v reducesTo_S8192x256_S_d0_1 h_S_) main_v3 main_c
  let main_v5 : FVec F S256x256 .f32 := (extractStridedSlice S256x256 ![0, 0] · slices_S256x512_S256x256_0_0) main_arg1
  let main_v6 : FVec F S256x256 .f32 := Host.absf main_v5
  let main_cst_0 : FVec F S_ .f32 := constant S_ .f32 0x7F800000#32
  let main_v7 : FVec F S256x256 .f32 := broadcastInDim S256x256 ![] bcast_S_S256x256 main_cst_0
  let main_v8 : IVec S256x256 1 := cmpf .olt main_v6 main_v7
  let main_c_1 : IVec S_ 1 := constantI S_ 1 1#1
  let main_v9 : IVec S_ 1 := (fun x v => Host.reduce IntOp.andi x v reducesTo_S256x256_S_d0_1 h_S_) main_v8 main_c_1
  let main_v10 : IVec S_ 1 := andi main_v4 main_v9
  main_v10
-- ==== Pre_finite_mem.lean ====
abbrev S8192x1792 : Shape := ⟨2, ![8192, 1792]⟩
abbrev S256x512 : Shape := ⟨2, ![256, 512]⟩
abbrev S6x128x128 : Shape := ⟨3, ![6, 128, 128]⟩
abbrev S6x128 : Shape := ⟨2, ![6, 128]⟩
abbrev S8192x256 : Shape := ⟨2, ![8192, 256]⟩
abbrev S_ : Shape := ⟨0, ![]⟩
abbrev S256x256 : Shape := ⟨2, ![256, 256]⟩

class Facts : Prop where
  slices_S8192x1792_S8192x256_0_1536 : S8192x1792.Slices ![0, 1536] S8192x256
  bcast_S_S8192x256 : S_.BroadcastsInDim S8192x256 (![] : Fin 0 → Fin S8192x256.rank)
  reducesTo_S8192x256_S_d0_1 : S8192x256.ReducesTo [0, 1] S_
  h_S_ : 0 < S_.numel
  slices_S256x512_S256x256_0_0 : S256x512.Slices ![0, 0] S256x256
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S8192x1792 .f32) (main_arg1 : FVec F S256x512 .f32) (main_arg2 : FVec F S6x128x128 .f32) (main_arg3 : FVec F S6x128 .f32) (main_arg4 : FVec F S6x128 .f32) (main_arg5 : FVec F S6x128 .f32) : IVec S_ 1 :=
  let main_v0 : FVec F S8192x256 .f32 := (extractStridedSlice S8192x256 ![0, 1536] · slices_S8192x1792_S8192x256_0_1536) main_arg0
  let main_v1 : FVec F S8192x256 .f32 := Host.absf main_v0
  let main_cst : FVec F S_ .f32 := constant S_ .f32 0x7F800000#32
  let main_v2 : FVec F S8192x256 .f32 := broadcastInDim S8192x256 ![] bcast_S_S8192x256 main_cst
  let main_v3 : IVec S8192x256 1 := cmpf .olt main_v1 main_v2
  let main_c : IVec S_ 1 := constantI S_ 1 1#1
  let main_v4 : IVec S_ 1 := (fun x v => Host.reduce IntOp.andi x v reducesTo_S8192x256_S_d0_1 h_S_) main_v3 main_c
  let main_v5 : FVec F S256x256 .f32 := (extractStridedSlice S256x256 ![0, 0] · slices_S256x512_S256x256_0_0) main_arg1
  let main_v6 : FVec F S256x256 .f32 := Host.absf main_v5
  let main_cst_0 : FVec F S_ .f32 := constant S_ .f32 0x7F800000#32
  let main_v7 : FVec F S256x256 .f32 := broadcastInDim S256x256 ![] bcast_S_S256x256 main_cst_0
  let main_v8 : IVec S256x256 1 := cmpf .olt main_v6 main_v7
  let main_c_1 : IVec S_ 1 := constantI S_ 1 1#1
  let main_v9 : IVec S_ 1 := (fun x v => Host.reduce IntOp.andi x v reducesTo_S256x256_S_d0_1 h_S_) main_v8 main_c_1
  let main_v10 : IVec S_ 1 := andi main_v4 main_v9
  main_v10
-- ==== Pre_finite_win.lean ====
abbrev S8192x1280 : Shape := ⟨2, ![8192, 1280]⟩
abbrev S256x512 : Shape := ⟨2, ![256, 512]⟩
abbrev S12 : Shape := ⟨1, ![12]⟩
abbrev S8192x896 : Shape := ⟨2, ![8192, 896]⟩
abbrev S8192x256 : Shape := ⟨2, ![8192, 256]⟩
abbrev S256x256 : Shape := ⟨2, ![256, 256]⟩
abbrev S_ : Shape := ⟨0, ![]⟩

class Facts : Prop where
  slices_S8192x1280_S8192x896_0_0 : S8192x1280.Slices ![0, 0] S8192x896
  slices_S8192x1280_S8192x256_0_1024 : S8192x1280.Slices ![0, 1024] S8192x256
  slices_S256x512_S256x256_0_0 : S256x512.Slices ![0, 0] S256x256
  bcast_S_S8192x896 : S_.BroadcastsInDim S8192x896 (![] : Fin 0 → Fin S8192x896.rank)
  reducesTo_S8192x896_S_d0_1 : S8192x896.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S256x256 : S_.BroadcastsInDim S256x256 (![] : Fin 0 → Fin S256x256.rank)
  reducesTo_S256x256_S_d0_1 : S256x256.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_v6 : IVec S_ 1) (main_v10 : IVec S_ 1) (main_v14 : IVec S_ 1) (main_v15 : FVec F S12 .f32) (main_v16 : FVec F S12 .f32) : IVec S_ 1 :=
  let main_v17 : IVec S12 1 := cmpf .olt main_v15 main_v16
  let main_c_5 : IVec S_ 1 := constantI S_ 1 1#1
  let main_v18 : IVec S_ 1 := (fun x v => Host.reduce IntOp.andi x v reducesTo_S12_S_d0 h_S_) main_v17 main_c_5
  let main_v19 : IVec S_ 1 := andi main_v6 main_v10
  let main_v20 : IVec S_ 1 := andi main_v19 main_v14
  let main_v21 : IVec S_ 1 := andi main_v20 main_v18
  main_v21

def fn {F : FTy → Type} [FloatOps F] (main_arg0 : FVec F S8192x1280 .f32) (main_arg1 : FVec F S256x512 .f32) (main_arg2 : FVec F S12 .f32) : IVec S_ 1 :=
  let main_v0 : FVec F S8192x896 .f32 := (extractStridedSlice S8192x896 ![0, 0] · slices_S8192x1280_S8192x896_0_0) main_arg0
  let main_v1 : FVec F S8192x256 .f32 := (extractStridedSlice S8192x256 ![0, 1024] · slices_S8192x1280_S8192x256_0_1024) main_arg0
  let main_v2 : FVec F S256x256 .f32 := (extractStridedSlice S256x256 ![0, 0] · slices_S256x512_S256x256_0_0) main_arg1
  let main_v3 : FVec F S8192x896 .f32 := Host.absf main_v0
  let main_cst : FVec F S_ .f32 := constant S_ .f32 0x7F800000#32
  let main_v4 : FVec F S8192x896 .f32 := broadcastInDim S8192x896 ![] bcast_S_S8192x896 main_cst
  let main_v5 : IVec S8192x896 1 := cmpf .olt main_v3 main_v4
  let main_c : IVec S_ 1 := constantI S_ 1 1#1
  let main_v6 : IVec S_ 1 := (fun x v => Host.reduce IntOp.andi x v reducesTo_S8192x896_S_d0_1 h_S_) main_v5 main_c
  let main_v7 : FVec F S8192x256 .f32 := Host.absf main_v1
  let main_cst_0 : FVec F S_ .f32 := constant S_ .f32 0x7F800000#32
  let main_v8 : FVec F S8192x256 .f32 := broadcastInDim S8192x256 ![] bcast_S_S8192x256 main_cst_0
  let main_v9 : IVec S8192x256 1 := cmpf .olt main_v7 main_v8
  let main_c_1 : IVec S_ 1 := constantI S_ 1 1#1
  let main_v10 : IVec S_ 1 := (fun x v => Host.reduce IntOp.andi x v reducesTo_S8192x256_S_d0_1 h_S_) main_v9 main_c_1
  let main_v11 : FVec F S256x256 .f32 := Host.absf main_v2
  let main_cst_2 : FVec F S_ .f32 := constant S_ .f32 0x7F800000#32
  let main_v12 : FVec F S256x256 .f32 := broadcastInDim S256x256 ![] bcast_S_S256x256 main_cst_2
  let main_v13 : IVec S256x256 1 := cmpf .olt main_v11 main_v12
  let main_c_3 : IVec S_ 1 := constantI S_ 1 1#1
  let main_v14 : IVec S_ 1 := (fun x v => Host.reduce IntOp.andi x v reducesTo_S256x256_S_d0_1 h_S_) main_v13 main_c_3
  let main_v15 : FVec F S12 .f32 := Host.absf main_arg2
  let main_cst_4 : FVec F S_ .f32 := constant S_ .f32 0x7F800000#32
  let main_v16 : FVec F S12 .f32 := broadcastInDim S12 ![] bcast_S_S12 main_cst_4
  fn_part1 (F := F) main_v6 main_v10 main_v14 main_v15 main_v16
-- ==== MemNorm.lean ====
abbrev S256x1024 : Shape := ⟨2, ![256, 1024]⟩
abbrev S1024 : Shape := ⟨1, ![1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 8
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S1x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemNormRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Swiglu.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩
abbrev S2x8192x1024 : Shape := ⟨3, ![2, 8192, 1024]⟩
abbrev S2x8192x2816 : Shape := ⟨3, ![2, 8192, 2816]⟩
abbrev S8192x2816 : Shape := ⟨2, ![8192, 2816]⟩
abbrev S512x1024 : Shape := ⟨2, ![512, 1024]⟩
abbrev S1x1x1024x1408 : Shape := ⟨4, ![1, 1, 1024, 1408]⟩
abbrev S1x512x1024 : Shape := ⟨3, ![1, 512, 1024]⟩
abbrev S2x512x1408 : Shape := ⟨3, ![2, 512, 1408]⟩
abbrev S512x1408 : Shape := ⟨2, ![512, 1408]⟩
abbrev S512 : Shape := ⟨1, ![512]⟩
abbrev S512x1 : Shape := ⟨2, ![512, 1]⟩
abbrev S1024x1408 : Shape := ⟨2, ![1024, 1408]⟩
abbrev S1x512x1408 : Shape := ⟨3, ![1, 512, 1408]⟩
abbrev S1x2816x1024 : Shape := ⟨3, ![1, 2816, 1024]⟩
abbrev S2x512x2816 : Shape := ⟨3, ![2, 512, 2816]⟩
abbrev S1x1408x1024 : Shape := ⟨3, ![1, 1408, 1024]⟩
abbrev S1408x1024 : Shape := ⟨2, ![1408, 1024]⟩

abbrev nBuf : Space → Nat
  | .hbm => 17
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S1x1024, .f32⟩
  | .hbm, ⟨6, _⟩ => ⟨S1024x5632, .bf16⟩
  | .hbm, ⟨7, _⟩ => ⟨S1024x4x1408, .bf16⟩
  | .hbm, ⟨8, _⟩ => ⟨S4x1024x1408, .bf16⟩
  | .hbm, ⟨9, _⟩ => ⟨S1x4x1024x1408, .bf16⟩
  | .hbm, ⟨10, _⟩ => ⟨S2x8192x1024, .bf16⟩
  | .hbm, ⟨11, _⟩ => ⟨S2x8192x2816, .bf16⟩
  | .hbm, ⟨12, _⟩ => ⟨S8192x2816, .bf16⟩
  | .hbm, ⟨13, _⟩ => ⟨S8192x1024, .bf16⟩
  | .hbm, ⟨14, _⟩ => ⟨S2816x1024, .bf16⟩
  | .hbm, ⟨15, _⟩ => ⟨S1x2816x1024, .bf16⟩
  | .hbm, ⟨16, _⟩ => ⟨S2x8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x512x1024, .bf16⟩
  | .local _ .vmem, ⟨8, _⟩ => ⟨S1x512x1024, .bf16⟩
  | .local _ .vmem, ⟨9, _⟩ => ⟨S2x512x1408, .bf16⟩
  | .local _ .vmem, ⟨10, _⟩ => ⟨S2x512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1024, .bf16⟩
  | .local _ .vmem, ⟨14, _⟩ => ⟨S512x1024, .bf16⟩
  | .local _ .vmem, ⟨15, _⟩ => ⟨S1x2816x1024, .bf16⟩
  | .local _ .vmem, ⟨16, _⟩ => ⟨S2x512x2816, .bf16⟩
  | .local _ .vmem, ⟨17, _⟩ => ⟨S2x512x2816, .bf16⟩
  | .local _ .vmem, ⟨18, _⟩ => ⟨S2x512x2816, .bf16⟩
  | .local _ .vmem, ⟨19, _⟩ => ⟨S2x512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2x512x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x512x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== SwigluRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x1024, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S1x8192x2816, .f32⟩
  | .hbm, ⟨47, _⟩ => ⟨S1x8192x2816, .f32⟩
  | .hbm, ⟨48, _⟩ => ⟨S2x8192x2816, .f32⟩
  | .hbm, ⟨49, _⟩ => ⟨S2x8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v16_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v16_1 : Ref sig .tc := ⟨.hbm, 35, rfl⟩
abbrev main_v16_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩

abbrev nD : Nat := 1
abbrev τ : Topo := Topo.v7x

variable {F : FTy → Type} [FloatOps F]
-- ==== GateUpDx.lean ====
abbrev S2x8192x2816 : Shape := ⟨3, ![2, 8192, 2816]⟩
abbrev S1024x5632 : Shape := ⟨2, ![1024, 5632]⟩
abbrev S8192x1024 : Shape := ⟨2, ![8192, 1024]⟩
abbrev S1024 : Shape := ⟨1, ![1024]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩
abbrev S1x1024 : Shape := ⟨2, ![1, 1024]⟩
abbrev S2x512x2816 : Shape := ⟨3, ![2, 512, 2816]⟩
abbrev S512x1024 : Shape := ⟨2, ![512, 1024]⟩
abbrev S1x512x1408 : Shape := ⟨3, ![1, 512, 1408]⟩
abbrev S512x1408 : Shape := ⟨2, ![512, 1408]⟩
abbrev S1x1x1024x1408 : Shape := ⟨4, ![1, 1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S1x4x1024x1408, .bf16⟩
  | .hbm, ⟨9, _⟩ => ⟨S1x1024, .f32⟩
  | .hbm, ⟨10, _⟩ => ⟨S8192x1024, .f32⟩
  | .hbm, ⟨11, _⟩ => ⟨S1x1024, .f32⟩
  | .hbm, ⟨12, _⟩ => ⟨S8192x1024, .bf16⟩
  | .local _ .vmem, ⟨0, _⟩ => ⟨S2x512x2816, .bf16⟩
  | .local _ .vmem, ⟨1, _⟩ => ⟨S2x512x2816, .bf16⟩
  | .local _ .vmem, ⟨2, _⟩ => ⟨S1x4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateUpDxRefIdeal.lean ====
abbrev S2x8192x2816 : Shape := ⟨3, ![2, 8192, 2816]⟩
abbrev S1024x5632 : Shape := ⟨2, ![1024, 5632]⟩
abbrev S8192x1024 : Shape := ⟨2, ![8192, 1024]⟩
abbrev S1024 : Shape := ⟨1, ![1024]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x8192x2816, .bf16⟩
  | .hbm, ⟨6, _⟩ => ⟨S8192x2816, .bf16⟩
  | .hbm, ⟨7, _⟩ => ⟨S1x8192x2816, .bf16⟩
  | .hbm, ⟨8, _⟩ => ⟨S8192x2816, .bf16⟩
  | .hbm, ⟨9, _⟩ => ⟨S8192x5632, .bf16⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x5632, .f32⟩
  | .hbm, ⟨31, _⟩ => ⟨S8192x5632, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S8192x1024, .bf16⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== AInDx.lean ====
abbrev S8192x1280 : Shape := ⟨2, ![8192, 1280]⟩
abbrev S1024x1280 : Shape := ⟨2, ![1024, 1280]⟩
abbrev S8192x1024 : Shape := ⟨2, ![8192, 1024]⟩
abbrev S1024 : Shape := ⟨1, ![1024]⟩
abbrev S1024x4x320 : Shape := ⟨3, ![1024, 4, 320]⟩
abbrev S4x1024x320 : Shape := ⟨3, ![4, 1024, 320]⟩
abbrev S1x4x1024x320 : Shape := ⟨4, ![1, 4, 1024, 320]⟩
abbrev S1x1024 : Shape := ⟨2, ![1, 1024]⟩
abbrev S512x1280 : Shape := ⟨2, ![512, 1280]⟩
abbrev S512x1024 : Shape := ⟨2, ![512, 1024]⟩
abbrev S1x1x1024x320 : Shape := ⟨4, ![1, 1, 1024, 320]⟩
abbrev S1024x320 : Shape := ⟨2, ![1024, 320]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x1280, .bf16⟩
  | .hbm, ⟨1, _⟩ => ⟨S1024x1280, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x1280, .bf16⟩
  | .hbm, ⟨6, _⟩ => ⟨S1024x4x320, .bf16⟩
  | .hbm, ⟨7, _⟩ => ⟨S4x1024x320, .bf16⟩
  | .hbm, ⟨8, _⟩ => ⟨S1x4x1024x320, .bf16⟩
  | .hbm, ⟨9, _⟩ => ⟨S1x1024, .f32⟩
  | .hbm, ⟨10, _⟩ => ⟨S8192x1024, .f32⟩
  | .hbm, ⟨11, _⟩ => ⟨S1x1024, .f32⟩
  | .hbm, ⟨12, _⟩ => ⟨S8192x1024, .bf16⟩
  | .local _ .vmem, ⟨0, _⟩ => ⟨S512x1280, .bf16⟩
  | .local _ .vmem, ⟨1, _⟩ => ⟨S512x1280, .bf16⟩
  | .local _ .vmem, ⟨2, _⟩ => ⟨S1x4x1024x320, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1280, .bf16⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x320 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AInDxIdeal.lean ====
abbrev S8192x1280 : Shape := ⟨2, ![8192, 1280]⟩
abbrev S1024x1280 : Shape := ⟨2, ![1024, 1280]⟩
abbrev S8192x1024 : Shape := ⟨2, ![8192, 1024]⟩
abbrev S1024 : Shape := ⟨1, ![1024]⟩
abbrev S1024x4x320 : Shape := ⟨3, ![1024, 4, 320]⟩
abbrev S4x1024x320 : Shape := ⟨3, ![4, 1024, 320]⟩
abbrev S1x4x1024x320 : Shape := ⟨4, ![1, 4, 1024, 320]⟩
abbrev S1x1024 : Shape := ⟨2, ![1, 1024]⟩
abbrev S512x1280 : Shape := ⟨2, ![512, 1280]⟩
abbrev S512x1024 : Shape := ⟨2, ![512, 1024]⟩
abbrev S1x1x1024x320 : Shape := ⟨4, ![1, 1, 1024, 320]⟩
abbrev S1024x320 : Shape := ⟨2, ![1024, 320]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x1280, .bf16⟩
  | .hbm, ⟨1, _⟩ => ⟨S1024x1280, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x1280, .bf16⟩
  | .hbm, ⟨6, _⟩ => ⟨S1024x4x320, .bf16⟩
  | .hbm, ⟨7, _⟩ => ⟨S4x1024x320, .bf16⟩
  | .hbm, ⟨8, _⟩ => ⟨S1x4x1024x320, .bf16⟩
  | .hbm, ⟨9, _⟩ => ⟨S1x1024, .f32⟩
  | .hbm, ⟨10, _⟩ => ⟨S8192x1024, .f32⟩
  | .hbm, ⟨11, _⟩ => ⟨S1x1024, .f32⟩
  | .hbm, ⟨12, _⟩ => ⟨S8192x1024, .bf16⟩
  | .local _ .vmem, ⟨0, _⟩ => ⟨S512x1280, .bf16⟩
  | .local _ .vmem, ⟨1, _⟩ => ⟨S512x1280, .bf16⟩
  | .local _ .vmem, ⟨2, _⟩ => ⟨S1x4x1024x320, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1280, .bf16⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x320 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AInDxRefIdeal.lean ====
abbrev S8192x1280 : Shape := ⟨2, ![8192, 1280]⟩
abbrev S1024x1280 : Shape := ⟨2, ![1024, 1280]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S1024x1280, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1280, .f32⟩
  | .hbm, ⟨26, _⟩ => ⟨S8192x1280, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .bf16⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== BInDx.lean ====
abbrev S8192x1792 : Shape := ⟨2, ![8192, 1792]⟩
abbrev S1024x1792 : Shape := ⟨2, ![1024, 1792]⟩
abbrev S8192x1024 : Shape := ⟨2, ![8192, 1024]⟩
abbrev S1024 : Shape := ⟨1, ![1024]⟩
abbrev S1024x4x448 : Shape := ⟨3, ![1024, 4, 448]⟩
abbrev S4x1024x448 : Shape := ⟨3, ![4, 1024, 448]⟩
abbrev S1x4x1024x448 : Shape := ⟨4, ![1, 4, 1024, 448]⟩
abbrev S1x1024 : Shape := ⟨2, ![1, 1024]⟩
abbrev S512x1792 : Shape := ⟨2, ![512, 1792]⟩
abbrev S512x1024 : Shape := ⟨2, ![512, 1024]⟩
abbrev S1x1x1024x448 : Shape := ⟨4, ![1, 1, 1024, 448]⟩
abbrev S1024x448 : Shape := ⟨2, ![1024, 448]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x1792, .bf16⟩
  | .hbm, ⟨1, _⟩ => ⟨S1024x1792, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x1792, .bf16⟩
  | .hbm, ⟨6, _⟩ => ⟨S1024x4x448, .bf16⟩
  | .hbm, ⟨7, _⟩ => ⟨S4x1024x448, .bf16⟩
  | .hbm, ⟨8, _⟩ => ⟨S1x4x1024x448, .bf16⟩
  | .hbm, ⟨9, _⟩ => ⟨S1x1024, .f32⟩
  | .hbm, ⟨10, _⟩ => ⟨S8192x1024, .f32⟩
  | .hbm, ⟨11, _⟩ => ⟨S1x1024, .f32⟩
  | .hbm, ⟨12, _⟩ => ⟨S8192x1024, .bf16⟩
  | .local _ .vmem, ⟨0, _⟩ => ⟨S512x1792, .bf16⟩
  | .local _ .vmem, ⟨1, _⟩ => ⟨S512x1792, .bf16⟩
  | .local _ .vmem, ⟨2, _⟩ => ⟨S1x4x1024x448, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1792, .bf16⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x448 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BInDxRefIdeal.lean ====
abbrev S8192x1792 : Shape := ⟨2, ![8192, 1792]⟩
abbrev S1024x1792 : Shape := ⟨2, ![1024, 1792]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S1024x1792, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1792, .f32⟩
  | .hbm, ⟨26, _⟩ => ⟨S8192x1792, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .bf16⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== LossHead.lean ====
abbrev S8192x1024 : Shape := ⟨2, ![8192, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S1x1, .f32⟩
  | .hbm, ⟨5, _⟩ => ⟨S8192x1024, .f32⟩
  | .hbm, ⟨6, _⟩ => ⟨S1x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LossHeadRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1, .f32⟩
  | .hbm, ⟨72, _⟩ => ⟨S1x1024, .f32⟩
  | .hbm, ⟨73, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== MixB.lean ====
abbrev S8192x1792 : Shape := ⟨2, ![8192, 1792]⟩
abbrev S256x512 : Shape := ⟨2, ![256, 512]⟩
abbrev S6x128x128 : Shape := ⟨3, ![6, 128, 128]⟩
abbrev S6x128 : Shape := ⟨2, ![6, 128]⟩
abbrev S8192x1024 : Shape := ⟨2, ![8192, 1024]⟩
abbrev S128x6 : Shape := ⟨2, ![128, 6]⟩
abbrev S_ : Shape := ⟨0, ![]⟩
abbrev S128x128 : Shape := ⟨2, ![128, 128]⟩
abbrev S8x128 : Shape := ⟨2, ![8, 128]⟩
abbrev S128x1536 : Shape := ⟨2, ![128, 1536]⟩
abbrev S128x256 : Shape := ⟨2, ![128, 256]⟩
abbrev S256x256 : Shape := ⟨2, ![256, 256]⟩
abbrev S128x1024 : Shape := ⟨2, ![128, 1024]⟩
abbrev S128x1792 : Shape := ⟨2, ![128, 1792]⟩
abbrev S1x128x128 : Shape := ⟨3, ![1, 128, 128]⟩
abbrev S128x1 : Shape := ⟨2, ![128, 1]⟩
abbrev S1x128 : Shape := ⟨2, ![1, 128]⟩
abbrev S256x128 : Shape := ⟨2, ![256, 128]⟩
abbrev S128 : Shape := ⟨1, ![128]⟩
abbrev S256 : Shape := ⟨1, ![256]⟩
abbrev S1x256 : Shape := ⟨2, ![1, 256]⟩

abbrev nBuf : Space → Nat
  | .hbm => 25
  | .vmem => 19
  | .smem => 0
  | _ => 0

abbrev bufTy : (tb : Table) → Fin (tcTables nBuf tb) → BufTy
  | .hbm, ⟨0, _⟩ => ⟨S8192x1792, .f32⟩
  | .hbm, ⟨1, _⟩ => ⟨S256x512, .f32⟩
  | .hbm, ⟨2, _⟩ => ⟨S6x128x128, .f32⟩
  | .hbm, ⟨3, _⟩ => ⟨S6x128, .f32⟩
  | .hbm, ⟨4, _⟩ => ⟨S6x128, .f32⟩
  | .hbm, ⟨5, _⟩ => ⟨S6x128, .f32⟩
  | .hbm, ⟨6, _⟩ => ⟨S8192x1024, .f32⟩
  | .hbm, ⟨7, _⟩ => ⟨S128x6, .f32⟩
  | .hbm, ⟨8, _⟩ => ⟨S_, .i32⟩
  | .hbm, ⟨9, _⟩ => ⟨S_, .f32⟩
  | .hbm, ⟨10, _⟩ => ⟨S128x128, .f32⟩
  | .hbm, ⟨11, _⟩ => ⟨S_, .i32⟩
  | .hbm, ⟨12, _⟩ => ⟨S_, .f32⟩
  | .hbm, ⟨13, _⟩ => ⟨S8x128, .f32⟩
  | .hbm, ⟨14, _⟩ => ⟨S_, .i32⟩
  | .hbm, ⟨15, _⟩ => ⟨S_, .f32⟩
  | .hbm, ⟨16, _⟩ => ⟨S8x128, .f32⟩
  | .hbm, ⟨17, _⟩ => ⟨S8192x1792, .bf16⟩
  | .hbm, ⟨18, _⟩ => ⟨S256x512, .bf16⟩
  | .hbm, ⟨19, _⟩ => ⟨S8192x1792, .bf16⟩
  | .hbm, ⟨20, _⟩ => ⟨S6x128x128, .f32⟩
  | .hbm, ⟨21, _⟩ => ⟨S128x128, .f32⟩
  | .hbm, ⟨22, _⟩ => ⟨S8x128, .f32⟩
  | .hbm, ⟨23, _⟩ => ⟨S8x128, .f32⟩
  | .hbm, ⟨24, _⟩ => ⟨S256x512, .f32⟩
  | .local _ .vmem, ⟨0, _⟩ => ⟨S128x1536, .bf16⟩
  | .local _ .vmem, ⟨1, _⟩ => ⟨S128x1536, .bf16⟩
  | .local _ .vmem, ⟨2, _⟩ => ⟨S128x256, .bf16⟩
  | .local _ .vmem, ⟨3, _⟩ => ⟨S128x256, .bf16⟩
  | .local _ .vmem, ⟨4, _⟩ => ⟨S6x128x128, .f32⟩
  | .local _ .vmem, ⟨5, _⟩ => ⟨S128x128, .f32⟩
  | .local _ .vmem, ⟨6, _⟩ => ⟨S8x128, .f32⟩
  | .local _ .vmem, ⟨7, _⟩ => ⟨S8x128, .f32⟩
  | .local _ .vmem, ⟨8, _⟩ => ⟨S256x256, .bf16⟩
  | .local _ .vmem, ⟨9, _⟩ => ⟨S256x256, .bf16⟩
  | .local _ .vmem, ⟨10, _⟩ => ⟨S128x1024, .f32⟩
  | .local _ .vmem, ⟨11, _⟩ => ⟨S128x1024, .f32⟩
  | .local _ .vmem, ⟨12, _⟩ => ⟨S128x1792, .bf16⟩
  | .local _ .vmem, ⟨13, _⟩ => ⟨S128x1792, .bf16⟩
  | .local _ .vmem, ⟨14, _⟩ => ⟨S6x128x128, .f32⟩
  | .local _ .vmem, ⟨15, _⟩ => ⟨S128x128, .f32⟩
  | .local _ .vmem, ⟨16, _⟩ => ⟨S8x128, .f32⟩
  | .local _ .vmem, ⟨17, _⟩ => ⟨S8x128, .f32⟩
  | .local _ .vmem, ⟨18, _⟩ => ⟨S256x512, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_c_1 : Ref sig .tc := ⟨.hbm, 14, rfl⟩
abbrev main_call2_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v6_3 : Ref sig .tc := ⟨.hbm, 22, rfl⟩
abbrev main_v6_4 : Ref sig .tc := ⟨.hbm, 23, rfl⟩
abbrev main_v6_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1792 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S6x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixBRefIdeal.lean ====
abbrev S8192x1792 : Shape := ⟨2, ![8192, 1792]⟩
abbrev S256x512 : Shape := ⟨2, ![256, 512]⟩
abbrev S6x128x128 : Shape := ⟨3, ![6, 128, 128]⟩
abbrev S6x128 : Shape := ⟨2, ![6, 128]⟩
abbrev S8192x1024 : Shape := ⟨2, ![8192, 1024]⟩
abbrev S8192x1536 : Shape := ⟨2, ![8192, 1536]⟩
abbrev S8192x256 : Shape := ⟨2, ![8192, 256]⟩
abbrev S_ : Shape := ⟨0, ![]⟩
abbrev S8192x768 : Shape := ⟨2, ![8192, 768]⟩
abbrev S64x128x6x128 : Shape := ⟨4, ![64, 128, 6, 128]⟩
abbrev S64x128x6 : Shape := ⟨3, ![64, 128, 6]⟩
abbrev S64x128x6x1 : Shape := ⟨4, ![64, 128, 6, 1]⟩
abbrev S1x1x6x128 : Shape := ⟨4, ![1, 1, 6, 128]⟩
abbrev S128x128 : Shape := ⟨2, ![128, 128]⟩
abbrev S1x128x128 : Shape := ⟨3, ![1, 128, 128]⟩
abbrev S6x64x128x128 : Shape := ⟨4, ![6, 64, 128, 128]⟩
abbrev S128x6 : Shape := ⟨2, ![128, 6]⟩
abbrev S1x128x6x1 : Shape := ⟨4, ![1, 128, 6, 1]⟩
abbrev S8192x4x64 : Shape := ⟨3, ![8192, 4, 64]⟩
abbrev S256x256 : Shape := ⟨2, ![256, 256]⟩
abbrev S256x4x64 : Shape := ⟨3, ![256, 4, 64]⟩
abbrev S4x8192x256 : Shape := ⟨3, ![4, 8192, 256]⟩
abbrev S4x8192 : Shape := ⟨2, ![4, 8192]⟩
abbrev S4x8192x1 : Shape := ⟨3, ![4, 8192, 1]⟩
abbrev S4x64x8192 : Shape := ⟨3, ![4, 64, 8192]⟩
abbrev S4x64x256 : Shape := ⟨3, ![4, 64, 256]⟩
abbrev S4x256x64 : Shape := ⟨3, ![4, 256, 64]⟩
abbrev S4x8192x64 : Shape := ⟨3, ![4, 8192, 64]⟩
abbrev S8x128 : Shape := ⟨2, ![8, 128]⟩

abbrev nBuf : Space → Nat
  | .hbm => 274
  | .vmem => 0
  | .smem => 0
  | _ => 0

abbrev hbmTy0_0 (i : Nat) : BufTy := match i % 128 with
  | 0 => ⟨S8192x1792, .f32⟩
  | 1 => ⟨S256x512, .f32⟩
  | 2 => ⟨S6x128x128, .f32⟩
  | 3 => ⟨S6x128, .f32⟩
  | 4 => ⟨S6x128, .f32⟩
  | 5 => ⟨S6x128, .f32⟩
  | 6 => ⟨S8192x1024, .f32⟩
  | 7 => ⟨S8192x1536, .f32⟩
  | 8 => ⟨S8192x256, .f32⟩
  | 9 => ⟨S8192x1536, .f32⟩
  | 10 => ⟨S8192x1536, .f32⟩
  | 11 => ⟨S8192x1536, .f32⟩
  | 12 => ⟨S_, .f32⟩
  | 13 => ⟨S8192x1536, .f32⟩
  | 14 => ⟨S8192x1536, .f32⟩
  | 15 => ⟨S_, .f32⟩
  | 16 => ⟨S8192x1536, .f32⟩
  | 17 => ⟨S8192x1536, .f32⟩
  | 18 => ⟨S8192x1536, .f32⟩
  | 19 => ⟨S_, .f32⟩
  | 20 => ⟨S8192x1536, .f32⟩
  | 21 => ⟨S8192x1536, .f32⟩
  | 22 => ⟨S8192x1536, .f32⟩
  | 23 => ⟨S_, .f32⟩
  | 24 => ⟨S8192x1536, .f32⟩
  | 25 => ⟨S8192x1536, .f32⟩
  | 26 => ⟨S_, .f32⟩
  | 27 => ⟨S8192x1536, .f32⟩
  | 28 => ⟨S8192x1536, .f32⟩
  | 29 => ⟨S8192x1536, .f32⟩
  | 30 => ⟨S_, .f32⟩
  | 31 => ⟨S8192x1536, .f32⟩
  | 32 => ⟨S8192x1536, .f32⟩
  | 33 => ⟨S_, .f32⟩
  | 34 => ⟨S8192x1536, .f32⟩
  | 35 => ⟨S8192x1536, .f32⟩
  | 36 => ⟨S8192x1536, .f32⟩
  | 37 => ⟨S8192x768, .f32⟩
  | 38 => ⟨S8192x768, .f32⟩
  | 39 => ⟨S64x128x6x128, .f32⟩
  | 40 => ⟨S_, .f32⟩
  | 41 => ⟨S64x128x6, .f32⟩
  | 42 => ⟨S64x128x6x1, .f32⟩
  | 43 => ⟨S_, .f32⟩
  | 44 => ⟨S64x128x6x1, .f32⟩
  | 45 => ⟨S64x128x6x1, .f32⟩
  | 46 => ⟨S64x128x6x128, .f32⟩
  | 47 => ⟨S64x128x6x128, .f32⟩
  | 48 => ⟨S64x128x6x128, .f32⟩
  | 49 => ⟨S_, .f32⟩
  | 50 => ⟨S64x128x6x128, .f32⟩
  | 51 => ⟨S64x128x6x128, .f32⟩
  | 52 => ⟨S_, .f32⟩
  | 53 => ⟨S64x128x6, .f32⟩
  | 54 => ⟨S64x128x6x1, .f32⟩
  | 55 => ⟨S_, .f32⟩
  | 56 => ⟨S64x128x6x1, .f32⟩
  | 57 => ⟨S64x128x6x1, .f32⟩
  | 58 => ⟨S64x128x6x128, .f32⟩
  | 59 => ⟨S64x128x6x128, .f32⟩
  | 60 => ⟨S_, .f32⟩
  | 61 => ⟨S64x128x6x1, .f32⟩
  | 62 => ⟨S64x128x6x1, .f32⟩
  | 63 => ⟨S64x128x6x1, .f32⟩
  | 64 => ⟨S64x128x6x1, .f32⟩
  | 65 => ⟨S_, .f32⟩
  | 66 => ⟨S64x128x6x1, .f32⟩
  | 67 => ⟨S64x128x6x1, .f32⟩
  | 68 => ⟨S64x128x6x128, .f32⟩
  | 69 => ⟨S64x128x6x128, .f32⟩
  | 70 => ⟨S1x1x6x128, .f32⟩
  | 71 => ⟨S64x128x6x128, .f32⟩
  | 72 => ⟨S64x128x6x128, .f32⟩
  | 73 => ⟨S1x1x6x128, .f32⟩
  | 74 => ⟨S64x128x6x128, .f32⟩
  | 75 => ⟨S64x128x6x128, .f32⟩
  | 76 => ⟨S_, .i1⟩
  | 77 => ⟨S128x128, .i1⟩
  | 78 => ⟨S128x128, .i32⟩
  | 79 => ⟨S_, .i32⟩
  | 80 => ⟨S128x128, .i32⟩
  | 81 => ⟨S128x128, .i32⟩
  | 82 => ⟨S128x128, .i32⟩
  | 83 => ⟨S128x128, .i1⟩
  | 84 => ⟨S_, .i1⟩
  | 85 => ⟨S128x128, .i1⟩
  | 86 => ⟨S128x128, .i1⟩
  | 87 => ⟨S1x128x128, .i1⟩
  | 88 => ⟨S_, .f32⟩
  | 89 => ⟨S6x128x128, .f32⟩
  | 90 => ⟨S6x128x128, .i1⟩
  | 91 => ⟨S6x128x128, .f32⟩
  | 92 => ⟨S_, .f32⟩
  | 93 => ⟨S6x128x128, .f32⟩
  | 94 => ⟨S6x64x128x128, .f32⟩
  | 95 => ⟨S64x128x6x128, .f32⟩
  | 96 => ⟨S128x6, .f32⟩
  | 97 => ⟨S1x128x6x1, .f32⟩
  | 98 => ⟨S64x128x6x128, .f32⟩
  | 99 => ⟨S64x128x6x128, .f32⟩
  | 100 => ⟨S8192x768, .f32⟩
  | 101 => ⟨S8192x768, .f32⟩
  | 102 => ⟨S8192x4x64, .f32⟩
  | 103 => ⟨S256x256, .f32⟩
  | 104 => ⟨S256x256, .f32⟩
  | 105 => ⟨S256x4x64, .f32⟩
  | 106 => ⟨S256x4x64, .f32⟩
  | 107 => ⟨S4x8192x256, .f32⟩
  | 108 => ⟨S_, .f32⟩
  | 109 => ⟨S4x8192x256, .f32⟩
  | 110 => ⟨S4x8192x256, .f32⟩
  | 111 => ⟨S_, .f32⟩
  | 112 => ⟨S4x8192, .f32⟩
  | 113 => ⟨S4x8192x1, .f32⟩
  | 114 => ⟨S4x8192x256, .f32⟩
  | 115 => ⟨S4x8192x256, .i1⟩
  | 116 => ⟨S4x8192x256, .f32⟩
  | 117 => ⟨S_, .f32⟩
  | 118 => ⟨S4x8192, .f32⟩
  | 119 => ⟨S_, .f32⟩
  | 120 => ⟨S4x8192, .f32⟩
  | 121 => ⟨S4x8192, .f32⟩
  | 122 => ⟨S_, .f32⟩
  | 123 => ⟨S4x8192, .f32⟩
  | 124 => ⟨S4x8192, .i1⟩
  | 125 => ⟨S_, .f32⟩
  | 126 => ⟨S4x8192, .f32⟩
  | 127 => ⟨S4x8192, .i1⟩
  | _ => ⟨S8192x1792, .f32⟩

abbrev hbmTy0_1 (i : Nat) : BufTy := match i % 128 with
  | 0 => ⟨S_, .f32⟩
  | 1 => ⟨S4x8192, .f32⟩
  | 2 => ⟨S_, .f32⟩
  | 3 => ⟨S4x8192, .f32⟩
  | 4 => ⟨S_, .f32⟩
  | 5 => ⟨S4x8192, .f32⟩
  | 6 => ⟨S4x8192, .f32⟩
  | 7 => ⟨S4x8192, .f32⟩
  | 8 => ⟨S4x8192x1, .f32⟩
  | 9 => ⟨S4x8192x256, .f32⟩
  | 10 => ⟨S4x8192x256, .f32⟩
  | 11 => ⟨S4x8192x256, .f32⟩
  | 12 => ⟨S_, .f32⟩
  | 13 => ⟨S4x8192, .f32⟩
  | 14 => ⟨S4x8192x1, .f32⟩
  | 15 => ⟨S4x8192x256, .f32⟩
  | 16 => ⟨S4x8192x256, .f32⟩
  | 17 => ⟨S4x8192x1, .f32⟩
  | 18 => ⟨S_, .f32⟩
  | 19 => ⟨S4x8192x1, .f32⟩
  | 20 => ⟨S4x8192x1, .f32⟩
  | 21 => ⟨S4x64x8192, .f32⟩
  | 22 => ⟨S8192x4x64, .f32⟩
  | 23 => ⟨S8192x256, .f32⟩
  | 24 => ⟨S8192x1024, .f32⟩
  | 25 => ⟨S8192x768, .f32⟩
  | 26 => ⟨S8192x256, .f32⟩
  | 27 => ⟨S8192x4x64, .f32⟩
  | 28 => ⟨S4x64x8192, .f32⟩
  | 29 => ⟨S4x8192x256, .f32⟩
  | 30 => ⟨S4x64x256, .f32⟩
  | 31 => ⟨S256x4x64, .f32⟩
  | 32 => ⟨S4x8192x256, .f32⟩
  | 33 => ⟨S4x8192x256, .f32⟩
  | 34 => ⟨S4x8192x256, .f32⟩
  | 35 => ⟨S_, .f32⟩
  | 36 => ⟨S4x8192, .f32⟩
  | 37 => ⟨S4x8192x1, .f32⟩
  | 38 => ⟨S4x8192x1, .f32⟩
  | 39 => ⟨S4x8192x256, .f32⟩
  | 40 => ⟨S4x8192x256, .f32⟩
  | 41 => ⟨S_, .f32⟩
  | 42 => ⟨S4x8192, .f32⟩
  | 43 => ⟨S4x8192x256, .f32⟩
  | 44 => ⟨S4x8192x256, .f32⟩
  | 45 => ⟨S4x8192x256, .f32⟩
  | 46 => ⟨S_, .f32⟩
  | 47 => ⟨S4x8192x256, .f32⟩
  | 48 => ⟨S4x8192x256, .f32⟩
  | 49 => ⟨S4x256x64, .f32⟩
  | 50 => ⟨S256x4x64, .f32⟩
  | 51 => ⟨S4x8192x64, .f32⟩
  | 52 => ⟨S8192x4x64, .f32⟩
  | 53 => ⟨S256x256, .f32⟩
  | 54 => ⟨S256x256, .f32⟩
  | 55 => ⟨S256x512, .f32⟩
  | 56 => ⟨S8192x256, .f32⟩
  | 57 => ⟨S8192x768, .f32⟩
  | 58 => ⟨S8192x768, .f32⟩
  | 59 => ⟨S64x128x6x128, .f32⟩
  | 60 => ⟨S_, .f32⟩
  | 61 => ⟨S128x6, .f32⟩
  | 62 => ⟨S1x128x6x1, .f32⟩
  | 63 => ⟨S_, .f32⟩
  | 64 => ⟨S128x6, .f32⟩
  | 65 => ⟨S6x128, .f32⟩
  | 66 => ⟨S6x64x128x128, .f32⟩
  | 67 => ⟨S6x128x128, .f32⟩
  | 68 => ⟨S6x64x128x128, .f32⟩
  | 69 => ⟨S64x128x6x128, .f32⟩
  | 70 => ⟨S_, .f32⟩
  | 71 => ⟨S6x128x128, .f32⟩
  | 72 => ⟨S6x128x128, .f32⟩
  | 73 => ⟨S_, .f32⟩
  | 74 => ⟨S6x128, .f32⟩
  | 75 => ⟨S1x1x6x128, .f32⟩
  | 76 => ⟨S_, .f32⟩
  | 77 => ⟨S6x128, .f32⟩
  | 78 => ⟨S64x128x6x128, .f32⟩
  | 79 => ⟨S_, .f32⟩
  | 80 => ⟨S6x128, .f32⟩
  | 81 => ⟨S1x1x6x128, .f32⟩
  | 82 => ⟨S64x128x6x128, .f32⟩
  | 83 => ⟨S64x128x6x128, .f32⟩
  | 84 => ⟨S_, .f32⟩
  | 85 => ⟨S6x128, .f32⟩
  | 86 => ⟨S64x128x6x128, .f32⟩
  | 87 => ⟨S_, .f32⟩
  | 88 => ⟨S64x128x6, .f32⟩
  | 89 => ⟨S64x128x6x1, .f32⟩
  | 90 => ⟨S64x128x6x128, .f32⟩
  | 91 => ⟨S64x128x6x128, .f32⟩
  | 92 => ⟨S64x128x6x1, .f32⟩
  | 93 => ⟨S64x128x6x128, .f32⟩
  | 94 => ⟨S_, .f32⟩
  | 95 => ⟨S64x128x6, .f32⟩
  | 96 => ⟨S64x128x6x1, .f32⟩
  | 97 => ⟨S_, .f32⟩
  | 98 => ⟨S64x128x6x1, .f32⟩
  | 99 => ⟨S64x128x6x1, .f32⟩
  | 100 => ⟨S_, .f32⟩
  | 101 => ⟨S64x128x6, .f32⟩
  | 102 => ⟨S64x128x6x128, .f32⟩
  | 103 => ⟨S64x128x6x128, .f32⟩
  | 104 => ⟨S64x128x6x128, .f32⟩
  | 105 => ⟨S_, .f32⟩
  | 106 => ⟨S64x128x6, .f32⟩
  | 107 => ⟨S64x128x6x1, .f32⟩
  | 108 => ⟨S64x128x6x128, .f32⟩
  | 109 => ⟨S64x128x6x1, .f32⟩
  | 110 => ⟨S_, .f32⟩
  | 111 => ⟨S64x128x6x1, .f32⟩
  | 112 => ⟨S64x128x6x1, .f32⟩
  | 113 => ⟨S_, .f32⟩
  | 114 => ⟨S64x128x6, .f32⟩
  | 115 => ⟨S64x128x6x128, .f32⟩
  | 116 => ⟨S64x128x6x128, .f32⟩
  | 117 => ⟨S8192x768, .f32⟩
  | 118 => ⟨S8192x1536, .f32⟩
  | 119 => ⟨S8192x1536, .f32⟩
  | 120 => ⟨S8192x1536, .f32⟩
  | 121 => ⟨S_, .f32⟩
  | 122 => ⟨S8192x1536, .f32⟩
  | 123 => ⟨S8192x1536, .f32⟩
  | 124 => ⟨S8192x1536, .f32⟩
  | 125 => ⟨S_, .f32⟩
  | 126 => ⟨S8192x1536, .f32⟩
  | 127 => ⟨S8192x1536, .f32⟩
  | _ => ⟨S8192x1792, .f32⟩

abbrev hbmTy0_2 (i : Nat) : BufTy := match i % 128 with
  | 0 => ⟨S8192x1536, .f32⟩
  | 1 => ⟨S_, .f32⟩
  | 2 => ⟨S8192x1536, .f32⟩
  | 3 => ⟨S8192x1536, .f32⟩
  | 4 => ⟨S8192x1536, .f32⟩
  | 5 => ⟨S8192x1536, .f32⟩
  | 6 => ⟨S8192x1792, .f32⟩
  | 7 => ⟨S8192x1792, .bf16⟩
  | 8 => ⟨S128x6, .f32⟩
  | 9 => ⟨S_, .i32⟩
  | 10 => ⟨S_, .f32⟩
  | 11 => ⟨S128x128, .f32⟩
  | 12 => ⟨S_, .i32⟩
  | 13 => ⟨S_, .f32⟩
  | 14 => ⟨S8x128, .f32⟩
  | 15 => ⟨S_, .i32⟩
  | 16 => ⟨S_, .f32⟩
  | 17 => ⟨S8x128, .f32⟩
  | _ => ⟨S8192x1792, .f32⟩

abbrev hbmTy (i : Nat) : BufTy := match i / 128 with
  | 0 => hbmTy0_0 i
  | 1 => hbmTy0_1 i
  | 2 => hbmTy0_2 i
  | _ => ⟨S8192x1792, .f32⟩

abbrev bufTy : (tb : Table) → Fin (tcTables nBuf tb) → BufTy
  | .hbm, ⟨i, _⟩ => hbmTy i
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c : Ref sig .tc := ⟨.hbm, 76, rfl⟩
abbrev main_v55 : Ref sig .tc := ⟨.hbm, 77, rfl⟩
abbrev main_call0_v0 : Ref sig .tc := ⟨.hbm, 78, rfl⟩
abbrev main_call0_c : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_c_0 : Ref sig .tc := ⟨.hbm, 84, rfl⟩
abbrev main_call0_v5 : Ref sig .tc := ⟨.hbm, 85, rfl⟩
abbrev main_v56 : Ref sig .tc := ⟨.hbm, 86, rfl⟩
abbrev main_v57 : Ref sig .tc := ⟨.hbm, 87, rfl⟩
abbrev main_cst_13 : Ref sig .tc := ⟨.hbm, 88, rfl⟩
abbrev main_v58 : Ref sig .tc := ⟨.hbm, 89, rfl⟩
abbrev main_v59_1 : Ref sig .tc := ⟨.hbm, 90, rfl⟩
abbrev main_v59_0 : Ref sig .tc := ⟨.hbm, 91, rfl⟩
abbrev main_call1_cst : Ref sig .tc := ⟨.hbm, 92, rfl⟩
abbrev main_v59_2 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_14 : Ref sig .tc := ⟨.hbm, 108, rfl⟩
abbrev main_v74 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_cst_17 : Ref sig .tc := ⟨.hbm, 119, rfl⟩
abbrev main_v82 : Ref sig .tc := ⟨.hbm, 120, rfl⟩
abbrev main_v83 : Ref sig .tc := ⟨.hbm, 121, rfl⟩
abbrev main_cst_18 : Ref sig .tc := ⟨.hbm, 122, rfl⟩
abbrev main_v84 : Ref sig .tc := ⟨.hbm, 123, rfl⟩
abbrev main_v85 : Ref sig .tc := ⟨.hbm, 124, rfl⟩
abbrev main_cst_19 : Ref sig .tc := ⟨.hbm, 125, rfl⟩
abbrev main_v86 : Ref sig .tc := ⟨.hbm, 126, rfl⟩
abbrev main_v87 : Ref sig .tc := ⟨.hbm, 127, rfl⟩
abbrev main_cst_20 : Ref sig .tc := ⟨.hbm, 128, rfl⟩
abbrev main_v88 : Ref sig .tc := ⟨.hbm, 129, rfl⟩
abbrev main_cst_21 : Ref sig .tc := ⟨.hbm, 130, rfl⟩
abbrev main_v89 : Ref sig .tc := ⟨.hbm, 131, rfl⟩
abbrev main_cst_22 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_23 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_24 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_25 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_26 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_27 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_28 : Ref sig .tc := ⟨.hbm, 188, rfl⟩
abbrev main_v140 : Ref sig .tc := ⟨.hbm, 189, rfl⟩
abbrev main_v141 : Ref sig .tc := ⟨.hbm, 190, rfl⟩
abbrev main_cst_29 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_call2_cst : Ref sig .tc := ⟨.hbm, 198, rfl⟩
abbrev main_call2_v0 : Ref sig .tc := ⟨.hbm, 199, rfl⟩
abbrev main_v148 : Ref sig .tc := ⟨.hbm, 200, rfl⟩
abbrev main_cst_30 : Ref sig .tc := ⟨.hbm, 201, rfl⟩
abbrev main_v149 : Ref sig .tc := ⟨.hbm, 202, rfl⟩
abbrev main_v150 : Ref sig .tc := ⟨.hbm, 203, rfl⟩
abbrev main_cst_31 : Ref sig .tc := ⟨.hbm, 204, rfl⟩
abbrev main_v151 : Ref sig .tc := ⟨.hbm, 205, rfl⟩
abbrev main_v152 : Ref sig .tc := ⟨.hbm, 206, rfl⟩
abbrev main_cst_32 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_cst_33 : Ref sig .tc := ⟨.hbm, 212, rfl⟩
abbrev main_v157 : Ref sig .tc := ⟨.hbm, 213, rfl⟩
abbrev main_v158 : Ref sig .tc := ⟨.hbm, 214, rfl⟩
abbrev main_cst_34 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_cst_35 : Ref sig .tc := ⟨.hbm, 222, rfl⟩
abbrev main_v165 : Ref sig .tc := ⟨.hbm, 223, rfl⟩
abbrev main_v166 : Ref sig .tc := ⟨.hbm, 224, rfl⟩
abbrev main_cst_36 : Ref sig .tc := ⟨.hbm, 225, rfl⟩
abbrev main_v167 : Ref sig .tc := ⟨.hbm, 226, rfl⟩
abbrev main_v168 : Ref sig .tc := ⟨.hbm, 227, rfl⟩
abbrev main_cst_37 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_cst_38 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_cst_39 : Ref sig .tc := ⟨.hbm, 238, rfl⟩
abbrev main_v177 : Ref sig .tc := ⟨.hbm, 239, rfl⟩
abbrev main_v178 : Ref sig .tc := ⟨.hbm, 240, rfl⟩
abbrev main_cst_40 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_cst_41 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_cst_42 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_cst_43 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_c_44 : Ref sig .tc := ⟨.hbm, 265, rfl⟩
abbrev main_call3_v0 : Ref sig .tc := ⟨.hbm, 266, rfl⟩
abbrev main_v199 : Ref sig .tc := ⟨.hbm, 267, rfl⟩
abbrev main_c_45 : Ref sig .tc := ⟨.hbm, 268, rfl⟩
abbrev main_call4_v0 : Ref sig .tc := ⟨.hbm, 269, rfl⟩
abbrev main_v200 : Ref sig .tc := ⟨.hbm, 270, rfl⟩
abbrev main_c_46 : Ref sig .tc := ⟨.hbm, 271, rfl⟩
abbrev main_call5_v0 : Ref sig .tc := ⟨.hbm, 272, rfl⟩
abbrev main_v201 : Ref sig .tc := ⟨.hbm, 273, rfl⟩

abbrev nD : Nat := 1
abbrev τ : Topo := Topo.v7x

variable {F : FTy → Type} [FloatOps F]
-- ==== MixA.lean ====
abbrev S8192x1280 : Shape := ⟨2, ![8192, 1280]⟩
abbrev S256x512 : Shape := ⟨2, ![256, 512]⟩
abbrev S12 : Shape := ⟨1, ![12]⟩
abbrev S8192x1024 : Shape := ⟨2, ![8192, 1024]⟩
abbrev S12x1 : Shape := ⟨2, ![12, 1]⟩
abbrev S12x128 : Shape := ⟨2, ![12, 128]⟩
abbrev S_ : Shape := ⟨0, ![]⟩
abbrev S16x128 : Shape := ⟨2, ![16, 128]⟩
abbrev S128x768 : Shape := ⟨2, ![128, 768]⟩
abbrev S128x128 : Shape := ⟨2, ![128, 128]⟩
abbrev S128x256 : Shape := ⟨2, ![128, 256]⟩
abbrev S256x256 : Shape := ⟨2, ![256, 256]⟩
abbrev S128x1024 : Shape := ⟨2, ![128, 1024]⟩
abbrev S128x1280 : Shape := ⟨2, ![128, 1280]⟩
abbrev S256x768 : Shape := ⟨2, ![256, 768]⟩
abbrev S256x128 : Shape := ⟨2, ![256, 128]⟩
abbrev S1x128 : Shape := ⟨2, ![1, 128]⟩
abbrev S1x1 : Shape := ⟨2, ![1, 1]⟩
abbrev S768x128 : Shape := ⟨2, ![768, 128]⟩
abbrev S1x768 : Shape := ⟨2, ![1, 768]⟩
abbrev S768 : Shape := ⟨1, ![768]⟩
abbrev S256 : Shape := ⟨1, ![256]⟩
abbrev S1x256 : Shape := ⟨2, ![1, 256]⟩
abbrev S640x128 : Shape := ⟨2, ![640, 128]⟩
abbrev S512x128 : Shape := ⟨2, ![512, 128]⟩
abbrev S384x128 : Shape := ⟨2, ![384, 128]⟩
abbrev S768x256 : Shape := ⟨2, ![768, 256]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 14
  | .vmem => 22
  | .smem => 0
  | _ => 0

abbrev bufTy : (tb : Table) → Fin (tcTables nBuf tb) → BufTy
  | .hbm, ⟨0, _⟩ => ⟨S8192x1280, .f32⟩
  | .hbm, ⟨1, _⟩ => ⟨S256x512, .f32⟩
  | .hbm, ⟨2, _⟩ => ⟨S12, .f32⟩
  | .hbm, ⟨3, _⟩ => ⟨S8192x1024, .f32⟩
  | .hbm, ⟨4, _⟩ => ⟨S12x1, .f32⟩
  | .hbm, ⟨5, _⟩ => ⟨S12x128, .f32⟩
  | .hbm, ⟨6, _⟩ => ⟨S_, .i32⟩
  | .hbm, ⟨7, _⟩ => ⟨S_, .f32⟩
  | .hbm, ⟨8, _⟩ => ⟨S16x128, .f32⟩
  | .hbm, ⟨9, _⟩ => ⟨S8192x1280, .bf16⟩
  | .hbm, ⟨10, _⟩ => ⟨S256x512, .bf16⟩
  | .hbm, ⟨11, _⟩ => ⟨S8192x1280, .bf16⟩
  | .hbm, ⟨12, _⟩ => ⟨S16x128, .f32⟩
  | .hbm, ⟨13, _⟩ => ⟨S256x512, .f32⟩
  | .local _ .vmem, ⟨0, _⟩ => ⟨S128x768, .bf16⟩
  | .local _ .vmem, ⟨1, _⟩ => ⟨S128x768, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x256, .bf16⟩
  | .local _ .vmem, ⟨11, _⟩ => ⟨S128x256, .bf16⟩
  | .local _ .vmem, ⟨12, _⟩ => ⟨S16x128, .f32⟩
  | .local _ .vmem, ⟨13, _⟩ => ⟨S256x256, .bf16⟩
  | .local _ .vmem, ⟨14, _⟩ => ⟨S256x256, .bf16⟩
  | .local _ .vmem, ⟨15, _⟩ => ⟨S128x1024, .f32⟩
  | .local _ .vmem, ⟨16, _⟩ => ⟨S128x1024, .f32⟩
  | .local _ .vmem, ⟨17, _⟩ => ⟨S128x1280, .bf16⟩
  | .local _ .vmem, ⟨18, _⟩ => ⟨S128x1280, .bf16⟩
  | .local _ .vmem, ⟨19, _⟩ => ⟨S16x128, .f32⟩
  | .local _ .vmem, ⟨20, _⟩ => ⟨S256x512, .f32⟩
  | .local _ .vmem, ⟨21, _⟩ => ⟨S128x256, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c6_i32 : BitVec 32 := 6#32
  let c0_i32 : BitVec 32 := 0#32
  ![v0.toNat, c6_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c7_i32 : BitVec 32 := 7#32
  let c0_i32 : BitVec 32 := 0#32
  ![v0.toNat, c7_i32.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c4_i32 : BitVec 32 := 4#32
  let c0_i32 : BitVec 32 := 0#32
  ![v0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1280 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MixAIdeal.lean ====
variable {F : FTy → Type} [FloatOps F] [Named F]
def κ : String → Option EReal := fun
  | "mask" => some ⊥
  | _ => none
-- ==== MixARefIdeal.lean ====
abbrev S8192x1280 : Shape := ⟨2, ![8192, 1280]⟩
abbrev S256x512 : Shape := ⟨2, ![256, 512]⟩
abbrev S12 : Shape := ⟨1, ![12]⟩
abbrev S8192x1024 : Shape := ⟨2, ![8192, 1024]⟩
abbrev S8192x768 : Shape := ⟨2, ![8192, 768]⟩
abbrev S8192x128 : Shape := ⟨2, ![8192, 128]⟩
abbrev S8192x256 : Shape := ⟨2, ![8192, 256]⟩
abbrev S8192x12x64 : Shape := ⟨3, ![8192, 12, 64]⟩
abbrev S8192x2x64 : Shape := ⟨3, ![8192, 2, 64]⟩
abbrev S64x128x2x6x64 : Shape := ⟨5, ![64, 128, 2, 6, 64]⟩
abbrev S64x128x2x64 : Shape := ⟨4, ![64, 128, 2, 64]⟩
abbrev S1x128x2x64 : Shape := ⟨4, ![1, 128, 2, 64]⟩
abbrev S_ : Shape := ⟨0, ![]⟩
abbrev S63x128x2x64 : Shape := ⟨4, ![63, 128, 2, 64]⟩
abbrev S64x256x2x64 : Shape := ⟨4, ![64, 256, 2, 64]⟩
abbrev S64x2x256x128x6 : Shape := ⟨5, ![64, 2, 256, 128, 6]⟩
abbrev S64x2x6x128x256 : Shape := ⟨5, ![64, 2, 6, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S2x6 : Shape := ⟨2, ![2, 6]⟩
abbrev S1x2x6x1x1 : Shape := ⟨5, ![1, 2, 6, 1, 1]⟩
abbrev S64x2x6x128 : Shape := ⟨4, ![64, 2, 6, 128]⟩
abbrev S64x2x6x128x1 : Shape := ⟨5, ![64, 2, 6, 128, 1]⟩
abbrev S64x2x64x6x128 : Shape := ⟨5, ![64, 2, 64, 6, 128]⟩
abbrev S8192x4x64 : Shape := ⟨3, ![8192, 4, 64]⟩
abbrev S256x256 : Shape := ⟨2, ![256, 256]⟩
abbrev S256x4x64 : Shape := ⟨3, ![256, 4, 64]⟩
abbrev S4x8192x256 : Shape := ⟨3, ![4, 8192, 256]⟩
abbrev S4x8192 : Shape := ⟨2, ![4, 8192]⟩
abbrev S4x8192x1 : Shape := ⟨3, ![4, 8192, 1]⟩
abbrev S4x64x8192 : Shape := ⟨3, ![4, 64, 8192]⟩
abbrev S4x64x256 : Shape := ⟨3, ![4, 64, 256]⟩
abbrev S4x256x64 : Shape := ⟨3, ![4, 256, 64]⟩
abbrev S4x8192x64 : Shape := ⟨3, ![4, 8192, 64]⟩
abbrev S64x2x64x256 : Shape := ⟨4, ![64, 2, 64, 256]⟩
abbrev S2x6x1 : Shape := ⟨3, ![2, 6, 1]⟩
abbrev S64x2x128x6x64 : Shape := ⟨5, ![64, 2, 128, 6, 64]⟩
abbrev S64x2x256x64 : Shape := ⟨4, ![64, 2, 256, 64]⟩
abbrev S12x1 : Shape := ⟨2, ![12, 1]⟩
abbrev S12x128 : Shape := ⟨2, ![12, 128]⟩
abbrev S16x128 : Shape := ⟨2, ![16, 128]⟩

abbrev nBuf : Space → Nat
  | .hbm => 297
  | .vmem => 0
  | .smem => 0
  | _ => 0

abbrev hbmTy0_0 (i : Nat) : BufTy := match i % 128 with
  | 0 => ⟨S8192x1280, .f32⟩
  | 1 => ⟨S256x512, .f32⟩
  | 2 => ⟨S12, .f32⟩
  | 3 => ⟨S8192x1024, .f32⟩
  | 4 => ⟨S8192x768, .f32⟩
  | 5 => ⟨S8192x128, .f32⟩
  | 6 => ⟨S8192x128, .f32⟩
  | 7 => ⟨S8192x256, .f32⟩
  | 8 => ⟨S8192x12x64, .f32⟩
  | 9 => ⟨S8192x2x64, .f32⟩
  | 10 => ⟨S8192x2x64, .f32⟩
  | 11 => ⟨S64x128x2x6x64, .f32⟩
  | 12 => ⟨S64x128x2x64, .f32⟩
  | 13 => ⟨S1x128x2x64, .f32⟩
  | 14 => ⟨S_, .f32⟩
  | 15 => ⟨S1x128x2x64, .f32⟩
  | 16 => ⟨S63x128x2x64, .f32⟩
  | 17 => ⟨S64x128x2x64, .f32⟩
  | 18 => ⟨S_, .f32⟩
  | 19 => ⟨S1x128x2x64, .f32⟩
  | 20 => ⟨S64x256x2x64, .f32⟩
  | 21 => ⟨S64x128x2x64, .f32⟩
  | 22 => ⟨S1x128x2x64, .f32⟩
  | 23 => ⟨S_, .f32⟩
  | 24 => ⟨S1x128x2x64, .f32⟩
  | 25 => ⟨S63x128x2x64, .f32⟩
  | 26 => ⟨S64x128x2x64, .f32⟩
  | 27 => ⟨S_, .f32⟩
  | 28 => ⟨S1x128x2x64, .f32⟩
  | 29 => ⟨S64x256x2x64, .f32⟩
  | 30 => ⟨S64x2x256x128x6, .f32⟩
  | 31 => ⟨S64x2x6x128x256, .f32⟩
  | 32 => ⟨S_, .f32⟩
  | 33 => ⟨S64x2x6x128x256, .f32⟩
  | 34 => ⟨S64x2x6x128x256, .f32⟩
  | 35 => ⟨S128, .i32⟩
  | 36 => ⟨S128x1, .i32⟩
  | 37 => ⟨S256, .i32⟩
  | 38 => ⟨S1x256, .i32⟩
  | 39 => ⟨S_, .i32⟩
  | 40 => ⟨S128x1, .i32⟩
  | 41 => ⟨S128x1, .i32⟩
  | 42 => ⟨S128x256, .i32⟩
  | 43 => ⟨S128x256, .i32⟩
  | 44 => ⟨S128x256, .i32⟩
  | 45 => ⟨S_, .i32⟩
  | 46 => ⟨S128x256, .i32⟩
  | 47 => ⟨S128x256, .i1⟩
  | 48 => ⟨S_, .i32⟩
  | 49 => ⟨S128x256, .i32⟩
  | 50 => ⟨S128x256, .i1⟩
  | 51 => ⟨S128x256, .i1⟩
  | 52 => ⟨S64, .i32⟩
  | 53 => ⟨S64x1x1, .i32⟩
  | 54 => ⟨S_, .i32⟩
  | 55 => ⟨S64x1x1, .i32⟩
  | 56 => ⟨S64x1x1, .i1⟩
  | 57 => ⟨S1x1x256, .i32⟩
  | 58 => ⟨S_, .i32⟩
  | 59 => ⟨S1x1x256, .i32⟩
  | 60 => ⟨S1x1x256, .i1⟩
  | 61 => ⟨S64x1x256, .i1⟩
  | 62 => ⟨S64x1x256, .i1⟩
  | 63 => ⟨S64x1x256, .i1⟩
  | 64 => ⟨S1x128x256, .i1⟩
  | 65 => ⟨S64x128x256, .i1⟩
  | 66 => ⟨S64x128x256, .i1⟩
  | 67 => ⟨S64x128x256, .i1⟩
  | 68 => ⟨S64x1x1x128x256, .i1⟩
  | 69 => ⟨S_, .f32⟩
  | 70 => ⟨S_, .f32⟩
  | 71 => ⟨S64x2x6x128x256, .i1⟩
  | 72 => ⟨S64x2x6x128x256, .f32⟩
  | 73 => ⟨S64x2x6x128x256, .f32⟩
  | 74 => ⟨S_, .f32⟩
  | 75 => ⟨S64x2x6x128x256, .f32⟩
  | 76 => ⟨S2x6, .f32⟩
  | 77 => ⟨S1x2x6x1x1, .f32⟩
  | 78 => ⟨S_, .f32⟩
  | 79 => ⟨S64x2x6x128, .f32⟩
  | 80 => ⟨S64x2x6x128x1, .f32⟩
  | 81 => ⟨S64x2x6x128x256, .f32⟩
  | 82 => ⟨S64x2x6x128x256, .i1⟩
  | 83 => ⟨S64x2x6x128x256, .f32⟩
  | 84 => ⟨S_, .f32⟩
  | 85 => ⟨S64x2x6x128, .f32⟩
  | 86 => ⟨S64x2x6x128x1, .f32⟩
  | 87 => ⟨S64x2x6x128x1, .f32⟩
  | 88 => ⟨S64x2x6x128x1, .f32⟩
  | 89 => ⟨S64x2x6x128x1, .f32⟩
  | 90 => ⟨S64x2x6x128x1, .i1⟩
  | 91 => ⟨S64x2x6x128x1, .f32⟩
  | 92 => ⟨S64x2x6x128x1, .i1⟩
  | 93 => ⟨S_, .f32⟩
  | 94 => ⟨S64x2x6x128x1, .f32⟩
  | 95 => ⟨S_, .f32⟩
  | 96 => ⟨S64x2x6x128x1, .f32⟩
  | 97 => ⟨S_, .f32⟩
  | 98 => ⟨S64x2x6x128x1, .f32⟩
  | 99 => ⟨S64x2x6x128x1, .f32⟩
  | 100 => ⟨S64x2x6x128x1, .f32⟩
  | 101 => ⟨S64x2x6x128x1, .f32⟩
  | 102 => ⟨S64x2x6x128x1, .i1⟩
  | 103 => ⟨S64x2x6x128x1, .f32⟩
  | 104 => ⟨S64x2x6x128x1, .i1⟩
  | 105 => ⟨S_, .f32⟩
  | 106 => ⟨S64x2x6x128x1, .f32⟩
  | 107 => ⟨S_, .f32⟩
  | 108 => ⟨S64x2x6x128x1, .f32⟩
  | 109 => ⟨S_, .f32⟩
  | 110 => ⟨S64x2x6x128x1, .f32⟩
  | 111 => ⟨S64x2x6x128x1, .f32⟩
  | 112 => ⟨S64x2x6x128x1, .f32⟩
  | 113 => ⟨S64x2x6x128x256, .f32⟩
  | 114 => ⟨S64x2x6x128x256, .f32⟩
  | 115 => ⟨S64x2x6x128x256, .f32⟩
  | 116 => ⟨S_, .f32⟩
  | 117 => ⟨S64x2x6x128, .f32⟩
  | 118 => ⟨S64x2x6x128x1, .f32⟩
  | 119 => ⟨S64x2x6x128x1, .f32⟩
  | 120 => ⟨S64x2x6x128x1, .f32⟩
  | 121 => ⟨S64x2x6x128x1, .f32⟩
  | 122 => ⟨S64x2x6x128x1, .f32⟩
  | 123 => ⟨S64x2x6x128x256, .f32⟩
  | 124 => ⟨S64x2x6x128x256, .f32⟩
  | 125 => ⟨S64x2x6x128x1, .f32⟩
  | 126 => ⟨S_, .f32⟩
  | 127 => ⟨S64x2x6x128x1, .f32⟩
  | _ => ⟨S8192x1280, .f32⟩

abbrev hbmTy0_1 (i : Nat) : BufTy := match i % 128 with
  | 0 => ⟨S64x2x6x128x1, .f32⟩
  | 1 => ⟨S64x2x64x6x128, .f32⟩
  | 2 => ⟨S64x128x2x6x64, .f32⟩
  | 3 => ⟨S8192x768, .f32⟩
  | 4 => ⟨S8192x4x64, .f32⟩
  | 5 => ⟨S256x256, .f32⟩
  | 6 => ⟨S256x256, .f32⟩
  | 7 => ⟨S256x4x64, .f32⟩
  | 8 => ⟨S256x4x64, .f32⟩
  | 9 => ⟨S4x8192x256, .f32⟩
  | 10 => ⟨S_, .f32⟩
  | 11 => ⟨S4x8192x256, .f32⟩
  | 12 => ⟨S4x8192x256, .f32⟩
  | 13 => ⟨S_, .f32⟩
  | 14 => ⟨S4x8192, .f32⟩
  | 15 => ⟨S4x8192x1, .f32⟩
  | 16 => ⟨S4x8192x256, .f32⟩
  | 17 => ⟨S4x8192x256, .i1⟩
  | 18 => ⟨S4x8192x256, .f32⟩
  | 19 => ⟨S_, .f32⟩
  | 20 => ⟨S4x8192, .f32⟩
  | 21 => ⟨S_, .f32⟩
  | 22 => ⟨S4x8192, .f32⟩
  | 23 => ⟨S4x8192, .f32⟩
  | 24 => ⟨S_, .f32⟩
  | 25 => ⟨S4x8192, .f32⟩
  | 26 => ⟨S4x8192, .i1⟩
  | 27 => ⟨S_, .f32⟩
  | 28 => ⟨S4x8192, .f32⟩
  | 29 => ⟨S4x8192, .i1⟩
  | 30 => ⟨S_, .f32⟩
  | 31 => ⟨S4x8192, .f32⟩
  | 32 => ⟨S_, .f32⟩
  | 33 => ⟨S4x8192, .f32⟩
  | 34 => ⟨S_, .f32⟩
  | 35 => ⟨S4x8192, .f32⟩
  | 36 => ⟨S4x8192, .f32⟩
  | 37 => ⟨S4x8192, .f32⟩
  | 38 => ⟨S4x8192x1, .f32⟩
  | 39 => ⟨S4x8192x256, .f32⟩
  | 40 => ⟨S4x8192x256, .f32⟩
  | 41 => ⟨S4x8192x256, .f32⟩
  | 42 => ⟨S_, .f32⟩
  | 43 => ⟨S4x8192, .f32⟩
  | 44 => ⟨S4x8192x1, .f32⟩
  | 45 => ⟨S4x8192x256, .f32⟩
  | 46 => ⟨S4x8192x256, .f32⟩
  | 47 => ⟨S4x8192x1, .f32⟩
  | 48 => ⟨S_, .f32⟩
  | 49 => ⟨S4x8192x1, .f32⟩
  | 50 => ⟨S4x8192x1, .f32⟩
  | 51 => ⟨S4x64x8192, .f32⟩
  | 52 => ⟨S8192x4x64, .f32⟩
  | 53 => ⟨S8192x256, .f32⟩
  | 54 => ⟨S8192x1024, .f32⟩
  | 55 => ⟨S8192x768, .f32⟩
  | 56 => ⟨S8192x256, .f32⟩
  | 57 => ⟨S8192x4x64, .f32⟩
  | 58 => ⟨S4x64x8192, .f32⟩
  | 59 => ⟨S4x8192x256, .f32⟩
  | 60 => ⟨S4x64x256, .f32⟩
  | 61 => ⟨S256x4x64, .f32⟩
  | 62 => ⟨S4x8192x256, .f32⟩
  | 63 => ⟨S4x8192x256, .f32⟩
  | 64 => ⟨S4x8192x256, .f32⟩
  | 65 => ⟨S_, .f32⟩
  | 66 => ⟨S4x8192, .f32⟩
  | 67 => ⟨S4x8192x1, .f32⟩
  | 68 => ⟨S4x8192x1, .f32⟩
  | 69 => ⟨S4x8192x256, .f32⟩
  | 70 => ⟨S4x8192x256, .f32⟩
  | 71 => ⟨S_, .f32⟩
  | 72 => ⟨S4x8192, .f32⟩
  | 73 => ⟨S4x8192x256, .f32⟩
  | 74 => ⟨S4x8192x256, .f32⟩
  | 75 => ⟨S4x8192x256, .f32⟩
  | 76 => ⟨S_, .f32⟩
  | 77 => ⟨S4x8192x256, .f32⟩
  | 78 => ⟨S4x8192x256, .f32⟩
  | 79 => ⟨S4x256x64, .f32⟩
  | 80 => ⟨S256x4x64, .f32⟩
  | 81 => ⟨S4x8192x64, .f32⟩
  | 82 => ⟨S8192x4x64, .f32⟩
  | 83 => ⟨S256x256, .f32⟩
  | 84 => ⟨S256x256, .f32⟩
  | 85 => ⟨S256x512, .f32⟩
  | 86 => ⟨S8192x256, .f32⟩
  | 87 => ⟨S64x128x2x6x64, .f32⟩
  | 88 => ⟨S64x2x64x6x128, .f32⟩
  | 89 => ⟨S64x2x6x128x256, .f32⟩
  | 90 => ⟨S64x2x64x256, .f32⟩
  | 91 => ⟨S64x256x2x64, .f32⟩
  | 92 => ⟨S64x2x6x128x256, .f32⟩
  | 93 => ⟨S64x2x6x128x256, .f32⟩
  | 94 => ⟨S64x2x6x128x256, .f32⟩
  | 95 => ⟨S_, .f32⟩
  | 96 => ⟨S64x2x6x128, .f32⟩
  | 97 => ⟨S64x2x6x128x1, .f32⟩
  | 98 => ⟨S64x2x6x128x1, .f32⟩
  | 99 => ⟨S64x2x6x128x256, .f32⟩
  | 100 => ⟨S64x2x6x128x256, .f32⟩
  | 101 => ⟨S64x2x6x128x1, .f32⟩
  | 102 => ⟨S_, .f32⟩
  | 103 => ⟨S2x6x1, .f32⟩
  | 104 => ⟨S1x2x6x1x1, .f32⟩
  | 105 => ⟨S64x2x6x128x1, .f32⟩
  | 106 => ⟨S_, .f32⟩
  | 107 => ⟨S64x2x6x128, .f32⟩
  | 108 => ⟨S64x2x6x128x256, .f32⟩
  | 109 => ⟨S64x2x6x128x256, .f32⟩
  | 110 => ⟨S64x2x6x128x256, .f32⟩
  | 111 => ⟨S64x2x6x128x256, .f32⟩
  | 112 => ⟨S_, .f32⟩
  | 113 => ⟨S64x2x6x128, .f32⟩
  | 114 => ⟨S64x2x6x128x1, .f32⟩
  | 115 => ⟨S64x2x6x128x1, .f32⟩
  | 116 => ⟨S64x2x6x128x1, .f32⟩
  | 117 => ⟨S_, .f32⟩
  | 118 => ⟨S2x6x1, .f32⟩
  | 119 => ⟨S1x2x6x1x1, .f32⟩
  | 120 => ⟨S1x2x6x1x1, .f32⟩
  | 121 => ⟨S64x2x6x128x1, .f32⟩
  | 122 => ⟨S_, .f32⟩
  | 123 => ⟨S64x2x6x128, .f32⟩
  | 124 => ⟨S64x2x6x128, .f32⟩
  | 125 => ⟨S64x2x6x128x256, .f32⟩
  | 126 => ⟨S64x2x6x128x256, .f32⟩
  | 127 => ⟨S64x2x6x128x256, .f32⟩
  | _ => ⟨S8192x1280, .f32⟩

abbrev hbmTy0_2 (i : Nat) : BufTy := match i % 128 with
  | 0 => ⟨S_, .f32⟩
  | 1 => ⟨S2x6, .f32⟩
  | 2 => ⟨S12, .f32⟩
  | 3 => ⟨S_, .f32⟩
  | 4 => ⟨S64x2x6x128x256, .f32⟩
  | 5 => ⟨S64x2x6x128x256, .f32⟩
  | 6 => ⟨S_, .f32⟩
  | 7 => ⟨S64x2x6x128x256, .f32⟩
  | 8 => ⟨S64x2x6x128x256, .f32⟩
  | 9 => ⟨S64x2x256x128x6, .f32⟩
  | 10 => ⟨S64x2x128x6x64, .f32⟩
  | 11 => ⟨S64x128x2x6x64, .f32⟩
  | 12 => ⟨S64x2x256x64, .f32⟩
  | 13 => ⟨S64x256x2x64, .f32⟩
  | 14 => ⟨S64x128x2x64, .f32⟩
  | 15 => ⟨S64x128x2x64, .f32⟩
  | 16 => ⟨S1x128x2x64, .f32⟩
  | 17 => ⟨S63x128x2x64, .f32⟩
  | 18 => ⟨S_, .f32⟩
  | 19 => ⟨S64x128x2x64, .f32⟩
  | 20 => ⟨S64x128x2x64, .f32⟩
  | 21 => ⟨S8192x2x64, .f32⟩
  | 22 => ⟨S64x128x2x64, .f32⟩
  | 23 => ⟨S64x128x2x64, .f32⟩
  | 24 => ⟨S1x128x2x64, .f32⟩
  | 25 => ⟨S63x128x2x64, .f32⟩
  | 26 => ⟨S_, .f32⟩
  | 27 => ⟨S64x128x2x64, .f32⟩
  | 28 => ⟨S64x128x2x64, .f32⟩
  | 29 => ⟨S8192x2x64, .f32⟩
  | 30 => ⟨S8192x12x64, .f32⟩
  | 31 => ⟨S8192x128, .f32⟩
  | 32 => ⟨S8192x128, .f32⟩
  | 33 => ⟨S8192x768, .f32⟩
  | 34 => ⟨S8192x1280, .f32⟩
  | 35 => ⟨S12x1, .f32⟩
  | 36 => ⟨S12x128, .f32⟩
  | 37 => ⟨S_, .i32⟩
  | 38 => ⟨S_, .f32⟩
  | 39 => ⟨S16x128, .f32⟩
  | 40 => ⟨S8192x1280, .bf16⟩
  | _ => ⟨S8192x1280, .f32⟩

abbrev hbmTy (i : Nat) : BufTy := match i / 128 with
  | 0 => hbmTy0_0 i
  | 1 => hbmTy0_1 i
  | 2 => hbmTy0_2 i
  | _ => ⟨S8192x1280, .f32⟩

abbrev bufTy : (tb : Table) → Fin (tcTables nBuf tb) → BufTy
  | .hbm, ⟨i, _⟩ => hbmTy i
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_call0_v0 : Ref sig .tc := ⟨.hbm, 70, rfl⟩
abbrev main_v55_1 : Ref sig .tc := ⟨.hbm, 71, rfl⟩
abbrev main_call0_v2 : Ref sig .tc := ⟨.hbm, 72, rfl⟩
abbrev main_v55_0 : Ref sig .tc := ⟨.hbm, 73, rfl⟩
abbrev main_call0_cst : Ref sig .tc := ⟨.hbm, 74, rfl⟩
abbrev main_v55_2 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_cst_12 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_17 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_18 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_19 : Ref sig .tc := ⟨.hbm, 138, rfl⟩
abbrev main_v108 : Ref sig .tc := ⟨.hbm, 139, rfl⟩
abbrev main_v109 : Ref sig .tc := ⟨.hbm, 140, rfl⟩
abbrev main_cst_20 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_21 : Ref sig .tc := ⟨.hbm, 147, rfl⟩
abbrev main_v115 : Ref sig .tc := ⟨.hbm, 148, rfl⟩
abbrev main_cst_22 : Ref sig .tc := ⟨.hbm, 149, rfl⟩
abbrev main_v116 : Ref sig .tc := ⟨.hbm, 150, rfl⟩
abbrev main_v117 : Ref sig .tc := ⟨.hbm, 151, rfl⟩
abbrev main_cst_23 : Ref sig .tc := ⟨.hbm, 152, rfl⟩
abbrev main_v118 : Ref sig .tc := ⟨.hbm, 153, rfl⟩
abbrev main_v119 : Ref sig .tc := ⟨.hbm, 154, rfl⟩
abbrev main_cst_24 : Ref sig .tc := ⟨.hbm, 155, rfl⟩
abbrev main_v120 : Ref sig .tc := ⟨.hbm, 156, rfl⟩
abbrev main_v121 : Ref sig .tc := ⟨.hbm, 157, rfl⟩
abbrev main_cst_25 : Ref sig .tc := ⟨.hbm, 158, rfl⟩
abbrev main_v122 : Ref sig .tc := ⟨.hbm, 159, rfl⟩
abbrev main_cst_26 : Ref sig .tc := ⟨.hbm, 160, rfl⟩
abbrev main_v123 : Ref sig .tc := ⟨.hbm, 161, rfl⟩
abbrev main_cst_27 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_28 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_29 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_30 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_cst_31 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_cst_32 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_cst_33 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_cst_34 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_cst_35 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_cst_36 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_cst_37 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_cst_38 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_cst_39 : Ref sig .tc := ⟨.hbm, 256, rfl⟩
abbrev main_v206 : Ref sig .tc := ⟨.hbm, 257, rfl⟩
abbrev main_v207 : Ref sig .tc := ⟨.hbm, 258, rfl⟩
abbrev main_call1_cst : Ref sig .tc := ⟨.hbm, 259, rfl⟩
abbrev main_call1_v0 : Ref sig .tc := ⟨.hbm, 260, rfl⟩
abbrev main_v208 : Ref sig .tc := ⟨.hbm, 261, rfl⟩
abbrev main_cst_40 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_cst_41 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_cst_42 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_c_43 : Ref sig .tc := ⟨.hbm, 293, rfl⟩
abbrev main_call2_v0 : Ref sig .tc := ⟨.hbm, 294, rfl⟩
abbrev main_v237 : Ref sig .tc := ⟨.hbm, 295, rfl⟩
abbrev main_v238 : Ref sig .tc := ⟨.hbm, 296, rfl⟩

abbrev nD : Nat := 1
abbrev τ : Topo := Topo.v7x

variable {F : FTy → Type} [FloatOps F]
-- ==== GateUp.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩
abbrev S2x8192x1024 : Shape := ⟨3, ![2, 8192, 1024]⟩
abbrev S2x8192x2816 : Shape := ⟨3, ![2, 8192, 2816]⟩
abbrev S8192x2816 : Shape := ⟨2, ![8192, 2816]⟩
abbrev S512x1024 : Shape := ⟨2, ![512, 1024]⟩
abbrev S1x1x1024x1408 : Shape := ⟨4, ![1, 1, 1024, 1408]⟩
abbrev S1x512x1024 : Shape := ⟨3, ![1, 512, 1024]⟩
abbrev S2x512x1408 : Shape := ⟨3, ![2, 512, 1408]⟩
abbrev S512x1408 : Shape := ⟨2, ![512, 1408]⟩
abbrev S512 : Shape := ⟨1, ![512]⟩
abbrev S512x1 : Shape := ⟨2, ![512, 1]⟩
abbrev S1024x1408 : Shape := ⟨2, ![1024, 1408]⟩
abbrev S1x512x1408 : Shape := ⟨3, ![1, 512, 1408]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S1024x5632, .bf16⟩
  | .hbm, ⟨5, _⟩ => ⟨S1024x4x1408, .bf16⟩
  | .hbm, ⟨6, _⟩ => ⟨S4x1024x1408, .bf16⟩
  | .hbm, ⟨7, _⟩ => ⟨S1x4x1024x1408, .bf16⟩
  | .hbm, ⟨8, _⟩ => ⟨S2x8192x1024, .bf16⟩
  | .hbm, ⟨9, _⟩ => ⟨S2x8192x2816, .bf16⟩
  | .hbm, ⟨10, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x512x1024, .bf16⟩
  | .local _ .vmem, ⟨8, _⟩ => ⟨S1x512x1024, .bf16⟩
  | .local _ .vmem, ⟨9, _⟩ => ⟨S2x512x1408, .bf16⟩
  | .local _ .vmem, ⟨10, _⟩ => ⟨S2x512x1408, .bf16⟩
  | .local _ .vmem, ⟨11, _⟩ => ⟨S512x1408, .bf16⟩
  | .local _ .vmem, ⟨12, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateUpRefIdeal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1x8192x1024 : Shape := ⟨3, ![1, 8192, 1024]⟩
abbrev S2x8192x1024 : Shape := ⟨3, ![2, 8192, 1024]⟩
abbrev S1x8192x2816 : Shape := ⟨3, ![1, 8192, 2816]⟩
abbrev S2x8192x2816 : Shape := ⟨3, ![2, 8192, 2816]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x5632, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S1x8192x1024, .f32⟩
  | .hbm, ⟨37, _⟩ => ⟨S1x8192x1024, .f32⟩
  | .hbm, ⟨38, _⟩ => ⟨S2x8192x1024, .f32⟩
  | .hbm, ⟨39, _⟩ => ⟨S2x8192x1024, .bf16⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S1x8192x2816, .f32⟩
  | .hbm, ⟨49, _⟩ => ⟨S1x8192x2816, .f32⟩
  | .hbm, ⟨50, _⟩ => ⟨S2x8192x2816, .f32⟩
  | .hbm, ⟨51, _⟩ => ⟨S2x8192x2816, .bf16⟩
  | .hbm, ⟨52, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v16_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v16_1 : Ref sig .tc := ⟨.hbm, 33, rfl⟩
abbrev main_v16_0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]
-- ==== MixBFwd.lean ====
abbrev S8192x1792 : Shape := ⟨2, ![8192, 1792]⟩
abbrev S256x512 : Shape := ⟨2, ![256, 512]⟩
abbrev S6x128x128 : Shape := ⟨3, ![6, 128, 128]⟩
abbrev S6x128 : Shape := ⟨2, ![6, 128]⟩
abbrev S128x6 : Shape := ⟨2, ![128, 6]⟩
abbrev S_ : Shape := ⟨0, ![]⟩
abbrev S128x128 : Shape := ⟨2, ![128, 128]⟩
abbrev S8x128 : Shape := ⟨2, ![8, 128]⟩
abbrev S8192x1024 : Shape := ⟨2, ![8192, 1024]⟩
abbrev S128x1536 : Shape := ⟨2, ![128, 1536]⟩
abbrev S128x256 : Shape := ⟨2, ![128, 256]⟩
abbrev S256x256 : Shape := ⟨2, ![256, 256]⟩
abbrev S128x1024 : Shape := ⟨2, ![128, 1024]⟩
abbrev S1x128x128 : Shape := ⟨3, ![1, 128, 128]⟩
abbrev S128x1 : Shape := ⟨2, ![128, 1]⟩
abbrev S1x128 : Shape := ⟨2, ![1, 128]⟩
abbrev S256x128 : Shape := ⟨2, ![256, 128]⟩
abbrev S128 : Shape := ⟨1, ![128]⟩
abbrev S256 : Shape := ⟨1, ![256]⟩
abbrev S1x256 : Shape := ⟨2, ![1, 256]⟩

abbrev nBuf : Space → Nat
  | .hbm => 19
  | .vmem => 12
  | .smem => 0
  | _ => 0

abbrev bufTy : (tb : Table) → Fin (tcTables nBuf tb) → BufTy
  | .hbm, ⟨0, _⟩ => ⟨S8192x1792, .f32⟩
  | .hbm, ⟨1, _⟩ => ⟨S256x512, .f32⟩
  | .hbm, ⟨2, _⟩ => ⟨S6x128x128, .f32⟩
  | .hbm, ⟨3, _⟩ => ⟨S6x128, .f32⟩
  | .hbm, ⟨4, _⟩ => ⟨S6x128, .f32⟩
  | .hbm, ⟨5, _⟩ => ⟨S6x128, .f32⟩
  | .hbm, ⟨6, _⟩ => ⟨S128x6, .f32⟩
  | .hbm, ⟨7, _⟩ => ⟨S_, .i32⟩
  | .hbm, ⟨8, _⟩ => ⟨S_, .f32⟩
  | .hbm, ⟨9, _⟩ => ⟨S128x128, .f32⟩
  | .hbm, ⟨10, _⟩ => ⟨S_, .i32⟩
  | .hbm, ⟨11, _⟩ => ⟨S_, .f32⟩
  | .hbm, ⟨12, _⟩ => ⟨S8x128, .f32⟩
  | .hbm, ⟨13, _⟩ => ⟨S_, .i32⟩
  | .hbm, ⟨14, _⟩ => ⟨S_, .f32⟩
  | .hbm, ⟨15, _⟩ => ⟨S8x128, .f32⟩
  | .hbm, ⟨16, _⟩ => ⟨S8192x1792, .bf16⟩
  | .hbm, ⟨17, _⟩ => ⟨S256x512, .bf16⟩
  | .hbm, ⟨18, _⟩ => ⟨S8192x1024, .bf16⟩
  | .local _ .vmem, ⟨0, _⟩ => ⟨S128x1536, .bf16⟩
  | .local _ .vmem, ⟨1, _⟩ => ⟨S128x1536, .bf16⟩
  | .local _ .vmem, ⟨2, _⟩ => ⟨S128x256, .bf16⟩
  | .local _ .vmem, ⟨3, _⟩ => ⟨S128x256, .bf16⟩
  | .local _ .vmem, ⟨4, _⟩ => ⟨S6x128x128, .f32⟩
  | .local _ .vmem, ⟨5, _⟩ => ⟨S128x128, .f32⟩
  | .local _ .vmem, ⟨6, _⟩ => ⟨S8x128, .f32⟩
  | .local _ .vmem, ⟨7, _⟩ => ⟨S8x128, .f32⟩
  | .local _ .vmem, ⟨8, _⟩ => ⟨S256x256, .bf16⟩
  | .local _ .vmem, ⟨9, _⟩ => ⟨S256x256, .bf16⟩
  | .local _ .vmem, ⟨10, _⟩ => ⟨S128x1024, .bf16⟩
  | .local _ .vmem, ⟨11, _⟩ => ⟨S128x1024, .bf16⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_c_1 : Ref sig .tc := ⟨.hbm, 13, rfl⟩
abbrev main_call2_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixBFwdRefIdeal.lean ====
abbrev S8192x1792 : Shape := ⟨2, ![8192, 1792]⟩
abbrev S256x512 : Shape := ⟨2, ![256, 512]⟩
abbrev S6x128x128 : Shape := ⟨3, ![6, 128, 128]⟩
abbrev S6x128 : Shape := ⟨2, ![6, 128]⟩
abbrev S8192x1536 : Shape := ⟨2, ![8192, 1536]⟩
abbrev S8192x256 : Shape := ⟨2, ![8192, 256]⟩
abbrev S_ : Shape := ⟨0, ![]⟩
abbrev S8192x768 : Shape := ⟨2, ![8192, 768]⟩
abbrev S64x128x6x128 : Shape := ⟨4, ![64, 128, 6, 128]⟩
abbrev S64x128x6 : Shape := ⟨3, ![64, 128, 6]⟩
abbrev S64x128x6x1 : Shape := ⟨4, ![64, 128, 6, 1]⟩
abbrev S1x1x6x128 : Shape := ⟨4, ![1, 1, 6, 128]⟩
abbrev S128x128 : Shape := ⟨2, ![128, 128]⟩
abbrev S1x128x128 : Shape := ⟨3, ![1, 128, 128]⟩
abbrev S6x64x128x128 : Shape := ⟨4, ![6, 64, 128, 128]⟩
abbrev S128x6 : Shape := ⟨2, ![128, 6]⟩
abbrev S1x128x6x1 : Shape := ⟨4, ![1, 128, 6, 1]⟩
abbrev S8192x4x64 : Shape := ⟨3, ![8192, 4, 64]⟩
abbrev S256x256 : Shape := ⟨2, ![256, 256]⟩
abbrev S256x4x64 : Shape := ⟨3, ![256, 4, 64]⟩
abbrev S4x8192x256 : Shape := ⟨3, ![4, 8192, 256]⟩
abbrev S4x8192 : Shape := ⟨2, ![4, 8192]⟩
abbrev S4x8192x1 : Shape := ⟨3, ![4, 8192, 1]⟩
abbrev S4x64x8192 : Shape := ⟨3, ![4, 64, 8192]⟩
abbrev S8192x1024 : Shape := ⟨2, ![8192, 1024]⟩

abbrev nBuf : Space → Nat
  | .hbm => 109
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S256x512, .f32⟩
  | .hbm, ⟨2, _⟩ => ⟨S6x128x128, .f32⟩
  | .hbm, ⟨3, _⟩ => ⟨S6x128, .f32⟩
  | .hbm, ⟨4, _⟩ => ⟨S6x128, .f32⟩
  | .hbm, ⟨5, _⟩ => ⟨S6x128, .f32⟩
  | .hbm, ⟨6, _⟩ => ⟨S8192x1536, .f32⟩
  | .hbm, ⟨7, _⟩ => ⟨S8192x256, .f32⟩
  | .hbm, ⟨8, _⟩ => ⟨S8192x1536, .f32⟩
  | .hbm, ⟨9, _⟩ => ⟨S8192x1536, .f32⟩
  | .hbm, ⟨10, _⟩ => ⟨S_, .f32⟩
  | .hbm, ⟨11, _⟩ => ⟨S8192x1536, .f32⟩
  | .hbm, ⟨12, _⟩ => ⟨S8192x1536, .f32⟩
  | .hbm, ⟨13, _⟩ => ⟨S8192x1536, .f32⟩
  | .hbm, ⟨14, _⟩ => ⟨S_, .f32⟩
  | .hbm, ⟨15, _⟩ => ⟨S8192x1536, .f32⟩
  | .hbm, ⟨16, _⟩ => ⟨S8192x1536, .f32⟩
  | .hbm, ⟨17, _⟩ => ⟨S8192x1536, .f32⟩
  | .hbm, ⟨18, _⟩ => ⟨S_, .f32⟩
  | .hbm, ⟨19, _⟩ => ⟨S8192x1536, .f32⟩
  | .hbm, ⟨20, _⟩ => ⟨S8192x1536, .f32⟩
  | .hbm, ⟨21, _⟩ => ⟨S_, .f32⟩
  | .hbm, ⟨22, _⟩ => ⟨S8192x1536, .f32⟩
  | .hbm, ⟨23, _⟩ => ⟨S8192x1536, .f32⟩
  | .hbm, ⟨24, _⟩ => ⟨S8192x1536, .f32⟩
  | .hbm, ⟨25, _⟩ => ⟨S8192x768, .f32⟩
  | .hbm, ⟨26, _⟩ => ⟨S8192x768, .f32⟩
  | .hbm, ⟨27, _⟩ => ⟨S64x128x6x128, .f32⟩
  | .hbm, ⟨28, _⟩ => ⟨S_, .f32⟩
  | .hbm, ⟨29, _⟩ => ⟨S64x128x6, .f32⟩
  | .hbm, ⟨30, _⟩ => ⟨S64x128x6x1, .f32⟩
  | .hbm, ⟨31, _⟩ => ⟨S_, .f32⟩
  | .hbm, ⟨32, _⟩ => ⟨S64x128x6x1, .f32⟩
  | .hbm, ⟨33, _⟩ => ⟨S64x128x6x1, .f32⟩
  | .hbm, ⟨34, _⟩ => ⟨S64x128x6x128, .f32⟩
  | .hbm, ⟨35, _⟩ => ⟨S64x128x6x128, .f32⟩
  | .hbm, ⟨36, _⟩ => ⟨S64x128x6x128, .f32⟩
  | .hbm, ⟨37, _⟩ => ⟨S_, .f32⟩
  | .hbm, ⟨38, _⟩ => ⟨S64x128x6, .f32⟩
  | .hbm, ⟨39, _⟩ => ⟨S64x128x6x1, .f32⟩
  | .hbm, ⟨40, _⟩ => ⟨S_, .f32⟩
  | .hbm, ⟨41, _⟩ => ⟨S64x128x6x1, .f32⟩
  | .hbm, ⟨42, _⟩ => ⟨S64x128x6x1, .f32⟩
  | .hbm, ⟨43, _⟩ => ⟨S64x128x6x128, .f32⟩
  | .hbm, ⟨44, _⟩ => ⟨S64x128x6x128, .f32⟩
  | .hbm, ⟨45, _⟩ => ⟨S_, .f32⟩
  | .hbm, ⟨46, _⟩ => ⟨S64x128x6x1, .f32⟩
  | .hbm, ⟨47, _⟩ => ⟨S64x128x6x1, .f32⟩
  | .hbm, ⟨48, _⟩ => ⟨S64x128x6x1, .f32⟩
  | .hbm, ⟨49, _⟩ => ⟨S64x128x6x128, .f32⟩
  | .hbm, ⟨50, _⟩ => ⟨S64x128x6x128, .f32⟩
  | .hbm, ⟨51, _⟩ => ⟨S1x1x6x128, .f32⟩
  | .hbm, ⟨52, _⟩ => ⟨S64x128x6x128, .f32⟩
  | .hbm, ⟨53, _⟩ => ⟨S64x128x6x128, .f32⟩
  | .hbm, ⟨54, _⟩ => ⟨S1x1x6x128, .f32⟩
  | .hbm, ⟨55, _⟩ => ⟨S64x128x6x128, .f32⟩
  | .hbm, ⟨56, _⟩ => ⟨S64x128x6x128, .f32⟩
  | .hbm, ⟨57, _⟩ => ⟨S_, .i1⟩
  | .hbm, ⟨58, _⟩ => ⟨S128x128, .i1⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .i1⟩
  | .hbm, ⟨66, _⟩ => ⟨S128x128, .i1⟩
  | .hbm, ⟨67, _⟩ => ⟨S128x128, .i1⟩
  | .hbm, ⟨68, _⟩ => ⟨S1x128x128, .i1⟩
  | .hbm, ⟨69, _⟩ => ⟨S_, .f32⟩
  | .hbm, ⟨70, _⟩ => ⟨S6x128x128, .f32⟩
  | .hbm, ⟨71, _⟩ => ⟨S6x128x128, .i1⟩
  | .hbm, ⟨72, _⟩ => ⟨S6x128x128, .f32⟩
  | .hbm, ⟨73, _⟩ => ⟨S6x64x128x128, .f32⟩
  | .hbm, ⟨74, _⟩ => ⟨S64x128x6x128, .f32⟩
  | .hbm, ⟨75, _⟩ => ⟨S128x6, .f32⟩
  | .hbm, ⟨76, _⟩ => ⟨S1x128x6x1, .f32⟩
  | .hbm, ⟨77, _⟩ => ⟨S64x128x6x128, .f32⟩
  | .hbm, ⟨78, _⟩ => ⟨S64x128x6x128, .f32⟩
  | .hbm, ⟨79, _⟩ => ⟨S8192x768, .f32⟩
  | .hbm, ⟨80, _⟩ => ⟨S8192x768, .f32⟩
  | .hbm, ⟨81, _⟩ => ⟨S8192x4x64, .f32⟩
  | .hbm, ⟨82, _⟩ => ⟨S256x256, .f32⟩
  | .hbm, ⟨83, _⟩ => ⟨S256x256, .f32⟩
  | .hbm, ⟨84, _⟩ => ⟨S256x4x64, .f32⟩
  | .hbm, ⟨85, _⟩ => ⟨S256x4x64, .f32⟩
  | .hbm, ⟨86, _⟩ => ⟨S4x8192x256, .f32⟩
  | .hbm, ⟨87, _⟩ => ⟨S_, .f32⟩
  | .hbm, ⟨88, _⟩ => ⟨S4x8192x256, .f32⟩
  | .hbm, ⟨89, _⟩ => ⟨S4x8192x256, .f32⟩
  | .hbm, ⟨90, _⟩ => ⟨S_, .f32⟩
  | .hbm, ⟨91, _⟩ => ⟨S4x8192, .f32⟩
  | .hbm, ⟨92, _⟩ => ⟨S_, .f32⟩
  | .hbm, ⟨93, _⟩ => ⟨S4x8192, .f32⟩
  | .hbm, ⟨94, _⟩ => ⟨S4x8192, .f32⟩
  | .hbm, ⟨95, _⟩ => ⟨S4x8192x1, .f32⟩
  | .hbm, ⟨96, _⟩ => ⟨S4x8192x256, .f32⟩
  | .hbm, ⟨97, _⟩ => ⟨S4x8192x256, .f32⟩
  | .hbm, ⟨98, _⟩ => ⟨S4x8192x256, .f32⟩
  | .hbm, ⟨99, _⟩ => ⟨S_, .f32⟩
  | .hbm, ⟨100, _⟩ => ⟨S4x8192, .f32⟩
  | .hbm, ⟨101, _⟩ => ⟨S4x8192x1, .f32⟩
  | .hbm, ⟨102, _⟩ => ⟨S4x8192x256, .f32⟩
  | .hbm, ⟨103, _⟩ => ⟨S4x8192x256, .f32⟩
  | .hbm, ⟨104, _⟩ => ⟨S4x64x8192, .f32⟩
  | .hbm, ⟨105, _⟩ => ⟨S8192x4x64, .f32⟩
  | .hbm, ⟨106, _⟩ => ⟨S8192x256, .f32⟩
  | .hbm, ⟨107, _⟩ => ⟨S8192x1024, .f32⟩
  | .hbm, ⟨108, _⟩ => ⟨S8192x1024, .bf16⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c : Ref sig .tc := ⟨.hbm, 57, rfl⟩
abbrev main_v42 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_c_0 : Ref sig .tc := ⟨.hbm, 65, rfl⟩
abbrev main_call0_v5 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_call1_v0 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_9 : Ref sig .tc := ⟨.hbm, 87, rfl⟩
abbrev main_v61 : Ref sig .tc := ⟨.hbm, 88, rfl⟩
abbrev main_v62 : Ref sig .tc := ⟨.hbm, 89, rfl⟩
abbrev main_cst_10 : Ref sig .tc := ⟨.hbm, 90, rfl⟩
abbrev main_v63 : Ref sig .tc := ⟨.hbm, 91, rfl⟩
abbrev main_cst_11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_12 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]
-- ==== NormFwd.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormFwdRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MixAFwd.lean ====
abbrev S8192x1280 : Shape := ⟨2, ![8192, 1280]⟩
abbrev S256x512 : Shape := ⟨2, ![256, 512]⟩
abbrev S12 : Shape := ⟨1, ![12]⟩
abbrev S12x1 : Shape := ⟨2, ![12, 1]⟩
abbrev S12x128 : Shape := ⟨2, ![12, 128]⟩
abbrev S_ : Shape := ⟨0, ![]⟩
abbrev S16x128 : Shape := ⟨2, ![16, 128]⟩
abbrev S8192x1024 : Shape := ⟨2, ![8192, 1024]⟩
abbrev S128x768 : Shape := ⟨2, ![128, 768]⟩
abbrev S128x128 : Shape := ⟨2, ![128, 128]⟩
abbrev S128x256 : Shape := ⟨2, ![128, 256]⟩
abbrev S256x256 : Shape := ⟨2, ![256, 256]⟩
abbrev S128x1024 : Shape := ⟨2, ![128, 1024]⟩
abbrev S256x128 : Shape := ⟨2, ![256, 128]⟩
abbrev S1x128 : Shape := ⟨2, ![1, 128]⟩
abbrev S1x1 : Shape := ⟨2, ![1, 1]⟩
abbrev S256x768 : Shape := ⟨2, ![256, 768]⟩
abbrev S768x128 : Shape := ⟨2, ![768, 128]⟩
abbrev S1x768 : Shape := ⟨2, ![1, 768]⟩
abbrev S768 : Shape := ⟨1, ![768]⟩
abbrev S256 : Shape := ⟨1, ![256]⟩
abbrev S1x256 : Shape := ⟨2, ![1, 256]⟩

abbrev nBuf : Space → Nat
  | .hbm => 11
  | .vmem => 17
  | .smem => 0
  | _ => 0

abbrev bufTy : (tb : Table) → Fin (tcTables nBuf tb) → BufTy
  | .hbm, ⟨0, _⟩ => ⟨S8192x1280, .f32⟩
  | .hbm, ⟨1, _⟩ => ⟨S256x512, .f32⟩
  | .hbm, ⟨2, _⟩ => ⟨S12, .f32⟩
  | .hbm, ⟨3, _⟩ => ⟨S12x1, .f32⟩
  | .hbm, ⟨4, _⟩ => ⟨S12x128, .f32⟩
  | .hbm, ⟨5, _⟩ => ⟨S_, .i32⟩
  | .hbm, ⟨6, _⟩ => ⟨S_, .f32⟩
  | .hbm, ⟨7, _⟩ => ⟨S16x128, .f32⟩
  | .hbm, ⟨8, _⟩ => ⟨S8192x1280, .bf16⟩
  | .hbm, ⟨9, _⟩ => ⟨S256x512, .bf16⟩
  | .hbm, ⟨10, _⟩ => ⟨S8192x1024, .bf16⟩
  | .local _ .vmem, ⟨0, _⟩ => ⟨S128x768, .bf16⟩
  | .local _ .vmem, ⟨1, _⟩ => ⟨S128x768, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x256, .bf16⟩
  | .local _ .vmem, ⟨11, _⟩ => ⟨S128x256, .bf16⟩
  | .local _ .vmem, ⟨12, _⟩ => ⟨S16x128, .f32⟩
  | .local _ .vmem, ⟨13, _⟩ => ⟨S256x256, .bf16⟩
  | .local _ .vmem, ⟨14, _⟩ => ⟨S256x256, .bf16⟩
  | .local _ .vmem, ⟨15, _⟩ => ⟨S128x1024, .bf16⟩
  | .local _ .vmem, ⟨16, _⟩ => ⟨S128x1024, .bf16⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let c0_i32_0 : BitVec 32 := 0#32
  ![v1.toNat, c6_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c7_i32 : BitVec 32 := 7#32
  let c0_i32_0 : BitVec 32 := 0#32
  ![v1.toNat, c7_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixAFwdIdeal.lean ====
variable {F : FTy → Type} [FloatOps F] [Named F]
def κ : String → Option EReal := fun
  | "mask" => some ⊥
  | _ => none
-- ==== MixAFwdRefIdeal.lean ====
abbrev S8192x1280 : Shape := ⟨2, ![8192, 1280]⟩
abbrev S256x512 : Shape := ⟨2, ![256, 512]⟩
abbrev S12 : Shape := ⟨1, ![12]⟩
abbrev S8192x768 : Shape := ⟨2, ![8192, 768]⟩
abbrev S8192x128 : Shape := ⟨2, ![8192, 128]⟩
abbrev S8192x256 : Shape := ⟨2, ![8192, 256]⟩
abbrev S8192x12x64 : Shape := ⟨3, ![8192, 12, 64]⟩
abbrev S8192x2x64 : Shape := ⟨3, ![8192, 2, 64]⟩
abbrev S64x128x2x6x64 : Shape := ⟨5, ![64, 128, 2, 6, 64]⟩
abbrev S64x128x2x64 : Shape := ⟨4, ![64, 128, 2, 64]⟩
abbrev S1x128x2x64 : Shape := ⟨4, ![1, 128, 2, 64]⟩
abbrev S_ : Shape := ⟨0, ![]⟩
abbrev S63x128x2x64 : Shape := ⟨4, ![63, 128, 2, 64]⟩
abbrev S64x256x2x64 : Shape := ⟨4, ![64, 256, 2, 64]⟩
abbrev S64x2x256x128x6 : Shape := ⟨5, ![64, 2, 256, 128, 6]⟩
abbrev S64x2x6x128x256 : Shape := ⟨5, ![64, 2, 6, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S2x6 : Shape := ⟨2, ![2, 6]⟩
abbrev S1x2x6x1x1 : Shape := ⟨5, ![1, 2, 6, 1, 1]⟩
abbrev S64x2x6x128 : Shape := ⟨4, ![64, 2, 6, 128]⟩
abbrev S64x2x6x128x1 : Shape := ⟨5, ![64, 2, 6, 128, 1]⟩
abbrev S64x2x64x6x128 : Shape := ⟨5, ![64, 2, 64, 6, 128]⟩
abbrev S8192x4x64 : Shape := ⟨3, ![8192, 4, 64]⟩
abbrev S256x256 : Shape := ⟨2, ![256, 256]⟩
abbrev S256x4x64 : Shape := ⟨3, ![256, 4, 64]⟩
abbrev S4x8192x256 : Shape := ⟨3, ![4, 8192, 256]⟩
abbrev S4x8192 : Shape := ⟨2, ![4, 8192]⟩
abbrev S4x8192x1 : Shape := ⟨3, ![4, 8192, 1]⟩
abbrev S4x64x8192 : Shape := ⟨3, ![4, 64, 8192]⟩
abbrev S8192x1024 : Shape := ⟨2, ![8192, 1024]⟩

abbrev nBuf : Space → Nat
  | .hbm => 119
  | .vmem => 0
  | .smem => 0
  | _ => 0

abbrev bufTy : (tb : Table) → Fin (tcTables nBuf tb) → BufTy
  | .hbm, ⟨0, _⟩ => ⟨S8192x1280, .f32⟩
  | .hbm, ⟨1, _⟩ => ⟨S256x512, .f32⟩
  | .hbm, ⟨2, _⟩ => ⟨S12, .f32⟩
  | .hbm, ⟨3, _⟩ => ⟨S8192x768, .f32⟩
  | .hbm, ⟨4, _⟩ => ⟨S8192x128, .f32⟩
  | .hbm, ⟨5, _⟩ => ⟨S8192x128, .f32⟩
  | .hbm, ⟨6, _⟩ => ⟨S8192x256, .f32⟩
  | .hbm, ⟨7, _⟩ => ⟨S8192x12x64, .f32⟩
  | .hbm, ⟨8, _⟩ => ⟨S8192x2x64, .f32⟩
  | .hbm, ⟨9, _⟩ => ⟨S8192x2x64, .f32⟩
  | .hbm, ⟨10, _⟩ => ⟨S64x128x2x6x64, .f32⟩
  | .hbm, ⟨11, _⟩ => ⟨S64x128x2x64, .f32⟩
  | .hbm, ⟨12, _⟩ => ⟨S1x128x2x64, .f32⟩
  | .hbm, ⟨13, _⟩ => ⟨S_, .f32⟩
  | .hbm, ⟨14, _⟩ => ⟨S1x128x2x64, .f32⟩
  | .hbm, ⟨15, _⟩ => ⟨S63x128x2x64, .f32⟩
  | .hbm, ⟨16, _⟩ => ⟨S64x128x2x64, .f32⟩
  | .hbm, ⟨17, _⟩ => ⟨S64x256x2x64, .f32⟩
  | .hbm, ⟨18, _⟩ => ⟨S64x128x2x64, .f32⟩
  | .hbm, ⟨19, _⟩ => ⟨S1x128x2x64, .f32⟩
  | .hbm, ⟨20, _⟩ => ⟨S_, .f32⟩
  | .hbm, ⟨21, _⟩ => ⟨S1x128x2x64, .f32⟩
  | .hbm, ⟨22, _⟩ => ⟨S63x128x2x64, .f32⟩
  | .hbm, ⟨23, _⟩ => ⟨S64x128x2x64, .f32⟩
  | .hbm, ⟨24, _⟩ => ⟨S64x256x2x64, .f32⟩
  | .hbm, ⟨25, _⟩ => ⟨S64x2x256x128x6, .f32⟩
  | .hbm, ⟨26, _⟩ => ⟨S64x2x6x128x256, .f32⟩
  | .hbm, ⟨27, _⟩ => ⟨S_, .f32⟩
  | .hbm, ⟨28, _⟩ => ⟨S64x2x6x128x256, .f32⟩
  | .hbm, ⟨29, _⟩ => ⟨S64x2x6x128x256, .f32⟩
  | .hbm, ⟨30, _⟩ => ⟨S128, .i32⟩
  | .hbm, ⟨31, _⟩ => ⟨S128x1, .i32⟩
  | .hbm, ⟨32, _⟩ => ⟨S256, .i32⟩
  | .hbm, ⟨33, _⟩ => ⟨S1x256, .i32⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S128x256, .i1⟩
  | .hbm, ⟨47, _⟩ => ⟨S64, .i32⟩
  | .hbm, ⟨48, _⟩ => ⟨S64x1x1, .i32⟩
  | .hbm, ⟨49, _⟩ => ⟨S_, .i32⟩
  | .hbm, ⟨50, _⟩ => ⟨S64x1x1, .i32⟩
  | .hbm, ⟨51, _⟩ => ⟨S64x1x1, .i1⟩
  | .hbm, ⟨52, _⟩ => ⟨S1x1x256, .i32⟩
  | .hbm, ⟨53, _⟩ => ⟨S_, .i32⟩
  | .hbm, ⟨54, _⟩ => ⟨S1x1x256, .i32⟩
  | .hbm, ⟨55, _⟩ => ⟨S1x1x256, .i1⟩
  | .hbm, ⟨56, _⟩ => ⟨S64x1x256, .i1⟩
  | .hbm, ⟨57, _⟩ => ⟨S64x1x256, .i1⟩
  | .hbm, ⟨58, _⟩ => ⟨S64x1x256, .i1⟩
  | .hbm, ⟨59, _⟩ => ⟨S1x128x256, .i1⟩
  | .hbm, ⟨60, _⟩ => ⟨S64x128x256, .i1⟩
  | .hbm, ⟨61, _⟩ => ⟨S64x128x256, .i1⟩
  | .hbm, ⟨62, _⟩ => ⟨S64x128x256, .i1⟩
  | .hbm, ⟨63, _⟩ => ⟨S64x1x1x128x256, .i1⟩
  | .hbm, ⟨64, _⟩ => ⟨S_, .f32⟩
  | .hbm, ⟨65, _⟩ => ⟨S_, .f32⟩
  | .hbm, ⟨66, _⟩ => ⟨S64x2x6x128x256, .i1⟩
  | .hbm, ⟨67, _⟩ => ⟨S64x2x6x128x256, .f32⟩
  | .hbm, ⟨68, _⟩ => ⟨S64x2x6x128x256, .f32⟩
  | .hbm, ⟨69, _⟩ => ⟨S2x6, .f32⟩
  | .hbm, ⟨70, _⟩ => ⟨S1x2x6x1x1, .f32⟩
  | .hbm, ⟨71, _⟩ => ⟨S_, .f32⟩
  | .hbm, ⟨72, _⟩ => ⟨S64x2x6x128, .f32⟩
  | .hbm, ⟨73, _⟩ => ⟨S64x2x6x128x1, .f32⟩
  | .hbm, ⟨74, _⟩ => ⟨S64x2x6x128x1, .f32⟩
  | .hbm, ⟨75, _⟩ => ⟨S64x2x6x128x1, .f32⟩
  | .hbm, ⟨76, _⟩ => ⟨S64x2x6x128x256, .f32⟩
  | .hbm, ⟨77, _⟩ => ⟨S64x2x6x128x256, .f32⟩
  | .hbm, ⟨78, _⟩ => ⟨S64x2x6x128x256, .f32⟩
  | .hbm, ⟨79, _⟩ => ⟨S_, .f32⟩
  | .hbm, ⟨80, _⟩ => ⟨S64x2x6x128, .f32⟩
  | .hbm, ⟨81, _⟩ => ⟨S64x2x6x128x1, .f32⟩
  | .hbm, ⟨82, _⟩ => ⟨S64x2x6x128x1, .f32⟩
  | .hbm, ⟨83, _⟩ => ⟨S64x2x6x128x1, .f32⟩
  | .hbm, ⟨84, _⟩ => ⟨S64x2x6x128x1, .f32⟩
  | .hbm, ⟨85, _⟩ => ⟨S64x2x6x128x1, .f32⟩
  | .hbm, ⟨86, _⟩ => ⟨S64x2x6x128x256, .f32⟩
  | .hbm, ⟨87, _⟩ => ⟨S64x2x6x128x256, .f32⟩
  | .hbm, ⟨88, _⟩ => ⟨S64x2x64x6x128, .f32⟩
  | .hbm, ⟨89, _⟩ => ⟨S64x128x2x6x64, .f32⟩
  | .hbm, ⟨90, _⟩ => ⟨S8192x768, .f32⟩
  | .hbm, ⟨91, _⟩ => ⟨S8192x4x64, .f32⟩
  | .hbm, ⟨92, _⟩ => ⟨S256x256, .f32⟩
  | .hbm, ⟨93, _⟩ => ⟨S256x256, .f32⟩
  | .hbm, ⟨94, _⟩ => ⟨S256x4x64, .f32⟩
  | .hbm, ⟨95, _⟩ => ⟨S256x4x64, .f32⟩
  | .hbm, ⟨96, _⟩ => ⟨S4x8192x256, .f32⟩
  | .hbm, ⟨97, _⟩ => ⟨S_, .f32⟩
  | .hbm, ⟨98, _⟩ => ⟨S4x8192x256, .f32⟩
  | .hbm, ⟨99, _⟩ => ⟨S4x8192x256, .f32⟩
  | .hbm, ⟨100, _⟩ => ⟨S_, .f32⟩
  | .hbm, ⟨101, _⟩ => ⟨S4x8192, .f32⟩
  | .hbm, ⟨102, _⟩ => ⟨S_, .f32⟩
  | .hbm, ⟨103, _⟩ => ⟨S4x8192, .f32⟩
  | .hbm, ⟨104, _⟩ => ⟨S4x8192, .f32⟩
  | .hbm, ⟨105, _⟩ => ⟨S4x8192x1, .f32⟩
  | .hbm, ⟨106, _⟩ => ⟨S4x8192x256, .f32⟩
  | .hbm, ⟨107, _⟩ => ⟨S4x8192x256, .f32⟩
  | .hbm, ⟨108, _⟩ => ⟨S4x8192x256, .f32⟩
  | .hbm, ⟨109, _⟩ => ⟨S_, .f32⟩
  | .hbm, ⟨110, _⟩ => ⟨S4x8192, .f32⟩
  | .hbm, ⟨111, _⟩ => ⟨S4x8192x1, .f32⟩
  | .hbm, ⟨112, _⟩ => ⟨S4x8192x256, .f32⟩
  | .hbm, ⟨113, _⟩ => ⟨S4x8192x256, .f32⟩
  | .hbm, ⟨114, _⟩ => ⟨S4x64x8192, .f32⟩
  | .hbm, ⟨115, _⟩ => ⟨S8192x4x64, .f32⟩
  | .hbm, ⟨116, _⟩ => ⟨S8192x256, .f32⟩
  | .hbm, ⟨117, _⟩ => ⟨S8192x1024, .f32⟩
  | .hbm, ⟨118, _⟩ => ⟨S8192x1024, .bf16⟩
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_2 : Ref sig .tc := ⟨.hbm, 40, rfl⟩
abbrev main_v33 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_9 : Ref sig .tc := ⟨.hbm, 97, rfl⟩
abbrev main_v80 : Ref sig .tc := ⟨.hbm, 98, rfl⟩
abbrev main_v81 : Ref sig .tc := ⟨.hbm, 99, rfl⟩
abbrev main_cst_10 : Ref sig .tc := ⟨.hbm, 100, rfl⟩
abbrev main_v82 : Ref sig .tc := ⟨.hbm, 101, rfl⟩
abbrev main_cst_11 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_12 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩

abbrev nD : Nat := 1
abbrev τ : Topo := Topo.v7x

variable {F : FTy → Type} [FloatOps F]
-- ==== BIn.lean ====
abbrev S8192x1024 : Shape := ⟨2, ![8192, 1024]⟩
abbrev S1024 : Shape := ⟨1, ![1024]⟩
abbrev S1024x1792 : Shape := ⟨2, ![1024, 1792]⟩
abbrev S1x1024 : Shape := ⟨2, ![1, 1024]⟩
abbrev S1024x4x448 : Shape := ⟨3, ![1024, 4, 448]⟩
abbrev S4x1024x448 : Shape := ⟨3, ![4, 1024, 448]⟩
abbrev S1x4x1024x448 : Shape := ⟨4, ![1, 4, 1024, 448]⟩
abbrev S8192x1792 : Shape := ⟨2, ![8192, 1792]⟩
abbrev S512x1024 : Shape := ⟨2, ![512, 1024]⟩
abbrev S512x1792 : Shape := ⟨2, ![512, 1792]⟩
abbrev S1x1x1024x448 : Shape := ⟨4, ![1, 1, 1024, 448]⟩
abbrev S1024x448 : Shape := ⟨2, ![1024, 448]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S1x1024, .f32⟩
  | .hbm, ⟨4, _⟩ => ⟨S1024x1792, .bf16⟩
  | .hbm, ⟨5, _⟩ => ⟨S1024x4x448, .bf16⟩
  | .hbm, ⟨6, _⟩ => ⟨S4x1024x448, .bf16⟩
  | .hbm, ⟨7, _⟩ => ⟨S1x4x1024x448, .bf16⟩
  | .hbm, ⟨8, _⟩ => ⟨S8192x1024, .bf16⟩
  | .hbm, ⟨9, _⟩ => ⟨S8192x1792, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x4x1024x448, .bf16⟩
  | .local _ .vmem, ⟨4, _⟩ => ⟨S512x1024, .bf16⟩
  | .local _ .vmem, ⟨5, _⟩ => ⟨S512x1024, .bf16⟩
  | .local _ .vmem, ⟨6, _⟩ => ⟨S512x1792, .bf16⟩
  | .local _ .vmem, ⟨7, _⟩ => ⟨S512x1792, .bf16⟩
  | .local _ .vmem, ⟨8, _⟩ => ⟨S1024x1792, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x1024x448 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== BInIdeal.lean ====
abbrev S8192x1024 : Shape := ⟨2, ![8192, 1024]⟩
abbrev S1024 : Shape := ⟨1, ![1024]⟩
abbrev S1024x1792 : Shape := ⟨2, ![1024, 1792]⟩
abbrev S1x1024 : Shape := ⟨2, ![1, 1024]⟩
abbrev S1024x4x448 : Shape := ⟨3, ![1024, 4, 448]⟩
abbrev S4x1024x448 : Shape := ⟨3, ![4, 1024, 448]⟩
abbrev S1x4x1024x448 : Shape := ⟨4, ![1, 4, 1024, 448]⟩
abbrev S8192x1792 : Shape := ⟨2, ![8192, 1792]⟩
abbrev S512x1024 : Shape := ⟨2, ![512, 1024]⟩
abbrev S512x1792 : Shape := ⟨2, ![512, 1792]⟩
abbrev S1x1x1024x448 : Shape := ⟨4, ![1, 1, 1024, 448]⟩
abbrev S1024x448 : Shape := ⟨2, ![1024, 448]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S1x1024, .f32⟩
  | .hbm, ⟨4, _⟩ => ⟨S1024x1792, .bf16⟩
  | .hbm, ⟨5, _⟩ => ⟨S1024x4x448, .bf16⟩
  | .hbm, ⟨6, _⟩ => ⟨S4x1024x448, .bf16⟩
  | .hbm, ⟨7, _⟩ => ⟨S1x4x1024x448, .bf16⟩
  | .hbm, ⟨8, _⟩ => ⟨S8192x1024, .bf16⟩
  | .hbm, ⟨9, _⟩ => ⟨S8192x1792, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x4x1024x448, .bf16⟩
  | .local _ .vmem, ⟨4, _⟩ => ⟨S512x1024, .bf16⟩
  | .local _ .vmem, ⟨5, _⟩ => ⟨S512x1024, .bf16⟩
  | .local _ .vmem, ⟨6, _⟩ => ⟨S512x1792, .bf16⟩
  | .local _ .vmem, ⟨7, _⟩ => ⟨S512x1792, .bf16⟩
  | .local _ .vmem, ⟨8, _⟩ => ⟨S1024x1792, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x1024x448 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== BInRefIdeal.lean ====
abbrev S8192x1024 : Shape := ⟨2, ![8192, 1024]⟩
abbrev S1024 : Shape := ⟨1, ![1024]⟩
abbrev S1024x1792 : Shape := ⟨2, ![1024, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1792 : Shape := ⟨2, ![8192, 1792]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1792, .f32⟩
  | .hbm, ⟨21, _⟩ => ⟨S8192x1792, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== AIn.lean ====
abbrev S8192x1024 : Shape := ⟨2, ![8192, 1024]⟩
abbrev S1024 : Shape := ⟨1, ![1024]⟩
abbrev S1024x1280 : Shape := ⟨2, ![1024, 1280]⟩
abbrev S1x1024 : Shape := ⟨2, ![1, 1024]⟩
abbrev S1024x4x320 : Shape := ⟨3, ![1024, 4, 320]⟩
abbrev S4x1024x320 : Shape := ⟨3, ![4, 1024, 320]⟩
abbrev S1x4x1024x320 : Shape := ⟨4, ![1, 4, 1024, 320]⟩
abbrev S8192x1280 : Shape := ⟨2, ![8192, 1280]⟩
abbrev S512x1024 : Shape := ⟨2, ![512, 1024]⟩
abbrev S512x1280 : Shape := ⟨2, ![512, 1280]⟩
abbrev S1x1x1024x320 : Shape := ⟨4, ![1, 1, 1024, 320]⟩
abbrev S1024x320 : Shape := ⟨2, ![1024, 320]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1280, .f32⟩
  | .hbm, ⟨3, _⟩ => ⟨S1x1024, .f32⟩
  | .hbm, ⟨4, _⟩ => ⟨S1024x1280, .bf16⟩
  | .hbm, ⟨5, _⟩ => ⟨S1024x4x320, .bf16⟩
  | .hbm, ⟨6, _⟩ => ⟨S4x1024x320, .bf16⟩
  | .hbm, ⟨7, _⟩ => ⟨S1x4x1024x320, .bf16⟩
  | .hbm, ⟨8, _⟩ => ⟨S8192x1024, .bf16⟩
  | .hbm, ⟨9, _⟩ => ⟨S8192x1280, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x4x1024x320, .bf16⟩
  | .local _ .vmem, ⟨4, _⟩ => ⟨S512x1024, .bf16⟩
  | .local _ .vmem, ⟨5, _⟩ => ⟨S512x1024, .bf16⟩
  | .local _ .vmem, ⟨6, _⟩ => ⟨S512x1280, .bf16⟩
  | .local _ .vmem, ⟨7, _⟩ => ⟨S512x1280, .bf16⟩
  | .local _ .vmem, ⟨8, _⟩ => ⟨S1024x1280, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x1024x320 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AInRefIdeal.lean ====
abbrev S8192x1024 : Shape := ⟨2, ![8192, 1024]⟩
abbrev S1024 : Shape := ⟨1, ![1024]⟩
abbrev S1024x1280 : Shape := ⟨2, ![1024, 1280]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1280 : Shape := ⟨2, ![8192, 1280]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1280, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1280, .f32⟩
  | .hbm, ⟨21, _⟩ => ⟨S8192x1280, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.NormSpec.lean ====
/- The gradient of the RMS norm, one row at a time, over the extended reals. No program is named here: the kernels and
   the references of the norm's gradients are each shown equal to these functions. -/
module

public import Idealize.ShloMosaic.PureOps.Ideal.Laws

@[expose] public section

noncomputable section

namespace Cert.NormSpec

open Idealize.ShloMosaic

/-- The mean square of a row of 1024 numbers plus the norm's small constant. -/
def ms (x : Fin 1024 → EReal) : EReal :=
  Ideal.div (∑ k : Fin 1024, x k * x k) (Ideal.ofBits .f32 0x44800000#32) + Ideal.ofBits .f32 0x358637BD#32

/-- The reciprocal root of the row's mean square. -/
def rs (x : Fin 1024 → EReal) : EReal := Ideal.rsqrt (ms x)

/-- The part of the gradient that comes through the mean square: one number of a row `x` whose normalised values have
    the gradients `e`. -/
def thru (x e : Fin 1024 → EReal) : EReal :=
  Ideal.div ((∑ k : Fin 1024, x k * e k) * (Ideal.ofBits .f32 0xBF000000#32 * Ideal.div (rs x) (ms x)))
    (Ideal.ofBits .f32 0x44800000#32)

/-- The gradient with respect to the row, where `dy` is the gradient of the norm's result and `g` its gain. -/
def dx (x g dy : Fin 1024 → EReal) (j : Fin 1024) : EReal :=
  dy j * g j * rs x + x j * thru x (fun k => dy k * g k) + thru x (fun k => dy k * g k) * x j

/-- What one row adds to the gradient of the gain. -/
def dg (x dy : Fin 1024 → EReal) (j : Fin 1024) : EReal := x j * rs x * dy j

/-- Two rows of 2816 numbers side by side. -/
def beside (a b : Fin 2816 → EReal) (l : Fin 5632) : EReal :=
  if h : l.val < 2816 then a ⟨l, h⟩ else b ⟨l - 2816, by omega⟩

end Cert.NormSpec

end
-- ==== Proof.MemNormKernel.lean ====
/- What the kernel of the memory's norm gradient leaves in its two results. -/
module

public import proofs.«01_k».proof.Proof.Gen.MemNormIdeal.Frame
public import proofs.«01_k».proof.Proof.Gen.MemNormIdeal.Skeleton
public import proofs.«01_k».proof.Proof.NormSpec
public import Idealize.ShloMosaic.Lib.Pipeline.ValueKit
public import Idealize.ShloMosaic.Lib.Pointwise
public import Idealize.ShloMosaic.Lib.Claim

@[expose] public section

set_option maxRecDepth 16384

noncomputable section

namespace Cert.MemNormIdeal.Value

open Cert.MemNormIdeal Cert.MemNormIdeal.Gen Idealize.ShloMosaic Idealize.ShloMosaic.TcCoe Idealize.SL.Sem
open Idealize.ShloMosaic.Pipeline (Dat)
open Cert

theorem ms_at (x : FVec Ideal S256x1024 .f32) (r : Fin 256) :
    k0_pay3 (F := Ideal) x (ix2 r 0) = NormSpec.ms (fun k => x (ix2 r k)) := by
  pointwise [k0_pay3, NormSpec.ms]

theorem rs_at (x : FVec Ideal S256x1024 .f32) (r : Fin 256) :
    k0_pay4 (F := Ideal) x (ix2 r 0) = NormSpec.rs (fun k => x (ix2 r k)) := by
  pointwise [k0_pay4, NormSpec.rs, ms_at]

/-- The kernel's first result at row `r`, lane `j`: what it is given to add to plus the gradient of the row. -/
theorem dx_at (x : FVec Ideal S256x1024 .f32) (g : FVec Ideal S1x1024 .f32) (dy z : FVec Ideal S256x1024 .f32)
    (r : Fin 256) (j : Fin 1024) :
    k0_pay6 (F := Ideal) x g dy z (ix2 r j) = z (ix2 r j)
      + NormSpec.dx (fun k => x (ix2 r k)) (fun k => g (ix2 0 k)) (fun k => dy (ix2 r k)) j := by
  pointwise [k0_pay6, NormSpec.dx, NormSpec.thru, Fin.sum_univ_one, ms_at, rs_at]

/-- The kernel's sum over the rows at lane `j`. -/
theorem dg_at (x dy : FVec Ideal S256x1024 .f32) (j : Fin 1024) :
    k0_pay5 (F := Ideal) x dy (ix2 0 j)
      = ∑ r : Fin 256, NormSpec.dg (fun k => x (ix2 r k)) (fun k => dy (ix2 r k)) j := by
  pointwise [k0_pay5, NormSpec.dg, rs_at]

/-- The window's blocks are the whole arrays. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

variable (m : (ℓ : Loc nD τ sig) → Buf (Elt Ideal) ℓ)

/-- The gain reaches the kernel as one row. -/
theorem V_gain (c : Dev nD) : V m c main_v0
    = shapeCast S1x1024 (m ((c : Thread nD τ).loc main_arg1)) shapeCasts_S1024_S1x1024 := by
  unfold V; after_results; try rfl

/-- What the kernel adds its first result to is zero. -/
theorem V_zero (c : Dev nD) : V m c main_v1
    = broadcastInDim S256x1024 ![] bcast_S_S256x1024 (constant (F := Ideal) S_ .f32 0x00000000#32) := by
  unfold V; after_results; try rfl

/-- The first result is what the body computes of the arguments. -/
theorem final4 (c : Dev nD) : (dats m 0 c).arrAt 4 (cfgs 0).N = k0_pay6 (F := Ideal) (m ((c : Thread nD τ).loc main_arg0))
    (V m c main_v0) (m ((c : Thread nD τ).loc main_arg2)) (V m c main_v1) := by
  refine (dats m 0 c).arrAt_eq_of_after_last 4 t0_0 (by decide +kernel) _ fun j => ?_
  blk_simp
  rw [after0_4]
  unfold outsAt0
  frame_out
  blk_point [iblk, idx t0_0]

/-- The second result is the zeros it starts from plus the sum over the rows. -/
theorem final5 (c : Dev nD) : (dats m 0 c).arrAt 5 (cfgs 0).N = k0_pay2 (F := Ideal)
    (k0_pay5 (m ((c : Thread nD τ).loc main_arg0)) (m ((c : Thread nD τ).loc main_arg2))) (k0_pay1 (F := Ideal)) := by
  refine (dats m 0 c).arrAt_eq_of_after_last 5 t0_0 (by decide +kernel) _ fun j => ?_
  blk_simp
  rw [after0_5]
  unfold outsAt0
  frame_out
  blk_point [iblk, idx t0_0]

/-- The first result at row `r`, lane `j`: the gradient of the row. -/
theorem result4 (c : Dev nD) (r : Fin 256) (j : Fin 1024) :
    (show FVec Ideal S256x1024 .f32 from (dats m 0 c).arrAt 4 (cfgs 0).N) (ix2 r j) =
      NormSpec.dx (fun k => (show FVec Ideal S256x1024 .f32 from m ((c : Thread nD τ).loc main_arg0)) (ix2 r k))
        (fun k => (show FVec Ideal S1024 .f32 from m ((c : Thread nD τ).loc main_arg1)) (ix1 k))
        (fun k => (show FVec Ideal S256x1024 .f32 from m ((c : Thread nD τ).loc main_arg2)) (ix2 r k)) j := by
  rw [final4]
  refine (dx_at _ _ _ _ r j).trans ?_
  rw [V_gain, V_zero]
  pointwise []

/-- The second result at lane `j`: the gradient of the gain. -/
theorem result5 (c : Dev nD) (j : Fin 1024) :
    (show FVec Ideal S1x1024 .f32 from (dats m 0 c).arrAt 5 (cfgs 0).N) (ix2 0 j) =
      ∑ r : Fin 256, NormSpec.dg
        (fun k => (show FVec Ideal S256x1024 .f32 from m ((c : Thread nD τ).loc main_arg0)) (ix2 r k))
        (fun k => (show FVec Ideal S256x1024 .f32 from m ((c : Thread nD τ).loc main_arg2)) (ix2 r k)) j := by
  rw [final5]
  pointwise [k0_pay2, k0_pay1, dg_at]

end Cert.MemNormIdeal.Value

end
-- ==== Proof.MemNormRef.lean ====
/- What the reference of the memory's norm gradient computes. -/
module

public import proofs.«01_k».proof.Proof.Gen.MemNormRefIdeal.Run
public import proofs.«01_k».proof.Proof.Gen.MemNormRefIdeal.Read
public import proofs.«01_k».proof.Proof.NormSpec
public import Idealize.ShloMosaic.Lib.Pointwise

@[expose] public section

set_option maxRecDepth 16384

noncomputable section

namespace Cert.MemNormRefIdeal.Read

open Cert.MemNormRefIdeal Cert.MemNormRefIdeal.Gen Idealize.ShloMosaic Idealize.ShloMosaic.TcCoe Idealize.SL.Sem
open Cert

variable (x : FVec Ideal S256x1024 .f32) (g : FVec Ideal S1024 .f32) (dy : FVec Ideal S256x1024 .f32)

theorem ms_at (r : Fin 256) (z : Fin 1) : val_main_v6 (F := Ideal) x (ix2 r z) = NormSpec.ms (fun k => x (ix2 r k)) := by
  pointwise [val_main_v6, val_main_v5, val_main_v4, val_main_v3, val_main_v2, val_main_v1, val_main_v0, val_main_cst,
    val_main_cst_0, val_main_cst_1, NormSpec.ms]

theorem rs_at (r : Fin 256) (z : Fin 1) : val_main_v7 (F := Ideal) x (ix2 r z) = NormSpec.rs (fun k => x (ix2 r k)) := by
  pointwise [val_main_v7, NormSpec.rs, ms_at]

/-- The reference's first result. -/
theorem dx_at (r : Fin 256) (j : Fin 1024) : val_main_v35 (F := Ideal) x g dy (ix2 r j)
    = NormSpec.dx (fun k => x (ix2 r k)) (fun k => g (ix1 k)) (fun k => dy (ix2 r k)) j := by
  pointwise [val_main_v35, val_main_v34, val_main_v33, val_main_v32, val_main_v31, val_main_v30, val_main_v29,
    val_main_v28, val_main_v27, val_main_v26, val_main_v25, val_main_v24, val_main_v23, val_main_v22, val_main_v20,
    val_main_v19, val_main_v13, val_main_v10, val_main_v9, val_main_v8, val_main_cst_2, val_main_cst_5, val_main_cst_6,
    val_main_cst_7, ms_at, rs_at, NormSpec.dx, NormSpec.thru, Fin.sum_univ_one]

/-- The reference's second result. -/
theorem dg_at (j : Fin 1024) : val_main_v36 (F := Ideal) x dy (ix2 0 j)
    = ∑ r : Fin 256, NormSpec.dg (fun k => x (ix2 r k)) (fun k => dy (ix2 r k)) j := by
  pointwise [val_main_v36, val_main_v21, val_main_v18, val_main_v17, val_main_v16, val_main_v12, val_main_v11,
    val_main_cst_3, val_main_cst_4, rs_at, NormSpec.dg, Fin.sum_univ_one]

end Cert.MemNormRefIdeal.Read

end
-- ==== Proof.MemNorm.lean ====
/- The claims about the gradient of the memory's norm. -/
module

public import proofs.«01_k».proof.Defs
public import proofs.«01_k».proof.Proof.Gen.MemNorm.Frame
public import proofs.«01_k».proof.Proof.MemNormKernel
public import proofs.«01_k».proof.Proof.MemNormRef
public import Idealize.ShloMosaic.Lib.Claim

@[expose] public section

set_option maxRecDepth 16384

noncomputable section

namespace Cert.Proof.MemNorm

open Idealize.ShloMosaic Idealize.ShloMosaic.TcCoe Idealize.SL.Sem

theorem frame : Cert.quiescent_MemNorm := fun m ρ _ => Cert.MemNorm.Gen.frame m ρ
theorem frame_ideal : Cert.quiescent_MemNormIdeal := fun m ρ _ => Cert.MemNormIdeal.Gen.frame m ρ
theorem preserves : Cert.preserves_MemNorm_MemNormIdeal := trivial

theorem frame_ref : Cert.quiescent_MemNormRefIdeal := fun m ρ _ =>
  (θ_run Cert.MemNormRefIdeal.defs _ _).mono
    (fun r h => ⟨fun c => (h c).2.2, Idealize.ShloMosaic.sem_eq_zero_of_no_sems (by decide) r.2⟩)
    (Cert.MemNormRefIdeal.Value.run m ρ)

theorem algebraic : Cert.algebraic_MemNormIdeal_MemNormRefIdeal := by
  pair_intro
  · run_from Cert.MemNormIdeal.Gen.run_main m g
  · run_from Cert.MemNormRefIdeal.Value.run m' g'
    · rw [Cert.MemNormRefIdeal.Read.val_main_v35_eq]
      funext i
      idx_vars i
      exact (Cert.MemNormRefIdeal.Read.dx_at _ _ _ i0 i1).trans (Cert.MemNormIdeal.Value.result4 m c i0 i1).symm
    · rw [Cert.MemNormRefIdeal.Read.val_main_v36_eq]
      funext i
      idx_vars i
      obtain rfl : i0 = 0 := Subsingleton.elim _ _
      exact (Cert.MemNormRefIdeal.Read.dg_at _ _ i1).trans (Cert.MemNormIdeal.Value.result5 m c i1).symm

end Cert.Proof.MemNorm

end
-- ==== Proof.SwigluSpec.lean ====
/- The numbers of the SwiGLU and of its gradient, row by row, over the extended reals. -/
module

public import Idealize.ShloMosaic.PureOps
public import proofs.«01_k».proof.Proof.NormSpec

@[expose] public section

noncomputable section

namespace Cert.SwigluSpec

open Idealize.ShloMosaic

/-- One normalised row against one column of the weights. -/
def pre (x g w : Fin 1024 → EReal) : EReal := ∑ k : Fin 1024, x k * NormSpec.rs x * g k * w k

/-- The logistic function. -/
def sg (z : EReal) : EReal := Ideal.div 1 (1 + Ideal.exp (0 - z))

/-- What the forward call saves for the gate: the gate's gradient for a gradient of one. -/
def gatePlane (gate up : EReal) : EReal := up * (sg gate + gate * sg gate * (1 - sg gate))

/-- What the forward call saves for the other factor: the gate after its activation. -/
def upPlane (gate : EReal) : EReal := gate * sg gate

/-- One row of the result's gradient against one row of the second weights. -/
def dact (dh wd : Fin 1024 → EReal) : EReal := ∑ k : Fin 1024, dh k * wd k

end Cert.SwigluSpec

end
-- ==== Proof.SwigluKernel.lean ====
/- What the forward call of the SwiGLU saves and what the backward call makes of it. -/
module

public import proofs.«01_k».proof.Proof.Gen.SwigluIdeal.Frame
public import proofs.«01_k».proof.Proof.SwigluSpec
public import Idealize.ShloMosaic.Lib.Pipeline.ValueKit
public import Idealize.ShloMosaic.Lib.Pointwise

@[expose] public section

set_option maxRecDepth 16384

noncomputable section

namespace Cert.SwigluIdeal.Value

open Cert.SwigluIdeal Cert.SwigluIdeal.Gen Idealize.ShloMosaic Idealize.ShloMosaic.TcCoe Idealize.SL.Sem
open Idealize.ShloMosaic.Pipeline (Dat)
open Cert

/-! ## The forward call's blocks -/

section Blocks

variable (x : FVec Ideal S512x1024 .f32) (g : FVec Ideal S1x1024 .f32) (w v : FVec Ideal S1x1x1024x1408 .bf16)

/-- The normalised block. -/
theorem norm_at (r : Fin 512) (k : Fin 1024) : k0_pay4 (F := Ideal) x g (ix2 r k)
    = x (ix2 r k) * NormSpec.rs (fun k => x (ix2 r k)) * g (ix2 0 k) := by
  pointwise [k0_pay4, NormSpec.rs, NormSpec.ms]

theorem gate_at (r : Fin 512) (j : Fin 1408) : k0_pay6 (F := Ideal) x g w (ix2 r j)
    = SwigluSpec.pre (fun k => x (ix2 r k)) (fun k => g (ix2 0 k)) (fun k => w (ix4 0 0 k j)) := by
  pointwise [k0_pay6, norm_at, SwigluSpec.pre]

theorem up_at (r : Fin 512) (j : Fin 1408) : k0_pay7 (F := Ideal) x g v (ix2 r j)
    = SwigluSpec.pre (fun k => x (ix2 r k)) (fun k => g (ix2 0 k)) (fun k => v (ix4 0 0 k j)) := by
  pointwise [k0_pay7, norm_at, SwigluSpec.pre]

theorem sg_at (r : Fin 512) (j : Fin 1408) : k0_pay8 (F := Ideal) x g w (ix2 r j)
    = SwigluSpec.sg (k0_pay6 (F := Ideal) x g w (ix2 r j)) := by
  pointwise [k0_pay8, SwigluSpec.sg]

/-- What the forward call saves of one row block and one half of the columns. -/
theorem saved_at (p : Fin 2) (r : Fin 512) (j : Fin 1408) : out0_5 (F := Ideal) x g w v (ix3 p r j)
    = if (p : ℕ) = 0 then SwigluSpec.gatePlane (k0_pay6 (F := Ideal) x g w (ix2 r j)) (k0_pay7 (F := Ideal) x g v (ix2 r j))
      else SwigluSpec.upPlane (k0_pay6 (F := Ideal) x g w (ix2 r j)) := by
  unfold_out out0_5
  canon_tiles y h
  all_goals (obtain rfl : r = y 1 := Fin.ext h1; obtain rfl : j = y 2 := Fin.ext h2)
  case piece0 =>
    obtain rfl : p = 1 := Fin.ext (by change (p : ℕ) = _ at h0; change (p : ℕ) = 1; omega)
    rw [if_neg (by decide)]
    open_payloads
    pointwise [SwigluSpec.upPlane, SwigluSpec.sg]
  case piece1 =>
    obtain rfl : p = 0 := Fin.ext (by change (p : ℕ) = _ at h0; change (p : ℕ) = 0; omega)
    rw [if_pos (by decide)]
    open_payloads
    pointwise [SwigluSpec.gatePlane, SwigluSpec.sg]

end Blocks

section Blocks1

variable (d : FVec Ideal S512x1024 .bf16) (wd : FVec Ideal S1x2816x1024 .bf16) (gu : FVec Ideal S2x512x2816 .bf16)

/-- What the backward call makes of one row block. -/
theorem made_at (p : Fin 2) (r : Fin 512) (j : Fin 2816) : out1_3 (F := Ideal) d wd gu (ix3 p r j)
    = SwigluSpec.dact (fun k => d (ix2 r k)) (fun k => wd (ix3 0 j k)) * gu (ix3 p r j) := by
  unfold out1_3
  canon_tiles y h
  all_goals
    change (p : ℕ) = _ at h0
    change (r : ℕ) = _ at h1
    change (j : ℕ) = _ at h2
    open_payloads
    pointwise [SwigluSpec.dact]
    blk_point []

end Blocks1

theorem idx0 : ∀ t : Fin cfg0.N, win0_0.index t = ![(grid0.coords t 1).val, 0] ∧ win0_1.index t = ![0, 0] ∧ win0_2.index t = ![0, (grid0.coords t 0).val, 0, 0]
    ∧ win0_3.index t = ![0, (grid0.coords t 0).val + 2, 0, 0] ∧ win0_5.index t = ![0, (grid0.coords t 1).val, (grid0.coords t 0).val] :=
  (by decide +kernel : ∀ t : Fin grid0.N, _)

theorem idx1 : ∀ t : Fin cfg1.N, win1_0.index t = ![(grid1.coords t 0).val, 0] ∧ win1_1.index t = ![0, 0, 0] ∧ win1_2.index t = ![0, (grid1.coords t 0).val, 0]
    ∧ win1_3.index t = ![0, (grid1.coords t 0).val, 0] :=
  (by decide +kernel : ∀ t : Fin grid1.N, _)

/-! ## The arrays -/

/-- What the forward call saves, from the rows, the gain and the four column planes of the weights. -/
def saved (x : FVec Ideal S8192x1024 .f32) (g : FVec Ideal S1x1024 .f32) (w : FVec Ideal S1x4x1024x1408 .bf16) :
    FVec Ideal S2x8192x2816 .bf16 := fun i =>
  let gate := SwigluSpec.pre (fun k => x (ix2 (i 1) k)) (fun k => g (ix2 0 k))
    (fun k => w (ix4 0 ⟨(i 2 : ℕ) / 1408, by have := (i 2).isLt; change (i 2 : ℕ) < 2816 at this; omega⟩ k
      ⟨(i 2 : ℕ) % 1408, Nat.mod_lt _ (by decide)⟩))
  let up := SwigluSpec.pre (fun k => x (ix2 (i 1) k)) (fun k => g (ix2 0 k))
    (fun k => w (ix4 0 ⟨(i 2 : ℕ) / 1408 + 2, by have := (i 2).isLt; change (i 2 : ℕ) < 2816 at this; omega⟩ k
      ⟨(i 2 : ℕ) % 1408, Nat.mod_lt _ (by decide)⟩))
  if (i 0 : ℕ) = 0 then SwigluSpec.gatePlane gate up else SwigluSpec.upPlane gate

/-- What the backward call makes of the saved planes. -/
def made (d : FVec Ideal S8192x1024 .bf16) (wd : FVec Ideal S1x2816x1024 .bf16) (gu : FVec Ideal S2x8192x2816 .bf16) :
    FVec Ideal S2x8192x2816 .bf16 := fun i =>
  SwigluSpec.dact (fun k => d (ix2 (i 1) k)) (fun k => wd (ix3 0 (i 2) k)) * gu i

variable (V : (c : Dev nD) → (b : Ref sig .tc) → Buf (Elt Ideal) ((c : Thread nD τ).loc b))

theorem final0 (c : Dev nD) : (dat0 V c).arrAt 5 cfg0.N = saved (V c main_arg0) (V c main_v0) (V c main_v4) := by
  refine (dat0 V c).arrAt_eq_of_covers 5 _ (by decide +kernel) fun t _ y => ?_
  blk_simp
  rw [after0_5]
  idx_vars y
  refine (saved_at _ _ _ _ y0 y1 y2).trans ?_
  simp only [gate_at, up_at]
  unfold saved SwigluSpec.gatePlane SwigluSpec.upPlane SwigluSpec.pre NormSpec.rs NormSpec.ms
  pointwise []
  blk_point [iblk0, idx0 t]

theorem final1 (c : Dev nD) : (dat1 V c).arrAt 3 cfg1.N = made (V c main_v6) (V c main_v8) (V c main_v5_1) := by
  refine (dat1 V c).arrAt_eq_of_covers 3 _ (by decide +kernel) fun t _ y => ?_
  blk_simp
  rw [after1_3]
  idx_vars y
  refine (made_at _ _ _ y0 y1 y2).trans ?_
  unfold made SwigluSpec.dact
  pointwise []
  blk_point [iblk1, idx1 t]

end Cert.SwigluIdeal.Value

end
-- ==== Proof.SwigluRun.lean ====
/- The two calls of the SwiGLU one after the other: what memory holds at the end. -/
module

public import proofs.«01_k».proof.Proof.SwigluKernel

@[expose] public section

set_option maxRecDepth 16384

noncomputable section

namespace Cert.SwigluIdeal.Value

open Cert.SwigluIdeal Cert.SwigluIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends, and at the end each buffer that outlives the calls holds what the last boundary says. -/
theorem run_all : θ_run defs (onTc (τ := τ) (main (F := Ideal))) ⟨m, fun _ => 0, ρ⟩ (fun r => ∀ c : Dev nD,
    ∀ b ∈ Pipeline.ucRefs τ sig, r.2.mem (((c : Thread nD τ)).1, b) = W4 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The gain reaches the forward call as one row. -/
theorem V_gain (c : Dev nD) : V1 m ρ c main_v0
    = shapeCast S1x1024 (m ((c : Thread nD τ).loc main_arg1)) shapeCasts_S1024_S1x1024 := by
  show StableHlo.after hostOps0 (W0 m ρ c) _ = _
  after_results; try rfl

/-- The weights reach the forward call cut into four planes of columns. -/
theorem V_planes (c : Dev nD) : V1 m ρ c main_v4 = broadcastInDim S1x4x1024x1408 ![1, 2, 3] bcast_S4x1024x1408_S1x4x1024x1408_1_2_3
    (transpose S4x1024x1408 [1, 0, 2] (shapeCast S1024x4x1408 (truncf (F := Ideal) .bf16 (m ((c : Thread nD τ).loc main_arg2)) bitsLt_bf16_f32)
      shapeCasts_S1024x5632_S1024x4x1408) transposes_S1024x4x1408_S4x1024x1408_1_0_2) := by
  show StableHlo.after hostOps0 (W0 m ρ c) _ = _
  after_results; try rfl

theorem V_rows (c : Dev nD) : V1 m ρ c main_arg0 = m ((c : Thread nD τ).loc main_arg0) := W1_args m ρ c _ (by decide)

theorem V_dh (c : Dev nD) : V3 m ρ c main_v6 = truncf (F := Ideal) .bf16 (m ((c : Thread nD τ).loc main_arg4)) bitsLt_bf16_f32 := by
  show StableHlo.after hostOps1 (W2 m ρ c) _ = _
  after_results; try rfl

theorem V_wd (c : Dev nD) : V3 m ρ c main_v8 = broadcastInDim S1x2816x1024 ![1, 2] bcast_S2816x1024_S1x2816x1024_1_2
    (truncf (F := Ideal) .bf16 (m ((c : Thread nD τ).loc main_arg3)) bitsLt_bf16_f32) := by
  show StableHlo.after hostOps1 (W2 m ρ c) _ = _
  after_results; try rfl

/-- What the backward call is handed is what the forward call saved. -/
theorem V_saved (c : Dev nD) : V3 m ρ c main_v5_1 = saved (m ((c : Thread nD τ).loc main_arg0)) (V1 m ρ c main_v0) (V1 m ρ c main_v4) := by
  refine (W3_of m ρ c main_v5_1 (by decide)).trans ((W2_arr m ρ c 5).trans ?_)
  rw [final0, V_rows]

/-- The result array at the end of a run. -/
def result (c : Dev nD) : FVec Ideal S2x8192x2816 .bf16 :=
  made (V3 m ρ c main_v6) (V3 m ρ c main_v8) (V3 m ρ c main_v5_1)

/-- Every run ends with the result in its array and the arguments as they were. -/
theorem run : θ_run defs (onTc (τ := τ) (main (F := Ideal))) ⟨m, fun _ => 0, ρ⟩ (fun r => ∀ c : Dev nD,
    r.2.mem ((c.tc : Thread nD τ).loc main_v9) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun r h c => ⟨(h c _ (mem_uc main_v9 (by decide))).trans ((W4_arr m ρ c 3).trans (final1 (V3 m ρ) c)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩)
    (run_all m ρ)

/-- The result at plane `p`, row `r`, column `j`, from the arguments. -/
theorem result_at (c : Dev nD) (x : FVec Ideal S8192x1024 .f32) (g : FVec Ideal S1024 .f32) (w : FVec Ideal S1024x5632 .f32)
    (wd : FVec Ideal S2816x1024 .f32) (dh : FVec Ideal S8192x1024 .f32)
    (hx : m ((c : Thread nD τ).loc main_arg0) = x) (hg : m ((c : Thread nD τ).loc main_arg1) = g)
    (hw : m ((c : Thread nD τ).loc main_arg2) = w) (hwd : m ((c : Thread nD τ).loc main_arg3) = wd)
    (hdh : m ((c : Thread nD τ).loc main_arg4) = dh) (p : Fin 2) (r : Fin 8192) (j : Fin 2816) :
    result m ρ c (ix3 p r j)
      = SwigluSpec.dact (fun k => dh (ix2 r k)) (fun k => wd (ix2 j k))
        * if (p : ℕ) = 0 then
            SwigluSpec.gatePlane
              (SwigluSpec.pre (fun k => x (ix2 r k)) (fun k => g (ix1 k)) (fun k => w (ix2 k ⟨j, by omega⟩)))
              (SwigluSpec.pre (fun k => x (ix2 r k)) (fun k => g (ix1 k)) (fun k => w (ix2 k ⟨2816 + j, by omega⟩)))
          else SwigluSpec.upPlane
              (SwigluSpec.pre (fun k => x (ix2 r k)) (fun k => g (ix1 k)) (fun k => w (ix2 k ⟨j, by omega⟩))) := by
  unfold result made
  rw [V_dh, V_wd, V_saved, V_gain, V_planes, hx, hg, hw, hwd, hdh]
  unfold saved
  unfold SwigluSpec.gatePlane SwigluSpec.upPlane SwigluSpec.dact SwigluSpec.pre NormSpec.rs NormSpec.ms
  pointwise []
  blk_point []

end Cert.SwigluIdeal.Value
-- ==== Proof.SwigluRef.lean ====
/- What the reference of the SwiGLU's gradient computes. -/
module

public import proofs.«01_k».proof.Proof.Gen.SwigluRefIdeal.Run
public import proofs.«01_k».proof.Proof.Gen.SwigluRefIdeal.Read
public import proofs.«01_k».proof.Proof.SwigluSpec
public import Idealize.ShloMosaic.Lib.Pointwise

@[expose] public section

set_option maxRecDepth 16384

noncomputable section

namespace Cert.SwigluRefIdeal.Read

open Cert.SwigluRefIdeal Cert.SwigluRefIdeal.Gen Idealize.ShloMosaic Idealize.ShloMosaic.TcCoe Idealize.SL.Sem
open Cert

variable (x : FVec Ideal S8192x1024 .f32) (g : FVec Ideal S1024 .f32) (w : FVec Ideal S1024x5632 .f32)
  (wd : FVec Ideal S2816x1024 .f32) (dh : FVec Ideal S8192x1024 .f32)

theorem norm_at (r : Fin 8192) (k : Fin 1024) : val_main_v12 (F := Ideal) x g (ix2 r k)
    = x (ix2 r k) * NormSpec.rs (fun k => x (ix2 r k)) * g (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1,
    NormSpec.rs, NormSpec.ms]

theorem gate_at (r : Fin 8192) (j : Fin 2816) : val_main_v14 (F := Ideal) x g w (ix2 r j)
    = SwigluSpec.pre (fun k => x (ix2 r k)) (fun k => g (ix1 k)) (fun k => w (ix2 k ⟨j, by omega⟩)) := by
  pointwise [val_main_v14, val_main_v13, norm_at, SwigluSpec.pre]

theorem up_at (r : Fin 8192) (j : Fin 2816) : val_main_v15 (F := Ideal) x g w (ix2 r j)
    = SwigluSpec.pre (fun k => x (ix2 r k)) (fun k => g (ix1 k)) (fun k => w (ix2 k ⟨2816 + j, by omega⟩)) := by
  pointwise [val_main_v15, val_main_v13, norm_at, SwigluSpec.pre]

theorem dact_at (r : Fin 8192) (j : Fin 2816) : val_main_v19 (F := Ideal) wd dh (ix2 r j)
    = SwigluSpec.dact (fun k => dh (ix2 r k)) (fun k => wd (ix2 j k)) := by
  pointwise [val_main_v19, SwigluSpec.dact]

/-- The logistic function as the reference writes it. -/
def sgr (z : EReal) : EReal := Ideal.div 1 (1 + Ideal.exp (-z))

theorem sg_at (r : Fin 8192) (j : Fin 2816) : val_main_v16_2 (F := Ideal) x g w (ix2 r j)
    = sgr (val_main_v14 (F := Ideal) x g w (ix2 r j)) := by
  pointwise [val_main_v16_2, val_main_call0_v4, val_main_call0_v3, val_main_call0_v2, val_main_call0_v1,
    val_main_call0_v0, val_main_call0_cst, val_main_call0_cst_0, sgr]

/-- The gradient of the gate as the reference writes it. -/
theorem dgate_at (r : Fin 8192) (j : Fin 2816) : val_main_v22 (F := Ideal) x g w wd dh (ix2 r j)
    = val_main_v19 (F := Ideal) wd dh (ix2 r j) * val_main_v15 (F := Ideal) x g w (ix2 r j)
        * sgr (val_main_v14 (F := Ideal) x g w (ix2 r j))
      + val_main_v14 (F := Ideal) x g w (ix2 r j)
          * (val_main_v19 (F := Ideal) wd dh (ix2 r j) * val_main_v15 (F := Ideal) x g w (ix2 r j))
          * (sgr (val_main_v14 (F := Ideal) x g w (ix2 r j)) * (1 - sgr (val_main_v14 (F := Ideal) x g w (ix2 r j)))) := by
  pointwise [val_main_v22, val_main_call1_v2, val_main_call1_v1, val_main_call1_v0, val_main_v21, val_main_v16_1,
    val_main_call0_v7, val_main_call0_v6, val_main_call0_cst_1, sg_at]

theorem dup_at (r : Fin 8192) (j : Fin 2816) : val_main_v20 (F := Ideal) x g w wd dh (ix2 r j)
    = val_main_v14 (F := Ideal) x g w (ix2 r j) * sgr (val_main_v14 (F := Ideal) x g w (ix2 r j))
      * val_main_v19 (F := Ideal) wd dh (ix2 r j) := by
  pointwise [val_main_v20, val_main_v16_0, sg_at]

theorem result_at (p : Fin 2) (r : Fin 8192) (j : Fin 2816) : val_main_v26 (F := Ideal) x g w wd dh (ix3 p r j)
    = if (p : ℕ) = 0 then val_main_v22 (F := Ideal) x g w wd dh (ix2 r j)
      else val_main_v20 (F := Ideal) x g w wd dh (ix2 r j) := by
  pointwise [val_main_v26, val_main_v25, val_main_v24, val_main_v23]
  by_cases h : (p : ℕ) = 0
  · rw [if_pos h, dif_pos (by omega)]
  · rw [if_neg h, dif_neg (by omega)]

end Cert.SwigluRefIdeal.Read

end
-- ==== Proof.Reals.lean ====
/- Extended reals that are real numbers, and the operations that keep them so. -/
module

public import Idealize.ShloMosaic.PureOps
public import Idealize.ShloMosaic.Lib.IdealHost

@[expose] public section

noncomputable section

namespace Cert.Reals

open Idealize.ShloMosaic

/-- The extended real is a real number. -/
def IsReal (a : EReal) : Prop := ∃ r : ℝ, a = (r : EReal)

theorem IsReal.coe (r : ℝ) : IsReal (r : EReal) := ⟨r, rfl⟩

theorem IsReal.zero : IsReal 0 := ⟨0, rfl⟩

theorem IsReal.one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.neg {a : EReal} (ha : IsReal a) : IsReal (-a) := by
  obtain ⟨r, rfl⟩ := ha; exact ⟨-r, (EReal.coe_neg r).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.sum {ι : Type} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A sum of reals is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A division by a real other than zero is the real division. -/
theorem div_coe_coe (r : ℝ) {s : ℝ} (hs : s ≠ 0) : Ideal.div (r : EReal) (s : EReal) = ((r / s : ℝ) : EReal) := by
  rw [Ideal.div_coe hs, ← EReal.coe_mul, mul_one_div]

/-- A number of absolute value below infinity is real. -/
theorem isReal_of_abs_lt {a : EReal} (h : max a (-a) < ⊤) : IsReal a := by
  induction a using EReal.rec with
  | bot => simp at h
  | top => simp at h
  | coe r => exact ⟨r, rfl⟩

/-- The pattern of the row length. -/
theorem ofBits_1024 : Ideal.ofBits .f32 0x44800000#32 = ((1024 : ℝ) : EReal) := by
  simp [Ideal.ofBits, Ideal.ieee, -EReal.coe_mul]; norm_num

/-- The norm's small constant is a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- The pattern of infinity. -/
theorem ofBits_inf : Ideal.ofBits .f32 0x7F800000#32 = ⊤ := by
  simp [Ideal.ofBits, Ideal.ieee]

end Cert.Reals

end
-- ==== Proof.SwigluReal.lean ====
/- The SwiGLU's gradient as the kernel saves it and as the chain rule writes it agree when every number is real. -/
module

public import proofs.«01_k».proof.Proof.SwigluSpec
public import proofs.«01_k».proof.Proof.Reals

@[expose] public section

noncomputable section

namespace Cert.SwigluSpec

open Idealize.ShloMosaic Cert.Reals

theorem mul_self_nonneg' (a : EReal) : 0 ≤ a * a := by
  induction a using EReal.rec with
  | bot => simp
  | top => simp
  | coe r => rw [← EReal.coe_mul]; exact_mod_cast mul_self_nonneg r

/-- The mean square of a row of reals is a positive real. -/
theorem ms_of_real {x : Fin 1024 → EReal} (h : ∀ k, IsReal (x k)) : ∃ r : ℝ, 0 < r ∧ NormSpec.ms x = (r : EReal) := by
  choose f hf using h
  obtain ⟨e, he, hE⟩ := ofBits_eps
  refine ⟨(∑ k, f k * f k) / 1024 + e,
    add_pos_of_nonneg_of_pos (div_nonneg (Finset.sum_nonneg fun k _ => mul_self_nonneg _) (by norm_num)) he, ?_⟩
  unfold NormSpec.ms
  rw [hE, ofBits_1024, EReal.coe_add, ← div_coe_coe _ (by norm_num), coe_sum]
  simp only [hf, EReal.coe_mul]

/-- A row with an infinite entry has an infinite mean square. -/
theorem ms_of_not_real {x : Fin 1024 → EReal} {k : Fin 1024} (h : ¬ IsReal (x k)) : NormSpec.ms x = ⊤ := by
  have hk : x k * x k = ⊤ := by
    generalize x k = a at h
    induction a using EReal.rec with
    | bot => simp
    | top => simp
    | coe r => exact absurd (IsReal.coe r) h
  have hs : ∑ k : Fin 1024, x k * x k = ⊤ := by
    rw [← top_le_iff, ← hk]
    exact Finset.single_le_sum (f := fun k => x k * x k) (fun i _ => mul_self_nonneg' _) (Finset.mem_univ k)
  obtain ⟨e, -, hE⟩ := ofBits_eps
  unfold NormSpec.ms
  rw [hs, hE, ofBits_1024, Ideal.div_coe (by norm_num), EReal.top_mul_coe_of_pos (by norm_num), EReal.top_add_coe]

/-- A normalised entry is real, whatever the row is. -/
theorem normed_real (x : Fin 1024 → EReal) (k : Fin 1024) : IsReal (x k * NormSpec.rs x) := by
  by_cases h : ∀ k, IsReal (x k)
  · obtain ⟨r, hr, hm⟩ := ms_of_real h
    refine (h k).mul ?_
    unfold NormSpec.rs
    rw [hm, Ideal.rsqrt_coe]
    rw [if_neg hr.ne', if_neg hr.not_gt]
    exact IsReal.coe _
  · obtain ⟨l, hl⟩ := not_forall.1 h
    unfold NormSpec.rs
    rw [ms_of_not_real hl, show Ideal.rsqrt ⊤ = 0 from rfl, mul_zero]
    exact IsReal.zero

theorem pre_real (x g w : Fin 1024 → EReal) (hg : ∀ k, IsReal (g k)) (hw : ∀ k, IsReal (w k)) : IsReal (pre x g w) :=
  IsReal.sum _ fun k _ => ((normed_real x k).mul (hg k)).mul (hw k)

theorem dact_real (dh wd : Fin 1024 → EReal) (hd : ∀ k, IsReal (dh k)) (hw : ∀ k, IsReal (wd k)) : IsReal (dact dh wd) :=
  IsReal.sum _ fun k _ => (hd k).mul (hw k)

theorem sg_real {z : EReal} (h : IsReal z) : IsReal (sg z) := by
  obtain ⟨r, rfl⟩ := h
  unfold sg
  rw [zero_sub, ← EReal.coe_neg, Ideal.exp_coe, ← EReal.coe_one, ← EReal.coe_add,
    div_coe_coe _ (by positivity)]
  exact IsReal.coe _

/-- The kernel multiplies what it saved by the incoming gradient, the chain rule starts from the incoming gradient. -/
theorem gate_law {d a b s : EReal} (hd : IsReal d) (ha : IsReal a) (hb : IsReal b) (hs : IsReal s) :
    d * b * s + a * (d * b) * (s * (1 - s)) = d * (b * (s + a * s * (1 - s))) := by
  obtain ⟨d, rfl⟩ := hd
  obtain ⟨a, rfl⟩ := ha
  obtain ⟨b, rfl⟩ := hb
  obtain ⟨s, rfl⟩ := hs
  simp only [← EReal.coe_one, ← EReal.coe_mul, ← EReal.coe_add, ← EReal.coe_sub]
  congr 1
  ring

end Cert.SwigluSpec

end
-- ==== Proof.SwigluPre.lean ====
/- What the precondition of the SwiGLU's gradient says: every entry of the gain, of both weights and of the incoming
   gradient is a real number. -/
module

public import proofs.«01_k».proof.Pre_finite_ffn
public import proofs.«01_k».proof.Proof.Reals
public import Idealize.ShloMosaic.Lib.ReduceAll
public import Idealize.ShloMosaic.Lib.Pointwise
public import Idealize.ShloMosaic.Lib.WordCmp

@[expose] public section

noncomputable section

namespace Cert.Pre_finite_ffn

open Idealize.ShloMosaic Cert.Reals

instance facts : Facts where
  bcast_S_S1024 := by decide
  reducesTo_S1024_S_d0 := by decide
  h_S_ := by decide
  bcast_S_S1024x5632 := by decide
  reducesTo_S1024x5632_S_d0_1 := by decide
  bcast_S_S2816x1024 := by decide
  reducesTo_S2816x1024_S_d0_1 := by decide
  bcast_S_S8192x1024 := by decide
  reducesTo_S8192x1024_S_d0_1 := by decide

/-- One test of an entry against infinity, read back. -/
theorem real_of_test {s : Shape} (a : FVec Ideal s .f32) (b : FVec Ideal s .f32) (i : s.Idx)
    (hb : b i = Ideal.ofBits .f32 0x7F800000#32) (h : cmpf .olt (Host.absf a) b i = 1#1) : IsReal (a i) := by
  rw [ofBits_inf] at hb
  refine isReal_of_abs_lt ?_
  have h' : BitVec.ofBool (decide (max (a i) (-(a i)) < b i)) = 1#1 := h
  rw [hb] at h'
  exact (WordCmp.ofBool_decide_eq_one_iff _).1 h'

theorem reals (x : FVec Ideal S8192x1024 .f32) (g : FVec Ideal S1024 .f32) (w : FVec Ideal S1024x5632 .f32)
    (wd : FVec Ideal S2816x1024 .f32) (dh : FVec Ideal S8192x1024 .f32)
    (h : fn (F := Ideal) x g w wd dh = fun _ => 1#1) :
    (∀ i, IsReal (g i)) ∧ (∀ i, IsReal (w i)) ∧ (∀ i, IsReal (wd i)) ∧ (∀ i, IsReal (dh i)) := by
  have h0 := congrFun h (fun d => d.elim0)
  dsimp only [fn, fn_part1] at h0
  obtain ⟨h1, hdh⟩ := IntOp.andi_eq_one.1 h0
  obtain ⟨h2, hwd⟩ := IntOp.andi_eq_one.1 h1
  obtain ⟨hg, hw⟩ := IntOp.andi_eq_one.1 h2
  have : Subsingleton S_.Idx := ⟨fun a b => funext fun d => d.elim0⟩
  exact ⟨fun i => real_of_test g _ i rfl (Host.reduce_andi_all _ _ _ _ _ hg i),
    fun i => real_of_test w _ i rfl (Host.reduce_andi_all _ _ _ _ _ hw i),
    fun i => real_of_test wd _ i rfl (Host.reduce_andi_all _ _ _ _ _ hwd i),
    fun i => real_of_test dh _ i rfl (Host.reduce_andi_all _ _ _ _ _ hdh i)⟩

end Cert.Pre_finite_ffn

end
-- ==== Proof.Swiglu.lean ====
/- The claims about the gradient of the SwiGLU. -/
module

public import proofs.«01_k».proof.Defs
public import proofs.«01_k».proof.Proof.Gen.Swiglu.Frame
public import proofs.«01_k».proof.Proof.SwigluRun
public import proofs.«01_k».proof.Proof.SwigluRef
public import proofs.«01_k».proof.Proof.SwigluReal
public import proofs.«01_k».proof.Proof.SwigluPre
public import Idealize.ShloMosaic.Lib.Claim

@[expose] public section

set_option maxRecDepth 16384

noncomputable section

namespace Cert.Proof.Swiglu

open Idealize.ShloMosaic Idealize.ShloMosaic.TcCoe Idealize.SL.Sem

theorem frame : Cert.quiescent_Swiglu := fun m ρ _ => Cert.Swiglu.Gen.frame m ρ
theorem frame_ideal : Cert.quiescent_SwigluIdeal := fun m ρ _ => Cert.SwigluIdeal.Gen.frame m ρ
theorem frame_ideal_pre : Cert.quiescent_SwigluIdeal_pre_finite_ffn := fun m ρ _ => Cert.SwigluIdeal.Gen.frame m ρ
theorem preserves : Cert.preserves_Swiglu_SwigluIdeal := trivial

theorem frame_ref : Cert.quiescent_SwigluRefIdeal := fun m ρ _ =>
  (θ_run Cert.SwigluRefIdeal.defs _ _).mono
    (fun r h => ⟨fun c => (h c).2, Idealize.ShloMosaic.sem_eq_zero_of_no_sems (by decide) r.2⟩)
    (Cert.SwigluRefIdeal.Value.run m ρ)

theorem frame_ref_pre : Cert.quiescent_SwigluRefIdeal_pre_finite_ffn := fun m ρ _ => frame_ref m ρ trivial

/-- The two results at one entry, when the gain, the weights and the incoming gradient are real. -/
theorem entry (x : FVec Ideal Cert.SwigluRefIdeal.S8192x1024 .f32) (g : FVec Ideal Cert.SwigluRefIdeal.S1024 .f32)
    (w : FVec Ideal Cert.SwigluRefIdeal.S1024x5632 .f32) (wd : FVec Ideal Cert.SwigluRefIdeal.S2816x1024 .f32)
    (dh : FVec Ideal Cert.SwigluRefIdeal.S8192x1024 .f32)
    (hr : (∀ i, Reals.IsReal (g i)) ∧ (∀ i, Reals.IsReal (w i)) ∧ (∀ i, Reals.IsReal (wd i)) ∧ (∀ i, Reals.IsReal (dh i)))
    (p : Fin 2) (r : Fin 8192) (j : Fin 2816) :
    Cert.SwigluRefIdeal.Read.val_main_v26 (F := Ideal) x g w wd dh (ix3 p r j)
      = SwigluSpec.dact (fun k => dh (ix2 r k)) (fun k => wd (ix2 j k))
        * if (p : ℕ) = 0 then
            SwigluSpec.gatePlane
              (SwigluSpec.pre (fun k => x (ix2 r k)) (fun k => g (ix1 k)) (fun k => w (ix2 k ⟨j, by omega⟩)))
              (SwigluSpec.pre (fun k => x (ix2 r k)) (fun k => g (ix1 k)) (fun k => w (ix2 k ⟨2816 + j, by omega⟩)))
          else SwigluSpec.upPlane
              (SwigluSpec.pre (fun k => x (ix2 r k)) (fun k => g (ix1 k)) (fun k => w (ix2 k ⟨j, by omega⟩))) := by
  obtain ⟨hg, hw, hwd, hdh⟩ := hr
  rw [Cert.SwigluRefIdeal.Read.result_at, Cert.SwigluRefIdeal.Read.dgate_at, Cert.SwigluRefIdeal.Read.dup_at,
    Cert.SwigluRefIdeal.Read.gate_at, Cert.SwigluRefIdeal.Read.up_at, Cert.SwigluRefIdeal.Read.dact_at]
  have hs : ∀ z, Cert.SwigluRefIdeal.Read.sgr z = SwigluSpec.sg z := fun z => by
    unfold Cert.SwigluRefIdeal.Read.sgr SwigluSpec.sg; rw [zero_sub]
  have ha := SwigluSpec.pre_real (fun k => x (ix2 r k)) (fun k => g (ix1 k)) (fun k => w (ix2 k ⟨j, by omega⟩))
    (fun k => hg _) (fun k => hw _)
  have hb := SwigluSpec.pre_real (fun k => x (ix2 r k)) (fun k => g (ix1 k)) (fun k => w (ix2 k ⟨2816 + j, by omega⟩))
    (fun k => hg _) (fun k => hw _)
  have hd := SwigluSpec.dact_real (fun k => dh (ix2 r k)) (fun k => wd (ix2 j k)) (fun k => hdh _) (fun k => hwd _)
  rw [hs]
  split_ifs
  · exact SwigluSpec.gate_law hd ha hb (SwigluSpec.sg_real ha)
  · exact mul_comm _ _

theorem algebraic : Cert.algebraic_SwigluIdeal_SwigluRefIdeal_pre_finite_ffn := by
  pair_intro
  · run_from Cert.SwigluIdeal.Value.run m g
  · run_from Cert.SwigluRefIdeal.Value.run m' g'
    rw [Cert.SwigluRefIdeal.Read.val_main_v26_eq]
    funext i
    idx_vars i
    obtain ⟨hx, hg, hw, hwd, hdh⟩ := hagree c
    have hr := Cert.Pre_finite_ffn.reals _ _ _ _ _ (hpre c)
    rw [← hg, ← hw, ← hwd, ← hdh] at hr
    exact (entry _ _ _ _ _ hr i0 i1 i2).trans
      (Cert.SwigluIdeal.Value.result_at m g c _ _ _ _ _ hx.symm hg.symm hw.symm hwd.symm hdh.symm i0 i1 i2).symm

end Cert.Proof.Swiglu

end
-- ==== Proof.GateUpDxKernel.lean ====
/- What the kernel of the gate and up projection's gradient leaves in its results. -/
module

public import proofs.«01_k».proof.Proof.Gen.GateUpDxIdeal.Frame
public import proofs.«01_k».proof.Proof.Gen.GateUpDxIdeal.Skeleton
public import proofs.«01_k».proof.Proof.NormSpec
public import Idealize.ShloMosaic.Lib.Pipeline.ValueKit
public import Idealize.ShloMosaic.Lib.Pointwise
public import Idealize.ShloMosaic.Lib.Claim

@[expose] public section

set_option maxRecDepth 16384

noncomputable section

namespace Cert.GateUpDxIdeal.Value

open Cert.GateUpDxIdeal Cert.GateUpDxIdeal.Gen Idealize.ShloMosaic Idealize.ShloMosaic.TcCoe Idealize.SL.Sem
open Idealize.ShloMosaic.Pipeline (Dat)
open Cert

/-! ## One block of rows -/

section Blocks

variable (d x z : FVec Ideal S512x1024 .f32) (g : FVec Ideal S1x1024 .f32)

/-- The product of the incoming gradient with the weights, in the four parts the kernel takes it. -/
theorem dy_at (a b a' b' : FVec Ideal S1x512x1408 .bf16) (u v u' v' : FVec Ideal S1x1x1024x1408 .bf16) (r : Fin 512)
    (j : Fin 1024) : k0_pay3 (F := Ideal) a u b v a' u' b' v' (ix2 r j)
    = (∑ k : Fin 1408, a (ix3 0 r k) * u (ix4 0 0 j k)) + (∑ k : Fin 1408, b (ix3 0 r k) * v (ix4 0 0 j k))
      + (∑ k : Fin 1408, a' (ix3 0 r k) * u' (ix4 0 0 j k)) + ∑ k : Fin 1408, b' (ix3 0 r k) * v' (ix4 0 0 j k) := by
  pointwise [k0_pay3]

theorem ms_at (r : Fin 512) : k0_pay4 (F := Ideal) x (ix2 r 0) = NormSpec.ms (fun k => x (ix2 r k)) := by
  pointwise [k0_pay4, NormSpec.ms]

theorem rs_at (r : Fin 512) : k0_pay5 (F := Ideal) x (ix2 r 0) = NormSpec.rs (fun k => x (ix2 r k)) := by
  pointwise [k0_pay5, NormSpec.rs, ms_at]

theorem dg_at (j : Fin 1024) : k0_pay6 (F := Ideal) d x (ix2 0 j)
    = ∑ r : Fin 512, NormSpec.dg (fun k => x (ix2 r k)) (fun k => d (ix2 r k)) j := by
  pointwise [k0_pay6, NormSpec.dg, rs_at]

theorem dx_at (r : Fin 512) (j : Fin 1024) : k0_pay7 (F := Ideal) d x g z (ix2 r j) = z (ix2 r j)
    + NormSpec.dx (fun k => x (ix2 r k)) (fun k => g (ix2 0 k)) (fun k => d (ix2 r k)) j := by
  pointwise [k0_pay7, NormSpec.dx, NormSpec.thru, Fin.sum_univ_one, ms_at, rs_at]

end Blocks

theorem idx : ∀ t : Fin cfg0.N, win0_0.index t = ![0, (grid0.coords t 0).val, 0] ∧ win0_1.index t = ![0, 0, 0, 0]
    ∧ win0_2.index t = ![(grid0.coords t 0).val, 0] ∧ win0_3.index t = ![0, 0] ∧ win0_4.index t = ![(grid0.coords t 0).val, 0]
    ∧ win0_5.index t = ![(grid0.coords t 0).val, 0] ∧ win0_6.index t = ![0, 0] ∧ win0_7.index t = ![(grid0.coords t 0).val, 0] :=
  (by decide +kernel : ∀ t : Fin grid0.N, _)

/-! ## The arrays -/

/-- One row of the gradient of the norm's result, from the two planes and the four column planes of the weights. -/
def dy (d : FVec Ideal S2x8192x2816 .bf16) (w : FVec Ideal S1x4x1024x1408 .bf16) (r : Fin 8192) (j : Fin 1024) : EReal :=
  (∑ k : Fin 1408, d (ix3 0 r ⟨k, by omega⟩) * w (ix4 0 0 j k)) + (∑ k : Fin 1408, d (ix3 0 r ⟨1408 + k, by omega⟩) * w (ix4 0 1 j k))
    + (∑ k : Fin 1408, d (ix3 1 r ⟨k, by omega⟩) * w (ix4 0 2 j k)) + ∑ k : Fin 1408, d (ix3 1 r ⟨1408 + k, by omega⟩) * w (ix4 0 3 j k)

/-- The rows' gradients on top of what they are added to. -/
def dxs (d : FVec Ideal S2x8192x2816 .bf16) (w : FVec Ideal S1x4x1024x1408 .bf16) (x : FVec Ideal S8192x1024 .f32)
    (g : FVec Ideal S1x1024 .f32) (z : FVec Ideal S8192x1024 .f32) : FVec Ideal S8192x1024 .f32 := fun i =>
  z i + NormSpec.dx (fun k => x (ix2 (i 0) k)) (fun k => g (ix2 0 k)) (dy d w (i 0)) (i 1)

/-- The gain's gradient. -/
def dgs (d : FVec Ideal S2x8192x2816 .bf16) (w : FVec Ideal S1x4x1024x1408 .bf16) (x : FVec Ideal S8192x1024 .f32) :
    FVec Ideal S1x1024 .f32 := fun i => ∑ r : Fin 8192, NormSpec.dg (fun k => x (ix2 r k)) (dy d w r) (i 1)

variable (m : (ℓ : Loc nD τ sig) → Buf (Elt Ideal) ℓ)

/-- What either kind of grid point leaves of the first result. -/
theorem point5 (c : Dev nD) (t : Fin cfg0.N) (y : S512x1024.Idx) : (outsAt0 m c t.val t.isLt).1 y
    = dxs (V m c main_arg0) (V m c main_v3) (V m c main_arg2) (V m c main_v4) (V m c main_arg4)
        (ix2 ⟨512 * (grid0.coords t 0).val + (y 0 : ℕ), by
          have := (grid0.coords t 0).isLt; have := (y 0).isLt; change (grid0.coords t 0 : ℕ) < 16 at *; change (y 0 : ℕ) < 512 at *; omega⟩ (y 1)) := by
  idx_vars y
  by_cases h : t.val % 16 = 0
  on_goal 1 => rw [outsAt0_A m c t h]
  on_goal 2 => rw [outsAt0_B m c t h]
  all_goals
    frame_out
    refine (dx_at _ _ _ _ y0 y1).trans ?_
    simp only [dy_at]
    unfold dxs NormSpec.dx NormSpec.thru NormSpec.rs NormSpec.ms dy
    pointwise []
    blk_point [iblk, idx t]

/-- The rounded copy holds the same numbers. -/
theorem point7 (c : Dev nD) (t : Fin cfg0.N) (y : S512x1024.Idx) :
    (outsAt0 m c t.val t.isLt).2.2 y = (outsAt0 m c t.val t.isLt).1 y := by
  by_cases h : t.val % 16 = 0
  on_goal 1 => rw [outsAt0_A m c t h]
  on_goal 2 => rw [outsAt0_B m c t h]
  all_goals
    frame_out
    pointwise [k0_pay8]

theorem final5 (c : Dev nD) : (dats m 0 c).arrAt 5 (cfgs 0).N
    = dxs (V m c main_arg0) (V m c main_v3) (V m c main_arg2) (V m c main_v4) (V m c main_arg4) := by
  refine (dats m 0 c).arrAt_eq_of_covers 5 _ (by decide +kernel) fun t _ y => ?_
  blk_simp
  rw [after0_5]
  refine (point5 m c t y).trans ?_
  generalize dxs (V m c main_arg0) (V m c main_v3) (V m c main_arg2) (V m c main_v4) (V m c main_arg4) = f
  blk_point [idx t]

theorem final7 (c : Dev nD) : (dats m 0 c).arrAt 7 (cfgs 0).N
    = dxs (V m c main_arg0) (V m c main_v3) (V m c main_arg2) (V m c main_v4) (V m c main_arg4) := by
  refine (dats m 0 c).arrAt_eq_of_covers 7 _ (by decide +kernel) fun t _ y => ?_
  blk_simp
  rw [after0_7]
  refine (point7 m c t y).trans ((point5 m c t y).trans ?_)
  generalize dxs (V m c main_arg0) (V m c main_v3) (V m c main_arg2) (V m c main_v4) (V m c main_arg4) = f
  blk_point [idx t]

/-- What point `t` adds to the gain's gradient. -/
def part (c : Dev nD) (t : Fin cfg0.N) : FVec Ideal S1x1024 .f32 := fun y =>
  ∑ k : Fin 512, NormSpec.dg (fun l => (V m c main_arg2 : FVec Ideal S8192x1024 .f32) (ix2 ⟨512 * t.val + k, by
    have := t.isLt; change (t : ℕ) < 16 at *; omega⟩ l))
    (dy (V m c main_arg0) (V m c main_v3) ⟨512 * t.val + k, by have := t.isLt; change (t : ℕ) < 16 at *; omega⟩) (y 1)

theorem coord (t : Fin cfg0.N) : (grid0.coords t 0).val = t.val := (by decide +kernel : ∀ t : Fin grid0.N, (grid0.coords t 0).val = t.val) t

theorem zeros_at (j : Fin 1024) : k0_pay1 (F := Ideal) (ix2 0 j) = 0 := by
  pointwise [k0_pay1]

theorem add_at (p a : FVec Ideal S1x1024 .f32) (j : Fin 1024) :
    k0_pay2 (F := Ideal) p a (ix2 0 j) = a (ix2 0 j) + p (ix2 0 j) := by
  pointwise [k0_pay2]

/-- The first point starts the sum. -/
theorem stepA (c : Dev nD) (t : Fin cfg0.N) (h : t.val % 16 = 0) (y : S1x1024.Idx) :
    (outsAt0 m c t.val t.isLt).2.1 y = 0 + part m c t y := by
  idx_vars y
  obtain rfl : y0 = 0 := Subsingleton.elim _ _
  rw [outsAt0_A m c t h]
  frame_out
  refine (add_at _ _ y1).trans ?_
  rw [zeros_at, dg_at]
  simp only [dy_at]
  unfold part NormSpec.dg NormSpec.rs NormSpec.ms dy
  pointwise []
  blk_point [iblk, idx t, coord t]

/-- Every other point adds to it. -/
theorem stepB (c : Dev nD) (t : Fin cfg0.N) (h : ¬ t.val % 16 = 0) (y : S1x1024.Idx) :
    (outsAt0 m c t.val t.isLt).2.1 y
      = (outsAt0 m c (t.val - 1) (Nat.lt_of_le_of_lt (Nat.sub_le _ _) t.isLt)).2.1 y + part m c t y := by
  idx_vars y
  obtain rfl : y0 = 0 := Subsingleton.elim _ _
  rw [outsAt0_B m c t h]
  frame_out
  refine (add_at _ _ y1).trans ?_
  rw [dg_at]
  refine congrArg (_ + ·) ?_
  simp only [dy_at]
  unfold part NormSpec.dg NormSpec.rs NormSpec.ms dy
  pointwise []
  blk_point [iblk, idx t, coord t]

theorem final6 (c : Dev nD) : (dats m 0 c).arrAt 6 (cfgs 0).N
    = dgs (V m c main_arg0) (V m c main_v3) (V m c main_arg2) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0) (part m c)
    (fun t h j => stepA m c t h j) (fun t h j => stepB m c t h j) (le_of_eq N_0) t0_15 rfl j, zero_add]
  unfold dgs
  refine Fin.sum_mul_add_congr fun t k hl => ?_
  simp only [Nat.mul_comm 512]

/-! ## What the call is handed -/

/-- The gain reaches the kernel as one row. -/
theorem V_gain (c : Dev nD) : V m c main_v4 = shapeCast S1x1024 (m ((c : Thread nD τ).loc main_arg3)) shapeCasts_S1024_S1x1024 := by
  unfold V; after_results; try rfl

/-- The weights reach the kernel cut into four planes of columns. -/
def planes (w : FVec Ideal S1024x5632 .f32) : FVec Ideal S1x4x1024x1408 .bf16 :=
  broadcastInDim S1x4x1024x1408 ![1, 2, 3] bcast_S4x1024x1408_S1x4x1024x1408_1_2_3
    (transpose S4x1024x1408 [1, 0, 2] (shapeCast S1024x4x1408 (truncf (F := Ideal) .bf16 w bitsLt_bf16_f32)
      shapeCasts_S1024x5632_S1024x4x1408) transposes_S1024x4x1408_S4x1024x1408_1_0_2)

theorem V_planes (c : Dev nD) : V m c main_v3 = planes (m ((c : Thread nD τ).loc main_arg1)) := by
  unfold V planes; after_results; try rfl

theorem V_args (c : Dev nD) : V m c main_arg0 = m ((c : Thread nD τ).loc main_arg0)
    ∧ V m c main_arg2 = m ((c : Thread nD τ).loc main_arg2) ∧ V m c main_arg4 = m ((c : Thread nD τ).loc main_arg4) := by
  refine ⟨?_, ?_, ?_⟩ <;> unfold V <;> after_results

theorem planes_at (w : FVec Ideal S1024x5632 .f32) (q : Fin 4) (j : Fin 1024) (k : Fin 1408) :
    planes w (ix4 0 q j k) = w (ix2 j ⟨q * 1408 + k, by omega⟩) := by
  pointwise [planes]

/-- One row of the gradient of the norm's result is the product of the two planes side by side with the weights. -/
theorem dy_planes (d : FVec Ideal S2x8192x2816 .bf16) (w : FVec Ideal S1024x5632 .f32) (r : Fin 8192) (j : Fin 1024) :
    dy d (planes w) r j = ∑ l : Fin 5632, NormSpec.beside (fun k => d (ix3 0 r k)) (fun k => d (ix3 1 r k)) l * w (ix2 j l) := by
  refine Eq.trans ?_ (Fin.sum_mul_add_congr (S := 4) (n := 1408) (F := fun s k =>
    NormSpec.beside (fun k => d (ix3 0 r k)) (fun k => d (ix3 1 r k)) ⟨s * 1408 + k, by omega⟩
      * w (ix2 j ⟨s * 1408 + k, by omega⟩)) fun _ _ _ => rfl)
  rw [Fin.sum_univ_four]
  unfold dy
  simp only [planes_at]
  refine congrArg₂ (· + ·) (congrArg₂ (· + ·) (congrArg₂ (· + ·) ?_ ?_) ?_) ?_ <;>
    refine Finset.sum_congr rfl fun k _ => congrArg (· * _) ?_ <;> unfold NormSpec.beside
  · rw [dif_pos (by change 0 * 1408 + (k : ℕ) < 2816; omega)]
    exact congrArg (fun l => d (ix3 0 r l)) (Fin.ext (by change (k : ℕ) = 0 * 1408 + k; omega))
  · rw [dif_pos (by change 1 * 1408 + (k : ℕ) < 2816; omega)]
    exact congrArg (fun l => d (ix3 0 r l)) (Fin.ext (by change 1408 + (k : ℕ) = 1 * 1408 + k; omega))
  · rw [dif_neg (by change ¬2 * 1408 + (k : ℕ) < 2816; omega)]
    exact congrArg (fun l => d (ix3 1 r l)) (Fin.ext (by change (k : ℕ) = 2 * 1408 + k - 2816; omega))
  · rw [dif_neg (by change ¬3 * 1408 + (k : ℕ) < 2816; omega)]
    exact congrArg (fun l => d (ix3 1 r l)) (Fin.ext (by change 1408 + (k : ℕ) = 3 * 1408 + k - 2816; omega))

/-- The first result, of the arguments. -/
theorem dxs_at (d : FVec Ideal S2x8192x2816 .bf16) (w : FVec Ideal S1024x5632 .f32) (x : FVec Ideal S8192x1024 .f32)
    (g : FVec Ideal S1024 .f32) (z : FVec Ideal S8192x1024 .f32) (r : Fin 8192) (j : Fin 1024) :
    dxs d (planes w) x (shapeCast S1x1024 g shapeCasts_S1024_S1x1024) z (ix2 r j) = z (ix2 r j)
      + NormSpec.dx (fun k => x (ix2 r k)) (fun k => g (ix1 k)) (fun k => ∑ l : Fin 5632,
          NormSpec.beside (fun k => d (ix3 0 r k)) (fun k => d (ix3 1 r k)) l * w (ix2 k l)) j := by
  have hd : dy d (planes w) r = fun k => ∑ l : Fin 5632,
      NormSpec.beside (fun k => d (ix3 0 r k)) (fun k => d (ix3 1 r k)) l * w (ix2 k l) := funext fun k => dy_planes d w r k
  have hg : (fun k => shapeCast S1x1024 g shapeCasts_S1024_S1x1024 (ix2 (0 : Fin 1) k)) = fun k => g (ix1 k) := by
    funext k; pointwise []
  change z (ix2 r j) + NormSpec.dx (fun k => x (ix2 r k))
    (fun k => shapeCast S1x1024 g shapeCasts_S1024_S1x1024 (ix2 0 k)) (dy d (planes w) r) j = _
  rw [hd, hg]

/-- The second result, of the arguments. -/
theorem dgs_at (d : FVec Ideal S2x8192x2816 .bf16) (w : FVec Ideal S1024x5632 .f32) (x : FVec Ideal S8192x1024 .f32)
    (j : Fin 1024) : dgs d (planes w) x (ix2 0 j) = ∑ r : Fin 8192, NormSpec.dg (fun k => x (ix2 r k))
      (fun k => ∑ l : Fin 5632, NormSpec.beside (fun k => d (ix3 0 r k)) (fun k => d (ix3 1 r k)) l * w (ix2 k l)) j := by
  refine Finset.sum_congr rfl fun r _ => ?_
  rw [show dy d (planes w) r = _ from funext fun k => dy_planes d w r k]
  rfl

end Cert.GateUpDxIdeal.Value

end
-- ==== Proof.GateUpDxRef.lean ====
/- What the reference of the gate and up projection's gradient computes. -/
module

public import proofs.«01_k».proof.Proof.Gen.GateUpDxRefIdeal.Run
public import proofs.«01_k».proof.Proof.Gen.GateUpDxRefIdeal.Read
public import proofs.«01_k».proof.Proof.NormSpec
public import Idealize.ShloMosaic.Lib.Pointwise

@[expose] public section

set_option maxRecDepth 16384

noncomputable section

namespace Cert.GateUpDxRefIdeal.Read

open Cert.GateUpDxRefIdeal Cert.GateUpDxRefIdeal.Gen Idealize.ShloMosaic Idealize.ShloMosaic.TcCoe Idealize.SL.Sem
open Cert

variable (d : FVec Ideal S2x8192x2816 .bf16) (w : FVec Ideal S1024x5632 .f32) (x : FVec Ideal S8192x1024 .f32)
  (g : FVec Ideal S1024 .f32) (z : FVec Ideal S8192x1024 .f32)

theorem ms_at (r : Fin 8192) (o : Fin 1) : val_main_v11 (F := Ideal) x (ix2 r o) = NormSpec.ms (fun k => x (ix2 r k)) := by
  pointwise [val_main_v11, val_main_v10, val_main_v9, val_main_v8, val_main_v7, val_main_v6, val_main_v5, val_main_cst,
    val_main_cst_0, val_main_cst_1, NormSpec.ms]

theorem rs_at (r : Fin 8192) (o : Fin 1) : val_main_v12 (F := Ideal) x (ix2 r o) = NormSpec.rs (fun k => x (ix2 r k)) := by
  pointwise [val_main_v12, NormSpec.rs, ms_at]

/-- The two planes side by side. -/
theorem beside_at (r : Fin 8192) (l : Fin 5632) : val_main_v4 (F := Ideal) d (ix2 r l)
    = NormSpec.beside (fun k => d (ix3 0 r k)) (fun k => d (ix3 1 r k)) l := by
  pointwise [val_main_v4, val_main_v3, val_main_v2, val_main_v1, val_main_v0, NormSpec.beside]

theorem dy_at (r : Fin 8192) (j : Fin 1024) : val_main_v23 (F := Ideal) d w (ix2 r j)
    = ∑ l : Fin 5632, NormSpec.beside (fun k => d (ix3 0 r k)) (fun k => d (ix3 1 r k)) l * w (ix2 j l) := by
  pointwise [val_main_v23, val_main_v22, beside_at]

/-- The reference's first result. -/
theorem dx_at (r : Fin 8192) (j : Fin 1024) : val_main_v44 (F := Ideal) d w x g z (ix2 r j) = z (ix2 r j)
    + NormSpec.dx (fun k => x (ix2 r k)) (fun k => g (ix1 k)) (fun k => ∑ l : Fin 5632,
        NormSpec.beside (fun k => d (ix3 0 r k)) (fun k => d (ix3 1 r k)) l * w (ix2 k l)) j := by
  pointwise [val_main_v44, val_main_v43, val_main_v42, val_main_v41, val_main_v40, val_main_v39, val_main_v38, val_main_v37,
    val_main_v36, val_main_v35, val_main_v34, val_main_v33, val_main_v32, val_main_v31, val_main_v30, val_main_v28,
    val_main_v27, val_main_v18, val_main_v15, val_main_v14, val_main_v13, val_main_cst_2, val_main_cst_5, val_main_cst_6,
    val_main_cst_7, ms_at, rs_at, dy_at, NormSpec.dx, NormSpec.thru, Fin.sum_univ_one]

/-- The reference's second result. -/
theorem dg_at (j : Fin 1024) : val_main_v45 (F := Ideal) d w x (ix2 0 j)
    = ∑ r : Fin 8192, NormSpec.dg (fun k => x (ix2 r k)) (fun k => ∑ l : Fin 5632,
        NormSpec.beside (fun k => d (ix3 0 r k)) (fun k => d (ix3 1 r k)) l * w (ix2 k l)) j := by
  pointwise [val_main_v45, val_main_v29, val_main_v26, val_main_v25, val_main_v24, val_main_v17, val_main_v16,
    val_main_cst_3, val_main_cst_4, rs_at, dy_at, NormSpec.dg, Fin.sum_univ_one]

/-- The third result is the first, rounded. -/
theorem copy_at (r : Fin 8192) (j : Fin 1024) :
    val_main_v46 (F := Ideal) d w x g z (ix2 r j) = val_main_v44 (F := Ideal) d w x g z (ix2 r j) := by
  pointwise [val_main_v46]

end Cert.GateUpDxRefIdeal.Read

end
-- ==== Proof.GateUpDx.lean ====
/- The claims about the gate and up projection's gradient. -/
module

public import proofs.«01_k».proof.Defs
public import proofs.«01_k».proof.Proof.Gen.GateUpDx.Frame
public import proofs.«01_k».proof.Proof.GateUpDxKernel
public import proofs.«01_k».proof.Proof.GateUpDxRef
public import Idealize.ShloMosaic.Lib.Claim

@[expose] public section

set_option maxRecDepth 16384

noncomputable section

namespace Cert.Proof.GateUpDx

open Idealize.ShloMosaic Idealize.ShloMosaic.TcCoe Idealize.SL.Sem

theorem frame : Cert.quiescent_GateUpDx := fun m ρ _ => Cert.GateUpDx.Gen.frame m ρ
theorem frame_ideal : Cert.quiescent_GateUpDxIdeal := fun m ρ _ => Cert.GateUpDxIdeal.Gen.frame m ρ
theorem preserves : Cert.preserves_GateUpDx_GateUpDxIdeal := trivial

theorem frame_ref : Cert.quiescent_GateUpDxRefIdeal := fun m ρ _ =>
  (θ_run Cert.GateUpDxRefIdeal.defs _ _).mono
    (fun r h => ⟨fun c => (h c).2.2.2, Idealize.ShloMosaic.sem_eq_zero_of_no_sems (by decide) r.2⟩)
    (Cert.GateUpDxRefIdeal.Value.run m ρ)

theorem algebraic : Cert.algebraic_GateUpDxIdeal_GateUpDxRefIdeal := by
  pair_intro
  · run_from Cert.GateUpDxIdeal.Gen.run_main m g
  · run_from Cert.GateUpDxRefIdeal.Value.run m' g'
    all_goals obtain ⟨hd, hw, hx, hg, hz⟩ := hagree c
    · rw [Cert.GateUpDxRefIdeal.Read.val_main_v44_eq, hd, hw, hx, hg, hz, Cert.GateUpDxIdeal.Value.final5, Cert.GateUpDxIdeal.Value.V_gain,
        Cert.GateUpDxIdeal.Value.V_planes, (Cert.GateUpDxIdeal.Value.V_args m c).1,
        (Cert.GateUpDxIdeal.Value.V_args m c).2.1, (Cert.GateUpDxIdeal.Value.V_args m c).2.2]
      funext i
      idx_vars i
      exact (Cert.GateUpDxRefIdeal.Read.dx_at _ _ _ _ _ i0 i1).trans (Cert.GateUpDxIdeal.Value.dxs_at _ _ _ _ _ i0 i1).symm
    · rw [Cert.GateUpDxRefIdeal.Read.val_main_v45_eq, Cert.GateUpDxIdeal.Value.final6, Cert.GateUpDxIdeal.Value.V_planes,
        (Cert.GateUpDxIdeal.Value.V_args m c).1, (Cert.GateUpDxIdeal.Value.V_args m c).2.1]
      funext i
      idx_vars i
      obtain rfl : i0 = 0 := Subsingleton.elim _ _
      exact (Cert.GateUpDxRefIdeal.Read.dg_at _ _ _ i1).trans (Cert.GateUpDxIdeal.Value.dgs_at _ _ _ i1).symm
    · rw [Cert.GateUpDxRefIdeal.Read.val_main_v46_eq, hd, hw, hx, hg, hz, Cert.GateUpDxIdeal.Value.final7, Cert.GateUpDxIdeal.Value.V_gain,
        Cert.GateUpDxIdeal.Value.V_planes, (Cert.GateUpDxIdeal.Value.V_args m c).1,
        (Cert.GateUpDxIdeal.Value.V_args m c).2.1, (Cert.GateUpDxIdeal.Value.V_args m c).2.2]
      funext i
      idx_vars i
      exact ((Cert.GateUpDxRefIdeal.Read.copy_at _ _ _ _ _ i0 i1).trans
        (Cert.GateUpDxRefIdeal.Read.dx_at _ _ _ _ _ i0 i1)).trans (Cert.GateUpDxIdeal.Value.dxs_at _ _ _ _ _ i0 i1).symm

end Cert.Proof.GateUpDx

end
-- ==== Proof.AInDxKernel.lean ====
/- What the kernel of the attention mixer's input projection's gradient leaves in its results. -/
module

public import proofs.«01_k».proof.Proof.Gen.AInDxIdeal.Frame
public import proofs.«01_k».proof.Proof.Gen.AInDxIdeal.Skeleton
public import proofs.«01_k».proof.Proof.NormSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.AInDxIdeal.Value

open Cert.AInDxIdeal Cert.AInDxIdeal.Gen Idealize.ShloMosaic Idealize.ShloMosaic.TcCoe Idealize.SL.Sem
open Idealize.ShloMosaic.Pipeline (Dat)
open Cert

/-! ## One block of rows -/

section Blocks

variable (d : FVec Ideal S512x1280 .bf16) (w : FVec Ideal S1024x1280 .bf16) (x z : FVec Ideal S512x1024 .f32) (g : FVec Ideal S1x1024 .f32)

/-- One number of the gradient of the norm's result. -/
theorem dy_at (r : Fin 512) (j : Fin 1024) : k0_pay9 (F := Ideal) d w (ix2 r j) = ∑ l : Fin 1280, d (ix2 r l) * w (ix2 j l) := by
  pointwise [k0_pay9]

theorem ms_at (r : Fin 512) : k0_pay10 (F := Ideal) x (ix2 r 0) = NormSpec.ms (fun k => x (ix2 r k)) := by
  pointwise [k0_pay10, NormSpec.ms]

theorem rs_at (r : Fin 512) : k0_pay11 (F := Ideal) x (ix2 r 0) = NormSpec.rs (fun k => x (ix2 r k)) := by
  pointwise [k0_pay11, NormSpec.rs, ms_at]

theorem dg_at (j : Fin 1024) : k0_pay12 (F := Ideal) d w x (ix2 0 j) = ∑ r : Fin 512,
    NormSpec.dg (fun k => x (ix2 r k)) (fun k => ∑ l : Fin 1280, d (ix2 r l) * w (ix2 k l)) j := by
  pointwise [k0_pay12, NormSpec.dg, rs_at, dy_at]

theorem gained_at (r : Fin 512) (j : Fin 1024) : k0_pay13 (F := Ideal) d w g (ix2 r j)
    = (∑ l : Fin 1280, d (ix2 r l) * w (ix2 j l)) * g (ix2 0 j) := by
  pointwise [k0_pay13, dy_at]

theorem direct_at (r : Fin 512) (j : Fin 1024) : k0_pay14 (F := Ideal) d w x g (ix2 r j)
    = (∑ l : Fin 1280, d (ix2 r l) * w (ix2 j l)) * g (ix2 0 j) * NormSpec.rs (fun k => x (ix2 r k)) := by
  pointwise [k0_pay14, rs_at, gained_at]

theorem thru_at (r : Fin 512) (j : Fin 1024) : k0_pay15 (F := Ideal) d w x g (ix2 r j)
    = NormSpec.thru (fun k => x (ix2 r k)) (fun k => (∑ l : Fin 1280, d (ix2 r l) * w (ix2 k l)) * g (ix2 0 k)) := by
  pointwise [k0_pay15, NormSpec.thru, Fin.sum_univ_one, ms_at, rs_at, gained_at]

theorem dx_at (r : Fin 512) (j : Fin 1024) : k0_pay1 (F := Ideal) x (k0_pay14 d w x g) (k0_pay15 d w x g) (k0_pay16 d w x g) z (ix2 r j)
    = z (ix2 r j) + NormSpec.dx (fun k => x (ix2 r k)) (fun k => g (ix2 0 k)) (fun k => ∑ l : Fin 1280, d (ix2 r l) * w (ix2 k l)) j := by
  pointwise [k0_pay1, k0_pay16, NormSpec.dx, direct_at, thru_at]

end Blocks

theorem idx : ∀ t : Fin cfg0.N, win0_0.index t = ![(grid0.coords t 0).val, 0] ∧ win0_1.index t = ![0, 0, 0, 0]
    ∧ win0_2.index t = ![(grid0.coords t 0).val, 0] ∧ win0_3.index t = ![0, 0] ∧ win0_4.index t = ![(grid0.coords t 0).val, 0]
    ∧ win0_5.index t = ![(grid0.coords t 0).val, 0] ∧ win0_6.index t = ![0, 0] ∧ win0_7.index t = ![(grid0.coords t 0).val, 0] :=
  (by decide +kernel : ∀ t : Fin grid0.N, _)

theorem coord (t : Fin cfg0.N) : (grid0.coords t 0).val = t.val := (by decide +kernel : ∀ t : Fin grid0.N, (grid0.coords t 0).val = t.val) t

/-! ## The weights in one piece -/

/-- The four planes of columns side by side. -/
def whole (w : FVec Ideal S1x4x1024x320 .bf16) : FVec Ideal S1024x1280 .bf16 := fun i =>
  w (ix4 0 ⟨(i 1).val / 320, by have := (i 1).isLt; change (i 1 : ℕ) < 1280 at this; omega⟩ (i 0) ⟨(i 1).val % 320, Nat.mod_lt _ (by decide)⟩)

variable (m : (ℓ : Loc nD τ sig) → Buf (Elt Ideal) ℓ)

/-- The first point lays the planes side by side. -/
theorem kept_A (c : Dev nD) (t : Fin cfg0.N) (h : t.val % 16 = 0) :
    (outsAt0 m c t.val t.isLt).2.2.2 = whole (iblk m c 1 t) := by
  rw [outsAt0_A m c t h h]
  funext y
  unfold whole
  frame_out
  canon_tiles y h
  all_goals
    open_payloads
    pointwise []
    blk_point []

theorem whole_block (c : Dev nD) (t : Fin cfg0.N) : whole (iblk m c 1 t) = whole (V m c main_v3) := by
  unfold whole
  funext y
  blk_point [iblk, idx t]

/-- They stay as they are for the rest of the grid. -/
theorem kept (c : Dev nD) (n : ℕ) (hn : n < cfg0.N) : (outsAt0 m c n hn).2.2.2 = whole (V m c main_v3) := by
  induction n with
  | zero => exact (kept_A m c ⟨0, hn⟩ (Nat.zero_mod _)).trans (whole_block m c _)
  | succ n ih =>
    have hN : cfg0.N = 16 := N_0
    have h : ¬ (n + 1) % 16 = 0 := by omega
    refine Eq.trans ?_ (ih (by omega))
    rw [outsAt0_B m c ⟨n + 1, hn⟩ h h]
    rfl

/-! ## The arrays -/

section Arrays

variable (d : FVec Ideal S8192x1280 .bf16) (w : FVec Ideal S1024x1280 .bf16) (x z : FVec Ideal S8192x1024 .f32) (g : FVec Ideal S1x1024 .f32)

/-- The rows' gradients on top of what they are added to. -/
def dxs : FVec Ideal S8192x1024 .f32 := fun i => z i + NormSpec.dx (fun k => x (ix2 (i 0) k)) (fun k => g (ix2 0 k))
  (fun k => ∑ l : Fin 1280, d (ix2 (i 0) l) * w (ix2 k l)) (i 1)

/-- What one row adds to the gain's gradient. -/
def dgRow (r : Fin 8192) (j : Fin 1024) : EReal :=
  NormSpec.dg (fun k => x (ix2 r k)) (fun k => ∑ l : Fin 1280, d (ix2 r l) * w (ix2 k l)) j

end Arrays

/-- Row `k` of the block of point `t`. -/
abbrev rowAt (t : Fin cfg0.N) (k : Fin 512) : Fin 8192 := ⟨t.val * 512 + k, by have := t.isLt; change (t : ℕ) < 16 at *; omega⟩

/-- What the body makes of a block, in terms of the array of which the block is a part. -/
theorem dx_block {d : FVec Ideal S512x1280 .bf16} {w : FVec Ideal S1024x1280 .bf16} {x z : FVec Ideal S512x1024 .f32} {g : FVec Ideal S1x1024 .f32}
    {w' : FVec Ideal S1024x1280 .bf16} (hw : w = w') (c : Dev nD) (t : Fin cfg0.N) (hd : d = iblk m c 0 t) (hx : x = iblk m c 2 t)
    (hz : z = iblk m c 4 t) (hg : g = iblk m c 3 t) (r : Fin 512) (j : Fin 1024) :
    k0_pay1 (F := Ideal) x (k0_pay14 d w x g) (k0_pay15 d w x g) (k0_pay16 d w x g) z (ix2 r j)
      = dxs (V m c main_arg0) w' (V m c main_arg2) (V m c main_arg4) (V m c main_v4) (ix2 (rowAt t r) j) := by
  subst hw hd hx hz hg
  refine (dx_at _ _ _ _ _ r j).trans ?_
  unfold dxs NormSpec.dx NormSpec.thru NormSpec.rs NormSpec.ms
  pointwise []
  blk_point [iblk, idx t, coord t]

theorem dg_block {d : FVec Ideal S512x1280 .bf16} {w : FVec Ideal S1024x1280 .bf16} {x : FVec Ideal S512x1024 .f32}
    {w' : FVec Ideal S1024x1280 .bf16} (hw : w = w') (c : Dev nD) (t : Fin cfg0.N) (hd : d = iblk m c 0 t) (hx : x = iblk m c 2 t)
    (j : Fin 1024) : k0_pay12 (F := Ideal) d w x (ix2 0 j)
      = ∑ r : Fin 512, dgRow (V m c main_arg0) w' (V m c main_arg2) (rowAt t r) j := by
  subst hw hd hx
  refine (dg_at _ _ _ j).trans ?_
  unfold dgRow NormSpec.dg NormSpec.rs NormSpec.ms
  pointwise []
  blk_point [iblk, idx t, coord t]

/-- What the first point reads back of the weights it laid out. -/
theorem read_A (c : Dev nD) (t : Fin cfg0.N) :
    (View.whole cc0_scratch0).readCov (Val := Elt Ideal)
      [⟨Rect.unit ![0, 960] ![1024, 320] inb_S1024x1280_S1024x320_0_960, k0_pay8 (View.ld (iblk m c 1 t) (Rect.unit ![0, 3, 0, 0] ![1, 1, 1024, 320] inb_S1x4x1024x320_S1x1x1024x320_0_3_0_0))⟩,
       ⟨Rect.unit ![0, 640] ![1024, 320] inb_S1024x1280_S1024x320_0_640, k0_pay7 (View.ld (iblk m c 1 t) (Rect.unit ![0, 2, 0, 0] ![1, 1, 1024, 320] inb_S1x4x1024x320_S1x1x1024x320_0_2_0_0))⟩,
       ⟨Rect.unit ![0, 320] ![1024, 320] inb_S1024x1280_S1024x320_0_320, k0_pay6 (View.ld (iblk m c 1 t) (Rect.unit ![0, 1, 0, 0] ![1, 1, 1024, 320] inb_S1x4x1024x320_S1x1x1024x320_0_1_0_0))⟩,
       ⟨Rect.unit ![0, 0] ![1024, 320] inb_S1024x1280_S1024x320_0_0, k0_pay5 (View.ld (iblk m c 1 t) (Rect.unit ![0, 0, 0, 0] ![1, 1, 1024, 320] inb_S1x4x1024x320_S1x1x1024x320_0_0_0_0))⟩]
      (Rect.unit ![0, 0] ![1024, 1280] inb_S1024x1280_S1024x1280_0_0).toLoadRect = whole (V m c main_v3) := by
  refine Eq.trans ?_ (whole_block m c t)
  rw [View.readCov_eq_canon']
  funext y
  unfold whole
  refine (congrArg (View.canon _) (funext fun a => Fin.ext (by fin_cases a <;> (change 0 + 1 * _ = _; omega)) : _ = y)).trans ?_
  canon_tiles y h
  all_goals
    open_payloads
    pointwise []
    blk_point []

/-- What either kind of grid point leaves of the rows' gradients. -/
theorem point5 (c : Dev nD) (t : Fin cfg0.N) (y : S512x1024.Idx) : (outsAt0 m c t.val t.isLt).1 y
    = dxs (V m c main_arg0) (whole (V m c main_v3)) (V m c main_arg2) (V m c main_arg4) (V m c main_v4) (ix2 (rowAt t (y 0)) (y 1)) := by
  idx_vars y
  by_cases h : t.val % 16 = 0
  · rw [outsAt0_A m c t h h]
    frame_out
    exact dx_block m (read_A m c t) c t rfl rfl rfl rfl y0 y1
  · rw [outsAt0_B m c t h h]
    frame_out
    exact dx_block m ((read_unread_whole _ _ _).trans (kept m c (t.val - 1) _)) c t rfl rfl rfl rfl y0 y1

/-- The rounded copy holds the same numbers. -/
theorem point7 (c : Dev nD) (t : Fin cfg0.N) (y : S512x1024.Idx) :
    (outsAt0 m c t.val t.isLt).2.2.1 y = (outsAt0 m c t.val t.isLt).1 y := by
  by_cases h : t.val % 16 = 0
  on_goal 1 => rw [outsAt0_A m c t h h]
  on_goal 2 => rw [outsAt0_B m c t h h]
  all_goals
    frame_out
    pointwise [k0_pay2]

theorem final5 (c : Dev nD) : (dats m 0 c).arrAt 5 (cfgs 0).N
    = dxs (V m c main_arg0) (whole (V m c main_v3)) (V m c main_arg2) (V m c main_arg4) (V m c main_v4) := by
  refine (dats m 0 c).arrAt_eq_of_covers 5 _ (by decide +kernel) fun t _ y => ?_
  blk_simp
  rw [after0_5]
  refine (point5 m c t y).trans ?_
  generalize dxs (V m c main_arg0) (whole (V m c main_v3)) (V m c main_arg2) (V m c main_arg4) (V m c main_v4) = f
  blk_point [idx t, coord t]

theorem final7 (c : Dev nD) : (dats m 0 c).arrAt 7 (cfgs 0).N
    = dxs (V m c main_arg0) (whole (V m c main_v3)) (V m c main_arg2) (V m c main_arg4) (V m c main_v4) := by
  refine (dats m 0 c).arrAt_eq_of_covers 7 _ (by decide +kernel) fun t _ y => ?_
  blk_simp
  rw [after0_7]
  refine (point7 m c t y).trans ((point5 m c t y).trans ?_)
  generalize dxs (V m c main_arg0) (whole (V m c main_v3)) (V m c main_arg2) (V m c main_arg4) (V m c main_v4) = f
  blk_point [idx t, coord t]

/-! ## The gain's sum -/

/-- What point `t` adds to the gain's gradient. -/
def part (c : Dev nD) (t : Fin cfg0.N) : FVec Ideal S1x1024 .f32 := fun y =>
  ∑ k : Fin 512, dgRow (V m c main_arg0) (whole (V m c main_v3)) (V m c main_arg2) (rowAt t k) (y 1)

theorem zeros_at (j : Fin 1024) : k0_pay3 (F := Ideal) (ix2 0 j) = 0 := by
  pointwise [k0_pay3]

theorem add_at (p a : FVec Ideal S1x1024 .f32) (j : Fin 1024) :
    k0_pay4 (F := Ideal) p a (ix2 0 j) = a (ix2 0 j) + p (ix2 0 j) := by
  pointwise [k0_pay4]

/-- The first point starts the sum. -/
theorem stepA (c : Dev nD) (t : Fin cfg0.N) (h : t.val % 16 = 0) (y : S1x1024.Idx) :
    (outsAt0 m c t.val t.isLt).2.1 y = 0 + part m c t y := by
  idx_vars y
  obtain rfl : y0 = 0 := Subsingleton.elim _ _
  rw [outsAt0_A m c t h h]
  frame_out
  refine (add_at _ _ y1).trans ?_
  rw [zeros_at]
  exact congrArg (0 + ·) (dg_block m (read_A m c t) c t rfl rfl y1)

/-- Every other point adds to it. -/
theorem stepB (c : Dev nD) (t : Fin cfg0.N) (h : ¬ t.val % 16 = 0) (y : S1x1024.Idx) :
    (outsAt0 m c t.val t.isLt).2.1 y
      = (outsAt0 m c (t.val - 1) (Nat.lt_of_le_of_lt (Nat.sub_le _ _) t.isLt)).2.1 y + part m c t y := by
  idx_vars y
  obtain rfl : y0 = 0 := Subsingleton.elim _ _
  rw [outsAt0_B m c t h h]
  frame_out
  refine (add_at _ _ y1).trans (congrArg (_ + ·) ?_)
  exact dg_block m ((read_unread_whole _ _ _).trans (kept m c (t.val - 1) _)) c t rfl rfl y1

theorem final6 (c : Dev nD) : (dats m 0 c).arrAt 6 (cfgs 0).N
    = fun i : S1x1024.Idx => ∑ r : Fin 8192, dgRow (V m c main_arg0) (whole (V m c main_v3)) (V m c main_arg2) r (i 1) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0) (part m c)
    (fun t h j => stepA m c t h j) (fun t h j => stepB m c t h j) (le_of_eq N_0) t0_15 rfl j, zero_add]
  exact Fin.sum_mul_add_congr fun t k hl => rfl

/-! ## What the call is handed -/

/-- The gain reaches the kernel as one row. -/
theorem V_gain (c : Dev nD) : V m c main_v4 = shapeCast S1x1024 (m ((c : Thread nD τ).loc main_arg3)) shapeCasts_S1024_S1x1024 := by
  unfold V; after_results; try rfl

/-- The weights reach the kernel cut into four planes of columns. -/
theorem V_planes (c : Dev nD) : V m c main_v3 = broadcastInDim S1x4x1024x320 ![1, 2, 3] bcast_S4x1024x320_S1x4x1024x320_1_2_3
    (transpose S4x1024x320 [1, 0, 2] (shapeCast S1024x4x320 (truncf (F := Ideal) .bf16 (m ((c : Thread nD τ).loc main_arg1)) bitsLt_bf16_f32)
      shapeCasts_S1024x1280_S1024x4x320) transposes_S1024x4x320_S4x1024x320_1_0_2) := by
  unfold V; after_results; try rfl

theorem V_args (c : Dev nD) : V m c main_arg0 = m ((c : Thread nD τ).loc main_arg0)
    ∧ V m c main_arg2 = m ((c : Thread nD τ).loc main_arg2) ∧ V m c main_arg4 = m ((c : Thread nD τ).loc main_arg4) := by
  refine ⟨?_, ?_, ?_⟩ <;> unfold V <;> after_results

theorem gain_row (g : FVec Ideal S1024 .f32) :
    (fun k => shapeCast S1x1024 g shapeCasts_S1024_S1x1024 (ix2 (0 : Fin 1) k)) = fun k => g (ix1 k) := by
  funext k; pointwise []

/-- Laid side by side, the planes are the weights again. -/
theorem whole_planes (w : FVec Ideal S1024x1280 .f32) : whole (broadcastInDim S1x4x1024x320 ![1, 2, 3] bcast_S4x1024x320_S1x4x1024x320_1_2_3
    (transpose S4x1024x320 [1, 0, 2] (shapeCast S1024x4x320 (truncf (F := Ideal) .bf16 w bitsLt_bf16_f32)
      shapeCasts_S1024x1280_S1024x4x320) transposes_S1024x4x320_S4x1024x320_1_0_2)) = w := by
  funext y
  idx_vars y
  unfold whole
  pointwise []

end Cert.AInDxIdeal.Value

end
-- ==== Proof.AInDxRef.lean ====
/- What the reference of the attention mixer's input projection's gradient computes. -/
module

public import proofs.«01_k».proof.Proof.Gen.AInDxRefIdeal.Run
public import proofs.«01_k».proof.Proof.Gen.AInDxRefIdeal.Read
public import proofs.«01_k».proof.Proof.NormSpec
public import Idealize.ShloMosaic.Lib.Pointwise

@[expose] public section

set_option maxRecDepth 16384

noncomputable section

namespace Cert.AInDxRefIdeal.Read

open Cert.AInDxRefIdeal Cert.AInDxRefIdeal.Gen Idealize.ShloMosaic Idealize.ShloMosaic.TcCoe Idealize.SL.Sem
open Cert

variable (d : FVec Ideal S8192x1280 .bf16) (w : FVec Ideal S1024x1280 .f32) (x : FVec Ideal S8192x1024 .f32)
  (g : FVec Ideal S1024 .f32) (z : FVec Ideal S8192x1024 .f32)

theorem ms_at (r : Fin 8192) (o : Fin 1) : val_main_v6 (F := Ideal) x (ix2 r o) = NormSpec.ms (fun k => x (ix2 r k)) := by
  pointwise [val_main_v6, val_main_v5, val_main_v4, val_main_v3, val_main_v2, val_main_v1, val_main_v0, val_main_cst,
    val_main_cst_0, val_main_cst_1, NormSpec.ms]

theorem rs_at (r : Fin 8192) (o : Fin 1) : val_main_v7 (F := Ideal) x (ix2 r o) = NormSpec.rs (fun k => x (ix2 r k)) := by
  pointwise [val_main_v7, NormSpec.rs, ms_at]

theorem dy_at (r : Fin 8192) (j : Fin 1024) : val_main_v18 (F := Ideal) d w (ix2 r j)
    = ∑ l : Fin 1280, d (ix2 r l) * w (ix2 j l) := by
  pointwise [val_main_v18, val_main_v17]

/-- The reference's first result. -/
theorem dx_at (r : Fin 8192) (j : Fin 1024) : val_main_v39 (F := Ideal) d w x g z (ix2 r j) = z (ix2 r j)
    + NormSpec.dx (fun k => x (ix2 r k)) (fun k => g (ix1 k)) (fun k => ∑ l : Fin 1280, d (ix2 r l) * w (ix2 k l)) j := by
  pointwise [val_main_v39, val_main_v38, val_main_v37, val_main_v36, val_main_v35, val_main_v34, val_main_v33, val_main_v32,
    val_main_v31, val_main_v30, val_main_v29, val_main_v28, val_main_v27, val_main_v26, val_main_v25, val_main_v23,
    val_main_v22, val_main_v13, val_main_v10, val_main_v9, val_main_v8, val_main_cst_2, val_main_cst_5, val_main_cst_6,
    val_main_cst_7, ms_at, rs_at, dy_at, NormSpec.dx, NormSpec.thru, Fin.sum_univ_one]

/-- The reference's second result. -/
theorem dg_at (j : Fin 1024) : val_main_v40 (F := Ideal) d w x (ix2 0 j)
    = ∑ r : Fin 8192, NormSpec.dg (fun k => x (ix2 r k)) (fun k => ∑ l : Fin 1280, d (ix2 r l) * w (ix2 k l)) j := by
  pointwise [val_main_v40, val_main_v24, val_main_v21, val_main_v20, val_main_v19, val_main_v12, val_main_v11,
    val_main_cst_3, val_main_cst_4, rs_at, dy_at, NormSpec.dg, Fin.sum_univ_one]

/-- The third result is the first, rounded. -/
theorem copy_at (r : Fin 8192) (j : Fin 1024) :
    val_main_v41 (F := Ideal) d w x g z (ix2 r j) = val_main_v39 (F := Ideal) d w x g z (ix2 r j) := by
  pointwise [val_main_v41]

end Cert.AInDxRefIdeal.Read

end
-- ==== Proof.AInDx.lean ====
/- The claims about the attention mixer's input projection's gradient. -/
module

public import proofs.«01_k».proof.Defs
public import proofs.«01_k».proof.Proof.Gen.AInDx.Frame
public import proofs.«01_k».proof.Proof.AInDxKernel
public import proofs.«01_k».proof.Proof.AInDxRef
public import Idealize.ShloMosaic.Lib.Claim

@[expose] public section

set_option maxRecDepth 16384

noncomputable section

namespace Cert.Proof.AInDx

open Idealize.ShloMosaic Idealize.ShloMosaic.TcCoe Idealize.SL.Sem

theorem frame : Cert.quiescent_AInDx := fun m ρ _ => Cert.AInDx.Gen.frame m ρ
theorem frame_ideal : Cert.quiescent_AInDxIdeal := fun m ρ _ => Cert.AInDxIdeal.Gen.frame m ρ
theorem preserves : Cert.preserves_AInDx_AInDxIdeal := trivial

theorem frame_ref : Cert.quiescent_AInDxRefIdeal := fun m ρ _ =>
  (θ_run Cert.AInDxRefIdeal.defs _ _).mono
    (fun r h => ⟨fun c => (h c).2.2.2, Idealize.ShloMosaic.sem_eq_zero_of_no_sems (by decide) r.2⟩)
    (Cert.AInDxRefIdeal.Value.run m ρ)

theorem algebraic : Cert.algebraic_AInDxIdeal_AInDxRefIdeal := by
  pair_intro
  · run_from Cert.AInDxIdeal.Gen.run_main m g
  · run_from Cert.AInDxRefIdeal.Value.run m' g'
    all_goals
      obtain ⟨hd, hw, hx, hg, hz⟩ := hagree c
      obtain ⟨h0, h2, h4⟩ := Cert.AInDxIdeal.Value.V_args m c
    · rw [Cert.AInDxRefIdeal.Read.val_main_v39_eq, Cert.AInDxIdeal.Value.final5, h0, h2, h4, Cert.AInDxIdeal.Value.V_gain,
        Cert.AInDxIdeal.Value.V_planes, Cert.AInDxIdeal.Value.whole_planes]
      funext i
      idx_vars i
      refine (Cert.AInDxRefIdeal.Read.dx_at _ _ _ _ _ i0 i1).trans ?_
      unfold Cert.AInDxIdeal.Value.dxs
      rw [Cert.AInDxIdeal.Value.gain_row]
      try simp only [hd, hw, hx, hg, hz]
      rfl
    · rw [Cert.AInDxRefIdeal.Read.val_main_v40_eq, Cert.AInDxIdeal.Value.final6, h0, h2, Cert.AInDxIdeal.Value.V_planes,
        Cert.AInDxIdeal.Value.whole_planes]
      funext i
      idx_vars i
      obtain rfl : i0 = 0 := Subsingleton.elim _ _
      refine (Cert.AInDxRefIdeal.Read.dg_at _ _ _ i1).trans ?_
      try simp only [hd, hw, hx]
      rfl
    · rw [Cert.AInDxRefIdeal.Read.val_main_v41_eq, Cert.AInDxIdeal.Value.final7, h0, h2, h4, Cert.AInDxIdeal.Value.V_gain,
        Cert.AInDxIdeal.Value.V_planes, Cert.AInDxIdeal.Value.whole_planes]
      funext i
      idx_vars i
      refine (Cert.AInDxRefIdeal.Read.copy_at _ _ _ _ _ i0 i1).trans ((Cert.AInDxRefIdeal.Read.dx_at _ _ _ _ _ i0 i1).trans ?_)
      unfold Cert.AInDxIdeal.Value.dxs
      rw [Cert.AInDxIdeal.Value.gain_row]
      try simp only [hd, hw, hx, hg, hz]
      rfl

end Cert.Proof.AInDx

end
-- ==== Proof.BInDxKernel.lean ====
/- What the kernel of the gating mixer's input projection's gradient leaves in its results. -/
module

public import proofs.«01_k».proof.Proof.Gen.BInDxIdeal.Frame
public import proofs.«01_k».proof.Proof.Gen.BInDxIdeal.Skeleton
public import proofs.«01_k».proof.Proof.NormSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.BInDxIdeal.Value

open Cert.BInDxIdeal Cert.BInDxIdeal.Gen Idealize.ShloMosaic Idealize.ShloMosaic.TcCoe Idealize.SL.Sem
open Idealize.ShloMosaic.Pipeline (Dat)
open Cert

/-! ## One block of rows -/

section Blocks

variable (d : FVec Ideal S512x1792 .bf16) (w : FVec Ideal S1024x1792 .bf16) (x z : FVec Ideal S512x1024 .f32) (g : FVec Ideal S1x1024 .f32)

/-- One number of the gradient of the norm's result. -/
theorem dy_at (r : Fin 512) (j : Fin 1024) : k0_pay9 (F := Ideal) d w (ix2 r j) = ∑ l : Fin 1792, d (ix2 r l) * w (ix2 j l) := by
  pointwise [k0_pay9]

theorem ms_at (r : Fin 512) : k0_pay10 (F := Ideal) x (ix2 r 0) = NormSpec.ms (fun k => x (ix2 r k)) := by
  pointwise [k0_pay10, NormSpec.ms]

theorem rs_at (r : Fin 512) : k0_pay11 (F := Ideal) x (ix2 r 0) = NormSpec.rs (fun k => x (ix2 r k)) := by
  pointwise [k0_pay11, NormSpec.rs, ms_at]

theorem dg_at (j : Fin 1024) : k0_pay12 (F := Ideal) d w x (ix2 0 j) = ∑ r : Fin 512,
    NormSpec.dg (fun k => x (ix2 r k)) (fun k => ∑ l : Fin 1792, d (ix2 r l) * w (ix2 k l)) j := by
  pointwise [k0_pay12, NormSpec.dg, rs_at, dy_at]

theorem gained_at (r : Fin 512) (j : Fin 1024) : k0_pay13 (F := Ideal) d w g (ix2 r j)
    = (∑ l : Fin 1792, d (ix2 r l) * w (ix2 j l)) * g (ix2 0 j) := by
  pointwise [k0_pay13, dy_at]

theorem direct_at (r : Fin 512) (j : Fin 1024) : k0_pay14 (F := Ideal) d w x g (ix2 r j)
    = (∑ l : Fin 1792, d (ix2 r l) * w (ix2 j l)) * g (ix2 0 j) * NormSpec.rs (fun k => x (ix2 r k)) := by
  pointwise [k0_pay14, rs_at, gained_at]

theorem thru_at (r : Fin 512) (j : Fin 1024) : k0_pay15 (F := Ideal) d w x g (ix2 r j)
    = NormSpec.thru (fun k => x (ix2 r k)) (fun k => (∑ l : Fin 1792, d (ix2 r l) * w (ix2 k l)) * g (ix2 0 k)) := by
  pointwise [k0_pay15, NormSpec.thru, Fin.sum_univ_one, ms_at, rs_at, gained_at]

theorem dx_at (r : Fin 512) (j : Fin 1024) : k0_pay1 (F := Ideal) x (k0_pay14 d w x g) (k0_pay15 d w x g) (k0_pay16 d w x g) z (ix2 r j)
    = z (ix2 r j) + NormSpec.dx (fun k => x (ix2 r k)) (fun k => g (ix2 0 k)) (fun k => ∑ l : Fin 1792, d (ix2 r l) * w (ix2 k l)) j := by
  pointwise [k0_pay1, k0_pay16, NormSpec.dx, direct_at, thru_at]

end Blocks

theorem idx : ∀ t : Fin cfg0.N, win0_0.index t = ![(grid0.coords t 0).val, 0] ∧ win0_1.index t = ![0, 0, 0, 0]
    ∧ win0_2.index t = ![(grid0.coords t 0).val, 0] ∧ win0_3.index t = ![0, 0] ∧ win0_4.index t = ![(grid0.coords t 0).val, 0]
    ∧ win0_5.index t = ![(grid0.coords t 0).val, 0] ∧ win0_6.index t = ![0, 0] ∧ win0_7.index t = ![(grid0.coords t 0).val, 0] :=
  (by decide +kernel : ∀ t : Fin grid0.N, _)

theorem coord (t : Fin cfg0.N) : (grid0.coords t 0).val = t.val := (by decide +kernel : ∀ t : Fin grid0.N, (grid0.coords t 0).val = t.val) t

/-! ## The weights in one piece -/

/-- The four planes of columns side by side. -/
def whole (w : FVec Ideal S1x4x1024x448 .bf16) : FVec Ideal S1024x1792 .bf16 := fun i =>
  w (ix4 0 ⟨(i 1).val / 448, by have := (i 1).isLt; change (i 1 : ℕ) < 1792 at this; omega⟩ (i 0) ⟨(i 1).val % 448, Nat.mod_lt _ (by decide)⟩)

variable (m : (ℓ : Loc nD τ sig) → Buf (Elt Ideal) ℓ)

/-- The first point lays the planes side by side. -/
theorem kept_A (c : Dev nD) (t : Fin cfg0.N) (h : t.val % 16 = 0) :
    (outsAt0 m c t.val t.isLt).2.2.2 = whole (iblk m c 1 t) := by
  rw [outsAt0_A m c t h h]
  funext y
  unfold whole
  frame_out
  canon_tiles y h
  all_goals
    open_payloads
    pointwise []
    blk_point []

theorem whole_block (c : Dev nD) (t : Fin cfg0.N) : whole (iblk m c 1 t) = whole (V m c main_v3) := by
  unfold whole
  funext y
  blk_point [iblk, idx t]

/-- They stay as they are for the rest of the grid. -/
theorem kept (c : Dev nD) (n : ℕ) (hn : n < cfg0.N) : (outsAt0 m c n hn).2.2.2 = whole (V m c main_v3) := by
  induction n with
  | zero => exact (kept_A m c ⟨0, hn⟩ (Nat.zero_mod _)).trans (whole_block m c _)
  | succ n ih =>
    have hN : cfg0.N = 16 := N_0
    have h : ¬ (n + 1) % 16 = 0 := by omega
    refine Eq.trans ?_ (ih (by omega))
    rw [outsAt0_B m c ⟨n + 1, hn⟩ h h]
    rfl

/-! ## The arrays -/

section Arrays

variable (d : FVec Ideal S8192x1792 .bf16) (w : FVec Ideal S1024x1792 .bf16) (x z : FVec Ideal S8192x1024 .f32) (g : FVec Ideal S1x1024 .f32)

/-- The rows' gradients on top of what they are added to. -/
def dxs : FVec Ideal S8192x1024 .f32 := fun i => z i + NormSpec.dx (fun k => x (ix2 (i 0) k)) (fun k => g (ix2 0 k))
  (fun k => ∑ l : Fin 1792, d (ix2 (i 0) l) * w (ix2 k l)) (i 1)

/-- What one row adds to the gain's gradient. -/
def dgRow (r : Fin 8192) (j : Fin 1024) : EReal :=
  NormSpec.dg (fun k => x (ix2 r k)) (fun k => ∑ l : Fin 1792, d (ix2 r l) * w (ix2 k l)) j

end Arrays

/-- Row `k` of the block of point `t`. -/
abbrev rowAt (t : Fin cfg0.N) (k : Fin 512) : Fin 8192 := ⟨t.val * 512 + k, by have := t.isLt; change (t : ℕ) < 16 at *; omega⟩

/-- What the body makes of a block, in terms of the array of which the block is a part. -/
theorem dx_block {d : FVec Ideal S512x1792 .bf16} {w : FVec Ideal S1024x1792 .bf16} {x z : FVec Ideal S512x1024 .f32} {g : FVec Ideal S1x1024 .f32}
    {w' : FVec Ideal S1024x1792 .bf16} (hw : w = w') (c : Dev nD) (t : Fin cfg0.N) (hd : d = iblk m c 0 t) (hx : x = iblk m c 2 t)
    (hz : z = iblk m c 4 t) (hg : g = iblk m c 3 t) (r : Fin 512) (j : Fin 1024) :
    k0_pay1 (F := Ideal) x (k0_pay14 d w x g) (k0_pay15 d w x g) (k0_pay16 d w x g) z (ix2 r j)
      = dxs (V m c main_arg0) w' (V m c main_arg2) (V m c main_arg4) (V m c main_v4) (ix2 (rowAt t r) j) := by
  subst hw hd hx hz hg
  refine (dx_at _ _ _ _ _ r j).trans ?_
  unfold dxs NormSpec.dx NormSpec.thru NormSpec.rs NormSpec.ms
  pointwise []
  blk_point [iblk, idx t, coord t]

theorem dg_block {d : FVec Ideal S512x1792 .bf16} {w : FVec Ideal S1024x1792 .bf16} {x : FVec Ideal S512x1024 .f32}
    {w' : FVec Ideal S1024x1792 .bf16} (hw : w = w') (c : Dev nD) (t : Fin cfg0.N) (hd : d = iblk m c 0 t) (hx : x = iblk m c 2 t)
    (j : Fin 1024) : k0_pay12 (F := Ideal) d w x (ix2 0 j)
      = ∑ r : Fin 512, dgRow (V m c main_arg0) w' (V m c main_arg2) (rowAt t r) j := by
  subst hw hd hx
  refine (dg_at _ _ _ j).trans ?_
  unfold dgRow NormSpec.dg NormSpec.rs NormSpec.ms
  pointwise []
  blk_point [iblk, idx t, coord t]

/-- What the first point reads back of the weights it laid out. -/
theorem read_A (c : Dev nD) (t : Fin cfg0.N) :
    (View.whole cc0_scratch0).readCov (Val := Elt Ideal)
      [⟨Rect.unit ![0, 1344] ![1024, 448] inb_S1024x1792_S1024x448_0_1344, k0_pay8 (View.ld (iblk m c 1 t) (Rect.unit ![0, 3, 0, 0] ![1, 1, 1024, 448] inb_S1x4x1024x448_S1x1x1024x448_0_3_0_0))⟩,
       ⟨Rect.unit ![0, 896] ![1024, 448] inb_S1024x1792_S1024x448_0_896, k0_pay7 (View.ld (iblk m c 1 t) (Rect.unit ![0, 2, 0, 0] ![1, 1, 1024, 448] inb_S1x4x1024x448_S1x1x1024x448_0_2_0_0))⟩,
       ⟨Rect.unit ![0, 448] ![1024, 448] inb_S1024x1792_S1024x448_0_448, k0_pay6 (View.ld (iblk m c 1 t) (Rect.unit ![0, 1, 0, 0] ![1, 1, 1024, 448] inb_S1x4x1024x448_S1x1x1024x448_0_1_0_0))⟩,
       ⟨Rect.unit ![0, 0] ![1024, 448] inb_S1024x1792_S1024x448_0_0, k0_pay5 (View.ld (iblk m c 1 t) (Rect.unit ![0, 0, 0, 0] ![1, 1, 1024, 448] inb_S1x4x1024x448_S1x1x1024x448_0_0_0_0))⟩]
      (Rect.unit ![0, 0] ![1024, 1792] inb_S1024x1792_S1024x1792_0_0).toLoadRect = whole (V m c main_v3) := by
  refine Eq.trans ?_ (whole_block m c t)
  rw [View.readCov_eq_canon']
  funext y
  unfold whole
  refine (congrArg (View.canon _) (funext fun a => Fin.ext (by fin_cases a <;> (change 0 + 1 * _ = _; omega)) : _ = y)).trans ?_
  canon_tiles y h
  all_goals
    open_payloads
    pointwise []
    blk_point []

/-- What either kind of grid point leaves of the rows' gradients. -/
theorem point5 (c : Dev nD) (t : Fin cfg0.N) (y : S512x1024.Idx) : (outsAt0 m c t.val t.isLt).1 y
    = dxs (V m c main_arg0) (whole (V m c main_v3)) (V m c main_arg2) (V m c main_arg4) (V m c main_v4) (ix2 (rowAt t (y 0)) (y 1)) := by
  idx_vars y
  by_cases h : t.val % 16 = 0
  · rw [outsAt0_A m c t h h]
    frame_out
    exact dx_block m (read_A m c t) c t rfl rfl rfl rfl y0 y1
  · rw [outsAt0_B m c t h h]
    frame_out
    exact dx_block m ((read_unread_whole _ _ _).trans (kept m c (t.val - 1) _)) c t rfl rfl rfl rfl y0 y1

/-- The rounded copy holds the same numbers. -/
theorem point7 (c : Dev nD) (t : Fin cfg0.N) (y : S512x1024.Idx) :
    (outsAt0 m c t.val t.isLt).2.2.1 y = (outsAt0 m c t.val t.isLt).1 y := by
  by_cases h : t.val % 16 = 0
  on_goal 1 => rw [outsAt0_A m c t h h]
  on_goal 2 => rw [outsAt0_B m c t h h]
  all_goals
    frame_out
    pointwise [k0_pay2]

theorem final5 (c : Dev nD) : (dats m 0 c).arrAt 5 (cfgs 0).N
    = dxs (V m c main_arg0) (whole (V m c main_v3)) (V m c main_arg2) (V m c main_arg4) (V m c main_v4) := by
  refine (dats m 0 c).arrAt_eq_of_covers 5 _ (by decide +kernel) fun t _ y => ?_
  blk_simp
  rw [after0_5]
  refine (point5 m c t y).trans ?_
  generalize dxs (V m c main_arg0) (whole (V m c main_v3)) (V m c main_arg2) (V m c main_arg4) (V m c main_v4) = f
  blk_point [idx t, coord t]

theorem final7 (c : Dev nD) : (dats m 0 c).arrAt 7 (cfgs 0).N
    = dxs (V m c main_arg0) (whole (V m c main_v3)) (V m c main_arg2) (V m c main_arg4) (V m c main_v4) := by
  refine (dats m 0 c).arrAt_eq_of_covers 7 _ (by decide +kernel) fun t _ y => ?_
  blk_simp
  rw [after0_7]
  refine (point7 m c t y).trans ((point5 m c t y).trans ?_)
  generalize dxs (V m c main_arg0) (whole (V m c main_v3)) (V m c main_arg2) (V m c main_arg4) (V m c main_v4) = f
  blk_point [idx t, coord t]

/-! ## The gain's sum -/

/-- What point `t` adds to the gain's gradient. -/
def part (c : Dev nD) (t : Fin cfg0.N) : FVec Ideal S1x1024 .f32 := fun y =>
  ∑ k : Fin 512, dgRow (V m c main_arg0) (whole (V m c main_v3)) (V m c main_arg2) (rowAt t k) (y 1)

theorem zeros_at (j : Fin 1024) : k0_pay3 (F := Ideal) (ix2 0 j) = 0 := by
  pointwise [k0_pay3]

theorem add_at (p a : FVec Ideal S1x1024 .f32) (j : Fin 1024) :
    k0_pay4 (F := Ideal) p a (ix2 0 j) = a (ix2 0 j) + p (ix2 0 j) := by
  pointwise [k0_pay4]

/-- The first point starts the sum. -/
theorem stepA (c : Dev nD) (t : Fin cfg0.N) (h : t.val % 16 = 0) (y : S1x1024.Idx) :
    (outsAt0 m c t.val t.isLt).2.1 y = 0 + part m c t y := by
  idx_vars y
  obtain rfl : y0 = 0 := Subsingleton.elim _ _
  rw [outsAt0_A m c t h h]
  frame_out
  refine (add_at _ _ y1).trans ?_
  rw [zeros_at]
  exact congrArg (0 + ·) (dg_block m (read_A m c t) c t rfl rfl y1)

/-- Every other point adds to it. -/
theorem stepB (c : Dev nD) (t : Fin cfg0.N) (h : ¬ t.val % 16 = 0) (y : S1x1024.Idx) :
    (outsAt0 m c t.val t.isLt).2.1 y
      = (outsAt0 m c (t.val - 1) (Nat.lt_of_le_of_lt (Nat.sub_le _ _) t.isLt)).2.1 y + part m c t y := by
  idx_vars y
  obtain rfl : y0 = 0 := Subsingleton.elim _ _
  rw [outsAt0_B m c t h h]
  frame_out
  refine (add_at _ _ y1).trans (congrArg (_ + ·) ?_)
  exact dg_block m ((read_unread_whole _ _ _).trans (kept m c (t.val - 1) _)) c t rfl rfl y1

theorem final6 (c : Dev nD) : (dats m 0 c).arrAt 6 (cfgs 0).N
    = fun i : S1x1024.Idx => ∑ r : Fin 8192, dgRow (V m c main_arg0) (whole (V m c main_v3)) (V m c main_arg2) r (i 1) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0) (part m c)
    (fun t h j => stepA m c t h j) (fun t h j => stepB m c t h j) (le_of_eq N_0) t0_15 rfl j, zero_add]
  exact Fin.sum_mul_add_congr fun t k hl => rfl

/-! ## What the call is handed -/

/-- The gain reaches the kernel as one row. -/
theorem V_gain (c : Dev nD) : V m c main_v4 = shapeCast S1x1024 (m ((c : Thread nD τ).loc main_arg3)) shapeCasts_S1024_S1x1024 := by
  unfold V; after_results; try rfl

/-- The weights reach the kernel cut into four planes of columns. -/
theorem V_planes (c : Dev nD) : V m c main_v3 = broadcastInDim S1x4x1024x448 ![1, 2, 3] bcast_S4x1024x448_S1x4x1024x448_1_2_3
    (transpose S4x1024x448 [1, 0, 2] (shapeCast S1024x4x448 (truncf (F := Ideal) .bf16 (m ((c : Thread nD τ).loc main_arg1)) bitsLt_bf16_f32)
      shapeCasts_S1024x1792_S1024x4x448) transposes_S1024x4x448_S4x1024x448_1_0_2) := by
  unfold V; after_results; try rfl

theorem V_args (c : Dev nD) : V m c main_arg0 = m ((c : Thread nD τ).loc main_arg0)
    ∧ V m c main_arg2 = m ((c : Thread nD τ).loc main_arg2) ∧ V m c main_arg4 = m ((c : Thread nD τ).loc main_arg4) := by
  refine ⟨?_, ?_, ?_⟩ <;> unfold V <;> after_results

theorem gain_row (g : FVec Ideal S1024 .f32) :
    (fun k => shapeCast S1x1024 g shapeCasts_S1024_S1x1024 (ix2 (0 : Fin 1) k)) = fun k => g (ix1 k) := by
  funext k; pointwise []

/-- Laid side by side, the planes are the weights again. -/
theorem whole_planes (w : FVec Ideal S1024x1792 .f32) : whole (broadcastInDim S1x4x1024x448 ![1, 2, 3] bcast_S4x1024x448_S1x4x1024x448_1_2_3
    (transpose S4x1024x448 [1, 0, 2] (shapeCast S1024x4x448 (truncf (F := Ideal) .bf16 w bitsLt_bf16_f32)
      shapeCasts_S1024x1792_S1024x4x448) transposes_S1024x4x448_S4x1024x448_1_0_2)) = w := by
  funext y
  idx_vars y
  unfold whole
  pointwise []

end Cert.BInDxIdeal.Value

end
-- ==== Proof.BInDxRef.lean ====
/- What the reference of the gating mixer's input projection's gradient computes. -/
module

public import proofs.«01_k».proof.Proof.Gen.BInDxRefIdeal.Run
public import proofs.«01_k».proof.Proof.Gen.BInDxRefIdeal.Read
public import proofs.«01_k».proof.Proof.NormSpec
public import Idealize.ShloMosaic.Lib.Pointwise

@[expose] public section

set_option maxRecDepth 16384

noncomputable section

namespace Cert.BInDxRefIdeal.Read

open Cert.BInDxRefIdeal Cert.BInDxRefIdeal.Gen Idealize.ShloMosaic Idealize.ShloMosaic.TcCoe Idealize.SL.Sem
open Cert

variable (d : FVec Ideal S8192x1792 .bf16) (w : FVec Ideal S1024x1792 .f32) (x : FVec Ideal S8192x1024 .f32)
  (g : FVec Ideal S1024 .f32) (z : FVec Ideal S8192x1024 .f32)

theorem ms_at (r : Fin 8192) (o : Fin 1) : val_main_v6 (F := Ideal) x (ix2 r o) = NormSpec.ms (fun k => x (ix2 r k)) := by
  pointwise [val_main_v6, val_main_v5, val_main_v4, val_main_v3, val_main_v2, val_main_v1, val_main_v0, val_main_cst,
    val_main_cst_0, val_main_cst_1, NormSpec.ms]

theorem rs_at (r : Fin 8192) (o : Fin 1) : val_main_v7 (F := Ideal) x (ix2 r o) = NormSpec.rs (fun k => x (ix2 r k)) := by
  pointwise [val_main_v7, NormSpec.rs, ms_at]

theorem dy_at (r : Fin 8192) (j : Fin 1024) : val_main_v18 (F := Ideal) d w (ix2 r j)
    = ∑ l : Fin 1792, d (ix2 r l) * w (ix2 j l) := by
  pointwise [val_main_v18, val_main_v17]

/-- The reference's first result. -/
theorem dx_at (r : Fin 8192) (j : Fin 1024) : val_main_v39 (F := Ideal) d w x g z (ix2 r j) = z (ix2 r j)
    + NormSpec.dx (fun k => x (ix2 r k)) (fun k => g (ix1 k)) (fun k => ∑ l : Fin 1792, d (ix2 r l) * w (ix2 k l)) j := by
  pointwise [val_main_v39, val_main_v38, val_main_v37, val_main_v36, val_main_v35, val_main_v34, val_main_v33, val_main_v32,
    val_main_v31, val_main_v30, val_main_v29, val_main_v28, val_main_v27, val_main_v26, val_main_v25, val_main_v23,
    val_main_v22, val_main_v13, val_main_v10, val_main_v9, val_main_v8, val_main_cst_2, val_main_cst_5, val_main_cst_6,
    val_main_cst_7, ms_at, rs_at, dy_at, NormSpec.dx, NormSpec.thru, Fin.sum_univ_one]

/-- The reference's second result. -/
theorem dg_at (j : Fin 1024) : val_main_v40 (F := Ideal) d w x (ix2 0 j)
    = ∑ r : Fin 8192, NormSpec.dg (fun k => x (ix2 r k)) (fun k => ∑ l : Fin 1792, d (ix2 r l) * w (ix2 k l)) j := by
  pointwise [val_main_v40, val_main_v24, val_main_v21, val_main_v20, val_main_v19, val_main_v12, val_main_v11,
    val_main_cst_3, val_main_cst_4, rs_at, dy_at, NormSpec.dg, Fin.sum_univ_one]

/-- The third result is the first, rounded. -/
theorem copy_at (r : Fin 8192) (j : Fin 1024) :
    val_main_v41 (F := Ideal) d w x g z (ix2 r j) = val_main_v39 (F := Ideal) d w x g z (ix2 r j) := by
  pointwise [val_main_v41]

end Cert.BInDxRefIdeal.Read

end
-- ==== Proof.BInDx.lean ====
/- The claims about the gating mixer's input projection's gradient. -/
module

public import proofs.«01_k».proof.Defs
public import proofs.«01_k».proof.Proof.Gen.BInDx.Frame
public import proofs.«01_k».proof.Proof.BInDxKernel
public import proofs.«01_k».proof.Proof.BInDxRef
public import Idealize.ShloMosaic.Lib.Claim

@[expose] public section

set_option maxRecDepth 16384

noncomputable section

namespace Cert.Proof.BInDx

open Idealize.ShloMosaic Idealize.ShloMosaic.TcCoe Idealize.SL.Sem

theorem frame : Cert.quiescent_BInDx := fun m ρ _ => Cert.BInDx.Gen.frame m ρ
theorem frame_ideal : Cert.quiescent_BInDxIdeal := fun m ρ _ => Cert.BInDxIdeal.Gen.frame m ρ
theorem preserves : Cert.preserves_BInDx_BInDxIdeal := trivial

theorem frame_ref : Cert.quiescent_BInDxRefIdeal := fun m ρ _ =>
  (θ_run Cert.BInDxRefIdeal.defs _ _).mono
    (fun r h => ⟨fun c => (h c).2.2.2, Idealize.ShloMosaic.sem_eq_zero_of_no_sems (by decide) r.2⟩)
    (Cert.BInDxRefIdeal.Value.run m ρ)

theorem algebraic : Cert.algebraic_BInDxIdeal_BInDxRefIdeal := by
  pair_intro
  · run_from Cert.BInDxIdeal.Gen.run_main m g
  · run_from Cert.BInDxRefIdeal.Value.run m' g'
    all_goals
      obtain ⟨hd, hw, hx, hg, hz⟩ := hagree c
      obtain ⟨h0, h2, h4⟩ := Cert.BInDxIdeal.Value.V_args m c
    · rw [Cert.BInDxRefIdeal.Read.val_main_v39_eq, Cert.BInDxIdeal.Value.final5, h0, h2, h4, Cert.BInDxIdeal.Value.V_gain,
        Cert.BInDxIdeal.Value.V_planes, Cert.BInDxIdeal.Value.whole_planes]
      funext i
      idx_vars i
      refine (Cert.BInDxRefIdeal.Read.dx_at _ _ _ _ _ i0 i1).trans ?_
      unfold Cert.BInDxIdeal.Value.dxs
      rw [Cert.BInDxIdeal.Value.gain_row]
      try simp only [hd, hw, hx, hg, hz]
      rfl
    · rw [Cert.BInDxRefIdeal.Read.val_main_v40_eq, Cert.BInDxIdeal.Value.final6, h0, h2, Cert.BInDxIdeal.Value.V_planes,
        Cert.BInDxIdeal.Value.whole_planes]
      funext i
      idx_vars i
      obtain rfl : i0 = 0 := Subsingleton.elim _ _
      refine (Cert.BInDxRefIdeal.Read.dg_at _ _ _ i1).trans ?_
      try simp only [hd, hw, hx]
      rfl
    · rw [Cert.BInDxRefIdeal.Read.val_main_v41_eq, Cert.BInDxIdeal.Value.final7, h0, h2, h4, Cert.BInDxIdeal.Value.V_gain,
        Cert.BInDxIdeal.Value.V_planes, Cert.BInDxIdeal.Value.whole_planes]
      funext i
      idx_vars i
      refine (Cert.BInDxRefIdeal.Read.copy_at _ _ _ _ _ i0 i1).trans ((Cert.BInDxRefIdeal.Read.dx_at _ _ _ _ _ i0 i1).trans ?_)
      unfold Cert.BInDxIdeal.Value.dxs
      rw [Cert.BInDxIdeal.Value.gain_row]
      try simp only [hd, hw, hx, hg, hz]
      rfl

end Cert.Proof.BInDx

end
-- ==== Proof.LossSpec.lean ====
/- The loss of one row and its gradient, over the extended reals. -/
module

public import proofs.«01_k».proof.Proof.NormSpec
public import proofs.«01_k».proof.Proof.Reals

@[expose] public section

noncomputable section

namespace Cert.LossSpec

open Idealize.ShloMosaic

/-- How far one number of the normalised row lies from its target. -/
def err (x g y : Fin 1024 → EReal) (j : Fin 1024) : EReal := x j * NormSpec.rs x * g j - y j

/-- The gradient of the loss with respect to the normalised row. -/
def ct (x g y : Fin 1024 → EReal) (j : Fin 1024) : EReal := err x g y j * Ideal.ofBits .f32 0x3A800000#32

/-- The mean square of a row's error. -/
def row (x g y : Fin 1024 → EReal) : EReal :=
  Ideal.div (∑ k : Fin 1024, err x g y k * err x g y k) (Ideal.ofBits .f32 0x44800000#32)

theorem mul_self_nonneg' (a : EReal) : 0 ≤ a * a := by
  rcases le_total 0 a with h | h
  · exact mul_nonneg h h
  · simpa using mul_nonneg (EReal.neg_nonneg.mpr h) (EReal.neg_nonneg.mpr h)

theorem row_nonneg (x g y : Fin 1024 → EReal) : 0 ≤ row x g y := by
  unfold row
  rw [Reals.ofBits_1024, Ideal.div_coe (by norm_num)]
  exact mul_nonneg (Finset.sum_nonneg fun k _ => mul_self_nonneg' _) (by exact_mod_cast (by norm_num : (0 : ℝ) ≤ 1 / 1024))

theorem half : Ideal.ofBits .f32 0x3F000000#32 = ((1 / 2 : ℝ) : EReal) := by
  simp [Ideal.ofBits, Ideal.ieee, -EReal.coe_mul]; norm_num

/-- A sum of halves of numbers that are not negative is half their sum. -/
theorem half_sum {n : ℕ} (f : Fin n → EReal) (h : ∀ t, 0 ≤ f t) :
    ∑ t, Ideal.ofBits .f32 0x3F000000#32 * f t = Ideal.ofBits .f32 0x3F000000#32 * ∑ t, f t := by
  induction n with
  | zero => simp
  | succ n ih =>
    rw [Fin.sum_univ_succ, Fin.sum_univ_succ, ih _ fun t => h t.succ,
      EReal.left_distrib_of_nonneg (h 0) (Finset.sum_nonneg fun t _ => h t.succ)]

/-- Half of the mean's factor times twice the error is the error times the mean's factor. -/
theorem ct_eq (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  have h1 : Ideal.ofBits .f32 0x3F800000#32 = ((1 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have h3 : Ideal.ofBits .f32 0x3A800000#32 = ((1 / 1024 : ℝ) : EReal) := by
    simp [Ideal.ofBits, Ideal.ieee, -EReal.coe_mul]; norm_num
  rw [half, h1, h2, h3, Reals.ofBits_1024, ← EReal.coe_mul, Reals.div_coe_coe _ (by norm_num), ← mul_assoc, ← EReal.coe_mul, mul_comm,
    show (1 / 2 * 1 / 1024 * 2 : ℝ) = 1 / 1024 by norm_num]

end Cert.LossSpec

end
-- ==== Proof.LossHeadKernel.lean ====
/- What the kernel of the loss and its norm's gradient leaves in its results. -/
module

public import proofs.«01_k».proof.Proof.Gen.LossHeadIdeal.Frame
public import proofs.«01_k».proof.Proof.Gen.LossHeadIdeal.Skeleton
public import proofs.«01_k».proof.Proof.LossSpec
public import Idealize.ShloMosaic.Lib.Pipeline.ValueKit
public import Idealize.ShloMosaic.Lib.Pointwise
public import Idealize.ShloMosaic.Lib.Claim

@[expose] public section

set_option maxRecDepth 16384

noncomputable section

namespace Cert.LossHeadIdeal.Value

open Cert.LossHeadIdeal Cert.LossHeadIdeal.Gen Idealize.ShloMosaic Idealize.ShloMosaic.TcCoe Idealize.SL.Sem
open Idealize.ShloMosaic.Pipeline (Dat)
open Cert

/-! ## One block of rows -/

section Blocks

variable (x y : FVec Ideal S512x1024 .f32) (g : FVec Ideal S1x1024 .f32)

theorem ms_at (r : Fin 512) : k0_pay7 (F := Ideal) x (ix2 r 0) = NormSpec.ms (fun k => x (ix2 r k)) := by
  pointwise [k0_pay7, NormSpec.ms]

theorem rs_at (r : Fin 512) : k0_pay8 (F := Ideal) x (ix2 r 0) = NormSpec.rs (fun k => x (ix2 r k)) := by
  pointwise [k0_pay8, NormSpec.rs, ms_at]

theorem normed_at (r : Fin 512) (j : Fin 1024) : k0_pay9 (F := Ideal) x (ix2 r j)
    = x (ix2 r j) * NormSpec.rs (fun k => x (ix2 r k)) := by
  pointwise [k0_pay9, rs_at]

theorem err_at (r : Fin 512) (j : Fin 1024) : k0_pay10 (F := Ideal) x g y (ix2 r j)
    = LossSpec.err (fun k => x (ix2 r k)) (fun k => g (ix2 0 k)) (fun k => y (ix2 r k)) j := by
  pointwise [k0_pay10, k0_pay6, normed_at, LossSpec.err]

theorem ct_at (r : Fin 512) (j : Fin 1024) : k0_pay11 (F := Ideal) x g y (ix2 r j)
    = LossSpec.ct (fun k => x (ix2 r k)) (fun k => g (ix2 0 k)) (fun k => y (ix2 r k)) j := by
  pointwise [k0_pay11, err_at, LossSpec.ct]

theorem dg_at (j : Fin 1024) : k0_pay12 (F := Ideal) x g y (ix2 0 j) = ∑ r : Fin 512, NormSpec.dg (fun k => x (ix2 r k))
    (LossSpec.ct (fun k => x (ix2 r k)) (fun k => g (ix2 0 k)) (fun k => y (ix2 r k))) j := by
  pointwise [k0_pay12, NormSpec.dg, normed_at, ct_at]

theorem dx_at (r : Fin 512) (j : Fin 1024) : k0_pay13 (F := Ideal) x g y (ix2 r j)
    = NormSpec.dx (fun k => x (ix2 r k)) (fun k => g (ix2 0 k))
        (LossSpec.ct (fun k => x (ix2 r k)) (fun k => g (ix2 0 k)) (fun k => y (ix2 r k))) j := by
  pointwise [k0_pay13, k0_pay6, NormSpec.dx, NormSpec.thru, Fin.sum_univ_one, ms_at, rs_at, ct_at]

theorem loss_at (e : FVec Ideal S512x1024 .f32) (a : FVec Ideal S1x1 .f32) : k0_pay5 (F := Ideal) e a (ix2 0 0)
    = a (ix2 0 0) + Ideal.ofBits .f32 0x3F000000#32 * ∑ r : Fin 512,
        Ideal.div (∑ k : Fin 1024, e (ix2 r k) * e (ix2 r k)) (Ideal.ofBits .f32 0x44800000#32) := by
  pointwise [k0_pay5]

end Blocks

theorem idx : ∀ t : Fin cfg0.N, win0_0.index t = ![(grid0.coords t 0).val, 0] ∧ win0_1.index t = ![0, 0]
    ∧ win0_2.index t = ![(grid0.coords t 0).val, 0] ∧ win0_3.index t = ![0, 0] ∧ win0_4.index t = ![(grid0.coords t 0).val, 0]
    ∧ win0_5.index t = ![0, 0] ∧ win0_6.index t = ![(grid0.coords t 0).val, 0] :=
  (by decide +kernel : ∀ t : Fin grid0.N, _)

theorem coord (t : Fin cfg0.N) : (grid0.coords t 0).val = t.val := (by decide +kernel : ∀ t : Fin grid0.N, (grid0.coords t 0).val = t.val) t

/-! ## The arrays -/

section Arrays

variable (x y : FVec Ideal S8192x1024 .f32) (g : FVec Ideal S1x1024 .f32)

/-- The rows' gradients. -/
def dxs : FVec Ideal S8192x1024 .f32 := fun i => NormSpec.dx (fun k => x (ix2 (i 0) k)) (fun k => g (ix2 0 k))
  (LossSpec.ct (fun k => x (ix2 (i 0) k)) (fun k => g (ix2 0 k)) (fun k => y (ix2 (i 0) k))) (i 1)

/-- What one row adds to the gain's gradient. -/
def dgRow (r : Fin 8192) (j : Fin 1024) : EReal := NormSpec.dg (fun k => x (ix2 r k))
  (LossSpec.ct (fun k => x (ix2 r k)) (fun k => g (ix2 0 k)) (fun k => y (ix2 r k))) j

/-- One row's loss, twice. -/
def lossRow (r : Fin 8192) : EReal :=
  LossSpec.row (fun k => x (ix2 r k)) (fun k => g (ix2 0 k)) (fun k => y (ix2 r k))

end Arrays

variable (m : (ℓ : Loc nD τ sig) → Buf (Elt Ideal) ℓ)

/-- Row `y` of the block of point `t`. -/
abbrev rowAt (t : Fin cfg0.N) (k : Fin 512) : Fin 8192 := ⟨t.val * 512 + k, by have := t.isLt; change (t : ℕ) < 16 at *; omega⟩

/-- What either kind of grid point leaves of the rows' gradients. -/
theorem point4 (c : Dev nD) (t : Fin cfg0.N) (y : S512x1024.Idx) : (outsAt0 m c t.val t.isLt).2.1 y
    = dxs (V m c main_arg0) (V m c main_arg2) (V m c main_v0) (ix2 (rowAt t (y 0)) (y 1)) := by
  idx_vars y
  by_cases h : t.val % 16 = 0
  on_goal 1 => rw [outsAt0_A m c t h]
  on_goal 2 => rw [outsAt0_B m c t h]
  all_goals
    frame_out
    refine (dx_at _ _ _ y0 y1).trans ?_
    unfold dxs NormSpec.dx NormSpec.thru LossSpec.ct LossSpec.err NormSpec.rs NormSpec.ms
    pointwise []
    blk_point [iblk, idx t, coord t]

/-- The rounded copy holds the same numbers. -/
theorem point6 (c : Dev nD) (t : Fin cfg0.N) (y : S512x1024.Idx) :
    (outsAt0 m c t.val t.isLt).2.2.2 y = (outsAt0 m c t.val t.isLt).2.1 y := by
  by_cases h : t.val % 16 = 0
  on_goal 1 => rw [outsAt0_A m c t h]
  on_goal 2 => rw [outsAt0_B m c t h]
  all_goals
    frame_out
    pointwise [k0_pay1]

theorem final4 (c : Dev nD) : (dats m 0 c).arrAt 4 (cfgs 0).N = dxs (V m c main_arg0) (V m c main_arg2) (V m c main_v0) := by
  refine (dats m 0 c).arrAt_eq_of_covers 4 _ (by decide +kernel) fun t _ y => ?_
  blk_simp
  rw [after0_4]
  refine (point4 m c t y).trans ?_
  generalize dxs (V m c main_arg0) (V m c main_arg2) (V m c main_v0) = f
  blk_point [idx t, coord t]

theorem final6 (c : Dev nD) : (dats m 0 c).arrAt 6 (cfgs 0).N = dxs (V m c main_arg0) (V m c main_arg2) (V m c main_v0) := by
  refine (dats m 0 c).arrAt_eq_of_covers 6 _ (by decide +kernel) fun t _ y => ?_
  blk_simp
  rw [after0_6]
  refine (point6 m c t y).trans ((point4 m c t y).trans ?_)
  generalize dxs (V m c main_arg0) (V m c main_arg2) (V m c main_v0) = f
  blk_point [idx t, coord t]

/-! ## The sums over the rows -/

/-- What point `t` adds to the gain's gradient. -/
def part (c : Dev nD) (t : Fin cfg0.N) : FVec Ideal S1x1024 .f32 := fun y =>
  ∑ k : Fin 512, dgRow (V m c main_arg0) (V m c main_arg2) (V m c main_v0) (rowAt t k) (y 1)

/-- What point `t` adds to the loss. -/
def lossPart (c : Dev nD) (t : Fin cfg0.N) : FVec Ideal S1x1 .f32 := fun _ => Ideal.ofBits .f32 0x3F000000#32 *
  ∑ k : Fin 512, lossRow (V m c main_arg0) (V m c main_arg2) (V m c main_v0) (rowAt t k)

theorem zeros_at (j : Fin 1024) : k0_pay2 (F := Ideal) (ix2 0 j) = 0 := by
  pointwise [k0_pay2]

theorem zero_at : k0_pay3 (F := Ideal) (ix2 0 0) = 0 := by
  pointwise [k0_pay3]

theorem add_at (p a : FVec Ideal S1x1024 .f32) (j : Fin 1024) :
    k0_pay4 (F := Ideal) p a (ix2 0 j) = a (ix2 0 j) + p (ix2 0 j) := by
  pointwise [k0_pay4]

/-- The first point starts the gain's sum. -/
theorem stepA (c : Dev nD) (t : Fin cfg0.N) (h : t.val % 16 = 0) (y : S1x1024.Idx) :
    (outsAt0 m c t.val t.isLt).2.2.1 y = 0 + part m c t y := by
  idx_vars y
  obtain rfl : y0 = 0 := Subsingleton.elim _ _
  rw [outsAt0_A m c t h]
  frame_out
  refine (add_at _ _ y1).trans ?_
  rw [zeros_at, dg_at]
  unfold part dgRow NormSpec.dg LossSpec.ct LossSpec.err NormSpec.rs NormSpec.ms
  pointwise []
  blk_point [iblk, idx t, coord t]

/-- Every other point adds to it. -/
theorem stepB (c : Dev nD) (t : Fin cfg0.N) (h : ¬ t.val % 16 = 0) (y : S1x1024.Idx) :
    (outsAt0 m c t.val t.isLt).2.2.1 y
      = (outsAt0 m c (t.val - 1) (Nat.lt_of_le_of_lt (Nat.sub_le _ _) t.isLt)).2.2.1 y + part m c t y := by
  idx_vars y
  obtain rfl : y0 = 0 := Subsingleton.elim _ _
  rw [outsAt0_B m c t h]
  frame_out
  refine (add_at _ _ y1).trans ?_
  rw [dg_at]
  refine congrArg (_ + ·) ?_
  unfold part dgRow NormSpec.dg LossSpec.ct LossSpec.err NormSpec.rs NormSpec.ms
  pointwise []
  blk_point [iblk, idx t, coord t]

/-- The first point starts the loss. -/
theorem lossA (c : Dev nD) (t : Fin cfg0.N) (h : t.val % 16 = 0) (y : S1x1.Idx) :
    (outsAt0 m c t.val t.isLt).1 y = 0 + lossPart m c t y := by
  idx_vars y
  obtain rfl : y0 = 0 := Subsingleton.elim _ _
  obtain rfl : y1 = 0 := Subsingleton.elim _ _
  rw [outsAt0_A m c t h]
  frame_out
  refine (loss_at _ _).trans ?_
  rw [zero_at]
  simp only [err_at]
  unfold lossPart lossRow LossSpec.row LossSpec.err NormSpec.rs NormSpec.ms
  pointwise []
  blk_point [iblk, idx t, coord t]

/-- Every other point adds to it. -/
theorem lossB (c : Dev nD) (t : Fin cfg0.N) (h : ¬ t.val % 16 = 0) (y : S1x1.Idx) :
    (outsAt0 m c t.val t.isLt).1 y
      = (outsAt0 m c (t.val - 1) (Nat.lt_of_le_of_lt (Nat.sub_le _ _) t.isLt)).1 y + lossPart m c t y := by
  idx_vars y
  obtain rfl : y0 = 0 := Subsingleton.elim _ _
  obtain rfl : y1 = 0 := Subsingleton.elim _ _
  rw [outsAt0_B m c t h]
  frame_out
  refine (loss_at _ _).trans ?_
  refine congrArg (_ + ·) ?_
  simp only [err_at]
  unfold lossPart lossRow LossSpec.row LossSpec.err NormSpec.rs NormSpec.ms
  pointwise []
  blk_point [iblk, idx t, coord t]

theorem final5 (c : Dev nD) : (dats m 0 c).arrAt 5 (cfgs 0).N
    = fun i : S1x1024.Idx => ∑ r : Fin 8192, dgRow (V m c main_arg0) (V m c main_arg2) (V m c main_v0) r (i 1) := by
  refine (dats m 0 c).arrAt_eq_of_after_last 5 t0_15 (by decide +kernel) _ fun j => ?_
  blk_simp
  rw [after0_5, Pipeline.eq_sum_fin_of_reset_step_apply_last (fun n h => (outsAt0 m c n h).2.2.1) 16 (fun _ => 0) (part m c)
    (fun t h j => stepA m c t h j) (fun t h j => stepB m c t h j) (le_of_eq N_0) t0_15 rfl j, zero_add]
  exact Fin.sum_mul_add_congr fun t k hl => rfl

theorem final3 (c : Dev nD) : (dats m 0 c).arrAt 3 (cfgs 0).N = fun _ : S1x1.Idx => Ideal.ofBits .f32 0x3F000000#32 *
    ∑ r : Fin 8192, lossRow (V m c main_arg0) (V m c main_arg2) (V m c main_v0) r := by
  refine (dats m 0 c).arrAt_eq_of_after_last 3 t0_15 (by decide +kernel) _ fun j => ?_
  blk_simp
  rw [after0_3, Pipeline.eq_sum_fin_of_reset_step_apply_last (fun n h => (outsAt0 m c n h).1) 16 (fun _ => 0) (lossPart m c)
    (fun t h j => lossA m c t h j) (fun t h j => lossB m c t h j) (le_of_eq N_0) t0_15 rfl j, zero_add]
  refine (LossSpec.half_sum _ fun t => Finset.sum_nonneg fun k _ => LossSpec.row_nonneg _ _ _).trans (congrArg _ ?_)
  exact Fin.sum_mul_add_congr fun t k hl => rfl

/-! ## What the call is handed -/

theorem V_gain (c : Dev nD) : V m c main_v0 = shapeCast S1x1024 (m ((c : Thread nD τ).loc main_arg1)) shapeCasts_S1024_S1x1024 := by
  unfold V; after_results; try rfl

theorem V_args (c : Dev nD) : V m c main_arg0 = m ((c : Thread nD τ).loc main_arg0)
    ∧ V m c main_arg2 = m ((c : Thread nD τ).loc main_arg2) := by
  refine ⟨?_, ?_⟩ <;> unfold V <;> after_results

theorem gain_row (g : FVec Ideal S1024 .f32) :
    (fun k => shapeCast S1x1024 g shapeCasts_S1024_S1x1024 (ix2 (0 : Fin 1) k)) = fun k => g (ix1 k) := by
  funext k; pointwise []

end Cert.LossHeadIdeal.Value

end
-- ==== Proof.LossHeadRef.lean ====
/- What the reference of the loss computes. -/
module

public import proofs.«01_k».proof.Proof.Gen.LossHeadRefIdeal.Run
public import proofs.«01_k».proof.Proof.Gen.LossHeadRefIdeal.Read
public import proofs.«01_k».proof.Proof.LossSpec
public import Idealize.ShloMosaic.Lib.Pointwise

@[expose] public section

set_option maxRecDepth 16384

noncomputable section

namespace Cert.LossHeadRefIdeal.Read

open Cert.LossHeadRefIdeal Cert.LossHeadRefIdeal.Gen Idealize.ShloMosaic Idealize.ShloMosaic.TcCoe Idealize.SL.Sem
open Cert

variable (x : FVec Ideal S8192x1024 .f32) (g : FVec Ideal S1024 .f32) (y : FVec Ideal S8192x1024 .f32)

theorem ms_at (r : Fin 8192) (o : Fin 1) : val_main_v6 (F := Ideal) x (ix2 r o) = NormSpec.ms (fun k => x (ix2 r k)) := by
  pointwise [val_main_v6, val_main_v5, val_main_v4, val_main_v3, val_main_v2, val_main_v1, val_main_v0, val_main_cst,
    val_main_cst_0, val_main_cst_1, NormSpec.ms]

theorem rs_at (r : Fin 8192) (o : Fin 1) : val_main_v7 (F := Ideal) x (ix2 r o) = NormSpec.rs (fun k => x (ix2 r k)) := by
  pointwise [val_main_v7, NormSpec.rs, ms_at]

theorem err_at (r : Fin 8192) (j : Fin 1024) : val_main_v16 (F := Ideal) x g y (ix2 r j)
    = LossSpec.err (fun k => x (ix2 r k)) (fun k => g (ix1 k)) (fun k => y (ix2 r k)) j := by
  pointwise [val_main_v16, val_main_v15, val_main_v14, val_main_v13, val_main_v12, val_main_v11, rs_at, LossSpec.err]

theorem ct_at (r : Fin 8192) (j : Fin 1024) : val_main_v30 (F := Ideal) x g y (ix2 r j)
    = LossSpec.ct (fun k => x (ix2 r k)) (fun k => g (ix1 k)) (fun k => y (ix2 r k)) j := by
  refine Eq.trans ?_ (LossSpec.ct_eq _)
  pointwise [val_main_v30, val_main_v29, val_main_v28, val_main_v27, val_main_v26, val_main_v25, val_main_v19,
    val_main_v18, val_main_cst_3, val_main_cst_8, val_main_cst_9, val_main_cst_10, err_at]

/-- The loss. -/
theorem loss_at : val_main_v51 (F := Ideal) x g y (ix2 0 0) = Ideal.ofBits .f32 0x3F000000#32
    * ∑ r : Fin 8192, LossSpec.row (fun k => x (ix2 r k)) (fun k => g (ix1 k)) (fun k => y (ix2 r k)) := by
  pointwise [val_main_v51, val_main_v24, val_main_v23, val_main_v22, val_main_v21, val_main_v20, val_main_v17,
    val_main_cst_4, val_main_cst_5, val_main_cst_6, val_main_cst_7, err_at, LossSpec.row]

/-- The rows' gradients. -/
theorem dx_at (r : Fin 8192) (j : Fin 1024) : val_main_v50 (F := Ideal) x g y (ix2 r j)
    = NormSpec.dx (fun k => x (ix2 r k)) (fun k => g (ix1 k))
        (LossSpec.ct (fun k => x (ix2 r k)) (fun k => g (ix1 k)) (fun k => y (ix2 r k))) j := by
  pointwise [val_main_v50, val_main_v49, val_main_v48, val_main_v47, val_main_v46, val_main_v45, val_main_v44, val_main_v43,
    val_main_v42, val_main_v41, val_main_v40, val_main_v39, val_main_v38, val_main_v37, val_main_v35, val_main_v34,
    val_main_v13, val_main_v10, val_main_v9, val_main_v8, val_main_cst_2, val_main_cst_13, val_main_cst_14, val_main_cst_15,
    ms_at, rs_at, ct_at, NormSpec.dx, NormSpec.thru, Fin.sum_univ_one]

/-- The gain's gradient. -/
theorem dg_at (j : Fin 1024) : val_main_v52 (F := Ideal) x g y (ix2 0 j) = ∑ r : Fin 8192, NormSpec.dg (fun k => x (ix2 r k))
    (LossSpec.ct (fun k => x (ix2 r k)) (fun k => g (ix1 k)) (fun k => y (ix2 r k))) j := by
  pointwise [val_main_v52, val_main_v36, val_main_v33, val_main_v32, val_main_v31, val_main_v12, val_main_v11,
    val_main_cst_11, val_main_cst_12, rs_at, ct_at, NormSpec.dg, Fin.sum_univ_one]

/-- The last result is the rows' gradients, rounded. -/
theorem copy_at (r : Fin 8192) (j : Fin 1024) :
    val_main_v53 (F := Ideal) x g y (ix2 r j) = val_main_v50 (F := Ideal) x g y (ix2 r j) := by
  pointwise [val_main_v53]

end Cert.LossHeadRefIdeal.Read

end
-- ==== Proof.LossHead.lean ====
/- The claims about the loss and its norm's gradient. -/
module

public import proofs.«01_k».proof.Defs
public import proofs.«01_k».proof.Proof.Gen.LossHead.Frame
public import proofs.«01_k».proof.Proof.LossHeadKernel
public import proofs.«01_k».proof.Proof.LossHeadRef
public import Idealize.ShloMosaic.Lib.Claim

@[expose] public section

set_option maxRecDepth 16384

noncomputable section

namespace Cert.Proof.LossHead

open Idealize.ShloMosaic Idealize.ShloMosaic.TcCoe Idealize.SL.Sem

theorem frame : Cert.quiescent_LossHead := fun m ρ _ => Cert.LossHead.Gen.frame m ρ
theorem frame_ideal : Cert.quiescent_LossHeadIdeal := fun m ρ _ => Cert.LossHeadIdeal.Gen.frame m ρ
theorem preserves : Cert.preserves_LossHead_LossHeadIdeal := trivial

theorem frame_ref : Cert.quiescent_LossHeadRefIdeal := fun m ρ _ =>
  (θ_run Cert.LossHeadRefIdeal.defs _ _).mono
    (fun r h => ⟨fun c => (h c).2.2.2.2, Idealize.ShloMosaic.sem_eq_zero_of_no_sems (by decide) r.2⟩)
    (Cert.LossHeadRefIdeal.Value.run m ρ)

theorem algebraic : Cert.algebraic_LossHeadIdeal_LossHeadRefIdeal := by
  pair_intro
  · run_from Cert.LossHeadIdeal.Gen.run_main m g
  · run_from Cert.LossHeadRefIdeal.Value.run m' g'
    all_goals obtain ⟨hx, hg, hy⟩ := hagree c
    · rw [Cert.LossHeadRefIdeal.Read.val_main_v51_eq, Cert.LossHeadIdeal.Value.final3, (Cert.LossHeadIdeal.Value.V_args m c).1,
        (Cert.LossHeadIdeal.Value.V_args m c).2, Cert.LossHeadIdeal.Value.V_gain]
      funext i
      idx_vars i
      obtain rfl : i0 = 0 := Subsingleton.elim _ _
      obtain rfl : i1 = 0 := Subsingleton.elim _ _
      refine (Cert.LossHeadRefIdeal.Read.loss_at _ _ _).trans ?_
      unfold Cert.LossHeadIdeal.Value.lossRow
      rw [Cert.LossHeadIdeal.Value.gain_row]
      try simp only [hx, hg, hy]
    · rw [Cert.LossHeadRefIdeal.Read.val_main_v50_eq, Cert.LossHeadIdeal.Value.final4, (Cert.LossHeadIdeal.Value.V_args m c).1,
        (Cert.LossHeadIdeal.Value.V_args m c).2, Cert.LossHeadIdeal.Value.V_gain]
      funext i
      idx_vars i
      refine (Cert.LossHeadRefIdeal.Read.dx_at _ _ _ i0 i1).trans ?_
      unfold Cert.LossHeadIdeal.Value.dxs
      rw [Cert.LossHeadIdeal.Value.gain_row]
      try simp only [hx, hg, hy]
      rfl
    · rw [Cert.LossHeadRefIdeal.Read.val_main_v52_eq, Cert.LossHeadIdeal.Value.final5, (Cert.LossHeadIdeal.Value.V_args m c).1,
        (Cert.LossHeadIdeal.Value.V_args m c).2, Cert.LossHeadIdeal.Value.V_gain]
      funext i
      idx_vars i
      obtain rfl : i0 = 0 := Subsingleton.elim _ _
      refine (Cert.LossHeadRefIdeal.Read.dg_at _ _ _ i1).trans ?_
      unfold Cert.LossHeadIdeal.Value.dgRow
      rw [Cert.LossHeadIdeal.Value.gain_row]
      try simp only [hx, hg, hy]
    · rw [Cert.LossHeadRefIdeal.Read.val_main_v53_eq, Cert.LossHeadIdeal.Value.final6, (Cert.LossHeadIdeal.Value.V_args m c).1,
        (Cert.LossHeadIdeal.Value.V_args m c).2, Cert.LossHeadIdeal.Value.V_gain]
      funext i
      idx_vars i
      refine (Cert.LossHeadRefIdeal.Read.copy_at _ _ _ i0 i1).trans ((Cert.LossHeadRefIdeal.Read.dx_at _ _ _ i0 i1).trans ?_)
      unfold Cert.LossHeadIdeal.Value.dxs
      rw [Cert.LossHeadIdeal.Value.gain_row]
      try simp only [hx, hg, hy]
      rfl

end Cert.Proof.LossHead

end
-- ==== Proof.GateSpec.lean ====
/- The gradient of the gated spatial mixing of one chunk of 128 rows and one group of 128 channels, over the extended
   reals. No program is named here: the kernel and the reference are each shown equal to these functions. -/
module

public import Idealize.ShloMosaic.PureOps.Ideal.Laws

@[expose] public section

noncomputable section

namespace Cert.GateSpec

open Idealize.ShloMosaic

/-! ## The activation -/

/-- The hyperbolic tangent inside the activation. -/
def th (z : EReal) : EReal :=
  Ideal.tanh (Ideal.ofBits .f32 0x3F4C422A#32 * (z + Ideal.ofBits .f32 0x3D372713#32 * (z * z * z)))

/-- The activation. -/
def gelu (z : EReal) : EReal := z * (Ideal.ofBits .f32 0x3F000000#32 * (1 + th z))

/-- The part of the activation's gradient that comes through the argument of the tangent. -/
def inner (z dy : EReal) : EReal :=
  Ideal.ofBits .f32 0x3F4C422A#32 * (Ideal.ofBits .f32 0x3F000000#32 * (z * dy) * ((1 + th z) * (1 - th z)))

/-- The gradient of the activation at `z`, where `dy` is the gradient of its result. -/
def dgelu (z dy : EReal) : EReal :=
  dy * (Ideal.ofBits .f32 0x3F000000#32 * (1 + th z)) + inner z dy
    + Ideal.ofBits .f32 0x3D372713#32 * inner z dy * (Ideal.ofBits .f32 0x40400000#32 * (z * z))

/-- The single bit pattern of three. -/
theorem ofBits_three : Ideal.ofBits .f32 0x40400000#32 = 3 := by
  have : (3 : EReal) = ((3 : ℝ) : EReal) := rfl
  rw [this]
  simp [Ideal.ofBits, Ideal.ieee, -EReal.coe_mul]
  norm_num

theorem three_mul (y : EReal) : 3 * y = y + y + y := by
  have h : (3 : EReal) = 1 + 1 + 1 := by norm_num
  rw [h, EReal.right_distrib_of_nonneg (by norm_num) (by norm_num), EReal.right_distrib_of_nonneg (by norm_num) (by norm_num), one_mul]

/-- The same gradient where the cube's is taken factor by factor. -/
theorem dgelu_steps (z dy : EReal) :
    Ideal.ofBits .f32 0x3F4C422A#32 * (Ideal.ofBits .f32 0x3F000000#32 * z * dy * ((1 + th z) * (1 - th z)))
      + z * z * (Ideal.ofBits .f32 0x3D372713#32 * (Ideal.ofBits .f32 0x3F4C422A#32
          * (Ideal.ofBits .f32 0x3F000000#32 * z * dy * ((1 + th z) * (1 - th z)))))
      + z * (Ideal.ofBits .f32 0x3D372713#32 * (Ideal.ofBits .f32 0x3F4C422A#32
          * (Ideal.ofBits .f32 0x3F000000#32 * z * dy * ((1 + th z) * (1 - th z)))) * z)
      + Ideal.ofBits .f32 0x3D372713#32 * (Ideal.ofBits .f32 0x3F4C422A#32
          * (Ideal.ofBits .f32 0x3F000000#32 * z * dy * ((1 + th z) * (1 - th z)))) * z * z
      + Ideal.ofBits .f32 0x3F000000#32 * (dy * (1 + th z)) = dgelu z dy := by
  have hp : Ideal.ofBits .f32 0x3F4C422A#32 * (Ideal.ofBits .f32 0x3F000000#32 * z * dy * ((1 + th z) * (1 - th z))) = inner z dy := by
    rw [inner, mul_assoc (Ideal.ofBits .f32 0x3F000000#32)]
  rw [hp, dgelu, ofBits_three]
  generalize inner z dy = p, Ideal.ofBits .f32 0x3D372713#32 = a, Ideal.ofBits .f32 0x3F000000#32 = h, th z = t
  have h1 : z * z * (a * p) = a * p * z * z := by rw [mul_comm, mul_assoc (a * p)]
  have h2 : z * (a * p * z) = a * p * z * z := by rw [mul_comm]
  have h3 : a * p * (3 * (z * z)) = a * p * z * z + a * p * z * z + a * p * z * z := by
    rw [mul_left_comm, three_mul, mul_assoc (a * p)]
  rw [h1, h2, h3, mul_left_comm h]
  abel

/-! ## The normalisation of one row -/

/-- The mean of a row. -/
def mean (v : Fin 128 → EReal) : EReal := Ideal.div (∑ k : Fin 128, v k) (Ideal.ofBits .f32 0x43000000#32)

/-- The row less its mean. -/
def cen (v : Fin 128 → EReal) (j : Fin 128) : EReal := v j - mean v

/-- The variance of the row plus the small constant. -/
def var (v : Fin 128 → EReal) : EReal :=
  Ideal.div (∑ k : Fin 128, cen v k * cen v k) (Ideal.ofBits .f32 0x43000000#32) + Ideal.ofBits .f32 0x358637BD#32

/-- The reciprocal root of the variance. -/
def rs (v : Fin 128 → EReal) : EReal := Ideal.rsqrt (var v)

/-- The normalised row. -/
def nrm (v : Fin 128 → EReal) (j : Fin 128) : EReal := cen v j * rs v

/-- What comes back through the variance, where `e` is the gradient of the normalised row. -/
def thru (v e : Fin 128 → EReal) : EReal :=
  Ideal.div ((∑ k : Fin 128, cen v k * e k) * (Ideal.ofBits .f32 0xBF000000#32 * Ideal.div (rs v) (var v)))
    (Ideal.ofBits .f32 0x43000000#32)

/-- The gradient of the normalisation with respect to its row. -/
def dnrm (v e : Fin 128 → EReal) (j : Fin 128) : EReal :=
  e j * rs v + thru v e * (Ideal.ofBits .f32 0x40000000#32 * cen v j)
    + Ideal.div ((∑ k : Fin 128, -(e k * rs v))
        + ∑ k : Fin 128, -(thru v e * (Ideal.ofBits .f32 0x40000000#32 * cen v k))) (Ideal.ofBits .f32 0x43000000#32)

/-! ## One chunk and one group -/

section Group

variable (zu zv w : Fin 128 → Fin 128 → EReal) (b lg lb : Fin 128 → EReal) (d : Fin 128 → Fin 128 → EReal)

/-- The activated half of the gate that is mixed along the chunk. -/
def act (z : Fin 128 → Fin 128 → EReal) (s j : Fin 128) : EReal := gelu (z s j)

/-- The mixing weights on and below the diagonal. -/
def low (w : Fin 128 → Fin 128 → EReal) (i s : Fin 128) : EReal := if s.val ≤ i.val then w i s else 0

/-- The rows that are mixed. -/
def vn (s j : Fin 128) : EReal := nrm (act zv s) j * lg j + lb j

/-- The mixed rows. -/
def mixed (i j : Fin 128) : EReal := (∑ s : Fin 128, vn zv lg lb s j * low w i s) + b i

/-- The gradient of the mixed rows. -/
def dmixed (i j : Fin 128) : EReal := gelu (zu i j) * d i j

/-- The gradient of the normalised and scaled rows. -/
def dvn (s j : Fin 128) : EReal := ∑ i : Fin 128, dmixed zu d i j * low w i s

/-- What the chunk adds to the gradient of the row bias. -/
def db (i : Fin 128) : EReal := ∑ j : Fin 128, dmixed zu d i j

/-- What the chunk adds to the gradient of the mixing weights. -/
def dw (i s : Fin 128) : EReal :=
  if s.val ≤ i.val then ∑ j : Fin 128, dmixed zu d i j * vn zv lg lb s j else 0

/-- What the chunk adds to the gradient of the normalisation's shift. -/
def dlb (j : Fin 128) : EReal := ∑ s : Fin 128, dvn zu w d s j

/-- What the chunk adds to the gradient of the normalisation's gain. -/
def dlg (j : Fin 128) : EReal := ∑ s : Fin 128, nrm (act zv s) j * dvn zu w d s j

/-- The gradient with respect to the gating half. -/
def dzu (i j : Fin 128) : EReal := dgelu (zu i j) (d i j * mixed zv w b lg lb i j)

/-- The gradient with respect to the half that is mixed. -/
def dzv (s j : Fin 128) : EReal := dgelu (zv s j) (dnrm (act zv s) (fun k => dvn zu w d s k * lg k) j)

end Group

end Cert.GateSpec

end
-- ==== Proof.MixBGate.lean ====
/- The gating half of the gated mixer's gradient kernel: one chunk and one group of it, read off the kernel's own
   arithmetic. -/
module

public import proofs.«01_k».proof.Proof.Gen.MixBIdeal.Skeleton
public import proofs.«01_k».proof.Proof.GateSpec
public import Idealize.ShloMosaic.Lib.Pipeline.ValueKit
public import Idealize.ShloMosaic.Lib.Pointwise
public import Idealize.ShloMosaic.Lib.Claim

@[expose] public section

set_option maxRecDepth 16384

noncomputable section

namespace Cert.MixBIdeal.Value

open Cert.MixBIdeal Cert.MixBIdeal.Gen Idealize.ShloMosaic Idealize.ShloMosaic.TcCoe

/-- One number of a square block. -/
abbrev at2 (x : FVec Ideal S128x128 .f32) (i j : Fin 128) : EReal := x (ix2 i j)

/-- One number of a single row. -/
abbrev atRow (x : FVec Ideal S1x128 .f32) (j : Fin 128) : EReal := x (ix2 0 j)

/-- One number of a single column. -/
abbrev atCol (x : FVec Ideal S128x1 .f32) (i : Fin 128) : EReal := x (ix2 i 0)

/-- A choice by the order of two places of a row. -/
theorem select_sge (i s : Fin 128) (a b : EReal) :
    Scalar.select (IntOp.cmpi .sge (BitVec.ofNat 32 i.val) (BitVec.ofNat 32 s.val)) a b = if s.val ≤ i.val then a else b := by
  have h : ∀ i s : Fin 128, IntOp.cmpi .sge (BitVec.ofNat 32 i.val) (BitVec.ofNat 32 s.val)
      = if s.val ≤ i.val then 1#1 else 0#1 := by decide +kernel
  rw [h]
  split <;> rfl

section Group

variable (zu zv w d : FVec Ideal S128x128 .f32) (b : FVec Ideal S128x1 .f32) (lg lb : FVec Ideal S1x128 .f32)

theorem th_at (i j : Fin 128) : k0_pay67 (F := Ideal) zu (ix2 i j) = GateSpec.th (at2 zu i j) := by
  pointwise [k0_pay67, k0_pay66, GateSpec.th]

theorem gelu_at (i j : Fin 128) : k0_pay71 (k0_pay65 zu) (k0_pay67 zu) (ix2 i j) = GateSpec.gelu (at2 zu i j) := by
  pointwise [k0_pay71, k0_pay65, k0_pay70, GateSpec.gelu, th_at]
  rw [mul_comm (Ideal.ofBits .f32 _), mul_assoc]

theorem th'_at (i j : Fin 128) : k0_pay74 (F := Ideal) zv (ix2 i j) = GateSpec.th (at2 zv i j) := th_at zv i j

theorem act_at (i j : Fin 128) : k0_pay77 (F := Ideal) zv (ix2 i j) = GateSpec.act (at2 zv) i j := gelu_at zv i j

theorem mean_at (i : Fin 128) : k0_pay78 (F := Ideal) zv (ix2 i 0) = GateSpec.mean (GateSpec.act (at2 zv) i) := by
  pointwise [k0_pay78, GateSpec.mean, act_at]

theorem cen_at (i j : Fin 128) : k0_pay79 (F := Ideal) zv (ix2 i j) = GateSpec.cen (GateSpec.act (at2 zv) i) j := by
  pointwise [k0_pay79, GateSpec.cen, act_at, mean_at]

theorem cen'_at (i j : Fin 128) : k0_pay81 (F := Ideal) zv (ix2 i j) = GateSpec.cen (GateSpec.act (at2 zv) i) j := cen_at zv i j

theorem var_at (i : Fin 128) : k0_pay82 (F := Ideal) zv (ix2 i 0) = GateSpec.var (GateSpec.act (at2 zv) i) := by
  pointwise [k0_pay82, GateSpec.var, cen_at]

theorem rs_at (i : Fin 128) : k0_pay83 (F := Ideal) zv (ix2 i 0) = GateSpec.rs (GateSpec.act (at2 zv) i) := by
  pointwise [k0_pay83, GateSpec.rs, var_at]

theorem nrm_at (i j : Fin 128) : k0_pay86 (k0_pay81 zv) (k0_pay83 zv) (ix2 i j) = GateSpec.nrm (GateSpec.act (at2 zv) i) j := by
  pointwise [k0_pay86, GateSpec.nrm, cen'_at, rs_at]

theorem low_at (i s : Fin 128) : k0_pay87 k0_pay7 w (ix2 i s) = GateSpec.low (at2 w) i s := by
  pointwise [k0_pay87, k0_pay7, GateSpec.low]
  exact select_sge i s _ _

/-! The same five numbers of the gating half, and what they add to the gradients of the parameters. -/

theorem vn_at (s j : Fin 128) : k0_pay88 lg lb (k0_pay81 zv) (k0_pay83 zv) (ix2 s j)
    = GateSpec.vn (at2 zv) (atRow lg) (atRow lb) s j := by
  pointwise [k0_pay88, GateSpec.vn, nrm_at]

theorem dmixed_at (i j : Fin 128) : k0_pay89 d (k0_pay71 (k0_pay65 zu) (k0_pay67 zu)) (ix2 i j) = GateSpec.dmixed (at2 zu) (at2 d) i j := by
  pointwise [k0_pay89, GateSpec.dmixed, gelu_at]

theorem du_at (i j : Fin 128) : k0_pay90 k0_pay7 w b lg lb d (k0_pay81 zv) (k0_pay83 zv) (ix2 i j)
    = at2 d i j * GateSpec.mixed (at2 zv) (at2 w) (atCol b) (atRow lg) (atRow lb) i j := by
  pointwise [k0_pay90, GateSpec.mixed, low_at, vn_at]
  simp only [mul_comm]

theorem db_at (i : Fin 128) : k0_pay91 d (k0_pay71 (k0_pay65 zu) (k0_pay67 zu)) (ix2 i 0) = GateSpec.db (at2 zu) (at2 d) i := by
  pointwise [k0_pay91, GateSpec.db, dmixed_at]

theorem dvn_at (s j : Fin 128) : k0_pay92 k0_pay7 w d (k0_pay71 (k0_pay65 zu) (k0_pay67 zu)) (ix2 s j) = GateSpec.dvn (at2 zu) (at2 w) (at2 d) s j := by
  pointwise [k0_pay92, GateSpec.dvn, low_at, dmixed_at]

theorem dw_at (i s : Fin 128) : k0_pay93 k0_pay7 lg lb d (k0_pay71 (k0_pay65 zu) (k0_pay67 zu)) (k0_pay81 zv) (k0_pay83 zv) (ix2 i s)
    = GateSpec.dw (at2 zu) (at2 zv) (atRow lg) (atRow lb) (at2 d) i s := by
  pointwise [k0_pay93, k0_pay7, GateSpec.dw, dmixed_at, vn_at]
  exact select_sge i s _ _

theorem dlb_at (j : Fin 128) : k0_pay94 k0_pay7 w d (k0_pay71 (k0_pay65 zu) (k0_pay67 zu)) (ix2 0 j) = GateSpec.dlb (at2 zu) (at2 w) (at2 d) j := by
  pointwise [k0_pay94, GateSpec.dlb, dvn_at]

theorem dlg_at (j : Fin 128) : k0_pay95 k0_pay7 w d (k0_pay71 (k0_pay65 zu) (k0_pay67 zu)) (k0_pay81 zv) (k0_pay83 zv) (ix2 0 j)
    = GateSpec.dlg (at2 zu) (at2 zv) (at2 w) (at2 d) j := by
  pointwise [k0_pay95, GateSpec.dlg, dvn_at, nrm_at]

theorem ones_at (i j : Fin 128) : k0_pay69 (k0_pay67 zu) (k0_pay68 (F := Ideal)) (ix2 i j)
    = (1 + GateSpec.th (at2 zu i j)) * (1 - GateSpec.th (at2 zu i j)) := by
  pointwise [k0_pay69, k0_pay68, th_at]

theorem dzu_at (i j : Fin 128) :
    k0_pay101 zu (k0_pay65 zu) (k0_pay66 zu) (k0_pay69 (k0_pay67 zu) k0_pay68) (k0_pay70 (k0_pay67 zu))
      (k0_pay90 k0_pay7 w b lg lb d (k0_pay81 zv) (k0_pay83 zv)) (ix2 i j)
    = GateSpec.dzu (at2 zu) (at2 zv) (at2 w) (atCol b) (atRow lg) (atRow lb) (at2 d) i j := by
  pointwise [k0_pay101, k0_pay65, k0_pay66, k0_pay70, ones_at, th_at, du_at, GateSpec.dzu]
  exact GateSpec.dgelu_steps _ _

/-- The gradient of the normalised rows. -/
theorem e_at (s j : Fin 128) : k0_pay96 k0_pay7 w lg d (k0_pay71 (k0_pay65 zu) (k0_pay67 zu)) (ix2 s j)
    = GateSpec.dvn (at2 zu) (at2 w) (at2 d) s j * atRow lg j := by
  pointwise [k0_pay96, dvn_at]

theorem direct_at (s j : Fin 128) : k0_pay97 k0_pay7 w lg d (k0_pay71 (k0_pay65 zu) (k0_pay67 zu)) (k0_pay83 zv) (ix2 s j)
    = GateSpec.dvn (at2 zu) (at2 w) (at2 d) s j * atRow lg j * GateSpec.rs (GateSpec.act (at2 zv) s) := by
  pointwise [k0_pay97, e_at, rs_at]

theorem less_at (s : Fin 128) : k0_pay98 k0_pay7 w lg d (k0_pay71 (k0_pay65 zu) (k0_pay67 zu)) (k0_pay83 zv) (ix2 s 0)
    = ∑ j : Fin 128, -(GateSpec.dvn (at2 zu) (at2 w) (at2 d) s j * atRow lg j * GateSpec.rs (GateSpec.act (at2 zv) s)) := by
  pointwise [k0_pay98, direct_at, zero_sub]

theorem thru_at (s : Fin 128) : k0_pay99 k0_pay7 w lg d (k0_pay71 (k0_pay65 zu) (k0_pay67 zu)) (k0_pay81 zv) (k0_pay84 zv) k0_pay85 (ix1 s)
    = GateSpec.thru (GateSpec.act (at2 zv) s) (fun k => GateSpec.dvn (at2 zu) (at2 w) (at2 d) s k * atRow lg k) := by
  pointwise [k0_pay99, k0_pay84, k0_pay85, GateSpec.thru, Fin.sum_univ_one, cen'_at, rs_at, var_at, e_at]

theorem dzv_at (s j : Fin 128) :
    k0_pay100 zv (k0_pay72 zv) (k0_pay73 zv) (k0_pay75 zv) (k0_pay76 zv) (k0_pay80 zv)
      (k0_pay97 k0_pay7 w lg d (k0_pay71 (k0_pay65 zu) (k0_pay67 zu)) (k0_pay83 zv)) (k0_pay98 k0_pay7 w lg d (k0_pay71 (k0_pay65 zu) (k0_pay67 zu)) (k0_pay83 zv))
      (k0_pay99 k0_pay7 w lg d (k0_pay71 (k0_pay65 zu) (k0_pay67 zu)) (k0_pay81 zv) (k0_pay84 zv) k0_pay85) (ix2 s j)
    = GateSpec.dzv (at2 zu) (at2 zv) (at2 w) (atRow lg) (at2 d) s j := by
  pointwise [k0_pay100, k0_pay72, k0_pay73, k0_pay75, k0_pay76, k0_pay80, Fin.sum_univ_one, direct_at, less_at, thru_at,
    cen_at, zero_sub, GateSpec.dzv, GateSpec.dnrm, th'_at]
  exact GateSpec.dgelu_steps _ _

end Group

end Cert.MixBIdeal.Value

end
-- ==== Proof.MemSpec.lean ====
/- The gradient of the attention over a fixed memory of 256 rows, one query row of one head at a time, over the extended
   reals, and the two ways of writing it. No program is named here. -/
module

public import Idealize.ShloMosaic.PureOps.Ideal.Laws
public import Idealize.ShloMosaic.Lib.IdealHost
public import proofs.«01_k».proof.Proof.Reals

@[expose] public section

noncomputable section

namespace Cert.MemSpec

open Idealize.ShloMosaic Cert.Reals

section Row

variable (q d : Fin 64 → EReal) (k v : Fin 256 → Fin 64 → EReal)

/-- The scaled score of one row of the memory. -/
def score (m : Fin 256) : EReal := (∑ l : Fin 64, q l * k m l) * Ideal.ofBits .f32 0x3E000000#32

/-- The largest score. -/
def top : EReal := Finset.univ.fold max (⊥ : EReal) (score q k)

/-- The exponential of a score less the largest. -/
def ex (m : Fin 256) : EReal := Ideal.exp (score q k m - top q k)

/-- The sum of the exponentials. -/
def den : EReal := ∑ m : Fin 256, ex q k m

/-- The weight of one row of the memory. -/
def weight (m : Fin 256) : EReal := Ideal.div (ex q k m) (den q k)

/-- The gradient of a weight, where `d` is the gradient of the head's result. -/
def dweight (m : Fin 256) : EReal := ∑ l : Fin 64, d l * v m l

/-- The gradient of a score. -/
def dscore (m : Fin 256) : EReal :=
  (Ideal.div (dweight d v m) (den q k)
      + -(∑ n : Fin 256, dweight d v n * Ideal.div 1 (den q k * den q k) * ex q k n))
    * ex q k m * Ideal.ofBits .f32 0x3E000000#32

/-- The weight by way of the reciprocal of the sum. -/
def weight' (m : Fin 256) : EReal := ex q k m * Ideal.div 1 (den q k)

/-- The gradient of a score by way of the reciprocal of the sum. -/
def dscore' (m : Fin 256) : EReal :=
  (dweight d v m * Ideal.div 1 (den q k)
      + -((∑ n : Fin 256, ex q k n * dweight d v n) * Ideal.div 1 (den q k * den q k)))
    * ex q k m * Ideal.ofBits .f32 0x3E000000#32

end Row

/-! ## Real arguments: the two ways agree -/

theorem fold_real {ι : Type} (s : Finset ι) (hs : s.Nonempty) {f : ι → EReal} (h : ∀ i ∈ s, IsReal (f i)) :
    IsReal (s.fold max (⊥ : EReal) f) := by
  classical
  induction hs using Finset.Nonempty.cons_induction with
  | singleton a => rw [Finset.fold_singleton, max_bot_right]; exact h a (Finset.mem_singleton_self a)
  | cons a s ha hs ih =>
    rw [Finset.fold_cons]
    rcases max_choice (f a) (s.fold max (⊥ : EReal) f) with e | e <;> rw [e]
    · exact h a (Finset.mem_cons_self a s)
    · exact ih fun i hi => h i (Finset.mem_cons_of_mem hi)

/-- A finite product with a real number from 0 on goes into a sum. -/
theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.mpr hr) (EReal.coe_ne_top r)]

section Row

variable {q d : Fin 64 → EReal} {k v : Fin 256 → Fin 64 → EReal}

theorem eighth : Ideal.ofBits .f32 0x3E000000#32 = ((1 / 8 : ℝ) : EReal) := by
  simp [Ideal.ofBits, Ideal.ieee, -EReal.coe_mul]
  norm_num

theorem score_real (hq : ∀ l, IsReal (q l)) (hk : ∀ m l, IsReal (k m l)) (m : Fin 256) : IsReal (score q k m) := by
  rw [score, eighth]
  exact (IsReal.sum _ fun l _ => (hq l).mul (hk m l)).mul (IsReal.coe _)

/-- The exponentials are positive real numbers. -/
theorem ex_real (hq : ∀ l, IsReal (q l)) (hk : ∀ m l, IsReal (k m l)) (m : Fin 256) :
    ∃ r : ℝ, 0 < r ∧ ex q k m = (r : EReal) := by
  obtain ⟨r, hr⟩ := (score_real hq hk m).sub (fold_real Finset.univ ⟨0, Finset.mem_univ _⟩ fun n _ => score_real hq hk n)
  refine ⟨Real.exp r, Real.exp_pos r, ?_⟩
  rw [ex, top, hr, Ideal.exp_coe]

/-- Their sum is a positive real number. -/
theorem den_real (hq : ∀ l, IsReal (q l)) (hk : ∀ m l, IsReal (k m l)) : ∃ r : ℝ, 0 < r ∧ den q k = (r : EReal) := by
  choose f hf he using ex_real hq hk
  refine ⟨∑ m, f m, Finset.sum_pos (fun m _ => hf m) ⟨0, Finset.mem_univ _⟩, ?_⟩
  rw [den, coe_sum]
  exact Finset.sum_congr rfl fun m _ => he m

theorem weight_eq (hq : ∀ l, IsReal (q l)) (hk : ∀ m l, IsReal (k m l)) (m : Fin 256) : weight' q k m = weight q k m := by
  obtain ⟨r, hr, he⟩ := den_real hq hk
  rw [weight', weight, he]
  exact Ideal.mul_one_div (by simpa using hr.ne')

theorem dscore_eq (hq : ∀ l, IsReal (q l)) (hk : ∀ m l, IsReal (k m l)) (m : Fin 256) :
    dscore' q d k v m = dscore q d k v m := by
  obtain ⟨r, hr, he⟩ := den_real hq hk
  have h1 : Ideal.div 1 ((r : EReal) * (r : EReal)) = ((1 / (r * r) : ℝ) : EReal) := by
    rw [← EReal.coe_mul, ← EReal.coe_one, div_coe_coe _ (mul_pos hr hr).ne']
  rw [dscore', dscore, he, h1, sum_mul_real _ _ (by positivity)]
  congr 3
  · exact Ideal.mul_one_div (by simpa using hr.ne')
  · congr 1
    refine Finset.sum_congr rfl fun n _ => ?_
    rw [mul_comm (ex q k n), mul_right_comm]

end Row

/-! ## Two heads stacked

Two heads of 64 lanes lie side by side in 128 lanes. The stack of both has 256 rows: each head's 128 rows, with the
other head's lanes zero. -/

section Stack

/-- The row of a place in the stack. -/
def row (c : Fin 256) : Fin 128 := ⟨c.val % 128, by omega⟩

/-- The lane of a place in the stack's head. -/
def lane (c : Fin 256) (l : Fin 64) : Fin 128 := ⟨64 * (c.val / 128) + l.val, by omega⟩

/-- The place in the stack of row `r` of the head that lane `l` belongs to. -/
def place (l r : Fin 128) : Fin 256 := ⟨128 * (l.val / 64) + r.val, by omega⟩

/-- The stack of both heads. -/
def stack (x : Fin 128 → Fin 128 → EReal) (c : Fin 256) (l : Fin 128) : EReal :=
  if (c.val < 128 ↔ l.val < 64) then x (row c) l else 0

/-- The lanes of one head's row. -/
def head (x : Fin 128 → Fin 128 → EReal) (c : Fin 256) (l : Fin 64) : EReal := x (row c) (lane c l)

/-- The lanes of one head in every row of the memory. -/
def mem (x : Fin 256 → Fin 128 → EReal) (c : Fin 256) (m : Fin 256) (l : Fin 64) : EReal := x m (lane c l)

theorem sum_split (f : Fin 128 → EReal) :
    ∑ l : Fin 128, f l = ∑ l : Fin 64, f ⟨l.val, by omega⟩ + ∑ l : Fin 64, f ⟨64 + l.val, by omega⟩ :=
  Fin.sum_univ_add (a := 64) (b := 64) f

theorem sum_split_rows (f : Fin 256 → EReal) :
    ∑ l : Fin 256, f l = ∑ l : Fin 128, f ⟨l.val, by omega⟩ + ∑ l : Fin 128, f ⟨128 + l.val, by omega⟩ :=
  Fin.sum_univ_add (a := 128) (b := 128) f

/-- A sum over all lanes of the stack's row is one over the head's own. -/
theorem sum_stack_lanes (a : Fin 128 → EReal) (x : Fin 128 → Fin 128 → EReal) (c : Fin 256) :
    ∑ l : Fin 128, a l * stack x c l = ∑ l : Fin 64, a (lane c l) * head x c l := by
  rw [sum_split]
  by_cases h : c.val < 128
  · have h1 : ∑ l : Fin 64, a ⟨64 + l.val, by omega⟩ * stack x c ⟨64 + l.val, by omega⟩ = 0 :=
      Finset.sum_eq_zero fun l _ => by rw [stack, if_neg (by simp [h]), mul_zero]
    rw [h1, add_zero]
    refine Finset.sum_congr rfl fun l _ => ?_
    have e : lane c l = ⟨l.val, by omega⟩ := Fin.ext (by simp [lane]; omega)
    rw [stack, if_pos (by simp [h]), head, e]
  · have h1 : ∑ l : Fin 64, a ⟨l.val, by omega⟩ * stack x c ⟨l.val, by omega⟩ = 0 :=
      Finset.sum_eq_zero fun l _ => by rw [stack, if_neg (by simp [h]), mul_zero]
    rw [h1, zero_add]
    refine Finset.sum_congr rfl fun l _ => ?_
    have e : lane c l = ⟨64 + l.val, by omega⟩ := Fin.ext (by simp [lane]; omega)
    rw [stack, if_pos (by simp [h]), head, e]

/-- A sum over all places of the stack is one over the rows of the lane's head. -/
theorem sum_stack_rows (a : Fin 256 → EReal) (x : Fin 128 → Fin 128 → EReal) (l : Fin 128) :
    ∑ c : Fin 256, a c * stack x c l = ∑ r : Fin 128, a (place l r) * x r l := by
  rw [sum_split_rows]
  by_cases h : l.val < 64
  · have h1 : ∑ r : Fin 128, a ⟨128 + r.val, by omega⟩ * stack x ⟨128 + r.val, by omega⟩ l = 0 :=
      Finset.sum_eq_zero fun r _ => by rw [stack, if_neg (by simp [h]), mul_zero]
    rw [h1, add_zero]
    refine Finset.sum_congr rfl fun r _ => ?_
    have e : place l r = ⟨r.val, by omega⟩ := Fin.ext (by simp [place]; omega)
    have e' : row ⟨r.val, by omega⟩ = r := Fin.ext (by simp [row])
    rw [stack, if_pos (by simp [h]), e, e']
  · have h1 : ∑ r : Fin 128, a ⟨r.val, by omega⟩ * stack x ⟨r.val, by omega⟩ l = 0 :=
      Finset.sum_eq_zero fun r _ => by rw [stack, if_neg (by simp [h]), mul_zero]
    rw [h1, zero_add]
    refine Finset.sum_congr rfl fun r _ => ?_
    have e : place l r = ⟨128 + r.val, by omega⟩ := Fin.ext (by simp [place]; omega)
    have e' : row ⟨128 + r.val, by omega⟩ = r := Fin.ext (by simp [row])
    rw [stack, if_pos (by simp [h]), e, e']

end Stack

/-! ## All rows and heads -/

section All

variable (q d : Fin 4 → Fin 8192 → Fin 64 → EReal) (k v : Fin 4 → Fin 256 → Fin 64 → EReal)

/-- The gradient of the queries. -/
def dquery (h : Fin 4) (R : Fin 8192) (l : Fin 64) : EReal :=
  ∑ m : Fin 256, dscore (q h R) (d h R) (k h) (v h) m * k h m l

/-- The gradient of the keys. -/
def dkey (h : Fin 4) (m : Fin 256) (l : Fin 64) : EReal :=
  ∑ R : Fin 8192, dscore (q h R) (d h R) (k h) (v h) m * q h R l

/-- The gradient of the values. -/
def dval (h : Fin 4) (m : Fin 256) (l : Fin 64) : EReal := ∑ R : Fin 8192, d h R l * weight (q h R) (k h) m

/-! The same by way of the reciprocals of the sums. -/

def dquery' (h : Fin 4) (R : Fin 8192) (l : Fin 64) : EReal :=
  ∑ m : Fin 256, dscore' (q h R) (d h R) (k h) (v h) m * k h m l

def dkey' (h : Fin 4) (m : Fin 256) (l : Fin 64) : EReal :=
  ∑ R : Fin 8192, dscore' (q h R) (d h R) (k h) (v h) m * q h R l

def dval' (h : Fin 4) (m : Fin 256) (l : Fin 64) : EReal := ∑ R : Fin 8192, d h R l * weight' (q h R) (k h) m

variable {q d : Fin 4 → Fin 8192 → Fin 64 → EReal} {k v : Fin 4 → Fin 256 → Fin 64 → EReal}

theorem dquery_eq (hq : ∀ h R l, IsReal (q h R l)) (hk : ∀ h m l, IsReal (k h m l)) : dquery' q d k v = dquery q d k v := by
  funext h R l
  exact Finset.sum_congr rfl fun m _ => by rw [dscore_eq (hq h R) (hk h)]

theorem dkey_eq (hq : ∀ h R l, IsReal (q h R l)) (hk : ∀ h m l, IsReal (k h m l)) : dkey' q d k v = dkey q d k v := by
  funext h m l
  exact Finset.sum_congr rfl fun R _ => by rw [dscore_eq (hq h R) (hk h)]

theorem dval_eq (hq : ∀ h R l, IsReal (q h R l)) (hk : ∀ h m l, IsReal (k h m l)) : dval' q d k = dval q d k := by
  funext h m l
  exact Finset.sum_congr rfl fun R _ => by rw [weight_eq (hq h R) (hk h)]

end All

end Cert.MemSpec

end
-- ==== Proof.MixBMem.lean ====
/- The memory attention's part of the gated mixer's gradient kernel: one chunk and one pair of heads of it, read off the
   kernel's own arithmetic. -/
module

public import proofs.«01_k».proof.Proof.Gen.MixBIdeal.Skeleton
public import proofs.«01_k».proof.Proof.MemSpec
public import Idealize.ShloMosaic.Lib.Pipeline.ValueKit
public import Idealize.ShloMosaic.Lib.Pointwise
public import Idealize.ShloMosaic.Lib.Claim

@[expose] public section

set_option maxRecDepth 16384

noncomputable section

namespace Cert.MixBIdeal.Value

open Cert.MixBIdeal Cert.MixBIdeal.Gen Idealize.ShloMosaic Idealize.ShloMosaic.TcCoe Cert.MemSpec

/-- A choice by the half of the lanes. -/
theorem select_slt (l : Fin 128) (a b : EReal) :
    Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide +kernel
  rw [h]
  split <;> rfl

/-- A pair of heads in one chunk by row and lane. -/
abbrev pairAt (x : FVec Ideal S128x128 .f32) (i j : Fin 128) : EReal := x (ix2 i j)

/-- A pair of heads in the memory by row and lane. -/
abbrev rowsAt (x : FVec Ideal S256x128 .f32) (i : Fin 256) (j : Fin 128) : EReal := x (ix2 i j)

section Pair

variable (q d : FVec Ideal S128x128 .f32) (k v : FVec Ideal S256x128 .f32)

theorem row_low (c : Fin 256) (h : c.val < 128) : row c = ⟨c.val, h⟩ := Fin.ext (Nat.mod_eq_of_lt h)

theorem row_high (c : Fin 256) (h : ¬c.val < 128) : row c = ⟨c.val - 128, by omega⟩ := Fin.ext (by simp [row]; omega)

theorem stack_at (c : Fin 256) (l : Fin 128) : k0_pay297 q (ix2 c l) = stack (pairAt q) c l := by
  pointwise [k0_pay297, k0_pay295, k0_pay296, k0_pay294]
  unfold stack
  by_cases h : c.val < 128 <;> by_cases h' : l.val < 64 <;> simp [h, h', select_slt, row_low, row_high]

theorem stackd_at (c : Fin 256) (l : Fin 128) : (k0_pay307 d k0_pay304 k0_pay305 (k0_pay306 d)) (ix2 c l) = stack (pairAt d) c l := by
  pointwise [k0_pay307, k0_pay304, k0_pay305, k0_pay306]
  unfold stack
  by_cases h : c.val < 128 <;> by_cases h' : l.val < 64 <;> simp [h, h', select_slt, row_low, row_high]

/-- The pattern of minus infinity. -/
theorem ofBits_bot : Ideal.ofBits .f32 0xFF800000#32 = (⊥ : EReal) := by
  simp [Ideal.ofBits, Ideal.ieee]

theorem ex_at (m c : Fin 256) : k0_pay298 q k (ix2 m c) = ex (head (pairAt q) c) (mem (rowsAt k) c) m := by
  pointwise [k0_pay298, k0_pay293, stack_at, sum_stack_lanes, ex, top, score, ofBits_bot]
  simp only [mul_comm (k _)]
  rfl

theorem den_at (c : Fin 256) : k0_pay299 q k (ix2 0 c) = den (head (pairAt q) c) (mem (rowsAt k) c) := by
  pointwise [k0_pay299, ex_at, den]

theorem recip_at (c : Fin 256) : k0_pay300 q k (ix2 0 c) = Ideal.div 1 (den (head (pairAt q) c) (mem (rowsAt k) c)) := by
  pointwise [k0_pay300, den_at]

theorem recip2_at (c : Fin 256) : k0_pay301 q k (ix2 0 c)
    = Ideal.div 1 (den (head (pairAt q) c) (mem (rowsAt k) c) * den (head (pairAt q) c) (mem (rowsAt k) c)) := by
  pointwise [k0_pay301, den_at]

theorem weight_at (m c : Fin 256) : k0_pay302 q k (ix2 m c) = weight' (head (pairAt q) c) (mem (rowsAt k) c) m := by
  pointwise [k0_pay302, ex_at, recip_at, weight']

/-- The gradient of the memory's values: each row of the memory and each lane. -/
theorem dv_at (m : Fin 256) (l : Fin 128) :
    k0_pay308 d (k0_pay302 q k) k0_pay304 k0_pay305 (k0_pay306 d) (ix2 m l)
    = ∑ r : Fin 128, d (ix2 r l) * weight' (head (pairAt q) (place l r)) (mem (rowsAt k) (place l r)) m := by
  refine Eq.trans ?_ ((sum_stack_rows (fun c => weight' (head (pairAt q) c) (mem (rowsAt k) c) m) (pairAt d) l).trans
    (Finset.sum_congr rfl fun r _ => mul_comm _ _))
  pointwise [k0_pay308, stackd_at, weight_at]
  exact Finset.sum_congr rfl fun r _ => mul_comm _ _

theorem dscore_at (m c : Fin 256) : k0_pay309 d (k0_pay298 q k) (k0_pay300 q k) (k0_pay301 q k) (k0_pay303 v) k0_pay304 k0_pay305 (k0_pay306 d) (ix2 m c) = dscore' (head (pairAt q) c) (head (pairAt d) c) (mem (rowsAt k) c) (mem (rowsAt v) c) m := by
  have h : ∀ n, ∑ l : Fin 128, stack (pairAt d) c l * v (ix2 n l) = dweight (head (pairAt d) c) (mem (rowsAt v) c) n := fun n =>
    (Finset.sum_congr rfl fun l _ => mul_comm _ _).trans
      ((sum_stack_lanes (fun l => v (ix2 n l)) (pairAt d) c).trans (Finset.sum_congr rfl fun l _ => mul_comm _ _))
  pointwise [k0_pay309, k0_pay303, stackd_at, ex_at, recip_at, recip2_at, Fin.sum_univ_one, h, zero_sub, dscore', mul_one]

/-- The gradient of the queries: each row of the chunk and each lane. -/
theorem dq_at (r l : Fin 128) :
    k0_pay310 d (k0_pay293 k) k0_pay295 k0_pay296 (k0_pay298 q k) (k0_pay300 q k) (k0_pay301 q k) (k0_pay303 v)
      k0_pay304 k0_pay305 (k0_pay306 d) (ix2 r l)
    = ∑ m : Fin 256, dscore' (head (pairAt q) (place l r)) (head (pairAt d) (place l r)) (mem (rowsAt k) (place l r)) (mem (rowsAt v) (place l r)) m * k (ix2 m l) := by
  pointwise [k0_pay310, k0_pay293, k0_pay295, k0_pay296, k0_pay294, dscore_at]
  rw [select_slt, select_slt]
  by_cases h : l.val < 64
  · have e : place l r = ⟨r.val, by omega⟩ := Fin.ext (by simp [place]; omega)
    rw [if_pos h, if_pos h, zero_add, e]
  · have e : place l r = ⟨128 + r.val, by omega⟩ := Fin.ext (by simp [place]; omega)
    rw [if_neg h, if_neg h, add_zero, e]

/-- The gradient of the memory's keys: each row of the memory and each lane. -/
theorem dk_at (m : Fin 256) (l : Fin 128) :
    k0_pay311 d (k0_pay297 q) (k0_pay298 q k) (k0_pay300 q k) (k0_pay301 q k) (k0_pay303 v)
      k0_pay304 k0_pay305 (k0_pay306 d) (ix2 m l)
    = ∑ r : Fin 128, dscore' (head (pairAt q) (place l r)) (head (pairAt d) (place l r)) (mem (rowsAt k) (place l r)) (mem (rowsAt v) (place l r)) m * q (ix2 r l) := by
  refine Eq.trans ?_ (sum_stack_rows (fun c => dscore' (head (pairAt q) c) (head (pairAt d) c) (mem (rowsAt k) c) (mem (rowsAt v) c) m) (pairAt q) l)
  pointwise [k0_pay311, dscore_at, stack_at]

end Pair

end Cert.MixBIdeal.Value

end
-- ==== Proof.MixBSpec.lean ====
/- The gated mixer's gradient over all chunks and heads, as functions of the rows' projection, the memory's keys and
   values, the mixing weights and the gradient of the result. -/
module

public import proofs.«01_k».proof.Proof.GateSpec
public import proofs.«01_k».proof.Proof.MemSpec

@[expose] public section

noncomputable section

namespace Cert.MixBSpec

open Idealize.ShloMosaic Cert.MemSpec

/-- Row `i` of chunk `t`. -/
def rowAt (t : Fin 64) (i : Fin 128) : Fin 8192 := ⟨128 * t.val + i.val, by omega⟩

variable (P : Fin 8192 → Fin 1792 → EReal) (M : Fin 256 → Fin 512 → EReal) (W : Fin 6 → Fin 128 → Fin 128 → EReal)
  (b lg lb : Fin 6 → Fin 128 → EReal) (D : Fin 8192 → Fin 1024 → EReal)

/-! ## The gating -/

/-- The gating half of group `g` in chunk `t`. -/
def zu (t : Fin 64) (g : Fin 6) (i j : Fin 128) : EReal := P (rowAt t i) ⟨128 * g.val + j.val, by omega⟩

/-- The half that is mixed. -/
def zv (t : Fin 64) (g : Fin 6) (i j : Fin 128) : EReal := P (rowAt t i) ⟨768 + 128 * g.val + j.val, by omega⟩

/-- The gradient of the gated result. -/
def dg (t : Fin 64) (g : Fin 6) (i j : Fin 128) : EReal := D (rowAt t i) ⟨128 * g.val + j.val, by omega⟩

/-- The gradient of the gating half. -/
def dzu (t : Fin 64) (g : Fin 6) (i j : Fin 128) : EReal :=
  GateSpec.dzu (zu P t g) (zv P t g) (W g) (b g) (lg g) (lb g) (dg D t g) i j

/-- The gradient of the half that is mixed. -/
def dzv (t : Fin 64) (g : Fin 6) (i j : Fin 128) : EReal :=
  GateSpec.dzv (zu P t g) (zv P t g) (W g) (lg g) (dg D t g) i j

/-- What one chunk adds to the gradient of the mixing weights. -/
def dwPart (t : Fin 64) (g : Fin 6) (i s : Fin 128) : EReal :=
  GateSpec.dw (zu P t g) (zv P t g) (lg g) (lb g) (dg D t g) i s

/-- What one chunk adds to the gradient of the rows' bias. -/
def dbPart (t : Fin 64) (g : Fin 6) (i : Fin 128) : EReal := GateSpec.db (zu P t g) (dg D t g) i

/-- What one chunk adds to the gradient of the normalisation's gain. -/
def dlgPart (t : Fin 64) (g : Fin 6) (j : Fin 128) : EReal :=
  GateSpec.dlg (zu P t g) (zv P t g) (W g) (dg D t g) j

/-- What one chunk adds to the gradient of the normalisation's shift. -/
def dlbPart (t : Fin 64) (g : Fin 6) (j : Fin 128) : EReal := GateSpec.dlb (zu P t g) (W g) (dg D t g) j

/-! ## The memory -/

/-- The queries of head `h`. -/
def query (h : Fin 4) (R : Fin 8192) (l : Fin 64) : EReal := P R ⟨1536 + 64 * h.val + l.val, by omega⟩

/-- The gradient of the memory attention's result. -/
def dres (h : Fin 4) (R : Fin 8192) (l : Fin 64) : EReal := D R ⟨768 + 64 * h.val + l.val, by omega⟩

/-- The keys of head `h`. -/
def key (h : Fin 4) (m : Fin 256) (l : Fin 64) : EReal := M m ⟨64 * h.val + l.val, by omega⟩

/-- The values of head `h`. -/
def val (h : Fin 4) (m : Fin 256) (l : Fin 64) : EReal := M m ⟨256 + 64 * h.val + l.val, by omega⟩

/-! ## The results -/

/-- The gradient of the projection in row `i` of chunk `t` and lane `j` of slab `n`: six slabs of the gating half, six
    of the half that is mixed, two of the queries (`dq`). -/
def dproj (dq : Fin 4 → Fin 8192 → Fin 64 → EReal) (t : Fin 64) (n : Fin 14) (i j : Fin 128) : EReal :=
  if h : n.val < 6 then dzu P W b lg lb D t ⟨n.val, h⟩ i j
  else if h' : n.val < 12 then dzv P W lg D t ⟨n.val - 6, by omega⟩ i j
  else dq ⟨2 * (n.val - 12) + j.val / 64, by omega⟩ (rowAt t i) ⟨j.val % 64, by omega⟩

/-- The same by row and column. -/
def dprojAt (dq : Fin 4 → Fin 8192 → Fin 64 → EReal) (R : Fin 8192) (c : Fin 1792) : EReal :=
  dproj P W b lg lb D dq ⟨R.val / 128, by omega⟩ ⟨c.val / 128, by omega⟩ ⟨R.val % 128, by omega⟩ ⟨c.val % 128, by omega⟩

/-- The gradients of the memory, keys before values. -/
def dmem (dk dv : Fin 4 → Fin 256 → Fin 64 → EReal) (m : Fin 256) (c : Fin 512) : EReal :=
  if h : c.val < 256 then dk ⟨c.val / 64, by omega⟩ m ⟨c.val % 64, by omega⟩
  else dv ⟨(c.val - 256) / 64, by omega⟩ m ⟨c.val % 64, by omega⟩

/-- The number of group `n`, zero past the last group. -/
def picked (n : ℕ) (f : Fin 6 → EReal) : EReal := if h : n < 6 then f ⟨n, h⟩ else 0

end Cert.MixBSpec

end
-- ==== Proof.MixBBlock.lean ====
/- One chunk of the gated mixer's gradient kernel: the slabs its blocks are cut into, and what it makes of them for each
   of its results. -/
module

public import proofs.«01_k».proof.Proof.MixBGate
public import proofs.«01_k».proof.Proof.MixBMem
public import proofs.«01_k».proof.Proof.MixBSpec

@[expose] public section

set_option maxRecDepth 16384

noncomputable section

namespace Cert.MixBIdeal.Value

open Cert.MixBIdeal Cert.MixBIdeal.Gen Idealize.ShloMosaic Idealize.ShloMosaic.TcCoe Cert.MemSpec

variable (X : FVec Ideal S128x1536 .bf16) (W : FVec Ideal S6x128x128 .f32) (B : FVec Ideal S128x128 .f32)
  (G L : FVec Ideal S8x128 .f32) (D : FVec Ideal S128x1024 .f32) (Q : FVec Ideal S128x256 .bf16)
  (Km Vm : FVec Ideal S256x256 .bf16)

/-! ## The slabs -/

/-- The gating half, group by group. -/
def slabU : Fin 6 → FVec Ideal S128x128 .f32 :=
  ![k0_pay15 X, k0_pay16 X, k0_pay17 X, k0_pay18 X, k0_pay19 X, k0_pay20 X]

/-- The half that is mixed, group by group. -/
def slabV : Fin 6 → FVec Ideal S128x128 .f32 :=
  ![k0_pay21 X, k0_pay22 X, k0_pay23 X, k0_pay24 X, k0_pay25 X, k0_pay26 X]

/-- The mixing weights, group by group. -/
def slabW : Fin 6 → FVec Ideal S128x128 .f32 :=
  ![k0_pay27 W, k0_pay28 W, k0_pay29 W, k0_pay30 W, k0_pay31 W, k0_pay32 W]

/-- The row bias, group by group. -/
def slabB : Fin 6 → FVec Ideal S128x1 .f32 :=
  ![k0_pay33 (k0_pay10 B), k0_pay34 (k0_pay10 B), k0_pay35 (k0_pay10 B), k0_pay36 (k0_pay10 B), k0_pay37 (k0_pay10 B),
    k0_pay38 (k0_pay10 B)]

/-- The normalisation's gain, group by group. -/
def slabG : Fin 6 → FVec Ideal S1x128 .f32 :=
  ![k0_pay39 (k0_pay11 G), k0_pay40 (k0_pay11 G), k0_pay41 (k0_pay11 G), k0_pay42 (k0_pay11 G), k0_pay43 (k0_pay11 G),
    k0_pay44 (k0_pay11 G)]

/-- The normalisation's shift, group by group. -/
def slabL : Fin 6 → FVec Ideal S1x128 .f32 :=
  ![k0_pay45 (k0_pay12 L), k0_pay46 (k0_pay12 L), k0_pay47 (k0_pay12 L), k0_pay48 (k0_pay12 L), k0_pay49 (k0_pay12 L),
    k0_pay50 (k0_pay12 L)]

/-- The gradient of the gated result, group by group. -/
def slabD : Fin 6 → FVec Ideal S128x128 .f32 :=
  ![k0_pay57 D, k0_pay58 D, k0_pay59 D, k0_pay60 D, k0_pay61 D, k0_pay62 D]

/-- The memory queries, pair by pair. -/
def pairQ : Fin 2 → FVec Ideal S128x128 .f32 := ![k0_pay51 (k0_pay9 Q), k0_pay52 (k0_pay9 Q)]

/-- The memory keys, pair by pair. -/
def pairK : Fin 2 → FVec Ideal S256x128 .f32 := ![k0_pay53 (k0_pay13 Km), k0_pay54 (k0_pay13 Km)]

/-- The memory values, pair by pair. -/
def pairV : Fin 2 → FVec Ideal S256x128 .f32 := ![k0_pay55 (k0_pay14 Vm), k0_pay56 (k0_pay14 Vm)]

/-- The gradient of the memory attention's result, pair by pair. -/
def pairD : Fin 2 → FVec Ideal S128x128 .f32 := ![k0_pay63 D, k0_pay64 D]

theorem slabU_at (g : Fin 6) (i j : Fin 128) : slabU X g (ix2 i j) = X (ix2 i ⟨128 * g.val + j.val, by omega⟩) := by
  fin_cases g
  · change k0_pay15 (F := Ideal) X (ix2 i j) = _
    pointwise [k0_pay15, k0_pay8]
  · change k0_pay16 (F := Ideal) X (ix2 i j) = _
    pointwise [k0_pay16, k0_pay8]
  · change k0_pay17 (F := Ideal) X (ix2 i j) = _
    pointwise [k0_pay17, k0_pay8]
  · change k0_pay18 (F := Ideal) X (ix2 i j) = _
    pointwise [k0_pay18, k0_pay8]
  · change k0_pay19 (F := Ideal) X (ix2 i j) = _
    pointwise [k0_pay19, k0_pay8]
  · change k0_pay20 (F := Ideal) X (ix2 i j) = _
    pointwise [k0_pay20, k0_pay8]

theorem slabV_at (g : Fin 6) (i j : Fin 128) : slabV X g (ix2 i j) = X (ix2 i ⟨768 + 128 * g.val + j.val, by omega⟩) := by
  fin_cases g
  · change k0_pay21 (F := Ideal) X (ix2 i j) = _
    pointwise [k0_pay21, k0_pay8]
  · change k0_pay22 (F := Ideal) X (ix2 i j) = _
    pointwise [k0_pay22, k0_pay8]
  · change k0_pay23 (F := Ideal) X (ix2 i j) = _
    pointwise [k0_pay23, k0_pay8]
  · change k0_pay24 (F := Ideal) X (ix2 i j) = _
    pointwise [k0_pay24, k0_pay8]
  · change k0_pay25 (F := Ideal) X (ix2 i j) = _
    pointwise [k0_pay25, k0_pay8]
  · change k0_pay26 (F := Ideal) X (ix2 i j) = _
    pointwise [k0_pay26, k0_pay8]

theorem slabW_at (g : Fin 6) (i j : Fin 128) : slabW W g (ix2 i j) = W (ix3 g i j) := by
  fin_cases g
  · change k0_pay27 (F := Ideal) W (ix2 i j) = _
    pointwise [k0_pay27]
  · change k0_pay28 (F := Ideal) W (ix2 i j) = _
    pointwise [k0_pay28]
  · change k0_pay29 (F := Ideal) W (ix2 i j) = _
    pointwise [k0_pay29]
  · change k0_pay30 (F := Ideal) W (ix2 i j) = _
    pointwise [k0_pay30]
  · change k0_pay31 (F := Ideal) W (ix2 i j) = _
    pointwise [k0_pay31]
  · change k0_pay32 (F := Ideal) W (ix2 i j) = _
    pointwise [k0_pay32]

theorem slabB_at (g : Fin 6) (i : Fin 128) : slabB B g (ix2 i 0) = B (ix2 i ⟨g.val, by omega⟩) := by
  fin_cases g
  · change k0_pay33 (F := Ideal) (k0_pay10 B) (ix2 i 0) = _
    pointwise [k0_pay33, k0_pay10]
  · change k0_pay34 (F := Ideal) (k0_pay10 B) (ix2 i 0) = _
    pointwise [k0_pay34, k0_pay10]
  · change k0_pay35 (F := Ideal) (k0_pay10 B) (ix2 i 0) = _
    pointwise [k0_pay35, k0_pay10]
  · change k0_pay36 (F := Ideal) (k0_pay10 B) (ix2 i 0) = _
    pointwise [k0_pay36, k0_pay10]
  · change k0_pay37 (F := Ideal) (k0_pay10 B) (ix2 i 0) = _
    pointwise [k0_pay37, k0_pay10]
  · change k0_pay38 (F := Ideal) (k0_pay10 B) (ix2 i 0) = _
    pointwise [k0_pay38, k0_pay10]

theorem slabG_at (g : Fin 6) (j : Fin 128) : slabG G g (ix2 0 j) = G (ix2 ⟨g.val, by omega⟩ j) := by
  fin_cases g
  · change k0_pay39 (F := Ideal) (k0_pay11 G) (ix2 0 j) = _
    pointwise [k0_pay39, k0_pay11]
  · change k0_pay40 (F := Ideal) (k0_pay11 G) (ix2 0 j) = _
    pointwise [k0_pay40, k0_pay11]
  · change k0_pay41 (F := Ideal) (k0_pay11 G) (ix2 0 j) = _
    pointwise [k0_pay41, k0_pay11]
  · change k0_pay42 (F := Ideal) (k0_pay11 G) (ix2 0 j) = _
    pointwise [k0_pay42, k0_pay11]
  · change k0_pay43 (F := Ideal) (k0_pay11 G) (ix2 0 j) = _
    pointwise [k0_pay43, k0_pay11]
  · change k0_pay44 (F := Ideal) (k0_pay11 G) (ix2 0 j) = _
    pointwise [k0_pay44, k0_pay11]

theorem slabL_at (g : Fin 6) (j : Fin 128) : slabL L g (ix2 0 j) = L (ix2 ⟨g.val, by omega⟩ j) := by
  fin_cases g
  · change k0_pay45 (F := Ideal) (k0_pay12 L) (ix2 0 j) = _
    pointwise [k0_pay45, k0_pay12]
  · change k0_pay46 (F := Ideal) (k0_pay12 L) (ix2 0 j) = _
    pointwise [k0_pay46, k0_pay12]
  · change k0_pay47 (F := Ideal) (k0_pay12 L) (ix2 0 j) = _
    pointwise [k0_pay47, k0_pay12]
  · change k0_pay48 (F := Ideal) (k0_pay12 L) (ix2 0 j) = _
    pointwise [k0_pay48, k0_pay12]
  · change k0_pay49 (F := Ideal) (k0_pay12 L) (ix2 0 j) = _
    pointwise [k0_pay49, k0_pay12]
  · change k0_pay50 (F := Ideal) (k0_pay12 L) (ix2 0 j) = _
    pointwise [k0_pay50, k0_pay12]

theorem slabD_at (g : Fin 6) (i j : Fin 128) : slabD D g (ix2 i j) = D (ix2 i ⟨128 * g.val + j.val, by omega⟩) := by
  fin_cases g
  · change k0_pay57 (F := Ideal) D (ix2 i j) = _
    pointwise [k0_pay57]
  · change k0_pay58 (F := Ideal) D (ix2 i j) = _
    pointwise [k0_pay58]
  · change k0_pay59 (F := Ideal) D (ix2 i j) = _
    pointwise [k0_pay59]
  · change k0_pay60 (F := Ideal) D (ix2 i j) = _
    pointwise [k0_pay60]
  · change k0_pay61 (F := Ideal) D (ix2 i j) = _
    pointwise [k0_pay61]
  · change k0_pay62 (F := Ideal) D (ix2 i j) = _
    pointwise [k0_pay62]

theorem pairQ_at (p : Fin 2) (i j : Fin 128) : pairQ Q p (ix2 i j) = Q (ix2 i ⟨128 * p.val + j.val, by omega⟩) := by
  fin_cases p
  · change k0_pay51 (F := Ideal) (k0_pay9 Q) (ix2 i j) = _
    pointwise [k0_pay51, k0_pay9]
  · change k0_pay52 (F := Ideal) (k0_pay9 Q) (ix2 i j) = _
    pointwise [k0_pay52, k0_pay9]

theorem pairK_at (p : Fin 2) (i : Fin 256) (j : Fin 128) : pairK Km p (ix2 i j) = Km (ix2 i ⟨128 * p.val + j.val, by omega⟩) := by
  fin_cases p
  · change k0_pay53 (F := Ideal) (k0_pay13 Km) (ix2 i j) = _
    pointwise [k0_pay53, k0_pay13]
  · change k0_pay54 (F := Ideal) (k0_pay13 Km) (ix2 i j) = _
    pointwise [k0_pay54, k0_pay13]

theorem pairV_at (p : Fin 2) (i : Fin 256) (j : Fin 128) : pairV Vm p (ix2 i j) = Vm (ix2 i ⟨128 * p.val + j.val, by omega⟩) := by
  fin_cases p
  · change k0_pay55 (F := Ideal) (k0_pay14 Vm) (ix2 i j) = _
    pointwise [k0_pay55, k0_pay14]
  · change k0_pay56 (F := Ideal) (k0_pay14 Vm) (ix2 i j) = _
    pointwise [k0_pay56, k0_pay14]

theorem pairD_at (p : Fin 2) (i j : Fin 128) : pairD D p (ix2 i j) = D (ix2 i ⟨768 + 128 * p.val + j.val, by omega⟩) := by
  fin_cases p
  · change k0_pay63 (F := Ideal) D (ix2 i j) = _
    pointwise [k0_pay63]
  · change k0_pay64 (F := Ideal) D (ix2 i j) = _
    pointwise [k0_pay64]

/-! ## The gradients of the slabs -/

/-- The activated gating half. -/
abbrev gated (g : Fin 6) : FVec Ideal S128x128 .f32 := k0_pay71 (k0_pay65 (slabU X g)) (k0_pay67 (slabU X g))

def gradU (g : Fin 6) : FVec Ideal S128x128 .f32 :=
  k0_pay101 (slabU X g) (k0_pay65 (slabU X g)) (k0_pay66 (slabU X g)) (k0_pay69 (k0_pay67 (slabU X g)) k0_pay68)
    (k0_pay70 (k0_pay67 (slabU X g)))
    (k0_pay90 k0_pay7 (slabW W g) (slabB B g) (slabG G g) (slabL L g) (slabD D g) (k0_pay81 (slabV X g)) (k0_pay83 (slabV X g)))

def gradV (g : Fin 6) : FVec Ideal S128x128 .f32 :=
  k0_pay100 (slabV X g) (k0_pay72 (slabV X g)) (k0_pay73 (slabV X g)) (k0_pay75 (slabV X g)) (k0_pay76 (slabV X g))
    (k0_pay80 (slabV X g))
    (k0_pay97 k0_pay7 (slabW W g) (slabG G g) (slabD D g) (gated X g) (k0_pay83 (slabV X g)))
    (k0_pay98 k0_pay7 (slabW W g) (slabG G g) (slabD D g) (gated X g) (k0_pay83 (slabV X g)))
    (k0_pay99 k0_pay7 (slabW W g) (slabG G g) (slabD D g) (gated X g) (k0_pay81 (slabV X g)) (k0_pay84 (slabV X g)) k0_pay85)

def gradB (g : Fin 6) : FVec Ideal S128x1 .f32 := k0_pay91 (slabD D g) (gated X g)

def gradW (g : Fin 6) : FVec Ideal S128x128 .f32 :=
  k0_pay93 k0_pay7 (slabG G g) (slabL L g) (slabD D g) (gated X g) (k0_pay81 (slabV X g)) (k0_pay83 (slabV X g))

def gradL (g : Fin 6) : FVec Ideal S1x128 .f32 := k0_pay94 k0_pay7 (slabW W g) (slabD D g) (gated X g)

def gradG (g : Fin 6) : FVec Ideal S1x128 .f32 :=
  k0_pay95 k0_pay7 (slabW W g) (slabD D g) (gated X g) (k0_pay81 (slabV X g)) (k0_pay83 (slabV X g))

def gradQ (p : Fin 2) : FVec Ideal S128x128 .f32 :=
  k0_pay310 (pairD D p) (k0_pay293 (pairK Km p)) k0_pay295 k0_pay296 (k0_pay298 (pairQ Q p) (pairK Km p))
    (k0_pay300 (pairQ Q p) (pairK Km p)) (k0_pay301 (pairQ Q p) (pairK Km p)) (k0_pay303 (pairV Vm p)) k0_pay304 k0_pay305
    (k0_pay306 (pairD D p))

def gradK (p : Fin 2) : FVec Ideal S256x128 .f32 :=
  k0_pay311 (pairD D p) (k0_pay297 (pairQ Q p)) (k0_pay298 (pairQ Q p) (pairK Km p))
    (k0_pay300 (pairQ Q p) (pairK Km p)) (k0_pay301 (pairQ Q p) (pairK Km p)) (k0_pay303 (pairV Vm p)) k0_pay304 k0_pay305
    (k0_pay306 (pairD D p))

def gradM (p : Fin 2) : FVec Ideal S256x128 .f32 :=
  k0_pay308 (pairD D p) (k0_pay302 (pairQ Q p) (pairK Km p)) k0_pay304 k0_pay305 (k0_pay306 (pairD D p))

/-- Fourteen slabs side by side. -/
def beside (s : Fin 14 → FVec Ideal S128x128 .f32) : FVec Ideal S128x1792 .bf16 :=
  truncf .bf16 (concatenate S128x1792 1 [⟨S128x128, s 0⟩, ⟨S128x128, s 1⟩, ⟨S128x128, s 2⟩, ⟨S128x128, s 3⟩, ⟨S128x128, s 4⟩,
    ⟨S128x128, s 5⟩, ⟨S128x128, s 6⟩, ⟨S128x128, s 7⟩, ⟨S128x128, s 8⟩, ⟨S128x128, s 9⟩, ⟨S128x128, s 10⟩, ⟨S128x128, s 11⟩,
    ⟨S128x128, s 12⟩, ⟨S128x128, s 13⟩]
    concatenates_S128x128_S128x128_S128x128_S128x128_S128x128_S128x128_S128x128_S128x128_S128x128_S128x128_S128x128_S128x128_S128x128_S128x128_S128x1792_d1)
    bitsLt_bf16_f32

/-- A place of the fourteen slabs. -/
theorem beside_at (s : Fin 14 → FVec Ideal S128x128 .f32) (n : Fin 14) (i j : Fin 128) :
    beside s (ix2 i ⟨128 * n.val + j.val, by omega⟩) = s n (ix2 i j) := by
  change concatenate S128x1792 1 (List.ofFn fun n : Fin 14 => (⟨S128x128, s n⟩ : (r : Shape) × (r.Idx → EReal)))
    concatenates_S128x128_S128x128_S128x128_S128x128_S128x128_S128x128_S128x128_S128x128_S128x128_S128x128_S128x128_S128x128_S128x128_S128x128_S128x1792_d1
    (ix2 i ⟨128 * n.val + j.val, by omega⟩) = _
  refine concatenate_ofFn_apply (t := S128x1792) (s₁ := S128x128) 1 s _ rfl 128 rfl _ n ?_ _ ?_ ?_
  · change (128 * n.val + j.val) / 128 = n.val
    omega
  · change j.val = (128 * n.val + j.val) % 128
    omega
  · intro b hb
    fin_cases b
    · rfl
    · exact absurd rfl hb

/-- The gradient of a chunk of the projection. -/
def gradProj : FVec Ideal S128x1792 .bf16 :=
  beside ![gradU X W B G L D 0, gradU X W B G L D 1, gradU X W B G L D 2, gradU X W B G L D 3, gradU X W B G L D 4,
    gradU X W B G L D 5, gradV X W G D 0, gradV X W G D 1, gradV X W G D 2, gradV X W G D 3, gradV X W G D 4,
    gradV X W G D 5, gradQ D Q Km Vm 0, gradQ D Q Km Vm 1]

/-! ## What they are -/

section Grads

open Cert.MixBSpec (picked)

theorem gradU_at (g : Fin 6) (i j : Fin 128) : gradU X W B G L D g (ix2 i j) = GateSpec.dzu (at2 (slabU X g)) (at2 (slabV X g))
    (at2 (slabW W g)) (atCol (slabB B g)) (atRow (slabG G g)) (atRow (slabL L g)) (at2 (slabD D g)) i j :=
  dzu_at _ _ _ _ _ _ _ i j

theorem gradV_at (g : Fin 6) (i j : Fin 128) : gradV X W G D g (ix2 i j) = GateSpec.dzv (at2 (slabU X g)) (at2 (slabV X g))
    (at2 (slabW W g)) (atRow (slabG G g)) (at2 (slabD D g)) i j :=
  dzv_at _ _ _ _ _ i j

theorem gradB_at (g : Fin 6) (i : Fin 128) :
    gradB X D g (ix2 i 0) = GateSpec.db (at2 (slabU X g)) (at2 (slabD D g)) i :=
  db_at _ _ i

theorem gradW_at (g : Fin 6) (i s : Fin 128) : gradW X G L D g (ix2 i s) = GateSpec.dw (at2 (slabU X g)) (at2 (slabV X g))
    (atRow (slabG G g)) (atRow (slabL L g)) (at2 (slabD D g)) i s :=
  dw_at _ _ _ _ _ i s

theorem gradL_at (g : Fin 6) (j : Fin 128) :
    gradL X W D g (ix2 0 j) = GateSpec.dlb (at2 (slabU X g)) (at2 (slabW W g)) (at2 (slabD D g)) j :=
  dlb_at _ _ _ j

theorem gradG_at (g : Fin 6) (j : Fin 128) : gradG X W D g (ix2 0 j) = GateSpec.dlg (at2 (slabU X g)) (at2 (slabV X g))
    (at2 (slabW W g)) (at2 (slabD D g)) j :=
  dlg_at _ _ _ _ j

/-- A sum in which one group at most is chosen. -/
theorem hot (n : Fin 128) (f : Fin 6 → EReal) :
    Scalar.select (IntOp.cmpi .eq (BitVec.ofNat 32 n.val) 0#32) (f 0) 0 + Scalar.select (IntOp.cmpi .eq (BitVec.ofNat 32 n.val) 1#32) (f 1) 0
      + Scalar.select (IntOp.cmpi .eq (BitVec.ofNat 32 n.val) 2#32) (f 2) 0
      + Scalar.select (IntOp.cmpi .eq (BitVec.ofNat 32 n.val) 3#32) (f 3) 0
      + Scalar.select (IntOp.cmpi .eq (BitVec.ofNat 32 n.val) 4#32) (f 4) 0
      + Scalar.select (IntOp.cmpi .eq (BitVec.ofNat 32 n.val) 5#32) (f 5) 0 = picked n.val f := by
  have h : ∀ (n : Fin 128) (k : Fin 6), IntOp.cmpi .eq (BitVec.ofNat 32 n.val) (BitVec.ofNat 32 k.val)
      = if n.val = k.val then 1#1 else 0#1 := by decide +kernel
  have s : ∀ (k : Fin 6) (a : EReal), Scalar.select (IntOp.cmpi .eq (BitVec.ofNat 32 n.val) (BitVec.ofNat 32 k.val)) a 0
      = if n.val = k.val then a else 0 := fun k a => by rw [h]; split <;> rfl
  have s0 := s 0 (f 0)
  have s1 := s 1 (f 1)
  have s2 := s 2 (f 2)
  have s3 := s 3 (f 3)
  have s4 := s 4 (f 4)
  have s5 := s 5 (f 5)
  change Scalar.select (IntOp.cmpi .eq (BitVec.ofNat 32 n.val) 0#32) (f 0) 0 = _ at s0
  change Scalar.select (IntOp.cmpi .eq (BitVec.ofNat 32 n.val) 1#32) (f 1) 0 = _ at s1
  change Scalar.select (IntOp.cmpi .eq (BitVec.ofNat 32 n.val) 2#32) (f 2) 0 = _ at s2
  change Scalar.select (IntOp.cmpi .eq (BitVec.ofNat 32 n.val) 3#32) (f 3) 0 = _ at s3
  change Scalar.select (IntOp.cmpi .eq (BitVec.ofNat 32 n.val) 4#32) (f 4) 0 = _ at s4
  change Scalar.select (IntOp.cmpi .eq (BitVec.ofNat 32 n.val) 5#32) (f 5) 0 = _ at s5
  rw [s0, s1, s2, s3, s4, s5]
  unfold picked
  by_cases hn : n.val < 6
  · rw [dif_pos hn]
    obtain ⟨n, hn'⟩ := n
    change n < 6 at hn
    interval_cases n <;> simp
  · rw [dif_neg hn]
    have hk : ∀ k : Fin 6, ¬ n.val = k.val := fun k => by omega
    rw [if_neg (hk 0), if_neg (hk 1), if_neg (hk 2), if_neg (hk 3), if_neg (hk 4), if_neg (hk 5)]
    simp

/-- The columns' sums: one lane a group. -/
theorem lanes_at (b : Fin 6 → FVec Ideal S128x1 .f32) (prev : FVec Ideal S128x128 .f32) (i j : Fin 128) :
    k0_pay337 (b 5) (k0_pay335 (b 0) (b 1) (b 2) (b 3) (b 4)) k0_pay336 prev (ix2 i j)
      = prev (ix2 i j) + picked j.val fun g => b g (ix2 i 0) := by
  pointwise [k0_pay337, k0_pay335, k0_pay336]
  exact congrArg _ (hot j fun g => b g (ix2 i 0))

/-- The rows' sums of the gain: one row a group. -/
theorem rowsG_at (b : Fin 6 → FVec Ideal S1x128 .f32) (prev : FVec Ideal S8x128 .f32) (i : Fin 8) (j : Fin 128) :
    k0_pay341 (b 4) (b 5) (k0_pay338 prev) (iota Kind.tc S8x128 32 [0] iota_S8x128_d0_w32)
      (k0_pay339 (b 0) (b 1) (b 2) (b 3)) k0_pay340 (ix2 i j) = prev (ix2 i j) + picked i.val fun g => b g (ix2 0 j) := by
  pointwise [k0_pay341, k0_pay339, k0_pay340, k0_pay338]
  exact congrArg _ (hot ⟨i.val, by omega⟩ fun g => b g (ix2 0 j))

/-- The rows' sums of the shift. -/
theorem rowsL_at (b : Fin 6 → FVec Ideal S1x128 .f32) (prev : FVec Ideal S8x128 .f32) (i : Fin 8) (j : Fin 128) :
    k0_pay346 (b 4) (b 5) (k0_pay342 prev) (iota Kind.tc S8x128 32 [0] iota_S8x128_d0_w32)
      (k0_pay343 (b 0) (b 1) (b 2)) k0_pay344 (k0_pay345 (b 3)) (ix2 i j)
      = prev (ix2 i j) + picked i.val fun g => b g (ix2 0 j) := by
  pointwise [k0_pay346, k0_pay342, k0_pay343, k0_pay344, k0_pay345]
  exact congrArg _ (hot ⟨i.val, by omega⟩ fun g => b g (ix2 0 j))

/-- The memory's gradients: a pair of heads in each quarter of the lanes. -/
theorem quarters_at (v0 k0 v1 k1 : FVec Ideal S256x128 .f32) (prev : FVec Ideal S256x512 .f32) (m : Fin 256) (n : Fin 4) (l : Fin 128) :
    k0_pay1 v0 k0 v1 k1 (k0_pay347 prev) (ix2 m ⟨128 * n.val + l.val, by omega⟩)
      = prev (ix2 m ⟨128 * n.val + l.val, by omega⟩) + (![k0, k1, v0, v1] : Fin 4 → _) n (ix2 m l) := by
  have h : concatenate S256x512 1 (List.ofFn fun n : Fin 4 => (⟨S256x128, (![k0, k1, v0, v1] : Fin 4 → _) n⟩ : (r : Shape) × (r.Idx → EReal)))
      concatenates_S256x128_S256x128_S256x128_S256x128_S256x512_d1 (ix2 m ⟨128 * n.val + l.val, by omega⟩)
      = (![k0, k1, v0, v1] : Fin 4 → _) n (ix2 m l) := by
    refine concatenate_ofFn_apply (t := S256x512) (s₁ := S256x128) 1 (![k0, k1, v0, v1] : Fin 4 → _) _ rfl 128 rfl _ n ?_ _ ?_ ?_
    · change (128 * n.val + l.val) / 128 = n.val
      omega
    · change l.val = (128 * n.val + l.val) % 128
      omega
    · intro b hb
      fin_cases b
      · rfl
      · exact absurd rfl hb
  have e : k0_pay347 (F := Ideal) prev (ix2 m ⟨128 * n.val + l.val, by omega⟩) = prev (ix2 m ⟨128 * n.val + l.val, by omega⟩) := by
    pointwise [k0_pay347]
  refine Eq.trans ?_ (congrArg₂ (· + ·) e h)
  rfl

end Grads

end Cert.MixBIdeal.Value

end
-- ==== Proof.MixBReads.lean ====
/- What the blocks of a grid point of the gated mixer's gradient kernel are cut from, and one point's contribution. -/
module

public import proofs.«01_k».proof.Proof.Gen.MixBIdeal.Frame
public import proofs.«01_k».proof.Proof.MixBBlock
public import Idealize.ShloMosaic.Lib.Pipeline.ValueKit
public import Idealize.ShloMosaic.Lib.Pointwise
public import Idealize.ShloMosaic.Lib.Claim

@[expose] public section

set_option maxRecDepth 16384

noncomputable section

namespace Cert.MixBIdeal.Value

open Cert.MixBIdeal Cert.MixBIdeal.Gen Idealize.ShloMosaic Idealize.ShloMosaic.TcCoe Idealize.SL.Sem
open Idealize.ShloMosaic.Pipeline (Dat)
open Cert Cert.MemSpec

variable (m : (ℓ : Loc nD τ sig) → Buf (Elt Ideal) ℓ)

theorem idx : ∀ t : Fin cfg0.N, win0_0.index t = ![(grid0.coords t 0).val, 0] ∧ win0_1.index t = ![(grid0.coords t 0).val, 6]
    ∧ win0_2.index t = ![0, 0, 0] ∧ win0_3.index t = ![0, 0] ∧ win0_4.index t = ![0, 0] ∧ win0_5.index t = ![0, 0]
    ∧ win0_6.index t = ![0, 0] ∧ win0_7.index t = ![0, 1] ∧ win0_8.index t = ![(grid0.coords t 0).val, 0]
    ∧ win0_9.index t = ![(grid0.coords t 0).val, 0] ∧ win0_10.index t = ![0, 0, 0] ∧ win0_11.index t = ![0, 0]
    ∧ win0_12.index t = ![0, 0] ∧ win0_13.index t = ![0, 0] ∧ win0_14.index t = ![0, 0] :=
  (by decide +kernel : ∀ t : Fin grid0.N, _)

theorem coord (t : Fin cfg0.N) : (grid0.coords t 0).val = t.val := (by decide +kernel : ∀ t : Fin grid0.N, (grid0.coords t 0).val = t.val) t

/-- The chunk of a grid point. -/
abbrev chunk (t : Fin cfg0.N) : Fin 64 := ⟨t.val, t.isLt⟩

/-! ## The arrays the call is handed -/

abbrev arrP (c : Dev nD) (R : Fin 8192) (k : Fin 1792) : EReal := V m c main_v4 (ix2 R k)

abbrev arrM (c : Dev nD) (r : Fin 256) (k : Fin 512) : EReal := V m c main_v5 (ix2 r k)

abbrev arrW (c : Dev nD) (g : Fin 6) (i s : Fin 128) : EReal := V m c main_arg2 (ix3 g i s)

abbrev arrB (c : Dev nD) (g : Fin 6) (i : Fin 128) : EReal := V m c main_v1 (ix2 i (⟨g.val, by omega⟩ : Fin 128))

abbrev arrG (c : Dev nD) (g : Fin 6) (j : Fin 128) : EReal := V m c main_v2 (ix2 (⟨g.val, by omega⟩ : Fin 8) j)

abbrev arrL (c : Dev nD) (g : Fin 6) (j : Fin 128) : EReal := V m c main_v3 (ix2 (⟨g.val, by omega⟩ : Fin 8) j)

abbrev arrD (c : Dev nD) (R : Fin 8192) (k : Fin 1024) : EReal := V m c main_arg6 (ix2 R k)

/-! ## The blocks -/

theorem blockX (c : Dev nD) (t : Fin cfg0.N) (i : Fin 128) (k : Fin 1536) :
    X0_0 m c t (ix2 i k) = arrP m c (MixBSpec.rowAt (chunk t) i) ⟨k.val, by omega⟩ := by
  unfold X0_0 Pipeline.Window.fill
  rw [dif_pos (moved0_0 t _)]
  unfold arrP MixBSpec.rowAt
  blk_point [iblk, idx t, coord t]

theorem blockQ (c : Dev nD) (t : Fin cfg0.N) (i : Fin 128) (k : Fin 256) :
    iblk m c 1 t (ix2 i k) = arrP m c (MixBSpec.rowAt (chunk t) i) ⟨1536 + k.val, by omega⟩ := by
  unfold arrP MixBSpec.rowAt
  blk_point [iblk, idx t, coord t]

theorem blockW (c : Dev nD) (t : Fin cfg0.N) (g : Fin 6) (i s : Fin 128) :
    iblk m c 2 t (ix3 g i s) = arrW m c g i s := by
  unfold arrW
  blk_point [iblk, idx t, coord t]

theorem blockB (c : Dev nD) (t : Fin cfg0.N) (i s : Fin 128) : iblk m c 3 t (ix2 i s) = V m c main_v1 (ix2 i s) := by
  blk_point [iblk, idx t, coord t]

theorem blockG (c : Dev nD) (t : Fin cfg0.N) (i : Fin 8) (s : Fin 128) : iblk m c 4 t (ix2 i s) = V m c main_v2 (ix2 i s) := by
  blk_point [iblk, idx t, coord t]

theorem blockL (c : Dev nD) (t : Fin cfg0.N) (i : Fin 8) (s : Fin 128) : iblk m c 5 t (ix2 i s) = V m c main_v3 (ix2 i s) := by
  blk_point [iblk, idx t, coord t]

theorem blockK (c : Dev nD) (t : Fin cfg0.N) (i : Fin 256) (k : Fin 256) :
    iblk m c 6 t (ix2 i k) = arrM m c i ⟨k.val, by omega⟩ := by
  unfold arrM
  blk_point [iblk, idx t, coord t]

theorem blockV (c : Dev nD) (t : Fin cfg0.N) (i : Fin 256) (k : Fin 256) :
    iblk m c 7 t (ix2 i k) = arrM m c i ⟨256 + k.val, by omega⟩ := by
  unfold arrM
  blk_point [iblk, idx t, coord t]

theorem blockD (c : Dev nD) (t : Fin cfg0.N) (i : Fin 128) (k : Fin 1024) :
    iblk m c 8 t (ix2 i k) = arrD m c (MixBSpec.rowAt (chunk t) i) k := by
  unfold arrD MixBSpec.rowAt
  blk_point [iblk, idx t, coord t]

/-! ## The slabs -/

section Point

variable (c : Dev nD) (t : Fin cfg0.N)

theorem slabU_pt (g : Fin 6) : at2 (slabU (X0_0 m c t) g) = MixBSpec.zu (arrP m c) (chunk t) g := by
  funext i j
  exact (slabU_at _ g i j).trans (blockX m c t i _)

theorem slabV_pt (g : Fin 6) : at2 (slabV (X0_0 m c t) g) = MixBSpec.zv (arrP m c) (chunk t) g := by
  funext i j
  exact (slabV_at _ g i j).trans (blockX m c t i _)

theorem slabW_pt (g : Fin 6) : at2 (slabW (iblk m c 2 t) g) = arrW m c g := by
  funext i j
  exact (slabW_at _ g i j).trans (blockW m c t g i j)

theorem slabB_pt (g : Fin 6) : atCol (slabB (iblk m c 3 t) g) = arrB m c g := by
  funext i
  exact (slabB_at _ g i).trans (blockB m c t i _)

theorem slabG_pt (g : Fin 6) : atRow (slabG (iblk m c 4 t) g) = arrG m c g := by
  funext j
  exact (slabG_at _ g j).trans (blockG m c t _ j)

theorem slabL_pt (g : Fin 6) : atRow (slabL (iblk m c 5 t) g) = arrL m c g := by
  funext j
  exact (slabL_at _ g j).trans (blockL m c t _ j)

theorem slabD_pt (g : Fin 6) : at2 (slabD (iblk m c 8 t) g) = MixBSpec.dg (arrD m c) (chunk t) g := by
  funext i j
  exact (slabD_at _ g i j).trans (blockD m c t i _)

/-- The head that lane `l` of pair `p` belongs to. -/
abbrev headOf (p : Fin 2) (l : Fin 128) : Fin 4 := ⟨2 * p.val + l.val / 64, by omega⟩

theorem row_place (l r : Fin 128) : row (place l r) = r := Fin.ext (by simp [row, place])

theorem lane_place (l r : Fin 128) (k : Fin 64) : (lane (place l r) k).val = 64 * (l.val / 64) + k.val := by
  simp [lane, place]; omega

theorem pairQ_pt (p : Fin 2) (l r : Fin 128) : head (at2 (pairQ (iblk m c 1 t) p)) (place l r)
    = MixBSpec.query (arrP m c) (headOf p l) (MixBSpec.rowAt (chunk t) r) := by
  funext k
  unfold head
  rw [row_place]
  refine (pairQ_at _ p r _).trans ((blockQ m c t r _).trans ?_)
  unfold MixBSpec.query arrP
  have := lane_place l r k
  congr 3
  simp only [headOf]
  omega

theorem pairD_pt (p : Fin 2) (l r : Fin 128) : head (at2 (pairD (iblk m c 8 t) p)) (place l r)
    = MixBSpec.dres (arrD m c) (headOf p l) (MixBSpec.rowAt (chunk t) r) := by
  funext k
  unfold head
  rw [row_place]
  refine (pairD_at _ p r _).trans ((blockD m c t r _).trans ?_)
  unfold MixBSpec.dres arrD
  have := lane_place l r k
  congr 3
  simp only [headOf]
  omega

theorem pairK_pt (p : Fin 2) (l r : Fin 128) :
    mem (fun i j => pairK (iblk m c 6 t) p (ix2 i j)) (place l r) = MixBSpec.key (arrM m c) (headOf p l) := by
  funext i k
  unfold mem
  refine (pairK_at _ p i _).trans ((blockK m c t i _).trans ?_)
  unfold MixBSpec.key arrM
  have := lane_place l r k
  congr 3
  simp only [headOf]
  omega

theorem pairV_pt (p : Fin 2) (l r : Fin 128) :
    mem (fun i j => pairV (iblk m c 7 t) p (ix2 i j)) (place l r) = MixBSpec.val (arrM m c) (headOf p l) := by
  funext i k
  unfold mem
  refine (pairV_at _ p i _).trans ((blockV m c t i _).trans ?_)
  unfold MixBSpec.val arrM
  have := lane_place l r k
  congr 3
  simp only [headOf]
  omega

/-! ## One point's contribution -/

theorem gradU_pt (g : Fin 6) (i j : Fin 128) :
    gradU (X0_0 m c t) (iblk m c 2 t) (iblk m c 3 t) (iblk m c 4 t) (iblk m c 5 t) (iblk m c 8 t) g (ix2 i j)
      = MixBSpec.dzu (arrP m c) (arrW m c) (arrB m c) (arrG m c) (arrL m c) (arrD m c) (chunk t) g i j := by
  rw [gradU_at, slabU_pt, slabV_pt, slabW_pt, slabB_pt, slabG_pt, slabL_pt, slabD_pt]
  rfl

theorem gradV_pt (g : Fin 6) (i j : Fin 128) :
    gradV (X0_0 m c t) (iblk m c 2 t) (iblk m c 4 t) (iblk m c 8 t) g (ix2 i j)
      = MixBSpec.dzv (arrP m c) (arrW m c) (arrG m c) (arrD m c) (chunk t) g i j := by
  rw [gradV_at, slabU_pt, slabV_pt, slabW_pt, slabG_pt, slabD_pt]
  rfl

theorem gradB_pt (g : Fin 6) (i : Fin 128) : gradB (X0_0 m c t) (iblk m c 8 t) g (ix2 i 0)
    = MixBSpec.dbPart (arrP m c) (arrD m c) (chunk t) g i := by
  rw [gradB_at, slabU_pt, slabD_pt]
  rfl

theorem gradW_pt (g : Fin 6) (i s : Fin 128) : gradW (X0_0 m c t) (iblk m c 4 t) (iblk m c 5 t) (iblk m c 8 t) g (ix2 i s)
    = MixBSpec.dwPart (arrP m c) (arrG m c) (arrL m c) (arrD m c) (chunk t) g i s := by
  rw [gradW_at, slabU_pt, slabV_pt, slabG_pt, slabL_pt, slabD_pt]
  rfl

theorem gradL_pt (g : Fin 6) (j : Fin 128) : gradL (X0_0 m c t) (iblk m c 2 t) (iblk m c 8 t) g (ix2 0 j)
    = MixBSpec.dlbPart (arrP m c) (arrW m c) (arrD m c) (chunk t) g j := by
  rw [gradL_at, slabU_pt, slabW_pt, slabD_pt]
  rfl

theorem gradG_pt (g : Fin 6) (j : Fin 128) : gradG (X0_0 m c t) (iblk m c 2 t) (iblk m c 8 t) g (ix2 0 j)
    = MixBSpec.dlgPart (arrP m c) (arrW m c) (arrD m c) (chunk t) g j := by
  rw [gradG_at, slabU_pt, slabV_pt, slabW_pt, slabD_pt]
  rfl

/-- The queries, the result's gradient, the keys and the values of all heads. -/
abbrev arrq := MixBSpec.query (arrP m c)

abbrev arrd := MixBSpec.dres (arrD m c)

abbrev arrk := MixBSpec.key (arrM m c)

abbrev arrv := MixBSpec.val (arrM m c)

/-- Lane `l` of a pair within its head. -/
abbrev within (l : Fin 128) : Fin 64 := ⟨l.val % 64, by omega⟩

theorem gradQ_pt (p : Fin 2) (r l : Fin 128) :
    gradQ (iblk m c 8 t) (iblk m c 1 t) (iblk m c 6 t) (iblk m c 7 t) p (ix2 r l)
      = dquery' (arrq m c) (arrd m c) (arrk m c) (arrv m c) (headOf p l) (MixBSpec.rowAt (chunk t) r) (within l) := by
  refine (dq_at _ _ _ _ r l).trans (Finset.sum_congr rfl fun i _ => ?_)
  rw [pairQ_pt, pairD_pt, pairK_pt, pairV_pt]
  refine congrArg (_ * ·) ((pairK_at _ p i l).trans ((blockK m c t i _).trans ?_))
  unfold arrk MixBSpec.key arrM
  congr 3
  simp only [headOf, within]
  omega

/-- What one point adds to the gradient of the memory's keys. -/
def dkPart (p : Fin 2) (i : Fin 256) (l : Fin 128) : EReal := ∑ r : Fin 128,
  dscore' (arrq m c (headOf p l) (MixBSpec.rowAt (chunk t) r)) (arrd m c (headOf p l) (MixBSpec.rowAt (chunk t) r))
    (arrk m c (headOf p l)) (arrv m c (headOf p l)) i * arrq m c (headOf p l) (MixBSpec.rowAt (chunk t) r) (within l)

/-- What one point adds to the gradient of the memory's values. -/
def dvPart (p : Fin 2) (i : Fin 256) (l : Fin 128) : EReal := ∑ r : Fin 128,
  arrd m c (headOf p l) (MixBSpec.rowAt (chunk t) r) (within l)
    * weight' (arrq m c (headOf p l) (MixBSpec.rowAt (chunk t) r)) (arrk m c (headOf p l)) i

theorem gradK_pt (p : Fin 2) (i : Fin 256) (l : Fin 128) :
    gradK (iblk m c 8 t) (iblk m c 1 t) (iblk m c 6 t) (iblk m c 7 t) p (ix2 i l) = dkPart m c t p i l := by
  refine (dk_at _ _ _ _ i l).trans (Finset.sum_congr rfl fun r _ => ?_)
  rw [pairQ_pt, pairD_pt, pairK_pt, pairV_pt]
  refine congrArg (_ * ·) ((pairQ_at _ p r l).trans ((blockQ m c t r _).trans ?_))
  unfold arrq MixBSpec.query arrP
  congr 3
  simp only [headOf, within]
  omega

theorem gradM_pt (p : Fin 2) (i : Fin 256) (l : Fin 128) :
    gradM (iblk m c 8 t) (iblk m c 1 t) (iblk m c 6 t) p (ix2 i l) = dvPart m c t p i l := by
  refine (dv_at _ _ _ i l).trans (Finset.sum_congr rfl fun r _ => ?_)
  rw [pairQ_pt, pairK_pt]
  refine congrArg (· * _) ((pairD_at _ p r l).trans ((blockD m c t r _).trans ?_))
  unfold arrd MixBSpec.dres arrD
  congr 3
  simp only [headOf, within]
  omega

/-- The projection's gradient at one point. -/
theorem gradProj_pt (n : Fin 14) (i j : Fin 128) : gradProj (X0_0 m c t) (iblk m c 2 t) (iblk m c 3 t) (iblk m c 4 t)
      (iblk m c 5 t) (iblk m c 8 t) (iblk m c 1 t) (iblk m c 6 t) (iblk m c 7 t) (ix2 i ⟨128 * n.val + j.val, by omega⟩)
    = MixBSpec.dproj (arrP m c) (arrW m c) (arrB m c) (arrG m c) (arrL m c) (arrD m c)
        (dquery' (arrq m c) (arrd m c) (arrk m c) (arrv m c)) (chunk t) n i j := by
  unfold gradProj
  rw [beside_at]
  fin_cases n
  · exact gradU_pt m c t 0 i j
  · exact gradU_pt m c t 1 i j
  · exact gradU_pt m c t 2 i j
  · exact gradU_pt m c t 3 i j
  · exact gradU_pt m c t 4 i j
  · exact gradU_pt m c t 5 i j
  · exact gradV_pt m c t 0 i j
  · exact gradV_pt m c t 1 i j
  · exact gradV_pt m c t 2 i j
  · exact gradV_pt m c t 3 i j
  · exact gradV_pt m c t 4 i j
  · exact gradV_pt m c t 5 i j
  · exact gradQ_pt m c t 0 i j
  · exact gradQ_pt m c t 1 i j

end Point

end Cert.MixBIdeal.Value

end
-- ==== Proof.MixBPoint.lean ====
/- What a grid point of the gated mixer's gradient kernel leaves of the projection's gradient. -/
module

public import proofs.«01_k».proof.Proof.MixBReads

@[expose] public section

set_option maxRecDepth 16384

noncomputable section

namespace Cert.MixBIdeal.Value

open Cert.MixBIdeal Cert.MixBIdeal.Gen Idealize.ShloMosaic Idealize.ShloMosaic.TcCoe Idealize.SL.Sem
open Idealize.ShloMosaic.Pipeline (Dat)
open Cert Cert.MemSpec
open Cert.MixBSpec (picked)

variable (m : (ℓ : Loc nD τ sig) → Buf (Elt Ideal) ℓ) (c : Dev nD)

/-! ## The projection's gradient -/

abbrev dprojs (R : Fin 8192) (k : Fin 1792) : EReal :=
  MixBSpec.dprojAt (arrP m c) (arrW m c) (arrB m c) (arrG m c) (arrL m c) (arrD m c)
    (dquery' (arrq m c) (arrd m c) (arrk m c) (arrv m c)) R k

/-- The projection's gradient as an array. -/
def dprojArr : FVec Ideal S8192x1792 .bf16 := fun i => dprojs m c (i 0) (i 1)

set_option maxHeartbeats 4000000 in
theorem point9 (t : Fin cfg0.N) (y : S128x1792.Idx) : (outsAt0 m c t.val t.isLt).1 y
    = dprojArr m c (ix2 (MixBSpec.rowAt (chunk t) (y 0)) (y 1)) := by
  idx_vars y
  change _ = dprojs m c (MixBSpec.rowAt (chunk t) y0) y1
  have hp : gradProj (X0_0 m c t) (iblk m c 2 t) (iblk m c 3 t) (iblk m c 4 t)
      (iblk m c 5 t) (iblk m c 8 t) (iblk m c 1 t) (iblk m c 6 t) (iblk m c 7 t) (ix2 y0 y1)
      = dprojs m c (MixBSpec.rowAt (chunk t) y0) y1 := by
    have h := gradProj_pt m c t ⟨y1.val / 128, by omega⟩ y0 ⟨y1.val % 128, by omega⟩
    have e : (⟨128 * (y1.val / 128) + y1.val % 128, by omega⟩ : Fin 1792) = y1 := Fin.ext (by simp only; omega)
    have e1 : (⟨(MixBSpec.rowAt (chunk t) y0).val / 128, by omega⟩ : Fin 64) = chunk t :=
      Fin.ext (by simp only [MixBSpec.rowAt]; omega)
    have e2 : (⟨(MixBSpec.rowAt (chunk t) y0).val % 128, by omega⟩ : Fin 128) = y0 :=
      Fin.ext (by simp only [MixBSpec.rowAt]; omega)
    unfold dprojs MixBSpec.dprojAt
    rw [e1, e2]
    rw [e] at h
    exact h
  by_cases h : t.val % 64 = 0
  on_goal 1 => rw [outsAt0_A m c t h]
  on_goal 2 => rw [outsAt0_B m c t h]
  all_goals
    frame_out
    exact hp

end Cert.MixBIdeal.Value

end
-- ==== Proof.MixBWeights.lean ====
/- What the gated mixer's gradient kernel leaves of the mixing weights' gradient: one slab a group, each loaded, added to
   and stored again. -/
module

public import proofs.«01_k».proof.Proof.MixBReads

@[expose] public section

set_option maxRecDepth 16384

noncomputable section

namespace Cert.MixBIdeal.Value

open Cert.MixBIdeal Cert.MixBIdeal.Gen Idealize.ShloMosaic Idealize.ShloMosaic.TcCoe Idealize.SL.Sem
open Idealize.ShloMosaic.Pipeline (Dat)
open Cert

/-- The place of group `g`. -/
abbrev slot (g : Fin 6) : Rect S6x128x128 := Rect.unit ![g.val, 0, 0] ![1, 128, 128] (by
  intro a
  fin_cases a
  · change g.val + 1 ≤ 6
    omega
  · change 0 + 128 ≤ 128
    omega
  · change 0 + 128 ≤ 128
    omega)

theorem slot_idx (g : Fin 6) (i j : Fin 128) : (slot g).emb (ix3 (0 : Fin 1) i j) = ix3 g i j := by
  funext a
  apply Fin.ext
  fin_cases a
  · change g.val + 1 * 0 = g.val
    omega
  · change 0 + 1 * i.val = i.val
    omega
  · change 0 + 1 * j.val = j.val
    omega

theorem canon_slot (g : Fin 6) (w : FVec Ideal S1x128x128 .f32) (L : List (View.Piece (Elt Ideal) S6x128x128 .f32)) (i j : Fin 128) :
    View.canon ((⟨slot g, w⟩ : View.Piece (Elt Ideal) S6x128x128 .f32) :: L) (ix3 g i j) = w (ix3 (0 : Fin 1) i j) := by
  rw [← slot_idx]
  exact View.canon_cons_emb (slot g) w L (ix3 (0 : Fin 1) i j)

theorem canon_slot_ne (a g : Fin 6) (h : a.val ≠ g.val) (w : FVec Ideal S1x128x128 .f32)
    (L : List (View.Piece (Elt Ideal) S6x128x128 .f32)) (i j : Fin 128) :
    View.canon ((⟨slot g, w⟩ : View.Piece (Elt Ideal) S6x128x128 .f32) :: L) (ix3 a i j) = View.canon L (ix3 a i j) := by
  refine View.canon_cons_of_not_mem _ L fun hm => ?_
  obtain ⟨x, hx, he⟩ := (LoadRect.mem_set _).mp hm (0 : Fin 3)
  have hx1 : x < 1 := hx
  have he' : a.val = g.val + 1 * x := he
  omega

/-- A slab loaded and added to. -/
theorem added_at (w : FVec Ideal S128x128 .f32) (p : FVec Ideal S1x128x128 .f32) (i j : Fin 128) :
    k0_pay330 w p (ix3 (0 : Fin 1) i j) = p (ix3 (0 : Fin 1) i j) + w (ix2 i j) := by
  pointwise [k0_pay330]

/-! ## Every point but the first -/

section Later

variable (w : Fin 6 → FVec Ideal S128x128 .f32) (prev : FVec Ideal S6x128x128 .f32)

/-- What is stored of group `g`. -/
abbrev stored (g : Fin 6) : View.Piece (Elt Ideal) S6x128x128 .f32 := ⟨slot g, k0_pay330 (w g) (View.ld prev (slot g))⟩

theorem later_at (g : Fin 6) (i j : Fin 128) :
    View.canon [stored w prev 5, stored w prev 4, stored w prev 3, stored w prev 2, stored w prev 1, stored w prev 0] (ix3 g i j)
      = prev (ix3 g i j) + w g (ix2 i j) := by
  have h : ∀ g, k0_pay330 (w g) (View.ld prev (slot g)) (ix3 (0 : Fin 1) i j) = prev (ix3 g i j) + w g (ix2 i j) := fun g => by
    rw [added_at]
    exact congrArg (fun x => prev x + _) (slot_idx g i j)
  rw [← h]
  by_cases h5 : g = 5
  · rw [h5]; exact canon_slot _ _ _ i j
  rw [canon_slot_ne g 5 (fun e => h5 (Fin.ext e))]
  by_cases h4 : g = 4
  · rw [h4]; exact canon_slot _ _ _ i j
  rw [canon_slot_ne g 4 (fun e => h4 (Fin.ext e))]
  by_cases h3 : g = 3
  · rw [h3]; exact canon_slot _ _ _ i j
  rw [canon_slot_ne g 3 (fun e => h3 (Fin.ext e))]
  by_cases h2 : g = 2
  · rw [h2]; exact canon_slot _ _ _ i j
  rw [canon_slot_ne g 2 (fun e => h2 (Fin.ext e))]
  by_cases h1 : g = 1
  · rw [h1]; exact canon_slot _ _ _ i j
  rw [canon_slot_ne g 1 (fun e => h1 (Fin.ext e))]
  have h0 : g = 0 := by
    obtain ⟨g, hg⟩ := g
    simp only [Fin.ext_iff] at h1 h2 h3 h4 h5
    change ¬g = 1 at h1
    change ¬g = 2 at h2
    change ¬g = 3 at h3
    change ¬g = 4 at h4
    change ¬g = 5 at h5
    exact Fin.ext (by change g = 0; omega)
  rw [h0]
  exact canon_slot _ _ _ i j

end Later

/-! ## The first point -/

section First

variable {κ : Kind} {sp : Space} (v : View sig κ sp S6x128x128 .f32) (w : Fin 6 → FVec Ideal S128x128 .f32)

/-- One more group, loaded from what the earlier stores left. -/
abbrev grow (L : List (View.Piece (Elt Ideal) S6x128x128 .f32)) (g : Fin 6) : List (View.Piece (Elt Ideal) S6x128x128 .f32) :=
  ⟨slot g, k0_pay330 (w g) (v.readCov L (slot g).toLoadRect)⟩ :: L

theorem grow_at (L : List (View.Piece (Elt Ideal) S6x128x128 .f32)) (g a : Fin 6) (i j : Fin 128) :
    View.canon (grow v w L g) (ix3 a i j)
      = if a = g then View.canon L (ix3 a i j) + w a (ix2 i j) else View.canon L (ix3 a i j) := by
  by_cases h : a = g
  · subst h
    rw [if_pos rfl, canon_slot, added_at, View.readCov_eq_canon']
    exact congrArg (fun x => View.canon L x + _) (slot_idx a i j)
  · rw [if_neg h]
    exact canon_slot_ne a g (fun e => h (Fin.ext e)) _ _ i j

/-- The zeros the first point starts with. -/
abbrev zeros : List (View.Piece (Elt Ideal) S6x128x128 .f32) :=
  [⟨Rect.unit ![0, 0, 0] ![6, 128, 128] inb_S6x128x128_S6x128x128_0_0_0, k0_pay2 (F := Ideal)⟩]

theorem zeros_canon (a : Fin 6) (i j : Fin 128) : View.canon zeros (ix3 a i j) = 0 := by
  have h : View.canon zeros = k0_pay2 (F := Ideal) :=
    View.canon_cons_unit_lit (Val := Elt Ideal) (e := .f32) (S := S6x128x128) inb_S6x128x128_S6x128x128_0_0_0 (k0_pay2 (F := Ideal)) [] (by decide)
  rw [h]
  pointwise [k0_pay2]

theorem first_at (g : Fin 6) (i j : Fin 128) :
    View.canon (grow v w (grow v w (grow v w (grow v w (grow v w (grow v w zeros 0) 1) 2) 3) 4) 5) (ix3 g i j)
      = 0 + w g (ix2 i j) := by
  simp only [grow_at, zeros_canon]
  fin_cases g <;> simp

end First

variable (m : (ℓ : Loc nD τ sig) → Buf (Elt Ideal) ℓ) (c : Dev nD)

/-- What a point adds to the mixing weights' gradient. -/
def part10 (t : Fin cfg0.N) : FVec Ideal S6x128x128 .f32 := fun y =>
  MixBSpec.dwPart (arrP m c) (arrG m c) (arrL m c) (arrD m c) (chunk t) (y 0) (y 1) (y 2)

set_option maxHeartbeats 4000000 in
theorem step10B (t : Fin cfg0.N) (h : ¬ t.val % 64 = 0) (y : S6x128x128.Idx) : (outsAt0 m c t.val t.isLt).2.1 y
    = (outsAt0 m c (t.val - 1) (Nat.lt_of_le_of_lt (Nat.sub_le _ _) t.isLt)).2.1 y + part10 m c t y := by
  idx_vars y
  rw [outsAt0_B m c t h]
  frame_out
  refine (later_at (gradW (X0_0 m c t) (iblk m c 4 t) (iblk m c 5 t) (iblk m c 8 t)) _ y0 y1 y2).trans ?_
  rw [gradW_pt]
  rfl

set_option maxHeartbeats 4000000 in
theorem step10A (t : Fin cfg0.N) (h : t.val % 64 = 0) (y : S6x128x128.Idx) : (outsAt0 m c t.val t.isLt).2.1 y
    = 0 + part10 m c t y := by
  idx_vars y
  rw [outsAt0_A m c t h]
  frame_out
  refine (first_at (ms0_10 t).view (gradW (X0_0 m c t) (iblk m c 4 t) (iblk m c 5 t) (iblk m c 8 t)) y0 y1 y2).trans ?_
  rw [gradW_pt]
  rfl

end Cert.MixBIdeal.Value

end
-- ==== Proof.MixBKernel.lean ====
/- What the gated mixer's gradient kernel leaves in its results. -/
module

public import proofs.«01_k».proof.Proof.MixBPoint
public import proofs.«01_k».proof.Proof.MixBWeights

@[expose] public section

set_option maxRecDepth 16384

noncomputable section

namespace Cert.MixBIdeal.Value

open Cert.MixBIdeal Cert.MixBIdeal.Gen Idealize.ShloMosaic Idealize.ShloMosaic.TcCoe Idealize.SL.Sem
open Idealize.ShloMosaic.Pipeline (Dat)
open Cert Cert.MemSpec
open Cert.MixBSpec (picked)

variable (m : (ℓ : Loc nD τ sig) → Buf (Elt Ideal) ℓ) (c : Dev nD)

theorem final9 : (dats m 0 c).arrAt 9 (cfgs 0).N = dprojArr m c := by
  refine (dats m 0 c).arrAt_eq_of_covers 9 _ (by decide +kernel) fun t _ y => ?_
  blk_simp
  rw [after0_9]
  refine (point9 m c t y).trans ?_
  generalize dprojArr m c = f
  unfold MixBSpec.rowAt
  blk_point [idx t, coord t]

/-! ## The sums over the chunks -/

theorem zeros2_at (g : Fin 6) (i j : Fin 128) : k0_pay2 (F := Ideal) (ix3 g i j) = 0 := by pointwise [k0_pay2]

theorem zeros3_at (i j : Fin 128) : k0_pay3 (F := Ideal) (ix2 i j) = 0 := by pointwise [k0_pay3]

theorem zeros4_at (i : Fin 8) (j : Fin 128) : k0_pay4 (F := Ideal) (ix2 i j) = 0 := by pointwise [k0_pay4]

theorem zeros5_at (i : Fin 8) (j : Fin 128) : k0_pay5 (F := Ideal) (ix2 i j) = 0 := by pointwise [k0_pay5]

theorem zeros6_at (i : Fin 256) (j : Fin 512) : k0_pay6 (F := Ideal) (ix2 i j) = 0 := by pointwise [k0_pay6]

/-- What a point adds to the rows' bias. -/
def part11 (t : Fin cfg0.N) : FVec Ideal S128x128 .f32 := fun y =>
  picked (y 1).val fun g => MixBSpec.dbPart (arrP m c) (arrD m c) (chunk t) g (y 0)

/-- What a point adds to the gain. -/
def part12 (t : Fin cfg0.N) : FVec Ideal S8x128 .f32 := fun y =>
  picked (y 0).val fun g => MixBSpec.dlgPart (arrP m c) (arrW m c) (arrD m c) (chunk t) g (y 1)

/-- What a point adds to the shift. -/
def part13 (t : Fin cfg0.N) : FVec Ideal S8x128 .f32 := fun y =>
  picked (y 0).val fun g => MixBSpec.dlbPart (arrP m c) (arrW m c) (arrD m c) (chunk t) g (y 1)

/-- What a point adds to the memory's gradients. -/
def part14 (t : Fin cfg0.N) : FVec Ideal S256x512 .f32 := fun y =>
  (![dkPart m c t 0, dkPart m c t 1, dvPart m c t 0, dvPart m c t 1] : Fin 4 → Fin 256 → Fin 128 → EReal)
    ⟨(y 1).val / 128, by have h := (y 1).isLt; change (y 1).val < 512 at h; omega⟩ (y 0) ⟨(y 1).val % 128, by omega⟩

theorem add11 (prev : FVec Ideal S128x128 .f32) (t : Fin cfg0.N) (i j : Fin 128) :
    k0_pay337 (gradB (X0_0 m c t) (iblk m c 8 t) 5) (k0_pay335 (gradB (X0_0 m c t) (iblk m c 8 t) 0)
      (gradB (X0_0 m c t) (iblk m c 8 t) 1) (gradB (X0_0 m c t) (iblk m c 8 t) 2) (gradB (X0_0 m c t) (iblk m c 8 t) 3)
      (gradB (X0_0 m c t) (iblk m c 8 t) 4)) k0_pay336 prev (ix2 i j) = prev (ix2 i j) + part11 m c t (ix2 i j) := by
  refine (lanes_at (gradB (X0_0 m c t) (iblk m c 8 t)) prev i j).trans ?_
  simp only [gradB_pt]
  rfl

theorem add12 (prev : FVec Ideal S8x128 .f32) (t : Fin cfg0.N) (i : Fin 8) (j : Fin 128) :
    k0_pay341 (gradG (X0_0 m c t) (iblk m c 2 t) (iblk m c 8 t) 4) (gradG (X0_0 m c t) (iblk m c 2 t) (iblk m c 8 t) 5)
      (k0_pay338 prev) (iota Kind.tc S8x128 32 [0] iota_S8x128_d0_w32)
      (k0_pay339 (gradG (X0_0 m c t) (iblk m c 2 t) (iblk m c 8 t) 0) (gradG (X0_0 m c t) (iblk m c 2 t) (iblk m c 8 t) 1)
        (gradG (X0_0 m c t) (iblk m c 2 t) (iblk m c 8 t) 2) (gradG (X0_0 m c t) (iblk m c 2 t) (iblk m c 8 t) 3))
      k0_pay340 (ix2 i j) = prev (ix2 i j) + part12 m c t (ix2 i j) := by
  refine (rowsG_at (gradG (X0_0 m c t) (iblk m c 2 t) (iblk m c 8 t)) prev i j).trans ?_
  simp only [gradG_pt]
  rfl

theorem add13 (prev : FVec Ideal S8x128 .f32) (t : Fin cfg0.N) (i : Fin 8) (j : Fin 128) :
    k0_pay346 (gradL (X0_0 m c t) (iblk m c 2 t) (iblk m c 8 t) 4) (gradL (X0_0 m c t) (iblk m c 2 t) (iblk m c 8 t) 5)
      (k0_pay342 prev) (iota Kind.tc S8x128 32 [0] iota_S8x128_d0_w32)
      (k0_pay343 (gradL (X0_0 m c t) (iblk m c 2 t) (iblk m c 8 t) 0) (gradL (X0_0 m c t) (iblk m c 2 t) (iblk m c 8 t) 1)
        (gradL (X0_0 m c t) (iblk m c 2 t) (iblk m c 8 t) 2)) k0_pay344
      (k0_pay345 (gradL (X0_0 m c t) (iblk m c 2 t) (iblk m c 8 t) 3)) (ix2 i j) = prev (ix2 i j) + part13 m c t (ix2 i j) := by
  refine (rowsL_at (gradL (X0_0 m c t) (iblk m c 2 t) (iblk m c 8 t)) prev i j).trans ?_
  simp only [gradL_pt]
  rfl

theorem add14 (prev : FVec Ideal S256x512 .f32) (t : Fin cfg0.N) (i : Fin 256) (j : Fin 512) :
    k0_pay1 (gradM (iblk m c 8 t) (iblk m c 1 t) (iblk m c 6 t) 0)
      (gradK (iblk m c 8 t) (iblk m c 1 t) (iblk m c 6 t) (iblk m c 7 t) 0)
      (gradM (iblk m c 8 t) (iblk m c 1 t) (iblk m c 6 t) 1)
      (gradK (iblk m c 8 t) (iblk m c 1 t) (iblk m c 6 t) (iblk m c 7 t) 1) (k0_pay347 prev) (ix2 i j)
      = prev (ix2 i j) + part14 m c t (ix2 i j) := by
  have h := quarters_at (gradM (iblk m c 8 t) (iblk m c 1 t) (iblk m c 6 t) 0)
    (gradK (iblk m c 8 t) (iblk m c 1 t) (iblk m c 6 t) (iblk m c 7 t) 0)
    (gradM (iblk m c 8 t) (iblk m c 1 t) (iblk m c 6 t) 1)
    (gradK (iblk m c 8 t) (iblk m c 1 t) (iblk m c 6 t) (iblk m c 7 t) 1) prev i ⟨j.val / 128, by omega⟩ ⟨j.val % 128, by omega⟩
  have e : (⟨128 * (j.val / 128) + j.val % 128, by omega⟩ : Fin 512) = j := Fin.ext (by simp only; omega)
  rw [e] at h
  refine h.trans (congrArg _ ?_)
  change _ = (![dkPart m c t 0, dkPart m c t 1, dvPart m c t 0, dvPart m c t 1] : Fin 4 → Fin 256 → Fin 128 → EReal)
    ⟨j.val / 128, by omega⟩ i ⟨j.val % 128, by omega⟩
  generalize (⟨j.val / 128, _⟩ : Fin 4) = n
  generalize (⟨j.val % 128, _⟩ : Fin 128) = l
  fin_cases n
  · exact gradK_pt m c t 0 i l
  · exact gradK_pt m c t 1 i l
  · exact gradM_pt m c t 0 i l
  · exact gradM_pt m c t 1 i l

theorem step11A (t : Fin cfg0.N) (h : t.val % 64 = 0) (y : S128x128.Idx) :
    (outsAt0 m c t.val t.isLt).2.2.1 y = 0 + part11 m c t y := by
  idx_vars y
  rw [outsAt0_A m c t h]
  frame_out
  exact (add11 m c k0_pay3 t y0 y1).trans (congrArg (· + _) (zeros3_at y0 y1))

theorem step11B (t : Fin cfg0.N) (h : ¬ t.val % 64 = 0) (y : S128x128.Idx) : (outsAt0 m c t.val t.isLt).2.2.1 y
    = (outsAt0 m c (t.val - 1) (Nat.lt_of_le_of_lt (Nat.sub_le _ _) t.isLt)).2.2.1 y + part11 m c t y := by
  idx_vars y
  rw [outsAt0_B m c t h]
  frame_out
  exact add11 m c _ t y0 y1

theorem step12A (t : Fin cfg0.N) (h : t.val % 64 = 0) (y : S8x128.Idx) :
    (outsAt0 m c t.val t.isLt).2.2.2.1 y = 0 + part12 m c t y := by
  idx_vars y
  rw [outsAt0_A m c t h]
  frame_out
  exact (add12 m c k0_pay4 t y0 y1).trans (congrArg (· + _) (zeros4_at y0 y1))

theorem step12B (t : Fin cfg0.N) (h : ¬ t.val % 64 = 0) (y : S8x128.Idx) : (outsAt0 m c t.val t.isLt).2.2.2.1 y
    = (outsAt0 m c (t.val - 1) (Nat.lt_of_le_of_lt (Nat.sub_le _ _) t.isLt)).2.2.2.1 y + part12 m c t y := by
  idx_vars y
  rw [outsAt0_B m c t h]
  frame_out
  exact add12 m c _ t y0 y1

theorem step13A (t : Fin cfg0.N) (h : t.val % 64 = 0) (y : S8x128.Idx) :
    (outsAt0 m c t.val t.isLt).2.2.2.2.1 y = 0 + part13 m c t y := by
  idx_vars y
  rw [outsAt0_A m c t h]
  frame_out
  exact (add13 m c k0_pay5 t y0 y1).trans (congrArg (· + _) (zeros5_at y0 y1))

theorem step13B (t : Fin cfg0.N) (h : ¬ t.val % 64 = 0) (y : S8x128.Idx) : (outsAt0 m c t.val t.isLt).2.2.2.2.1 y
    = (outsAt0 m c (t.val - 1) (Nat.lt_of_le_of_lt (Nat.sub_le _ _) t.isLt)).2.2.2.2.1 y + part13 m c t y := by
  idx_vars y
  rw [outsAt0_B m c t h]
  frame_out
  exact add13 m c _ t y0 y1

theorem step14A (t : Fin cfg0.N) (h : t.val % 64 = 0) (y : S256x512.Idx) :
    (outsAt0 m c t.val t.isLt).2.2.2.2.2 y = 0 + part14 m c t y := by
  idx_vars y
  rw [outsAt0_A m c t h]
  frame_out
  exact (add14 m c k0_pay6 t y0 y1).trans (congrArg (· + _) (zeros6_at y0 y1))

theorem step14B (t : Fin cfg0.N) (h : ¬ t.val % 64 = 0) (y : S256x512.Idx) : (outsAt0 m c t.val t.isLt).2.2.2.2.2 y
    = (outsAt0 m c (t.val - 1) (Nat.lt_of_le_of_lt (Nat.sub_le _ _) t.isLt)).2.2.2.2.2 y + part14 m c t y := by
  idx_vars y
  rw [outsAt0_B m c t h]
  frame_out
  exact add14 m c _ t y0 y1

/-- A result that starts at zero, grows by one term a point and is read at the last point is the sum of the terms. -/
theorem sums {ι : Type} (f : (n : ℕ) → n < cfg0.N → ι → EReal) (part : Fin cfg0.N → ι → EReal)
    (hA : ∀ t : Fin cfg0.N, t.val % 64 = 0 → ∀ y, f t.val t.isLt y = 0 + part t y)
    (hB : ∀ t : Fin cfg0.N, ¬ t.val % 64 = 0 → ∀ y,
      f t.val t.isLt y = f (t.val - 1) (Nat.lt_of_le_of_lt (Nat.sub_le _ _) t.isLt) y + part t y)
    (t : Fin cfg0.N) (h : t.val % 64 = 63) (y : ι) : f t.val t.isLt y = ∑ s : Fin cfg0.N, part s y := by
  have ht : t.val + 1 = cfg0.N := by
    have := t.isLt
    change t.val < 64 at this
    change t.val + 1 = 64
    omega
  rw [Pipeline.eq_sum_fin_of_reset_step_apply_last f 64 (fun _ => 0) part (fun t h j => hA t h j) (fun t h j => hB t h j)
    (le_of_eq N_0) t ht y, zero_add]

theorem final10 : (dats m 0 c).arrAt 10 (cfgs 0).N = fun i : S6x128x128.Idx => ∑ t : Fin cfg0.N, part10 m c t i := by
  refine (dats m 0 c).arrAt_eq_of_covers 10 _ (by decide +kernel) fun t hf y => ?_
  blk_simp
  rw [after0_10, sums (fun n h => (outsAt0 m c n h).2.1) (part10 m c) (step10A m c) (step10B m c) t ((flush0_10 t).mp hf) y]
  change (fun i : S6x128x128.Idx => ∑ t : Fin cfg0.N, part10 m c t i) _ = (fun i : S6x128x128.Idx => ∑ t : Fin cfg0.N, part10 m c t i) _
  generalize (fun i : S6x128x128.Idx => ∑ t : Fin cfg0.N, part10 m c t i) = f
  blk_point [idx t]

theorem final11 : (dats m 0 c).arrAt 11 (cfgs 0).N = fun i : S128x128.Idx => ∑ t : Fin cfg0.N, part11 m c t i := by
  refine (dats m 0 c).arrAt_eq_of_covers 11 _ (by decide +kernel) fun t hf y => ?_
  blk_simp
  rw [after0_11, sums (fun n h => (outsAt0 m c n h).2.2.1) (part11 m c) (step11A m c) (step11B m c) t ((flush0_11 t).mp hf) y]
  change (fun i : S128x128.Idx => ∑ t : Fin cfg0.N, part11 m c t i) _ = (fun i : S128x128.Idx => ∑ t : Fin cfg0.N, part11 m c t i) _
  generalize (fun i : S128x128.Idx => ∑ t : Fin cfg0.N, part11 m c t i) = f
  blk_point [idx t]

theorem final12 : (dats m 0 c).arrAt 12 (cfgs 0).N = fun i : S8x128.Idx => ∑ t : Fin cfg0.N, part12 m c t i := by
  refine (dats m 0 c).arrAt_eq_of_covers 12 _ (by decide +kernel) fun t hf y => ?_
  blk_simp
  rw [after0_12, sums (fun n h => (outsAt0 m c n h).2.2.2.1) (part12 m c) (step12A m c) (step12B m c) t ((flush0_12 t).mp hf) y]
  change (fun i : S8x128.Idx => ∑ t : Fin cfg0.N, part12 m c t i) _ = (fun i : S8x128.Idx => ∑ t : Fin cfg0.N, part12 m c t i) _
  generalize (fun i : S8x128.Idx => ∑ t : Fin cfg0.N, part12 m c t i) = f
  blk_point [idx t]

theorem final13 : (dats m 0 c).arrAt 13 (cfgs 0).N = fun i : S8x128.Idx => ∑ t : Fin cfg0.N, part13 m c t i := by
  refine (dats m 0 c).arrAt_eq_of_covers 13 _ (by decide +kernel) fun t hf y => ?_
  blk_simp
  rw [after0_13, sums (fun n h => (outsAt0 m c n h).2.2.2.2.1) (part13 m c) (step13A m c) (step13B m c) t ((flush0_13 t).mp hf) y]
  change (fun i : S8x128.Idx => ∑ t : Fin cfg0.N, part13 m c t i) _ = (fun i : S8x128.Idx => ∑ t : Fin cfg0.N, part13 m c t i) _
  generalize (fun i : S8x128.Idx => ∑ t : Fin cfg0.N, part13 m c t i) = f
  blk_point [idx t]

theorem final14 : (dats m 0 c).arrAt 14 (cfgs 0).N = fun i : S256x512.Idx => ∑ t : Fin cfg0.N, part14 m c t i := by
  refine (dats m 0 c).arrAt_eq_of_covers 14 _ (by decide +kernel) fun t hf y => ?_
  blk_simp
  rw [after0_14, sums (fun n h => (outsAt0 m c n h).2.2.2.2.2) (part14 m c) (step14A m c) (step14B m c) t ((flush0_14 t).mp hf) y]
  change (fun i : S256x512.Idx => ∑ t : Fin cfg0.N, part14 m c t i) _ = (fun i : S256x512.Idx => ∑ t : Fin cfg0.N, part14 m c t i) _
  generalize (fun i : S256x512.Idx => ∑ t : Fin cfg0.N, part14 m c t i) = f
  blk_point [idx t]

end Cert.MixBIdeal.Value

end
-- ==== Proof.MixBHost.lean ====
/- What the gated mixer's gradient kernel is handed, of the problem's own arrays. -/
module

public import proofs.«01_k».proof.Proof.MixBReads

@[expose] public section

set_option maxRecDepth 16384

noncomputable section

namespace Cert.MixBIdeal.Value

open Cert.MixBIdeal Cert.MixBIdeal.Gen Idealize.ShloMosaic Idealize.ShloMosaic.TcCoe Idealize.SL.Sem
open Idealize.ShloMosaic.Pipeline (Dat)
open Cert

variable (m : (ℓ : Loc nD τ sig) → Buf (Elt Ideal) ℓ) (c : Dev nD)

theorem V_args : V m c main_arg2 = m ((c : Thread nD τ).loc main_arg2) ∧ V m c main_arg6 = m ((c : Thread nD τ).loc main_arg6) := by
  refine ⟨?_, ?_⟩ <;> unfold V <;>
    simp only [List.flatten_cons, List.flatten_nil, List.append_nil, List.cons_append, List.nil_append] <;> after_results

theorem V_proj (R : Fin 8192) (k : Fin 1792) : arrP m c R k = m ((c : Thread nD τ).loc main_arg0) (ix2 R k) := by
  have h : V m c main_v4 = truncf (F := Ideal) .bf16 (m ((c : Thread nD τ).loc main_arg0)) bitsLt_bf16_f32 := by
    unfold V
    simp only [List.flatten_cons, List.flatten_nil, List.append_nil, List.cons_append, List.nil_append]
    after_results
    try rfl
  unfold arrP
  rw [h]
  pointwise []

theorem V_mem (r : Fin 256) (k : Fin 512) : arrM m c r k = m ((c : Thread nD τ).loc main_arg1) (ix2 r k) := by
  have h : V m c main_v5 = truncf (F := Ideal) .bf16 (m ((c : Thread nD τ).loc main_arg1)) bitsLt_bf16_f32 := by
    unfold V
    simp only [List.flatten_cons, List.flatten_nil, List.append_nil, List.cons_append, List.nil_append]
    after_results
    try rfl
  unfold arrM
  rw [h]
  pointwise []

theorem V_bias (g : Fin 6) (i : Fin 128) : arrB m c g i = m ((c : Thread nD τ).loc main_arg3) (ix2 g i) := by
  have h : V m c main_v1 = pad (α := EReal) S128x128 ![0, 0] ![0, 122] ![0, 0] (transpose S128x6 [1, 0] (m ((c : Thread nD τ).loc main_arg3)) transposes_S6x128_S128x6_1_0) (sitofp (F := Ideal) .f32 (constantI S_ 32 0#32)) pads_S128x6_S128x128_000_01220 h_S_ := by
    unfold V
    simp only [List.flatten_cons, List.flatten_nil, List.append_nil, List.cons_append, List.nil_append]
    after_results
    try rfl
  unfold arrB
  rw [h]
  pointwise []

theorem V_gain (g : Fin 6) (j : Fin 128) : arrG m c g j = m ((c : Thread nD τ).loc main_arg4) (ix2 g j) := by
  have h : V m c main_v2 = pad (α := EReal) S8x128 ![0, 0] ![2, 0] ![0, 0] (m ((c : Thread nD τ).loc main_arg4)) (sitofp (F := Ideal) .f32 (constantI S_ 32 0#32)) pads_S6x128_S8x128_020_000 h_S_ := by
    unfold V
    simp only [List.flatten_cons, List.flatten_nil, List.append_nil, List.cons_append, List.nil_append]
    after_results
    try rfl
  have pick : ∀ x : FVec Ideal S6x128 .f32, pad (α := EReal) S8x128 ![0, 0] ![2, 0] ![0, 0] x (sitofp (F := Ideal) .f32 (constantI S_ 32 0#32)) pads_S6x128_S8x128_020_000 h_S_
      (ix2 (⟨g.val, by omega⟩ : Fin 8) j) = x (ix2 g j) := by
    intro x
    pointwise []
  unfold arrG
  rw [h]
  exact pick _

theorem V_shift (g : Fin 6) (j : Fin 128) : arrL m c g j = m ((c : Thread nD τ).loc main_arg5) (ix2 g j) := by
  have h : V m c main_v3 = pad (α := EReal) S8x128 ![0, 0] ![2, 0] ![0, 0] (m ((c : Thread nD τ).loc main_arg5)) (sitofp (F := Ideal) .f32 (constantI S_ 32 0#32)) pads_S6x128_S8x128_020_000 h_S_ := by
    unfold V
    simp only [List.flatten_cons, List.flatten_nil, List.append_nil, List.cons_append, List.nil_append]
    after_results
    try rfl
  have pick : ∀ x : FVec Ideal S6x128 .f32, pad (α := EReal) S8x128 ![0, 0] ![2, 0] ![0, 0] x (sitofp (F := Ideal) .f32 (constantI S_ 32 0#32)) pads_S6x128_S8x128_020_000 h_S_
      (ix2 (⟨g.val, by omega⟩ : Fin 8) j) = x (ix2 g j) := by
    intro x
    pointwise []
  unfold arrL
  rw [h]
  exact pick _

end Cert.MixBIdeal.Value

end
-- ==== Proof.MixBFinal.lean ====
/- The results of the gated mixer's gradient kernel as functions of the problem's own arrays. -/
module

public import proofs.«01_k».proof.Proof.MixBKernel
public import proofs.«01_k».proof.Proof.MixBHost

@[expose] public section

set_option maxRecDepth 16384

noncomputable section

namespace Cert.MixBIdeal.Value

open Cert.MixBIdeal Cert.MixBIdeal.Gen Idealize.ShloMosaic Idealize.ShloMosaic.TcCoe Idealize.SL.Sem
open Cert Cert.MemSpec

variable (m : (ℓ : Loc nD τ sig) → Buf (Elt Ideal) ℓ) (c : Dev nD)

/-! ## The problem's arrays -/

abbrev argP (R : Fin 8192) (k : Fin 1792) : EReal := m ((c : Thread nD τ).loc main_arg0) (ix2 R k)

abbrev argM (r : Fin 256) (k : Fin 512) : EReal := m ((c : Thread nD τ).loc main_arg1) (ix2 r k)

abbrev argW (g : Fin 6) (i s : Fin 128) : EReal := m ((c : Thread nD τ).loc main_arg2) (ix3 g i s)

abbrev argB (g : Fin 6) (i : Fin 128) : EReal := m ((c : Thread nD τ).loc main_arg3) (ix2 g i)

abbrev argG (g : Fin 6) (j : Fin 128) : EReal := m ((c : Thread nD τ).loc main_arg4) (ix2 g j)

abbrev argL (g : Fin 6) (j : Fin 128) : EReal := m ((c : Thread nD τ).loc main_arg5) (ix2 g j)

abbrev argD (R : Fin 8192) (k : Fin 1024) : EReal := m ((c : Thread nD τ).loc main_arg6) (ix2 R k)

theorem arrs : arrP m c = argP m c ∧ arrM m c = argM m c ∧ arrW m c = argW m c ∧ arrB m c = argB m c
    ∧ arrG m c = argG m c ∧ arrL m c = argL m c ∧ arrD m c = argD m c := by
  refine ⟨funext fun R => funext fun k => V_proj m c R k, funext fun r => funext fun k => V_mem m c r k, ?_,
    funext fun g => funext fun i => V_bias m c g i, funext fun g => funext fun i => V_gain m c g i,
    funext fun g => funext fun i => V_shift m c g i, ?_⟩
  · funext g i s
    exact congrFun (V_args m c).1 (ix3 g i s)
  · funext R k
    exact congrFun (V_args m c).2 (ix2 R k)

/-- A sum over the chunks and the rows of each is a sum over all rows. -/
theorem sum_chunks (f : Fin 8192 → EReal) : ∑ t : Fin 64, ∑ i : Fin 128, f (MixBSpec.rowAt t i) = ∑ R : Fin 8192, f R := by
  rw [← Fintype.sum_prod_type']
  refine Fintype.sum_equiv (finProdFinEquiv (m := 64) (n := 128)) _ _ fun p => congrArg f (Fin.ext ?_)
  change 128 * p.1.val + p.2.val = p.2.val + 128 * p.1.val
  omega

theorem proj_eq (R : Fin 8192) (k : Fin 1792) : (dats m 0 c).arrAt 9 (cfgs 0).N (ix2 R k)
    = MixBSpec.dprojAt (argP m c) (argW m c) (argB m c) (argG m c) (argL m c) (argD m c)
        (dquery' (MixBSpec.query (argP m c)) (MixBSpec.dres (argD m c)) (MixBSpec.key (argM m c)) (MixBSpec.val (argM m c))) R k := by
  obtain ⟨hP, hM, hW, hB, hG, hL, hD⟩ := arrs m c
  rw [final9]
  change dprojs m c R k = _
  unfold dprojs arrq arrd arrk arrv
  rw [hP, hM, hW, hB, hG, hL, hD]

theorem weights_eq (g : Fin 6) (i s : Fin 128) : (dats m 0 c).arrAt 10 (cfgs 0).N (ix3 g i s)
    = ∑ t : Fin 64, MixBSpec.dwPart (argP m c) (argG m c) (argL m c) (argD m c) t g i s := by
  obtain ⟨hP, hM, hW, hB, hG, hL, hD⟩ := arrs m c
  rw [final10]
  change ∑ t : Fin 64, MixBSpec.dwPart (arrP m c) (arrG m c) (arrL m c) (arrD m c) t g i s = _
  rw [hP, hG, hL, hD]

theorem picked_sum (n : ℕ) (f : Fin 64 → Fin 6 → EReal) :
    ∑ t : Fin 64, MixBSpec.picked n (f t) = MixBSpec.picked n fun g => ∑ t : Fin 64, f t g := by
  unfold MixBSpec.picked
  split
  · rfl
  · exact Finset.sum_const_zero

theorem bias_eq (i s : Fin 128) : (dats m 0 c).arrAt 11 (cfgs 0).N (ix2 i s)
    = MixBSpec.picked s.val fun g => ∑ t : Fin 64, MixBSpec.dbPart (argP m c) (argD m c) t g i := by
  obtain ⟨hP, hM, hW, hB, hG, hL, hD⟩ := arrs m c
  rw [final11]
  change ∑ t : Fin 64, MixBSpec.picked s.val (fun g => MixBSpec.dbPart (arrP m c) (arrD m c) t g i) = _
  rw [hP, hD, picked_sum]

theorem gain_eq (i : Fin 8) (j : Fin 128) : (dats m 0 c).arrAt 12 (cfgs 0).N (ix2 i j)
    = MixBSpec.picked i.val fun g => ∑ t : Fin 64, MixBSpec.dlgPart (argP m c) (argW m c) (argD m c) t g j := by
  obtain ⟨hP, hM, hW, hB, hG, hL, hD⟩ := arrs m c
  rw [final12]
  change ∑ t : Fin 64, MixBSpec.picked i.val (fun g => MixBSpec.dlgPart (arrP m c) (arrW m c) (arrD m c) t g j) = _
  rw [hP, hW, hD, picked_sum]

theorem shift_eq (i : Fin 8) (j : Fin 128) : (dats m 0 c).arrAt 13 (cfgs 0).N (ix2 i j)
    = MixBSpec.picked i.val fun g => ∑ t : Fin 64, MixBSpec.dlbPart (argP m c) (argW m c) (argD m c) t g j := by
  obtain ⟨hP, hM, hW, hB, hG, hL, hD⟩ := arrs m c
  rw [final13]
  change ∑ t : Fin 64, MixBSpec.picked i.val (fun g => MixBSpec.dlbPart (arrP m c) (arrW m c) (arrD m c) t g j) = _
  rw [hP, hW, hD, picked_sum]

theorem keys_sum (p : Fin 2) (r : Fin 256) (l : Fin 128) : ∑ t : Fin 64, dkPart m c ⟨t.val, t.isLt⟩ p r l
    = dkey' (arrq m c) (arrd m c) (arrk m c) (arrv m c) (headOf p l) r (within l) := by
  unfold dkPart dkey'
  exact sum_chunks fun R => dscore' (arrq m c (headOf p l) R) (arrd m c (headOf p l) R) (arrk m c (headOf p l)) (arrv m c (headOf p l)) r
    * arrq m c (headOf p l) R (within l)

theorem vals_sum (p : Fin 2) (r : Fin 256) (l : Fin 128) : ∑ t : Fin 64, dvPart m c ⟨t.val, t.isLt⟩ p r l
    = dval' (arrq m c) (arrd m c) (arrk m c) (headOf p l) r (within l) := by
  unfold dvPart dval'
  exact sum_chunks fun R => arrd m c (headOf p l) R (within l) * weight' (arrq m c (headOf p l) R) (arrk m c (headOf p l)) r

theorem memory_eq (r : Fin 256) (k : Fin 512) : (dats m 0 c).arrAt 14 (cfgs 0).N (ix2 r k)
    = MixBSpec.dmem
        (dkey' (MixBSpec.query (argP m c)) (MixBSpec.dres (argD m c)) (MixBSpec.key (argM m c)) (MixBSpec.val (argM m c)))
        (dval' (MixBSpec.query (argP m c)) (MixBSpec.dres (argD m c)) (MixBSpec.key (argM m c))) r k := by
  obtain ⟨hP, hM, hW, hB, hG, hL, hD⟩ := arrs m c
  rw [final14, ← hP, ← hM, ← hD]
  change ∑ t : Fin 64, (![dkPart m c ⟨t.val, t.isLt⟩ 0, dkPart m c ⟨t.val, t.isLt⟩ 1, dvPart m c ⟨t.val, t.isLt⟩ 0,
    dvPart m c ⟨t.val, t.isLt⟩ 1] : Fin 4 → Fin 256 → Fin 128 → EReal) ⟨k.val / 128, _⟩ r ⟨k.val % 128, _⟩
    = MixBSpec.dmem (dkey' (arrq m c) (arrd m c) (arrk m c) (arrv m c)) (dval' (arrq m c) (arrd m c) (arrk m c)) r k
  unfold MixBSpec.dmem
  have e2 : within ⟨k.val % 128, by omega⟩ = ⟨k.val % 64, by omega⟩ := Fin.ext (by change k.val % 128 % 64 = k.val % 64; omega)
  by_cases h : k.val < 256
  · rw [dif_pos h]
    by_cases h1 : k.val < 128
    · have e : (⟨k.val / 128, by omega⟩ : Fin 4) = 0 := Fin.ext (by change k.val / 128 = 0; omega)
      rw [e]
      refine (keys_sum m c 0 r ⟨k.val % 128, by omega⟩).trans ?_
      rw [e2]
      exact congrArg (fun n => dkey' (arrq m c) (arrd m c) (arrk m c) (arrv m c) n r _)
        (Fin.ext (by change 2 * 0 + k.val % 128 / 64 = k.val / 64; omega))
    · have e : (⟨k.val / 128, by omega⟩ : Fin 4) = 1 := Fin.ext (by change k.val / 128 = 1; omega)
      rw [e]
      refine (keys_sum m c 1 r ⟨k.val % 128, by omega⟩).trans ?_
      rw [e2]
      exact congrArg (fun n => dkey' (arrq m c) (arrd m c) (arrk m c) (arrv m c) n r _)
        (Fin.ext (by change 2 * 1 + k.val % 128 / 64 = k.val / 64; omega))
  · rw [dif_neg h]
    by_cases h1 : k.val < 384
    · have e : (⟨k.val / 128, by omega⟩ : Fin 4) = 2 := Fin.ext (by change k.val / 128 = 2; omega)
      rw [e]
      refine (vals_sum m c 0 r ⟨k.val % 128, by omega⟩).trans ?_
      rw [e2]
      exact congrArg (fun n => dval' (arrq m c) (arrd m c) (arrk m c) n r _)
        (Fin.ext (by change 2 * 0 + k.val % 128 / 64 = (k.val - 256) / 64; omega))
    · have e : (⟨k.val / 128, by omega⟩ : Fin 4) = 3 := Fin.ext (by change k.val / 128 = 3; omega)
      rw [e]
      refine (vals_sum m c 1 r ⟨k.val % 128, by omega⟩).trans ?_
      rw [e2]
      exact congrArg (fun n => dval' (arrq m c) (arrd m c) (arrk m c) n r _)
        (Fin.ext (by change 2 * 1 + k.val % 128 / 64 = (k.val - 256) / 64; omega))

end Cert.MixBIdeal.Value

end
-- ==== Proof.TwoAxes.lean ====
/- A sum over two axes of an array of rank four, as a double sum. -/
module

public import Idealize.ShloMosaic.Lib.Pointwise

@[expose] public section

namespace Cert.TwoAxes

open Idealize.ShloMosaic

variable {a b c d : ℕ}

/-- The places of a result over the outer axes are the places of the array with the same inner coordinates. -/
theorem outer (h : (⟨4, ![a, b, c, d]⟩ : Shape).ReducesTo [0, 3] ⟨2, ![b, c]⟩) (v : (⟨4, ![a, b, c, d]⟩ : Shape).Idx → EReal)
    (e : EReal) (i : Fin b) (g : Fin c) :
    Ideal.hostReduceAdd h v e (ix2 i g) = e + ∑ t : Fin a, ∑ j : Fin d, v (ix4 t i g j) := by
  refine congrArg (e + ·) ((Finset.sum_filter_eq_sum_of_fiber _ (fun k : Fin a × Fin d => ix4 k.1 i g k.2)
    (fun _ _ e => Prod.ext (congrFun e 0) (congrFun e 3)) (fun y => ?_) v).trans (by simp only [Fintype.sum_prod_type]))
  constructor
  · intro e
    refine ⟨(y 0, y 3), ?_⟩
    funext n; apply Fin.ext
    match n with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext n
    apply Fin.ext
    match n with
    | ⟨0, _⟩ => rfl
    | ⟨1, _⟩ => rfl

/-- The same over the first two axes. -/
theorem first (h : (⟨4, ![a, b, c, d]⟩ : Shape).ReducesTo [0, 1] ⟨2, ![c, d]⟩) (v : (⟨4, ![a, b, c, d]⟩ : Shape).Idx → EReal)
    (e : EReal) (g : Fin c) (j : Fin d) :
    Ideal.hostReduceAdd h v e (ix2 g j) = e + ∑ t : Fin a, ∑ i : Fin b, v (ix4 t i g j) := by
  refine congrArg (e + ·) ((Finset.sum_filter_eq_sum_of_fiber _ (fun k : Fin a × Fin b => ix4 k.1 k.2 g j)
    (fun _ _ e => Prod.ext (congrFun e 0) (congrFun e 1)) (fun y => ?_) v).trans (by simp only [Fintype.sum_prod_type]))
  constructor
  · intro e
    refine ⟨(y 0, y 1), ?_⟩
    funext n; apply Fin.ext
    match n with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext n
    apply Fin.ext
    match n with
    | ⟨0, _⟩ => rfl
    | ⟨1, _⟩ => rfl

/-- The same over the outer axes of an array of rank five whose last axis has one place. -/
theorem outer5 (h : (⟨5, ![a, b, c, d, 1]⟩ : Shape).ReducesTo [0, 3] ⟨3, ![b, c, 1]⟩)
    (v : (⟨5, ![a, b, c, d, 1]⟩ : Shape).Idx → EReal) (e : EReal) (i : Fin b) (g : Fin c) (o : Fin 1) :
    Ideal.hostReduceAdd h v e (ix3 i g o) = e + ∑ t : Fin a, ∑ j : Fin d, v (ix5 t i g j o) := by
  refine congrArg (e + ·) ((Finset.sum_filter_eq_sum_of_fiber _ (fun k : Fin a × Fin d => ix5 k.1 i g k.2 o)
    (fun _ _ e => Prod.ext (congrFun e 0) (congrFun e 3)) (fun y => ?_) v).trans (by simp only [Fintype.sum_prod_type]))
  constructor
  · intro e
    refine ⟨(y 0, y 3), ?_⟩
    funext n; apply Fin.ext
    match n with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => exact (congrArg Fin.val (congrFun e 2)).symm
  · rintro ⟨k, rfl⟩
    funext n
    apply Fin.ext
    match n with
    | ⟨0, _⟩ => rfl
    | ⟨1, _⟩ => rfl
    | ⟨2, _⟩ => rfl

/-- A sum over axes of one place each. -/
theorem ends5 (h : (⟨5, ![1, b, c, 1, 1]⟩ : Shape).ReducesTo [0, 3, 4] ⟨2, ![b, c]⟩)
    (v : (⟨5, ![1, b, c, 1, 1]⟩ : Shape).Idx → EReal) (e : EReal) (i : Fin b) (g : Fin c) :
    Ideal.hostReduceAdd h v e (ix2 i g) = e + v (ix5 (0 : Fin 1) i g (0 : Fin 1) (0 : Fin 1)) := by
  refine congrArg (e + ·) ((Finset.sum_filter_eq_sum_of_fiber _ (fun _ : Fin 1 => ix5 (0 : Fin 1) i g (0 : Fin 1) (0 : Fin 1))
    (fun _ _ _ => Subsingleton.elim _ _) (fun y => ?_) v).trans (Fin.sum_univ_one _))
  constructor
  · intro e
    refine ⟨0, ?_⟩
    funext n; apply Fin.ext
    match n with
    | ⟨0, _⟩ => exact (Nat.lt_one_iff.mp (y 0).isLt).symm
    | ⟨1, _⟩ => exact (congrArg Fin.val (congrFun e 0)).symm
    | ⟨2, _⟩ => exact (congrArg Fin.val (congrFun e 1)).symm
    | ⟨3, _⟩ => exact (Nat.lt_one_iff.mp (y 3).isLt).symm
    | ⟨4, _⟩ => exact (Nat.lt_one_iff.mp (y 4).isLt).symm
  · rintro ⟨k, rfl⟩
    funext n
    apply Fin.ext
    match n with
    | ⟨0, _⟩ => rfl
    | ⟨1, _⟩ => rfl

end Cert.TwoAxes
-- ==== Proof.MixBRef.lean ====
/- The gating half of the gated mixer's gradient, as the reference computes it. -/
module

public import proofs.«01_k».proof.Proof.Gen.MixBRefIdeal.Run
public import proofs.«01_k».proof.Proof.Gen.MixBRefIdeal.Read
public import proofs.«01_k».proof.Proof.MixBSpec
public import proofs.«01_k».proof.Proof.TwoAxes
public import Idealize.ShloMosaic.Lib.Pointwise

@[expose] public section

set_option maxRecDepth 16384

noncomputable section

namespace Cert.MixBRefIdeal.Read

open Cert.MixBRefIdeal Cert.MixBRefIdeal.Gen Idealize.ShloMosaic Idealize.ShloMosaic.TcCoe Idealize.SL.Sem
open Cert

/-! ## The arguments by row and column -/

abbrev proj (x : FVec Ideal S8192x1792 .f32) (R : Fin 8192) (c : Fin 1792) : EReal := x (ix2 R c)

abbrev memo (x : FVec Ideal S256x512 .f32) (m : Fin 256) (c : Fin 512) : EReal := x (ix2 m c)

abbrev mixw (x : FVec Ideal S6x128x128 .f32) (g : Fin 6) (i s : Fin 128) : EReal := x (ix3 g i s)

abbrev lane6 (x : FVec Ideal S6x128 .f32) (g : Fin 6) (i : Fin 128) : EReal := x (ix2 g i)

abbrev gres (x : FVec Ideal S8192x1024 .f32) (R : Fin 8192) (c : Fin 1024) : EReal := x (ix2 R c)

variable (x0 : FVec Ideal S8192x1792 .f32) (x2 : FVec Ideal S6x128x128 .f32) (x3 x4 x5 : FVec Ideal S6x128 .f32)
  (x6 : FVec Ideal S8192x1024 .f32)

/-! ## The activation -/

theorem th_at (R : Fin 8192) (c : Fin 1536) :
    val_main_v12 (F := Ideal) x0 (ix2 R c) = GateSpec.th (x0 (ix2 R ⟨c.val, by omega⟩)) := by
  pointwise [val_main_v12, val_main_v11, val_main_v10, val_main_cst_1, val_main_v9, val_main_v8, val_main_v7, val_main_cst_0,
    val_main_v3, val_main_v2, val_main_v0, GateSpec.th]

theorem gelu_at (R : Fin 8192) (c : Fin 1536) :
    val_main_v22 (F := Ideal) x0 (ix2 R c) = GateSpec.gelu (x0 (ix2 R ⟨c.val, by omega⟩)) := by
  pointwise [val_main_v22, val_main_v21, val_main_v20, val_main_cst_5, val_main_v19, val_main_v18, val_main_cst_4, val_main_v0,
    th_at, GateSpec.gelu]

theorem u_at (t : Fin 64) (i : Fin 128) (g : Fin 6) (j : Fin 128) :
    val_main_v23 (F := Ideal) x0 (ix2 (MixBSpec.rowAt t i) ⟨128 * g.val + j.val, by omega⟩)
      = GateSpec.gelu (MixBSpec.zu (proj x0) t g i j) := by
  pointwise [val_main_v23, gelu_at, MixBSpec.zu]

theorem act_at (t : Fin 64) (i : Fin 128) (g : Fin 6) (j : Fin 128) :
    val_main_v25 (F := Ideal) x0 (ix4 t i g j) = GateSpec.act (MixBSpec.zv (proj x0) t g) i j := by
  pointwise [val_main_v25, val_main_v24, gelu_at, MixBSpec.zv, GateSpec.act, MixBSpec.rowAt]
  refine congrArg GateSpec.gelu (congrArg₂ (fun a b => x0 (ix2 a b)) (Fin.ext ?_) (Fin.ext ?_))
  · change t.val * 128 + i.val = 128 * t.val + i.val
    omega
  · change 768 + (g.val * 128 + j.val) = 768 + 128 * g.val + j.val
    omega

/-! ## The normalisation -/

theorem mean_at (t : Fin 64) (i : Fin 128) (g : Fin 6) (o : Fin 1) :
    val_main_v29 (F := Ideal) x0 (ix4 t i g o) = GateSpec.mean (GateSpec.act (MixBSpec.zv (proj x0) t g) i) := by
  pointwise [val_main_v29, val_main_v28, val_main_cst_7, val_main_v27, val_main_v26, val_main_cst_6, act_at, GateSpec.mean]

theorem cen_at (t : Fin 64) (i : Fin 128) (g : Fin 6) (j : Fin 128) :
    val_main_v31 (F := Ideal) x0 (ix4 t i g j) = GateSpec.cen (GateSpec.act (MixBSpec.zv (proj x0) t g) i) j := by
  pointwise [val_main_v31, val_main_v30, act_at, mean_at, GateSpec.cen]

theorem var_at (t : Fin 64) (i : Fin 128) (g : Fin 6) (o : Fin 1) :
    val_main_v42 (F := Ideal) x0 (ix4 t i g o) = GateSpec.var (GateSpec.act (MixBSpec.zv (proj x0) t g) i) := by
  pointwise [val_main_v42, val_main_v41, val_main_cst_11, val_main_v38, val_main_v37, val_main_cst_10, val_main_v36, val_main_v35,
    val_main_cst_9, val_main_v32, cen_at, GateSpec.var]

theorem rs_at (t : Fin 64) (i : Fin 128) (g : Fin 6) (o : Fin 1) :
    val_main_v43 (F := Ideal) x0 (ix4 t i g o) = GateSpec.rs (GateSpec.act (MixBSpec.zv (proj x0) t g) i) := by
  pointwise [val_main_v43, var_at, GateSpec.rs]

theorem nrm_at (t : Fin 64) (i : Fin 128) (g : Fin 6) (j : Fin 128) :
    val_main_v48 (F := Ideal) x0 (ix4 t i g j) = GateSpec.nrm (GateSpec.act (MixBSpec.zv (proj x0) t g) i) j := by
  pointwise [val_main_v48, val_main_v47, val_main_v40, val_main_v39, act_at, mean_at, rs_at, GateSpec.nrm, GateSpec.cen]

theorem vn_at (t : Fin 64) (i : Fin 128) (g : Fin 6) (j : Fin 128) :
    val_main_v54 (F := Ideal) x0 x4 x5 (ix4 t i g j)
      = GateSpec.vn (MixBSpec.zv (proj x0) t g) (lane6 x4 g) (lane6 x5 g) i j := by
  pointwise [val_main_v54, val_main_v53, val_main_v52, val_main_v51, val_main_v50, val_main_v49, nrm_at, GateSpec.vn]

/-! ## The mixing weights below the diagonal -/

/-- A choice by the order of two places of a row. -/
theorem select_sge (i s : Fin 128) (a b : EReal) :
    Scalar.select (Scalar.select (IntOp.cmpi .sge (IntOp.addi (BitVec.ofNat 32 i.val) 0#32) (BitVec.ofNat 32 s.val)) 1#1 0#1) a b
      = if s.val ≤ i.val then a else b := by
  have h : ∀ i s : Fin 128, IntOp.cmpi .sge (IntOp.addi (BitVec.ofNat 32 i.val) 0#32) (BitVec.ofNat 32 s.val)
      = if s.val ≤ i.val then 1#1 else 0#1 := by decide +kernel
  rw [h]
  split <;> rfl

theorem low_at (g : Fin 6) (i s : Fin 128) : val_main_v59_0 (F := Ideal) x2 (ix3 g i s) = GateSpec.low (mixw x2 g) i s := by
  pointwise [val_main_v59_0, val_main_v59_1, val_main_v58, val_main_cst_13, val_main_v57, val_main_v56, val_main_v55, val_main_c,
    val_main_call0_v5, val_main_call0_c_0, val_main_call0_v4, val_main_call0_v3, val_main_call0_v2, val_main_call0_v1,
    val_main_call0_c, val_main_call0_v0, GateSpec.low, select_sge]

/-! ## The gating half's gradient -/

theorem dg_at (t : Fin 64) (i : Fin 128) (g : Fin 6) (j : Fin 128) :
    val_main_v108 (F := Ideal) x6 (ix2 (MixBSpec.rowAt t i) ⟨128 * g.val + j.val, by omega⟩)
      = MixBSpec.dg (gres x6) t g i j := by
  pointwise [val_main_v108, MixBSpec.dg]

theorem mixed_at (t : Fin 64) (i : Fin 128) (g : Fin 6) (j : Fin 128) :
    val_main_v65 (F := Ideal) x0 x2 x3 x4 x5 (ix4 t i g j)
      = GateSpec.mixed (MixBSpec.zv (proj x0) t g) (mixw x2 g) (lane6 x3 g) (lane6 x4 g) (lane6 x5 g) i j := by
  pointwise [val_main_v65, val_main_v64, val_main_v63, val_main_v62, val_main_v61, val_main_v60, vn_at, low_at, GateSpec.mixed]

theorem dmixed_at (t : Fin 64) (i : Fin 128) (g : Fin 6) (j : Fin 128) :
    val_main_v139 (F := Ideal) x0 x6 (ix4 t i g j)
      = GateSpec.dmixed (MixBSpec.zu (proj x0) t g) (MixBSpec.dg (gres x6) t g) i j := by
  pointwise [val_main_v139, val_main_v137, val_main_v108, val_main_v23, gelu_at, GateSpec.dmixed, MixBSpec.zu, MixBSpec.dg, MixBSpec.rowAt]
  simp only [Nat.mul_comm _ 128]

theorem dvn_at (t : Fin 64) (i : Fin 128) (g : Fin 6) (j : Fin 128) :
    val_main_v147 (F := Ideal) x0 x2 x6 (ix4 t i g j)
      = GateSpec.dvn (MixBSpec.zu (proj x0) t g) (mixw x2 g) (MixBSpec.dg (gres x6) t g) i j := by
  pointwise [val_main_v147, val_main_v146, val_main_v144, dmixed_at, low_at, GateSpec.dvn]

/-! ## The gradients of the parameters -/

theorem db_at (i : Fin 128) (g : Fin 6) :
    val_main_v198 (F := Ideal) x0 x6 (ix2 i g) = ∑ t : Fin 64, MixBSpec.dbPart (proj x0) (gres x6) t g i := by
  pointwise [val_main_v198, val_main_v143, val_main_v142, val_main_cst_29, val_main_v141, val_main_v140, val_main_cst_28, dmixed_at,
    MixBSpec.dbPart, GateSpec.db, Fin.sum_univ_one, TwoAxes.outer]

theorem dw_at (g : Fin 6) (i s : Fin 128) :
    val_main_v148 (F := Ideal) x0 x4 x5 x6 (ix3 g i s)
      = ∑ t : Fin 64, MixBSpec.dwPart (proj x0) (lane6 x4) (lane6 x5) (gres x6) t g i s := by
  pointwise [val_main_v148, val_main_v59_1, val_main_call2_v0, val_main_call2_cst, val_main_v57, val_main_v56, val_main_v55, val_main_c,
    val_main_call0_v5, val_main_call0_c_0, val_main_call0_v4, val_main_call0_v3, val_main_call0_v2, val_main_call0_v1,
    val_main_call0_c, val_main_call0_v0, select_sge, val_main_v145, val_main_v144, dmixed_at, vn_at, MixBSpec.dwPart, GateSpec.dw]
  split <;> simp only [Finset.sum_const_zero]

theorem dlb_at (g : Fin 6) (j : Fin 128) :
    val_main_v151 (F := Ideal) x0 x2 x6 (ix2 g j) = ∑ t : Fin 64, MixBSpec.dlbPart (proj x0) (mixw x2) (gres x6) t g j := by
  pointwise [val_main_v151, val_main_cst_31, val_main_v150, val_main_v149, val_main_cst_30, dvn_at, MixBSpec.dlbPart, GateSpec.dlb,
    Fin.sum_univ_one, TwoAxes.first]

theorem dlg_at (g : Fin 6) (j : Fin 128) :
    val_main_v157 (F := Ideal) x0 x2 x6 (ix2 g j) = ∑ t : Fin 64, MixBSpec.dlgPart (proj x0) (mixw x2) (gres x6) t g j := by
  pointwise [val_main_v157, val_main_cst_33, val_main_v154, val_main_v153, val_main_cst_32, val_main_v152, nrm_at, dvn_at,
    MixBSpec.dlgPart, GateSpec.dlg, Fin.sum_univ_one, TwoAxes.first]

/-! ## The gradient of the normalised half -/

/-- The gradient of the normalised rows. -/
abbrev back (t : Fin 64) (i : Fin 128) (g : Fin 6) (k : Fin 128) : EReal :=
  GateSpec.dvn (MixBSpec.zu (proj x0) t g) (mixw x2 g) (MixBSpec.dg (gres x6) t g) i k * lane6 x4 g k

/-- The row that is normalised. -/
abbrev acted (t : Fin 64) (i : Fin 128) (g : Fin 6) : Fin 128 → EReal := GateSpec.act (MixBSpec.zv (proj x0) t g) i

theorem back_at (t : Fin 64) (i : Fin 128) (g : Fin 6) (j : Fin 128) :
    val_main_v156 (F := Ideal) x0 x2 x4 x6 (ix4 t i g j) = back x0 x2 x4 x6 t i g j := by
  pointwise [val_main_v156, val_main_v155, val_main_v49, dvn_at]

theorem direct_at (t : Fin 64) (i : Fin 128) (g : Fin 6) (j : Fin 128) :
    val_main_v162 (F := Ideal) x0 x2 x4 x6 (ix4 t i g j)
      = back x0 x2 x4 x6 t i g j * GateSpec.rs (acted x0 t i g) := by
  pointwise [val_main_v162, val_main_v161, back_at, rs_at]

theorem thru_at (t : Fin 64) (i : Fin 128) (g : Fin 6) (j : Fin 128) :
    val_main_v171 (F := Ideal) x0 x2 x4 x6 (ix4 t i g j)
      = GateSpec.thru (acted x0 t i g) (back x0 x2 x4 x6 t i g)
        * (Ideal.ofBits .f32 0x40000000#32 * GateSpec.cen (acted x0 t i g) j) := by
  pointwise [val_main_v171, val_main_v170, val_main_v169, val_main_cst_37, val_main_v168, val_main_v167, val_main_cst_36,
    val_main_v163, val_main_v160, val_main_v159, val_main_cst_34, val_main_v158, val_main_v46, val_main_v45, val_main_cst_12,
    val_main_v44, val_main_v40, val_main_v39, val_main_v34, val_main_v33, val_main_cst_8, cen_at, act_at, mean_at, rs_at, var_at, back_at,
    GateSpec.thru, GateSpec.cen, Fin.sum_univ_one]

theorem dnrm_at (t : Fin 64) (i : Fin 128) (g : Fin 6) (j : Fin 128) :
    val_main_v181 (F := Ideal) x0 x2 x4 x6 (ix4 t i g j) = GateSpec.dnrm (acted x0 t i g) (back x0 x2 x4 x6 t i g) j := by
  pointwise [val_main_v181, val_main_v180, val_main_v179, val_main_cst_40, val_main_v178, val_main_v177, val_main_cst_39,
    val_main_v176, val_main_v175, val_main_v174, val_main_v173, val_main_cst_38, val_main_v172, val_main_v166, val_main_v165,
    val_main_cst_35, val_main_v164, direct_at, thru_at, GateSpec.dnrm, Fin.sum_univ_one]

/-! ## Both halves by row and column -/

/-- The activation's gradient from its result's. -/
theorem dgelu_at (R : Fin 8192) (c : Fin 1536) (dy : EReal)
    (h : val_main_v183 (F := Ideal) x0 x2 x3 x4 x5 x6 (ix2 R c) = dy) :
    val_main_v195 (F := Ideal) x0 x2 x3 x4 x5 x6 (ix2 R c) = GateSpec.dgelu (x0 (ix2 R ⟨c.val, by omega⟩)) dy := by
  pointwise [val_main_v195, val_main_v194, val_main_v193, val_main_v192, val_main_cst_43, val_main_v191, val_main_v190,
    val_main_v189, val_main_cst_42, val_main_v188, val_main_v187, val_main_v186, val_main_cst_41, val_main_v185, val_main_v184,
    val_main_v21, val_main_v20, val_main_cst_5, val_main_v19, val_main_v18, val_main_cst_4, val_main_v17, val_main_v16, val_main_cst_3,
    val_main_v14, val_main_v13, val_main_cst_2, val_main_v15, val_main_v6, val_main_v5, val_main_cst, val_main_v4, val_main_v0, th_at, h,
    GateSpec.dgelu, GateSpec.inner]

theorem du_at (R : Fin 8192) (c : Fin 768) :
    val_main_v183 (F := Ideal) x0 x2 x3 x4 x5 x6 (ix2 R ⟨c.val, by omega⟩)
      = gres x6 R ⟨c.val, by omega⟩ * GateSpec.mixed (MixBSpec.zv (proj x0) ⟨R.val / 128, by omega⟩ ⟨c.val / 128, by omega⟩)
          (mixw x2 ⟨c.val / 128, by omega⟩) (lane6 x3 ⟨c.val / 128, by omega⟩) (lane6 x4 ⟨c.val / 128, by omega⟩)
          (lane6 x5 ⟨c.val / 128, by omega⟩) ⟨R.val % 128, by omega⟩ ⟨c.val % 128, by omega⟩ := by
  pointwise [val_main_v183, val_main_v138, val_main_v108, val_main_v66, mixed_at]

theorem dv_at (R : Fin 8192) (c : Fin 768) :
    val_main_v183 (F := Ideal) x0 x2 x3 x4 x5 x6 (ix2 R ⟨768 + c.val, by omega⟩)
      = GateSpec.dnrm (acted x0 ⟨R.val / 128, by omega⟩ ⟨R.val % 128, by omega⟩ ⟨c.val / 128, by omega⟩)
          (back x0 x2 x4 x6 ⟨R.val / 128, by omega⟩ ⟨R.val % 128, by omega⟩ ⟨c.val / 128, by omega⟩) ⟨c.val % 128, by omega⟩ := by
  pointwise [val_main_v183, val_main_v182, dnrm_at]

end Cert.MixBRefIdeal.Read

end
-- ==== Proof.MixBRefMem.lean ====
/- The memory attention's gradient, as the reference of the gated mixer computes it. -/
module

public import proofs.«01_k».proof.Proof.MixBRef

@[expose] public section

set_option maxRecDepth 16384

noncomputable section

namespace Cert.MixBRefIdeal.Read

open Cert.MixBRefIdeal Cert.MixBRefIdeal.Gen Idealize.ShloMosaic Idealize.ShloMosaic.TcCoe Idealize.SL.Sem
open Cert

variable (x0 : FVec Ideal S8192x1792 .f32) (x1 : FVec Ideal S256x512 .f32) (x6 : FVec Ideal S8192x1024 .f32)

/-- The bit pattern of minus infinity. -/
theorem ofBits_neg_inf : Ideal.ofBits .f32 0xFF800000#32 = ⊥ := by
  simp [Ideal.ofBits, Ideal.ieee]

theorem q_at (R : Fin 8192) (h : Fin 4) (l : Fin 64) :
    val_main_v68 (F := Ideal) x0 (ix3 R h l) = MixBSpec.query (proj x0) h R l := by
  pointwise [val_main_v68, val_main_v1, MixBSpec.query]
  simp only [Nat.mul_comm _ 64, Nat.add_assoc]

theorem k_at (r : Fin 256) (h : Fin 4) (l : Fin 64) :
    val_main_v71 (F := Ideal) x1 (ix3 r h l) = MixBSpec.key (memo x1) h r l := by
  pointwise [val_main_v71, val_main_v69, MixBSpec.key]
  simp only [Nat.mul_comm _ 64, Nat.add_assoc]

theorem v_at (r : Fin 256) (h : Fin 4) (l : Fin 64) :
    val_main_v72 (F := Ideal) x1 (ix3 r h l) = MixBSpec.val (memo x1) h r l := by
  pointwise [val_main_v72, val_main_v70, MixBSpec.val]
  simp only [Nat.mul_comm _ 64, Nat.add_assoc]

theorem d_at (R : Fin 8192) (h : Fin 4) (l : Fin 64) :
    val_main_v111 (F := Ideal) x6 (ix3 h l R) = MixBSpec.dres (gres x6) h R l := by
  pointwise [val_main_v111, val_main_v110, val_main_v109, MixBSpec.dres]
  simp only [Nat.mul_comm _ 64, Nat.add_assoc]

section Row

variable (h : Fin 4) (R : Fin 8192)

theorem score_at (r : Fin 256) : val_main_v75 (F := Ideal) x0 x1 (ix3 h R r)
    = MemSpec.score (MixBSpec.query (proj x0) h R) (MixBSpec.key (memo x1) h) r := by
  pointwise [val_main_v75, val_main_v74, val_main_cst_14, val_main_v73, q_at, k_at, MemSpec.score]

theorem most_at : val_main_v76 (F := Ideal) x0 x1 (ix2 h R)
    = Finset.univ.fold max (Ideal.ofBits .f32 0xFF800000#32)
        (fun r : Fin 256 => MemSpec.score (MixBSpec.query (proj x0) h R) (MixBSpec.key (memo x1) h) r) := by
  pointwise [val_main_v76, val_main_cst_15, score_at]

theorem top_at : val_main_v83 (F := Ideal) x0 x1 (ix2 h R)
    = MemSpec.top (MixBSpec.query (proj x0) h R) (MixBSpec.key (memo x1) h) := by
  rw [val_main_v83_apply, val_main_v82_apply, most_at, val_main_cst_17]
  unfold MemSpec.top
  generalize MemSpec.score (MixBSpec.query (proj x0) h R) (MixBSpec.key (memo x1) h) = f
  rw [ofBits_neg_inf, Ideal.maximumf_eq_max]
  exact (congrArg (max · _) ofBits_neg_inf).trans (max_bot_left _)

theorem ex_at (r : Fin 256) : val_main_v96 (F := Ideal) x0 x1 (ix3 h R r)
    = MemSpec.ex (MixBSpec.query (proj x0) h R) (MixBSpec.key (memo x1) h) r := by
  pointwise [val_main_v96, val_main_v95, val_main_v94, val_main_v93, score_at, top_at, MemSpec.ex]

theorem den_at : val_main_v97 (F := Ideal) x0 x1 (ix2 h R)
    = MemSpec.den (MixBSpec.query (proj x0) h R) (MixBSpec.key (memo x1) h) := by
  pointwise [val_main_v97, val_main_cst_23, ex_at, MemSpec.den]

theorem weight_at (r : Fin 256) : val_main_v100 (F := Ideal) x0 x1 (ix3 h R r)
    = MemSpec.weight (MixBSpec.query (proj x0) h R) (MixBSpec.key (memo x1) h) r := by
  pointwise [val_main_v100, val_main_v99, val_main_v98, ex_at, den_at, MemSpec.weight]

theorem dweight_at (r : Fin 256) : val_main_v112 (F := Ideal) x1 x6 (ix3 h R r)
    = MemSpec.dweight (MixBSpec.dres (gres x6) h R) (MixBSpec.val (memo x1) h) r := by
  pointwise [val_main_v112, d_at, v_at, MemSpec.dweight]

theorem dscore_at (r : Fin 256) : val_main_v128 (F := Ideal) x0 x1 x6 (ix3 h R r)
    = MemSpec.dscore (MixBSpec.query (proj x0) h R) (MixBSpec.dres (gres x6) h R) (MixBSpec.key (memo x1) h)
        (MixBSpec.val (memo x1) h) r := by
  pointwise [val_main_v128, val_main_v127, val_main_cst_27, val_main_v126, val_main_v125, val_main_v124, val_main_v123, val_main_cst_26,
    val_main_v122, val_main_v121, val_main_v120, val_main_v119, val_main_v118, val_main_cst_25, val_main_v117, val_main_v116,
    val_main_v115, val_main_v103, val_main_v102, val_main_cst_24, val_main_v101, val_main_v98, ex_at, den_at, dweight_at, MemSpec.dscore,
    Fin.sum_univ_one]

end Row

/-- The gradient of the queries. -/
abbrev refQ : Fin 4 → Fin 8192 → Fin 64 → EReal :=
  MemSpec.dquery (MixBSpec.query (proj x0)) (MixBSpec.dres (gres x6)) (MixBSpec.key (memo x1)) (MixBSpec.val (memo x1))

theorem dq_at (R : Fin 8192) (c : Fin 256) : val_main_v136 (F := Ideal) x0 x1 x6 (ix2 R c)
    = refQ x0 x1 x6 ⟨c.val / 64, by omega⟩ R ⟨c.val % 64, by omega⟩ := by
  pointwise [val_main_v136, val_main_v132, val_main_v131, dscore_at, k_at, MemSpec.dquery]

/-- The gradient of the memory's keys and values. -/
theorem dmem_at (r : Fin 256) (c : Fin 512) : val_main_v135 (F := Ideal) x0 x1 x6 (ix2 r c)
    = MixBSpec.dmem
        (MemSpec.dkey (MixBSpec.query (proj x0)) (MixBSpec.dres (gres x6)) (MixBSpec.key (memo x1)) (MixBSpec.val (memo x1)))
        (MemSpec.dval (MixBSpec.query (proj x0)) (MixBSpec.dres (gres x6)) (MixBSpec.key (memo x1))) r c := by
  pointwise [val_main_v135, val_main_v134, val_main_v133, val_main_v130, val_main_v129, val_main_v114, val_main_v113, dscore_at,
    weight_at, q_at, d_at, MemSpec.dkey, MemSpec.dval, MixBSpec.dmem]
  split
  · rfl
  · next h =>
    have e : (c.val - 256) % 64 = c.val % 64 := by omega
    simp only [e]

/-! ## The gradient of the projection -/

variable (x2 : FVec Ideal S6x128x128 .f32) (x3 x4 x5 : FVec Ideal S6x128 .f32)

theorem rowAt_div (R : Fin 8192) : MixBSpec.rowAt ⟨R.val / 128, by omega⟩ ⟨R.val % 128, by omega⟩ = R :=
  Fin.ext (by change 128 * (R.val / 128) + R.val % 128 = R.val; omega)

/-- The columns of both halves. -/
theorem gate_col (R : Fin 8192) (c : Fin 1536) :
    val_main_v197 (F := Ideal) x0 x1 x2 x3 x4 x5 x6 (ix2 R ⟨c.val, by omega⟩)
      = val_main_v195 (F := Ideal) x0 x2 x3 x4 x5 x6 (ix2 R c) := by
  pointwise [val_main_v197, val_main_v196]

/-- The columns of the queries. -/
theorem query_col (R : Fin 8192) (c : Fin 256) :
    val_main_v197 (F := Ideal) x0 x1 x2 x3 x4 x5 x6 (ix2 R ⟨1536 + c.val, by omega⟩)
      = val_main_v136 (F := Ideal) x0 x1 x6 (ix2 R c) := by
  pointwise [val_main_v197, val_main_v196]

theorem dproj_at (R : Fin 8192) (k : Fin 1792) :
    val_main_v197 (F := Ideal) x0 x1 x2 x3 x4 x5 x6 (ix2 R k)
      = MixBSpec.dprojAt (proj x0) (mixw x2) (lane6 x3) (lane6 x4) (lane6 x5) (gres x6) (refQ x0 x1 x6) R k := by
  unfold MixBSpec.dprojAt MixBSpec.dproj
  by_cases h : k.val < 1536
  · refine (gate_col x0 x1 x6 x2 x3 x4 x5 R ⟨k.val, h⟩).trans ?_
    by_cases h' : k.val < 768
    · rw [dif_pos (by change k.val / 128 < 6; omega)]
      refine (dgelu_at x0 x2 x3 x4 x5 x6 R ⟨k.val, h⟩ _ (du_at x0 x2 x3 x4 x5 x6 R ⟨k.val, h'⟩)).trans ?_
      unfold MixBSpec.dzu GateSpec.dzu MixBSpec.zu MixBSpec.dg
      have e : (⟨128 * (k.val / 128) + k.val % 128, by omega⟩ : Fin 1792) = k := Fin.ext (by change 128 * (k.val / 128) + k.val % 128 = k.val; omega)
      have e' : (⟨128 * (k.val / 128) + k.val % 128, by omega⟩ : Fin 1024) = ⟨k.val, by omega⟩ :=
        Fin.ext (by change 128 * (k.val / 128) + k.val % 128 = k.val; omega)
      rw [rowAt_div, e, e']
    · have e : (⟨768 + 128 * (k.val / 128 - 6) + k.val % 128, by omega⟩ : Fin 1792) = k :=
        Fin.ext (by change 768 + 128 * (k.val / 128 - 6) + k.val % 128 = k.val; omega)
      rw [dif_neg (by change ¬ k.val / 128 < 6; omega), dif_pos (by change k.val / 128 < 12; omega)]
      have hk : (⟨768 + (k.val - 768), by omega⟩ : Fin 1536) = ⟨k.val, h⟩ := Fin.ext (by change 768 + (k.val - 768) = k.val; omega)
      have hv := dv_at x0 x2 x3 x4 x5 x6 R ⟨k.val - 768, by omega⟩
      have e1 : (⟨(k.val - 768) / 128, by omega⟩ : Fin 6) = ⟨k.val / 128 - 6, by omega⟩ := Fin.ext (by change (k.val - 768) / 128 = k.val / 128 - 6; omega)
      have e2 : (⟨(k.val - 768) % 128, by omega⟩ : Fin 128) = ⟨k.val % 128, by omega⟩ := Fin.ext (by change (k.val - 768) % 128 = k.val % 128; omega)
      rw [hk, e1, e2] at hv
      refine (dgelu_at x0 x2 x3 x4 x5 x6 R ⟨k.val, h⟩ _ hv).trans ?_
      unfold MixBSpec.dzv GateSpec.dzv
      congr 1
      unfold MixBSpec.zv
      rw [rowAt_div, e]
  · have hk : (⟨1536 + (k.val - 1536), by omega⟩ : Fin 1792) = k := Fin.ext (by change 1536 + (k.val - 1536) = k.val; omega)
    have hv := (query_col x0 x1 x6 x2 x3 x4 x5 R ⟨k.val - 1536, by omega⟩).trans (dq_at x0 x1 x6 R ⟨k.val - 1536, by omega⟩)
    rw [hk] at hv
    rw [hv, dif_neg (by change ¬ k.val / 128 < 6; omega), dif_neg (by change ¬ k.val / 128 < 12; omega), rowAt_div]
    have e1 : (⟨(k.val - 1536) / 64, by omega⟩ : Fin 4) = ⟨2 * (k.val / 128 - 12) + k.val % 128 / 64, by omega⟩ :=
      Fin.ext (by change (k.val - 1536) / 64 = 2 * (k.val / 128 - 12) + k.val % 128 / 64; omega)
    have e2 : (⟨(k.val - 1536) % 64, by omega⟩ : Fin 64) = ⟨k.val % 128 % 64, by omega⟩ :=
      Fin.ext (by change (k.val - 1536) % 64 = k.val % 128 % 64; omega)
    rw [e1, e2]

/-! ## The small results with the padding they are returned in -/

theorem zero_word : FloatOps.sitofp (F := Ideal) .f32 0#32 = (0 : EReal) := by
  change (((0#32 : BitVec 32).toInt : ℝ) : EReal) = 0
  simp

theorem db_padded (i s : Fin 128) : val_main_v199 (F := Ideal) x0 x6 (ix2 i s)
    = MixBSpec.picked s.val fun g => ∑ t : Fin 64, MixBSpec.dbPart (proj x0) (gres x6) t g i := by
  pointwise [val_main_v199, val_main_call3_v0, val_main_c_44, db_at, MixBSpec.picked, zero_word]

theorem dlg_padded (g : Fin 8) (j : Fin 128) : val_main_v200 (F := Ideal) x0 x2 x6 (ix2 g j)
    = MixBSpec.picked g.val fun g => ∑ t : Fin 64, MixBSpec.dlgPart (proj x0) (mixw x2) (gres x6) t g j := by
  pointwise [val_main_v200, val_main_call4_v0, val_main_c_45, dlg_at, MixBSpec.picked, zero_word]

theorem dlb_padded (g : Fin 8) (j : Fin 128) : val_main_v201 (F := Ideal) x0 x2 x6 (ix2 g j)
    = MixBSpec.picked g.val fun g => ∑ t : Fin 64, MixBSpec.dlbPart (proj x0) (mixw x2) (gres x6) t g j := by
  pointwise [val_main_v201, val_main_call5_v0, val_main_c_46, dlb_at, MixBSpec.picked, zero_word]

end Cert.MixBRefIdeal.Read

end
-- ==== Proof.MixBPre.lean ====
/- What the precondition of the gated mixer's gradient says: every query and every key of the memory is a real number. -/
module

public import proofs.«01_k».proof.Pre_finite_heads_b
public import proofs.«01_k».proof.Proof.SwigluPre

@[expose] public section

noncomputable section

namespace Cert.Pre_finite_heads_b

open Idealize.ShloMosaic Cert.Reals

instance facts : Facts where
  slices_S8192x1792_S8192x256_0_1536 := by decide
  bcast_S_S8192x256 := by decide
  reducesTo_S8192x256_S_d0_1 := by decide
  h_S_ := by decide
  slices_S256x512_S256x256_0_0 := by decide
  bcast_S_S256x256 := by decide
  reducesTo_S256x256_S_d0_1 := by decide

theorem query_slice (x : FVec Ideal S8192x1792 .f32) (R : Fin 8192) (k : Fin 256) :
    extractStridedSlice S8192x256 ![0, 1536] x Facts.slices_S8192x1792_S8192x256_0_1536 (ix2 R k) = x (ix2 R ⟨1536 + k.val, by omega⟩) := by
  pointwise []

theorem key_slice (x : FVec Ideal S256x512 .f32) (r k : Fin 256) :
    extractStridedSlice S256x256 ![0, 0] x Facts.slices_S256x512_S256x256_0_0 (ix2 r k) = x (ix2 r ⟨k.val, by omega⟩) := by
  pointwise []

theorem reals (x : FVec Ideal S8192x1792 .f32) (kv : FVec Ideal S256x512 .f32) (w : FVec Ideal S6x128x128 .f32)
    (b lg lb : FVec Ideal S6x128 .f32) (d : FVec Ideal S8192x1024 .f32) (h : fn (F := Ideal) x kv w b lg lb d = fun _ => 1#1) :
    (∀ (R : Fin 8192) (k : Fin 256), IsReal (x (ix2 R ⟨1536 + k.val, by omega⟩)))
      ∧ ∀ r k : Fin 256, IsReal (kv (ix2 r ⟨k.val, by omega⟩)) := by
  have h0 := congrFun h (fun d => d.elim0)
  dsimp only [fn] at h0
  obtain ⟨hq, hk⟩ := IntOp.andi_eq_one.1 h0
  have : Subsingleton S_.Idx := ⟨fun a b => funext fun d => d.elim0⟩
  refine ⟨fun R k => ?_, fun r k => ?_⟩
  · rw [← query_slice x R k]
    exact Pre_finite_ffn.real_of_test _ _ _ rfl (Host.reduce_andi_all _ _ _ _ _ hq (ix2 R k))
  · rw [← key_slice kv r k]
    exact Pre_finite_ffn.real_of_test _ _ _ rfl (Host.reduce_andi_all _ _ _ _ _ hk (ix2 r k))

end Cert.Pre_finite_heads_b

end
-- ==== Proof.MixB.lean ====
/- The claims about the gradient of the gated mixer. -/
module

public import proofs.«01_k».proof.Defs
public import proofs.«01_k».proof.Proof.Gen.MixB.Frame
public import proofs.«01_k».proof.Proof.MixBFinal
public import proofs.«01_k».proof.Proof.MixBRefMem
public import proofs.«01_k».proof.Proof.MixBPre
public import Idealize.ShloMosaic.Lib.Claim

@[expose] public section

set_option maxRecDepth 16384

noncomputable section

namespace Cert.Proof.MixB

open Idealize.ShloMosaic Idealize.ShloMosaic.TcCoe Idealize.SL.Sem Cert.MemSpec

theorem frame : Cert.quiescent_MixB := fun m ρ _ => Cert.MixB.Gen.frame m ρ
theorem frame_ideal : Cert.quiescent_MixBIdeal := fun m ρ _ => Cert.MixBIdeal.Gen.frame m ρ
theorem frame_ideal_pre : Cert.quiescent_MixBIdeal_pre_finite_heads_b := fun m ρ _ => Cert.MixBIdeal.Gen.frame m ρ
theorem preserves : Cert.preserves_MixB_MixBIdeal := trivial

theorem frame_ref : Cert.quiescent_MixBRefIdeal := fun m ρ _ =>
  (θ_run Cert.MixBRefIdeal.defs _ _).mono
    (fun r h => ⟨fun c => (h c).2.2.2.2.2.2, Idealize.ShloMosaic.sem_eq_zero_of_no_sems (by decide) r.2⟩)
    (Cert.MixBRefIdeal.Value.run m ρ)

theorem frame_ref_pre : Cert.quiescent_MixBRefIdeal_pre_finite_heads_b := fun m ρ _ => frame_ref m ρ trivial

section Real

variable (m : (ℓ : Loc Cert.MixBIdeal.nD Cert.MixBIdeal.τ Cert.MixBIdeal.sig) → Buf (Elt Ideal) ℓ) (c : Dev Cert.MixBIdeal.nD)
  (hpre : Pre_MixBIdeal_finite_heads_b m)

include hpre

/-- The queries are real. -/
theorem query_real (h : Fin 4) (R : Fin 8192) (l : Fin 64) :
    Reals.IsReal (MixBSpec.query (Cert.MixBIdeal.Value.argP m c) h R l) := by
  have e := (Cert.Pre_finite_heads_b.reals _ _ _ _ _ _ _ (hpre c)).1 R ⟨64 * h.val + l.val, by omega⟩
  have e' : (⟨1536 + (64 * h.val + l.val), by omega⟩ : Fin 1792) = ⟨1536 + 64 * h.val + l.val, by omega⟩ :=
    Fin.ext (Nat.add_assoc _ _ _).symm
  rw [e'] at e
  exact e

/-- The memory's keys are real. -/
theorem key_real (h : Fin 4) (r : Fin 256) (l : Fin 64) :
    Reals.IsReal (MixBSpec.key (Cert.MixBIdeal.Value.argM m c) h r l) :=
  (Cert.Pre_finite_heads_b.reals _ _ _ _ _ _ _ (hpre c)).2 r ⟨64 * h.val + l.val, by omega⟩

end Real

set_option maxHeartbeats 1000000 in
theorem algebraic : Cert.algebraic_MixBIdeal_MixBRefIdeal_pre_finite_heads_b := by
  pair_intro
  · run_from Cert.MixBIdeal.Gen.frame m g & Cert.MixBIdeal.Gen.run_main m g
    all_goals
      simp only [List.flatten_cons, List.flatten_nil, List.append_nil, List.cons_append, List.nil_append]
      after_results
  · run_from Cert.MixBRefIdeal.Value.run m' g'
    all_goals
      obtain ⟨h0, h1, h2, h3, h4, h5, h6⟩ := hagree c
      change StableHlo.launchContents m' c (Proc.tc.devRef Cert.MixBRefIdeal.main_arg0) = _ at h0
      change StableHlo.launchContents m' c (Proc.tc.devRef Cert.MixBRefIdeal.main_arg1) = _ at h1
      change StableHlo.launchContents m' c (Proc.tc.devRef Cert.MixBRefIdeal.main_arg2) = _ at h2
      change StableHlo.launchContents m' c (Proc.tc.devRef Cert.MixBRefIdeal.main_arg3) = _ at h3
      change StableHlo.launchContents m' c (Proc.tc.devRef Cert.MixBRefIdeal.main_arg4) = _ at h4
      change StableHlo.launchContents m' c (Proc.tc.devRef Cert.MixBRefIdeal.main_arg5) = _ at h5
      change StableHlo.launchContents m' c (Proc.tc.devRef Cert.MixBRefIdeal.main_arg6) = _ at h6
      have hq := query_real m c hpre
      have hk := key_real m c hpre
    · rw [Cert.MixBRefIdeal.Read.val_main_v197_eq, h0, h1, h2, h3, h4, h5, h6]
      funext i
      idx_vars i
      refine (Cert.MixBRefIdeal.Read.dproj_at _ _ _ _ _ _ _ i0 i1).trans ?_
      refine Eq.trans ?_ (Cert.MixBIdeal.Value.proj_eq m c i0 i1).symm
      rw [dquery_eq hq hk]
    · rw [Cert.MixBRefIdeal.Read.val_main_v148_eq, h0, h4, h5, h6]
      funext i
      idx_vars i
      exact (Cert.MixBRefIdeal.Read.dw_at _ _ _ _ i0 i1 i2).trans (Cert.MixBIdeal.Value.weights_eq m c i0 i1 i2).symm
    · rw [Cert.MixBRefIdeal.Read.val_main_v199_eq, h0, h6]
      funext i
      idx_vars i
      exact (Cert.MixBRefIdeal.Read.db_padded _ _ i0 i1).trans (Cert.MixBIdeal.Value.bias_eq m c i0 i1).symm
    · rw [Cert.MixBRefIdeal.Read.val_main_v200_eq, h0, h2, h6]
      funext i
      idx_vars i
      exact (Cert.MixBRefIdeal.Read.dlg_padded _ _ _ i0 i1).trans (Cert.MixBIdeal.Value.gain_eq m c i0 i1).symm
    · rw [Cert.MixBRefIdeal.Read.val_main_v201_eq, h0, h2, h6]
      funext i
      idx_vars i
      exact (Cert.MixBRefIdeal.Read.dlb_padded _ _ _ i0 i1).trans (Cert.MixBIdeal.Value.shift_eq m c i0 i1).symm
    · rw [Cert.MixBRefIdeal.Read.val_main_v135_eq, h0, h1, h6]
      funext i
      idx_vars i
      refine (Cert.MixBRefIdeal.Read.dmem_at _ _ _ i0 i1).trans ?_
      refine Eq.trans ?_ (Cert.MixBIdeal.Value.memory_eq m c i0 i1).symm
      rw [dkey_eq hq hk, dval_eq hq hk]

end Cert.Proof.MixB

end
-- ==== Proof.MixAIdealFrame.lean ====
/- The frame of the kernel of mixer A's backward call (MixAIdeal): what its outputs and the carried buffer hold
   after every point of the grid, and the run of the whole program.  This is the generated module
   `Gen/MixAIdeal/Frame.lean` with two lemmas (`outsAt0_A`, `outsAt0_B`) given a larger limit, without which
   they are not accepted. -/
module

public import proofs.«01_k».proof.Proof.Gen.MixAIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.MixAIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section CaseA

/-! ## The pieces of case A -/

variable (c : Dev nD) (i : grid0.Coords) (arg1 : Memref sig .tc .vmem S128x768 .bf16) (harg1 : arg1.IsWhole)
  (arg2 : Memref sig .tc .vmem S128x128 .bf16) (harg2 : arg2.IsWhole) (arg3 : Memref sig .tc .vmem S128x128 .bf16)
  (harg3 : arg3.IsWhole) (arg4 : Memref sig .tc .vmem S128x128 .bf16) (harg4 : arg4.IsWhole)
  (arg5 : Memref sig .tc .vmem S128x128 .bf16) (harg5 : arg5.IsWhole) (arg6 : Memref sig .tc .vmem S128x256 .bf16)
  (harg6 : arg6.IsWhole) (arg7 : Memref sig .tc .vmem S16x128 .f32) (harg7 : arg7.IsWhole)
  (arg8 : Memref sig .tc .vmem S256x256 .bf16) (harg8 : arg8.IsWhole) (arg9 : Memref sig .tc .vmem S256x256 .bf16)
  (harg9 : arg9.IsWhole) (arg10 : Memref sig .tc .vmem S128x1024 .f32) (harg10 : arg10.IsWhole)
  (arg11 : Memref sig .tc .vmem S128x1280 .bf16) (harg11 : arg11.IsWhole) (arg12 : Memref sig .tc .vmem S16x128 .f32)
  (harg12 : arg12.IsWhole) (arg13 : Memref sig .tc .vmem S256x512 .f32) (harg13 : arg13.IsWhole)
  (arg14 : Memref sig .tc .vmem S128x256 .f32) (harg14 : arg14.IsWhole) (hc0 : cond0_0 i) (x0 : Vec F S128x768 .bf16)
  (x1 : Vec F S128x128 .bf16) (x2 : Vec F S128x128 .bf16) (x3 : Vec F S128x128 .bf16) (x4 : Vec F S128x128 .bf16)
  (x5 : Vec F S128x256 .bf16) (x6 : Vec F S16x128 .f32) (x7 : Vec F S256x256 .bf16) (x8 : Vec F S256x256 .bf16)
  (x9 : Vec F S128x1024 .f32)

/-- Case A's pieces for output 10 tile its block and so cover it. -/
theorem cover0_A_10 (y : S128x1280.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1 S128x1280.size (by sl_kernel_rfl) y

/-- What case A leaves in output 10's staging buffer: its pieces read back over junk. -/
def out0_A_10 : Vec F S128x1280 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1)

/-- Case A's pieces for output 11 tile its block and so cover it. -/
theorem cover0_A_11 (y : S16x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1 S16x128.size (by sl_kernel_rfl) y

/-- What case A leaves in output 11's staging buffer: its pieces read back over junk. -/
def out0_A_11 : Vec F S16x128 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1)

/-- Case A's pieces for output 12 tile its block and so cover it. -/
theorem cover0_A_12 (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1 S256x512.size (by sl_kernel_rfl) y

/-- What case A leaves in output 12's staging buffer: its pieces read back over junk. -/
def out0_A_12 : Vec F S256x512 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1)

/-- Case A's pieces for scratch `arg14`, which the kernel carries between points, cover it: 2 pieces of `S128x256` tiling it (Lib/Ring.lean `Piece.tiledL`). -/
theorem scover0_A_0 (y : S128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.2.1 S128x256.size (by sl_kernel_rfl) y

/-- What case A leaves in scratch `arg14`: its pieces read back over junk. -/
def sout0_A_0 : Vec F S128x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.2.1)

end CaseA

section CaseB

/-! ## The pieces of case B -/

variable (c : Dev nD) (i : grid0.Coords) (arg1 : Memref sig .tc .vmem S128x768 .bf16) (harg1 : arg1.IsWhole)
  (arg2 : Memref sig .tc .vmem S128x128 .bf16) (harg2 : arg2.IsWhole) (arg3 : Memref sig .tc .vmem S128x128 .bf16)
  (harg3 : arg3.IsWhole) (arg4 : Memref sig .tc .vmem S128x128 .bf16) (harg4 : arg4.IsWhole)
  (arg5 : Memref sig .tc .vmem S128x128 .bf16) (harg5 : arg5.IsWhole) (arg6 : Memref sig .tc .vmem S128x256 .bf16)
  (harg6 : arg6.IsWhole) (arg7 : Memref sig .tc .vmem S16x128 .f32) (harg7 : arg7.IsWhole)
  (arg8 : Memref sig .tc .vmem S256x256 .bf16) (harg8 : arg8.IsWhole) (arg9 : Memref sig .tc .vmem S256x256 .bf16)
  (harg9 : arg9.IsWhole) (arg10 : Memref sig .tc .vmem S128x1024 .f32) (harg10 : arg10.IsWhole)
  (arg11 : Memref sig .tc .vmem S128x1280 .bf16) (harg11 : arg11.IsWhole) (arg12 : Memref sig .tc .vmem S16x128 .f32)
  (harg12 : arg12.IsWhole) (arg13 : Memref sig .tc .vmem S256x512 .f32) (harg13 : arg13.IsWhole)
  (arg14 : Memref sig .tc .vmem S128x256 .f32) (harg14 : arg14.IsWhole) (hc0 : ¬cond0_0 i) (x0 : Vec F S128x768 .bf16)
  (x1 : Vec F S128x128 .bf16) (x2 : Vec F S128x128 .bf16) (x3 : Vec F S128x128 .bf16) (x4 : Vec F S128x128 .bf16)
  (x5 : Vec F S128x256 .bf16) (x6 : Vec F S16x128 .f32) (x7 : Vec F S256x256 .bf16) (x8 : Vec F S256x256 .bf16)
  (x9 : Vec F S128x1024 .f32) (xo11 : Vec F S16x128 .f32) (xo12 : Vec F S256x512 .f32) (xs0 : Vec F S128x256 .f32)

/-- Case B's pieces for output 10 tile its block and so cover it. -/
theorem cover0_B_10 (y : S128x1280.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xs0).1 S128x1280.size (by sl_kernel_rfl) y

/-- What case B leaves in output 10's staging buffer: its pieces read back over junk. -/
def out0_B_10 : Vec F S128x1280 .bf16 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xs0).1)

/-- Case B's pieces for output 11 tile its block and so cover it. -/
theorem cover0_B_11 (y : S16x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xs0).2.1 S16x128.size (by sl_kernel_rfl) y

/-- What case B leaves in output 11's staging buffer: its pieces read back over junk. -/
def out0_B_11 : Vec F S16x128 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xs0).2.1)

/-- Case B's pieces for output 12 tile its block and so cover it. -/
theorem cover0_B_12 (y : S256x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xs0).2.2.1 S256x512.size (by sl_kernel_rfl) y

/-- What case B leaves in output 12's staging buffer: its pieces read back over junk. -/
def out0_B_12 : Vec F S256x512 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xs0).2.2.1)

/-- Case B's pieces for scratch `arg14`, which the kernel carries between points, cover it: 1 piece of `S128x256` tiling it (Lib/Ring.lean `Piece.tiledL`). -/
theorem scover0_B_0 (y : S128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xs0).2.2.2.1 S128x256.size (by sl_kernel_rfl) y

/-- What case B leaves in scratch `arg14`: its pieces read back over junk. -/
def sout0_B_0 : Vec F S128x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xs0).2.2.2.1)

end CaseB

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x1280 .bf16 × Vec F S16x128 .f32 × Vec F S256x512 .f32 × Vec F S128x256 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 64 = 0 then
      (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
    else
      (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2.1 (outsAt0 c n (Nat.lt_of_succ_lt hn)).2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2.1 (outsAt0 c n (Nat.lt_of_succ_lt hn)).2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2.1 (outsAt0 c n (Nat.lt_of_succ_lt hn)).2.2.2)

set_option maxHeartbeats 4000000 in
/-- `outsAt0` at a point of case A: that case's contents. -/
theorem outsAt0_A (c : Dev nD) (t : Fin cfg0.N) (h0 : t.val % 64 = 0) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans rfl

set_option maxHeartbeats 4000000 in
/-- `outsAt0` at a point of case B: that case's contents, over what the point before left. -/
theorem outsAt0_B (c : Dev nD) (t : Fin cfg0.N) (h0 : ¬t.val % 64 = 0) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
/-- At a point of case B output 11's current staging buffer holds what the body left at the point before: the point is
    not the first, the buffer was not written back between (`flush0_11`), the window is live and uncut (Lib/Pipeline/Frame.lean
    `Dat.before_out_kept`). -/
theorem before0_11_B (c : Dev nD) (t : Fin cfg0.N) (h0 : ¬t.val % 64 = 0) (d) :
    (dats m 0 c).before 11 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 11 rfl t (by omega) (Bool.eq_false_iff.mpr fun h => by have := (flush0_11 _).mp h; dsimp only at this; omega)
    (fun _ => rfl) (fun _ _ => rfl)]
  dsimp only [dats]
/-- At a point of case B output 12's current staging buffer holds what the body left at the point before: the point is
    not the first, the buffer was not written back between (`flush0_12`), the window is live and uncut (Lib/Pipeline/Frame.lean
    `Dat.before_out_kept`). -/
theorem before0_12_B (c : Dev nD) (t : Fin cfg0.N) (h0 : ¬t.val % 64 = 0) (d) :
    (dats m 0 c).before 12 t d = (outsAt0 m c (t.val - 1) (Nat.lt_of_le_of_lt (Nat.sub_le _ _) t.isLt)).2.2.1 := by
  have hN : t.val < 64 := lt_of_lt_of_eq t.isLt (show cfg0.N = 64 from N_0)
  rw [Dat.before_out_kept _ 12 rfl t (by omega) (Bool.eq_false_iff.mpr fun h => by have := (flush0_12 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold out0_A_10 out0_A_11 out0_A_12 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [HS0]; · iexact HS0
      iintro ⟨H0, H1, H2, H3, H4, H5, H6, H7, H8, H9, ⟨%e10, H10⟩, ⟨%e11, H11⟩, ⟨%e12, H12⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      simp only [before0_11_B m c t h0, before0_12_B m c t h0]
      unfold out0_B_10 out0_B_11 out0_B_12 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ _ _ (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [HS0]; · iexact HS0
      iintro ⟨H0, H1, H2, H3, H4, H5, H6, H7, H8, H9, ⟨%e10, H10⟩, ⟨%e11, H11⟩, ⟨%e12, H12⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_MixAIdeal`'s statement (Defs.lean) at any `F` — Proof.lean cites it at `Bits`:
    `theorem Cert.Proof.claim : Cert.Claim := ⟨Cert.MixAIdeal.Gen.facts, fun m ρ _ => Cert.MixAIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.MixAIdeal.Gen

end
-- ==== Proof.SwaSpec.lean ====
/- The gradient of the sliding window attention with a sink, one query row of one head at a time, over the extended
   reals: 256 rows of keys, a part of them out of the row's window, and one more score, the head's sink, that has no value.
   The two ways of writing it, and that they agree on real numbers. No program is named here. -/
module

public import proofs.«01_k».proof.Proof.MemSpec

@[expose] public section

noncomputable section

namespace Cert.SwaSpec

open Idealize.ShloMosaic Cert.Reals

section Row

variable (M : Fin 256 → Bool) (q d : Fin 64 → EReal) (k v : Fin 256 → Fin 64 → EReal) (z : EReal)

/-- The scaled score of one key, minus infinity out of the window. -/
def score (m : Fin 256) : EReal :=
  if M m then (∑ l : Fin 64, q l * k m l) * Ideal.ofBits .f32 0x3E000000#32 else ⊥

/-- The largest score of a key. -/
def peak : EReal := Finset.univ.fold max (⊥ : EReal) (score M q k)

/-- The largest score, the sink's among them. -/
def top : EReal := max (peak M q k) z

/-- The exponential of a score less the largest. -/
def ex (m : Fin 256) : EReal := Ideal.exp (score M q k m - top M q k z)

/-- The exponential of the sink less the largest score. -/
def exs : EReal := Ideal.exp (z - top M q k z)

/-- The sum of the exponentials. -/
def den : EReal := (∑ m : Fin 256, ex M q k z m) + exs M q k z

/-- The gradient of a weight, where `d` is the gradient of the head's result. -/
def dweight (m : Fin 256) : EReal := ∑ l : Fin 64, d l * v m l

/-! By way of the reciprocal of the sum, the largest score held constant. -/

def weight' (m : Fin 256) : EReal := ex M q k z m * Ideal.div 1 (den M q k z)

/-- The gradient of the sum. -/
def dden' : EReal :=
  -((∑ n : Fin 256, ex M q k z n * dweight d v n) * Ideal.div 1 (den M q k z * den M q k z))

/-- The gradient of a score. -/
def dscore' (m : Fin 256) : EReal :=
  (if M m then (dweight d v m * Ideal.div 1 (den M q k z) + dden' M q d k v z) * ex M q k z m else 0)
    * Ideal.ofBits .f32 0x3E000000#32

/-- The gradient of the sink. -/
def dsink' : EReal := dden' M q d k v z * exs M q k z

/-! By quotients, and with the gradient that reaches the largest score. -/

def weight (m : Fin 256) : EReal := Ideal.div (ex M q k z m) (den M q k z)

def dden : EReal :=
  -(∑ n : Fin 256, dweight d v n * Ideal.div 1 (den M q k z * den M q k z) * ex M q k z n)

/-- The gradient of a score less the largest. -/
def dshift (m : Fin 256) : EReal :=
  (Ideal.div (dweight d v m) (den M q k z) + dden M q d k v z) * ex M q k z m

/-- The gradient of the largest score. -/
def dtop : EReal := -(dden M q d k v z * exs M q k z) + ∑ m : Fin 256, -dshift M q d k v z m

/-- One where a score is the largest of the keys'. -/
def hit (m : Fin 256) : EReal := if score M q k m = peak M q k then 1 else 0

/-- The part of the gradient of a maximum that the first of two arguments gets. -/
def part (a b : EReal) : EReal := if b < a then 1 else if a = b then Ideal.ofBits .f32 0x3F000000#32 else 0

def dscore (m : Fin 256) : EReal :=
  (if M m then dshift M q d k v z m
      + Ideal.div (dtop M q d k v z * part (peak M q k) z) (∑ n : Fin 256, hit M q k n) * hit M q k m else 0)
    * Ideal.ofBits .f32 0x3E000000#32

end Row

/-! ## Only the window counts -/

section Window

variable {M : Fin 256 → Bool} {q d : Fin 64 → EReal} {k v k' v' : Fin 256 → Fin 64 → EReal} {z : EReal}

theorem score_window (h : ∀ m, M m → k m = k' m) : score M q k = score M q k' := by
  funext m
  unfold score
  split
  · rw [h m ‹_›]
  · rfl

theorem ex_window (h : ∀ m, M m → k m = k' m) : ex M q k z = ex M q k' z := by
  unfold ex top peak; rw [score_window h]

theorem exs_window (h : ∀ m, M m → k m = k' m) : exs M q k z = exs M q k' z := by
  unfold exs top peak; rw [score_window h]

theorem den_window (h : ∀ m, M m → k m = k' m) : den M q k z = den M q k' z := by
  unfold den; rw [ex_window h, exs_window h]

theorem weight_window (h : ∀ m, M m → k m = k' m) : weight' M q k z = weight' M q k' z := by
  funext m; unfold weight'; rw [ex_window h, den_window h]

theorem ex_out {m : Fin 256} (h : ¬M m) : ex M q k z m = 0 := by
  unfold ex score; rw [if_neg h, EReal.bot_sub, Ideal.exp_bot]

theorem dden_window (h : ∀ m, M m → k m = k' m) (hv : ∀ m, M m → v m = v' m) :
    dden' M q d k v z = dden' M q d k' v' z := by
  unfold dden'
  rw [den_window h, ex_window h]
  congr 2
  refine Finset.sum_congr rfl fun n _ => ?_
  by_cases hn : M n
  · unfold dweight; rw [hv n hn]
  · rw [ex_out hn, zero_mul, zero_mul]

theorem dscore_window (h : ∀ m, M m → k m = k' m) (hv : ∀ m, M m → v m = v' m) :
    dscore' M q d k v z = dscore' M q d k' v' z := by
  funext m
  unfold dscore'
  rw [dden_window h hv, ex_window h, den_window h]
  by_cases hm : M m
  · unfold dweight; rw [hv m hm]
  · rw [if_neg hm, if_neg hm]

theorem dsink_window (h : ∀ m, M m → k m = k' m) (hv : ∀ m, M m → v m = v' m) :
    dsink' M q d k v z = dsink' M q d k' v' z := by
  unfold dsink'; rw [dden_window h hv, exs_window h]

theorem dscore_out {m : Fin 256} (h : ¬M m) : dscore' M q d k v z m = 0 := by
  unfold dscore'; rw [if_neg h, zero_mul]

theorem weight_out {m : Fin 256} (h : ¬M m) : weight' M q k z m = 0 := by
  unfold weight'; rw [ex_out h, zero_mul]

end Window

/-! ## Real arguments: the two ways agree -/

section Row

variable {M : Fin 256 → Bool} {q d : Fin 64 → EReal} {k v : Fin 256 → Fin 64 → EReal} {z : EReal}

theorem score_cases (hq : ∀ l, IsReal (q l)) (hk : ∀ m l, IsReal (k m l)) (m : Fin 256) :
    IsReal (score M q k m) ∨ score M q k m = ⊥ := by
  unfold score
  split
  · exact .inl (MemSpec.score_real hq hk m)
  · exact .inr rfl

theorem fold_cases {ι : Type} (s : Finset ι) {f : ι → EReal} (h : ∀ i, IsReal (f i) ∨ f i = ⊥) :
    IsReal (s.fold max (⊥ : EReal) f) ∨ s.fold max (⊥ : EReal) f = ⊥ := by
  classical
  induction s using Finset.induction_on with
  | empty => exact .inr rfl
  | insert a s ha ih =>
    rw [Finset.fold_insert ha]
    rcases max_choice (f a) (s.fold max (⊥ : EReal) f) with e | e <;> rw [e]
    · exact h a
    · exact ih

theorem top_real (hq : ∀ l, IsReal (q l)) (hk : ∀ m l, IsReal (k m l)) (hz : IsReal z) : IsReal (top M q k z) := by
  unfold top
  rcases fold_cases Finset.univ (score_cases (M := M) hq hk) with h | h
  · rcases max_choice (peak M q k) z with e | e <;> rw [e]
    · exact h
    · exact hz
  · rw [show peak M q k = ⊥ from h, max_bot_left]; exact hz

/-- Everything is a real number, and the sum of the exponentials a positive one. -/
theorem reals (hq : ∀ l, IsReal (q l)) (hk : ∀ m l, IsReal (k m l)) (hz : IsReal z) :
    ∃ (e : Fin 256 → ℝ) (s : ℝ), 0 < ∑ m, e m + s ∧ (∀ m, ex M q k z m = (e m : EReal)) ∧ exs M q k z = (s : EReal)
      ∧ den M q k z = ((∑ m, e m + s : ℝ) : EReal) := by
  have he : ∀ m, ∃ r : ℝ, 0 ≤ r ∧ ex M q k z m = (r : EReal) := fun m => by
    rcases score_cases (M := M) hq hk m with h | h
    · obtain ⟨r, hr⟩ := h.sub (top_real hq hk hz)
      exact ⟨Real.exp r, (Real.exp_pos r).le, by rw [ex, hr, Ideal.exp_coe]⟩
    · exact ⟨0, le_rfl, by rw [ex, h, EReal.bot_sub, Ideal.exp_bot]; rfl⟩
  choose e hpos he using he
  obtain ⟨r, hr⟩ := hz.sub (top_real (M := M) hq hk hz)
  have hs : exs M q k z = (Real.exp r : EReal) := by rw [exs, hr, Ideal.exp_coe]
  refine ⟨e, Real.exp r, add_pos_of_nonneg_of_pos (Finset.sum_nonneg fun m _ => hpos m) (Real.exp_pos r), he, hs, ?_⟩
  rw [den, hs, EReal.coe_add, coe_sum]
  exact congrArg (· + _) (Finset.sum_congr rfl fun m _ => he m)

theorem dweight_real (hd : ∀ l, IsReal (d l)) (hv : ∀ m l, IsReal (v m l)) (m : Fin 256) : IsReal (dweight d v m) :=
  IsReal.sum _ fun l _ => (hd l).mul (hv m l)

theorem weight_eq (hq : ∀ l, IsReal (q l)) (hk : ∀ m l, IsReal (k m l)) (hz : IsReal z) (m : Fin 256) :
    weight' M q k z m = weight M q k z m := by
  obtain ⟨e, s, hp, _, _, hD⟩ := reals (M := M) hq hk hz
  rw [weight', weight, hD]
  exact Ideal.mul_one_div (EReal.coe_ne_zero.mpr hp.ne')

theorem dden_eq (hq : ∀ l, IsReal (q l)) (hk : ∀ m l, IsReal (k m l)) (hz : IsReal z) :
    dden' M q d k v z = dden M q d k v z := by
  obtain ⟨e, s, hp, he, _, hD⟩ := reals (M := M) hq hk hz
  have h1 : Ideal.div 1 (((∑ m, e m + s : ℝ) : EReal) * ((∑ m, e m + s : ℝ) : EReal))
      = ((1 / ((∑ m, e m + s) * (∑ m, e m + s)) : ℝ) : EReal) := by
    rw [← EReal.coe_mul, ← EReal.coe_one, div_coe_coe _ (mul_pos hp hp).ne']
  rw [dden', dden, hD, h1, MemSpec.sum_mul_real _ _ (by positivity)]
  congr 1
  refine Finset.sum_congr rfl fun n _ => ?_
  rw [mul_comm (ex M q k z n), mul_right_comm]

/-- No gradient reaches the largest score. -/
theorem dtop_eq (hq : ∀ l, IsReal (q l)) (hd : ∀ l, IsReal (d l)) (hk : ∀ m l, IsReal (k m l))
    (hv : ∀ m l, IsReal (v m l)) (hz : IsReal z) : dtop M q d k v z = 0 := by
  obtain ⟨e, s, hp, he, hs, hD⟩ := reals (M := M) hq hk hz
  choose w hw using dweight_real hd hv
  generalize hS : ∑ m, e m + s = D at hp hD
  have h1 : Ideal.div 1 ((D : EReal) * (D : EReal)) = ((1 / (D * D) : ℝ) : EReal) := by
    rw [← EReal.coe_mul, ← EReal.coe_one, div_coe_coe _ (mul_pos hp hp).ne']
  have h2 : dden M q d k v z = ((-(∑ n, w n * (1 / (D * D)) * e n) : ℝ) : EReal) := by
    rw [dden, hD, h1, EReal.coe_neg, coe_sum]
    congr 1
    exact Finset.sum_congr rfl fun n _ => by rw [hw, he, EReal.coe_mul, EReal.coe_mul]
  have h3 : ∀ m, -dshift M q d k v z m
      = ((-((w m / D + -(∑ n, w n * (1 / (D * D)) * e n)) * e m) : ℝ) : EReal) := fun m => by
    rw [dshift, hD, h2, hw, he, div_coe_coe _ hp.ne', ← EReal.coe_add, ← EReal.coe_mul, ← EReal.coe_neg]
  rw [dtop, h2, hs, Finset.sum_congr rfl fun m _ => h3 m, ← coe_sum, ← EReal.coe_mul, ← EReal.coe_neg, ← EReal.coe_add,
    ← EReal.coe_zero]
  congr 1
  have h4 : ∑ n, w n * (1 / (D * D)) * e n = (∑ n, w n * e n) / (D * D) := by
    rw [Finset.sum_div]; exact Finset.sum_congr rfl fun n _ => by ring
  have h5 : ∑ m, -((w m / D + -(∑ n, w n * (1 / (D * D)) * e n)) * e m)
      = -((∑ n, w n * e n) / D) + (∑ n, w n * e n) / (D * D) * ∑ m, e m := by
    rw [h4]
    generalize (∑ n, w n * e n) / (D * D) = C
    rw [Finset.mul_sum, Finset.sum_div, ← Finset.sum_neg_distrib, ← Finset.sum_add_distrib]
    exact Finset.sum_congr rfl fun n _ => by ring
  have h6 : ∑ m, e m = D - s := by linarith
  rw [h5, h4, h6]
  field_simp
  ring

theorem fold_attained {ι : Type} (s : Finset ι) (hs : s.Nonempty) (f : ι → EReal) :
    ∃ i ∈ s, f i = s.fold max (⊥ : EReal) f := by
  classical
  induction hs using Finset.Nonempty.cons_induction with
  | singleton a => exact ⟨a, Finset.mem_singleton_self a, by rw [Finset.fold_singleton, max_bot_right]⟩
  | cons a s ha hs ih =>
    rw [Finset.fold_cons]
    rcases max_choice (f a) (s.fold max (⊥ : EReal) f) with e | e <;> rw [e]
    · exact ⟨a, Finset.mem_cons_self a s, rfl⟩
    · obtain ⟨i, hi, h⟩ := ih
      exact ⟨i, Finset.mem_cons_of_mem hi, h⟩

/-- The largest score is somewhere. -/
theorem hits_ne : ∑ n : Fin 256, hit M q k n ≠ 0 := by
  obtain ⟨i, hi, h⟩ := fold_attained Finset.univ ⟨0, Finset.mem_univ _⟩ (score M q k)
  have hp : ∀ n ∈ Finset.univ, 0 ≤ hit M q k n := fun n _ => by unfold hit; split <;> simp
  have h1 : (1 : EReal) ≤ ∑ n : Fin 256, hit M q k n := by
    refine le_trans (le_of_eq ?_) (Finset.single_le_sum hp hi)
    exact (if_pos h).symm
  intro h0
  rw [h0] at h1
  exact absurd h1 (by simp)

theorem dscore_eq (hq : ∀ l, IsReal (q l)) (hd : ∀ l, IsReal (d l)) (hk : ∀ m l, IsReal (k m l))
    (hv : ∀ m l, IsReal (v m l)) (hz : IsReal z) (m : Fin 256) : dscore' M q d k v z m = dscore M q d k v z m := by
  obtain ⟨e, s, hp, _, _, hD⟩ := reals (M := M) hq hk hz
  rw [dscore', dscore, dtop_eq hq hd hk hv hz, zero_mul, dden_eq hq hk hz, dshift]
  have h0 : Ideal.div 0 (∑ n : Fin 256, hit M q k n) = 0 := by
    rw [Ideal.div, if_neg hits_ne, zero_mul]
  rw [h0, zero_mul, add_zero, hD, Ideal.mul_one_div (EReal.coe_ne_zero.mpr hp.ne')]

end Row

/-! ## Six heads stacked

Six heads of 64 lanes lie in three slabs of 128 lanes, two heads in each. The stack of all has 768 rows: each head's 128
rows, with the other head's lanes zero. -/

section Stack

/-- The slab of a place in the stack. -/
def slab (c : Fin 768) : Fin 3 := ⟨c.val / 256, by omega⟩

/-- The row of a place in the stack. -/
def row (c : Fin 768) : Fin 128 := ⟨c.val % 128, by omega⟩

/-- The lane of a place in the stack's head. -/
def lane (c : Fin 768) (l : Fin 64) : Fin 128 := ⟨64 * (c.val / 128 % 2) + l.val, by omega⟩

/-- The place in the stack of row `r` of the head that lane `l` of slab `s` belongs to. -/
def place (s : Fin 3) (l r : Fin 128) : Fin 768 := ⟨256 * s.val + 128 * (l.val / 64) + r.val, by omega⟩

/-- The stack of all heads. -/
def stack (x : Fin 3 → Fin 128 → Fin 128 → EReal) (c : Fin 768) (l : Fin 128) : EReal :=
  if (c.val / 128 % 2 = 0 ↔ l.val < 64) then x (slab c) (row c) l else 0

/-- The lanes of one head's row. -/
def head (x : Fin 3 → Fin 128 → Fin 128 → EReal) (c : Fin 768) (l : Fin 64) : EReal := x (slab c) (row c) (lane c l)

/-- The lanes of one head in every row of the keys. -/
def mem (x : Fin 256 → Fin 128 → EReal) (c : Fin 768) (m : Fin 256) (l : Fin 64) : EReal := x m (lane c l)

/-- A sum over all lanes of the stack's row is one over the head's own. -/
theorem sum_stack_lanes (a : Fin 128 → EReal) (x : Fin 3 → Fin 128 → Fin 128 → EReal) (c : Fin 768) :
    ∑ l : Fin 128, a l * stack x c l = ∑ l : Fin 64, a (lane c l) * head x c l := by
  rw [MemSpec.sum_split]
  by_cases h : c.val / 128 % 2 = 0
  · have h1 : ∑ l : Fin 64, a ⟨64 + l.val, by omega⟩ * stack x c ⟨64 + l.val, by omega⟩ = 0 :=
      Finset.sum_eq_zero fun l _ => by rw [stack, if_neg (by simp [h]), mul_zero]
    rw [h1, add_zero]
    refine Finset.sum_congr rfl fun l _ => ?_
    have e : lane c l = ⟨l.val, by omega⟩ := Fin.ext (by simp [lane]; omega)
    rw [stack, if_pos (by simp [h]), head, e]
  · have h1 : ∑ l : Fin 64, a ⟨l.val, by omega⟩ * stack x c ⟨l.val, by omega⟩ = 0 :=
      Finset.sum_eq_zero fun l _ => by rw [stack, if_neg (by simp [h]), mul_zero]
    rw [h1, zero_add]
    refine Finset.sum_congr rfl fun l _ => ?_
    have e : lane c l = ⟨64 + l.val, by omega⟩ := Fin.ext (by simp [lane]; omega)
    rw [stack, if_pos (by simp [h]), head, e]

/-- A sum over the places of the stack, by slabs, halves and rows. -/
theorem sum_places (f : Fin 768 → EReal) :
    ∑ c : Fin 768, f c
    = ∑ s : Fin 3, (∑ r : Fin 128, f ⟨256 * s.val + r.val, by omega⟩ + ∑ r : Fin 128, f ⟨256 * s.val + 128 + r.val, by omega⟩) := by
  have h : ∀ s : Fin 3, (∑ r : Fin 128, f ⟨256 * s.val + r.val, by omega⟩ + ∑ r : Fin 128, f ⟨256 * s.val + 128 + r.val, by omega⟩)
      = ∑ r : Fin 256, f ⟨256 * s.val + r.val, by omega⟩ := fun s => by
    rw [MemSpec.sum_split_rows]
    simp only [Nat.add_assoc]
  rw [Finset.sum_congr rfl fun s _ => h s, ← Finset.sum_product']
  refine Finset.sum_bij' (fun c _ => ((⟨c.val / 256, by omega⟩ : Fin 3), (⟨c.val % 256, by omega⟩ : Fin 256)))
    (fun p _ => ⟨256 * p.1.val + p.2.val, by omega⟩) ?_ ?_ ?_ ?_ ?_
  · intros; simp
  · intros; simp
  · intro c _; exact Fin.ext (by simp; omega)
  · rintro ⟨s, r⟩ _
    refine Prod.ext (Fin.ext ?_) (Fin.ext ?_) <;> simp <;> omega
  · intro c _; congr 1; exact Fin.ext (by simp; omega)

/-- A sum over all places of the stack is one over the rows of the lane's heads. -/
theorem sum_stack_rows (a : Fin 768 → EReal) (x : Fin 3 → Fin 128 → Fin 128 → EReal) (l : Fin 128) :
    ∑ c : Fin 768, a c * stack x c l = ∑ s : Fin 3, ∑ r : Fin 128, a (place s l r) * x s r l := by
  rw [sum_places]
  refine Finset.sum_congr rfl fun s _ => ?_
  by_cases h : l.val < 64
  · have h1 : ∑ r : Fin 128, a ⟨256 * s.val + 128 + r.val, by omega⟩ * stack x ⟨256 * s.val + 128 + r.val, by omega⟩ l = 0 :=
      Finset.sum_eq_zero fun r _ => by rw [stack, if_neg (by simp [h]; omega), mul_zero]
    rw [h1, add_zero]
    refine Finset.sum_congr rfl fun r _ => ?_
    have e : place s l r = ⟨256 * s.val + r.val, by omega⟩ := Fin.ext (by simp [place]; omega)
    have e' : row ⟨256 * s.val + r.val, by omega⟩ = r := Fin.ext (by simp [row]; omega)
    have e'' : slab ⟨256 * s.val + r.val, by omega⟩ = s := Fin.ext (by simp [slab]; omega)
    rw [stack, if_pos (by simp [h]; omega), e, e', e'']
  · have h1 : ∑ r : Fin 128, a ⟨256 * s.val + r.val, by omega⟩ * stack x ⟨256 * s.val + r.val, by omega⟩ l = 0 :=
      Finset.sum_eq_zero fun r _ => by rw [stack, if_neg (by simp [h]; omega), mul_zero]
    rw [h1, zero_add]
    refine Finset.sum_congr rfl fun r _ => ?_
    have e : place s l r = ⟨256 * s.val + 128 + r.val, by omega⟩ := Fin.ext (by simp [place]; omega)
    have e' : row ⟨256 * s.val + 128 + r.val, by omega⟩ = r := Fin.ext (by simp [row]; omega)
    have e'' : slab ⟨256 * s.val + 128 + r.val, by omega⟩ = s := Fin.ext (by simp [slab]; omega)
    rw [stack, if_pos (by simp [h]; omega), e, e', e'']

end Stack

end Cert.SwaSpec

end
-- ==== Proof.MixABlock.lean ====
/- The sliding window attention's part of the mixer's gradient kernel: one chunk and one group of six heads of it, read
   off the kernel's own arithmetic. -/
module

public import proofs.«01_k».proof.Proof.Gen.MixAIdeal.Skeleton
public import proofs.«01_k».proof.Proof.SwaSpec
public import Idealize.ShloMosaic.Lib.Pipeline.ValueKit
public import Idealize.ShloMosaic.Lib.Pointwise
public import Idealize.ShloMosaic.Lib.Claim

@[expose] public section

set_option maxRecDepth 16384

noncomputable section

namespace Cert.MixAIdeal.Value

open Cert.MixAIdeal Cert.MixAIdeal.Gen Idealize.ShloMosaic Idealize.ShloMosaic.TcCoe Cert.SwaSpec

/-- A choice by the half of the lanes. -/
theorem select_slt (l : Fin 128) (a b : EReal) :
    Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide +kernel
  rw [h]
  split <;> rfl

/-- The pattern of minus infinity. -/
theorem ofBits_bot : Ideal.ofBits .f32 0xFF800000#32 = (⊥ : EReal) := by
  simp [Ideal.ofBits, Ideal.ieee]

/-- A choice by a bit. -/
theorem select_bit (w : BitVec 1) (a b : EReal) : Scalar.select w a b = if w = 1#1 then a else b := rfl

/-- The score out of the window. -/
theorem mask_bot : (Named.named Cert.MixAIdeal.κ "mask" 0xF149F2CA#32 : Ideal .f32) = (⊥ : EReal) :=
  rfl

/-- Three slabs by slab, row and lane. -/
abbrev slabs (a b e : FVec Ideal S128x128 .f32) (s : Fin 3) (i j : Fin 128) : EReal := (![a, b, e] s) (ix2 i j)

/-- Keys by row and lane. -/
abbrev rowsAt (x : FVec Ideal S256x128 .f32) (i : Fin 256) (j : Fin 128) : EReal := x (ix2 i j)

theorem stack_low (x : Fin 3 → Fin 128 → Fin 128 → EReal) {c : Fin 768} (l : Fin 128) (s : Fin 3) (r : Fin 128)
    (h : c.val = 256 * s.val + r.val) : stack x c l = if l.val < 64 then x s r l else 0 := by
  have e1 : slab c = s := Fin.ext (by simp [slab]; omega)
  have e2 : row c = r := Fin.ext (by simp [row]; omega)
  have e3 : c.val / 128 % 2 = 0 := by omega
  rw [stack, e1, e2]
  simp [e3]

theorem stack_high (x : Fin 3 → Fin 128 → Fin 128 → EReal) {c : Fin 768} (l : Fin 128) (s : Fin 3) (r : Fin 128)
    (h : c.val = 256 * s.val + 128 + r.val) : stack x c l = if l.val < 64 then 0 else x s r l := by
  have e1 : slab c = s := Fin.ext (by simp [slab]; omega)
  have e2 : row c = r := Fin.ext (by simp [row]; omega)
  have e3 : c.val / 128 % 2 = 1 := by omega
  rw [stack, e1, e2]
  by_cases h' : l.val < 64 <;> simp [e3, h']

/-- The six heads of the stack. -/
theorem six (c : Fin 768) : c.val < 128 ∨ (128 ≤ c.val ∧ c.val < 256) ∨ (256 ≤ c.val ∧ c.val < 384)
    ∨ (384 ≤ c.val ∧ c.val < 512) ∨ (512 ≤ c.val ∧ c.val < 640) ∨ 640 ≤ c.val := by omega

section Group

variable (M : IVec S256x768 1) (a b e d0 d1 d2 : FVec Ideal S128x128 .f32) (K V : FVec Ideal S256x128 .f32)
  (z0 z1 z2 z3 z4 z5 : FVec Ideal S1x1 .f32)

/-- The window of one place of the stack. -/
def win (c : Fin 768) (m : Fin 256) : Bool := decide (M (ix2 m c) = 1#1)

/-- The sink of one place of the stack. -/
def sinkAt (c : Fin 768) : EReal :=
  (![z0, z1, z2, z3, z4, z5] (⟨c.val / 128, by omega⟩ : Fin 6)) (ix2 0 0)

theorem stack_at (c : Fin 768) (l : Fin 128) : k0_pay55 a b e (ix2 c l) = stack (slabs a b e) c l := by
  pointwise [k0_pay55, k0_pay49, k0_pay50, k0_pay51, k0_pay52, k0_pay53, k0_pay54, k0_pay48]
  rcases six c with h | ⟨h, h'⟩ | ⟨h, h'⟩ | ⟨h, h'⟩ | ⟨h, h'⟩ | h <;> simp (disch := omega) only [dif_pos, dif_neg, Nat.sub_sub, Nat.reduceAdd]
  · rw [stack_low _ l 0 ⟨c.val, by omega⟩ (by simp), select_slt]; rfl
  · rw [stack_high _ l 0 ⟨c.val - 128, by omega⟩ (by simp; omega), select_slt]; rfl
  · rw [stack_low _ l 1 ⟨c.val - 256, by omega⟩ (by simp; omega), select_slt]; rfl
  · rw [stack_high _ l 1 ⟨c.val - 384, by omega⟩ (by simp; omega), select_slt]; rfl
  · rw [stack_low _ l 2 ⟨c.val - 512, by omega⟩ (by simp; omega), select_slt]; rfl
  · rw [stack_high _ l 2 ⟨c.val - 640, by omega⟩ (by simp; omega), select_slt]; rfl

/-- The gradients of the results, stacked. -/
def dstack : FVec Ideal S768x128 .f32 :=
  k0_pay174 k0_pay73 d0 (k0_pay171 k0_pay74 k0_pay75 d1 d2) (k0_pay172 k0_pay74 d1) k0_pay173

theorem dstack_at (c : Fin 768) (l : Fin 128) : dstack d0 d1 d2 (ix2 c l) = stack (slabs d0 d1 d2) c l := by
  pointwise [dstack, k0_pay174, k0_pay171, k0_pay172, k0_pay173, k0_pay170, k0_pay73, k0_pay74, k0_pay75, k0_pay72]
  rcases six c with h | ⟨h, h'⟩ | ⟨h, h'⟩ | ⟨h, h'⟩ | ⟨h, h'⟩ | h <;> simp (disch := omega) only [dif_pos, dif_neg, zero_add, add_zero]
  · rw [stack_low _ l 0 ⟨c.val, by omega⟩ (by simp), select_slt]; rfl
  · rw [stack_high _ l 0 ⟨c.val - 128, by omega⟩ (by simp; omega), select_slt]; rfl
  · rw [stack_low _ l 1 ⟨c.val - 256, by omega⟩ (by simp; omega), select_slt]; rfl
  · rw [stack_high _ l 1 ⟨c.val - 384, by omega⟩ (by simp; omega), select_slt]; rfl
  · rw [stack_low _ l 2 ⟨c.val - 512, by omega⟩ (by simp; omega), select_slt]; rfl
  · rw [stack_high _ l 2 ⟨c.val - 640, by omega⟩ (by simp; omega), select_slt]; rfl

/-- The row of the sinks. -/
def zrow : FVec Ideal S1x768 .f32 :=
  k0_pay63 z5 (k0_pay58 z0) (k0_pay59 z1) (k0_pay60 z2) (k0_pay61 z3) (k0_pay62 z4)

theorem zrow_at (c : Fin 768) : zrow z0 z1 z2 z3 z4 z5 (ix2 0 c) = sinkAt z0 z1 z2 z3 z4 z5 c := by
  pointwise [zrow, k0_pay63, k0_pay58, k0_pay59, k0_pay60, k0_pay61, k0_pay62]
  rcases six c with h | ⟨h, h'⟩ | ⟨h, h'⟩ | ⟨h, h'⟩ | ⟨h, h'⟩ | h <;> simp (disch := omega) only [dif_pos, dif_neg]
  · rw [sinkAt, show (⟨c.val / 128, by omega⟩ : Fin 6) = 0 from Fin.ext (by simp; omega)]; rfl
  · rw [sinkAt, show (⟨c.val / 128, by omega⟩ : Fin 6) = 1 from Fin.ext (by simp; omega)]; rfl
  · rw [sinkAt, show (⟨c.val / 128, by omega⟩ : Fin 6) = 2 from Fin.ext (by simp; omega)]; rfl
  · rw [sinkAt, show (⟨c.val / 128, by omega⟩ : Fin 6) = 3 from Fin.ext (by simp; omega)]; rfl
  · rw [sinkAt, show (⟨c.val / 128, by omega⟩ : Fin 6) = 4 from Fin.ext (by simp; omega)]; rfl
  · rw [sinkAt, show (⟨c.val / 128, by omega⟩ : Fin 6) = 5 from Fin.ext (by simp; omega)]; rfl

/-- The scores. -/
def scores : FVec Ideal S256x768 .f32 := k0_pay57 M a b e K

theorem scores_at (m : Fin 256) (c : Fin 768) :
    scores M a b e K (ix2 m c) = score (win M c) (head (slabs a b e) c) (mem (rowsAt K) c) m := by
  pointwise [scores, k0_pay57, k0_pay56, stack_at, sum_stack_lanes]
  rw [select_bit, mask_bot, score]
  simp only [win, decide_eq_true_eq, mul_comm (K _)]
  rfl

/-- The largest score and the sink's. -/
def tops : FVec Ideal S1x768 .f32 :=
  k0_pay64 z5 (scores M a b e K) (k0_pay58 z0) (k0_pay59 z1) (k0_pay60 z2) (k0_pay61 z3) (k0_pay62 z4)

theorem tops_at (c : Fin 768) :
    tops M a b e K z0 z1 z2 z3 z4 z5 (ix2 0 c)
    = top (win M c) (head (slabs a b e) c) (mem (rowsAt K) c) (sinkAt z0 z1 z2 z3 z4 z5 c) := by
  have h : (k0_pay63 z5 (k0_pay58 z0) (k0_pay59 z1) (k0_pay60 z2) (k0_pay61 z3) (k0_pay62 z4) : FVec Ideal S1x768 .f32) (ix2 0 c)
      = sinkAt z0 z1 z2 z3 z4 z5 c := zrow_at z0 z1 z2 z3 z4 z5 c
  pointwise [tops, k0_pay64, scores_at, h, top, peak, ofBits_bot]

/-- The exponentials. -/
def exps : FVec Ideal S256x768 .f32 :=
  k0_pay65 z5 (scores M a b e K) (k0_pay58 z0) (k0_pay59 z1) (k0_pay60 z2) (k0_pay61 z3) (k0_pay62 z4)

theorem exps_at (m : Fin 256) (c : Fin 768) :
    exps M a b e K z0 z1 z2 z3 z4 z5 (ix2 m c)
    = ex (win M c) (head (slabs a b e) c) (mem (rowsAt K) c) (sinkAt z0 z1 z2 z3 z4 z5 c) m := by
  have h := tops_at M a b e K z0 z1 z2 z3 z4 z5 c
  unfold tops at h
  pointwise [exps, k0_pay65, scores_at, h, ex]

/-- The exponentials of the sinks. -/
def sinkExps : FVec Ideal S1x768 .f32 :=
  k0_pay66 z5 (scores M a b e K) (k0_pay58 z0) (k0_pay59 z1) (k0_pay60 z2) (k0_pay61 z3) (k0_pay62 z4)

theorem sinkExps_at (c : Fin 768) :
    sinkExps M a b e K z0 z1 z2 z3 z4 z5 (ix2 0 c)
    = exs (win M c) (head (slabs a b e) c) (mem (rowsAt K) c) (sinkAt z0 z1 z2 z3 z4 z5 c) := by
  have h := tops_at M a b e K z0 z1 z2 z3 z4 z5 c
  unfold tops at h
  have h' : (k0_pay63 z5 (k0_pay58 z0) (k0_pay59 z1) (k0_pay60 z2) (k0_pay61 z3) (k0_pay62 z4) : FVec Ideal S1x768 .f32) (ix2 0 c)
      = sinkAt z0 z1 z2 z3 z4 z5 c := zrow_at z0 z1 z2 z3 z4 z5 c
  pointwise [sinkExps, k0_pay66, h, h', exs]

theorem dens_at (c : Fin 768) :
    (k0_pay67 z5 (scores M a b e K) (k0_pay58 z0) (k0_pay59 z1) (k0_pay60 z2) (k0_pay61 z3) (k0_pay62 z4) : FVec Ideal S1x768 .f32) (ix2 0 c)
    = den (win M c) (head (slabs a b e) c) (mem (rowsAt K) c) (sinkAt z0 z1 z2 z3 z4 z5 c) := by
  have h := fun m => exps_at M a b e K z0 z1 z2 z3 z4 z5 m c
  unfold exps at h
  have h' := sinkExps_at M a b e K z0 z1 z2 z3 z4 z5 c
  unfold sinkExps at h'
  pointwise [k0_pay67, h, h', den]

/-- The reciprocals of the sums of the exponentials. -/
def recips : FVec Ideal S1x768 .f32 :=
  k0_pay68 z5 (scores M a b e K) (k0_pay58 z0) (k0_pay59 z1) (k0_pay60 z2) (k0_pay61 z3) (k0_pay62 z4)

theorem recips_at (c : Fin 768) :
    recips M a b e K z0 z1 z2 z3 z4 z5 (ix2 0 c)
    = Ideal.div 1 (den (win M c) (head (slabs a b e) c) (mem (rowsAt K) c) (sinkAt z0 z1 z2 z3 z4 z5 c)) := by
  pointwise [recips, k0_pay68, dens_at M a b e K z0 z1 z2 z3 z4 z5]

/-- The reciprocals of their squares. -/
def recips2 : FVec Ideal S1x768 .f32 :=
  k0_pay69 z5 (scores M a b e K) (k0_pay58 z0) (k0_pay59 z1) (k0_pay60 z2) (k0_pay61 z3) (k0_pay62 z4)

theorem recips2_at (c : Fin 768) :
    recips2 M a b e K z0 z1 z2 z3 z4 z5 (ix2 0 c)
    = Ideal.div 1 (den (win M c) (head (slabs a b e) c) (mem (rowsAt K) c) (sinkAt z0 z1 z2 z3 z4 z5 c)
        * den (win M c) (head (slabs a b e) c) (mem (rowsAt K) c) (sinkAt z0 z1 z2 z3 z4 z5 c)) := by
  pointwise [recips2, k0_pay69, dens_at M a b e K z0 z1 z2 z3 z4 z5]

/-- The weights. -/
def weights : FVec Ideal S256x768 .bf16 :=
  k0_pay70 z5 (scores M a b e K) (k0_pay58 z0) (k0_pay59 z1) (k0_pay60 z2) (k0_pay61 z3) (k0_pay62 z4)

theorem weights_at (m : Fin 256) (c : Fin 768) :
    weights M a b e K z0 z1 z2 z3 z4 z5 (ix2 m c)
    = weight' (win M c) (head (slabs a b e) c) (mem (rowsAt K) c) (sinkAt z0 z1 z2 z3 z4 z5 c) m := by
  have h := exps_at M a b e K z0 z1 z2 z3 z4 z5 m c
  unfold exps at h
  have h' := recips_at M a b e K z0 z1 z2 z3 z4 z5 c
  unfold recips at h'
  pointwise [weights, k0_pay70, h, h', weight']

/-- The gradient of the values: each key and each lane. -/
def dvals : FVec Ideal S256x128 .f32 :=
  k0_pay175 (weights M a b e K z0 z1 z2 z3 z4 z5) k0_pay73 d0 (k0_pay171 k0_pay74 k0_pay75 d1 d2) (k0_pay172 k0_pay74 d1) k0_pay173

theorem dvals_at (m : Fin 256) (l : Fin 128) :
    dvals M a b e d0 d1 d2 K z0 z1 z2 z3 z4 z5 (ix2 m l)
    = ∑ s : Fin 3, ∑ r : Fin 128, weight' (win M (place s l r)) (head (slabs a b e) (place s l r))
        (mem (rowsAt K) (place s l r)) (sinkAt z0 z1 z2 z3 z4 z5 (place s l r)) m * slabs d0 d1 d2 s r l := by
  have h := fun c => dstack_at d0 d1 d2 c l
  unfold dstack at h
  refine Eq.trans ?_ (sum_stack_rows (fun c => weight' (win M c) (head (slabs a b e) c) (mem (rowsAt K) c)
    (sinkAt z0 z1 z2 z3 z4 z5 c) m) (slabs d0 d1 d2) l)
  pointwise [dvals, k0_pay175, h, weights_at]
  exact Finset.sum_congr rfl fun r _ => mul_comm _ _

/-- The gradient of the weights. -/
def dweights : FVec Ideal S256x768 .f32 :=
  k0_pay176 (k0_pay71 V) k0_pay73 d0 (k0_pay171 k0_pay74 k0_pay75 d1 d2) (k0_pay172 k0_pay74 d1) k0_pay173

theorem dweights_at (m : Fin 256) (c : Fin 768) :
    dweights d0 d1 d2 V (ix2 m c) = dweight (head (slabs d0 d1 d2) c) (mem (rowsAt V) c) m := by
  have h := fun l => dstack_at d0 d1 d2 c l
  unfold dstack at h
  refine Eq.trans ?_ ((sum_stack_lanes (fun l => V (ix2 m l)) (slabs d0 d1 d2) c).trans
    (Finset.sum_congr rfl fun l _ => mul_comm _ _))
  pointwise [dweights, k0_pay176, k0_pay71, h]
  exact Finset.sum_congr rfl fun r _ => mul_comm _ _

/-- The gradient of the sums of the exponentials. -/
def ddens : FVec Ideal S1x768 .f32 :=
  k0_pay177 (exps M a b e K z0 z1 z2 z3 z4 z5) (recips2 M a b e K z0 z1 z2 z3 z4 z5) (k0_pay71 V) k0_pay73 d0
    (k0_pay171 k0_pay74 k0_pay75 d1 d2) (k0_pay172 k0_pay74 d1) k0_pay173

theorem ddens_at (c : Fin 768) :
    ddens M a b e d0 d1 d2 K V z0 z1 z2 z3 z4 z5 (ix2 0 c)
    = dden' (win M c) (head (slabs a b e) c) (head (slabs d0 d1 d2) c) (mem (rowsAt K) c) (mem (rowsAt V) c)
        (sinkAt z0 z1 z2 z3 z4 z5 c) := by
  have h := fun m => dweights_at d0 d1 d2 V m c
  unfold dweights at h
  pointwise [ddens, k0_pay177, h, exps_at, recips2_at, zero_sub, mul_one, dden']

/-- The gradient of the scores. -/
def dscores : FVec Ideal S256x768 .f32 :=
  k0_pay191 M (k0_pay179 (exps M a b e K z0 z1 z2 z3 z4 z5) (recips M a b e K z0 z1 z2 z3 z4 z5)
    (recips2 M a b e K z0 z1 z2 z3 z4 z5) (k0_pay71 V) k0_pay73 d0
    (k0_pay171 k0_pay74 k0_pay75 d1 d2) (k0_pay172 k0_pay74 d1) k0_pay173)

theorem dscores_at (m : Fin 256) (c : Fin 768) :
    dscores M a b e d0 d1 d2 K V z0 z1 z2 z3 z4 z5 (ix2 m c)
    = dscore' (win M c) (head (slabs a b e) c) (head (slabs d0 d1 d2) c) (mem (rowsAt K) c) (mem (rowsAt V) c)
        (sinkAt z0 z1 z2 z3 z4 z5 c) m := by
  have h := dweights_at d0 d1 d2 V m c
  unfold dweights at h
  have h' := ddens_at M a b e d0 d1 d2 K V z0 z1 z2 z3 z4 z5 c
  unfold ddens at h'
  pointwise [dscores, k0_pay191, k0_pay179, h, h', exps_at, recips_at, Fin.sum_univ_one]
  rw [select_bit, dscore', ite_mul, zero_mul]
  simp only [win, decide_eq_true_eq]

/-- The gradient of the keys: each key and each lane. -/
def dkeys : FVec Ideal S256x128 .f32 :=
  k0_pay192 M (k0_pay55 a b e) (k0_pay179 (exps M a b e K z0 z1 z2 z3 z4 z5) (recips M a b e K z0 z1 z2 z3 z4 z5)
    (recips2 M a b e K z0 z1 z2 z3 z4 z5) (k0_pay71 V) k0_pay73 d0
    (k0_pay171 k0_pay74 k0_pay75 d1 d2) (k0_pay172 k0_pay74 d1) k0_pay173)

theorem dkeys_at (m : Fin 256) (l : Fin 128) :
    dkeys M a b e d0 d1 d2 K V z0 z1 z2 z3 z4 z5 (ix2 m l)
    = ∑ s : Fin 3, ∑ r : Fin 128, dscore' (win M (place s l r)) (head (slabs a b e) (place s l r))
        (head (slabs d0 d1 d2) (place s l r)) (mem (rowsAt K) (place s l r)) (mem (rowsAt V) (place s l r))
        (sinkAt z0 z1 z2 z3 z4 z5 (place s l r)) m * slabs a b e s r l := by
  have h := fun c => dscores_at M a b e d0 d1 d2 K V z0 z1 z2 z3 z4 z5 m c
  unfold dscores at h
  refine Eq.trans ?_ (sum_stack_rows (fun c => dscore' (win M c) (head (slabs a b e) c) (head (slabs d0 d1 d2) c)
    (mem (rowsAt K) c) (mem (rowsAt V) c) (sinkAt z0 z1 z2 z3 z4 z5 c) m) (slabs a b e) l)
  pointwise [dkeys, k0_pay192, h, stack_at]

/-- The gradient of the queries, stacked. -/
def dstackq : FVec Ideal S768x128 .f32 :=
  k0_pay193 M (k0_pay56 K) (k0_pay179 (exps M a b e K z0 z1 z2 z3 z4 z5) (recips M a b e K z0 z1 z2 z3 z4 z5)
    (recips2 M a b e K z0 z1 z2 z3 z4 z5) (k0_pay71 V) k0_pay73 d0
    (k0_pay171 k0_pay74 k0_pay75 d1 d2) (k0_pay172 k0_pay74 d1) k0_pay173)

theorem dstackq_at (c : Fin 768) (l : Fin 128) :
    dstackq M a b e d0 d1 d2 K V z0 z1 z2 z3 z4 z5 (ix2 c l)
    = ∑ m : Fin 256, dscore' (win M c) (head (slabs a b e) c) (head (slabs d0 d1 d2) c) (mem (rowsAt K) c)
        (mem (rowsAt V) c) (sinkAt z0 z1 z2 z3 z4 z5 c) m * K (ix2 m l) := by
  have h := fun m => dscores_at M a b e d0 d1 d2 K V z0 z1 z2 z3 z4 z5 m c
  unfold dscores at h
  pointwise [dstackq, k0_pay193, k0_pay56, h]

/-- The gradient of the sinks, one row of one head at a time. -/
def dsinks : FVec Ideal S1x768 .f32 :=
  k0_pay178 (exps M a b e K z0 z1 z2 z3 z4 z5) (sinkExps M a b e K z0 z1 z2 z3 z4 z5)
    (recips2 M a b e K z0 z1 z2 z3 z4 z5) (k0_pay71 V) k0_pay73 d0
    (k0_pay171 k0_pay74 k0_pay75 d1 d2) (k0_pay172 k0_pay74 d1) k0_pay173

theorem dsinks_at (c : Fin 768) :
    dsinks M a b e d0 d1 d2 K V z0 z1 z2 z3 z4 z5 (ix2 0 c)
    = dsink' (win M c) (head (slabs a b e) c) (head (slabs d0 d1 d2) c) (mem (rowsAt K) c) (mem (rowsAt V) c)
        (sinkAt z0 z1 z2 z3 z4 z5 c) := by
  have h := ddens_at M a b e d0 d1 d2 K V z0 z1 z2 z3 z4 z5 c
  unfold ddens at h
  pointwise [dsinks, k0_pay178, h, sinkExps_at, dsink']

end Group

end Cert.MixAIdeal.Value

end
-- ==== Proof.MixAGroup.lean ====
/- The second group of heads of the attention mixer's gradient kernel: it is computed as the first. -/
module

public import proofs.«01_k».proof.Proof.MixABlock

@[expose] public section

set_option maxRecDepth 16384

noncomputable section

namespace Cert.MixAIdeal.Value

open Cert.MixAIdeal Cert.MixAIdeal.Gen Idealize.ShloMosaic Idealize.ShloMosaic.TcCoe
open Cert Cert.SwaSpec

variable (M : IVec S256x768 1) (a b e d0 d1 d2 : FVec Ideal S128x128 .f32) (K V : FVec Ideal S256x128 .f32)
  (z0 z1 z2 z3 z4 z5 : FVec Ideal S1x1 .f32)

/-- The queries of the second group, stacked. -/
def stack1 : FVec Ideal S768x128 .bf16 :=
  (k0_pay86 b e k0_pay76 (k0_pay78 a) (k0_pay80 a) (k0_pay82 b) (Scalar.ofBits .f32 0x00000000#32) k0_pay83)

theorem stack1_eq : stack1 a b e = k0_pay55 a b e := rfl

/-- The scores of the second group. -/
def scores1 : FVec Ideal S256x768 .f32 :=
  (k0_pay88 M b e K k0_pay76 (k0_pay78 a) (k0_pay80 a) (k0_pay82 b) (Scalar.ofBits .f32 0x00000000#32) k0_pay83)

theorem scores1_eq : scores1 M a b e K = scores M a b e K := by
  unfold scores1 k0_pay88 scores k0_pay57
  rw [← stack1_eq]
  rfl

/-- The exponentials of the second group. -/
def exps1 : FVec Ideal S256x768 .f32 :=
  (k0_pay91 M b e K z0 z1 z2 z3 z4 z5 k0_pay76 (k0_pay78 a) (k0_pay80 a) (k0_pay82 b) (Scalar.ofBits .f32
    0x00000000#32) k0_pay83)

theorem exps1_eq : exps1 M a b e K z0 z1 z2 z3 z4 z5 = exps M a b e K z0 z1 z2 z3 z4 z5 := by
  unfold exps
  rw [← scores1_eq]
  rfl

/-- The exponentials of the sinks of the second group. -/
def sinkExps1 : FVec Ideal S1x768 .f32 :=
  (k0_pay92 M b e K z0 z1 z2 z3 z4 z5 k0_pay76 (k0_pay78 a) (k0_pay80 a) (k0_pay82 b) (Scalar.ofBits .f32
    0x00000000#32) k0_pay83)

theorem sinkExps1_eq : sinkExps1 M a b e K z0 z1 z2 z3 z4 z5 = sinkExps M a b e K z0 z1 z2 z3 z4 z5 := by
  unfold sinkExps
  rw [← scores1_eq]
  rfl

/-- The reciprocals of the sums of the second group. -/
def recips1 : FVec Ideal S1x768 .f32 :=
  (k0_pay94 M b e K z0 z1 z2 z3 z4 z5 k0_pay76 (k0_pay78 a) (k0_pay80 a) (k0_pay82 b) (Scalar.ofBits .f32
    0x00000000#32) k0_pay83)

theorem recips1_eq : recips1 M a b e K z0 z1 z2 z3 z4 z5 = recips M a b e K z0 z1 z2 z3 z4 z5 := by
  unfold recips
  rw [← scores1_eq]
  rfl

/-- The reciprocals of the squares of the second group. -/
def recips21 : FVec Ideal S1x768 .f32 :=
  (k0_pay95 M b e K z0 z1 z2 z3 z4 z5 k0_pay76 (k0_pay78 a) (k0_pay80 a) (k0_pay82 b) (Scalar.ofBits .f32
    0x00000000#32) k0_pay83)

theorem recips21_eq : recips21 M a b e K z0 z1 z2 z3 z4 z5 = recips2 M a b e K z0 z1 z2 z3 z4 z5 := by
  unfold recips2
  rw [← scores1_eq]
  rfl

/-- The weights of the second group. -/
def weights1 : FVec Ideal S256x768 .bf16 :=
  (k0_pay96 M b e K z0 z1 z2 z3 z4 z5 k0_pay76 (k0_pay78 a) (k0_pay80 a) (k0_pay82 b) (Scalar.ofBits .f32
    0x00000000#32) k0_pay83)

theorem weights1_eq : weights1 M a b e K z0 z1 z2 z3 z4 z5 = weights M a b e K z0 z1 z2 z3 z4 z5 := by
  unfold weights
  rw [← scores1_eq]
  rfl

/-- The gradient of the values, of the second group. -/
def dvals1 : FVec Ideal S256x128 .f32 :=
  (k0_pay151 (k0_pay96 M b e K z0 z1 z2 z3 z4 z5 k0_pay76 (k0_pay78 a) (k0_pay80 a) (k0_pay82 b) (Scalar.ofBits .f32
    0x00000000#32) k0_pay83) k0_pay99 k0_pay100 k0_pay101 d0 d1 d2 k0_pay148 (k0_pay149 k0_pay101 d2))

theorem dvals1_eq : dvals1 M a b e d0 d1 d2 K z0 z1 z2 z3 z4 z5 = dvals M a b e d0 d1 d2 K z0 z1 z2 z3 z4 z5 := by
  unfold dvals
  rw [← weights1_eq]
  rfl

/-- The gradient of the scores, of the second group. -/
def dscores1 : FVec Ideal S256x768 .f32 :=
  (k0_pay163 M (k0_pay91 M b e K z0 z1 z2 z3 z4 z5 k0_pay76 (k0_pay78 a) (k0_pay80 a) (k0_pay82 b) (Scalar.ofBits .f32
    0x00000000#32) k0_pay83) (k0_pay153 (k0_pay94 M b e K z0 z1 z2 z3 z4 z5 k0_pay76 (k0_pay78 a) (k0_pay80 a)
    (k0_pay82 b) (Scalar.ofBits .f32 0x00000000#32) k0_pay83) (k0_pay97 V) k0_pay99 k0_pay100 k0_pay101 d0 d1 d2
    k0_pay148 (k0_pay149 k0_pay101 d2)) (k0_pay154 (k0_pay91 M b e K z0 z1 z2 z3 z4 z5 k0_pay76 (k0_pay78 a) (k0_pay80
    a) (k0_pay82 b) (Scalar.ofBits .f32 0x00000000#32) k0_pay83) (k0_pay95 M b e K z0 z1 z2 z3 z4 z5 k0_pay76
    (k0_pay78 a) (k0_pay80 a) (k0_pay82 b) (Scalar.ofBits .f32 0x00000000#32) k0_pay83) (k0_pay97 V) k0_pay99
    k0_pay100 k0_pay101 d0 d1 d2 k0_pay148 (k0_pay149 k0_pay101 d2)))

theorem dscores1_eq : dscores1 M a b e d0 d1 d2 K V z0 z1 z2 z3 z4 z5 = dscores M a b e d0 d1 d2 K V z0 z1 z2 z3 z4 z5 := by
  unfold dscores
  rw [← exps1_eq, ← recips1_eq, ← recips21_eq]
  rfl

/-- The gradient of the sinks, of the second group. -/
def dsinks1 : FVec Ideal S1x768 .f32 :=
  (k0_pay156 (k0_pay92 M b e K z0 z1 z2 z3 z4 z5 k0_pay76 (k0_pay78 a) (k0_pay80 a) (k0_pay82 b) (Scalar.ofBits .f32
    0x00000000#32) k0_pay83) (k0_pay154 (k0_pay91 M b e K z0 z1 z2 z3 z4 z5 k0_pay76 (k0_pay78 a) (k0_pay80 a)
    (k0_pay82 b) (Scalar.ofBits .f32 0x00000000#32) k0_pay83) (k0_pay95 M b e K z0 z1 z2 z3 z4 z5 k0_pay76 (k0_pay78
    a) (k0_pay80 a) (k0_pay82 b) (Scalar.ofBits .f32 0x00000000#32) k0_pay83) (k0_pay97 V) k0_pay99 k0_pay100
    k0_pay101 d0 d1 d2 k0_pay148 (k0_pay149 k0_pay101 d2)))

theorem dsinks1_eq : dsinks1 M a b e d0 d1 d2 K V z0 z1 z2 z3 z4 z5 = dsinks M a b e d0 d1 d2 K V z0 z1 z2 z3 z4 z5 := by
  unfold dsinks
  rw [← exps1_eq, ← recips21_eq, ← sinkExps1_eq]
  rfl

/-- The gradient of the keys, of the second group. -/
def dkeys1 : FVec Ideal S256x128 .f32 :=
  (k0_pay165 (k0_pay86 b e k0_pay76 (k0_pay78 a) (k0_pay80 a) (k0_pay82 b) (Scalar.ofBits .f32 0x00000000#32)
    k0_pay83) (k0_pay163 M (k0_pay91 M b e K z0 z1 z2 z3 z4 z5 k0_pay76 (k0_pay78 a) (k0_pay80 a) (k0_pay82 b)
    (Scalar.ofBits .f32 0x00000000#32) k0_pay83) (k0_pay153 (k0_pay94 M b e K z0 z1 z2 z3 z4 z5 k0_pay76 (k0_pay78 a)
    (k0_pay80 a) (k0_pay82 b) (Scalar.ofBits .f32 0x00000000#32) k0_pay83) (k0_pay97 V) k0_pay99 k0_pay100 k0_pay101
    d0 d1 d2 k0_pay148 (k0_pay149 k0_pay101 d2)) (k0_pay154 (k0_pay91 M b e K z0 z1 z2 z3 z4 z5 k0_pay76 (k0_pay78 a)
    (k0_pay80 a) (k0_pay82 b) (Scalar.ofBits .f32 0x00000000#32) k0_pay83) (k0_pay95 M b e K z0 z1 z2 z3 z4 z5
    k0_pay76 (k0_pay78 a) (k0_pay80 a) (k0_pay82 b) (Scalar.ofBits .f32 0x00000000#32) k0_pay83) (k0_pay97 V) k0_pay99
    k0_pay100 k0_pay101 d0 d1 d2 k0_pay148 (k0_pay149 k0_pay101 d2))))

theorem dkeys1_eq : dkeys1 M a b e d0 d1 d2 K V z0 z1 z2 z3 z4 z5 = dkeys M a b e d0 d1 d2 K V z0 z1 z2 z3 z4 z5 := by
  unfold dkeys
  rw [← exps1_eq, ← recips1_eq, ← recips21_eq, ← stack1_eq]
  rfl

/-- The gradient of the queries, of the second group, stacked. -/
def dstackq1 : FVec Ideal S768x128 .f32 :=
  (k0_pay164 M (k0_pay87 K) (k0_pay91 M b e K z0 z1 z2 z3 z4 z5 k0_pay76 (k0_pay78 a) (k0_pay80 a) (k0_pay82 b)
    (Scalar.ofBits .f32 0x00000000#32) k0_pay83) (k0_pay153 (k0_pay94 M b e K z0 z1 z2 z3 z4 z5 k0_pay76 (k0_pay78 a)
    (k0_pay80 a) (k0_pay82 b) (Scalar.ofBits .f32 0x00000000#32) k0_pay83) (k0_pay97 V) k0_pay99 k0_pay100 k0_pay101
    d0 d1 d2 k0_pay148 (k0_pay149 k0_pay101 d2)) (k0_pay154 (k0_pay91 M b e K z0 z1 z2 z3 z4 z5 k0_pay76 (k0_pay78 a)
    (k0_pay80 a) (k0_pay82 b) (Scalar.ofBits .f32 0x00000000#32) k0_pay83) (k0_pay95 M b e K z0 z1 z2 z3 z4 z5
    k0_pay76 (k0_pay78 a) (k0_pay80 a) (k0_pay82 b) (Scalar.ofBits .f32 0x00000000#32) k0_pay83) (k0_pay97 V) k0_pay99
    k0_pay100 k0_pay101 d0 d1 d2 k0_pay148 (k0_pay149 k0_pay101 d2)))

theorem dstackq1_eq : dstackq1 M a b e d0 d1 d2 K V z0 z1 z2 z3 z4 z5 = dstackq M a b e d0 d1 d2 K V z0 z1 z2 z3 z4 z5 := by
  unfold dstackq
  rw [← exps1_eq, ← recips1_eq, ← recips21_eq]
  rfl

end Cert.MixAIdeal.Value

end
-- ==== Proof.MixAMem.lean ====
/- The memory attention's part of the attention mixer's gradient kernel: one chunk and one pair of heads of it, read off the
   kernel's own arithmetic. -/
module

public import proofs.«01_k».proof.Proof.Gen.MixAIdeal.Skeleton
public import proofs.«01_k».proof.Proof.MemSpec
public import Idealize.ShloMosaic.Lib.Pipeline.ValueKit
public import Idealize.ShloMosaic.Lib.Pointwise
public import Idealize.ShloMosaic.Lib.Claim

@[expose] public section

set_option maxRecDepth 16384

noncomputable section

namespace Cert.MixAIdeal.Mem

open Cert.MixAIdeal Cert.MixAIdeal.Gen Idealize.ShloMosaic Idealize.ShloMosaic.TcCoe Cert.MemSpec

/-- A choice by the half of the lanes. -/
theorem select_slt (l : Fin 128) (a b : EReal) :
    Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide +kernel
  rw [h]
  split <;> rfl

/-- A pair of heads in one chunk by row and lane. -/
abbrev pairAt (x : FVec Ideal S128x128 .f32) (i j : Fin 128) : EReal := x (ix2 i j)

/-- A pair of heads in the memory by row and lane. -/
abbrev rowsAt (x : FVec Ideal S256x128 .f32) (i : Fin 256) (j : Fin 128) : EReal := x (ix2 i j)

section Pair

variable (q d : FVec Ideal S128x128 .f32) (k v : FVec Ideal S256x128 .f32)

theorem row_low (c : Fin 256) (h : c.val < 128) : row c = ⟨c.val, h⟩ := Fin.ext (Nat.mod_eq_of_lt h)

theorem row_high (c : Fin 256) (h : ¬c.val < 128) : row c = ⟨c.val - 128, by omega⟩ := Fin.ext (by simp [row]; omega)

theorem stack_at (c : Fin 256) (l : Fin 128) : k0_pay106 q (ix2 c l) = stack (pairAt q) c l := by
  pointwise [k0_pay106, k0_pay104, k0_pay105, k0_pay103]
  unfold stack
  by_cases h : c.val < 128 <;> by_cases h' : l.val < 64 <;> simp [h, h', select_slt, row_low, row_high]

theorem stackd_at (c : Fin 256) (l : Fin 128) : (k0_pay143 k0_pay113 d k0_pay141 (k0_pay142 k0_pay113 d)) (ix2 c l) = stack (pairAt d) c l := by
  pointwise [k0_pay143, k0_pay113, k0_pay141, k0_pay142]
  unfold stack
  by_cases h : c.val < 128 <;> by_cases h' : l.val < 64 <;> simp [h, h', select_slt, row_low, row_high]

/-- The pattern of minus infinity. -/
theorem ofBits_bot : Ideal.ofBits .f32 0xFF800000#32 = (⊥ : EReal) := by
  simp [Ideal.ofBits, Ideal.ieee]

theorem ex_at (m c : Fin 256) : k0_pay107 q k (ix2 m c) = ex (head (pairAt q) c) (mem (rowsAt k) c) m := by
  pointwise [k0_pay107, k0_pay102, stack_at, sum_stack_lanes, ex, top, score, ofBits_bot]
  simp only [mul_comm (k _)]
  rfl

theorem den_at (c : Fin 256) : k0_pay108 q k (ix2 0 c) = den (head (pairAt q) c) (mem (rowsAt k) c) := by
  pointwise [k0_pay108, ex_at, den]

theorem recip_at (c : Fin 256) : k0_pay109 q k (ix2 0 c) = Ideal.div 1 (den (head (pairAt q) c) (mem (rowsAt k) c)) := by
  pointwise [k0_pay109, den_at]

theorem recip2_at (c : Fin 256) : k0_pay110 q k (ix2 0 c)
    = Ideal.div 1 (den (head (pairAt q) c) (mem (rowsAt k) c) * den (head (pairAt q) c) (mem (rowsAt k) c)) := by
  pointwise [k0_pay110, den_at]

theorem weight_at (m c : Fin 256) : k0_pay111 q k (ix2 m c) = weight' (head (pairAt q) c) (mem (rowsAt k) c) m := by
  pointwise [k0_pay111, ex_at, recip_at, weight']

/-- The gradient of the memory's values: each row of the memory and each lane. -/
theorem dv_at (m : Fin 256) (l : Fin 128) :
    k0_pay144 (k0_pay111 q k) k0_pay113 d k0_pay141 (k0_pay142 k0_pay113 d) (ix2 m l)
    = ∑ r : Fin 128, d (ix2 r l) * weight' (head (pairAt q) (place l r)) (mem (rowsAt k) (place l r)) m := by
  refine Eq.trans ?_ ((sum_stack_rows (fun c => weight' (head (pairAt q) c) (mem (rowsAt k) c) m) (pairAt d) l).trans
    (Finset.sum_congr rfl fun r _ => mul_comm _ _))
  pointwise [k0_pay144, stackd_at, weight_at]
  exact Finset.sum_congr rfl fun r _ => mul_comm _ _

theorem dscore_at (m c : Fin 256) : k0_pay145 (k0_pay107 q k) (k0_pay109 q k) (k0_pay110 q k) (k0_pay112 v) k0_pay113 d k0_pay141 (k0_pay142 k0_pay113 d) (ix2 m c) = dscore' (head (pairAt q) c) (head (pairAt d) c) (mem (rowsAt k) c) (mem (rowsAt v) c) m := by
  have h : ∀ n, ∑ l : Fin 128, stack (pairAt d) c l * v (ix2 n l) = dweight (head (pairAt d) c) (mem (rowsAt v) c) n := fun n =>
    (Finset.sum_congr rfl fun l _ => mul_comm _ _).trans
      ((sum_stack_lanes (fun l => v (ix2 n l)) (pairAt d) c).trans (Finset.sum_congr rfl fun l _ => mul_comm _ _))
  pointwise [k0_pay145, k0_pay112, stackd_at, ex_at, recip_at, recip2_at, Fin.sum_univ_one, h, zero_sub, dscore', mul_one]

/-- The gradient of the queries: each row of the chunk and each lane. -/
theorem dq_at (r l : Fin 128) :
    k0_pay146 (k0_pay102 k) k0_pay104 k0_pay105 (k0_pay107 q k) (k0_pay109 q k) (k0_pay110 q k) (k0_pay112 v)
      k0_pay113 d k0_pay141 (k0_pay142 k0_pay113 d) (ix2 r l)
    = ∑ m : Fin 256, dscore' (head (pairAt q) (place l r)) (head (pairAt d) (place l r)) (mem (rowsAt k) (place l r)) (mem (rowsAt v) (place l r)) m * k (ix2 m l) := by
  pointwise [k0_pay146, k0_pay102, k0_pay104, k0_pay105, k0_pay103, dscore_at]
  rw [select_slt, select_slt]
  by_cases h : l.val < 64
  · have e : place l r = ⟨r.val, by omega⟩ := Fin.ext (by simp [place]; omega)
    rw [if_pos h, if_pos h, zero_add, e]
  · have e : place l r = ⟨128 + r.val, by omega⟩ := Fin.ext (by simp [place]; omega)
    rw [if_neg h, if_neg h, add_zero, e]

/-- The gradient of the memory's keys: each row of the memory and each lane. -/
theorem dk_at (m : Fin 256) (l : Fin 128) :
    k0_pay147 (k0_pay106 q) (k0_pay107 q k) (k0_pay109 q k) (k0_pay110 q k) (k0_pay112 v)
      k0_pay113 d k0_pay141 (k0_pay142 k0_pay113 d) (ix2 m l)
    = ∑ r : Fin 128, dscore' (head (pairAt q) (place l r)) (head (pairAt d) (place l r)) (mem (rowsAt k) (place l r)) (mem (rowsAt v) (place l r)) m * q (ix2 r l) := by
  refine Eq.trans ?_ (sum_stack_rows (fun c => dscore' (head (pairAt q) c) (head (pairAt d) c) (mem (rowsAt k) c) (mem (rowsAt v) c) m) (pairAt q) l)
  pointwise [k0_pay147, dscore_at, stack_at]

end Pair

end Cert.MixAIdeal.Mem

end
-- ==== Proof.MixASpec.lean ====
/- The gradient of the attention mixer by chunks of 128 rows: sliding window attention of twelve heads over two heads of
   keys and values, each row's window the 128 rows up to its own, and four heads over the memory. No program is named here. -/
module

public import proofs.«01_k».proof.Proof.SwaSpec

@[expose] public section

noncomputable section

namespace Cert.MixASpec

open Idealize.ShloMosaic

/-- Row `r` of chunk `t`. -/
def rowAt (t : Fin 64) (r : Fin 128) : Fin 8192 := ⟨128 * t.val + r.val, by omega⟩

/-- The row of key `m` of the two chunks that end with chunk `t`. -/
def keyRow (t : Fin 64) (m : Fin 256) : Fin 8192 :=
  if m.val < 128 then ⟨128 * (t.val - 1) + m.val % 128, by omega⟩ else ⟨128 * t.val + m.val % 128, by omega⟩

/-- The keys that row `r` of chunk `t` sees, of the two chunks that end with `t`. -/
def seen (t : Fin 64) (r : Fin 128) (m : Fin 256) : Bool :=
  decide ((m.val < 128 ∧ r.val < m.val ∧ 0 < t.val) ∨ (128 ≤ m.val ∧ m.val - 128 ≤ r.val))

/-- The head of keys and values that a head of queries looks at. -/
def groupOf (h : Fin 12) : Fin 2 := ⟨h.val / 6, by omega⟩

/-- Head `j` of those that look at head `g` of keys and values. -/
def headOf (g : Fin 2) (j : Fin 6) : Fin 12 := ⟨6 * g.val + j.val, by omega⟩

theorem groupOf_headOf (g : Fin 2) (j : Fin 6) : groupOf (headOf g j) = g :=
  Fin.ext (by simp [groupOf, headOf]; omega)

section Window

variable (P : Fin 8192 → Fin 1280 → EReal) (S : Fin 12 → EReal) (D : Fin 8192 → Fin 1024 → EReal)

/-- The queries of one row of one head. -/
def query (t : Fin 64) (h : Fin 12) (r : Fin 128) (l : Fin 64) : EReal := P (rowAt t r) ⟨64 * h.val + l.val, by omega⟩

/-- The gradient of the result of one row of one head. -/
def dres (t : Fin 64) (h : Fin 12) (r : Fin 128) (l : Fin 64) : EReal := D (rowAt t r) ⟨64 * h.val + l.val, by omega⟩

/-- The keys, the chunk before included. -/
def key (t : Fin 64) (g : Fin 2) (m : Fin 256) (l : Fin 64) : EReal := P (keyRow t m) ⟨768 + 64 * g.val + l.val, by omega⟩

/-- The values, the chunk before included. -/
def val (t : Fin 64) (g : Fin 2) (m : Fin 256) (l : Fin 64) : EReal := P (keyRow t m) ⟨896 + 64 * g.val + l.val, by omega⟩

/-- The keys with zeros before the first chunk. -/
def key0 (t : Fin 64) (g : Fin 2) (m : Fin 256) (l : Fin 64) : EReal := if m.val < 128 ∧ t.val = 0 then 0 else key P t g m l

/-- The values with zeros before the first chunk. -/
def val0 (t : Fin 64) (g : Fin 2) (m : Fin 256) (l : Fin 64) : EReal := if m.val < 128 ∧ t.val = 0 then 0 else val P t g m l

theorem key0_seen (t : Fin 64) (g : Fin 2) (r : Fin 128) (m : Fin 256) (h : seen t r m) : key P t g m = key0 P t g m := by
  funext l
  unfold key0
  rw [if_neg]
  rintro ⟨h1, h2⟩
  simp only [seen, decide_eq_true_eq] at h
  omega

theorem val0_seen (t : Fin 64) (g : Fin 2) (r : Fin 128) (m : Fin 256) (h : seen t r m) : val P t g m = val0 P t g m := by
  funext l
  unfold val0
  rw [if_neg]
  rintro ⟨h1, h2⟩
  simp only [seen, decide_eq_true_eq] at h
  omega

/-! The weights, the scores' gradients and the sinks', the kernel's way (with any keys before the first chunk) and by
quotients (with zeros there). -/

def weight' (t : Fin 64) (h : Fin 12) (r : Fin 128) : Fin 256 → EReal :=
  SwaSpec.weight' (seen t r) (query P t h r) (key P t (groupOf h)) (S h)

def dscore' (t : Fin 64) (h : Fin 12) (r : Fin 128) : Fin 256 → EReal :=
  SwaSpec.dscore' (seen t r) (query P t h r) (dres D t h r) (key P t (groupOf h)) (val P t (groupOf h)) (S h)

def dsink' (t : Fin 64) (h : Fin 12) (r : Fin 128) : EReal :=
  SwaSpec.dsink' (seen t r) (query P t h r) (dres D t h r) (key P t (groupOf h)) (val P t (groupOf h)) (S h)

def weight (t : Fin 64) (h : Fin 12) (r : Fin 128) : Fin 256 → EReal :=
  SwaSpec.weight (seen t r) (query P t h r) (key0 P t (groupOf h)) (S h)

def dscore (t : Fin 64) (h : Fin 12) (r : Fin 128) : Fin 256 → EReal :=
  SwaSpec.dscore (seen t r) (query P t h r) (dres D t h r) (key0 P t (groupOf h)) (val0 P t (groupOf h)) (S h)

/-- The gradients of the queries, of the keys and of the values of one chunk, of weights or scores' gradients `X`. -/
def dq (X : Fin 64 → Fin 12 → Fin 128 → Fin 256 → EReal) (K : Fin 64 → Fin 2 → Fin 256 → Fin 64 → EReal)
    (t : Fin 64) (h : Fin 12) (r : Fin 128) (l : Fin 64) : EReal := ∑ m : Fin 256, X t h r m * K t (groupOf h) m l

/-- What one chunk's rows give to the two chunks of keys or values they see. -/
def part (X : Fin 64 → Fin 12 → Fin 128 → Fin 256 → EReal) (Y : Fin 64 → Fin 12 → Fin 128 → Fin 64 → EReal)
    (t : Fin 64) (g : Fin 2) (m : Fin 256) (l : Fin 64) : EReal :=
  ∑ j : Fin 6, ∑ r : Fin 128, X t (headOf g j) r m * Y t (headOf g j) r l

/-- What the rows of a key's own chunk and of the next give to it. -/
def whole (X : Fin 64 → Fin 12 → Fin 128 → Fin 256 → EReal) (Y : Fin 64 → Fin 12 → Fin 128 → Fin 64 → EReal)
    (t : Fin 64) (g : Fin 2) (r : Fin 128) (l : Fin 64) : EReal :=
  part X Y t g ⟨128 + r.val, by omega⟩ l + if h : t.val < 63 then part X Y ⟨t.val + 1, by omega⟩ g ⟨r.val, by omega⟩ l else 0

end Window

/-! ## The memory's heads -/

section Memory

variable (P : Fin 8192 → Fin 1280 → EReal) (M : Fin 256 → Fin 512 → EReal) (D : Fin 8192 → Fin 1024 → EReal)

def mquery (h : Fin 4) (R : Fin 8192) (l : Fin 64) : EReal := P R ⟨1024 + 64 * h.val + l.val, by omega⟩

def mdres (h : Fin 4) (R : Fin 8192) (l : Fin 64) : EReal := D R ⟨768 + 64 * h.val + l.val, by omega⟩

def mkey (h : Fin 4) (m : Fin 256) (l : Fin 64) : EReal := M m ⟨64 * h.val + l.val, by omega⟩

def mval (h : Fin 4) (m : Fin 256) (l : Fin 64) : EReal := M m ⟨256 + 64 * h.val + l.val, by omega⟩

/-- The gradient of the memory, of those of its keys and values. -/
def dmem (dk dv : Fin 4 → Fin 256 → Fin 64 → EReal) (m : Fin 256) (c : Fin 512) : EReal :=
  if h : c.val < 256 then dk ⟨c.val / 64, by omega⟩ m ⟨c.val % 64, by omega⟩
  else dv ⟨(c.val - 256) / 64, by omega⟩ m ⟨c.val % 64, by omega⟩

end Memory

/-- The gradient of the projection, of those of the queries, keys, values and the memory's queries. -/
def dproj (dq : Fin 64 → Fin 12 → Fin 128 → Fin 64 → EReal) (dk dv : Fin 64 → Fin 2 → Fin 128 → Fin 64 → EReal)
    (dm : Fin 4 → Fin 8192 → Fin 64 → EReal) (t : Fin 64) (r : Fin 128) (c : Fin 1280) : EReal :=
  if h : c.val < 768 then dq t ⟨c.val / 64, by omega⟩ r ⟨c.val % 64, by omega⟩
  else if h' : c.val < 896 then dk t ⟨(c.val - 768) / 64, by omega⟩ r ⟨c.val % 64, by omega⟩
  else if h'' : c.val < 1024 then dv t ⟨(c.val - 896) / 64, by omega⟩ r ⟨c.val % 64, by omega⟩
  else dm ⟨(c.val - 1024) / 64, by omega⟩ (rowAt t r) ⟨c.val % 64, by omega⟩

/-- The entry of a head where there is one. -/
def picked (n : ℕ) (f : Fin 12 → EReal) : EReal := if h : n < 12 then f ⟨n, h⟩ else 0

end Cert.MixASpec

end
-- ==== Proof.MixAParts.lean ====
/- The pieces of the attention mixer's gradient kernel: the slabs it cuts its blocks into, the window, and how it puts the
   gradients of the groups together. -/
module

public import proofs.«01_k».proof.Proof.MixAGroup
public import proofs.«01_k».proof.Proof.MixAMem
public import proofs.«01_k».proof.Proof.MixASpec
public import Idealize.ShloMosaic.Lib.Pointwise
public import Idealize.ShloMosaic.Lib.WordCmp

@[expose] public section

set_option maxRecDepth 16384

noncomputable section

namespace Cert.MixAIdeal.Value

open Cert.MixAIdeal Cert.MixAIdeal.Gen Idealize.ShloMosaic Idealize.ShloMosaic.TcCoe
open Cert Cert.SwaSpec WordCmp

/-! ## The window -/

theorem and_words : ∀ (b s : BitVec 1) (p q r : Bool), (IntOp.ori (IntOp.andi (IntOp.andi (BitVec.ofBool p) (BitVec.ofBool q)) b)
    (IntOp.andi (BitVec.ofBool r) s) = 1#1) ↔ ((p ∧ q ∧ b = 1#1) ∨ (r ∧ s = 1#1)) := by decide

theorem low_word (c : Fin 768) : IntOp.andi (BitVec.ofNat 32 c.val) 127#32 = BitVec.ofNat 32 (c.val % 128) := by
  apply BitVec.eq_of_toNat_eq
  have h : c.val % 4294967296 &&& 127 = c.val % 128 := by
    have e : c.val % 4294967296 = c.val := by omega
    rw [e]
    exact Nat.and_two_pow_sub_one_eq_mod c.val 7
  simp only [IntOp.andi, BitVec.toNat_and, BitVec.toNat_ofNat, Nat.reducePow, Nat.reduceMod]
  rw [h]
  omega

theorem bit_true (p : Prop) [Decidable p] : BitVec.ofBool (decide p) = 1#1 ↔ p := by by_cases h : p <;> simp [h]

theorem sub_word (m : Fin 256) (h : 128 ≤ m.val) : IntOp.subi (BitVec.ofNat 32 m.val) 128#32 = BitVec.ofNat 32 (m.val - 128) := by
  apply BitVec.eq_of_toNat_eq
  simp only [IntOp.subi, BitVec.toNat_sub, BitVec.toNat_ofNat, Nat.reducePow, Nat.reduceMod]
  omega

theorem prev_word : ∀ n : Fin 64, (Scalar.cmpi CmpIPredicate.sgt (Scalar.subi (63#32) (BitVec.ofNat 32 n.val)) 0#32 = 1#1) ↔ 0 < 63 - n.val := by
  decide +kernel

theorem win_at (i : grid0.Coords) (t : Fin 64) (ht : t.val = 63 - (i 0).val) (c : Fin 768) :
    win (k0_pay4 i) c = MixASpec.seen t (row c) := by
  funext m
  unfold win MixASpec.seen
  refine decide_eq_decide.mpr ?_
  pointwise [k0_pay4]
  have hi : (i 0).val < 64 := (i 0).isLt
  have hp := prev_word ⟨(i 0).val, hi⟩
  simp only at hp
  have e1 : IntOp.cmpi .slt (BitVec.ofNat 32 m.val) 128#32 = BitVec.ofBool (decide (m.val < 128)) :=
    cmpi_slt_ofNat (w := 32) (by omega) (by omega)
  have e2 : IntOp.cmpi .sgt (BitVec.ofNat 32 m.val) (BitVec.ofNat 32 (c.val % 128)) = BitVec.ofBool (decide (c.val % 128 < m.val)) :=
    cmpi_sgt_ofNat (w := 32) (by omega) (by omega)
  have e3 : IntOp.cmpi .sge (BitVec.ofNat 32 m.val) 128#32 = BitVec.ofBool (decide (128 ≤ m.val)) :=
    cmpi_sge_ofNat (w := 32) (by omega) (by omega)
  rw [low_word, e1, e2, e3, and_words, hp, ht]
  simp only [decide_eq_true_eq, row]
  refine or_congr Iff.rfl (and_congr_right fun h => ?_)
  have e4 : IntOp.cmpi .sle (BitVec.ofNat 32 (m.val - 128)) (BitVec.ofNat 32 (c.val % 128)) = BitVec.ofBool (decide (m.val - 128 ≤ c.val % 128)) :=
    cmpi_sle_ofNat (w := 32) (by omega) (by omega)
  rw [sub_word m h, e4, bit_true]

/-! ## The slabs -/

variable (X : Vec Ideal S128x768 .bf16) (kp kc vp vc : Vec Ideal S128x128 .bf16) (qm : Vec Ideal S128x256 .bf16)
  (sk : Vec Ideal S16x128 .f32) (km vm : Vec Ideal S256x256 .bf16) (dc : Vec Ideal S128x1024 .f32)

/-- Slab `n` of the queries. -/
def slabQ (n : Fin 6) : FVec Ideal S128x128 .f32 :=
  (![k0_pay14 (k0_pay5 X), k0_pay15 (k0_pay5 X), k0_pay16 (k0_pay5 X), k0_pay17 (k0_pay5 X), k0_pay18 (k0_pay5 X),
    k0_pay19 (k0_pay5 X)] : Fin 6 → _) n

theorem slabQ_at (n : Fin 6) (r l : Fin 128) : slabQ X n (ix2 r l) = X (ix2 r ⟨128 * n.val + l.val, by omega⟩) := by
  fin_cases n
  · change k0_pay14 (k0_pay5 X) (ix2 r l) = _
    pointwise [k0_pay14, k0_pay5]
  · change k0_pay15 (k0_pay5 X) (ix2 r l) = _
    pointwise [k0_pay15, k0_pay5]
  · change k0_pay16 (k0_pay5 X) (ix2 r l) = _
    pointwise [k0_pay16, k0_pay5]
  · change k0_pay17 (k0_pay5 X) (ix2 r l) = _
    pointwise [k0_pay17, k0_pay5]
  · change k0_pay18 (k0_pay5 X) (ix2 r l) = _
    pointwise [k0_pay18, k0_pay5]
  · change k0_pay19 (k0_pay5 X) (ix2 r l) = _
    pointwise [k0_pay19, k0_pay5]

/-- Slab `n` of the gradient of the result. -/
def slabD (n : Fin 8) : FVec Ideal S128x128 .f32 :=
  (![k0_pay126 dc, k0_pay127 dc, k0_pay128 dc, k0_pay129 dc, k0_pay130 dc, k0_pay131 dc, k0_pay132 dc, k0_pay133 dc] :
    Fin 8 → _) n

theorem slabD_at (n : Fin 8) (r l : Fin 128) : slabD dc n (ix2 r l) = dc (ix2 r ⟨128 * n.val + l.val, by omega⟩) := by
  fin_cases n
  · change k0_pay126 dc (ix2 r l) = _
    pointwise [k0_pay126]
  · change k0_pay127 dc (ix2 r l) = _
    pointwise [k0_pay127]
  · change k0_pay128 dc (ix2 r l) = _
    pointwise [k0_pay128]
  · change k0_pay129 dc (ix2 r l) = _
    pointwise [k0_pay129]
  · change k0_pay130 dc (ix2 r l) = _
    pointwise [k0_pay130]
  · change k0_pay131 dc (ix2 r l) = _
    pointwise [k0_pay131]
  · change k0_pay132 dc (ix2 r l) = _
    pointwise [k0_pay132]
  · change k0_pay133 dc (ix2 r l) = _
    pointwise [k0_pay133]

/-- The keys of head `n`, the chunk before included, in both halves of the lanes. -/
def keysOf (n : Fin 2) : FVec Ideal S256x128 .f32 :=
  (![k0_pay23 (k0_pay6 kp) (k0_pay7 kc), k0_pay24 (k0_pay6 kp) (k0_pay7 kc)] : Fin 2 → _) n

theorem keysOf_at (n : Fin 2) (m : Fin 256) (l : Fin 128) : keysOf kp kc n (ix2 m l)
    = if h : m.val < 128 then kp (ix2 ⟨m.val, h⟩ ⟨64 * n.val + l.val % 64, by omega⟩)
      else kc (ix2 ⟨m.val - 128, by omega⟩ ⟨64 * n.val + l.val % 64, by omega⟩) := by
  have e : ∀ (z : Vec Ideal S128x128 .bf16) (r x y : Fin 128), x.val = y.val → z (ix2 r x) = z (ix2 r y) := fun z r x y h => by rw [Fin.ext h]
  fin_cases n
  · change k0_pay23 (k0_pay6 kp) (k0_pay7 kc) (ix2 m l) = _
    pointwise [k0_pay23, k0_pay6, k0_pay7, k0_pay20, k0_pay21, k0_pay22]
    rw [select_slt]
    by_cases h : m.val < 128 <;> by_cases h' : l.val < 64 <;> simp only [h, h', dif_pos, dif_neg, if_true, if_false, not_false_eq_true]
      <;> exact e _ _ _ _ (by simp; omega)
  · change k0_pay24 (k0_pay6 kp) (k0_pay7 kc) (ix2 m l) = _
    pointwise [k0_pay24, k0_pay6, k0_pay7, k0_pay20, k0_pay21, k0_pay22]
    rw [select_slt]
    by_cases h : m.val < 128 <;> by_cases h' : l.val < 64 <;> simp only [h, h', dif_pos, dif_neg, if_true, if_false, not_false_eq_true]
      <;> exact e _ _ _ _ (by simp; omega)

/-- The values of head `n`, the chunk before included, in both halves of the lanes. -/
def valsOf (n : Fin 2) : FVec Ideal S256x128 .f32 :=
  (![k0_pay28 (k0_pay8 vp) (k0_pay9 vc), k0_pay29 (k0_pay8 vp) (k0_pay9 vc)] : Fin 2 → _) n

theorem valsOf_at (n : Fin 2) (m : Fin 256) (l : Fin 128) : valsOf vp vc n (ix2 m l)
    = if h : m.val < 128 then vp (ix2 ⟨m.val, h⟩ ⟨64 * n.val + l.val % 64, by omega⟩)
      else vc (ix2 ⟨m.val - 128, by omega⟩ ⟨64 * n.val + l.val % 64, by omega⟩) := by
  have e : ∀ (z : Vec Ideal S128x128 .bf16) (r x y : Fin 128), x.val = y.val → z (ix2 r x) = z (ix2 r y) := fun z r x y h => by rw [Fin.ext h]
  fin_cases n
  · change k0_pay28 (k0_pay8 vp) (k0_pay9 vc) (ix2 m l) = _
    pointwise [k0_pay28, k0_pay8, k0_pay9, k0_pay25, k0_pay26, k0_pay27]
    rw [select_slt]
    by_cases h : m.val < 128 <;> by_cases h' : l.val < 64 <;> simp only [h, h', dif_pos, dif_neg, if_true, if_false, not_false_eq_true]
      <;> exact e _ _ _ _ (by simp; omega)
  · change k0_pay29 (k0_pay8 vp) (k0_pay9 vc) (ix2 m l) = _
    pointwise [k0_pay29, k0_pay8, k0_pay9, k0_pay25, k0_pay26, k0_pay27]
    rw [select_slt]
    by_cases h : m.val < 128 <;> by_cases h' : l.val < 64 <;> simp only [h, h', dif_pos, dif_neg, if_true, if_false, not_false_eq_true]
      <;> exact e _ _ _ _ (by simp; omega)

/-- The sink of head `n`. -/
def sinkOf (n : Fin 12) : FVec Ideal S1x1 .f32 :=
  (![k0_pay30 sk, k0_pay31 sk, k0_pay32 sk, k0_pay33 sk, k0_pay34 sk, k0_pay35 sk, k0_pay36 sk, k0_pay37 sk, k0_pay38
    sk, k0_pay39 sk, k0_pay40 sk, k0_pay41 sk] : Fin 12 → _) n

theorem sinkOf_at (n : Fin 12) : sinkOf sk n (ix2 0 0) = sk (ix2 (⟨n.val, by omega⟩ : Fin 16) (0 : Fin 128)) := by
  fin_cases n
  · change k0_pay30 sk (ix2 0 0) = _
    pointwise [k0_pay30, k0_pay11]
  · change k0_pay31 sk (ix2 0 0) = _
    pointwise [k0_pay31, k0_pay11]
  · change k0_pay32 sk (ix2 0 0) = _
    pointwise [k0_pay32, k0_pay11]
  · change k0_pay33 sk (ix2 0 0) = _
    pointwise [k0_pay33, k0_pay11]
  · change k0_pay34 sk (ix2 0 0) = _
    pointwise [k0_pay34, k0_pay11]
  · change k0_pay35 sk (ix2 0 0) = _
    pointwise [k0_pay35, k0_pay11]
  · change k0_pay36 sk (ix2 0 0) = _
    pointwise [k0_pay36, k0_pay11]
  · change k0_pay37 sk (ix2 0 0) = _
    pointwise [k0_pay37, k0_pay11]
  · change k0_pay38 sk (ix2 0 0) = _
    pointwise [k0_pay38, k0_pay11]
  · change k0_pay39 sk (ix2 0 0) = _
    pointwise [k0_pay39, k0_pay11]
  · change k0_pay40 sk (ix2 0 0) = _
    pointwise [k0_pay40, k0_pay11]
  · change k0_pay41 sk (ix2 0 0) = _
    pointwise [k0_pay41, k0_pay11]

/-- Pair `n` of the heads that look at the memory: the queries. -/
def pairQ (n : Fin 2) : FVec Ideal S128x128 .f32 :=
  (![k0_pay42 (k0_pay10 qm), k0_pay43 (k0_pay10 qm)] : Fin 2 → _) n

theorem pairQ_at (n : Fin 2) (r : Fin 128) (l : Fin 128) : pairQ qm n (ix2 r l) = qm (ix2 r ⟨128 * n.val + l.val, by omega⟩) := by
  fin_cases n
  · change k0_pay42 (k0_pay10 qm) (ix2 r l) = _
    pointwise [k0_pay42, k0_pay10]
  · change k0_pay43 (k0_pay10 qm) (ix2 r l) = _
    pointwise [k0_pay43, k0_pay10]

/-- Pair `n`: the keys. -/
def pairK (n : Fin 2) : FVec Ideal S256x128 .f32 :=
  (![k0_pay44 (k0_pay12 km), k0_pay45 (k0_pay12 km)] : Fin 2 → _) n

theorem pairK_at (n : Fin 2) (r : Fin 256) (l : Fin 128) : pairK km n (ix2 r l) = km (ix2 r ⟨128 * n.val + l.val, by omega⟩) := by
  fin_cases n
  · change k0_pay44 (k0_pay12 km) (ix2 r l) = _
    pointwise [k0_pay44, k0_pay12]
  · change k0_pay45 (k0_pay12 km) (ix2 r l) = _
    pointwise [k0_pay45, k0_pay12]

/-- Pair `n`: the values. -/
def pairV (n : Fin 2) : FVec Ideal S256x128 .f32 :=
  (![k0_pay46 (k0_pay13 vm), k0_pay47 (k0_pay13 vm)] : Fin 2 → _) n

theorem pairV_at (n : Fin 2) (r : Fin 256) (l : Fin 128) : pairV vm n (ix2 r l) = vm (ix2 r ⟨128 * n.val + l.val, by omega⟩) := by
  fin_cases n
  · change k0_pay46 (k0_pay13 vm) (ix2 r l) = _
    pointwise [k0_pay46, k0_pay13]
  · change k0_pay47 (k0_pay13 vm) (ix2 r l) = _
    pointwise [k0_pay47, k0_pay13]

/-! ## The groups' gradients put together -/

/-- A stack of slabs back side by side: the low lanes of a slab from its first rows, the high lanes from the others. -/
def unstack (T : FVec Ideal S768x128 .f32) (s : Fin 3) (r l : Fin 128) : EReal :=
  if l.val < 64 then T (ix2 (⟨256 * s.val + r.val, by omega⟩ : Fin 768) l)
  else T (ix2 (⟨256 * s.val + 128 + r.val, by omega⟩ : Fin 768) l)

/-- The two halves of the lanes of a group's gradient added, group 0 in the low lanes and group 1 in the high ones. -/
def fold (x y : FVec Ideal S256x128 .f32) (m : Fin 256) (l : Fin 128) : EReal :=
  if l.val < 64 then x (ix2 m l) + x (ix2 m (⟨(l.val + 64) % 128, by omega⟩ : Fin 128))
  else y (ix2 m l) + y (ix2 m (⟨(l.val + 64) % 128, by omega⟩ : Fin 128))

theorem fold_low (x y u v : FVec Ideal S256x128 .f32) (m : Fin 256) (l : Fin 128) :
    k0_pay200 v y u x (ix2 m (⟨l.val, by omega⟩ : Fin 256)) = fold x y m l := by
  have e : ∀ (z : FVec Ideal S256x128 .f32) (a b : Fin 128), a.val = b.val → z (ix2 m a) = z (ix2 m b) := fun z a b h => by rw [Fin.ext h]
  pointwise [k0_pay200]
  rw [select_slt, fold]
  exact if_congr Iff.rfl (congrArg (_ + ·) (e _ _ _ (by simp))) (congrArg (_ + ·) (e _ _ _ (by simp)))

theorem fold_high (x y u v : FVec Ideal S256x128 .f32) (m : Fin 256) (l : Fin 128) :
    k0_pay200 v y u x (ix2 m (⟨128 + l.val, by omega⟩ : Fin 256)) = fold u v m l := by
  have e : ∀ (z : FVec Ideal S256x128 .f32) (a b : Fin 128), a.val = b.val → z (ix2 m a) = z (ix2 m b) := fun z a b h => by rw [Fin.ext h]
  pointwise [k0_pay200]
  rw [select_slt, fold]
  exact if_congr Iff.rfl (congrArg (_ + ·) (e _ _ _ (by simp))) (congrArg (_ + ·) (e _ _ _ (by simp)))

theorem carry_at (x y u v : FVec Ideal S256x128 .f32) (r : Fin 128) (c : Fin 256) : k0_pay201 v y u x (ix2 r c)
    = k0_pay200 v y u x (ix2 (⟨r.val, by omega⟩ : Fin 256) c) := by
  pointwise [k0_pay201]

theorem unstack1_0 (T : FVec Ideal S768x128 .f32) (r l : Fin 128) : k0_pay169 k0_pay77 k0_pay79 T (ix2 r l) = unstack T 0 r l := by
  have e : ∀ a b : Fin 768, a.val = b.val → T (ix2 a l) = T (ix2 b l) := fun a b h => by rw [Fin.ext h]
  pointwise [k0_pay166, k0_pay169, k0_pay76, k0_pay77, k0_pay79]
  rw [select_slt, select_slt, unstack]
  by_cases h : l.val < 64
  · simp only [h, if_true, zero_add]
    exact e _ _ (by simp)
  · simp only [h, if_false, add_zero]
    exact e _ _ (by simp)

theorem unstack1_1 (T : FVec Ideal S768x128 .f32) (r l : Fin 128) : k0_pay168 k0_pay81 k0_pay83 T (ix2 r l) = unstack T 1 r l := by
  have e : ∀ a b : Fin 768, a.val = b.val → T (ix2 a l) = T (ix2 b l) := fun a b h => by rw [Fin.ext h]
  pointwise [k0_pay166, k0_pay168, k0_pay76, k0_pay81, k0_pay83]
  rw [select_slt, select_slt, unstack]
  by_cases h : l.val < 64
  · simp only [h, if_true, zero_add]
    exact e _ _ (by simp)
  · simp only [h, if_false, add_zero]
    exact e _ _ (by simp)

theorem unstack1_2 (T : FVec Ideal S768x128 .f32) (r l : Fin 128) : k0_pay167 (k0_pay84 k0_pay76) (k0_pay85 k0_pay76) T (ix2 r l) = unstack T 2 r l := by
  have e : ∀ a b : Fin 768, a.val = b.val → T (ix2 a l) = T (ix2 b l) := fun a b h => by rw [Fin.ext h]
  pointwise [k0_pay166, k0_pay167, k0_pay76, k0_pay84, k0_pay85]
  rw [select_slt, select_slt, unstack]
  by_cases h : l.val < 64
  · simp only [h, if_true, zero_add]
    exact e _ _ (by simp)
  · simp only [h, if_false, add_zero]
    exact e _ _ (by simp)

section Proj

variable (M : IVec S256x768 1) (B : FVec Ideal S256x128 .bf16) (U : FVec Ideal S256x768 .f32)
  (q0 q1 s3 s4 s5 : FVec Ideal S128x128 .f32) (dv0 dk0 dv1 dk1 : FVec Ideal S256x128 .f32) (C : FVec Ideal S128x256 .f32)

/-- The block of the projection's gradient. -/
def projBlock : FVec Ideal S128x1280 .bf16 :=
  k0_pay202 k0_pay49 k0_pay50 k0_pay51 q1 q0 dv1 dk1 s5 s4 s3 dv0 dk0 (k0_pay194 M B U) (k0_pay195 M B U) (k0_pay196 M
    B U) (k0_pay197 M k0_pay53 k0_pay54 B U) (k0_pay198 M k0_pay52 B U) k0_pay199 C

theorem proj_0 (r l : Fin 128) : projBlock M B U q0 q1 s3 s4 s5 dv0 dk0 dv1 dk1 C (ix2 r (⟨0 + l.val, by omega⟩ : Fin 1280))
    = unstack (k0_pay193 M B U) 0 r l := by
  pointwise [projBlock, k0_pay202]
  pointwise [k0_pay194, k0_pay195, k0_pay196, k0_pay197, k0_pay198, k0_pay199, k0_pay49, k0_pay50, k0_pay51, k0_pay52, k0_pay53, k0_pay54, k0_pay48]
  rw [select_slt, select_slt, unstack]
  have e : ∀ a b : Fin 768, a.val = b.val → k0_pay193 M B U (ix2 a l) = k0_pay193 M B U (ix2 b l) := fun a b h => by rw [Fin.ext h]
  by_cases h : l.val < 64
  · simp only [h, if_true, zero_add]
    exact e _ _ (by simp)
  · simp only [h, if_false, add_zero]
    exact e _ _ (by simp)

theorem proj_1 (r l : Fin 128) : projBlock M B U q0 q1 s3 s4 s5 dv0 dk0 dv1 dk1 C (ix2 r (⟨128 + l.val, by omega⟩ : Fin 1280))
    = unstack (k0_pay193 M B U) 1 r l := by
  pointwise [projBlock, k0_pay202]
  pointwise [k0_pay194, k0_pay195, k0_pay196, k0_pay197, k0_pay198, k0_pay199, k0_pay49, k0_pay50, k0_pay51, k0_pay52, k0_pay53, k0_pay54, k0_pay48]
  rw [select_slt, select_slt, unstack]
  have e : ∀ a b : Fin 768, a.val = b.val → k0_pay193 M B U (ix2 a l) = k0_pay193 M B U (ix2 b l) := fun a b h => by rw [Fin.ext h]
  by_cases h : l.val < 64
  · simp only [h, if_true, zero_add]
    exact e _ _ (by simp)
  · simp only [h, if_false, add_zero]
    exact e _ _ (by simp)

theorem proj_2 (r l : Fin 128) : projBlock M B U q0 q1 s3 s4 s5 dv0 dk0 dv1 dk1 C (ix2 r (⟨256 + l.val, by omega⟩ : Fin 1280))
    = unstack (k0_pay193 M B U) 2 r l := by
  pointwise [projBlock, k0_pay202]
  simp (disch := omega) only [dif_pos, dif_neg, Nat.sub_sub, Nat.reduceAdd, Nat.add_sub_cancel_left]
  pointwise [k0_pay194, k0_pay195, k0_pay196, k0_pay197, k0_pay198, k0_pay199, k0_pay49, k0_pay50, k0_pay51, k0_pay52, k0_pay53, k0_pay54, k0_pay48]
  rw [select_slt, select_slt, unstack]
  have e : ∀ a b : Fin 768, a.val = b.val → k0_pay193 M B U (ix2 a l) = k0_pay193 M B U (ix2 b l) := fun a b h => by rw [Fin.ext h]
  by_cases h : l.val < 64
  · simp only [h, if_true, zero_add]
    exact e _ _ (by simp)
  · simp only [h, if_false, add_zero]
    exact e _ _ (by simp)

theorem proj_3 (r l : Fin 128) : projBlock M B U q0 q1 s3 s4 s5 dv0 dk0 dv1 dk1 C (ix2 r (⟨384 + l.val, by omega⟩ : Fin 1280))
    = s3 (ix2 r l) := by
  pointwise [projBlock, k0_pay202]
  simp (disch := omega) only [dif_pos, dif_neg, Nat.sub_sub, Nat.reduceAdd, Nat.add_sub_cancel_left]

theorem proj_4 (r l : Fin 128) : projBlock M B U q0 q1 s3 s4 s5 dv0 dk0 dv1 dk1 C (ix2 r (⟨512 + l.val, by omega⟩ : Fin 1280))
    = s4 (ix2 r l) := by
  pointwise [projBlock, k0_pay202]
  simp (disch := omega) only [dif_pos, dif_neg, Nat.sub_sub, Nat.reduceAdd, Nat.add_sub_cancel_left]

theorem proj_5 (r l : Fin 128) : projBlock M B U q0 q1 s3 s4 s5 dv0 dk0 dv1 dk1 C (ix2 r (⟨640 + l.val, by omega⟩ : Fin 1280))
    = s5 (ix2 r l) := by
  pointwise [projBlock, k0_pay202]
  simp (disch := omega) only [dif_pos, dif_neg, Nat.sub_sub, Nat.reduceAdd, Nat.add_sub_cancel_left]

theorem proj_6 (r l : Fin 128) : projBlock M B U q0 q1 s3 s4 s5 dv0 dk0 dv1 dk1 C (ix2 r (⟨768 + l.val, by omega⟩ : Fin 1280))
    = fold dk0 dk1 (⟨128 + r.val, by omega⟩ : Fin 256) l + C (ix2 r (⟨l.val, by omega⟩ : Fin 256)) := by
  pointwise [projBlock, k0_pay202]
  simp (disch := omega) only [dif_pos, dif_neg, Nat.sub_sub, Nat.reduceAdd, Nat.add_sub_cancel_left]
  rw [← fold_low dk0 dk1 dv0 dv1]

theorem proj_7 (r l : Fin 128) : projBlock M B U q0 q1 s3 s4 s5 dv0 dk0 dv1 dk1 C (ix2 r (⟨896 + l.val, by omega⟩ : Fin 1280))
    = fold dv0 dv1 (⟨128 + r.val, by omega⟩ : Fin 256) l + C (ix2 r (⟨128 + l.val, by omega⟩ : Fin 256)) := by
  pointwise [projBlock, k0_pay202]
  simp (disch := omega) only [dif_pos, dif_neg, Nat.sub_sub, Nat.reduceAdd, Nat.add_sub_cancel_left]
  simp only [show 896 + l.val - 768 = 128 + l.val by omega]
  rw [← fold_high dk0 dk1 dv0 dv1]

theorem proj_8 (r l : Fin 128) : projBlock M B U q0 q1 s3 s4 s5 dv0 dk0 dv1 dk1 C (ix2 r (⟨1024 + l.val, by omega⟩ : Fin 1280))
    = q0 (ix2 r l) := by
  pointwise [projBlock, k0_pay202]
  simp (disch := omega) only [dif_pos, dif_neg, Nat.sub_sub, Nat.reduceAdd, Nat.add_sub_cancel_left]

theorem proj_9 (r l : Fin 128) : projBlock M B U q0 q1 s3 s4 s5 dv0 dk0 dv1 dk1 C (ix2 r (⟨1152 + l.val, by omega⟩ : Fin 1280))
    = q1 (ix2 r l) := by
  pointwise [projBlock, k0_pay202]
  simp (disch := omega) only [dif_pos, dif_neg, Nat.sub_sub, Nat.reduceAdd, Nat.add_sub_cancel_left]

end Proj

/-! ## The sinks -/

theorem sum1_11 (T U : FVec Ideal S1x768 .f32) : k0_pay157 T U (ix2 0 0)
    = ∑ r : Fin 128, k0_pay156 T U (ix2 0 (⟨640 + r.val, by omega⟩ : Fin 768)) := by
  pointwise [k0_pay157]
  rw [Fin.sum_univ_one]

theorem sum1_10 (T U : FVec Ideal S1x768 .f32) : k0_pay158 T U (ix2 0 0)
    = ∑ r : Fin 128, k0_pay156 T U (ix2 0 (⟨512 + r.val, by omega⟩ : Fin 768)) := by
  pointwise [k0_pay158]
  rw [Fin.sum_univ_one]

theorem sum1_9 (T U : FVec Ideal S1x768 .f32) : k0_pay159 T U (ix2 0 0)
    = ∑ r : Fin 128, k0_pay156 T U (ix2 0 (⟨384 + r.val, by omega⟩ : Fin 768)) := by
  pointwise [k0_pay159]
  rw [Fin.sum_univ_one]

theorem sum1_8 (T U : FVec Ideal S1x768 .f32) : k0_pay160 T U (ix2 0 0)
    = ∑ r : Fin 128, k0_pay156 T U (ix2 0 (⟨256 + r.val, by omega⟩ : Fin 768)) := by
  pointwise [k0_pay160]
  rw [Fin.sum_univ_one]

theorem sum1_7 (T U : FVec Ideal S1x768 .f32) : k0_pay161 T U (ix2 0 0)
    = ∑ r : Fin 128, k0_pay156 T U (ix2 0 (⟨128 + r.val, by omega⟩ : Fin 768)) := by
  pointwise [k0_pay161]
  rw [Fin.sum_univ_one]

theorem sum1_6 (T U : FVec Ideal S1x768 .f32) : k0_pay162 T U (ix2 0 0)
    = ∑ r : Fin 128, k0_pay156 T U (ix2 0 (⟨0 + r.val, by omega⟩ : Fin 768)) := by
  pointwise [k0_pay162]
  rw [Fin.sum_univ_one]

section Sums

variable (E : FVec Ideal S256x768 .f32) (S R : FVec Ideal S1x768 .f32) (B : FVec Ideal S256x128 .bf16)
  (d0 : FVec Ideal S128x128 .f32) (T : FVec Ideal S768x128 .f32) (A A' : FVec Ideal S384x128 .f32)

theorem sum0_5 : k0_pay184 E S R B k0_pay73 d0 T A A' (ix2 0 0)
    = ∑ r : Fin 128, k0_pay178 E S R B k0_pay73 d0 T A A' (ix2 0 (⟨640 + r.val, by omega⟩ : Fin 768)) := by
  pointwise [k0_pay184]
  rw [Fin.sum_univ_one]

theorem sum0_4 : k0_pay186 (k0_pay185 E S R B k0_pay73 d0 T A A') (ix2 0 0)
    = ∑ r : Fin 128, k0_pay178 E S R B k0_pay73 d0 T A A' (ix2 0 (⟨512 + r.val, by omega⟩ : Fin 768)) := by
  pointwise [k0_pay186, k0_pay185]
  rw [Fin.sum_univ_one]

theorem sum0_3 : k0_pay187 (k0_pay183 E S R B k0_pay73 d0 T A A') (ix2 0 0)
    = ∑ r : Fin 128, k0_pay178 E S R B k0_pay73 d0 T A A' (ix2 0 (⟨384 + r.val, by omega⟩ : Fin 768)) := by
  pointwise [k0_pay187, k0_pay183]
  rw [Fin.sum_univ_one]

theorem sum0_2 : k0_pay188 (k0_pay182 E S R B k0_pay73 d0 T A A') (ix2 0 0)
    = ∑ r : Fin 128, k0_pay178 E S R B k0_pay73 d0 T A A' (ix2 0 (⟨256 + r.val, by omega⟩ : Fin 768)) := by
  pointwise [k0_pay188, k0_pay182]
  rw [Fin.sum_univ_one]

theorem sum0_1 : k0_pay189 (k0_pay181 E S R B k0_pay73 d0 T A A') (ix2 0 0)
    = ∑ r : Fin 128, k0_pay178 E S R B k0_pay73 d0 T A A' (ix2 0 (⟨128 + r.val, by omega⟩ : Fin 768)) := by
  pointwise [k0_pay189, k0_pay181]
  rw [Fin.sum_univ_one]

theorem sum0_0 : k0_pay190 (k0_pay180 E S R B k0_pay73 d0 T A A') (ix2 0 0)
    = ∑ r : Fin 128, k0_pay178 E S R B k0_pay73 d0 T A A' (ix2 0 (⟨0 + r.val, by omega⟩ : Fin 768)) := by
  pointwise [k0_pay190, k0_pay180]
  rw [Fin.sum_univ_one]

end Sums

/-- Twelve terms of which each row keeps its own. -/
theorem hot (n : Fin 16) (f : Fin 12 → EReal) :
    Scalar.select (IntOp.cmpi .eq (BitVec.ofNat 32 n.val) 0#32) (f 0) 0
      + Scalar.select (IntOp.cmpi .eq (BitVec.ofNat 32 n.val) 1#32) (f 1) 0
      + Scalar.select (IntOp.cmpi .eq (BitVec.ofNat 32 n.val) 2#32) (f 2) 0
      + Scalar.select (IntOp.cmpi .eq (BitVec.ofNat 32 n.val) 3#32) (f 3) 0
      + Scalar.select (IntOp.cmpi .eq (BitVec.ofNat 32 n.val) 4#32) (f 4) 0
      + Scalar.select (IntOp.cmpi .eq (BitVec.ofNat 32 n.val) 5#32) (f 5) 0
      + Scalar.select (IntOp.cmpi .eq (BitVec.ofNat 32 n.val) 6#32) (f 6) 0
      + Scalar.select (IntOp.cmpi .eq (BitVec.ofNat 32 n.val) 7#32) (f 7) 0
      + Scalar.select (IntOp.cmpi .eq (BitVec.ofNat 32 n.val) 8#32) (f 8) 0
      + Scalar.select (IntOp.cmpi .eq (BitVec.ofNat 32 n.val) 9#32) (f 9) 0
      + Scalar.select (IntOp.cmpi .eq (BitVec.ofNat 32 n.val) 10#32) (f 10) 0
      + Scalar.select (IntOp.cmpi .eq (BitVec.ofNat 32 n.val) 11#32) (f 11) 0 = MixASpec.picked n.val f := by
  have h : ∀ (n : Fin 16) (k : Fin 12), IntOp.cmpi .eq (BitVec.ofNat 32 n.val) (BitVec.ofNat 32 k.val)
      = if n.val = k.val then 1#1 else 0#1 := by decide +kernel
  have s : ∀ (k : Fin 12) (a : EReal), Scalar.select (IntOp.cmpi .eq (BitVec.ofNat 32 n.val) (BitVec.ofNat 32 k.val)) a 0
      = if n.val = k.val then a else 0 := fun k a => by rw [h]; split <;> rfl
  have s0 := s 0 (f 0)
  have s1 := s 1 (f 1)
  have s2 := s 2 (f 2)
  have s3 := s 3 (f 3)
  have s4 := s 4 (f 4)
  have s5 := s 5 (f 5)
  have s6 := s 6 (f 6)
  have s7 := s 7 (f 7)
  have s8 := s 8 (f 8)
  have s9 := s 9 (f 9)
  have s10 := s 10 (f 10)
  have s11 := s 11 (f 11)
  rw [show Scalar.select (IntOp.cmpi .eq (BitVec.ofNat 32 n.val) 0#32) (f 0) 0 = _ from s0, show Scalar.select (IntOp.cmpi .eq (BitVec.ofNat 32 n.val) 1#32) (f 1) 0 = _ from s1, show Scalar.select (IntOp.cmpi .eq (BitVec.ofNat 32 n.val) 2#32) (f 2) 0 = _ from s2, show Scalar.select (IntOp.cmpi .eq (BitVec.ofNat 32 n.val) 3#32) (f 3) 0 = _ from s3, show Scalar.select (IntOp.cmpi .eq (BitVec.ofNat 32 n.val) 4#32) (f 4) 0 = _ from s4, show Scalar.select (IntOp.cmpi .eq (BitVec.ofNat 32 n.val) 5#32) (f 5) 0 = _ from s5, show Scalar.select (IntOp.cmpi .eq (BitVec.ofNat 32 n.val) 6#32) (f 6) 0 = _ from s6, show Scalar.select (IntOp.cmpi .eq (BitVec.ofNat 32 n.val) 7#32) (f 7) 0 = _ from s7, show Scalar.select (IntOp.cmpi .eq (BitVec.ofNat 32 n.val) 8#32) (f 8) 0 = _ from s8, show Scalar.select (IntOp.cmpi .eq (BitVec.ofNat 32 n.val) 9#32) (f 9) 0 = _ from s9, show Scalar.select (IntOp.cmpi .eq (BitVec.ofNat 32 n.val) 10#32) (f 10) 0 = _ from s10, show Scalar.select (IntOp.cmpi .eq (BitVec.ofNat 32 n.val) 11#32) (f 11) 0 = _ from s11]
  clear s h s0 s1 s2 s3 s4 s5 s6 s7 s8 s9 s10 s11
  fin_cases n <;> simp [MixASpec.picked]

/-- The sinks' rows. -/
theorem rows_at (b : Fin 12 → FVec Ideal S1x1 .f32) (prev : Vec Ideal S16x128 .f32) (i : Fin 16) (j : Fin 128) :
    k0_pay207 (b 11) (b 10) (b 9) (b 8) (b 7) (k0_pay203 prev) (iota Kind.tc S16x128 32 [0] iota_S16x128_d0_w32)
      (k0_pay204 (b 5) (b 4) (b 3) (b 2) (b 1) (b 0) (iota Kind.tc S16x128 32 [0] iota_S16x128_d0_w32) (Scalar.ofBits .f32 0x00000000#32))
      (k0_pay205 (iota Kind.tc S16x128 32 [0] iota_S16x128_d0_w32)) (k0_pay206 (b 6)) (ix2 i j)
      = prev (ix2 i j) + MixASpec.picked i.val fun g => b g (ix2 0 0) := by
  pointwise [k0_pay207, k0_pay204, k0_pay205, k0_pay206, k0_pay203]
  rw [← hot]

/-- The memory's gradients: a pair of heads in each quarter of the lanes. -/
theorem quarters_at (v0 k0 v1 k1 : FVec Ideal S256x128 .f32) (prev : Vec Ideal S256x512 .f32) (m : Fin 256) (n : Fin 4) (l : Fin 128) :
    k0_pay208 v1 k1 v0 k0 prev (ix2 m ⟨128 * n.val + l.val, by omega⟩)
      = prev (ix2 m ⟨128 * n.val + l.val, by omega⟩) + (![k0, k1, v0, v1] : Fin 4 → _) n (ix2 m l) := by
  fin_cases n <;> pointwise [k0_pay208]
    <;> simp (disch := omega) only [dif_pos, dif_neg, Nat.sub_sub, Nat.reduceAdd, Nat.add_sub_cancel_left] <;> rfl

end Cert.MixAIdeal.Value

end
-- ==== Proof.MixAReads.lean ====
/- What the blocks of a grid point of the attention mixer's gradient kernel are cut from, and one point's contribution. -/
module

public import proofs.«01_k».proof.Proof.MixAIdealFrame
public import proofs.«01_k».proof.Proof.MixAParts
public import Idealize.ShloMosaic.Lib.Pipeline.ValueKit
public import Idealize.ShloMosaic.Lib.Pointwise
public import Idealize.ShloMosaic.Lib.Claim

@[expose] public section

set_option maxRecDepth 16384

noncomputable section

namespace Cert.MixAIdeal.Value

open Cert.MixAIdeal Cert.MixAIdeal.Gen Idealize.ShloMosaic Idealize.ShloMosaic.TcCoe Idealize.SL.Sem
open Idealize.ShloMosaic.Pipeline (Dat)
open Cert

variable (m : (ℓ : Loc nD τ sig) → Buf (Elt Ideal) ℓ)

theorem idx : ∀ t : Fin cfg0.N, win0_0.index t = ![63 - t.val, 0] ∧ win0_1.index t = ![63 - t.val - 1, 6]
    ∧ win0_2.index t = ![63 - t.val, 6] ∧ win0_3.index t = ![63 - t.val - 1, 7] ∧ win0_4.index t = ![63 - t.val, 7]
    ∧ win0_5.index t = ![63 - t.val, 4] ∧ win0_6.index t = ![0, 0] ∧ win0_7.index t = ![0, 0] ∧ win0_8.index t = ![0, 1]
    ∧ win0_9.index t = ![63 - t.val, 0] ∧ win0_10.index t = ![63 - t.val, 0] ∧ win0_11.index t = ![0, 0]
    ∧ win0_12.index t = ![0, 0] :=
  (by decide +kernel : ∀ t : Fin grid0.N, _)

theorem coord (t : Fin cfg0.N) : (grid0.coords t 0).val = t.val := (by decide +kernel : ∀ t : Fin grid0.N, (grid0.coords t 0).val = t.val) t

/-- The chunk of a grid point: the last first. -/
abbrev chunk (t : Fin cfg0.N) : Fin 64 := ⟨63 - t.val, by omega⟩

/-! ## The arrays the call is handed -/

abbrev arrP (c : Dev nD) (R : Fin 8192) (k : Fin 1280) : EReal := V m c main_v3 (ix2 R k)

abbrev arrM (c : Dev nD) (r : Fin 256) (k : Fin 512) : EReal := V m c main_v4 (ix2 r k)

abbrev arrS (c : Dev nD) (h : Fin 12) : EReal := V m c main_v2 (ix2 (⟨h.val, by omega⟩ : Fin 16) (0 : Fin 128))

abbrev arrD (c : Dev nD) (R : Fin 8192) (k : Fin 1024) : EReal := V m c main_arg3 (ix2 R k)

/-! ## The blocks -/

theorem blockX (c : Dev nD) (t : Fin cfg0.N) (i : Fin 128) (k : Fin 768) :
    X0_0 m c t (ix2 i k) = arrP m c (MixASpec.rowAt (chunk t) i) ⟨k.val, by omega⟩ := by
  unfold X0_0 Pipeline.Window.fill
  rw [dif_pos (moved0_0 t _)]
  unfold arrP MixASpec.rowAt
  blk_point [iblk, idx t]

theorem blockKp (c : Dev nD) (t : Fin cfg0.N) (i : Fin 128) (k : Fin 128) :
    iblk m c 1 t (ix2 i k) = arrP m c (⟨128 * (63 - t.val - 1) + i.val, by omega⟩ : Fin 8192) ⟨768 + k.val, by omega⟩ := by
  unfold arrP
  blk_point [iblk, idx t]

theorem blockKc (c : Dev nD) (t : Fin cfg0.N) (i : Fin 128) (k : Fin 128) :
    iblk m c 2 t (ix2 i k) = arrP m c (MixASpec.rowAt (chunk t) i) ⟨768 + k.val, by omega⟩ := by
  unfold arrP MixASpec.rowAt
  blk_point [iblk, idx t]

theorem blockVp (c : Dev nD) (t : Fin cfg0.N) (i : Fin 128) (k : Fin 128) :
    iblk m c 3 t (ix2 i k) = arrP m c (⟨128 * (63 - t.val - 1) + i.val, by omega⟩ : Fin 8192) ⟨896 + k.val, by omega⟩ := by
  unfold arrP
  blk_point [iblk, idx t]

theorem blockVc (c : Dev nD) (t : Fin cfg0.N) (i : Fin 128) (k : Fin 128) :
    iblk m c 4 t (ix2 i k) = arrP m c (MixASpec.rowAt (chunk t) i) ⟨896 + k.val, by omega⟩ := by
  unfold arrP MixASpec.rowAt
  blk_point [iblk, idx t]

theorem blockQ (c : Dev nD) (t : Fin cfg0.N) (i : Fin 128) (k : Fin 256) :
    iblk m c 5 t (ix2 i k) = arrP m c (MixASpec.rowAt (chunk t) i) ⟨1024 + k.val, by omega⟩ := by
  unfold arrP MixASpec.rowAt
  blk_point [iblk, idx t]

theorem blockS (c : Dev nD) (t : Fin cfg0.N) (i : Fin 16) (k : Fin 128) : iblk m c 6 t (ix2 i k) = V m c main_v2 (ix2 i k) := by
  blk_point [iblk, idx t]

theorem blockK (c : Dev nD) (t : Fin cfg0.N) (i : Fin 256) (k : Fin 256) :
    iblk m c 7 t (ix2 i k) = arrM m c i ⟨k.val, by omega⟩ := by
  unfold arrM
  blk_point [iblk, idx t]

theorem blockV (c : Dev nD) (t : Fin cfg0.N) (i : Fin 256) (k : Fin 256) :
    iblk m c 8 t (ix2 i k) = arrM m c i ⟨256 + k.val, by omega⟩ := by
  unfold arrM
  blk_point [iblk, idx t]

theorem blockD (c : Dev nD) (t : Fin cfg0.N) (i : Fin 128) (k : Fin 1024) :
    iblk m c 9 t (ix2 i k) = arrD m c (MixASpec.rowAt (chunk t) i) k := by
  unfold arrD MixASpec.rowAt
  blk_point [iblk, idx t]

/-! ## The window's heads -/

section Point

open Cert.SwaSpec

variable (c : Dev nD) (t : Fin cfg0.N)

/-- The head of its group that lane `l` of slab `s` belongs to. -/
abbrev lead (s : Fin 3) (l : Fin 128) : Fin 6 := ⟨2 * s.val + l.val / 64, by omega⟩

/-- Lane `l` within its head. -/
abbrev within (l : Fin 128) : Fin 64 := ⟨l.val % 64, by omega⟩

theorem slab_place (s : Fin 3) (l r : Fin 128) : slab (place s l r) = s := Fin.ext (by simp [slab, place]; omega)

theorem row_place (s : Fin 3) (l r : Fin 128) : row (place s l r) = r := Fin.ext (by simp [row, place]; omega)

theorem lane_place (s : Fin 3) (l r : Fin 128) (k : Fin 64) : (lane (place s l r) k).val = 64 * (l.val / 64) + k.val := by
  simp [lane, place]; omega

/-- The slabs of group `g`'s queries. -/
abbrev q3 (X : Vec Ideal S128x768 .bf16) (g : Fin 2) (s : Fin 3) : FVec Ideal S128x128 .f32 := slabQ X ⟨3 * g.val + s.val, by omega⟩

/-- The slabs of group `g`'s gradient of the result. -/
abbrev d3 (D : Vec Ideal S128x1024 .f32) (g : Fin 2) (s : Fin 3) : FVec Ideal S128x128 .f32 := slabD D ⟨3 * g.val + s.val, by omega⟩

/-- The sinks of group `g`. -/
abbrev z6 (S : Vec Ideal S16x128 .f32) (g : Fin 2) (j : Fin 6) : FVec Ideal S1x1 .f32 := sinkOf S (MixASpec.headOf g j)

theorem slabs_three (x : Fin 3 → FVec Ideal S128x128 .f32) (s : Fin 3) (r l : Fin 128) : slabs (x 0) (x 1) (x 2) s r l = x s (ix2 r l) := by
  fin_cases s <;> rfl

theorem slab_q (g : Fin 2) (s : Fin 3) (r l : Fin 128) : slabs (q3 (X0_0 m c t) g 0) (q3 (X0_0 m c t) g 1) (q3 (X0_0 m c t) g 2) s r l
    = MixASpec.query (arrP m c) (chunk t) (MixASpec.headOf g (lead s l)) r (within l) := by
  refine (slabs_three (q3 (X0_0 m c t) g) s r l).trans ((slabQ_at _ _ r l).trans ((blockX m c t r _).trans ?_))
  unfold MixASpec.query arrP
  congr 3
  simp only [MixASpec.headOf, within]
  omega

theorem slab_d (g : Fin 2) (s : Fin 3) (r l : Fin 128) : slabs (d3 (iblk m c 9 t) g 0) (d3 (iblk m c 9 t) g 1) (d3 (iblk m c 9 t) g 2) s r l
    = MixASpec.dres (arrD m c) (chunk t) (MixASpec.headOf g (lead s l)) r (within l) := by
  refine (slabs_three (d3 (iblk m c 9 t) g) s r l).trans ((slabD_at _ _ r l).trans ((blockD m c t r _).trans ?_))
  unfold MixASpec.dres arrD
  congr 3
  simp only [MixASpec.headOf, within]
  omega

theorem head_q (g : Fin 2) (s : Fin 3) (l r : Fin 128) :
    head (slabs (q3 (X0_0 m c t) g 0) (q3 (X0_0 m c t) g 1) (q3 (X0_0 m c t) g 2)) (place s l r)
      = MixASpec.query (arrP m c) (chunk t) (MixASpec.headOf g (lead s l)) r := by
  funext k
  unfold head
  rw [slab_q, slab_place, row_place]
  have := lane_place s l r k
  congr 2
  · exact Fin.ext (by simp only [lead]; omega)
  · exact Fin.ext (by simp only [within]; omega)

theorem head_d (g : Fin 2) (s : Fin 3) (l r : Fin 128) :
    head (slabs (d3 (iblk m c 9 t) g 0) (d3 (iblk m c 9 t) g 1) (d3 (iblk m c 9 t) g 2)) (place s l r)
      = MixASpec.dres (arrD m c) (chunk t) (MixASpec.headOf g (lead s l)) r := by
  funext k
  unfold head
  rw [slab_d, slab_place, row_place]
  have := lane_place s l r k
  congr 2
  · exact Fin.ext (by simp only [lead]; omega)
  · exact Fin.ext (by simp only [within]; omega)

theorem keys_pt (g : Fin 2) (i : Fin 256) (l : Fin 128) :
    keysOf (iblk m c 1 t) (iblk m c 2 t) g (ix2 i l) = MixASpec.key (arrP m c) (chunk t) g i (within l) := by
  refine (keysOf_at _ _ g i l).trans ?_
  unfold MixASpec.key MixASpec.keyRow
  split
  · refine (blockKp m c t _ _).trans ?_
    unfold arrP
    congr 2
    · exact Fin.ext (by simp only; omega)
    · exact Fin.ext (by simp only; omega)
  · refine (blockKc m c t _ _).trans ?_
    unfold arrP MixASpec.rowAt
    congr 2
    · exact Fin.ext (by simp only; omega)
    · exact Fin.ext (by simp only; omega)

theorem vals_pt (g : Fin 2) (i : Fin 256) (l : Fin 128) :
    valsOf (iblk m c 3 t) (iblk m c 4 t) g (ix2 i l) = MixASpec.val (arrP m c) (chunk t) g i (within l) := by
  refine (valsOf_at _ _ g i l).trans ?_
  unfold MixASpec.val MixASpec.keyRow
  split
  · refine (blockVp m c t _ _).trans ?_
    unfold arrP
    congr 2
    · exact Fin.ext (by simp only; omega)
    · exact Fin.ext (by simp only; omega)
  · refine (blockVc m c t _ _).trans ?_
    unfold arrP MixASpec.rowAt
    congr 2
    · exact Fin.ext (by simp only; omega)
    · exact Fin.ext (by simp only; omega)

theorem mem_k (g : Fin 2) (x : Fin 768) : mem (rowsAt (keysOf (iblk m c 1 t) (iblk m c 2 t) g)) x = MixASpec.key (arrP m c) (chunk t) g := by
  funext i k
  refine (keys_pt m c t g i (lane x k)).trans (congrArg _ (Fin.ext ?_))
  simp only [within, lane]
  omega

theorem mem_v (g : Fin 2) (x : Fin 768) : mem (rowsAt (valsOf (iblk m c 3 t) (iblk m c 4 t) g)) x = MixASpec.val (arrP m c) (chunk t) g := by
  funext i k
  refine (vals_pt m c t g i (lane x k)).trans (congrArg _ (Fin.ext ?_))
  simp only [within, lane]
  omega

theorem sinkAt_six (z : Fin 6 → FVec Ideal S1x1 .f32) (x : Fin 768) : sinkAt (z 0) (z 1) (z 2) (z 3) (z 4) (z 5) x = z ⟨x.val / 128, by omega⟩ (ix2 0 0) := by
  unfold sinkAt
  generalize (⟨x.val / 128, _⟩ : Fin 6) = j
  fin_cases j <;> rfl

theorem sink_pt (g : Fin 2) (s : Fin 3) (l r : Fin 128) : sinkAt (z6 (iblk m c 6 t) g 0) (z6 (iblk m c 6 t) g 1) (z6 (iblk m c 6 t) g 2)
    (z6 (iblk m c 6 t) g 3) (z6 (iblk m c 6 t) g 4) (z6 (iblk m c 6 t) g 5) (place s l r) = arrS m c (MixASpec.headOf g (lead s l)) := by
  refine (sinkAt_six (z6 (iblk m c 6 t) g) _).trans ((sinkOf_at _ _).trans ((blockS m c t _ _).trans ?_))
  have e : (⟨(place s l r).val / 128, by omega⟩ : Fin 6) = lead s l := Fin.ext (by simp only [place, lead]; omega)
  rw [e]

theorem window_pt (s : Fin 3) (l r : Fin 128) : win (k0_pay4 (grid0.coords t)) (place s l r) = MixASpec.seen (chunk t) r := by
  rw [win_at _ (chunk t) (by rw [coord]), row_place]

/-! ## One point's contribution -/

abbrev wt := MixASpec.weight' (arrP m c) (arrS m c)

abbrev ds := MixASpec.dscore' (arrP m c) (arrS m c) (arrD m c)

/-- The gradient of the values, group `g`. -/
def gradV (g : Fin 2) : FVec Ideal S256x128 .f32 := dvals (k0_pay4 (grid0.coords t)) (q3 (X0_0 m c t) g 0) (q3 (X0_0 m c t) g 1) (q3 (X0_0 m c t) g 2)
  (d3 (iblk m c 9 t) g 0) (d3 (iblk m c 9 t) g 1) (d3 (iblk m c 9 t) g 2) (keysOf (iblk m c 1 t) (iblk m c 2 t) g)
  (z6 (iblk m c 6 t) g 0) (z6 (iblk m c 6 t) g 1) (z6 (iblk m c 6 t) g 2) (z6 (iblk m c 6 t) g 3) (z6 (iblk m c 6 t) g 4) (z6 (iblk m c 6 t) g 5)

/-- The gradient of the keys, group `g`. -/
def gradK (g : Fin 2) : FVec Ideal S256x128 .f32 := dkeys (k0_pay4 (grid0.coords t)) (q3 (X0_0 m c t) g 0) (q3 (X0_0 m c t) g 1) (q3 (X0_0 m c t) g 2)
  (d3 (iblk m c 9 t) g 0) (d3 (iblk m c 9 t) g 1) (d3 (iblk m c 9 t) g 2) (keysOf (iblk m c 1 t) (iblk m c 2 t) g) (valsOf (iblk m c 3 t) (iblk m c 4 t) g)
  (z6 (iblk m c 6 t) g 0) (z6 (iblk m c 6 t) g 1) (z6 (iblk m c 6 t) g 2) (z6 (iblk m c 6 t) g 3) (z6 (iblk m c 6 t) g 4) (z6 (iblk m c 6 t) g 5)

/-- The gradient of the queries, stacked, group `g`. -/
def gradQ (g : Fin 2) : FVec Ideal S768x128 .f32 := dstackq (k0_pay4 (grid0.coords t)) (q3 (X0_0 m c t) g 0) (q3 (X0_0 m c t) g 1) (q3 (X0_0 m c t) g 2)
  (d3 (iblk m c 9 t) g 0) (d3 (iblk m c 9 t) g 1) (d3 (iblk m c 9 t) g 2) (keysOf (iblk m c 1 t) (iblk m c 2 t) g) (valsOf (iblk m c 3 t) (iblk m c 4 t) g)
  (z6 (iblk m c 6 t) g 0) (z6 (iblk m c 6 t) g 1) (z6 (iblk m c 6 t) g 2) (z6 (iblk m c 6 t) g 3) (z6 (iblk m c 6 t) g 4) (z6 (iblk m c 6 t) g 5)

/-- The gradient of the sinks, row by row, group `g`. -/
def gradS (g : Fin 2) : FVec Ideal S1x768 .f32 := dsinks (k0_pay4 (grid0.coords t)) (q3 (X0_0 m c t) g 0) (q3 (X0_0 m c t) g 1) (q3 (X0_0 m c t) g 2)
  (d3 (iblk m c 9 t) g 0) (d3 (iblk m c 9 t) g 1) (d3 (iblk m c 9 t) g 2) (keysOf (iblk m c 1 t) (iblk m c 2 t) g) (valsOf (iblk m c 3 t) (iblk m c 4 t) g)
  (z6 (iblk m c 6 t) g 0) (z6 (iblk m c 6 t) g 1) (z6 (iblk m c 6 t) g 2) (z6 (iblk m c 6 t) g 3) (z6 (iblk m c 6 t) g 4) (z6 (iblk m c 6 t) g 5)

theorem gradV_pt (g : Fin 2) (i : Fin 256) (l : Fin 128) : gradV m c t g (ix2 i l)
    = ∑ s : Fin 3, ∑ r : Fin 128, wt m c (chunk t) (MixASpec.headOf g (lead s l)) r i
        * MixASpec.dres (arrD m c) (chunk t) (MixASpec.headOf g (lead s l)) r (within l) := by
  refine (dvals_at _ _ _ _ _ _ _ _ _ _ _ _ _ _ i l).trans
    (Finset.sum_congr rfl fun s _ => Finset.sum_congr rfl fun r _ => ?_)
  rw [window_pt, head_q, mem_k, sink_pt, slab_d]
  unfold wt MixASpec.weight'
  rw [MixASpec.groupOf_headOf]

theorem gradK_pt (g : Fin 2) (i : Fin 256) (l : Fin 128) : gradK m c t g (ix2 i l)
    = ∑ s : Fin 3, ∑ r : Fin 128, ds m c (chunk t) (MixASpec.headOf g (lead s l)) r i
        * MixASpec.query (arrP m c) (chunk t) (MixASpec.headOf g (lead s l)) r (within l) := by
  refine (dkeys_at _ _ _ _ _ _ _ _ _ _ _ _ _ _ _ i l).trans
    (Finset.sum_congr rfl fun s _ => Finset.sum_congr rfl fun r _ => ?_)
  rw [window_pt, head_q, head_d, mem_k, mem_v, sink_pt, slab_q]
  unfold ds MixASpec.dscore'
  rw [MixASpec.groupOf_headOf]

theorem gradQ_pt (g : Fin 2) (s : Fin 3) (r l : Fin 128) : gradQ m c t g (ix2 (place s l r) l)
    = MixASpec.dq (ds m c) (MixASpec.key (arrP m c)) (chunk t) (MixASpec.headOf g (lead s l)) r (within l) := by
  refine (dstackq_at _ _ _ _ _ _ _ _ _ _ _ _ _ _ _ _ l).trans (Finset.sum_congr rfl fun i _ => ?_)
  rw [window_pt, head_q, head_d, mem_k, mem_v, sink_pt, keys_pt]
  unfold ds MixASpec.dscore'
  rw [MixASpec.groupOf_headOf]

theorem unstack_pt (g : Fin 2) (s : Fin 3) (r l : Fin 128) : unstack (gradQ m c t g) s r l
    = MixASpec.dq (ds m c) (MixASpec.key (arrP m c)) (chunk t) (MixASpec.headOf g (lead s l)) r (within l) := by
  rw [← gradQ_pt]
  unfold unstack
  split
  · refine congrArg (fun x => gradQ m c t g (ix2 x l)) (Fin.ext ?_)
    simp only [place]; omega
  · refine congrArg (fun x => gradQ m c t g (ix2 x l)) (Fin.ext ?_)
    simp only [place]; omega

theorem gradS_pt (g : Fin 2) (j : Fin 6) (r : Fin 128) : gradS m c t g (ix2 0 (⟨128 * j.val + r.val, by omega⟩ : Fin 768))
    = MixASpec.dsink' (arrP m c) (arrS m c) (arrD m c) (chunk t) (MixASpec.headOf g j) r := by
  have e : (⟨128 * j.val + r.val, by omega⟩ : Fin 768) = place (⟨j.val / 2, by omega⟩ : Fin 3) (⟨64 * (j.val % 2), by omega⟩ : Fin 128) r :=
    Fin.ext (by simp only [place]; omega)
  have e' : lead (⟨j.val / 2, by omega⟩ : Fin 3) (⟨64 * (j.val % 2), by omega⟩ : Fin 128) = j := Fin.ext (by simp only [lead]; omega)
  rw [e]
  refine (dsinks_at _ _ _ _ _ _ _ _ _ _ _ _ _ _ _ _).trans ?_
  rw [window_pt, head_q, head_d, mem_k, mem_v, sink_pt, e']
  unfold MixASpec.dsink'
  rw [MixASpec.groupOf_headOf]

/-- The heads of a group, two to a slab. -/
theorem sum_leads (f : Fin 6 → EReal) (l l' : Fin 128) (h : l'.val = (l.val + 64) % 128) :
    (∑ s : Fin 3, f (lead s l)) + ∑ s : Fin 3, f (lead s l') = ∑ j : Fin 6, f j := by
  simp only [Fin.sum_univ_three, Fin.sum_univ_six]
  by_cases hl : l.val < 64
  · have e : ∀ s : Fin 3, lead s l = ⟨2 * s.val, by omega⟩ := fun s => Fin.ext (by simp only [lead]; omega)
    have e' : ∀ s : Fin 3, lead s l' = ⟨2 * s.val + 1, by omega⟩ := fun s => Fin.ext (by simp only [lead]; omega)
    simp only [e, e']
    change (f 0 + f 2 + f 4) + (f 1 + f 3 + f 5) = _
    ac_rfl
  · have e : ∀ s : Fin 3, lead s l = ⟨2 * s.val + 1, by omega⟩ := fun s => Fin.ext (by simp only [lead]; omega)
    have e' : ∀ s : Fin 3, lead s l' = ⟨2 * s.val, by omega⟩ := fun s => Fin.ext (by simp only [lead]; omega)
    simp only [e, e']
    change (f 1 + f 3 + f 5) + (f 0 + f 2 + f 4) = _
    ac_rfl

theorem halves (g : Fin 2) (X : Fin 64 → Fin 12 → Fin 128 → Fin 256 → EReal) (Y : Fin 64 → Fin 12 → Fin 128 → Fin 64 → EReal)
    (x : FVec Ideal S256x128 .f32) (T : Fin 64)
    (hx : ∀ i l, x (ix2 i l) = ∑ s : Fin 3, ∑ r : Fin 128, X T (MixASpec.headOf g (lead s l)) r i * Y T (MixASpec.headOf g (lead s l)) r (within l))
    (i : Fin 256) (l : Fin 128) : x (ix2 i l) + x (ix2 i (⟨(l.val + 64) % 128, by omega⟩ : Fin 128)) = MixASpec.part X Y T g i (within l) := by
  have e : within (⟨(l.val + 64) % 128, by omega⟩ : Fin 128) = within l := Fin.ext (by simp only [within]; omega)
  rw [hx, hx, e]
  exact sum_leads (fun j => ∑ r : Fin 128, X T (MixASpec.headOf g j) r i * Y T (MixASpec.headOf g j) r (within l)) l _ rfl

/-- The head of keys and values that a lane belongs to. -/
abbrev side (l : Fin 128) : Fin 2 := ⟨l.val / 64, by omega⟩

theorem side_low {l : Fin 128} (h : l.val < 64) : side l = 0 := Fin.ext (by simp only [side, Fin.val_zero]; omega)

theorem side_high {l : Fin 128} (h : ¬l.val < 64) : side l = 1 := Fin.ext (by simp only [side, Fin.val_one]; omega)

theorem foldV_pt (i : Fin 256) (l : Fin 128) : fold (gradV m c t 0) (gradV m c t 1) i l
    = MixASpec.part (wt m c) (MixASpec.dres (arrD m c)) (chunk t) (side l) i (within l) := by
  unfold fold
  split
  case isTrue h => rw [side_low h]; exact halves 0 (wt m c) _ _ _ (gradV_pt m c t 0) i l
  case isFalse h => rw [side_high h]; exact halves 1 (wt m c) _ _ _ (gradV_pt m c t 1) i l

theorem foldK_pt (i : Fin 256) (l : Fin 128) : fold (gradK m c t 0) (gradK m c t 1) i l
    = MixASpec.part (ds m c) (MixASpec.query (arrP m c)) (chunk t) (side l) i (within l) := by
  unfold fold
  split
  case isTrue h => rw [side_low h]; exact halves 0 (ds m c) _ _ _ (gradK_pt m c t 0) i l
  case isFalse h => rw [side_high h]; exact halves 1 (ds m c) _ _ _ (gradK_pt m c t 1) i l

end Point

/-! ## The memory's heads -/

section Memory

open Cert.MemSpec

variable (c : Dev nD) (t : Fin cfg0.N)

/-- The head that lane `l` of pair `p` belongs to. -/
abbrev headOf (p : Fin 2) (l : Fin 128) : Fin 4 := ⟨2 * p.val + l.val / 64, by omega⟩

theorem mrow_place (l r : Fin 128) : row (place l r) = r := Fin.ext (by simp [row, place])

theorem mlane_place (l r : Fin 128) (k : Fin 64) : (lane (place l r) k).val = 64 * (l.val / 64) + k.val := by
  simp [lane, place]; omega

/-- The gradient of the result, pair `p`. -/
abbrev pairD (D : Vec Ideal S128x1024 .f32) (p : Fin 2) : FVec Ideal S128x128 .f32 := slabD D ⟨6 + p.val, by omega⟩

theorem pairQ_pt (p : Fin 2) (l r : Fin 128) : head (Mem.pairAt (pairQ (iblk m c 5 t) p)) (place l r)
    = MixASpec.mquery (arrP m c) (headOf p l) (MixASpec.rowAt (chunk t) r) := by
  funext k
  unfold head
  rw [mrow_place]
  refine (pairQ_at _ p r _).trans ((blockQ m c t r _).trans ?_)
  unfold MixASpec.mquery arrP
  have := mlane_place l r k
  congr 3
  simp only [headOf]
  omega

theorem pairD_pt (p : Fin 2) (l r : Fin 128) : head (Mem.pairAt (pairD (iblk m c 9 t) p)) (place l r)
    = MixASpec.mdres (arrD m c) (headOf p l) (MixASpec.rowAt (chunk t) r) := by
  funext k
  unfold head
  rw [mrow_place]
  refine (slabD_at _ _ r _).trans ((blockD m c t r _).trans ?_)
  unfold MixASpec.mdres arrD
  have := mlane_place l r k
  congr 3
  simp only [headOf]
  omega

theorem pairK_pt (p : Fin 2) (l r : Fin 128) :
    mem (Mem.rowsAt (pairK (iblk m c 7 t) p)) (place l r) = MixASpec.mkey (arrM m c) (headOf p l) := by
  funext i k
  unfold mem
  refine (pairK_at _ p i _).trans ((blockK m c t i _).trans ?_)
  unfold MixASpec.mkey arrM
  have := mlane_place l r k
  congr 3
  simp only [headOf]
  omega

theorem pairV_pt (p : Fin 2) (l r : Fin 128) :
    mem (Mem.rowsAt (pairV (iblk m c 8 t) p)) (place l r) = MixASpec.mval (arrM m c) (headOf p l) := by
  funext i k
  unfold mem
  refine (pairV_at _ p i _).trans ((blockV m c t i _).trans ?_)
  unfold MixASpec.mval arrM
  have := mlane_place l r k
  congr 3
  simp only [headOf]
  omega

abbrev arrq := MixASpec.mquery (arrP m c)

abbrev arrd := MixASpec.mdres (arrD m c)

abbrev arrk := MixASpec.mkey (arrM m c)

abbrev arrv := MixASpec.mval (arrM m c)

/-- The gradient of the memory's queries, pair `p`. -/
def mgradQ (p : Fin 2) : FVec Ideal S128x128 .f32 := k0_pay146 (k0_pay102 (pairK (iblk m c 7 t) p)) k0_pay104 k0_pay105 (k0_pay107 (pairQ (iblk m c 5 t) p) (pairK (iblk m c 7 t) p)) (k0_pay109 (pairQ (iblk m c 5 t) p) (pairK (iblk m c 7 t) p))
  (k0_pay110 (pairQ (iblk m c 5 t) p) (pairK (iblk m c 7 t) p)) (k0_pay112 (pairV (iblk m c 8 t) p))
  k0_pay113 (pairD (iblk m c 9 t) p) k0_pay141 (k0_pay142 k0_pay113 (pairD (iblk m c 9 t) p))

/-- The gradient of the memory's keys, pair `p`. -/
def mgradK (p : Fin 2) : FVec Ideal S256x128 .f32 := k0_pay147 (k0_pay106 (pairQ (iblk m c 5 t) p)) (k0_pay107 (pairQ (iblk m c 5 t) p) (pairK (iblk m c 7 t) p)) (k0_pay109 (pairQ (iblk m c 5 t) p) (pairK (iblk m c 7 t) p))
  (k0_pay110 (pairQ (iblk m c 5 t) p) (pairK (iblk m c 7 t) p)) (k0_pay112 (pairV (iblk m c 8 t) p))
  k0_pay113 (pairD (iblk m c 9 t) p) k0_pay141 (k0_pay142 k0_pay113 (pairD (iblk m c 9 t) p))

/-- The gradient of the memory's values, pair `p`. -/
def mgradV (p : Fin 2) : FVec Ideal S256x128 .f32 := k0_pay144 (k0_pay111 (pairQ (iblk m c 5 t) p) (pairK (iblk m c 7 t) p)) k0_pay113 (pairD (iblk m c 9 t) p) k0_pay141 (k0_pay142 k0_pay113 (pairD (iblk m c 9 t) p))

theorem mgradQ_pt (p : Fin 2) (r l : Fin 128) : mgradQ m c t p (ix2 r l)
      = dquery' (arrq m c) (arrd m c) (arrk m c) (arrv m c) (headOf p l) (MixASpec.rowAt (chunk t) r) (within l) := by
  refine (Mem.dq_at _ _ _ _ r l).trans (Finset.sum_congr rfl fun i _ => ?_)
  rw [pairQ_pt, pairD_pt, pairK_pt, pairV_pt]
  refine congrArg (_ * ·) ((pairK_at _ p i l).trans ((blockK m c t i _).trans ?_))
  unfold arrk MixASpec.mkey arrM
  congr 3
  simp only [headOf, within]
  omega

/-- What one point adds to the gradient of the memory's keys. -/
def dkPart (p : Fin 2) (i : Fin 256) (l : Fin 128) : EReal := ∑ r : Fin 128,
  dscore' (arrq m c (headOf p l) (MixASpec.rowAt (chunk t) r)) (arrd m c (headOf p l) (MixASpec.rowAt (chunk t) r))
    (arrk m c (headOf p l)) (arrv m c (headOf p l)) i * arrq m c (headOf p l) (MixASpec.rowAt (chunk t) r) (within l)

/-- What one point adds to the gradient of the memory's values. -/
def dvPart (p : Fin 2) (i : Fin 256) (l : Fin 128) : EReal := ∑ r : Fin 128,
  arrd m c (headOf p l) (MixASpec.rowAt (chunk t) r) (within l)
    * weight' (arrq m c (headOf p l) (MixASpec.rowAt (chunk t) r)) (arrk m c (headOf p l)) i

theorem mgradK_pt (p : Fin 2) (i : Fin 256) (l : Fin 128) : mgradK m c t p (ix2 i l) = dkPart m c t p i l := by
  refine (Mem.dk_at _ _ _ _ i l).trans (Finset.sum_congr rfl fun r _ => ?_)
  rw [pairQ_pt, pairD_pt, pairK_pt, pairV_pt]
  refine congrArg (_ * ·) ((pairQ_at _ p r l).trans ((blockQ m c t r _).trans ?_))
  unfold arrq MixASpec.mquery arrP
  congr 3
  simp only [headOf, within]
  omega

theorem mgradV_pt (p : Fin 2) (i : Fin 256) (l : Fin 128) : mgradV m c t p (ix2 i l) = dvPart m c t p i l := by
  refine (Mem.dv_at _ _ _ i l).trans (Finset.sum_congr rfl fun r _ => ?_)
  rw [pairQ_pt, pairK_pt]
  refine congrArg (· * _) ((slabD_at _ _ r l).trans ((blockD m c t r _).trans ?_))
  unfold arrd MixASpec.mdres arrD
  congr 3
  simp only [headOf, within]
  omega

end Memory

end Cert.MixAIdeal.Value

end
-- ==== Proof.MixAPoint.lean ====
/- What one grid point of the attention mixer's gradient kernel leaves in its results. -/
module

public import proofs.«01_k».proof.Proof.MixAReads

@[expose] public section

set_option maxRecDepth 16384

noncomputable section

namespace Cert.MixAIdeal.Value

open Cert.MixAIdeal Cert.MixAIdeal.Gen Idealize.ShloMosaic Idealize.ShloMosaic.TcCoe Idealize.SL.Sem
open Idealize.ShloMosaic.Pipeline (Dat)
open Cert Cert.MemSpec
open Cert.MixASpec (picked)

variable (m : (ℓ : Loc nD τ sig) → Buf (Elt Ideal) ℓ) (c : Dev nD)

/-! ## The program's own terms of one point -/

section Terms

variable (t : Fin cfg0.N)

/-- The gradient of the values as the program has it for the second group. -/
abbrev secondV : FVec Ideal S256x128 .f32 := dvals1 (k0_pay4 (grid0.coords t)) (q3 (X0_0 m c t) 1 0) (q3 (X0_0 m c t) 1 1) (q3 (X0_0 m c t) 1 2) (d3 (iblk m c 9 t) 1 0) (d3 (iblk m c 9 t) 1 1) (d3 (iblk m c 9 t) 1 2) (keysOf (iblk m c 1 t) (iblk m c 2 t) 1) (z6 (iblk m c 6 t) 1 0) (z6 (iblk m c 6 t) 1 1) (z6 (iblk m c 6 t) 1 2) (z6 (iblk m c 6 t) 1 3) (z6 (iblk m c 6 t) 1 4) (z6 (iblk m c 6 t) 1 5)

/-- The gradient of the keys, likewise. -/
abbrev secondK : FVec Ideal S256x128 .f32 := dkeys1 (k0_pay4 (grid0.coords t)) (q3 (X0_0 m c t) 1 0) (q3 (X0_0 m c t) 1 1) (q3 (X0_0 m c t) 1 2) (d3 (iblk m c 9 t) 1 0) (d3 (iblk m c 9 t) 1 1) (d3 (iblk m c 9 t) 1 2) (keysOf (iblk m c 1 t) (iblk m c 2 t) 1) (valsOf (iblk m c 3 t) (iblk m c 4 t) 1) (z6 (iblk m c 6 t) 1 0) (z6 (iblk m c 6 t) 1 1) (z6 (iblk m c 6 t) 1 2) (z6 (iblk m c 6 t) 1 3) (z6 (iblk m c 6 t) 1 4) (z6 (iblk m c 6 t) 1 5)

/-- The gradient of the queries, likewise. -/
abbrev secondQ : FVec Ideal S768x128 .f32 := dstackq1 (k0_pay4 (grid0.coords t)) (q3 (X0_0 m c t) 1 0) (q3 (X0_0 m c t) 1 1) (q3 (X0_0 m c t) 1 2) (d3 (iblk m c 9 t) 1 0) (d3 (iblk m c 9 t) 1 1) (d3 (iblk m c 9 t) 1 2) (keysOf (iblk m c 1 t) (iblk m c 2 t) 1) (valsOf (iblk m c 3 t) (iblk m c 4 t) 1) (z6 (iblk m c 6 t) 1 0) (z6 (iblk m c 6 t) 1 1) (z6 (iblk m c 6 t) 1 2) (z6 (iblk m c 6 t) 1 3) (z6 (iblk m c 6 t) 1 4) (z6 (iblk m c 6 t) 1 5)

/-- What the gradient of the scores is before the window is cut, of the first group. -/
abbrev firstU : FVec Ideal S256x768 .f32 := k0_pay179 (exps (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (recips (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (recips2 (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (k0_pay71 (valsOf (iblk m c 3 t) (iblk m c 4 t) 0)) k0_pay73 (d3 (iblk m c 9 t) 0 0) (k0_pay171 k0_pay74 k0_pay75 (d3 (iblk m c 9 t) 0 1) (d3 (iblk m c 9 t) 0 2)) (k0_pay172 k0_pay74 (d3 (iblk m c 9 t) 0 1)) k0_pay173

/-- What a row of the second group gives to its sink, but for the gradient of the denominator. -/
abbrev secondT : FVec Ideal S1x768 .f32 := k0_pay92 (k0_pay4 (grid0.coords t)) (q3 (X0_0 m c t) 1 1) (q3 (X0_0 m c t) 1 2) (keysOf (iblk m c 1 t) (iblk m c 2 t) 1) (z6 (iblk m c 6 t) 1 0) (z6 (iblk m c 6 t) 1 1) (z6 (iblk m c 6 t) 1 2) (z6 (iblk m c 6 t) 1 3) (z6 (iblk m c 6 t) 1 4) (z6 (iblk m c 6 t) 1 5) k0_pay76 (k0_pay78 (q3 (X0_0 m c t) 1 0)) (k0_pay80 (q3 (X0_0 m c t) 1 0)) (k0_pay82 (q3 (X0_0 m c t) 1 1)) (Scalar.ofBits .f32 0x00000000#32) k0_pay83

/-- The gradient of the denominator, of the second group. -/
abbrev secondD : FVec Ideal S1x768 .f32 := k0_pay154 (k0_pay91 (k0_pay4 (grid0.coords t)) (q3 (X0_0 m c t) 1 1) (q3 (X0_0 m c t) 1 2) (keysOf (iblk m c 1 t) (iblk m c 2 t) 1) (z6 (iblk m c 6 t) 1 0) (z6 (iblk m c 6 t) 1 1) (z6 (iblk m c 6 t) 1 2) (z6 (iblk m c 6 t) 1 3) (z6 (iblk m c 6 t) 1 4) (z6 (iblk m c 6 t) 1 5) k0_pay76 (k0_pay78 (q3 (X0_0 m c t) 1 0)) (k0_pay80 (q3 (X0_0 m c t) 1 0)) (k0_pay82 (q3 (X0_0 m c t) 1 1)) (Scalar.ofBits .f32 0x00000000#32) k0_pay83) (k0_pay95 (k0_pay4 (grid0.coords t)) (q3 (X0_0 m c t) 1 1) (q3 (X0_0 m c t) 1 2) (keysOf (iblk m c 1 t) (iblk m c 2 t) 1) (z6 (iblk m c 6 t) 1 0) (z6 (iblk m c 6 t) 1 1) (z6 (iblk m c 6 t) 1 2) (z6 (iblk m c 6 t) 1 3) (z6 (iblk m c 6 t) 1 4) (z6 (iblk m c 6 t) 1 5) k0_pay76 (k0_pay78 (q3 (X0_0 m c t) 1 0)) (k0_pay80 (q3 (X0_0 m c t) 1 0)) (k0_pay82 (q3 (X0_0 m c t) 1 1)) (Scalar.ofBits .f32 0x00000000#32) k0_pay83) (k0_pay97 (valsOf (iblk m c 3 t) (iblk m c 4 t) 1)) k0_pay99 k0_pay100 k0_pay101 (d3 (iblk m c 9 t) 1 0) (d3 (iblk m c 9 t) 1 1) (d3 (iblk m c 9 t) 1 2) k0_pay148 (k0_pay149 k0_pay101 (d3 (iblk m c 9 t) 1 2))

/-- The gradient of the sinks of one chunk, a number for each head. -/
def sinkRows : Fin 12 → FVec Ideal S1x1 .f32 := ![
  k0_pay190 (k0_pay180 (exps (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (sinkExps (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (recips2 (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (k0_pay71 (valsOf (iblk m c 3 t) (iblk m c 4 t) 0)) k0_pay73 (d3 (iblk m c 9 t) 0 0) (k0_pay171 k0_pay74 k0_pay75 (d3 (iblk m c 9 t) 0 1) (d3 (iblk m c 9 t) 0 2)) (k0_pay172 k0_pay74 (d3 (iblk m c 9 t) 0 1)) k0_pay173),
  k0_pay189 (k0_pay181 (exps (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (sinkExps (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (recips2 (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (k0_pay71 (valsOf (iblk m c 3 t) (iblk m c 4 t) 0)) k0_pay73 (d3 (iblk m c 9 t) 0 0) (k0_pay171 k0_pay74 k0_pay75 (d3 (iblk m c 9 t) 0 1) (d3 (iblk m c 9 t) 0 2)) (k0_pay172 k0_pay74 (d3 (iblk m c 9 t) 0 1)) k0_pay173),
  k0_pay188 (k0_pay182 (exps (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (sinkExps (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (recips2 (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (k0_pay71 (valsOf (iblk m c 3 t) (iblk m c 4 t) 0)) k0_pay73 (d3 (iblk m c 9 t) 0 0) (k0_pay171 k0_pay74 k0_pay75 (d3 (iblk m c 9 t) 0 1) (d3 (iblk m c 9 t) 0 2)) (k0_pay172 k0_pay74 (d3 (iblk m c 9 t) 0 1)) k0_pay173),
  k0_pay187 (k0_pay183 (exps (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (sinkExps (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (recips2 (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (k0_pay71 (valsOf (iblk m c 3 t) (iblk m c 4 t) 0)) k0_pay73 (d3 (iblk m c 9 t) 0 0) (k0_pay171 k0_pay74 k0_pay75 (d3 (iblk m c 9 t) 0 1) (d3 (iblk m c 9 t) 0 2)) (k0_pay172 k0_pay74 (d3 (iblk m c 9 t) 0 1)) k0_pay173),
  k0_pay186 (k0_pay185 (exps (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (sinkExps (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (recips2 (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (k0_pay71 (valsOf (iblk m c 3 t) (iblk m c 4 t) 0)) k0_pay73 (d3 (iblk m c 9 t) 0 0) (k0_pay171 k0_pay74 k0_pay75 (d3 (iblk m c 9 t) 0 1) (d3 (iblk m c 9 t) 0 2)) (k0_pay172 k0_pay74 (d3 (iblk m c 9 t) 0 1)) k0_pay173),
  k0_pay184 (exps (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (sinkExps (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (recips2 (k0_pay4 (grid0.coords t)) (q3 (X0_0 m c t) 0 0) (q3 (X0_0 m c t) 0 1) (q3 (X0_0 m c t) 0 2) (keysOf (iblk m c 1 t) (iblk m c 2 t) 0) (z6 (iblk m c 6 t) 0 0) (z6 (iblk m c 6 t) 0 1) (z6 (iblk m c 6 t) 0 2) (z6 (iblk m c 6 t) 0 3) (z6 (iblk m c 6 t) 0 4) (z6 (iblk m c 6 t) 0 5)) (k0_pay71 (valsOf (iblk m c 3 t) (iblk m c 4 t) 0)) k0_pay73 (d3 (iblk m c 9 t) 0 0) (k0_pay171 k0_pay74 k0_pay75 (d3 (iblk m c 9 t) 0 1) (d3 (iblk m c 9 t) 0 2)) (k0_pay172 k0_pay74 (d3 (iblk m c 9 t) 0 1)) k0_pay173,
  k0_pay162 (secondT m c t) (secondD m c t),
  k0_pay161 (secondT m c t) (secondD m c t),
  k0_pay160 (secondT m c t) (secondD m c t),
  k0_pay159 (secondT m c t) (secondD m c t),
  k0_pay158 (secondT m c t) (secondD m c t),
  k0_pay157 (secondT m c t) (secondD m c t)]

theorem secondV_eq : secondV m c t = gradV m c t 1 := dvals1_eq _ _ _ _ _ _ _ _ _ _ _ _ _ _

theorem secondK_eq : secondK m c t = gradK m c t 1 := dkeys1_eq _ _ _ _ _ _ _ _ _ _ _ _ _ _ _

theorem secondQ_eq : secondQ m c t = gradQ m c t 1 := dstackq1_eq _ _ _ _ _ _ _ _ _ _ _ _ _ _ _

theorem secondS_eq : k0_pay156 (secondT m c t) (secondD m c t) = gradS m c t 1 := dsinks1_eq _ _ _ _ _ _ _ _ _ _ _ _ _ _ _

end Terms

/-! ## The sinks -/

/-- What one chunk gives to the sink of head `h`. -/
def sinkPart (t : Fin cfg0.N) (h : Fin 12) : EReal := ∑ r : Fin 128, MixASpec.dsink' (arrP m c) (arrS m c) (arrD m c) (chunk t) h r

theorem sinkRows_pt (t : Fin cfg0.N) (h : Fin 12) : sinkRows m c t h (ix2 0 0) = sinkPart m c t h := by
  have first : ∀ j : Fin 6, (∑ r : Fin 128, gradS m c t 0 (ix2 0 (⟨128 * j.val + r.val, by omega⟩ : Fin 768)))
      = sinkPart m c t (MixASpec.headOf 0 j) := fun j => Finset.sum_congr rfl fun r _ => gradS_pt m c t 0 j r
  have second : ∀ j : Fin 6, (∑ r : Fin 128, k0_pay156 (secondT m c t) (secondD m c t) (ix2 0 (⟨128 * j.val + r.val, by omega⟩ : Fin 768)))
      = sinkPart m c t (MixASpec.headOf 1 j) := fun j => by
    rw [secondS_eq]
    exact Finset.sum_congr rfl fun r _ => gradS_pt m c t 1 j r
  fin_cases h
  · exact (sum0_0 _ _ _ _ _ _ _ _).trans (first 0)
  · exact (sum0_1 _ _ _ _ _ _ _ _).trans (first 1)
  · exact (sum0_2 _ _ _ _ _ _ _ _).trans (first 2)
  · exact (sum0_3 _ _ _ _ _ _ _ _).trans (first 3)
  · exact (sum0_4 _ _ _ _ _ _ _ _).trans (first 4)
  · exact (sum0_5 _ _ _ _ _ _ _ _).trans (first 5)
  · exact (sum1_6 _ _).trans (second 0)
  · exact (sum1_7 _ _).trans (second 1)
  · exact (sum1_8 _ _).trans (second 2)
  · exact (sum1_9 _ _).trans (second 3)
  · exact (sum1_10 _ _).trans (second 4)
  · exact (sum1_11 _ _).trans (second 5)

/-- What a point adds to the sinks. -/
def part11 (t : Fin cfg0.N) : FVec Ideal S16x128 .f32 := fun y => picked (y 0).val fun g => sinkPart m c t g

theorem add11 (prev : Vec Ideal S16x128 .f32) (t : Fin cfg0.N) (i : Fin 16) (j : Fin 128) :
    k0_pay207 (sinkRows m c t 11) (sinkRows m c t 10) (sinkRows m c t 9) (sinkRows m c t 8) (sinkRows m c t 7) (k0_pay203 prev)
      (iota Kind.tc S16x128 32 [0] iota_S16x128_d0_w32)
      (k0_pay204 (sinkRows m c t 5) (sinkRows m c t 4) (sinkRows m c t 3) (sinkRows m c t 2) (sinkRows m c t 1) (sinkRows m c t 0)
        (iota Kind.tc S16x128 32 [0] iota_S16x128_d0_w32) (Scalar.ofBits .f32 0x00000000#32))
      (k0_pay205 (iota Kind.tc S16x128 32 [0] iota_S16x128_d0_w32)) (k0_pay206 (sinkRows m c t 6)) (ix2 i j)
      = prev (ix2 i j) + part11 m c t (ix2 i j) := by
  refine (rows_at (sinkRows m c t) prev i j).trans ?_
  simp only [sinkRows_pt]
  rfl

/-! ## The memory -/

/-- What a point adds to the memory's gradients. -/
def part12 (t : Fin cfg0.N) : FVec Ideal S256x512 .f32 := fun y =>
  (![dkPart m c t 0, dkPart m c t 1, dvPart m c t 0, dvPart m c t 1] : Fin 4 → Fin 256 → Fin 128 → EReal)
    ⟨(y 1).val / 128, by have h := (y 1).isLt; change (y 1).val < 512 at h; omega⟩ (y 0) ⟨(y 1).val % 128, by omega⟩

theorem add12 (prev : Vec Ideal S256x512 .f32) (t : Fin cfg0.N) (i : Fin 256) (j : Fin 512) :
    k0_pay208 (mgradV m c t 1) (mgradK m c t 1) (mgradV m c t 0) (mgradK m c t 0) prev (ix2 i j)
      = prev (ix2 i j) + part12 m c t (ix2 i j) := by
  have h := quarters_at (mgradV m c t 0) (mgradK m c t 0) (mgradV m c t 1) (mgradK m c t 1) prev i ⟨j.val / 128, by omega⟩ ⟨j.val % 128, by omega⟩
  have e : (⟨128 * (j.val / 128) + j.val % 128, by omega⟩ : Fin 512) = j := Fin.ext (by simp only; omega)
  rw [e] at h
  refine h.trans (congrArg _ ?_)
  change _ = (![dkPart m c t 0, dkPart m c t 1, dvPart m c t 0, dvPart m c t 1] : Fin 4 → Fin 256 → Fin 128 → EReal)
    ⟨j.val / 128, by omega⟩ i ⟨j.val % 128, by omega⟩
  generalize (⟨j.val / 128, _⟩ : Fin 4) = n
  generalize (⟨j.val % 128, _⟩ : Fin 128) = l
  fin_cases n
  · exact mgradK_pt m c t 0 i l
  · exact mgradK_pt m c t 1 i l
  · exact mgradV_pt m c t 0 i l
  · exact mgradV_pt m c t 1 i l

/-! ## What is carried to the chunk before -/

/-- The keys' side of it. -/
abbrev carriedK (T : Fin 64) (r l : Fin 128) : EReal :=
  MixASpec.part (ds m c) (MixASpec.query (arrP m c)) T (side l) ⟨r.val, by omega⟩ (within l)

/-- The values' side of it. -/
abbrev carriedV (T : Fin 64) (r l : Fin 128) : EReal :=
  MixASpec.part (wt m c) (MixASpec.dres (arrD m c)) T (side l) ⟨r.val, by omega⟩ (within l)

theorem carry_k (t : Fin cfg0.N) (r l : Fin 128) :
    k0_pay201 (secondV m c t) (secondK m c t) (gradV m c t 0) (gradK m c t 0) (ix2 r (⟨l.val, by omega⟩ : Fin 256)) = carriedK m c (chunk t) r l := by
  refine (carry_at _ _ _ _ r _).trans ((fold_low _ _ _ _ _ l).trans ?_)
  rw [secondK_eq]
  exact foldK_pt m c t _ l

theorem carry_v (t : Fin cfg0.N) (r l : Fin 128) :
    k0_pay201 (secondV m c t) (secondK m c t) (gradV m c t 0) (gradK m c t 0) (ix2 r (⟨128 + l.val, by omega⟩ : Fin 256)) = carriedV m c (chunk t) r l := by
  refine (carry_at _ _ _ _ r _).trans ((fold_high _ _ _ _ _ l).trans ?_)
  rw [secondV_eq]
  exact foldV_pt m c t _ l

/-! ## The gradient of the projection -/

section Lanes

variable (dq : Fin 64 → Fin 12 → Fin 128 → Fin 64 → EReal) (dk dv : Fin 64 → Fin 2 → Fin 128 → Fin 64 → EReal)
  (dm : Fin 4 → Fin 8192 → Fin 64 → EReal) (t : Fin 64) (r l : Fin 128)

theorem dproj_q (g : Fin 2) (s : Fin 3) : MixASpec.dproj dq dk dv dm t r ⟨128 * (3 * g.val + s.val) + l.val, by omega⟩
    = dq t (MixASpec.headOf g (lead s l)) r (within l) := by
  unfold MixASpec.dproj
  rw [dif_pos (by simp only; omega)]
  congr 1
  · exact Fin.ext (by simp only [MixASpec.headOf, lead]; omega)
  · exact Fin.ext (by simp only [within]; omega)

theorem dproj_k : MixASpec.dproj dq dk dv dm t r ⟨768 + l.val, by omega⟩ = dk t (side l) r (within l) := by
  unfold MixASpec.dproj
  rw [dif_neg (by simp only; omega), dif_pos (by simp only; omega)]
  congr 1
  · exact Fin.ext (by simp only [side]; omega)
  · exact Fin.ext (by simp only [within]; omega)

theorem dproj_v : MixASpec.dproj dq dk dv dm t r ⟨896 + l.val, by omega⟩ = dv t (side l) r (within l) := by
  unfold MixASpec.dproj
  rw [dif_neg (by simp only; omega), dif_neg (by simp only; omega), dif_pos (by simp only; omega)]
  congr 1
  · exact Fin.ext (by simp only [side]; omega)
  · exact Fin.ext (by simp only [within]; omega)

theorem dproj_m (p : Fin 2) : MixASpec.dproj dq dk dv dm t r ⟨1024 + 128 * p.val + l.val, by omega⟩
    = dm (headOf p l) (MixASpec.rowAt t r) (within l) := by
  unfold MixASpec.dproj
  rw [dif_neg (by simp only; omega), dif_neg (by simp only; omega), dif_neg (by simp only; omega)]
  congr 1
  · exact Fin.ext (by simp only [headOf]; omega)
  · exact Fin.ext (by simp only [within]; omega)

end Lanes

/-- The gradient of the projection, as the kernel makes it. -/
abbrev dprojs (T : Fin 64) (r : Fin 128) (k : Fin 1280) : EReal :=
  MixASpec.dproj (MixASpec.dq (ds m c) (MixASpec.key (arrP m c))) (MixASpec.whole (ds m c) (MixASpec.query (arrP m c)))
    (MixASpec.whole (wt m c) (MixASpec.dres (arrD m c))) (dquery' (arrq m c) (arrd m c) (arrk m c) (arrv m c)) T r k

/-- The same by rows. -/
def dprojArr : FVec Ideal S8192x1280 .bf16 := fun i =>
  dprojs m c ⟨(i 0).val / 128, by have h := (i 0).isLt; change (i 0).val < 8192 at h; omega⟩ ⟨(i 0).val % 128, by omega⟩ (i 1)

/-- The block of a point, of what the point before carried to it. -/
abbrev block10 (t : Fin cfg0.N) (C : FVec Ideal S128x256 .f32) : FVec Ideal S128x1280 .bf16 :=
  projBlock (k0_pay4 (grid0.coords t)) (k0_pay56 (keysOf (iblk m c 1 t) (iblk m c 2 t) 0)) (firstU m c t) (mgradQ m c t 0) (mgradQ m c t 1)
    (k0_pay169 k0_pay77 k0_pay79 (secondQ m c t)) (k0_pay168 k0_pay81 k0_pay83 (secondQ m c t))
    (k0_pay167 (k0_pay84 k0_pay76) (k0_pay85 k0_pay76) (secondQ m c t))
    (gradV m c t 0) (gradK m c t 0) (secondV m c t) (secondK m c t) C

theorem whole_of (X : Fin 64 → Fin 12 → Fin 128 → Fin 256 → EReal) (Y : Fin 64 → Fin 12 → Fin 128 → Fin 64 → EReal) (T : Fin 64)
    (g : Fin 2) (r : Fin 128) (l : Fin 64) (a b : EReal) (ha : a = MixASpec.part X Y T g ⟨128 + r.val, by omega⟩ l)
    (hb : b = if h : T.val < 63 then MixASpec.part X Y ⟨T.val + 1, by omega⟩ g ⟨r.val, by omega⟩ l else 0) :
    a + b = MixASpec.whole X Y T g r l := by
  rw [ha, hb]
  rfl

set_option maxHeartbeats 1000000 in
theorem block_pt (t : Fin cfg0.N) (C : FVec Ideal S128x256 .f32)
    (hk : ∀ r l : Fin 128, C (ix2 r (⟨l.val, by omega⟩ : Fin 256)) = if h : (chunk t).val < 63 then carriedK m c ⟨(chunk t).val + 1, by omega⟩ r l else 0)
    (hv : ∀ r l : Fin 128, C (ix2 r (⟨128 + l.val, by omega⟩ : Fin 256)) = if h : (chunk t).val < 63 then carriedV m c ⟨(chunk t).val + 1, by omega⟩ r l else 0)
    (r : Fin 128) (k : Fin 1280) : block10 m c t C (ix2 r k) = dprojs m c (chunk t) r k := by
  have q1 : ∀ s l, unstack (secondQ m c t) s r l
      = MixASpec.dq (ds m c) (MixASpec.key (arrP m c)) (chunk t) (MixASpec.headOf 1 (lead s l)) r (within l) := fun s l => by
    rw [secondQ_eq]
    exact unstack_pt m c t 1 s r l
  have h : ∀ (n : Fin 10) (l : Fin 128), block10 m c t C (ix2 r (⟨128 * n.val + l.val, by omega⟩ : Fin 1280))
      = dprojs m c (chunk t) r ⟨128 * n.val + l.val, by omega⟩ := by
    intro n l
    fin_cases n
    · exact (proj_0 _ _ _ _ _ _ _ _ _ _ _ _ _ r l).trans ((unstack_pt m c t 0 0 r l).trans (dproj_q _ _ _ _ _ r l 0 0).symm)
    · exact (proj_1 _ _ _ _ _ _ _ _ _ _ _ _ _ r l).trans ((unstack_pt m c t 0 1 r l).trans (dproj_q _ _ _ _ _ r l 0 1).symm)
    · exact (proj_2 _ _ _ _ _ _ _ _ _ _ _ _ _ r l).trans ((unstack_pt m c t 0 2 r l).trans (dproj_q _ _ _ _ _ r l 0 2).symm)
    · exact (proj_3 _ _ _ _ _ _ _ _ _ _ _ _ _ r l).trans ((unstack1_0 _ r l).trans ((q1 0 l).trans (dproj_q _ _ _ _ _ r l 1 0).symm))
    · exact (proj_4 _ _ _ _ _ _ _ _ _ _ _ _ _ r l).trans ((unstack1_1 _ r l).trans ((q1 1 l).trans (dproj_q _ _ _ _ _ r l 1 1).symm))
    · exact (proj_5 _ _ _ _ _ _ _ _ _ _ _ _ _ r l).trans ((unstack1_2 _ r l).trans ((q1 2 l).trans (dproj_q _ _ _ _ _ r l 1 2).symm))
    · refine (proj_6 _ _ _ _ _ _ _ _ _ _ _ _ _ r l).trans (Eq.trans ?_ (dproj_k _ _ _ _ _ r l).symm)
      refine whole_of _ _ _ _ _ _ _ _ ?_ (hk r l)
      rw [secondK_eq]
      exact foldK_pt m c t _ l
    · refine (proj_7 _ _ _ _ _ _ _ _ _ _ _ _ _ r l).trans (Eq.trans ?_ (dproj_v _ _ _ _ _ r l).symm)
      refine whole_of _ _ _ _ _ _ _ _ ?_ (hv r l)
      rw [secondV_eq]
      exact foldV_pt m c t _ l
    · exact (proj_8 _ _ _ _ _ _ _ _ _ _ _ _ _ r l).trans ((mgradQ_pt m c t 0 r l).trans (dproj_m _ _ _ _ _ r l 0).symm)
    · exact (proj_9 _ _ _ _ _ _ _ _ _ _ _ _ _ r l).trans ((mgradQ_pt m c t 1 r l).trans (dproj_m _ _ _ _ _ r l 1).symm)
  have e : (⟨128 * (k.val / 128) + k.val % 128, by omega⟩ : Fin 1280) = k := Fin.ext (by simp only; omega)
  have hh := h ⟨k.val / 128, by omega⟩ ⟨k.val % 128, by omega⟩
  rw [e] at hh
  exact hh

end Cert.MixAIdeal.Value

end
-- ==== Proof.MixASink.lean ====
/- The attention mixer's gradient kernel: what a point adds to the sinks. -/
module

public import proofs.«01_k».proof.Proof.MixAPoint

@[expose] public section

set_option maxRecDepth 16384

noncomputable section

namespace Cert.MixAIdeal.Value

open Cert.MixAIdeal Cert.MixAIdeal.Gen Idealize.ShloMosaic Idealize.ShloMosaic.TcCoe Idealize.SL.Sem
open Idealize.ShloMosaic.Pipeline (Dat)
open Cert

variable (m : (ℓ : Loc nD τ sig) → Buf (Elt Ideal) ℓ) (c : Dev nD)

theorem zeros2_at (i : Fin 16) (j : Fin 128) : k0_pay2 (F := Ideal) (ix2 i j) = 0 := by pointwise [k0_pay2]

set_option maxHeartbeats 4000000 in
theorem step11A (t : Fin cfg0.N) (h : t.val % 64 = 0) (y : S16x128.Idx) :
    (outsAt0 m c t.val t.isLt).2.1 y = 0 + part11 m c t y := by
  idx_vars y
  rw [outsAt0_A m c t h]
  frame_out
  refine (add11 m c (k0_pay2 (F := Ideal)) t y0 y1).trans ?_
  exact congrArg (fun x : EReal => x + part11 m c t (ix2 y0 y1)) (zeros2_at y0 y1)

set_option maxHeartbeats 4000000 in
theorem step11B (t : Fin cfg0.N) (h : ¬ t.val % 64 = 0) (y : S16x128.Idx) : (outsAt0 m c t.val t.isLt).2.1 y
    = (outsAt0 m c (t.val - 1) (Nat.lt_of_le_of_lt (Nat.sub_le _ _) t.isLt)).2.1 y + part11 m c t y := by
  idx_vars y
  rw [outsAt0_B m c t h]
  frame_out
  exact add11 m c _ t y0 y1

end Cert.MixAIdeal.Value

end
-- ==== Proof.MixAStep.lean ====
/- The attention mixer's gradient kernel: what a point adds to the memory. -/
module

public import proofs.«01_k».proof.Proof.MixAPoint

@[expose] public section

set_option maxRecDepth 16384

noncomputable section

namespace Cert.MixAIdeal.Value

open Cert.MixAIdeal Cert.MixAIdeal.Gen Idealize.ShloMosaic Idealize.ShloMosaic.TcCoe Idealize.SL.Sem
open Idealize.ShloMosaic.Pipeline (Dat)
open Cert

variable (m : (ℓ : Loc nD τ sig) → Buf (Elt Ideal) ℓ) (c : Dev nD)

theorem zeros3_at (i : Fin 256) (j : Fin 512) : k0_pay3 (F := Ideal) (ix2 i j) = 0 := by pointwise [k0_pay3]

set_option maxHeartbeats 4000000 in
theorem step12A (t : Fin cfg0.N) (h : t.val % 64 = 0) (y : S256x512.Idx) :
    (outsAt0 m c t.val t.isLt).2.2.1 y = 0 + part12 m c t y := by
  idx_vars y
  rw [outsAt0_A m c t h]
  frame_out
  refine (add12 m c (k0_pay3 (F := Ideal)) t y0 y1).trans ?_
  exact congrArg (fun x : EReal => x + part12 m c t (ix2 y0 y1)) (zeros3_at y0 y1)

set_option maxHeartbeats 4000000 in
theorem step12B (t : Fin cfg0.N) (h : ¬ t.val % 64 = 0) (y : S256x512.Idx) : (outsAt0 m c t.val t.isLt).2.2.1 y
    = (outsAt0 m c (t.val - 1) (Nat.lt_of_le_of_lt (Nat.sub_le _ _) t.isLt)).2.2.1 y + part12 m c t y := by
  idx_vars y
  rw [outsAt0_B m c t h]
  frame_out
  exact add12 m c _ t y0 y1

end Cert.MixAIdeal.Value

end
-- ==== Proof.MixACarry.lean ====
/- What the attention mixer's gradient kernel carries from a chunk to the one before. -/
module

public import proofs.«01_k».proof.Proof.MixAPoint

@[expose] public section

set_option maxRecDepth 16384

noncomputable section

namespace Cert.MixAIdeal.Value

open Cert.MixAIdeal Cert.MixAIdeal.Gen Idealize.ShloMosaic Idealize.ShloMosaic.TcCoe Idealize.SL.Sem
open Idealize.ShloMosaic.Pipeline (Dat)
open Cert

variable (m : (ℓ : Loc nD τ sig) → Buf (Elt Ideal) ℓ) (c : Dev nD)

/-! ## What a point carries to the next -/

set_option maxHeartbeats 4000000 in
theorem left_k (t : Fin cfg0.N) (r l : Fin 128) :
    (outsAt0 m c t.val t.isLt).2.2.2 (ix2 r (⟨l.val, by omega⟩ : Fin 256)) = carriedK m c (chunk t) r l := by
  by_cases h : t.val % 64 = 0
  · rw [outsAt0_A m c t h]
    frame_out
    exact carry_k m c t r l
  · rw [outsAt0_B m c t h]
    frame_out
    exact carry_k m c t r l

set_option maxHeartbeats 4000000 in
theorem left_v (t : Fin cfg0.N) (r l : Fin 128) :
    (outsAt0 m c t.val t.isLt).2.2.2 (ix2 r (⟨128 + l.val, by omega⟩ : Fin 256)) = carriedV m c (chunk t) r l := by
  by_cases h : t.val % 64 = 0
  · rw [outsAt0_A m c t h]
    frame_out
    exact carry_v m c t r l
  · rw [outsAt0_B m c t h]
    frame_out
    exact carry_v m c t r l

end Cert.MixAIdeal.Value

end
-- ==== Proof.MixAProj.lean ====
/- The attention mixer's gradient kernel: the gradient of the projection. -/
module

public import proofs.«01_k».proof.Proof.MixACarry
public import Idealize.ShloMosaic.Lib.Pipeline.ReadBack

@[expose] public section

set_option maxRecDepth 16384

noncomputable section

namespace Cert.MixAIdeal.Value

open Cert.MixAIdeal Cert.MixAIdeal.Gen Idealize.ShloMosaic Idealize.ShloMosaic.TcCoe Idealize.SL.Sem
open Idealize.ShloMosaic.Pipeline (Dat)
open Cert

variable (m : (ℓ : Loc nD τ sig) → Buf (Elt Ideal) ℓ) (c : Dev nD)

theorem zeros1_at (i : Fin 128) (j : Fin 256) : k0_pay1 (F := Ideal) (ix2 i j) = 0 := by pointwise [k0_pay1]

/-! ## The gradient of the projection -/

theorem pointA (t : Fin cfg0.N) (h : t.val % 64 = 0) (r : Fin 128) (k : Fin 1280) :
    block10 m c t k0_pay1 (ix2 r k) = dprojs m c (chunk t) r k := by
  have ht : ¬ (chunk t).val < 63 := by
    have := t.isLt
    change t.val < 64 at this
    change ¬ 63 - t.val < 63
    omega
  refine block_pt m c t _ (fun r l => ?_) (fun r l => ?_) r k
  · rw [dif_neg ht]
    exact zeros1_at r _
  · rw [dif_neg ht]
    exact zeros1_at r _

theorem pointB (t : Fin cfg0.N) (h : ¬ t.val % 64 = 0) (C : FVec Ideal S128x256 .f32)
    (hC : C = (outsAt0 m c (t.val - 1) (Nat.lt_of_le_of_lt (Nat.sub_le _ _) t.isLt)).2.2.2) (r : Fin 128) (k : Fin 1280) :
    block10 m c t C (ix2 r k) = dprojs m c (chunk t) r k := by
  have h64 : t.val < 64 := t.isLt
  have ht : (chunk t).val < 63 := by
    change 63 - t.val < 63
    omega
  have e : (⟨(chunk t).val + 1, by omega⟩ : Fin 64) = chunk ⟨t.val - 1, Nat.lt_of_le_of_lt (Nat.sub_le _ _) t.isLt⟩ :=
    Fin.ext (by change 63 - t.val + 1 = 63 - (t.val - 1); omega)
  subst hC
  refine block_pt m c t _ (fun r l => ?_) (fun r l => ?_) r k
  · rw [dif_pos ht, e]
    exact left_k m c ⟨t.val - 1, _⟩ r l
  · rw [dif_pos ht, e]
    exact left_v m c ⟨t.val - 1, _⟩ r l

set_option maxHeartbeats 4000000 in
theorem point10 (t : Fin cfg0.N) (y : S128x1280.Idx) : (outsAt0 m c t.val t.isLt).1 y
    = dprojArr m c (ix2 (MixASpec.rowAt (chunk t) (y 0)) (y 1)) := by
  idx_vars y
  have e : dprojArr m c (ix2 (MixASpec.rowAt (chunk t) y0) y1) = dprojs m c (chunk t) y0 y1 := by
    change dprojs m c ⟨(MixASpec.rowAt (chunk t) y0).val / 128, _⟩ ⟨(MixASpec.rowAt (chunk t) y0).val % 128, _⟩ y1 = _
    congr 1
    · exact Fin.ext (by simp only [MixASpec.rowAt]; omega)
    · exact Fin.ext (by simp only [MixASpec.rowAt]; omega)
  refine Eq.trans ?_ e.symm
  by_cases h : t.val % 64 = 0
  · rw [outsAt0_A m c t h]
    frame_out
    exact pointA m c t h y0 y1
  · rw [outsAt0_B m c t h]
    frame_out
    exact pointB m c t h _ (read_unread_whole _ _ _) y0 y1

theorem final10 : (dats m 0 c).arrAt 10 (cfgs 0).N = dprojArr m c := by
  refine (dats m 0 c).arrAt_eq_of_covers 10 _ (by decide +kernel) fun t _ y => ?_
  blk_simp
  rw [after0_10]
  refine (point10 m c t y).trans ?_
  generalize dprojArr m c = f
  unfold MixASpec.rowAt
  blk_point [idx t, coord t]

end Cert.MixAIdeal.Value

end
-- ==== Proof.MixAKernel.lean ====
/- What the attention mixer's gradient kernel leaves in its results. -/
module

public import proofs.«01_k».proof.Proof.MixASink
public import proofs.«01_k».proof.Proof.MixAStep
public import proofs.«01_k».proof.Proof.MixAProj

@[expose] public section

set_option maxRecDepth 16384

noncomputable section

namespace Cert.MixAIdeal.Value

open Cert.MixAIdeal Cert.MixAIdeal.Gen Idealize.ShloMosaic Idealize.ShloMosaic.TcCoe Idealize.SL.Sem
open Idealize.ShloMosaic.Pipeline (Dat)
open Cert

variable (m : (ℓ : Loc nD τ sig) → Buf (Elt Ideal) ℓ) (c : Dev nD)

/-! ## The sums over the chunks -/

/-- A result that starts at zero, grows by one term a point and is read at the last point is the sum of the terms. -/
theorem sums {ι : Type} (f : (n : ℕ) → n < cfg0.N → ι → EReal) (part : Fin cfg0.N → ι → EReal)
    (hA : ∀ t : Fin cfg0.N, t.val % 64 = 0 → ∀ y, f t.val t.isLt y = 0 + part t y)
    (hB : ∀ t : Fin cfg0.N, ¬ t.val % 64 = 0 → ∀ y,
      f t.val t.isLt y = f (t.val - 1) (Nat.lt_of_le_of_lt (Nat.sub_le _ _) t.isLt) y + part t y)
    (t : Fin cfg0.N) (h : t.val % 64 = 63) (y : ι) : f t.val t.isLt y = ∑ s : Fin cfg0.N, part s y := by
  have ht : t.val + 1 = cfg0.N := by
    have := t.isLt
    change t.val < 64 at this
    change t.val + 1 = 64
    omega
  rw [Pipeline.eq_sum_fin_of_reset_step_apply_last f 64 (fun _ => 0) part (fun t h j => hA t h j) (fun t h j => hB t h j)
    (le_of_eq N_0) t ht y, zero_add]

theorem final11 : (dats m 0 c).arrAt 11 (cfgs 0).N = fun i : S16x128.Idx => ∑ t : Fin cfg0.N, part11 m c t i := by
  refine (dats m 0 c).arrAt_eq_of_covers 11 _ (by decide +kernel) fun t hf y => ?_
  blk_simp
  rw [after0_11, sums (fun n h => (outsAt0 m c n h).2.1) (part11 m c) (step11A m c) (step11B m c) t ((flush0_11 t).mp hf) y]
  change (fun i : S16x128.Idx => ∑ t : Fin cfg0.N, part11 m c t i) _ = (fun i : S16x128.Idx => ∑ t : Fin cfg0.N, part11 m c t i) _
  generalize (fun i : S16x128.Idx => ∑ t : Fin cfg0.N, part11 m c t i) = f
  blk_point [idx t]

theorem final12 : (dats m 0 c).arrAt 12 (cfgs 0).N = fun i : S256x512.Idx => ∑ t : Fin cfg0.N, part12 m c t i := by
  refine (dats m 0 c).arrAt_eq_of_covers 12 _ (by decide +kernel) fun t hf y => ?_
  blk_simp
  rw [after0_12, sums (fun n h => (outsAt0 m c n h).2.2.1) (part12 m c) (step12A m c) (step12B m c) t ((flush0_12 t).mp hf) y]
  change (fun i : S256x512.Idx => ∑ t : Fin cfg0.N, part12 m c t i) _ = (fun i : S256x512.Idx => ∑ t : Fin cfg0.N, part12 m c t i) _
  generalize (fun i : S256x512.Idx => ∑ t : Fin cfg0.N, part12 m c t i) = f
  blk_point [idx t]

end Cert.MixAIdeal.Value

end
-- ==== Proof.MixAHost.lean ====
/- What the attention mixer's gradient kernel is handed, of the problem's own arrays. -/
module

public import proofs.«01_k».proof.Proof.MixAReads

@[expose] public section

set_option maxRecDepth 16384

noncomputable section

namespace Cert.MixAIdeal.Value

open Cert.MixAIdeal Cert.MixAIdeal.Gen Idealize.ShloMosaic Idealize.ShloMosaic.TcCoe Idealize.SL.Sem
open Idealize.ShloMosaic.Pipeline (Dat)
open Cert

variable (m : (ℓ : Loc nD τ sig) → Buf (Elt Ideal) ℓ) (c : Dev nD)

theorem V_dcat : V m c main_arg3 = m ((c : Thread nD τ).loc main_arg3) := by
  unfold V
  simp only [List.flatten_cons, List.flatten_nil, List.append_nil, List.cons_append, List.nil_append]
  after_results

theorem V_proj (R : Fin 8192) (k : Fin 1280) : arrP m c R k = m ((c : Thread nD τ).loc main_arg0) (ix2 R k) := by
  have h : V m c main_v3 = truncf (F := Ideal) .bf16 (m ((c : Thread nD τ).loc main_arg0)) bitsLt_bf16_f32 := by
    unfold V
    simp only [List.flatten_cons, List.flatten_nil, List.append_nil, List.cons_append, List.nil_append]
    after_results
    try rfl
  unfold arrP
  rw [h]
  pointwise []

theorem V_mem (r : Fin 256) (k : Fin 512) : arrM m c r k = m ((c : Thread nD τ).loc main_arg1) (ix2 r k) := by
  have h : V m c main_v4 = truncf (F := Ideal) .bf16 (m ((c : Thread nD τ).loc main_arg1)) bitsLt_bf16_f32 := by
    unfold V
    simp only [List.flatten_cons, List.flatten_nil, List.append_nil, List.cons_append, List.nil_append]
    after_results
    try rfl
  unfold arrM
  rw [h]
  pointwise []

theorem V_sinks (g : Fin 12) : arrS m c g = m ((c : Thread nD τ).loc main_arg2) (ix1 g) := by
  have h : V m c main_v2 = pad (α := EReal) S16x128 ![0, 0] ![4, 0] ![0, 0]
      (broadcastInDim S12x128 ![0, 1] bcast_S12x1_S12x128_0_1 (broadcastInDim S12x1 ![0] bcast_S12_S12x1_0 (m ((c : Thread nD τ).loc main_arg2))))
      (sitofp (F := Ideal) .f32 (constantI S_ 32 0#32)) pads_S12x128_S16x128_040_000 h_S_ := by
    unfold V
    simp only [List.flatten_cons, List.flatten_nil, List.append_nil, List.cons_append, List.nil_append]
    after_results
    try rfl
  have pick : ∀ x : FVec Ideal S12 .f32, pad (α := EReal) S16x128 ![0, 0] ![4, 0] ![0, 0]
      (broadcastInDim S12x128 ![0, 1] bcast_S12x1_S12x128_0_1 (broadcastInDim S12x1 ![0] bcast_S12_S12x1_0 x))
      (sitofp (F := Ideal) .f32 (constantI S_ 32 0#32)) pads_S12x128_S16x128_040_000 h_S_
      (ix2 (⟨g.val, by omega⟩ : Fin 16) (0 : Fin 128)) = x (ix1 g) := by
    intro x
    pointwise []
  unfold arrS
  rw [h]
  exact pick _

end Cert.MixAIdeal.Value

end
-- ==== Proof.MixAFinal.lean ====
/- The results of the attention mixer's gradient kernel as functions of the problem's own arrays. -/
module

public import proofs.«01_k».proof.Proof.MixAKernel
public import proofs.«01_k».proof.Proof.MixAHost

@[expose] public section

set_option maxRecDepth 16384

noncomputable section

namespace Cert.MixAIdeal.Value

open Cert.MixAIdeal Cert.MixAIdeal.Gen Idealize.ShloMosaic Idealize.ShloMosaic.TcCoe Idealize.SL.Sem
open Cert Cert.MemSpec

variable (m : (ℓ : Loc nD τ sig) → Buf (Elt Ideal) ℓ) (c : Dev nD)

/-! ## The problem's arrays -/

abbrev argP (R : Fin 8192) (k : Fin 1280) : EReal := m ((c : Thread nD τ).loc main_arg0) (ix2 R k)

abbrev argM (r : Fin 256) (k : Fin 512) : EReal := m ((c : Thread nD τ).loc main_arg1) (ix2 r k)

abbrev argS (h : Fin 12) : EReal := m ((c : Thread nD τ).loc main_arg2) (ix1 h)

abbrev argD (R : Fin 8192) (k : Fin 1024) : EReal := m ((c : Thread nD τ).loc main_arg3) (ix2 R k)

theorem arrs : arrP m c = argP m c ∧ arrM m c = argM m c ∧ arrS m c = argS m c ∧ arrD m c = argD m c := by
  refine ⟨funext fun R => funext fun k => V_proj m c R k, funext fun r => funext fun k => V_mem m c r k,
    funext fun h => V_sinks m c h, ?_⟩
  funext R k
  exact congrFun (V_dcat m c) (ix2 R k)

/-- The chunks are taken from the last to the first. -/
theorem rev_chunks (f : Fin 64 → EReal) : ∑ t : Fin 64, f (chunk ⟨t.val, t.isLt⟩) = ∑ t : Fin 64, f t := by
  refine Eq.trans (Finset.sum_congr rfl fun t _ => ?_) (Equiv.sum_comp Fin.revPerm f)
  refine congrArg f (Fin.ext ?_)
  change 63 - t.val = 64 - (t.val + 1)
  omega

/-- A sum over the chunks and the rows of each is a sum over all rows. -/
theorem rev_sum (f : Fin 8192 → EReal) :
    ∑ t : Fin 64, ∑ r : Fin 128, f (MixASpec.rowAt (chunk ⟨t.val, t.isLt⟩) r) = ∑ R : Fin 8192, f R := by
  refine (rev_chunks fun t => ∑ r : Fin 128, f (MixASpec.rowAt t r)).trans ?_
  rw [← Fintype.sum_prod_type']
  refine Fintype.sum_equiv (finProdFinEquiv (m := 64) (n := 128)) _ _ fun p => congrArg f (Fin.ext ?_)
  change 128 * p.1.val + p.2.val = p.2.val + 128 * p.1.val
  omega

theorem proj_eq (R : Fin 8192) (k : Fin 1280) : (dats m 0 c).arrAt 10 (cfgs 0).N (ix2 R k)
    = MixASpec.dproj (MixASpec.dq (MixASpec.dscore' (argP m c) (argS m c) (argD m c)) (MixASpec.key (argP m c)))
        (MixASpec.whole (MixASpec.dscore' (argP m c) (argS m c) (argD m c)) (MixASpec.query (argP m c)))
        (MixASpec.whole (MixASpec.weight' (argP m c) (argS m c)) (MixASpec.dres (argD m c)))
        (dquery' (MixASpec.mquery (argP m c)) (MixASpec.mdres (argD m c)) (MixASpec.mkey (argM m c)) (MixASpec.mval (argM m c)))
        ⟨R.val / 128, by omega⟩ ⟨R.val % 128, by omega⟩ k := by
  obtain ⟨hP, hM, hS, hD⟩ := arrs m c
  rw [final10, ← hP, ← hM, ← hS, ← hD]
  rfl

theorem picked_sum (n : ℕ) (f : Fin 64 → Fin 12 → EReal) :
    ∑ t : Fin 64, MixASpec.picked n (f t) = MixASpec.picked n fun g => ∑ t : Fin 64, f t g := by
  unfold MixASpec.picked
  split
  · rfl
  · exact Finset.sum_const_zero

theorem sinks_eq (i : Fin 16) (s : Fin 128) : (dats m 0 c).arrAt 11 (cfgs 0).N (ix2 i s)
    = MixASpec.picked i.val fun h => ∑ t : Fin 64, ∑ r : Fin 128, MixASpec.dsink' (argP m c) (argS m c) (argD m c) t h r := by
  obtain ⟨hP, hM, hS, hD⟩ := arrs m c
  rw [final11, ← hP, ← hS, ← hD]
  change ∑ t : Fin 64, MixASpec.picked i.val (fun g => sinkPart m c ⟨t.val, t.isLt⟩ g) = _
  rw [picked_sum]
  exact congrArg _ (funext fun h => rev_chunks fun t => ∑ r : Fin 128, MixASpec.dsink' (arrP m c) (arrS m c) (arrD m c) t h r)

theorem keys_sum (p : Fin 2) (r : Fin 256) (l : Fin 128) : ∑ t : Fin 64, dkPart m c ⟨t.val, t.isLt⟩ p r l
    = dkey' (arrq m c) (arrd m c) (arrk m c) (arrv m c) (headOf p l) r (within l) :=
  rev_sum fun R => dscore' (arrq m c (headOf p l) R) (arrd m c (headOf p l) R) (arrk m c (headOf p l)) (arrv m c (headOf p l)) r
    * arrq m c (headOf p l) R (within l)

theorem vals_sum (p : Fin 2) (r : Fin 256) (l : Fin 128) : ∑ t : Fin 64, dvPart m c ⟨t.val, t.isLt⟩ p r l
    = dval' (arrq m c) (arrd m c) (arrk m c) (headOf p l) r (within l) :=
  rev_sum fun R => arrd m c (headOf p l) R (within l) * weight' (arrq m c (headOf p l) R) (arrk m c (headOf p l)) r

theorem memory_eq (r : Fin 256) (k : Fin 512) : (dats m 0 c).arrAt 12 (cfgs 0).N (ix2 r k)
    = MixASpec.dmem
        (dkey' (MixASpec.mquery (argP m c)) (MixASpec.mdres (argD m c)) (MixASpec.mkey (argM m c)) (MixASpec.mval (argM m c)))
        (dval' (MixASpec.mquery (argP m c)) (MixASpec.mdres (argD m c)) (MixASpec.mkey (argM m c))) r k := by
  obtain ⟨hP, hM, hS, hD⟩ := arrs m c
  rw [final12, ← hP, ← hM, ← hD]
  change ∑ t : Fin 64, (![dkPart m c ⟨t.val, t.isLt⟩ 0, dkPart m c ⟨t.val, t.isLt⟩ 1, dvPart m c ⟨t.val, t.isLt⟩ 0,
    dvPart m c ⟨t.val, t.isLt⟩ 1] : Fin 4 → Fin 256 → Fin 128 → EReal) ⟨k.val / 128, _⟩ r ⟨k.val % 128, _⟩
    = MixASpec.dmem (dkey' (arrq m c) (arrd m c) (arrk m c) (arrv m c)) (dval' (arrq m c) (arrd m c) (arrk m c)) r k
  unfold MixASpec.dmem
  have e2 : within ⟨k.val % 128, by omega⟩ = ⟨k.val % 64, by omega⟩ := Fin.ext (by change k.val % 128 % 64 = k.val % 64; omega)
  by_cases h : k.val < 256
  · rw [dif_pos h]
    by_cases h1 : k.val < 128
    · have e : (⟨k.val / 128, by omega⟩ : Fin 4) = 0 := Fin.ext (by change k.val / 128 = 0; omega)
      rw [e]
      refine (keys_sum m c 0 r ⟨k.val % 128, by omega⟩).trans ?_
      rw [e2]
      exact congrArg (fun n => dkey' (arrq m c) (arrd m c) (arrk m c) (arrv m c) n r _)
        (Fin.ext (by change 2 * 0 + k.val % 128 / 64 = k.val / 64; omega))
    · have e : (⟨k.val / 128, by omega⟩ : Fin 4) = 1 := Fin.ext (by change k.val / 128 = 1; omega)
      rw [e]
      refine (keys_sum m c 1 r ⟨k.val % 128, by omega⟩).trans ?_
      rw [e2]
      exact congrArg (fun n => dkey' (arrq m c) (arrd m c) (arrk m c) (arrv m c) n r _)
        (Fin.ext (by change 2 * 1 + k.val % 128 / 64 = k.val / 64; omega))
  · rw [dif_neg h]
    by_cases h1 : k.val < 384
    · have e : (⟨k.val / 128, by omega⟩ : Fin 4) = 2 := Fin.ext (by change k.val / 128 = 2; omega)
      rw [e]
      refine (vals_sum m c 0 r ⟨k.val % 128, by omega⟩).trans ?_
      rw [e2]
      exact congrArg (fun n => dval' (arrq m c) (arrd m c) (arrk m c) n r _)
        (Fin.ext (by change 2 * 0 + k.val % 128 / 64 = (k.val - 256) / 64; omega))
    · have e : (⟨k.val / 128, by omega⟩ : Fin 4) = 3 := Fin.ext (by change k.val / 128 = 3; omega)
      rw [e]
      refine (vals_sum m c 1 r ⟨k.val % 128, by omega⟩).trans ?_
      rw [e2]
      exact congrArg (fun n => dval' (arrq m c) (arrd m c) (arrk m c) n r _)
        (Fin.ext (by change 2 * 1 + k.val % 128 / 64 = (k.val - 256) / 64; omega))

end Cert.MixAIdeal.Value

end
-- ==== Proof.MixARefArgs.lean ====
/- Names for what the reference of the attention mixer's gradient is given. -/
module

public import proofs.«01_k».proof.Proof.Gen.MixARefIdeal.Read
public import proofs.«01_k».proof.Proof.MixASpec
public import Idealize.ShloMosaic.Lib.Pointwise

@[expose] public section

noncomputable section

namespace Cert.MixARefIdeal.Read

open Cert.MixARefIdeal Cert.MixARefIdeal.Gen Idealize.ShloMosaic Idealize.ShloMosaic.TcCoe Idealize.SL.Sem
open Cert

/-! ## The arguments by row and column -/

abbrev proj (x : FVec Ideal S8192x1280 .f32) (R : Fin 8192) (c : Fin 1280) : EReal := x (ix2 R c)

abbrev memo (x : FVec Ideal S256x512 .f32) (m : Fin 256) (c : Fin 512) : EReal := x (ix2 m c)

abbrev sinks (x : FVec Ideal S12 .f32) (h : Fin 12) : EReal := x (ix1 h)

abbrev gres (x : FVec Ideal S8192x1024 .f32) (R : Fin 8192) (c : Fin 1024) : EReal := x (ix2 R c)

/-- Entries at equal places are equal. -/
theorem same {a b : ℕ} (x : (⟨2, ![a, b]⟩ : Shape).Idx → EReal) {i i' : Fin a} {j j' : Fin b} (hi : i.val = i'.val) (hj : j.val = j'.val) :
    x (ix2 i j) = x (ix2 i' j') := by
  rw [Fin.ext hi, Fin.ext hj]

end Cert.MixARefIdeal.Read

end
-- ==== Proof.MixARefWin.lean ====
/- The window's heads in the reference of the attention mixer's gradient: queries, keys, values, the mask and the scores. -/
module

public import proofs.«01_k».proof.Proof.MixARefArgs
public import proofs.«01_k».proof.Proof.SwaSpec
public import Idealize.ShloMosaic.Lib.WordCmp

@[expose] public section

set_option maxRecDepth 16384

noncomputable section

namespace Cert.MixARefIdeal.Read

open Cert.MixARefIdeal Cert.MixARefIdeal.Gen Idealize.ShloMosaic Idealize.ShloMosaic.TcCoe Idealize.SL.Sem
open Cert WordCmp

variable (x0 : FVec Ideal S8192x1280 .f32) (x2 : FVec Ideal S12 .f32) (x3 : FVec Ideal S8192x1024 .f32)

theorem q_at (t : Fin 64) (r : Fin 128) (g : Fin 2) (j : Fin 6) (l : Fin 64) :
    val_main_v7 (F := Ideal) x0 (ix5 t r g j l) = MixASpec.query (proj x0) t (MixASpec.headOf g j) r l := by
  pointwise [val_main_v7, val_main_v4, val_main_v0]
  exact same x0 (by simp only [MixASpec.rowAt]; omega) (by simp only [MixASpec.headOf]; omega)

theorem kc_at (t : Fin 64) (r : Fin 128) (g : Fin 2) (l : Fin 64) :
    val_main_v8 (F := Ideal) x0 (ix4 t r g l) = x0 (ix2 (MixASpec.rowAt t r) ⟨768 + 64 * g.val + l.val, by omega⟩) := by
  pointwise [val_main_v8, val_main_v5, val_main_v1]
  exact same x0 (by simp only [MixASpec.rowAt]; omega) (by simp only; omega)

theorem vc_at (t : Fin 64) (r : Fin 128) (g : Fin 2) (l : Fin 64) :
    val_main_v15 (F := Ideal) x0 (ix4 t r g l) = x0 (ix2 (MixASpec.rowAt t r) ⟨896 + 64 * g.val + l.val, by omega⟩) := by
  pointwise [val_main_v15, val_main_v6, val_main_v2]
  exact same x0 (by simp only [MixASpec.rowAt]; omega) (by simp only; omega)

/-- A chunk put before the first and the last one dropped. -/
theorem shifted (a : (⟨S1x128x2x64, .f32⟩ : BufTy).Contents (Elt Ideal)) (b : (⟨S63x128x2x64, .f32⟩ : BufTy).Contents (Elt Ideal))
    (t : Fin 64) (i : Fin 128) (g : Fin 2) (l : Fin 64) :
    concatenate S64x128x2x64 0 [⟨S1x128x2x64, a⟩, ⟨S63x128x2x64, b⟩] concatenates_S1x128x2x64_S63x128x2x64_S64x128x2x64_d0 (ix4 t i g l)
      = if t.val = 0 then a (ix4 0 i g l) else b (ix4 (⟨t.val - 1, by omega⟩ : Fin 63) i g l) := by
  by_cases ht : t.val = 0
  · obtain rfl : t = 0 := Fin.ext ht
    rw [if_pos ht]
    pointwise []
  · rw [if_neg ht]
    pointwise []
    exact dif_neg (by omega)

theorem kp_at (t : Fin 64) (i : Fin 128) (g : Fin 2) (l : Fin 64) : val_main_v12 (F := Ideal) x0 (ix4 t i g l)
    = if t.val = 0 then 0 else x0 (ix2 (⟨128 * (t.val - 1) + i.val, by omega⟩ : Fin 8192) ⟨768 + 64 * g.val + l.val, by omega⟩) := by
  unfold val_main_v12
  rw [shifted]
  by_cases ht : t.val = 0
  · rw [if_pos ht, if_pos ht]
    pointwise [val_main_v10, val_main_cst]
  · rw [if_neg ht, if_neg ht]
    pointwise [val_main_v11, kc_at]
    exact same x0 (by simp only [MixASpec.rowAt]) rfl

theorem k_at (t : Fin 64) (i : Fin 256) (g : Fin 2) (l : Fin 64) :
    val_main_v14 (F := Ideal) x0 (ix4 t i g l) = MixASpec.key0 (proj x0) t g i l := by
  pointwise [val_main_v14, kp_at, kc_at]
  unfold MixASpec.key0 MixASpec.key MixASpec.keyRow
  by_cases h : i.val < 128
  · rw [dif_pos h, if_pos h]
    by_cases ht : t.val = 0
    · rw [if_pos ht, if_pos ⟨h, ht⟩]
    · rw [if_neg ht, if_neg (fun a => ht a.2)]
      exact same x0 (by simp only; omega) rfl
  · rw [dif_neg h, if_neg h]
    refine Eq.trans ?_ (if_neg (c := i.val < 128 ∧ t.val = 0) (fun a => h a.1)).symm
    exact same x0 (by simp only [MixASpec.rowAt]; omega) rfl

theorem vp_at (t : Fin 64) (i : Fin 128) (g : Fin 2) (l : Fin 64) : val_main_v19 (F := Ideal) x0 (ix4 t i g l)
    = if t.val = 0 then 0 else x0 (ix2 (⟨128 * (t.val - 1) + i.val, by omega⟩ : Fin 8192) ⟨896 + 64 * g.val + l.val, by omega⟩) := by
  unfold val_main_v19
  rw [shifted]
  by_cases ht : t.val = 0
  · rw [if_pos ht, if_pos ht]
    pointwise [val_main_v17, val_main_cst_1]
  · rw [if_neg ht, if_neg ht]
    pointwise [val_main_v18, vc_at]
    exact same x0 (by simp only [MixASpec.rowAt]) rfl

theorem v_at (t : Fin 64) (i : Fin 256) (g : Fin 2) (l : Fin 64) :
    val_main_v21 (F := Ideal) x0 (ix4 t i g l) = MixASpec.val0 (proj x0) t g i l := by
  pointwise [val_main_v21, vp_at, vc_at]
  unfold MixASpec.val0 MixASpec.val MixASpec.keyRow
  by_cases h : i.val < 128
  · rw [dif_pos h, if_pos h]
    by_cases ht : t.val = 0
    · rw [if_pos ht, if_pos ⟨h, ht⟩]
    · rw [if_neg ht, if_neg (fun a => ht a.2)]
      exact same x0 (by simp only; omega) rfl
  · rw [dif_neg h, if_neg h]
    refine Eq.trans ?_ (if_neg (c := i.val < 128 ∧ t.val = 0) (fun a => h a.1)).symm
    exact same x0 (by simp only [MixASpec.rowAt]; omega) rfl

theorem d_at (t : Fin 64) (g : Fin 2) (l : Fin 64) (j : Fin 6) (r : Fin 128) :
    val_main_v172 (F := Ideal) x3 (ix5 t g l j r) = MixASpec.dres (gres x3) t (MixASpec.headOf g j) r l := by
  pointwise [val_main_v172, val_main_v171, val_main_v142]
  exact same x3 (by simp only [MixASpec.rowAt]; omega) (by simp only [MixASpec.headOf]; omega)

theorem z_at (a b e : Fin 1) (g : Fin 2) (j : Fin 6) :
    val_main_v57 (F := Ideal) x2 (ix5 a g j b e) = sinks x2 (MixASpec.headOf g j) := by
  pointwise [val_main_v57, val_main_v56]
  exact congrArg x2 (congrArg ix1 (Fin.ext (by simp only [MixASpec.headOf]; omega)))

/-- The band of keys that a row sees, by words. -/
theorem band : ∀ (r : Fin 128) (i : Fin 256),
    IntOp.andi (IntOp.cmpi .sge (IntOp.subi (IntOp.addi (BitVec.ofNat 32 r.val) 128#32) (BitVec.ofNat 32 i.val)) 0#32)
      (IntOp.cmpi .slt (IntOp.subi (IntOp.addi (BitVec.ofNat 32 r.val) 128#32) (BitVec.ofNat 32 i.val)) 128#32)
    = if r.val < i.val ∧ i.val ≤ r.val + 128 then 1#1 else 0#1 := by
  decide +kernel

/-- The mask's bit. -/
theorem mask_at (t : Fin 64) (g : Fin 2) (j : Fin 6) (r : Fin 128) (i : Fin 256) :
    val_main_v55_1 (F := Ideal) (ix5 t g j r i) = if MixASpec.seen t r i then 1#1 else 0#1 := by
  pointwise [val_main_v55_1, val_main_v54, val_main_v53, val_main_v52, val_main_v51, val_main_v50, val_main_v49, val_main_v48, val_main_v47,
    val_main_v46, val_main_v45, val_main_c_7, val_main_v44, val_main_v43, val_main_v42, val_main_c_6, val_main_v41, val_main_v40,
    val_main_v39, val_main_v38, val_main_v37, val_main_c_5, val_main_v36, val_main_v35, val_main_c_4, val_main_v34, val_main_v33,
    val_main_v32, val_main_v31, val_main_v30, val_main_c, val_main_v29, val_main_v28, val_main_v27, val_main_v26]
  have e1 : IntOp.cmpi .sgt (BitVec.ofNat 32 t.val) 0#32 = BitVec.ofBool (decide (0 < t.val)) :=
    cmpi_sgt_ofNat (w := 32) (by omega) (by omega)
  have e2 : IntOp.cmpi .sge (BitVec.ofNat 32 i.val) 128#32 = BitVec.ofBool (decide (128 ≤ i.val)) :=
    cmpi_sge_ofNat (w := 32) (by omega) (by omega)
  rw [band, e1, e2]
  unfold MixASpec.seen
  simp only [decide_eq_true_eq]
  by_cases h1 : r.val < i.val ∧ i.val ≤ r.val + 128
  · by_cases h2 : 0 < t.val
    · rw [if_pos h1, if_pos (by omega), decide_eq_true h2]
      by_cases h3 : 128 ≤ i.val
      · rw [decide_eq_true h3]; rfl
      · rw [decide_eq_false h3]; rfl
    · rw [if_pos h1, decide_eq_false h2]
      by_cases h3 : 128 ≤ i.val
      · rw [decide_eq_true h3, if_pos (by omega)]; rfl
      · rw [decide_eq_false h3, if_neg (by omega)]; rfl
  · rw [if_neg h1, if_neg (by omega)]
    exact BitVec.zero_and

theorem score_at (t : Fin 64) (g : Fin 2) (j : Fin 6) (r : Fin 128) (i : Fin 256) :
    val_main_v55_0 (F := Ideal) x0 (ix5 t g j r i)
      = SwaSpec.score (MixASpec.seen t r) (MixASpec.query (proj x0) t (MixASpec.headOf g j) r) (MixASpec.key0 (proj x0) t g) i := by
  pointwise [val_main_v55_0, mask_at, val_main_call0_v2, val_main_call0_v0, val_main_cst_8, val_main_v25, val_main_v24, val_main_cst_3,
    val_main_v23, val_main_v22, q_at, k_at]
  unfold SwaSpec.score
  have e : (id (constant (F := Ideal) S_ .f32 0xFF800000#32) ix0 : EReal) = ⊥ := by
    simp [constant, Ideal.ofBits, Ideal.ieee]
  rw [e]
  by_cases h : MixASpec.seen t r i = true
  · rw [if_pos h, if_pos h, select_of_eq_one rfl]
    exact congrArg (· * _) (Finset.sum_congr rfl fun l _ => mul_comm _ _)
  · rw [if_neg h, if_neg h, select_of_eq_zero rfl]

end Cert.MixARefIdeal.Read

end
-- ==== Proof.MixARefMem.lean ====
/- The memory attention's gradient, as the reference of the attention mixer computes it. -/
module

public import proofs.«01_k».proof.Proof.MixARefArgs
public import proofs.«01_k».proof.Proof.MemSpec

@[expose] public section

set_option maxRecDepth 16384

noncomputable section

namespace Cert.MixARefIdeal.Read

open Cert.MixARefIdeal Cert.MixARefIdeal.Gen Idealize.ShloMosaic Idealize.ShloMosaic.TcCoe Idealize.SL.Sem
open Cert

variable (x0 : FVec Ideal S8192x1280 .f32) (x1 : FVec Ideal S256x512 .f32) (x3 : FVec Ideal S8192x1024 .f32)

/-- The bit pattern of minus infinity. -/
theorem ofBits_neg_inf : Ideal.ofBits .f32 0xFF800000#32 = ⊥ := by
  simp [Ideal.ofBits, Ideal.ieee]

theorem mq_at (R : Fin 8192) (h : Fin 4) (l : Fin 64) :
    val_main_v102 (F := Ideal) x0 (ix3 R h l) = MixASpec.mquery (proj x0) h R l := by
  pointwise [val_main_v102, val_main_v3, MixASpec.mquery]
  simp only [Nat.mul_comm _ 64, Nat.add_assoc]

theorem mk_at (r : Fin 256) (h : Fin 4) (l : Fin 64) :
    val_main_v105 (F := Ideal) x1 (ix3 r h l) = MixASpec.mkey (memo x1) h r l := by
  pointwise [val_main_v105, val_main_v103, MixASpec.mkey]
  simp only [Nat.mul_comm _ 64, Nat.add_assoc]

theorem mv_at (r : Fin 256) (h : Fin 4) (l : Fin 64) :
    val_main_v106 (F := Ideal) x1 (ix3 r h l) = MixASpec.mval (memo x1) h r l := by
  pointwise [val_main_v106, val_main_v104, MixASpec.mval]
  simp only [Nat.mul_comm _ 64, Nat.add_assoc]

theorem md_at (R : Fin 8192) (h : Fin 4) (l : Fin 64) :
    val_main_v145 (F := Ideal) x3 (ix3 h l R) = MixASpec.mdres (gres x3) h R l := by
  pointwise [val_main_v145, val_main_v144, val_main_v143, MixASpec.mdres]
  simp only [Nat.mul_comm _ 64, Nat.add_assoc]

section Row

variable (h : Fin 4) (R : Fin 8192)

theorem mscore_at (r : Fin 256) : val_main_v109 (F := Ideal) x0 x1 (ix3 h R r)
    = MemSpec.score (MixASpec.mquery (proj x0) h R) (MixASpec.mkey (memo x1) h) r := by
  pointwise [val_main_v109, val_main_v108, val_main_cst_19, val_main_v107, mq_at, mk_at, MemSpec.score]

theorem mmost_at : val_main_v110 (F := Ideal) x0 x1 (ix2 h R)
    = Finset.univ.fold max (Ideal.ofBits .f32 0xFF800000#32)
        (fun r : Fin 256 => MemSpec.score (MixASpec.mquery (proj x0) h R) (MixASpec.mkey (memo x1) h) r) := by
  pointwise [val_main_v110, val_main_cst_20, mscore_at]

theorem mtop_at : val_main_v117 (F := Ideal) x0 x1 (ix2 h R)
    = MemSpec.top (MixASpec.mquery (proj x0) h R) (MixASpec.mkey (memo x1) h) := by
  rw [val_main_v117_apply, val_main_v116_apply, mmost_at, val_main_cst_22]
  unfold MemSpec.top
  generalize MemSpec.score (MixASpec.mquery (proj x0) h R) (MixASpec.mkey (memo x1) h) = f
  rw [ofBits_neg_inf, Ideal.maximumf_eq_max]
  exact (congrArg (max · _) ofBits_neg_inf).trans (max_bot_left _)

theorem mex_at (r : Fin 256) : val_main_v130 (F := Ideal) x0 x1 (ix3 h R r)
    = MemSpec.ex (MixASpec.mquery (proj x0) h R) (MixASpec.mkey (memo x1) h) r := by
  pointwise [val_main_v130, val_main_v129, val_main_v128, val_main_v127, mscore_at, mtop_at, MemSpec.ex]

theorem mden_at : val_main_v131 (F := Ideal) x0 x1 (ix2 h R)
    = MemSpec.den (MixASpec.mquery (proj x0) h R) (MixASpec.mkey (memo x1) h) := by
  pointwise [val_main_v131, val_main_cst_28, mex_at, MemSpec.den]

theorem mweight_at (r : Fin 256) : val_main_v134 (F := Ideal) x0 x1 (ix3 h R r)
    = MemSpec.weight (MixASpec.mquery (proj x0) h R) (MixASpec.mkey (memo x1) h) r := by
  pointwise [val_main_v134, val_main_v133, val_main_v132, mex_at, mden_at, MemSpec.weight]

theorem mdweight_at (r : Fin 256) : val_main_v146 (F := Ideal) x1 x3 (ix3 h R r)
    = MemSpec.dweight (MixASpec.mdres (gres x3) h R) (MixASpec.mval (memo x1) h) r := by
  pointwise [val_main_v146, md_at, mv_at, MemSpec.dweight]

theorem mdscore_at (r : Fin 256) : val_main_v162 (F := Ideal) x0 x1 x3 (ix3 h R r)
    = MemSpec.dscore (MixASpec.mquery (proj x0) h R) (MixASpec.mdres (gres x3) h R) (MixASpec.mkey (memo x1) h)
        (MixASpec.mval (memo x1) h) r := by
  pointwise [val_main_v162, val_main_v161, val_main_cst_32, val_main_v160, val_main_v159, val_main_v158, val_main_v157, val_main_cst_31,
    val_main_v156, val_main_v155, val_main_v154, val_main_v153, val_main_v152, val_main_cst_30, val_main_v151, val_main_v150,
    val_main_v149, val_main_v137, val_main_v136, val_main_cst_29, val_main_v135, val_main_v132, mex_at, mden_at, mdweight_at, MemSpec.dscore,
    Fin.sum_univ_one]

end Row

/-- The gradient of the queries. -/
abbrev refQ : Fin 4 → Fin 8192 → Fin 64 → EReal :=
  MemSpec.dquery (MixASpec.mquery (proj x0)) (MixASpec.mdres (gres x3)) (MixASpec.mkey (memo x1)) (MixASpec.mval (memo x1))

theorem mdq_at (R : Fin 8192) (c : Fin 256) : val_main_v170 (F := Ideal) x0 x1 x3 (ix2 R c)
    = refQ x0 x1 x3 ⟨c.val / 64, by omega⟩ R ⟨c.val % 64, by omega⟩ := by
  pointwise [val_main_v170, val_main_v166, val_main_v165, mdscore_at, mk_at, MemSpec.dquery]

/-- The gradient of the memory's keys and values. -/
theorem dmem_at (r : Fin 256) (c : Fin 512) : val_main_v169 (F := Ideal) x0 x1 x3 (ix2 r c)
    = MixASpec.dmem
        (MemSpec.dkey (MixASpec.mquery (proj x0)) (MixASpec.mdres (gres x3)) (MixASpec.mkey (memo x1)) (MixASpec.mval (memo x1)))
        (MemSpec.dval (MixASpec.mquery (proj x0)) (MixASpec.mdres (gres x3)) (MixASpec.mkey (memo x1))) r c := by
  pointwise [val_main_v169, val_main_v168, val_main_v167, val_main_v164, val_main_v163, val_main_v148, val_main_v147, mdscore_at,
    mweight_at, mq_at, md_at, MemSpec.dkey, MemSpec.dval, MixASpec.dmem]
  split
  · rfl
  · next h =>
    have e : (c.val - 256) % 64 = c.val % 64 := by omega
    simp only [e]

end Cert.MixARefIdeal.Read

end
-- ==== Proof.MixARefRow.lean ====
/- One row of one of the window's heads in the reference of the attention mixer's gradient. -/
module

public import proofs.«01_k».proof.Proof.MixARefWin
public import proofs.«01_k».proof.Proof.MixARefMem

@[expose] public section

set_option maxRecDepth 16384

noncomputable section

namespace Cert.MixARefIdeal.Read

open Cert.MixARefIdeal Cert.MixARefIdeal.Gen Idealize.ShloMosaic Idealize.ShloMosaic.TcCoe Idealize.SL.Sem
open Cert

variable (x0 : FVec Ideal S8192x1280 .f32) (x2 : FVec Ideal S12 .f32) (x3 : FVec Ideal S8192x1024 .f32)

section Row

variable (t : Fin 64) (g : Fin 2) (j : Fin 6) (r : Fin 128)

theorem peak_at : val_main_v58 (F := Ideal) x0 (ix4 t g j r)
      = SwaSpec.peak (MixASpec.seen t r) (MixASpec.query (proj x0) t (MixASpec.headOf g j) r) (MixASpec.key0 (proj x0) t g) := by
  pointwise [val_main_v58, val_main_cst_9, score_at]
  unfold SwaSpec.peak
  rw [ofBits_neg_inf]

theorem bit_number (a b : EReal) : FloatOps.uitofp (F := Ideal) .f32 (BitVec.ofBool (decide (a = b))) = if a
      = b then (1 : EReal) else 0 := by
  by_cases h : a = b
  · rw [if_pos h, decide_eq_true h]
    simp [FloatOps.uitofp]
  · rw [if_neg h, decide_eq_false h]
    simp [FloatOps.uitofp]

theorem equal_number (a b : EReal) : FloatOps.uitofp (F := Ideal) .f32 (FloatOps.cmpf (F := Ideal) (φ := .f32) .oeq a b)
    = if a = b then (1 : EReal) else 0 :=
  bit_number a b

theorem peak_spread (i : Fin 256) : val_main_v60 (F := Ideal) x0 (ix5 t g j r i)
      = SwaSpec.peak (MixASpec.seen t r) (MixASpec.query (proj x0) t (MixASpec.headOf g j) r) (MixASpec.key0 (proj x0) t g) := by
  have e : val_main_v60 (F := Ideal) x0 (ix5 t g j r i) = val_main_v58 (F := Ideal) x0 (ix4 t g j r) := by
    pointwise [val_main_v60, val_main_v59]
  rw [e, peak_at]

theorem hit_at (i : Fin 256) : val_main_v62 (F := Ideal) x0 (ix5 t g j r i)
      = SwaSpec.hit (MixASpec.seen t r) (MixASpec.query (proj x0) t (MixASpec.headOf g j) r) (MixASpec.key0 (proj x0) t g) i := by
  rw [val_main_v62_apply, val_main_v61_apply, score_at, peak_spread]
  exact equal_number _ _

theorem hits_at : val_main_v63 (F := Ideal) x0 (ix4 t g j r)
      = ∑ i : Fin 256, SwaSpec.hit (MixASpec.seen t r) (MixASpec.query (proj x0) t (MixASpec.headOf g j) r) (MixASpec.key0
      (proj x0) t g) i := by
  pointwise [val_main_v63, val_main_cst_10, hit_at]

theorem peak_wide (o : Fin 1) : val_main_v64 (F := Ideal) x0 (ix5 t g j r o)
      = SwaSpec.peak (MixASpec.seen t r) (MixASpec.query (proj x0) t (MixASpec.headOf g j) r) (MixASpec.key0 (proj x0) t g) := by
  have e : idx_main_v64 (ix5 t g j r o) = ix4 t g j r := by
    funext a
    match a with
    | ⟨0, _⟩ => rfl
    | ⟨1, _⟩ => rfl
    | ⟨2, _⟩ => rfl
    | ⟨3, _⟩ => rfl
  rw [val_main_v64_apply, e, peak_at]

theorem sink_wide (o : Fin 1) : val_main_v65 (F := Ideal) x2 (ix5 t g j r o) = (sinks x2 (MixASpec.headOf g j)) := by
  pointwise [val_main_v65, z_at]

theorem sink_wide' (o : Fin 1) : val_main_v67 (F := Ideal) x2 (ix5 t g j r o) = (sinks x2 (MixASpec.headOf g j)) := by
  pointwise [val_main_v67, z_at]

theorem sink_wide'' (o : Fin 1) : val_main_v69 (F := Ideal) x2 (ix5 t g j r o) = (sinks x2 (MixASpec.headOf g j)) := by
  pointwise [val_main_v69, z_at]

theorem top_at (o : Fin 1) : val_main_v66 (F := Ideal) x0 x2 (ix5 t g j r o)
      = SwaSpec.top (MixASpec.seen t r) (MixASpec.query (proj x0) t (MixASpec.headOf g j) r) (MixASpec.key0 (proj x0) t g) (sinks x2
      (MixASpec.headOf g j)) := by
  rw [val_main_v66_apply, peak_wide, sink_wide, Ideal.maximumf_eq_max]
  unfold SwaSpec.top
  rfl

theorem part_of (a b : EReal) : Scalar.select (FloatOps.cmpf (F := Ideal) (φ := .f32) .ogt a b) (1 : EReal)
    (Scalar.select (FloatOps.cmpf (F := Ideal) (φ := .f32) .oeq a b) (Ideal.ofBits .f32 0x3F000000#32) 0) = SwaSpec.part a b := by
  unfold SwaSpec.part
  pointwise []

theorem ones_at (o : Fin 1) : val_main_v71 (F := Ideal) (ix5 t g j r o) = (1 : EReal) := by
  pointwise [val_main_v71, val_main_cst_11]

theorem zeros_at (o : Fin 1) : val_main_v72 (F := Ideal) (ix5 t g j r o) = (0 : EReal) := by
  pointwise [val_main_v72, val_main_cst_12]

theorem halves_at (o : Fin 1) : val_main_v73 (F := Ideal) (ix5 t g j r o) = Ideal.ofBits .f32 0x3F000000#32 := by
  pointwise [val_main_v73, val_main_cst_13]

theorem part_at (o : Fin 1) : val_main_v75 (F := Ideal) x0 x2 (ix5 t g j r o)
      = SwaSpec.part (SwaSpec.peak (MixASpec.seen t r) (MixASpec.query (proj x0) t (MixASpec.headOf g j) r) (MixASpec.key0 (proj x0) t g))
      (sinks x2 (MixASpec.headOf g j)) := by
  rw [val_main_v75_apply, val_main_v74_apply, val_main_v70_apply, val_main_v68_apply, peak_wide, sink_wide', sink_wide'', ones_at, zeros_at,
    halves_at]
  exact part_of _ _

theorem ex_at (i : Fin 256) : val_main_v87 (F := Ideal) x0 x2 (ix5 t g j r i)
      = SwaSpec.ex (MixASpec.seen t r) (MixASpec.query (proj x0) t (MixASpec.headOf g j) r) (MixASpec.key0 (proj x0) t g) (sinks x2
      (MixASpec.headOf g j)) i := by
  pointwise [val_main_v87, val_main_v86, val_main_v85, score_at, top_at, SwaSpec.ex]

theorem exs_at (o : Fin 1) : val_main_v92 (F := Ideal) x0 x2 (ix5 t g j r o)
      = SwaSpec.exs (MixASpec.seen t r) (MixASpec.query (proj x0) t (MixASpec.headOf g j) r) (MixASpec.key0 (proj x0) t g) (sinks x2
      (MixASpec.headOf g j)) := by
  pointwise [val_main_v92, val_main_v91, val_main_v90, z_at, top_at, SwaSpec.exs]

theorem den_at (o : Fin 1) : val_main_v93 (F := Ideal) x0 x2 (ix5 t g j r o)
      = SwaSpec.den (MixASpec.seen t r) (MixASpec.query (proj x0) t (MixASpec.headOf g j) r) (MixASpec.key0 (proj x0) t g) (sinks x2
      (MixASpec.headOf g j)) := by
  pointwise [val_main_v93, val_main_v89, val_main_v88, val_main_cst_17, ex_at, exs_at, SwaSpec.den]

theorem weight_at (i : Fin 256) : val_main_v95 (F := Ideal) x0 x2 (ix5 t g j r i)
      = SwaSpec.weight (MixASpec.seen t r) (MixASpec.query (proj x0) t (MixASpec.headOf g j) r) (MixASpec.key0 (proj x0) t g) (sinks x2
      (MixASpec.headOf g j)) i := by
  pointwise [val_main_v95, val_main_v94, ex_at, den_at, SwaSpec.weight]

theorem dweight_at (i : Fin 256) : val_main_v173 (F := Ideal) x0 x3 (ix5 t g j r i)
      = SwaSpec.dweight (MixASpec.dres (gres x3) t (MixASpec.headOf g j) r) (MixASpec.val0 (proj x0) t g) i := by
  pointwise [val_main_v173, d_at, v_at, SwaSpec.dweight]

theorem dden_at (o : Fin 1) : val_main_v181 (F := Ideal) x0 x2 x3 (ix5 t g j r o)
      = SwaSpec.dden (MixASpec.seen t r) (MixASpec.query (proj x0) t (MixASpec.headOf g j) r) (MixASpec.dres (gres x3) t
      (MixASpec.headOf g j) r) (MixASpec.key0 (proj x0) t g) (MixASpec.val0 (proj x0) t g) (sinks x2 (MixASpec.headOf g j)) := by
  pointwise [val_main_v181, val_main_v180, val_main_v179, val_main_cst_33, val_main_v178, val_main_v177, val_main_v176, val_main_v98,
    val_main_v97, val_main_cst_18, val_main_v96, ex_at, den_at, dweight_at, SwaSpec.dden]

theorem dshift_at (i : Fin 256) : val_main_v191 (F := Ideal) x0 x2 x3 (ix5 t g j r i)
      = SwaSpec.dshift (MixASpec.seen t r) (MixASpec.query (proj x0) t (MixASpec.headOf g j) r) (MixASpec.dres (gres x3) t
      (MixASpec.headOf g j) r) (MixASpec.key0 (proj x0) t g) (MixASpec.val0 (proj x0) t g) (sinks x2 (MixASpec.headOf g j)) i := by
  pointwise [val_main_v191, val_main_v190, val_main_v189, val_main_v188, val_main_cst_35, val_main_v183, val_main_v182, ex_at, den_at,
    dweight_at, dden_at, SwaSpec.dshift, Fin.sum_univ_one]

theorem dtop_at (o : Fin 1) : val_main_v195 (F := Ideal) x0 x2 x3 (ix5 t g j r o)
      = SwaSpec.dtop (MixASpec.seen t r) (MixASpec.query (proj x0) t (MixASpec.headOf g j) r) (MixASpec.dres (gres x3) t
      (MixASpec.headOf g j) r) (MixASpec.key0 (proj x0) t g) (MixASpec.val0 (proj x0) t g) (sinks x2 (MixASpec.headOf g j)) := by
  pointwise [val_main_v195, val_main_v194, val_main_v193, val_main_cst_36, val_main_v192, val_main_v187, val_main_v184, exs_at, dden_at,
    dshift_at, SwaSpec.dtop]

end Row

end Cert.MixARefIdeal.Read

end
-- ==== Proof.MixARefScore.lean ====
/- The gradient of a score of the window's heads in the reference of the attention mixer's gradient. -/
module

public import proofs.«01_k».proof.Proof.MixARefRow

@[expose] public section

set_option maxRecDepth 16384

noncomputable section

namespace Cert.MixARefIdeal.Read

open Cert.MixARefIdeal Cert.MixARefIdeal.Gen Idealize.ShloMosaic Idealize.ShloMosaic.TcCoe Idealize.SL.Sem
open Cert

variable (x0 : FVec Ideal S8192x1280 .f32) (x2 : FVec Ideal S12 .f32) (x3 : FVec Ideal S8192x1024 .f32)

section Row

variable (t : Fin 64) (g : Fin 2) (j : Fin 6) (r : Fin 128)

theorem shared_at : val_main_v201 (F := Ideal) x0 x2 x3 (ix4 t g j r)
    = SwaSpec.dtop (MixASpec.seen t r) (MixASpec.query (proj x0) t (MixASpec.headOf g j) r) (MixASpec.dres (gres x3) t
      (MixASpec.headOf g j) r) (MixASpec.key0 (proj x0) t g) (MixASpec.val0 (proj x0) t g) (sinks x2 (MixASpec.headOf g j)) * SwaSpec.part
      (SwaSpec.peak (MixASpec.seen t r) (MixASpec.query (proj x0) t (MixASpec.headOf g j) r) (MixASpec.key0 (proj x0) t g)) (sinks x2
      (MixASpec.headOf g j)) := by
  have h : val_main_v201 (F := Ideal) x0 x2 x3 (ix4 t g j r) = val_main_v200 (F := Ideal) x0 x2 x3 (ix5 t g j r (0 : Fin 1)) := by
    pointwise [val_main_v201, val_main_cst_38, Fin.sum_univ_one]
  rw [h, val_main_v200_apply, dtop_at, part_at]
  generalize SwaSpec.part _ _ = p
  generalize SwaSpec.dtop _ _ _ _ _ _ = e
  rfl

theorem unmasked_at (i : Fin 256) : val_main_v205 (F := Ideal) x0 x2 x3 (ix5 t g j r i)
      = SwaSpec.dshift (MixASpec.seen t r) (MixASpec.query (proj x0) t (MixASpec.headOf g j) r) (MixASpec.dres (gres x3) t
      (MixASpec.headOf g j) r) (MixASpec.key0 (proj x0) t g) (MixASpec.val0 (proj x0) t g) (sinks x2 (MixASpec.headOf g j)) i
    + Ideal.div (SwaSpec.dtop (MixASpec.seen t r) (MixASpec.query (proj x0) t (MixASpec.headOf g j) r) (MixASpec.dres (gres x3) t
      (MixASpec.headOf g j) r) (MixASpec.key0 (proj x0) t g) (MixASpec.val0 (proj x0) t g) (sinks x2 (MixASpec.headOf g j)) * SwaSpec.part
      (SwaSpec.peak (MixASpec.seen t r) (MixASpec.query (proj x0) t (MixASpec.headOf g j) r) (MixASpec.key0 (proj x0) t g)) (sinks x2
      (MixASpec.headOf g j))) (∑ n : Fin 256, SwaSpec.hit (MixASpec.seen t r) (MixASpec.query (proj x0) t (MixASpec.headOf g j) r)
      (MixASpec.key0 (proj x0) t g) n)
      * SwaSpec.hit (MixASpec.seen t r) (MixASpec.query (proj x0) t (MixASpec.headOf g j) r) (MixASpec.key0 (proj x0) t g) i := by
  have e : idx_main_v203 (ix5 t g j r i) = ix4 t g j r := by
    funext a
    match a with
    | ⟨0, _⟩ => rfl
    | ⟨1, _⟩ => rfl
    | ⟨2, _⟩ => rfl
    | ⟨3, _⟩ => rfl
  rw [val_main_v205_apply, val_main_v204_apply, val_main_v203_apply, val_main_v202_apply, e, dshift_at, shared_at, hits_at, hit_at]
  generalize SwaSpec.part _ _ = p
  generalize SwaSpec.dtop _ _ _ _ _ _ = a
  generalize ∑ n : Fin 256, SwaSpec.hit _ _ _ n = b
  generalize SwaSpec.hit _ _ _ _ = b'
  generalize SwaSpec.dshift _ _ _ _ _ _ _ = f
  rfl

theorem eighth_at (i : Fin 256) : val_main_v209 (F := Ideal) (ix5 t g j r i) = Ideal.ofBits .f32 0x3E000000#32 := by
  pointwise [val_main_v209, val_main_cst_40]

theorem blank_at (i : Fin 256) : val_main_call1_v0 (F := Ideal) (ix5 t g j r i) = (0 : EReal) := by
  pointwise [val_main_call1_v0, val_main_call1_cst]

theorem choice (w : Bool) (a b e : EReal) :
    FloatOps.mulf (F := Ideal) (φ := .f32) (Scalar.select (if w then 1#1 else 0#1) a b) e
    = (if w then a else b) * e := by
  cases w <;> rfl

theorem dscore_at (i : Fin 256) : val_main_v210 (F := Ideal) x0 x2 x3 (ix5 t g j r i)
      = SwaSpec.dscore (MixASpec.seen t r) (MixASpec.query (proj x0) t (MixASpec.headOf g j) r) (MixASpec.dres (gres x3) t
      (MixASpec.headOf g j) r) (MixASpec.key0 (proj x0) t g) (MixASpec.val0 (proj x0) t g) (sinks x2 (MixASpec.headOf g j)) i := by
  rw [val_main_v210_apply, val_main_v208_apply, mask_at, unmasked_at, eighth_at, blank_at]
  unfold SwaSpec.dscore
  exact choice _ _ _ _

end Row

end Cert.MixARefIdeal.Read

end
-- ==== Proof.MixARefDot.lean ====
/- The two products of the reference of the attention mixer's gradient that are sums over two axes. -/
module

public import proofs.«01_k».proof.Proof.MixARefArgs
public import proofs.«01_k».proof.Proof.Gen.MixARefIdeal.Read
public import Idealize.ShloMosaic.Lib.TwoAxisContraction

@[expose] public section

set_option maxRecDepth 16384

noncomputable section

namespace Cert.MixARefIdeal.Read

open Cert.MixARefIdeal Cert.MixARefIdeal.Gen Idealize.ShloMosaic Idealize.ShloMosaic.TcCoe Idealize.SL.Sem
open Cert

variable (x0 : FVec Ideal S8192x1280 .f32) (x1 : FVec Ideal S256x512 .f32) (x2 : FVec Ideal S12 .f32)
  (x3 : FVec Ideal S8192x1024 .f32)

theorem values_lhs_0 (i : S64x2x64x256.Idx)
    (q : dot_S64x2x64x6x128_S64x2x6x128x256_S64x2x64x256_34_23_2_4_01_01.contr.Idx) :
    (dot_S64x2x64x6x128_S64x2x6x128x256_S64x2x64x256_34_23_2_4_01_01.lhsIdx i q 0).val = (i 0).val := by
  unfold DotDims.lhsIdx
  rw [dif_pos (show (0 : Fin S64x2x64x6x128.rank) ∈ dot_S64x2x64x6x128_S64x2x6x128x256_S64x2x64x256_34_23_2_4_01_01.lhsBatch by decide)]
  rfl

theorem values_lhs_1 (i : S64x2x64x256.Idx)
    (q : dot_S64x2x64x6x128_S64x2x6x128x256_S64x2x64x256_34_23_2_4_01_01.contr.Idx) :
    (dot_S64x2x64x6x128_S64x2x6x128x256_S64x2x64x256_34_23_2_4_01_01.lhsIdx i q 1).val = (i 1).val := by
  unfold DotDims.lhsIdx
  rw [dif_pos (show (1 : Fin S64x2x64x6x128.rank) ∈ dot_S64x2x64x6x128_S64x2x6x128x256_S64x2x64x256_34_23_2_4_01_01.lhsBatch by decide)]
  rfl

theorem values_lhs_2 (i : S64x2x64x256.Idx)
    (q : dot_S64x2x64x6x128_S64x2x6x128x256_S64x2x64x256_34_23_2_4_01_01.contr.Idx) :
    (dot_S64x2x64x6x128_S64x2x6x128x256_S64x2x64x256_34_23_2_4_01_01.lhsIdx i q 2).val = (i 2).val := by
  unfold DotDims.lhsIdx
  rw [dif_neg (show ¬(2 : Fin S64x2x64x6x128.rank) ∈ dot_S64x2x64x6x128_S64x2x6x128x256_S64x2x64x256_34_23_2_4_01_01.lhsBatch by decide),
    dif_pos (show (2 : Fin S64x2x64x6x128.rank) ∈ dot_S64x2x64x6x128_S64x2x6x128x256_S64x2x64x256_34_23_2_4_01_01.lhsNonContracting by decide)]
  rfl

theorem values_lhs_3 (i : S64x2x64x256.Idx)
    (q : dot_S64x2x64x6x128_S64x2x6x128x256_S64x2x64x256_34_23_2_4_01_01.contr.Idx) :
    (dot_S64x2x64x6x128_S64x2x6x128x256_S64x2x64x256_34_23_2_4_01_01.lhsIdx i q 3).val = (q ⟨0, by decide⟩).val := by
  unfold DotDims.lhsIdx
  rw [dif_neg (show ¬(3 : Fin S64x2x64x6x128.rank) ∈ dot_S64x2x64x6x128_S64x2x6x128x256_S64x2x64x256_34_23_2_4_01_01.lhsBatch by decide),
    dif_neg (show ¬(3 : Fin S64x2x64x6x128.rank) ∈ dot_S64x2x64x6x128_S64x2x6x128x256_S64x2x64x256_34_23_2_4_01_01.lhsNonContracting by decide)]
  rfl

theorem values_lhs_4 (i : S64x2x64x256.Idx)
    (q : dot_S64x2x64x6x128_S64x2x6x128x256_S64x2x64x256_34_23_2_4_01_01.contr.Idx) :
    (dot_S64x2x64x6x128_S64x2x6x128x256_S64x2x64x256_34_23_2_4_01_01.lhsIdx i q 4).val = (q ⟨1, by decide⟩).val := by
  unfold DotDims.lhsIdx
  rw [dif_neg (show ¬(4 : Fin S64x2x64x6x128.rank) ∈ dot_S64x2x64x6x128_S64x2x6x128x256_S64x2x64x256_34_23_2_4_01_01.lhsBatch by decide),
    dif_neg (show ¬(4 : Fin S64x2x64x6x128.rank) ∈ dot_S64x2x64x6x128_S64x2x6x128x256_S64x2x64x256_34_23_2_4_01_01.lhsNonContracting by decide)]
  rfl

theorem values_rhs_0 (i : S64x2x64x256.Idx)
    (q : dot_S64x2x64x6x128_S64x2x6x128x256_S64x2x64x256_34_23_2_4_01_01.contr.Idx) :
    (dot_S64x2x64x6x128_S64x2x6x128x256_S64x2x64x256_34_23_2_4_01_01.rhsIdx i q 0).val = (i 0).val := by
  unfold DotDims.rhsIdx
  rw [dif_pos (show (0 : Fin S64x2x6x128x256.rank) ∈ dot_S64x2x64x6x128_S64x2x6x128x256_S64x2x64x256_34_23_2_4_01_01.rhsBatch by decide)]
  rfl

theorem values_rhs_1 (i : S64x2x64x256.Idx)
    (q : dot_S64x2x64x6x128_S64x2x6x128x256_S64x2x64x256_34_23_2_4_01_01.contr.Idx) :
    (dot_S64x2x64x6x128_S64x2x6x128x256_S64x2x64x256_34_23_2_4_01_01.rhsIdx i q 1).val = (i 1).val := by
  unfold DotDims.rhsIdx
  rw [dif_pos (show (1 : Fin S64x2x6x128x256.rank) ∈ dot_S64x2x64x6x128_S64x2x6x128x256_S64x2x64x256_34_23_2_4_01_01.rhsBatch by decide)]
  rfl

theorem values_rhs_2 (i : S64x2x64x256.Idx)
    (q : dot_S64x2x64x6x128_S64x2x6x128x256_S64x2x64x256_34_23_2_4_01_01.contr.Idx) :
    (dot_S64x2x64x6x128_S64x2x6x128x256_S64x2x64x256_34_23_2_4_01_01.rhsIdx i q 2).val = (q ⟨0, by decide⟩).val := by
  unfold DotDims.rhsIdx
  rw [dif_neg (show ¬(2 : Fin S64x2x6x128x256.rank) ∈ dot_S64x2x64x6x128_S64x2x6x128x256_S64x2x64x256_34_23_2_4_01_01.rhsBatch by decide),
    dif_neg (show ¬(2 : Fin S64x2x6x128x256.rank) ∈ dot_S64x2x64x6x128_S64x2x6x128x256_S64x2x64x256_34_23_2_4_01_01.rhsNonContracting by decide)]
  rfl

theorem values_rhs_3 (i : S64x2x64x256.Idx)
    (q : dot_S64x2x64x6x128_S64x2x6x128x256_S64x2x64x256_34_23_2_4_01_01.contr.Idx) :
    (dot_S64x2x64x6x128_S64x2x6x128x256_S64x2x64x256_34_23_2_4_01_01.rhsIdx i q 3).val = (q ⟨1, by decide⟩).val := by
  unfold DotDims.rhsIdx
  rw [dif_neg (show ¬(3 : Fin S64x2x6x128x256.rank) ∈ dot_S64x2x64x6x128_S64x2x6x128x256_S64x2x64x256_34_23_2_4_01_01.rhsBatch by decide),
    dif_neg (show ¬(3 : Fin S64x2x6x128x256.rank) ∈ dot_S64x2x64x6x128_S64x2x6x128x256_S64x2x64x256_34_23_2_4_01_01.rhsNonContracting by decide)]
  rfl

theorem values_rhs_4 (i : S64x2x64x256.Idx)
    (q : dot_S64x2x64x6x128_S64x2x6x128x256_S64x2x64x256_34_23_2_4_01_01.contr.Idx) :
    (dot_S64x2x64x6x128_S64x2x6x128x256_S64x2x64x256_34_23_2_4_01_01.rhsIdx i q 4).val = (i 3).val := by
  unfold DotDims.rhsIdx
  rw [dif_neg (show ¬(4 : Fin S64x2x6x128x256.rank) ∈ dot_S64x2x64x6x128_S64x2x6x128x256_S64x2x64x256_34_23_2_4_01_01.rhsBatch by decide),
    dif_pos (show (4 : Fin S64x2x6x128x256.rank) ∈ dot_S64x2x64x6x128_S64x2x6x128x256_S64x2x64x256_34_23_2_4_01_01.rhsNonContracting by decide)]
  rfl

/-- The gradient of a value, a sum over the heads that look at it and their rows. -/
theorem values_sum (t : Fin 64) (g : Fin 2) (l : Fin 64) (i : Fin 256) : val_main_v174 (F := Ideal) x0 x2 x3 (ix4 t g l i)
    = ∑ a : Fin 6, ∑ b : Fin 128, val_main_v172 (F := Ideal) x3 (ix5 t g l a b) * val_main_v95 (F := Ideal) x0 x2 (ix5 t g a b i) := by
  unfold val_main_v174
  generalize val_main_v172 (F := Ideal) x3 = y0
  generalize val_main_v95 (F := Ideal) x0 x2 = y1
  simp only [Host.dotGeneral]
  rw [Ideal.dotGeneral_apply, ValueIdx.sum_contr2 dot_S64x2x64x6x128_S64x2x6x128x256_S64x2x64x256_34_23_2_4_01_01 6 128 rfl rfl rfl]
  refine Finset.sum_congr rfl fun a _ => Finset.sum_congr rfl fun b _ => ?_
  have h0 := ValueIdx.contrEquiv2_symm_val0 dot_S64x2x64x6x128_S64x2x6x128x256_S64x2x64x256_34_23_2_4_01_01 6 128 rfl rfl rfl (a, b)
  have h1 := ValueIdx.contrEquiv2_symm_val1 dot_S64x2x64x6x128_S64x2x6x128x256_S64x2x64x256_34_23_2_4_01_01 6 128 rfl rfl rfl (a, b)
  have el : dot_S64x2x64x6x128_S64x2x6x128x256_S64x2x64x256_34_23_2_4_01_01.lhsIdx (ix4 t g l i)
      ((ValueIdx.contrEquiv2 dot_S64x2x64x6x128_S64x2x6x128x256_S64x2x64x256_34_23_2_4_01_01 6 128 rfl rfl rfl).symm (a, b)) = ix5 t g l a b := funext fun n => Fin.ext (by
    match n with
    | ⟨0, _⟩ => exact values_lhs_0 _ _
    | ⟨1, _⟩ => exact values_lhs_1 _ _
    | ⟨2, _⟩ => exact values_lhs_2 _ _
    | ⟨3, _⟩ => exact (values_lhs_3 _ _).trans h0
    | ⟨4, _⟩ => exact (values_lhs_4 _ _).trans h1)
  have er : dot_S64x2x64x6x128_S64x2x6x128x256_S64x2x64x256_34_23_2_4_01_01.rhsIdx (ix4 t g l i)
      ((ValueIdx.contrEquiv2 dot_S64x2x64x6x128_S64x2x6x128x256_S64x2x64x256_34_23_2_4_01_01 6 128 rfl rfl rfl).symm (a, b)) = ix5 t g a b i := funext fun n => Fin.ext (by
    match n with
    | ⟨0, _⟩ => exact values_rhs_0 _ _
    | ⟨1, _⟩ => exact values_rhs_1 _ _
    | ⟨2, _⟩ => exact (values_rhs_2 _ _).trans h0
    | ⟨3, _⟩ => exact (values_rhs_3 _ _).trans h1
    | ⟨4, _⟩ => exact values_rhs_4 _ _)
  rw [el, er]

theorem keys_lhs_0 (i : S64x2x256x64.Idx)
    (q : dot_S64x2x256x128x6_S64x128x2x6x64_S64x2x256x64_34_13_2_4_01_02.contr.Idx) :
    (dot_S64x2x256x128x6_S64x128x2x6x64_S64x2x256x64_34_13_2_4_01_02.lhsIdx i q 0).val = (i 0).val := by
  unfold DotDims.lhsIdx
  rw [dif_pos (show (0 : Fin S64x2x256x128x6.rank) ∈ dot_S64x2x256x128x6_S64x128x2x6x64_S64x2x256x64_34_13_2_4_01_02.lhsBatch by decide)]
  rfl

theorem keys_lhs_1 (i : S64x2x256x64.Idx)
    (q : dot_S64x2x256x128x6_S64x128x2x6x64_S64x2x256x64_34_13_2_4_01_02.contr.Idx) :
    (dot_S64x2x256x128x6_S64x128x2x6x64_S64x2x256x64_34_13_2_4_01_02.lhsIdx i q 1).val = (i 1).val := by
  unfold DotDims.lhsIdx
  rw [dif_pos (show (1 : Fin S64x2x256x128x6.rank) ∈ dot_S64x2x256x128x6_S64x128x2x6x64_S64x2x256x64_34_13_2_4_01_02.lhsBatch by decide)]
  rfl

theorem keys_lhs_2 (i : S64x2x256x64.Idx)
    (q : dot_S64x2x256x128x6_S64x128x2x6x64_S64x2x256x64_34_13_2_4_01_02.contr.Idx) :
    (dot_S64x2x256x128x6_S64x128x2x6x64_S64x2x256x64_34_13_2_4_01_02.lhsIdx i q 2).val = (i 2).val := by
  unfold DotDims.lhsIdx
  rw [dif_neg (show ¬(2 : Fin S64x2x256x128x6.rank) ∈ dot_S64x2x256x128x6_S64x128x2x6x64_S64x2x256x64_34_13_2_4_01_02.lhsBatch by decide),
    dif_pos (show (2 : Fin S64x2x256x128x6.rank) ∈ dot_S64x2x256x128x6_S64x128x2x6x64_S64x2x256x64_34_13_2_4_01_02.lhsNonContracting by decide)]
  rfl

theorem keys_lhs_3 (i : S64x2x256x64.Idx)
    (q : dot_S64x2x256x128x6_S64x128x2x6x64_S64x2x256x64_34_13_2_4_01_02.contr.Idx) :
    (dot_S64x2x256x128x6_S64x128x2x6x64_S64x2x256x64_34_13_2_4_01_02.lhsIdx i q 3).val = (q ⟨0, by decide⟩).val := by
  unfold DotDims.lhsIdx
  rw [dif_neg (show ¬(3 : Fin S64x2x256x128x6.rank) ∈ dot_S64x2x256x128x6_S64x128x2x6x64_S64x2x256x64_34_13_2_4_01_02.lhsBatch by decide),
    dif_neg (show ¬(3 : Fin S64x2x256x128x6.rank) ∈ dot_S64x2x256x128x6_S64x128x2x6x64_S64x2x256x64_34_13_2_4_01_02.lhsNonContracting by decide)]
  rfl

theorem keys_lhs_4 (i : S64x2x256x64.Idx)
    (q : dot_S64x2x256x128x6_S64x128x2x6x64_S64x2x256x64_34_13_2_4_01_02.contr.Idx) :
    (dot_S64x2x256x128x6_S64x128x2x6x64_S64x2x256x64_34_13_2_4_01_02.lhsIdx i q 4).val = (q ⟨1, by decide⟩).val := by
  unfold DotDims.lhsIdx
  rw [dif_neg (show ¬(4 : Fin S64x2x256x128x6.rank) ∈ dot_S64x2x256x128x6_S64x128x2x6x64_S64x2x256x64_34_13_2_4_01_02.lhsBatch by decide),
    dif_neg (show ¬(4 : Fin S64x2x256x128x6.rank) ∈ dot_S64x2x256x128x6_S64x128x2x6x64_S64x2x256x64_34_13_2_4_01_02.lhsNonContracting by decide)]
  rfl

theorem keys_rhs_0 (i : S64x2x256x64.Idx)
    (q : dot_S64x2x256x128x6_S64x128x2x6x64_S64x2x256x64_34_13_2_4_01_02.contr.Idx) :
    (dot_S64x2x256x128x6_S64x128x2x6x64_S64x2x256x64_34_13_2_4_01_02.rhsIdx i q 0).val = (i 0).val := by
  unfold DotDims.rhsIdx
  rw [dif_pos (show (0 : Fin S64x128x2x6x64.rank) ∈ dot_S64x2x256x128x6_S64x128x2x6x64_S64x2x256x64_34_13_2_4_01_02.rhsBatch by decide)]
  rfl

theorem keys_rhs_1 (i : S64x2x256x64.Idx)
    (q : dot_S64x2x256x128x6_S64x128x2x6x64_S64x2x256x64_34_13_2_4_01_02.contr.Idx) :
    (dot_S64x2x256x128x6_S64x128x2x6x64_S64x2x256x64_34_13_2_4_01_02.rhsIdx i q 1).val = (q ⟨0, by decide⟩).val := by
  unfold DotDims.rhsIdx
  rw [dif_neg (show ¬(1 : Fin S64x128x2x6x64.rank) ∈ dot_S64x2x256x128x6_S64x128x2x6x64_S64x2x256x64_34_13_2_4_01_02.rhsBatch by decide),
    dif_neg (show ¬(1 : Fin S64x128x2x6x64.rank) ∈ dot_S64x2x256x128x6_S64x128x2x6x64_S64x2x256x64_34_13_2_4_01_02.rhsNonContracting by decide)]
  rfl

theorem keys_rhs_2 (i : S64x2x256x64.Idx)
    (q : dot_S64x2x256x128x6_S64x128x2x6x64_S64x2x256x64_34_13_2_4_01_02.contr.Idx) :
    (dot_S64x2x256x128x6_S64x128x2x6x64_S64x2x256x64_34_13_2_4_01_02.rhsIdx i q 2).val = (i 1).val := by
  unfold DotDims.rhsIdx
  rw [dif_pos (show (2 : Fin S64x128x2x6x64.rank) ∈ dot_S64x2x256x128x6_S64x128x2x6x64_S64x2x256x64_34_13_2_4_01_02.rhsBatch by decide)]
  rfl

theorem keys_rhs_3 (i : S64x2x256x64.Idx)
    (q : dot_S64x2x256x128x6_S64x128x2x6x64_S64x2x256x64_34_13_2_4_01_02.contr.Idx) :
    (dot_S64x2x256x128x6_S64x128x2x6x64_S64x2x256x64_34_13_2_4_01_02.rhsIdx i q 3).val = (q ⟨1, by decide⟩).val := by
  unfold DotDims.rhsIdx
  rw [dif_neg (show ¬(3 : Fin S64x128x2x6x64.rank) ∈ dot_S64x2x256x128x6_S64x128x2x6x64_S64x2x256x64_34_13_2_4_01_02.rhsBatch by decide),
    dif_neg (show ¬(3 : Fin S64x128x2x6x64.rank) ∈ dot_S64x2x256x128x6_S64x128x2x6x64_S64x2x256x64_34_13_2_4_01_02.rhsNonContracting by decide)]
  rfl

theorem keys_rhs_4 (i : S64x2x256x64.Idx)
    (q : dot_S64x2x256x128x6_S64x128x2x6x64_S64x2x256x64_34_13_2_4_01_02.contr.Idx) :
    (dot_S64x2x256x128x6_S64x128x2x6x64_S64x2x256x64_34_13_2_4_01_02.rhsIdx i q 4).val = (i 3).val := by
  unfold DotDims.rhsIdx
  rw [dif_neg (show ¬(4 : Fin S64x128x2x6x64.rank) ∈ dot_S64x2x256x128x6_S64x128x2x6x64_S64x2x256x64_34_13_2_4_01_02.rhsBatch by decide),
    dif_pos (show (4 : Fin S64x128x2x6x64.rank) ∈ dot_S64x2x256x128x6_S64x128x2x6x64_S64x2x256x64_34_13_2_4_01_02.rhsNonContracting by decide)]
  rfl

/-- The gradient of a key, a sum over the rows and the heads that look at it. -/
theorem keys_sum (t : Fin 64) (g : Fin 2) (i : Fin 256) (l : Fin 64) : val_main_v214 (F := Ideal) x0 x2 x3 (ix4 t g i l)
    = ∑ a : Fin 128, ∑ b : Fin 6, val_main_v211 (F := Ideal) x0 x2 x3 (ix5 t g i a b) * val_main_v7 (F := Ideal) x0 (ix5 t a g b l) := by
  unfold val_main_v214
  generalize val_main_v211 (F := Ideal) x0 x2 x3 = y0
  generalize val_main_v7 (F := Ideal) x0 = y1
  simp only [Host.dotGeneral]
  rw [Ideal.dotGeneral_apply, ValueIdx.sum_contr2 dot_S64x2x256x128x6_S64x128x2x6x64_S64x2x256x64_34_13_2_4_01_02 128 6 rfl rfl rfl]
  refine Finset.sum_congr rfl fun a _ => Finset.sum_congr rfl fun b _ => ?_
  have h0 := ValueIdx.contrEquiv2_symm_val0 dot_S64x2x256x128x6_S64x128x2x6x64_S64x2x256x64_34_13_2_4_01_02 128 6 rfl rfl rfl (a, b)
  have h1 := ValueIdx.contrEquiv2_symm_val1 dot_S64x2x256x128x6_S64x128x2x6x64_S64x2x256x64_34_13_2_4_01_02 128 6 rfl rfl rfl (a, b)
  have el : dot_S64x2x256x128x6_S64x128x2x6x64_S64x2x256x64_34_13_2_4_01_02.lhsIdx (ix4 t g i l)
      ((ValueIdx.contrEquiv2 dot_S64x2x256x128x6_S64x128x2x6x64_S64x2x256x64_34_13_2_4_01_02 128 6 rfl rfl rfl).symm (a, b)) = ix5 t g i a b := funext fun n => Fin.ext (by
    match n with
    | ⟨0, _⟩ => exact keys_lhs_0 _ _
    | ⟨1, _⟩ => exact keys_lhs_1 _ _
    | ⟨2, _⟩ => exact keys_lhs_2 _ _
    | ⟨3, _⟩ => exact (keys_lhs_3 _ _).trans h0
    | ⟨4, _⟩ => exact (keys_lhs_4 _ _).trans h1)
  have er : dot_S64x2x256x128x6_S64x128x2x6x64_S64x2x256x64_34_13_2_4_01_02.rhsIdx (ix4 t g i l)
      ((ValueIdx.contrEquiv2 dot_S64x2x256x128x6_S64x128x2x6x64_S64x2x256x64_34_13_2_4_01_02 128 6 rfl rfl rfl).symm (a, b)) = ix5 t a g b l := funext fun n => Fin.ext (by
    match n with
    | ⟨0, _⟩ => exact keys_rhs_0 _ _
    | ⟨1, _⟩ => exact (keys_rhs_1 _ _).trans h0
    | ⟨2, _⟩ => exact keys_rhs_2 _ _
    | ⟨3, _⟩ => exact (keys_rhs_3 _ _).trans h1
    | ⟨4, _⟩ => exact keys_rhs_4 _ _)
  rw [el, er]

end Cert.MixARefIdeal.Read

end
-- ==== Proof.MixARefGrad.lean ====
/- The gradient of the projection in the reference of the attention mixer's gradient. -/
module

public import proofs.«01_k».proof.Proof.MixARefScore
public import proofs.«01_k».proof.Proof.MixARefDot

@[expose] public section

set_option maxRecDepth 16384

noncomputable section

namespace Cert.MixARefIdeal.Read

open Cert.MixARefIdeal Cert.MixARefIdeal.Gen Idealize.ShloMosaic Idealize.ShloMosaic.TcCoe Idealize.SL.Sem
open Cert

variable (x0 : FVec Ideal S8192x1280 .f32) (x1 : FVec Ideal S256x512 .f32) (x2 : FVec Ideal S12 .f32)
  (x3 : FVec Ideal S8192x1024 .f32)

/-- The weights and the scores' gradients, head by head. -/
abbrev refW : Fin 64 → Fin 12 → Fin 128 → Fin 256 → EReal := MixASpec.weight (proj x0) (sinks x2)

abbrev refS : Fin 64 → Fin 12 → Fin 128 → Fin 256 → EReal := MixASpec.dscore (proj x0) (sinks x2) (gres x3)

theorem weight_head (t : Fin 64) (g : Fin 2) (j : Fin 6) (r : Fin 128) (i : Fin 256) :
    val_main_v95 (F := Ideal) x0 x2 (ix5 t g j r i) = refW x0 x2 t (MixASpec.headOf g j) r i := by
  unfold refW MixASpec.weight
  rw [weight_at, MixASpec.groupOf_headOf]

theorem score_head (t : Fin 64) (g : Fin 2) (j : Fin 6) (r : Fin 128) (i : Fin 256) :
    val_main_v210 (F := Ideal) x0 x2 x3 (ix5 t g j r i) = refS x0 x2 x3 t (MixASpec.headOf g j) r i := by
  unfold refS MixASpec.dscore
  rw [dscore_at, MixASpec.groupOf_headOf]

theorem turned_at (t : Fin 64) (g : Fin 2) (i : Fin 256) (r : Fin 128) (j : Fin 6) :
    val_main_v211 (F := Ideal) x0 x2 x3 (ix5 t g i r j) = refS x0 x2 x3 t (MixASpec.headOf g j) r i := by
  rw [← score_head]
  pointwise [val_main_v211]

/-! ## The parts of the two chunks -/

theorem dval_at (t : Fin 64) (g : Fin 2) (l : Fin 64) (i : Fin 256) : val_main_v174 (F := Ideal) x0 x2 x3 (ix4 t g l i)
    = MixASpec.part (refW x0 x2) (MixASpec.dres (gres x3)) t g i l := by
  rw [values_sum]
  unfold MixASpec.part
  refine Finset.sum_congr rfl fun j _ => Finset.sum_congr rfl fun r _ => ?_
  rw [d_at, weight_head, mul_comm]

theorem dkey_at (t : Fin 64) (g : Fin 2) (i : Fin 256) (l : Fin 64) : val_main_v214 (F := Ideal) x0 x2 x3 (ix4 t g i l)
    = MixASpec.part (refS x0 x2 x3) (MixASpec.query (proj x0)) t g i l := by
  rw [keys_sum, Finset.sum_comm]
  unfold MixASpec.part
  refine Finset.sum_congr rfl fun j _ => Finset.sum_congr rfl fun r _ => ?_
  rw [turned_at, q_at]

theorem whole_val (t : Fin 64) (r : Fin 128) (g : Fin 2) (l : Fin 64) : val_main_v221 (F := Ideal) x0 x2 x3 (ix4 t r g l)
    = MixASpec.whole (refW x0 x2) (MixASpec.dres (gres x3)) t g r l := by
  pointwise [val_main_v221, val_main_v220, val_main_cst_41, val_main_v219, val_main_v217, val_main_v216, val_main_v175, dval_at,
    MixASpec.whole]
  simp only [Nat.add_comm 1]

theorem whole_key (t : Fin 64) (r : Fin 128) (g : Fin 2) (l : Fin 64) : val_main_v228 (F := Ideal) x0 x2 x3 (ix4 t r g l)
    = MixASpec.whole (refS x0 x2 x3) (MixASpec.query (proj x0)) t g r l := by
  pointwise [val_main_v228, val_main_v227, val_main_cst_42, val_main_v226, val_main_v224, val_main_v223, val_main_v215, dkey_at,
    MixASpec.whole]
  simp only [Nat.add_comm 1]

theorem dquery_at (t : Fin 64) (g : Fin 2) (r : Fin 128) (j : Fin 6) (l : Fin 64) :
    val_main_v212 (F := Ideal) x0 x2 x3 (ix5 t g r j l)
      = MixASpec.dq (refS x0 x2 x3) (MixASpec.key0 (proj x0)) t (MixASpec.headOf g j) r l := by
  unfold MixASpec.dq
  rw [MixASpec.groupOf_headOf]
  pointwise [val_main_v212, turned_at, k_at]

/-! ## The columns of the result -/

theorem query_columns (R : Fin 8192) (k : Fin 768) : val_main_v233 (F := Ideal) x0 x2 x3 (ix2 R k)
    = MixASpec.dq (refS x0 x2 x3) (MixASpec.key0 (proj x0)) ⟨R.val / 128, by omega⟩ ⟨k.val / 64, by omega⟩ ⟨R.val % 128, by omega⟩
        ⟨k.val % 64, by omega⟩ := by
  pointwise [val_main_v233, val_main_v230, val_main_v213, dquery_at]
  exact congrArg (fun h => MixASpec.dq (refS x0 x2 x3) (MixASpec.key0 (proj x0)) _ h _ _)
    (Fin.ext (by simp only [MixASpec.headOf]; omega))

theorem value_columns (R : Fin 8192) (k : Fin 128) : val_main_v231 (F := Ideal) x0 x2 x3 (ix2 R k)
    = MixASpec.whole (refW x0 x2) (MixASpec.dres (gres x3)) ⟨R.val / 128, by omega⟩ ⟨k.val / 64, by omega⟩ ⟨R.val % 128, by omega⟩
        ⟨k.val % 64, by omega⟩ := by
  pointwise [val_main_v231, val_main_v222, whole_val]

theorem key_columns (R : Fin 8192) (k : Fin 128) : val_main_v232 (F := Ideal) x0 x2 x3 (ix2 R k)
    = MixASpec.whole (refS x0 x2 x3) (MixASpec.query (proj x0)) ⟨R.val / 128, by omega⟩ ⟨k.val / 64, by omega⟩ ⟨R.val % 128, by omega⟩
        ⟨k.val % 64, by omega⟩ := by
  pointwise [val_main_v232, val_main_v229, whole_key]

theorem dproj_at (R : Fin 8192) (k : Fin 1280) : val_main_v238 (F := Ideal) x0 x1 x2 x3 (ix2 R k)
    = MixASpec.dproj (MixASpec.dq (refS x0 x2 x3) (MixASpec.key0 (proj x0)))
        (MixASpec.whole (refS x0 x2 x3) (MixASpec.query (proj x0))) (MixASpec.whole (refW x0 x2) (MixASpec.dres (gres x3)))
        (refQ x0 x1 x3) ⟨R.val / 128, by omega⟩ ⟨R.val % 128, by omega⟩ k := by
  pointwise [val_main_v238, val_main_v234, query_columns, key_columns, value_columns, mdq_at, MixASpec.dproj]
  by_cases h : k.val < 768
  · rw [dif_pos h, dif_pos h]
  · rw [dif_neg h, dif_neg h]
    by_cases h' : k.val < 896
    · rw [dif_pos (show k.val - 768 < 128 by omega), dif_pos h']
      exact congrArg (MixASpec.whole (refS x0 x2 x3) (MixASpec.query (proj x0)) _ _ _) (Fin.ext (by simp only; omega))
    · rw [dif_neg (show ¬ k.val - 768 < 128 by omega), dif_neg h']
      by_cases h'' : k.val < 1024
      · rw [dif_pos (show k.val - 768 - 128 < 128 by omega), dif_pos h'']
        exact congrArg₂ (fun g l => MixASpec.whole (refW x0 x2) (MixASpec.dres (gres x3)) _ g _ l)
          (Fin.ext (by simp only; omega)) (Fin.ext (by simp only; omega))
      · rw [dif_neg (show ¬ k.val - 768 - 128 < 128 by omega), dif_neg h'']
        have e : MixASpec.rowAt ⟨R.val / 128, by omega⟩ ⟨R.val % 128, by omega⟩ = R :=
          Fin.ext (by simp only [MixASpec.rowAt]; omega)
        rw [e]
        exact congrArg₂ (fun h l => refQ x0 x1 x3 h R l) (Fin.ext (by simp only; omega)) (Fin.ext (by simp only; omega))

end Cert.MixARefIdeal.Read

end
-- ==== Proof.MixARefSink.lean ====
/- The gradient of the sinks in the reference of the attention mixer's gradient. -/
module

public import proofs.«01_k».proof.Proof.MixARefScore
public import proofs.«01_k».proof.Proof.TwoAxes

@[expose] public section

set_option maxRecDepth 16384

noncomputable section

namespace Cert.MixARefIdeal.Read

open Cert.MixARefIdeal Cert.MixARefIdeal.Gen Idealize.ShloMosaic Idealize.ShloMosaic.TcCoe Idealize.SL.Sem
open Cert

variable (x0 : FVec Ideal S8192x1280 .f32) (x1 : FVec Ideal S256x512 .f32) (x2 : FVec Ideal S12 .f32)
  (x3 : FVec Ideal S8192x1024 .f32)

/-! ## The sink's share of the gradient of the largest score -/

section Row

variable (t : Fin 64) (g : Fin 2) (j : Fin 6) (r : Fin 128) (o : Fin 1)

theorem sink_first : val_main_v76 (F := Ideal) x2 (ix5 t g j r o) = sinks x2 (MixASpec.headOf g j) := by
  pointwise [val_main_v76, z_at]

theorem sink_second : val_main_v78 (F := Ideal) x2 (ix5 t g j r o) = sinks x2 (MixASpec.headOf g j) := by
  pointwise [val_main_v78, z_at]

theorem ones_at' : val_main_v80 (F := Ideal) (ix5 t g j r o) = (1 : EReal) := by
  pointwise [val_main_v80, val_main_cst_14]

theorem zeros_at' : val_main_v81 (F := Ideal) (ix5 t g j r o) = (0 : EReal) := by
  pointwise [val_main_v81, val_main_cst_15]

theorem halves_at' : val_main_v82 (F := Ideal) (ix5 t g j r o) = Ideal.ofBits .f32 0x3F000000#32 := by
  pointwise [val_main_v82, val_main_cst_16]

theorem share_at : val_main_v84 (F := Ideal) x0 x2 (ix5 t g j r o)
    = SwaSpec.part (sinks x2 (MixASpec.headOf g j)) (SwaSpec.peak (MixASpec.seen t r)
      (MixASpec.query (proj x0) t (MixASpec.headOf g j) r) (MixASpec.key0 (proj x0) t g)) := by
  rw [val_main_v84_apply, val_main_v83_apply, val_main_v79_apply, val_main_v77_apply, peak_wide, sink_first, sink_second, ones_at',
    zeros_at', halves_at']
  exact part_of _ _

/-- What the exponential of the sink takes of the gradient of the denominator. -/
theorem direct_at : val_main_v184 (F := Ideal) x0 x2 x3 (ix5 t g j r o)
    = SwaSpec.dden (MixASpec.seen t r) (MixASpec.query (proj x0) t (MixASpec.headOf g j) r)
      (MixASpec.dres (gres x3) t (MixASpec.headOf g j) r) (MixASpec.key0 (proj x0) t g)
      (MixASpec.val0 (proj x0) t g) (sinks x2 (MixASpec.headOf g j))
      * SwaSpec.exs (MixASpec.seen t r) (MixASpec.query (proj x0) t (MixASpec.headOf g j) r) (MixASpec.key0 (proj x0) t g) (sinks x2 (MixASpec.headOf g j)) := by
  rw [val_main_v184_apply, dden_at, exs_at]
  generalize SwaSpec.dden _ _ _ _ _ _ = a
  generalize SwaSpec.exs _ _ _ _ = b
  rfl

/-- What the sink takes of the gradient of the largest score. -/
theorem shifted_at : val_main_v196 (F := Ideal) x0 x2 x3 (ix5 t g j r o)
    = SwaSpec.dtop (MixASpec.seen t r) (MixASpec.query (proj x0) t (MixASpec.headOf g j) r)
      (MixASpec.dres (gres x3) t (MixASpec.headOf g j) r) (MixASpec.key0 (proj x0) t g)
      (MixASpec.val0 (proj x0) t g) (sinks x2 (MixASpec.headOf g j))
      * SwaSpec.part (sinks x2 (MixASpec.headOf g j)) (SwaSpec.peak (MixASpec.seen t r)
        (MixASpec.query (proj x0) t (MixASpec.headOf g j) r) (MixASpec.key0 (proj x0) t g)) := by
  rw [val_main_v196_apply, dtop_at, share_at]
  generalize SwaSpec.dtop _ _ _ _ _ _ = a
  generalize SwaSpec.part _ _ = b
  rfl

end Row

/-! ## The sums over the rows -/

/-- The gradient of one sink. -/
abbrev refSink (h : Fin 12) : EReal :=
  (∑ t : Fin 64, ∑ r : Fin 128,
    SwaSpec.dden (MixASpec.seen t r) (MixASpec.query (proj x0) t h r) (MixASpec.dres (gres x3) t h r)
        (MixASpec.key0 (proj x0) t (MixASpec.groupOf h)) (MixASpec.val0 (proj x0) t (MixASpec.groupOf h)) (sinks x2 h)
      * SwaSpec.exs (MixASpec.seen t r) (MixASpec.query (proj x0) t h r) (MixASpec.key0 (proj x0) t (MixASpec.groupOf h)) (sinks x2 h))
  + ∑ t : Fin 64, ∑ r : Fin 128,
    SwaSpec.dtop (MixASpec.seen t r) (MixASpec.query (proj x0) t h r) (MixASpec.dres (gres x3) t h r)
        (MixASpec.key0 (proj x0) t (MixASpec.groupOf h)) (MixASpec.val0 (proj x0) t (MixASpec.groupOf h)) (sinks x2 h)
      * SwaSpec.part (sinks x2 h) (SwaSpec.peak (MixASpec.seen t r) (MixASpec.query (proj x0) t h r)
        (MixASpec.key0 (proj x0) t (MixASpec.groupOf h)))

theorem direct_sum (g : Fin 2) (j : Fin 6) (o : Fin 1) : val_main_v185 (F := Ideal) x0 x2 x3 (ix3 g j o)
    = ∑ t : Fin 64, ∑ r : Fin 128, val_main_v184 (F := Ideal) x0 x2 x3 (ix5 t g j r o) := by
  pointwise [val_main_v185, val_main_cst_34, TwoAxes.outer5]

theorem shifted_sum (g : Fin 2) (j : Fin 6) (o : Fin 1) : val_main_v197 (F := Ideal) x0 x2 x3 (ix3 g j o)
    = ∑ t : Fin 64, ∑ r : Fin 128, val_main_v196 (F := Ideal) x0 x2 x3 (ix5 t g j r o) := by
  pointwise [val_main_v197, val_main_cst_37, TwoAxes.outer5]

theorem both_at (g : Fin 2) (j : Fin 6) : val_main_v206 (F := Ideal) x0 x2 x3 (ix2 g j)
    = val_main_v185 (F := Ideal) x0 x2 x3 (ix3 g j (0 : Fin 1)) + val_main_v197 (F := Ideal) x0 x2 x3 (ix3 g j (0 : Fin 1)) := by
  pointwise [val_main_v206, val_main_cst_39, val_main_v199, val_main_v186, val_main_v198, TwoAxes.ends5]

theorem sink_at (h : Fin 12) : val_main_v207 (F := Ideal) x0 x2 x3 (ix1 h) = refSink x0 x2 x3 h := by
  have e : val_main_v207 (F := Ideal) x0 x2 x3 (ix1 h)
      = val_main_v206 (F := Ideal) x0 x2 x3 (ix2 (MixASpec.groupOf h) (⟨h.val % 6, Nat.mod_lt _ (by omega)⟩ : Fin 6)) := by
    pointwise [val_main_v207]
    exact congrArg _ (congrArg₂ ix2 (Fin.ext (by simp only [MixASpec.groupOf])) (Fin.ext (by omega)))
  have eh : MixASpec.headOf (MixASpec.groupOf h) (⟨h.val % 6, Nat.mod_lt _ (by omega)⟩ : Fin 6) = h :=
    Fin.ext (by simp only [MixASpec.groupOf, MixASpec.headOf]; omega)
  rw [e, both_at, direct_sum, shifted_sum]
  simp only [direct_at, shifted_at, eh]

theorem zero_word : FloatOps.sitofp (F := Ideal) .f32 0#32 = (0 : EReal) := by
  change (((0#32 : BitVec 32).toInt : ℝ) : EReal) = 0
  simp

theorem dsink_at (i : Fin 16) (s : Fin 128) : val_main_v237 (F := Ideal) x0 x2 x3 (ix2 i s)
    = MixASpec.picked i.val (refSink x0 x2 x3) := by
  pointwise [val_main_v237, val_main_v236, val_main_v235, val_main_call2_v0, val_main_c_43, sink_at, MixASpec.picked, zero_word]

end Cert.MixARefIdeal.Read

end
-- ==== Proof.MixAReal.lean ====
/- For real arguments the two ways of computing the gradients of the window's heads agree. -/
module

public import proofs.«01_k».proof.Proof.MixASpec

@[expose] public section

noncomputable section

namespace Cert.MixASpec

open Cert.Reals

variable {P : Fin 8192 → Fin 1280 → EReal} {S : Fin 12 → EReal} {D : Fin 8192 → Fin 1024 → EReal}

theorem query_real (hP : ∀ R k, IsReal (P R k)) (t : Fin 64) (h : Fin 12) (r : Fin 128) (l : Fin 64) : IsReal (query P t h r l) :=
  hP _ _

theorem dres_real (hD : ∀ (R : Fin 8192) (k : Fin 768), IsReal (D R ⟨k.val, by omega⟩)) (t : Fin 64) (h : Fin 12) (r : Fin 128)
    (l : Fin 64) : IsReal (dres D t h r l) :=
  hD _ ⟨64 * h.val + l.val, by omega⟩

theorem key0_real (hP : ∀ R k, IsReal (P R k)) (t : Fin 64) (g : Fin 2) (m : Fin 256) (l : Fin 64) : IsReal (key0 P t g m l) := by
  unfold key0
  split
  · exact IsReal.zero
  · exact hP _ _

theorem val0_real (hP : ∀ R k, IsReal (P R k)) (t : Fin 64) (g : Fin 2) (m : Fin 256) (l : Fin 64) : IsReal (val0 P t g m l) := by
  unfold val0
  split
  · exact IsReal.zero
  · exact hP _ _

theorem weight_eq (hP : ∀ R k, IsReal (P R k)) (hS : ∀ h, IsReal (S h)) : weight' P S = weight P S := by
  funext t h r m
  unfold weight' weight
  rw [SwaSpec.weight_window (key0_seen P t (groupOf h) r)]
  exact SwaSpec.weight_eq (query_real hP t h r) (key0_real hP t (groupOf h)) (hS h) m

theorem dscore_eq (hP : ∀ R k, IsReal (P R k)) (hS : ∀ h, IsReal (S h))
    (hD : ∀ (R : Fin 8192) (k : Fin 768), IsReal (D R ⟨k.val, by omega⟩)) : dscore' P S D = dscore P S D := by
  funext t h r m
  unfold dscore' dscore
  rw [SwaSpec.dscore_window (key0_seen P t (groupOf h) r) (val0_seen P t (groupOf h) r)]
  exact SwaSpec.dscore_eq (query_real hP t h r) (dres_real hD t h r) (key0_real hP t (groupOf h)) (val0_real hP t (groupOf h)) (hS h) m

/-- Keys out of the window count for nothing. -/
theorem dq_eq : dq (dscore' P S D) (key P) = dq (dscore' P S D) (key0 P) := by
  funext t h r l
  refine Finset.sum_congr rfl fun m _ => ?_
  by_cases e : seen t r m
  · rw [key0_seen P t (groupOf h) r m e]
  · have z : dscore' P S D t h r m = 0 := SwaSpec.dscore_out e
    rw [z, zero_mul, zero_mul]

/-- The gradient of a sink, as the reference has it: the largest score gets no gradient. -/
theorem dsink_eq (hP : ∀ R k, IsReal (P R k)) (hS : ∀ h, IsReal (S h))
    (hD : ∀ (R : Fin 8192) (k : Fin 768), IsReal (D R ⟨k.val, by omega⟩)) (h : Fin 12) :
    (∑ t : Fin 64, ∑ r : Fin 128, SwaSpec.dden (seen t r) (query P t h r) (dres D t h r) (key0 P t (groupOf h)) (val0 P t (groupOf h)) (S h)
        * SwaSpec.exs (seen t r) (query P t h r) (key0 P t (groupOf h)) (S h))
      + ∑ t : Fin 64, ∑ r : Fin 128, SwaSpec.dtop (seen t r) (query P t h r) (dres D t h r) (key0 P t (groupOf h)) (val0 P t (groupOf h)) (S h)
        * SwaSpec.part (S h) (SwaSpec.peak (seen t r) (query P t h r) (key0 P t (groupOf h)))
      = ∑ t : Fin 64, ∑ r : Fin 128, dsink' P S D t h r := by
  have z : ∀ (t : Fin 64) (r : Fin 128),
      SwaSpec.dtop (seen t r) (query P t h r) (dres D t h r) (key0 P t (groupOf h)) (val0 P t (groupOf h)) (S h) = 0 := fun t r =>
    SwaSpec.dtop_eq (query_real hP t h r) (dres_real hD t h r) (key0_real hP t (groupOf h)) (val0_real hP t (groupOf h)) (hS h)
  simp only [z, zero_mul, Finset.sum_const_zero, add_zero]
  refine Finset.sum_congr rfl fun t _ => Finset.sum_congr rfl fun r _ => ?_
  unfold dsink'
  rw [SwaSpec.dsink_window (key0_seen P t (groupOf h) r) (val0_seen P t (groupOf h) r), SwaSpec.dsink',
    SwaSpec.dden_eq (query_real hP t h r) (key0_real hP t (groupOf h)) (hS h)]

end Cert.MixASpec

end
-- ==== Proof.MixAPre.lean ====
/- What the precondition of the attention mixer's gradient says: what the window's heads and the memory's scores read are real
numbers. -/
module

public import proofs.«01_k».proof.Pre_finite_heads_a
public import proofs.«01_k».proof.Proof.SwigluPre

@[expose] public section

noncomputable section

namespace Cert.Pre_finite_heads_a

open Idealize.ShloMosaic Cert.Reals

instance facts : Facts where
  slices_S256x512_S256x256_0_0 := by decide
  slices_S8192x1024_S8192x768_0_0 := by decide
  bcast_S_S8192x1280 := by decide
  reducesTo_S8192x1280_S_d0_1 := by decide
  h_S_ := by decide
  bcast_S_S256x256 := by decide
  reducesTo_S256x256_S_d0_1 := by decide
  bcast_S_S12 := by decide
  reducesTo_S12_S_d0 := by decide
  bcast_S_S8192x768 := by decide
  reducesTo_S8192x768_S_d0_1 := by decide

theorem key_slice (x : FVec Ideal S256x512 .f32) (r k : Fin 256) :
    extractStridedSlice S256x256 ![0, 0] x Facts.slices_S256x512_S256x256_0_0 (ix2 r k) = x (ix2 r ⟨k.val, by omega⟩) := by
  pointwise []

theorem head_slice (x : FVec Ideal S8192x1024 .f32) (R : Fin 8192) (k : Fin 768) :
    extractStridedSlice S8192x768 ![0, 0] x Facts.slices_S8192x1024_S8192x768_0_0 (ix2 R k) = x (ix2 R ⟨k.val, by omega⟩) := by
  pointwise []

theorem reals (x : FVec Ideal S8192x1280 .f32) (kv : FVec Ideal S256x512 .f32) (z : FVec Ideal S12 .f32)
    (d : FVec Ideal S8192x1024 .f32) (h : fn (F := Ideal) x kv z d = fun _ => 1#1) :
    (∀ (R : Fin 8192) (k : Fin 1280), IsReal (x (ix2 R k))) ∧ (∀ r k : Fin 256, IsReal (kv (ix2 r ⟨k.val, by omega⟩)))
      ∧ (∀ g : Fin 12, IsReal (z (ix1 g))) ∧ ∀ (R : Fin 8192) (k : Fin 768), IsReal (d (ix2 R ⟨k.val, by omega⟩)) := by
  have h0 := congrFun h (fun d => d.elim0)
  dsimp only [fn, fn_part1] at h0
  obtain ⟨h1, hd⟩ := IntOp.andi_eq_one.1 h0
  obtain ⟨h2, hz⟩ := IntOp.andi_eq_one.1 h1
  obtain ⟨hx, hk⟩ := IntOp.andi_eq_one.1 h2
  have : Subsingleton S_.Idx := ⟨fun a b => funext fun d => d.elim0⟩
  refine ⟨fun R k => ?_, fun r k => ?_, fun g => ?_, fun R k => ?_⟩
  · exact Pre_finite_ffn.real_of_test _ _ _ rfl (Host.reduce_andi_all _ _ _ _ _ hx (ix2 R k))
  · rw [← key_slice kv r k]
    exact Pre_finite_ffn.real_of_test _ _ _ rfl (Host.reduce_andi_all _ _ _ _ _ hk (ix2 r k))
  · exact Pre_finite_ffn.real_of_test _ _ _ rfl (Host.reduce_andi_all _ _ _ _ _ hz (ix1 g))
  · rw [← head_slice d R k]
    exact Pre_finite_ffn.real_of_test _ _ _ rfl (Host.reduce_andi_all _ _ _ _ _ hd (ix2 R k))

end Cert.Pre_finite_heads_a

end
-- ==== Proof.MixA.lean ====
/- The claims about the gradient of the attention mixer. -/
module

public import proofs.«01_k».proof.Defs
public import proofs.«01_k».proof.Proof.MixAFrame
public import proofs.«01_k».proof.Proof.MixAFinal
public import proofs.«01_k».proof.Proof.MixARefGrad
public import proofs.«01_k».proof.Proof.MixARefSink
public import proofs.«01_k».proof.Proof.MixAReal
public import proofs.«01_k».proof.Proof.MixAPre
public import Idealize.ShloMosaic.Lib.Claim

@[expose] public section

set_option maxRecDepth 16384

noncomputable section

namespace Cert.Proof.MixA

open Idealize.ShloMosaic Idealize.ShloMosaic.TcCoe Idealize.SL.Sem Cert.MemSpec

theorem frame : Cert.quiescent_MixA := fun m ρ _ => Cert.MixA.Gen.frame m ρ
theorem frame_ideal : Cert.quiescent_MixAIdeal := fun m ρ _ => Cert.MixAIdeal.Gen.frame m ρ
theorem frame_ideal_pre : Cert.quiescent_MixAIdeal_pre_finite_heads_a := fun m ρ _ => Cert.MixAIdeal.Gen.frame m ρ

/-- The mask's constant is read as minus infinity. -/
theorem preserves : Cert.preserves_MixA_MixAIdeal :=
  IdealRules.named_const.statement Cert.MixAIdeal.κ "mask" .f32 0xF149F2CA#32 ⊥ rfl

theorem frame_ref : Cert.quiescent_MixARefIdeal := fun m ρ _ =>
  (θ_run Cert.MixARefIdeal.defs _ _).mono
    (fun r h => ⟨fun c => (h c).2.2.2, Idealize.ShloMosaic.sem_eq_zero_of_no_sems (by decide) r.2⟩)
    (Cert.MixARefIdeal.Value.run m ρ)

theorem frame_ref_pre : Cert.quiescent_MixARefIdeal_pre_finite_heads_a := fun m ρ _ => frame_ref m ρ trivial

set_option maxHeartbeats 1000000 in
theorem algebraic : Cert.algebraic_MixAIdeal_MixARefIdeal_pre_finite_heads_a := by
  pair_intro
  · run_from Cert.MixAIdeal.Gen.frame m g & Cert.MixAIdeal.Gen.run_main m g
    all_goals
      simp only [List.flatten_cons, List.flatten_nil, List.append_nil, List.cons_append, List.nil_append]
      after_results
  · run_from Cert.MixARefIdeal.Value.run m' g'
    all_goals
      obtain ⟨h0, h1, h2, h3⟩ := hagree c
      change StableHlo.launchContents m' c (Proc.tc.devRef Cert.MixARefIdeal.main_arg0) = _ at h0
      change StableHlo.launchContents m' c (Proc.tc.devRef Cert.MixARefIdeal.main_arg1) = _ at h1
      change StableHlo.launchContents m' c (Proc.tc.devRef Cert.MixARefIdeal.main_arg2) = _ at h2
      change StableHlo.launchContents m' c (Proc.tc.devRef Cert.MixARefIdeal.main_arg3) = _ at h3
      obtain ⟨hP, hM, hS, hD⟩ := Cert.Pre_finite_heads_a.reals _ _ _ _ (hpre c)
      have hq : ∀ (h : Fin 4) (R : Fin 8192) (l : Fin 64), Reals.IsReal (MixASpec.mquery (Cert.MixAIdeal.Value.argP m c) h R l) :=
        fun h R l => hP R _
      have hk : ∀ (h : Fin 4) (r : Fin 256) (l : Fin 64), Reals.IsReal (MixASpec.mkey (Cert.MixAIdeal.Value.argM m c) h r l) :=
        fun h r l => hM r ⟨64 * h.val + l.val, by omega⟩
    · rw [Cert.MixARefIdeal.Read.val_main_v238_eq, h0, h1, h2, h3]
      funext i
      idx_vars i
      refine (Cert.MixARefIdeal.Read.dproj_at _ _ _ _ i0 i1).trans ?_
      refine Eq.trans ?_ (Cert.MixAIdeal.Value.proj_eq m c i0 i1).symm
      rw [MixASpec.dq_eq, MixASpec.dscore_eq hP hS hD, MixASpec.weight_eq hP hS, dquery_eq hq hk]
    · rw [Cert.MixARefIdeal.Read.val_main_v237_eq, h0, h2, h3]
      funext i
      idx_vars i
      refine (Cert.MixARefIdeal.Read.dsink_at _ _ _ i0 i1).trans ?_
      refine Eq.trans ?_ (Cert.MixAIdeal.Value.sinks_eq m c i0 i1).symm
      exact congrArg _ (funext fun h => MixASpec.dsink_eq hP hS hD h)
    · rw [Cert.MixARefIdeal.Read.val_main_v169_eq, h0, h1, h3]
      funext i
      idx_vars i
      refine (Cert.MixARefIdeal.Read.dmem_at _ _ _ i0 i1).trans ?_
      refine Eq.trans ?_ (Cert.MixAIdeal.Value.memory_eq m c i0 i1).symm
      rw [dkey_eq hq hk, dval_eq hq hk]

end Cert.Proof.MixA

end
-- ==== Proof.GateUpKernel.lean ====
/- What the SwiGLU's forward call computes: the normalised rows, the two factors saved for the gradient, the result. -/
module

public import proofs.«01_k».proof.Proof.Gen.GateUpIdeal.Frame
public import proofs.«01_k».proof.Proof.SwigluSpec
public import Idealize.ShloMosaic.Lib.Pipeline.ValueKit
public import Idealize.ShloMosaic.Lib.Pointwise

@[expose] public section

set_option maxRecDepth 16384

noncomputable section

namespace Cert.GateUpIdeal.Value

open Cert.GateUpIdeal Cert.GateUpIdeal.Gen Idealize.ShloMosaic Idealize.ShloMosaic.TcCoe Idealize.SL.Sem
open Idealize.ShloMosaic.Pipeline (Dat)
open Cert

/-! ## The blocks -/

section Blocks

variable (x : FVec Ideal S512x1024 .f32) (g : FVec Ideal S1x1024 .f32) (w v : FVec Ideal S1x1x1024x1408 .bf16)

theorem norm_at (r : Fin 512) (k : Fin 1024) : k0_pay4 (F := Ideal) x g (ix2 r k)
    = x (ix2 r k) * NormSpec.rs (fun k => x (ix2 r k)) * g (ix2 0 k) := by
  pointwise [k0_pay4, NormSpec.rs, NormSpec.ms]

theorem gate_at (r : Fin 512) (j : Fin 1408) : k0_pay6 (F := Ideal) x g w (ix2 r j)
    = SwigluSpec.pre (fun k => x (ix2 r k)) (fun k => g (ix2 0 k)) (fun k => w (ix4 0 0 k j)) := by
  pointwise [k0_pay6, norm_at, SwigluSpec.pre]

theorem up_at (r : Fin 512) (j : Fin 1408) : k0_pay7 (F := Ideal) x g v (ix2 r j)
    = SwigluSpec.pre (fun k => x (ix2 r k)) (fun k => g (ix2 0 k)) (fun k => v (ix4 0 0 k j)) := by
  pointwise [k0_pay7, norm_at, SwigluSpec.pre]

theorem sg_at (r : Fin 512) (j : Fin 1408) : k0_pay8 (F := Ideal) x g w (ix2 r j)
    = SwigluSpec.sg (k0_pay6 (F := Ideal) x g w (ix2 r j)) := by
  pointwise [k0_pay8, SwigluSpec.sg]

theorem rows_at (o : Fin 1) (r : Fin 512) (k : Fin 1024) : out0_4 (F := Ideal) x g w v (ix3 o r k)
    = x (ix2 r k) * NormSpec.rs (fun k => x (ix2 r k)) * g (ix2 0 k) := by
  unfold_out out0_4
  canon_tiles y h
  all_goals
    change (r : ℕ) = _ at h1
    change (k : ℕ) = _ at h2
    open_payloads
    pointwise [NormSpec.rs, NormSpec.ms]
    blk_point []

theorem saved_at (p : Fin 2) (r : Fin 512) (j : Fin 1408) : out0_5 (F := Ideal) x g w v (ix3 p r j)
    = if (p : ℕ) = 0 then SwigluSpec.gatePlane (k0_pay6 (F := Ideal) x g w (ix2 r j)) (k0_pay7 (F := Ideal) x g v (ix2 r j))
      else SwigluSpec.upPlane (k0_pay6 (F := Ideal) x g w (ix2 r j)) := by
  unfold_out out0_5
  canon_tiles y h
  all_goals (obtain rfl : r = y 1 := Fin.ext h1; obtain rfl : j = y 2 := Fin.ext h2)
  case piece0 =>
    obtain rfl : p = 1 := Fin.ext (by change (p : ℕ) = _ at h0; change (p : ℕ) = 1; omega)
    rw [if_neg (by decide)]
    open_payloads
    pointwise [SwigluSpec.upPlane, SwigluSpec.sg]
  case piece1 =>
    obtain rfl : p = 0 := Fin.ext (by change (p : ℕ) = _ at h0; change (p : ℕ) = 0; omega)
    rw [if_pos (by decide)]
    open_payloads
    pointwise [SwigluSpec.gatePlane, SwigluSpec.sg]

theorem act_at (r : Fin 512) (j : Fin 1408) : out0_6 (F := Ideal) x g w v (ix2 r j)
    = SwigluSpec.upPlane (k0_pay6 (F := Ideal) x g w (ix2 r j)) * k0_pay7 (F := Ideal) x g v (ix2 r j) := by
  unfold_out out0_6
  canon_tiles y h
  all_goals
    obtain rfl : r = y 0 := Fin.ext h0
    obtain rfl : j = y 1 := Fin.ext h1
    open_payloads
    pointwise [SwigluSpec.upPlane, SwigluSpec.sg]

end Blocks

theorem idx : ∀ t : Fin cfg0.N, win0_0.index t = ![(grid0.coords t 1).val, 0] ∧ win0_1.index t = ![0, 0]
    ∧ win0_2.index t = ![0, (grid0.coords t 0).val, 0, 0] ∧ win0_3.index t = ![0, (grid0.coords t 0).val + 2, 0, 0]
    ∧ win0_4.index t = ![(grid0.coords t 0).val, (grid0.coords t 1).val, 0]
    ∧ win0_5.index t = ![0, (grid0.coords t 1).val, (grid0.coords t 0).val]
    ∧ win0_6.index t = ![(grid0.coords t 1).val, (grid0.coords t 0).val] :=
  (by decide +kernel : ∀ t : Fin grid0.N, _)

/-! ## The arrays -/

section Arrays

variable (x : FVec Ideal S8192x1024 .f32) (g : FVec Ideal S1x1024 .f32) (w : FVec Ideal S1x4x1024x1408 .bf16)

/-- Two copies of the normalised rows. -/
def rows : FVec Ideal S2x8192x1024 .bf16 := fun i =>
  x (ix2 (i 1) (i 2)) * NormSpec.rs (fun k => x (ix2 (i 1) k)) * g (ix2 0 (i 2))

/-- The gate at row `r` and column `j`, from the column planes of the weights. -/
def gate (r : Fin 8192) (j : Fin 2816) : EReal := SwigluSpec.pre (fun k => x (ix2 r k)) (fun k => g (ix2 0 k))
  (fun k => w (ix4 0 ⟨(j : ℕ) / 1408, by omega⟩ k ⟨(j : ℕ) % 1408, Nat.mod_lt _ (by decide)⟩))

/-- The other factor. -/
def up (r : Fin 8192) (j : Fin 2816) : EReal := SwigluSpec.pre (fun k => x (ix2 r k)) (fun k => g (ix2 0 k))
  (fun k => w (ix4 0 ⟨(j : ℕ) / 1408 + 2, by omega⟩ k ⟨(j : ℕ) % 1408, Nat.mod_lt _ (by decide)⟩))

/-- What is saved for the gradient. -/
def saved : FVec Ideal S2x8192x2816 .bf16 := fun i =>
  if (i 0 : ℕ) = 0 then SwigluSpec.gatePlane (gate x g w (i 1) (i 2)) (up x g w (i 1) (i 2))
  else SwigluSpec.upPlane (gate x g w (i 1) (i 2))

/-- The result. -/
def acts : FVec Ideal S8192x2816 .bf16 := fun i => SwigluSpec.upPlane (gate x g w (i 0) (i 1)) * up x g w (i 0) (i 1)

end Arrays

variable (m : (ℓ : Loc nD τ sig) → Buf (Elt Ideal) ℓ)

theorem final4 (c : Dev nD) : (dats m 0 c).arrAt 4 (cfgs 0).N = rows (V m c main_arg0) (V m c main_v0) := by
  refine (dats m 0 c).arrAt_eq_of_covers 4 _ (by decide +kernel) fun t _ y => ?_
  blk_simp
  rw [after0_4]
  idx_vars y
  refine (rows_at _ _ _ _ y0 y1 y2).trans ?_
  unfold rows NormSpec.rs NormSpec.ms
  pointwise []
  blk_point [iblk, idx t]

theorem final5 (c : Dev nD) : (dats m 0 c).arrAt 5 (cfgs 0).N = saved (V m c main_arg0) (V m c main_v0) (V m c main_v4) := by
  refine (dats m 0 c).arrAt_eq_of_covers 5 _ (by decide +kernel) fun t _ y => ?_
  blk_simp
  rw [after0_5]
  idx_vars y
  refine (saved_at _ _ _ _ y0 y1 y2).trans ?_
  simp only [gate_at, up_at]
  unfold saved gate up SwigluSpec.gatePlane SwigluSpec.upPlane SwigluSpec.pre NormSpec.rs NormSpec.ms
  pointwise []
  blk_point [iblk, idx t]

theorem final6 (c : Dev nD) : (dats m 0 c).arrAt 6 (cfgs 0).N = acts (V m c main_arg0) (V m c main_v0) (V m c main_v4) := by
  refine (dats m 0 c).arrAt_eq_of_covers 6 _ (by decide +kernel) fun t _ y => ?_
  blk_simp
  rw [after0_6]
  idx_vars y
  refine (act_at _ _ _ _ y0 y1).trans ?_
  simp only [gate_at, up_at]
  unfold acts gate up SwigluSpec.upPlane SwigluSpec.pre NormSpec.rs NormSpec.ms
  pointwise []
  blk_point [iblk, idx t]

/-! ## The arrays from the arguments -/

theorem V_gain (c : Dev nD) : V m c main_v0
    = shapeCast S1x1024 (m ((c : Thread nD τ).loc main_arg1)) shapeCasts_S1024_S1x1024 := by
  unfold V; after_results; try rfl

/-- The weights reach the call cut into four planes of columns. -/
theorem V_planes (c : Dev nD) : V m c main_v4 = broadcastInDim S1x4x1024x1408 ![1, 2, 3] bcast_S4x1024x1408_S1x4x1024x1408_1_2_3
    (transpose S4x1024x1408 [1, 0, 2] (shapeCast S1024x4x1408 (truncf (F := Ideal) .bf16 (m ((c : Thread nD τ).loc main_arg2)) bitsLt_bf16_f32)
      shapeCasts_S1024x5632_S1024x4x1408) transposes_S1024x4x1408_S4x1024x1408_1_0_2) := by
  unfold V; after_results; try rfl

variable (c : Dev nD) {x : FVec Ideal S8192x1024 .f32} {g : FVec Ideal S1024 .f32} {w : FVec Ideal S1024x5632 .f32}

theorem rows_eq (hg : m ((c : Thread nD τ).loc main_arg1) = g) (p : Fin 2) (r : Fin 8192) (k : Fin 1024) :
    rows x (V m c main_v0) (ix3 p r k) = x (ix2 r k) * NormSpec.rs (fun k => x (ix2 r k)) * g (ix1 k) := by
  rw [V_gain, hg]
  unfold rows
  pointwise []

theorem gate_eq (hg : m ((c : Thread nD τ).loc main_arg1) = g) (hw : m ((c : Thread nD τ).loc main_arg2) = w) (r : Fin 8192) (j : Fin 2816) :
    gate x (V m c main_v0) (V m c main_v4) r j
      = SwigluSpec.pre (fun k => x (ix2 r k)) (fun k => g (ix1 k)) (fun k => w (ix2 k ⟨j, by omega⟩)) := by
  rw [V_gain, V_planes, hg, hw]
  unfold gate SwigluSpec.pre NormSpec.rs NormSpec.ms
  pointwise []
  blk_point []

theorem up_eq (hg : m ((c : Thread nD τ).loc main_arg1) = g) (hw : m ((c : Thread nD τ).loc main_arg2) = w) (r : Fin 8192) (j : Fin 2816) :
    up x (V m c main_v0) (V m c main_v4) r j
      = SwigluSpec.pre (fun k => x (ix2 r k)) (fun k => g (ix1 k)) (fun k => w (ix2 k ⟨2816 + j, by omega⟩)) := by
  rw [V_gain, V_planes, hg, hw]
  unfold up SwigluSpec.pre NormSpec.rs NormSpec.ms
  pointwise []
  blk_point []

end Cert.GateUpIdeal.Value

end
-- ==== Proof.GateUpRef.lean ====
/- What the reference of the SwiGLU's forward call computes. -/
module

public import proofs.«01_k».proof.Proof.Gen.GateUpRefIdeal.Run
public import proofs.«01_k».proof.Proof.Gen.GateUpRefIdeal.Read
public import proofs.«01_k».proof.Proof.SwigluReal
public import Idealize.ShloMosaic.Lib.Pointwise

@[expose] public section

set_option maxRecDepth 16384

noncomputable section

namespace Cert.GateUpRefIdeal.Read

open Cert.GateUpRefIdeal Cert.GateUpRefIdeal.Gen Idealize.ShloMosaic Idealize.ShloMosaic.TcCoe Idealize.SL.Sem
open Cert

variable (x : FVec Ideal S8192x1024 .f32) (g : FVec Ideal S1024 .f32) (w : FVec Ideal S1024x5632 .f32)

theorem norm_at (r : Fin 8192) (k : Fin 1024) : val_main_v12 (F := Ideal) x g (ix2 r k)
    = x (ix2 r k) * NormSpec.rs (fun k => x (ix2 r k)) * g (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1,
    NormSpec.rs, NormSpec.ms]

theorem rows_at (p : Fin 2) (r : Fin 8192) (k : Fin 1024) : val_main_v21 (F := Ideal) x g (ix3 p r k)
    = x (ix2 r k) * NormSpec.rs (fun k => x (ix2 r k)) * g (ix1 k) := by
  rw [← norm_at]
  pointwise [val_main_v21, val_main_v20, val_main_v19, val_main_v18]
  split <;> rfl

/-- The gate. -/
abbrev gate (r : Fin 8192) (j : Fin 2816) : EReal :=
  SwigluSpec.pre (fun k => x (ix2 r k)) (fun k => g (ix1 k)) (fun k => w (ix2 k ⟨j, by omega⟩))

/-- The other factor. -/
abbrev up (r : Fin 8192) (j : Fin 2816) : EReal :=
  SwigluSpec.pre (fun k => x (ix2 r k)) (fun k => g (ix1 k)) (fun k => w (ix2 k ⟨2816 + j, by omega⟩))

theorem gate_at (r : Fin 8192) (j : Fin 2816) : val_main_v14 (F := Ideal) x g w (ix2 r j) = gate x g w r j := by
  pointwise [val_main_v14, val_main_v13, norm_at, SwigluSpec.pre]

theorem up_at (r : Fin 8192) (j : Fin 2816) : val_main_v15 (F := Ideal) x g w (ix2 r j) = up x g w r j := by
  pointwise [val_main_v15, val_main_v13, norm_at, SwigluSpec.pre]

theorem sg_at (r : Fin 8192) (j : Fin 2816) : val_main_v16_2 (F := Ideal) x g w (ix2 r j)
    = SwigluSpec.sg (gate x g w r j) := by
  rw [← gate_at, SwigluSpec.sg, zero_sub]
  pointwise [val_main_v16_2, val_main_call0_v4, val_main_call0_v3, val_main_call0_v2, val_main_call0_v1,
    val_main_call0_v0, val_main_call0_cst, val_main_call0_cst_0]

theorem act_at (r : Fin 8192) (j : Fin 2816) : val_main_v30 (F := Ideal) x g w (ix2 r j)
    = SwigluSpec.upPlane (gate x g w r j) * up x g w r j := by
  pointwise [val_main_v30, val_main_v17, val_main_v16_0, sg_at, gate_at, up_at, SwigluSpec.upPlane]

/-- The gate's gradient for a gradient of one as the chain rule writes it. -/
theorem dgate_at (r : Fin 8192) (j : Fin 2816) : val_main_v25 (F := Ideal) x g w (ix2 r j)
    = 1 * up x g w r j * SwigluSpec.sg (gate x g w r j)
      + gate x g w r j * (1 * up x g w r j) * (SwigluSpec.sg (gate x g w r j) * (1 - SwigluSpec.sg (gate x g w r j))) := by
  pointwise [val_main_v25, val_main_call1_v2, val_main_call1_v1, val_main_call1_v0, val_main_v24, val_main_v22, val_main_cst_2,
    val_main_v16_1, val_main_call0_v7, val_main_call0_v6, val_main_call0_cst_1, sg_at, gate_at, up_at]

theorem dup_at (r : Fin 8192) (j : Fin 2816) : val_main_v23 (F := Ideal) x g w (ix2 r j)
    = SwigluSpec.upPlane (gate x g w r j) := by
  pointwise [val_main_v23, val_main_v22, val_main_cst_2, val_main_v16_0, sg_at, gate_at, SwigluSpec.upPlane, mul_one]

theorem planes_at (p : Fin 2) (r : Fin 8192) (j : Fin 2816) : val_main_v29 (F := Ideal) x g w (ix3 p r j)
    = if (p : ℕ) = 0 then val_main_v25 (F := Ideal) x g w (ix2 r j) else val_main_v23 (F := Ideal) x g w (ix2 r j) := by
  pointwise [val_main_v29, val_main_v28, val_main_v27, val_main_v26]
  by_cases h : (p : ℕ) = 0
  · rw [if_pos h, dif_pos (by omega)]
  · rw [if_neg h, dif_neg (by omega)]

/-- What is saved for the gradient, when the gain and the weights are real. -/
theorem saved_at (hg : ∀ i, Reals.IsReal (g i)) (hw : ∀ i, Reals.IsReal (w i)) (p : Fin 2) (r : Fin 8192) (j : Fin 2816) :
    val_main_v29 (F := Ideal) x g w (ix3 p r j)
      = if (p : ℕ) = 0 then SwigluSpec.gatePlane (gate x g w r j) (up x g w r j) else SwigluSpec.upPlane (gate x g w r j) := by
  have ha : Reals.IsReal (gate x g w r j) := SwigluSpec.pre_real _ _ _ (fun k => hg _) (fun k => hw _)
  have hb : Reals.IsReal (up x g w r j) := SwigluSpec.pre_real _ _ _ (fun k => hg _) (fun k => hw _)
  rw [planes_at, dgate_at, dup_at, SwigluSpec.gate_law ⟨1, by simp⟩ ha hb (SwigluSpec.sg_real ha), one_mul]
  rfl

end Cert.GateUpRefIdeal.Read

end
-- ==== Proof.GateUp.lean ====
/- The claims about the SwiGLU's forward call. -/
module

public import proofs.«01_k».proof.Defs
public import proofs.«01_k».proof.Proof.Gen.GateUp.Frame
public import proofs.«01_k».proof.Proof.GateUpKernel
public import proofs.«01_k».proof.Proof.GateUpRef
public import proofs.«01_k».proof.Proof.SwigluPre
public import Idealize.ShloMosaic.Lib.Claim

@[expose] public section

set_option maxRecDepth 16384

noncomputable section

namespace Cert.Pre_finite_gate_up

open Idealize.ShloMosaic Cert.Reals

instance facts : Facts where
  bcast_S_S1024 := by decide
  reducesTo_S1024_S_d0 := by decide
  h_S_ := by decide
  bcast_S_S1024x5632 := by decide
  reducesTo_S1024x5632_S_d0_1 := by decide

/-- The precondition says that the gain and the weights are real. -/
theorem reals (x : FVec Ideal S8192x1024 .f32) (g : FVec Ideal S1024 .f32) (w : FVec Ideal S1024x5632 .f32)
    (h : fn (F := Ideal) x g w = fun _ => 1#1) : (∀ i, IsReal (g i)) ∧ ∀ i, IsReal (w i) := by
  have h0 := congrFun h (fun d => d.elim0)
  dsimp only [fn] at h0
  obtain ⟨hg, hw⟩ := IntOp.andi_eq_one.1 h0
  have : Subsingleton S_.Idx := ⟨fun a b => funext fun d => d.elim0⟩
  exact ⟨fun i => Pre_finite_ffn.real_of_test g _ i rfl (Host.reduce_andi_all _ _ _ _ _ hg i),
    fun i => Pre_finite_ffn.real_of_test w _ i rfl (Host.reduce_andi_all _ _ _ _ _ hw i)⟩

end Cert.Pre_finite_gate_up

namespace Cert.Proof.GateUp

open Idealize.ShloMosaic Idealize.ShloMosaic.TcCoe Idealize.SL.Sem Cert.GateUpIdeal.Value

theorem frame : Cert.quiescent_GateUp := fun m ρ _ => Cert.GateUp.Gen.frame m ρ
theorem frame_ideal : Cert.quiescent_GateUpIdeal := fun m ρ _ => Cert.GateUpIdeal.Gen.frame m ρ
theorem frame_ideal_pre : Cert.quiescent_GateUpIdeal_pre_finite_gate_up := fun m ρ _ => Cert.GateUpIdeal.Gen.frame m ρ
theorem preserves : Cert.preserves_GateUp_GateUpIdeal := trivial

theorem frame_ref : Cert.quiescent_GateUpRefIdeal := fun m ρ _ =>
  (θ_run Cert.GateUpRefIdeal.defs _ _).mono
    (fun r h => ⟨fun c => (h c).2.2.2, Idealize.ShloMosaic.sem_eq_zero_of_no_sems (by decide) r.2⟩)
    (Cert.GateUpRefIdeal.Value.run m ρ)

theorem frame_ref_pre : Cert.quiescent_GateUpRefIdeal_pre_finite_gate_up := fun m ρ _ => frame_ref m ρ trivial

theorem algebraic : Cert.algebraic_GateUpIdeal_GateUpRefIdeal_pre_finite_gate_up := by
  pair_intro
  · run_from Cert.GateUpIdeal.Gen.run_main m g
  · run_from Cert.GateUpRefIdeal.Value.run m' g'
    all_goals obtain ⟨hx, hg, hw⟩ := hagree c
    · rw [Cert.GateUpRefIdeal.Read.val_main_v21_eq, final4, Cert.GateUpIdeal.Gen.V_main_arg0]
      funext i
      idx_vars i
      refine (Cert.GateUpRefIdeal.Read.rows_at _ _ i0 i1 i2).trans (Eq.trans ?_ (rows_eq m c rfl i0 i1 i2).symm)
      simp only [hx, hg]
    · rw [Cert.GateUpRefIdeal.Read.val_main_v29_eq, final5, Cert.GateUpIdeal.Gen.V_main_arg0]
      funext i
      idx_vars i
      have hr := Cert.Pre_finite_gate_up.reals _ _ _ (hpre c)
      rw [← hg, ← hw] at hr
      refine (Cert.GateUpRefIdeal.Read.saved_at _ _ _ hr.1 hr.2 i0 i1 i2).trans ?_
      unfold saved
      change _ = if (i0 : ℕ) = 0 then SwigluSpec.gatePlane (gate _ _ _ i1 i2) (up _ _ _ i1 i2) else SwigluSpec.upPlane (gate _ _ _ i1 i2)
      rw [gate_eq m c rfl rfl, up_eq m c rfl rfl]
      simp only [hx, hg, hw]
    · rw [Cert.GateUpRefIdeal.Read.val_main_v30_eq, final6, Cert.GateUpIdeal.Gen.V_main_arg0]
      funext i
      idx_vars i
      refine (Cert.GateUpRefIdeal.Read.act_at _ _ _ i0 i1).trans ?_
      unfold acts
      change _ = SwigluSpec.upPlane (gate _ _ _ i0 i1) * up _ _ _ i0 i1
      rw [gate_eq m c rfl rfl, up_eq m c rfl rfl]

end Cert.Proof.GateUp

end
-- ==== Proof.MixBFwdBlock.lean ====
/- The gated mixer's forward result over all chunks and heads, and one chunk of it as its kernel computes it. -/
module

public import proofs.«01_k».proof.Proof.Gen.MixBFwdIdeal.Skeleton
public import proofs.«01_k».proof.Proof.MixBBlock

@[expose] public section

set_option maxRecDepth 16384

noncomputable section

namespace Cert.MixBFwdSpec

open Idealize.ShloMosaic Cert.MemSpec Cert.MixBSpec

variable (P : Fin 8192 → Fin 1792 → EReal) (M : Fin 256 → Fin 512 → EReal) (W : Fin 6 → Fin 128 → Fin 128 → EReal)
  (b lg lb : Fin 6 → Fin 128 → EReal)

/-- The gated result of group `g` in chunk `t`. -/
def gated (t : Fin 64) (g : Fin 6) (i j : Fin 128) : EReal :=
  GateSpec.gelu (zu P t g i j) * GateSpec.mixed (zv P t g) (W g) (b g) (lg g) (lb g) i j

/-- The memory attention's result, where `w` gives the weights of one row of one head. -/
def attended (w : (Fin 64 → EReal) → (Fin 256 → Fin 64 → EReal) → Fin 256 → EReal) (h : Fin 4) (R : Fin 8192) (l : Fin 64) : EReal :=
  ∑ r : Fin 256, w (query P h R) (key M h) r * val M h r l

/-- The result in row `i` of chunk `t` and lane `j` of slab `n`: six gated slabs, two of the memory attention (`a`). -/
def out (a : Fin 4 → Fin 8192 → Fin 64 → EReal) (t : Fin 64) (n : Fin 8) (i j : Fin 128) : EReal :=
  if h : n.val < 6 then gated P W b lg lb t ⟨n.val, h⟩ i j
  else a ⟨2 * (n.val - 6) + j.val / 64, by omega⟩ (rowAt t i) ⟨j.val % 64, by omega⟩

/-- The same by row and column. -/
def outAt (a : Fin 4 → Fin 8192 → Fin 64 → EReal) (R : Fin 8192) (c : Fin 1024) : EReal :=
  out P W b lg lb a ⟨R.val / 128, by omega⟩ ⟨c.val / 128, by omega⟩ ⟨R.val % 128, by omega⟩ ⟨c.val % 128, by omega⟩

/-- Either way of dividing by the sum of the weights gives the same for real queries and keys. -/
theorem attended_eq (hq : ∀ h R l, Reals.IsReal (query P h R l)) (hk : ∀ h r l, Reals.IsReal (key M h r l)) :
    attended P M weight' = attended P M weight := by
  funext h R l
  exact Finset.sum_congr rfl fun r _ => by rw [weight_eq (hq h R) (hk h)]

end Cert.MixBFwdSpec

namespace Cert.MixBFwdIdeal.Value

open Cert.MixBFwdIdeal Cert.MixBFwdIdeal.Gen Idealize.ShloMosaic Idealize.ShloMosaic.TcCoe Cert.MemSpec
open Cert.MixBIdeal.Value (at2 atRow atCol slabU slabV slabW slabB slabG slabL pairQ pairK pairV select_slt)

/-! ## One group and one pair of heads -/

/-- The gated result of one group. -/
def mixed (zu zv w : FVec Ideal S128x128 .f32) (b : FVec Ideal S128x1 .f32) (lg lb : FVec Ideal S1x128 .f32) :
    FVec Ideal S128x128 .f32 :=
  k0_pay57 w b lg lb k0_pay52 (k0_pay53 zu) (k0_pay54 zv) (k0_pay55 zv) k0_pay56

theorem mixed_at (zu zv w : FVec Ideal S128x128 .f32) (b : FVec Ideal S128x1 .f32) (lg lb : FVec Ideal S1x128 .f32) (i j : Fin 128) :
    mixed zu zv w b lg lb (ix2 i j)
      = GateSpec.gelu (at2 zu i j) * GateSpec.mixed (at2 zv) (at2 w) (atCol b) (atRow lg) (atRow lb) i j := by
  rw [← Cert.MixBIdeal.Value.gelu_at]
  exact Cert.MixBIdeal.Value.du_at zv w _ b lg lb i j

/-- The weights of one pair of heads. -/
theorem weights_at (q : FVec Ideal S128x128 .f32) (k : FVec Ideal S256x128 .f32) (m c : Fin 256) :
    k0_pay83 (F := Ideal) q k (ix2 m c) = weight' (head (at2 q) c) (mem (fun i j => k (ix2 i j)) c) m :=
  Cert.MixBIdeal.Value.weight_at q k m c

/-- The memory attention of one pair of heads from its weights. -/
def attend (v : FVec Ideal S256x128 .f32) (w : FVec Ideal S256x256 .bf16) : FVec Ideal S128x128 .f32 :=
  select (broadcastTo S128x128 (shapeCast S1x128 (cmpi .slt (iota .tc S1x128 32 [1] iota_S1x128_d1_w32) (broadcast S1x128 64#32))
      shapeCasts_S1x128_S1x128) broadcasts_S1x128_S128x128)
    (extractStridedSlice S128x128 ![0, 0] (matmul dot_S256x256_S256x128_S256x128_0_0_1_1_n_n none w (truncf .bf16 v bitsLt_bf16_f32)
      (constant S256x128 .f32 0x00000000#32)) slices_S256x128_o0_0_S128x128)
    (extractStridedSlice S128x128 ![128, 0] (matmul dot_S256x256_S256x128_S256x128_0_0_1_1_n_n none w (truncf .bf16 v bitsLt_bf16_f32)
      (constant S256x128 .f32 0x00000000#32)) slices_S256x128_o128_0_S128x128)

theorem attend_at (v : FVec Ideal S256x128 .f32) (w : FVec Ideal S256x256 .bf16) (r l : Fin 128) :
    attend v w (ix2 r l) = ∑ m : Fin 256, w (ix2 m (place l r)) * v (ix2 m l) := by
  pointwise [attend]
  rw [select_slt]
  by_cases h : l.val < 64
  · have e : place l r = ⟨r.val, by omega⟩ := Fin.ext (by simp [place]; omega)
    rw [if_pos h, e]
  · have e : place l r = ⟨128 + r.val, by omega⟩ := Fin.ext (by simp [place]; omega)
    rw [if_neg h, e]

/-! ## One chunk -/

/-- Eight slabs side by side. -/
def beside (s : Fin 8 → FVec Ideal S128x128 .f32) : FVec Ideal S128x1024 .bf16 :=
  truncf .bf16 (concatenate S128x1024 1 [⟨S128x128, s 0⟩, ⟨S128x128, s 1⟩, ⟨S128x128, s 2⟩, ⟨S128x128, s 3⟩, ⟨S128x128, s 4⟩,
    ⟨S128x128, s 5⟩, ⟨S128x128, s 6⟩, ⟨S128x128, s 7⟩]
    concatenates_S128x128_S128x128_S128x128_S128x128_S128x128_S128x128_S128x128_S128x128_S128x1024_d1)
    bitsLt_bf16_f32

/-- A place of the eight slabs. -/
theorem beside_at (s : Fin 8 → FVec Ideal S128x128 .f32) (n : Fin 8) (i j : Fin 128) :
    beside s (ix2 i ⟨128 * n.val + j.val, by omega⟩) = s n (ix2 i j) := by
  change concatenate S128x1024 1 (List.ofFn fun n : Fin 8 => (⟨S128x128, s n⟩ : (r : Shape) × (r.Idx → EReal)))
    concatenates_S128x128_S128x128_S128x128_S128x128_S128x128_S128x128_S128x128_S128x128_S128x1024_d1
    (ix2 i ⟨128 * n.val + j.val, by omega⟩) = _
  refine concatenate_ofFn_apply (t := S128x1024) (s₁ := S128x128) 1 s _ rfl 128 rfl _ n ?_ _ ?_ ?_
  · change (128 * n.val + j.val) / 128 = n.val
    omega
  · change j.val = (128 * n.val + j.val) % 128
    omega
  · intro b hb
    fin_cases b
    · rfl
    · exact absurd rfl hb

variable (X : FVec Ideal S128x1536 .bf16) (Q : FVec Ideal S128x256 .bf16) (W : FVec Ideal S6x128x128 .f32)
  (B : FVec Ideal S128x128 .f32) (G L : FVec Ideal S8x128 .f32) (Km Vm : FVec Ideal S256x256 .bf16)

/-- The gated slab of group `g`. -/
def slab (g : Fin 6) : FVec Ideal S128x128 .f32 := mixed (slabU X g) (slabV X g) (slabW W g) (slabB B g) (slabG G g) (slabL L g)

/-- The memory attention of pair `p`. -/
def pair (p : Fin 2) : FVec Ideal S128x128 .f32 := attend (pairV Vm p) (k0_pay83 (pairQ Q p) (pairK Km p))

/-- A chunk of the result. -/
def chunkOut : FVec Ideal S128x1024 .bf16 :=
  beside ![slab X W B G L 0, slab X W B G L 1, slab X W B G L 2, slab X W B G L 3, slab X W B G L 4, slab X W B G L 5,
    pair Q Km Vm 0, pair Q Km Vm 1]

theorem slab_at (g : Fin 6) (i j : Fin 128) : slab X W B G L g (ix2 i j) = GateSpec.gelu (at2 (slabU X g) i j)
    * GateSpec.mixed (at2 (slabV X g)) (at2 (slabW W g)) (atCol (slabB B g)) (atRow (slabG G g)) (atRow (slabL L g)) i j :=
  mixed_at _ _ _ _ _ _ i j

theorem pair_at (p : Fin 2) (r l : Fin 128) : pair Q Km Vm p (ix2 r l)
    = ∑ m : Fin 256, weight' (head (at2 (pairQ Q p)) (place l r)) (mem (fun i j => pairK Km p (ix2 i j)) (place l r)) m
        * pairV Vm p (ix2 m l) := by
  unfold pair
  rw [attend_at]
  exact Finset.sum_congr rfl fun m _ => congrArg (· * _) (weights_at _ _ m _)

/-! ## The kernel's own steps are these -/

theorem slab0 : slab X W B G L 0 = k0_pay57 (k0_pay21 W) (k0_pay28 (k0_pay4 B)) (k0_pay34 (k0_pay5 G)) (k0_pay40 (k0_pay6 L)) k0_pay52
    (k0_pay53 (k0_pay9 X)) (k0_pay54 (k0_pay15 X)) (k0_pay55 (k0_pay15 X)) k0_pay56 := rfl

theorem slab1 : slab X W B G L 1 = k0_pay61 (k0_pay16 X) (k0_pay22 W) (k0_pay29 (k0_pay4 B)) (k0_pay35 (k0_pay5 G)) (k0_pay41 (k0_pay6 L))
    k0_pay52 (k0_pay58 (k0_pay10 X)) (k0_pay59 (k0_pay16 X)) (k0_pay60 (k0_pay16 X)) := rfl

theorem slab2 : slab X W B G L 2 = k0_pay66 (k0_pay64 (k0_pay62 (k0_pay11 X)) (k0_pay63 (k0_pay11 X)) (Scalar.ofBits .f32 0x3F4C422A#32))
    (k0_pay65 (k0_pay17 X) (k0_pay23 W) (k0_pay30 (k0_pay4 B)) (k0_pay36 (k0_pay5 G)) (k0_pay42 (k0_pay6 L)) k0_pay52) := rfl

theorem slab3 : slab X W B G L 3 = k0_pay69 (k0_pay24 W) (k0_pay31 (k0_pay4 B)) (k0_pay43 (k0_pay6 L)) k0_pay52 (k0_pay67 (k0_pay12 X))
    (k0_pay68 (k0_pay18 X) (k0_pay37 (k0_pay5 G))) := rfl

theorem slab4 : slab X W B G L 4 = k0_pay75 (k0_pay25 W) (k0_pay32 (k0_pay4 B)) (k0_pay38 (k0_pay5 G)) (k0_pay44 (k0_pay6 L)) k0_pay52
    (k0_pay70 (k0_pay13 X)) (k0_pay71 (k0_pay19 X)) (k0_pay72 (k0_pay19 X)) (k0_pay73 (k0_pay19 X)) k0_pay74 := rfl

theorem slab5 : slab X W B G L 5 = k0_pay79 (k0_pay27 (k0_pay26 W)) (k0_pay33 (k0_pay4 B)) (k0_pay39 (k0_pay5 G)) (k0_pay45 (k0_pay6 L))
    k0_pay52 (k0_pay76 (k0_pay14 X)) (k0_pay77 (k0_pay20 X)) (k0_pay78 (k0_pay20 X)) := rfl

theorem pair0 : pair Q Km Vm 0 = k0_pay82 (k0_pay50 (k0_pay8 Vm)) (k0_pay80 (k0_pay46 (k0_pay3 Q)) (k0_pay48 (k0_pay7 Km)))
    (k0_pay81 (k0_pay46 (k0_pay3 Q)) (k0_pay48 (k0_pay7 Km))) := rfl

theorem chunk_eq : k0_pay1 (k0_pay51 (k0_pay8 Vm)) (slab X W B G L 0) (slab X W B G L 1) (slab X W B G L 2) (slab X W B G L 3)
    (slab X W B G L 4) (slab X W B G L 5) (pair Q Km Vm 0) (k0_pay83 (k0_pay47 (k0_pay3 Q)) (k0_pay49 (k0_pay7 Km)))
    = chunkOut X Q W B G L Km Vm := rfl

end Cert.MixBFwdIdeal.Value

end
-- ==== Proof.MixBFwdKernel.lean ====
/- What the gated mixer's forward kernel leaves in its result, of the problem's own arrays. -/
module

public import proofs.«01_k».proof.Proof.Gen.MixBFwdIdeal.Frame
public import proofs.«01_k».proof.Proof.MixBFwdBlock
public import proofs.«01_k».proof.Proof.MixBReads
public import Idealize.ShloMosaic.Lib.Pipeline.ValueKit
public import Idealize.ShloMosaic.Lib.Claim

@[expose] public section

set_option maxRecDepth 16384

noncomputable section

namespace Cert.MixBFwdIdeal.Value

open Cert.MixBFwdIdeal Cert.MixBFwdIdeal.Gen Idealize.ShloMosaic Idealize.ShloMosaic.TcCoe Idealize.SL.Sem
open Idealize.ShloMosaic.Pipeline (Dat)
open Cert Cert.MemSpec
open Cert.MixBIdeal.Value (at2 atRow atCol slabU slabV slabW slabB slabG slabL pairQ pairK pairV slabU_at slabV_at slabW_at slabB_at
  slabG_at slabL_at pairQ_at pairK_at pairV_at headOf within row_place lane_place)

variable (m : (ℓ : Loc nD τ sig) → Buf (Elt Ideal) ℓ)

theorem idx : ∀ t : Fin cfg0.N, win0_0.index t = ![(grid0.coords t 0).val, 0] ∧ win0_1.index t = ![(grid0.coords t 0).val, 6]
    ∧ win0_2.index t = ![0, 0, 0] ∧ win0_3.index t = ![0, 0] ∧ win0_4.index t = ![0, 0] ∧ win0_5.index t = ![0, 0]
    ∧ win0_6.index t = ![0, 0] ∧ win0_7.index t = ![0, 1] ∧ win0_8.index t = ![(grid0.coords t 0).val, 0] :=
  (by decide +kernel : ∀ t : Fin grid0.N, _)

theorem coord (t : Fin cfg0.N) : (grid0.coords t 0).val = t.val := (by decide +kernel : ∀ t : Fin grid0.N, (grid0.coords t 0).val = t.val) t

/-- The chunk of a grid point. -/
abbrev chunk (t : Fin cfg0.N) : Fin 64 := ⟨t.val, t.isLt⟩

/-! ## The arrays -/

section Arrays

variable (c : Dev nD)

abbrev argP (R : Fin 8192) (k : Fin 1792) : EReal := m ((c : Thread nD τ).loc main_arg0) (ix2 R k)

abbrev argM (r : Fin 256) (k : Fin 512) : EReal := m ((c : Thread nD τ).loc main_arg1) (ix2 r k)

abbrev argW (g : Fin 6) (i s : Fin 128) : EReal := m ((c : Thread nD τ).loc main_arg2) (ix3 g i s)

abbrev argB (g : Fin 6) (i : Fin 128) : EReal := m ((c : Thread nD τ).loc main_arg3) (ix2 g i)

abbrev argG (g : Fin 6) (j : Fin 128) : EReal := m ((c : Thread nD τ).loc main_arg4) (ix2 g j)

abbrev argL (g : Fin 6) (j : Fin 128) : EReal := m ((c : Thread nD τ).loc main_arg5) (ix2 g j)

theorem V_proj (R : Fin 8192) (k : Fin 1792) : V m c main_v4 (ix2 R k) = argP m c R k := by
  have h : V m c main_v4 = truncf (F := Ideal) .bf16 (m ((c : Thread nD τ).loc main_arg0)) bitsLt_bf16_f32 := by
    unfold V
    simp only [List.flatten_cons, List.flatten_nil, List.append_nil, List.cons_append, List.nil_append]
    after_results
    try rfl
  rw [h]
  pointwise []

theorem V_mem (r : Fin 256) (k : Fin 512) : V m c main_v5 (ix2 r k) = argM m c r k := by
  have h : V m c main_v5 = truncf (F := Ideal) .bf16 (m ((c : Thread nD τ).loc main_arg1)) bitsLt_bf16_f32 := by
    unfold V
    simp only [List.flatten_cons, List.flatten_nil, List.append_nil, List.cons_append, List.nil_append]
    after_results
    try rfl
  rw [h]
  pointwise []

theorem V_bias (g : Fin 6) (i : Fin 128) : V m c main_v1 (ix2 i (⟨g.val, by omega⟩ : Fin 128)) = argB m c g i := by
  have h : V m c main_v1 = pad (α := EReal) S128x128 ![0, 0] ![0, 122] ![0, 0] (transpose S128x6 [1, 0] (m ((c : Thread nD τ).loc main_arg3)) transposes_S6x128_S128x6_1_0) (sitofp (F := Ideal) .f32 (constantI S_ 32 0#32)) pads_S128x6_S128x128_000_01220 h_S_ := by
    unfold V
    simp only [List.flatten_cons, List.flatten_nil, List.append_nil, List.cons_append, List.nil_append]
    after_results
    try rfl
  rw [h]
  pointwise []

/-- Six rows with two more below them. -/
theorem padded (x : FVec Ideal S6x128 .f32) (g : Fin 6) (j : Fin 128) : pad (α := EReal) S8x128 ![0, 0] ![2, 0] ![0, 0] x
    (sitofp (F := Ideal) .f32 (constantI S_ 32 0#32)) pads_S6x128_S8x128_020_000 h_S_ (ix2 (⟨g.val, by omega⟩ : Fin 8) j) = x (ix2 g j) := by
  pointwise []

theorem V_gain (g : Fin 6) (j : Fin 128) : V m c main_v2 (ix2 (⟨g.val, by omega⟩ : Fin 8) j) = argG m c g j := by
  have h : V m c main_v2 = pad (α := EReal) S8x128 ![0, 0] ![2, 0] ![0, 0] (m ((c : Thread nD τ).loc main_arg4)) (sitofp (F := Ideal) .f32 (constantI S_ 32 0#32)) pads_S6x128_S8x128_020_000 h_S_ := by
    unfold V
    simp only [List.flatten_cons, List.flatten_nil, List.append_nil, List.cons_append, List.nil_append]
    after_results
    try rfl
  rw [h]
  exact padded _ g j

theorem V_shift (g : Fin 6) (j : Fin 128) : V m c main_v3 (ix2 (⟨g.val, by omega⟩ : Fin 8) j) = argL m c g j := by
  have h : V m c main_v3 = pad (α := EReal) S8x128 ![0, 0] ![2, 0] ![0, 0] (m ((c : Thread nD τ).loc main_arg5)) (sitofp (F := Ideal) .f32 (constantI S_ 32 0#32)) pads_S6x128_S8x128_020_000 h_S_ := by
    unfold V
    simp only [List.flatten_cons, List.flatten_nil, List.append_nil, List.cons_append, List.nil_append]
    after_results
    try rfl
  rw [h]
  exact padded _ g j

end Arrays

/-! ## The blocks -/

section Point

variable (c : Dev nD) (t : Fin cfg0.N)

theorem blockX (i : Fin 128) (k : Fin 1536) : X0_0 m c t (ix2 i k) = argP m c (MixBSpec.rowAt (chunk t) i) ⟨k.val, by omega⟩ := by
  rw [← V_proj]
  unfold X0_0 Pipeline.Window.fill
  rw [dif_pos (moved0_0 t _)]
  unfold MixBSpec.rowAt
  blk_point [iblk, idx t, coord t]

theorem blockQ (i : Fin 128) (k : Fin 256) : iblk m c 1 t (ix2 i k) = argP m c (MixBSpec.rowAt (chunk t) i) ⟨1536 + k.val, by omega⟩ := by
  rw [← V_proj]
  unfold MixBSpec.rowAt
  blk_point [iblk, idx t, coord t]

theorem blockW (g : Fin 6) (i s : Fin 128) : iblk m c 2 t (ix3 g i s) = argW m c g i s := by
  refine Eq.trans ?_ (congrFun (V_main_arg2 m c) (ix3 g i s))
  blk_point [iblk, idx t, coord t]

theorem blockB (g : Fin 6) (i : Fin 128) : iblk m c 3 t (ix2 i (⟨g.val, by omega⟩ : Fin 128)) = argB m c g i := by
  rw [← V_bias]
  blk_point [iblk, idx t, coord t]

theorem blockG (g : Fin 6) (j : Fin 128) : iblk m c 4 t (ix2 (⟨g.val, by omega⟩ : Fin 8) j) = argG m c g j := by
  rw [← V_gain]
  blk_point [iblk, idx t, coord t]

theorem blockL (g : Fin 6) (j : Fin 128) : iblk m c 5 t (ix2 (⟨g.val, by omega⟩ : Fin 8) j) = argL m c g j := by
  rw [← V_shift]
  blk_point [iblk, idx t, coord t]

theorem blockK (i k : Fin 256) : iblk m c 6 t (ix2 i k) = argM m c i ⟨k.val, by omega⟩ := by
  rw [← V_mem]
  blk_point [iblk, idx t, coord t]

theorem blockV (i k : Fin 256) : iblk m c 7 t (ix2 i k) = argM m c i ⟨256 + k.val, by omega⟩ := by
  rw [← V_mem]
  blk_point [iblk, idx t, coord t]

/-! ## One chunk of the result -/

theorem slab_pt (g : Fin 6) (i j : Fin 128) :
    slab (X0_0 m c t) (iblk m c 2 t) (iblk m c 3 t) (iblk m c 4 t) (iblk m c 5 t) g (ix2 i j)
      = MixBFwdSpec.gated (argP m c) (argW m c) (argB m c) (argG m c) (argL m c) (chunk t) g i j := by
  have hU : at2 (slabU (X0_0 m c t) g) = MixBSpec.zu (argP m c) (chunk t) g :=
    funext fun i => funext fun j => (slabU_at _ g i j).trans (blockX m c t i _)
  have hV : at2 (slabV (X0_0 m c t) g) = MixBSpec.zv (argP m c) (chunk t) g :=
    funext fun i => funext fun j => (slabV_at _ g i j).trans (blockX m c t i _)
  have hW : at2 (slabW (iblk m c 2 t) g) = argW m c g := funext fun i => funext fun j => (slabW_at _ g i j).trans (blockW m c t g i j)
  have hB : atCol (slabB (iblk m c 3 t) g) = argB m c g := funext fun i => (slabB_at _ g i).trans (blockB m c t g i)
  have hG : atRow (slabG (iblk m c 4 t) g) = argG m c g := funext fun j => (slabG_at _ g j).trans (blockG m c t g j)
  have hL : atRow (slabL (iblk m c 5 t) g) = argL m c g := funext fun j => (slabL_at _ g j).trans (blockL m c t g j)
  rw [slab_at, hU, hV, hW, hB, hG, hL]
  rfl

theorem pair_pt (p : Fin 2) (i l : Fin 128) : pair (iblk m c 1 t) (iblk m c 6 t) (iblk m c 7 t) p (ix2 i l)
    = MixBFwdSpec.attended (argP m c) (argM m c) weight' (headOf p l) (MixBSpec.rowAt (chunk t) i) (within l) := by
  have hQ : head (at2 (pairQ (iblk m c 1 t) p)) (place l i) = MixBSpec.query (argP m c) (headOf p l) (MixBSpec.rowAt (chunk t) i) := by
    funext k
    unfold head
    rw [row_place]
    refine (pairQ_at _ p i _).trans ((blockQ m c t i _).trans ?_)
    unfold MixBSpec.query argP
    have := lane_place l i k
    congr 3
    simp only [headOf]
    omega
  have hK : mem (fun i j => pairK (iblk m c 6 t) p (ix2 i j)) (place l i) = MixBSpec.key (argM m c) (headOf p l) := by
    funext r k
    unfold mem
    refine (pairK_at _ p r _).trans ((blockK m c t r _).trans ?_)
    unfold MixBSpec.key argM
    have := lane_place l i k
    congr 3
    simp only [headOf]
    omega
  rw [pair_at, hQ, hK]
  refine Finset.sum_congr rfl fun r _ => congrArg (_ * ·) ((pairV_at _ p r l).trans ((blockV m c t r _).trans ?_))
  unfold MixBSpec.val argM
  congr 3
  simp only [headOf, within]
  omega

theorem chunk_pt (n : Fin 8) (i j : Fin 128) :
    chunkOut (X0_0 m c t) (iblk m c 1 t) (iblk m c 2 t) (iblk m c 3 t) (iblk m c 4 t) (iblk m c 5 t) (iblk m c 6 t) (iblk m c 7 t)
        (ix2 i ⟨128 * n.val + j.val, by omega⟩)
      = MixBFwdSpec.out (argP m c) (argW m c) (argB m c) (argG m c) (argL m c)
          (MixBFwdSpec.attended (argP m c) (argM m c) weight') (chunk t) n i j := by
  unfold chunkOut
  rw [beside_at]
  fin_cases n
  · exact slab_pt m c t 0 i j
  · exact slab_pt m c t 1 i j
  · exact slab_pt m c t 2 i j
  · exact slab_pt m c t 3 i j
  · exact slab_pt m c t 4 i j
  · exact slab_pt m c t 5 i j
  · exact pair_pt m c t 0 i j
  · exact pair_pt m c t 1 i j

end Point

/-! ## The result -/

variable (c : Dev nD)

/-- The result as an array. -/
def outArr : FVec Ideal S8192x1024 .bf16 := fun i => MixBFwdSpec.outAt (argP m c) (argW m c) (argB m c) (argG m c) (argL m c)
  (MixBFwdSpec.attended (argP m c) (argM m c) weight') (i 0) (i 1)

theorem outs_eq (t : Fin cfg0.N) : outsAt0 m c t
    = chunkOut (X0_0 m c t) (iblk m c 1 t) (iblk m c 2 t) (iblk m c 3 t) (iblk m c 4 t) (iblk m c 5 t) (iblk m c 6 t) (iblk m c 7 t) := by
  unfold outsAt0
  rw [← chunk_eq, slab0, slab1, slab2, slab3, slab4, slab5, pair0]
  frame_out
  try rfl

theorem final8 : (dats m 0 c).arrAt 8 (cfgs 0).N = outArr m c := by
  refine (dats m 0 c).arrAt_eq_of_covers 8 _ (by decide +kernel) fun t _ y => ?_
  blk_simp
  rw [after0_8, outs_eq]
  idx_vars y
  have h := chunk_pt m c t ⟨y1.val / 128, by omega⟩ y0 ⟨y1.val % 128, by omega⟩
  have e : (⟨128 * (y1.val / 128) + y1.val % 128, by omega⟩ : Fin 1024) = y1 := Fin.ext (by simp only; omega)
  rw [e] at h
  refine h.trans ?_
  have e1 : (⟨(MixBSpec.rowAt (chunk t) y0).val / 128, by omega⟩ : Fin 64) = chunk t :=
    Fin.ext (by simp only [MixBSpec.rowAt]; omega)
  have e2 : (⟨(MixBSpec.rowAt (chunk t) y0).val % 128, by omega⟩ : Fin 128) = y0 :=
    Fin.ext (by simp only [MixBSpec.rowAt]; omega)
  have ho : MixBFwdSpec.out (argP m c) (argW m c) (argB m c) (argG m c) (argL m c)
      (MixBFwdSpec.attended (argP m c) (argM m c) weight') (chunk t) ⟨y1.val / 128, by omega⟩ y0 ⟨y1.val % 128, by omega⟩
      = outArr m c (ix2 (MixBSpec.rowAt (chunk t) y0) y1) := by
    change _ = MixBFwdSpec.outAt _ _ _ _ _ _ (MixBSpec.rowAt (chunk t) y0) y1
    unfold MixBFwdSpec.outAt
    rw [e1, e2]
  rw [ho]
  generalize outArr m c = f
  unfold MixBSpec.rowAt
  blk_point [idx t, coord t]

end Cert.MixBFwdIdeal.Value

end
-- ==== Proof.MixBFwdRef.lean ====
/- The reference of the gated mixer's forward call. Its activations, mixed rows and weights are those on which the gradient's reference works. -/
module

public import proofs.«01_k».proof.Proof.Gen.MixBFwdRefIdeal.Run
public import proofs.«01_k».proof.Proof.Gen.MixBFwdRefIdeal.Read
public import proofs.«01_k».proof.Proof.MixBRefMem
public import proofs.«01_k».proof.Proof.MixBFwdBlock
public import Idealize.ShloMosaic.Lib.Pointwise

@[expose] public section

set_option maxRecDepth 16384

noncomputable section

namespace Cert.MixBFwdRefIdeal.Read

open Cert.MixBFwdRefIdeal Cert.MixBFwdRefIdeal.Gen Idealize.ShloMosaic Idealize.ShloMosaic.TcCoe Idealize.SL.Sem
open Cert
open Cert.MixBRefIdeal.Read (proj memo mixw lane6)

variable (x0 : FVec Ideal S8192x1792 .f32) (x1 : FVec Ideal S256x512 .f32) (x2 : FVec Ideal S6x128x128 .f32)
  (x3 x4 x5 : FVec Ideal S6x128 .f32)

/-! ## What the gradient's reference computes too -/

theorem gelu_same : val_main_v14 (F := Ideal) x0 = Cert.MixBRefIdeal.Read.val_main_v22 (F := Ideal) x0 := rfl

theorem mixed_same : val_main_v52 (F := Ideal) x0 x2 x3 x4 x5 = Cert.MixBRefIdeal.Read.val_main_v65 (F := Ideal) x0 x2 x3 x4 x5 := rfl

theorem weights_same : val_main_v73 (F := Ideal) x0 x1 = Cert.MixBRefIdeal.Read.val_main_v100 (F := Ideal) x0 x1 := rfl

theorem values_same : val_main_v59 (F := Ideal) x1 = Cert.MixBRefIdeal.Read.val_main_v72 (F := Ideal) x1 := rfl

/-! ## The gating half -/

theorem gated_at (R : Fin 8192) (c : Fin 768) :
    val_main_v54 (F := Ideal) x0 x2 x3 x4 x5 (ix2 R c)
      = MixBFwdSpec.gated (proj x0) (mixw x2) (lane6 x3) (lane6 x4) (lane6 x5) ⟨R.val / 128, by omega⟩ ⟨c.val / 128, by omega⟩
          ⟨R.val % 128, by omega⟩ ⟨c.val % 128, by omega⟩ := by
  pointwise [val_main_v54, val_main_v53, val_main_v15, gelu_same, mixed_same, Cert.MixBRefIdeal.Read.gelu_at,
    Cert.MixBRefIdeal.Read.mixed_at, MixBFwdSpec.gated, MixBSpec.zu, MixBSpec.rowAt]
  simp only [Nat.div_add_mod]

/-! ## The memory attention -/

theorem attended_at (R : Fin 8192) (c : Fin 256) : val_main_v76 (F := Ideal) x0 x1 (ix2 R c)
    = MixBFwdSpec.attended (proj x0) (memo x1) MemSpec.weight ⟨c.val / 64, by omega⟩ R ⟨c.val % 64, by omega⟩ := by
  pointwise [val_main_v76, val_main_v75, val_main_v74, weights_same, values_same, Cert.MixBRefIdeal.Read.weight_at,
    Cert.MixBRefIdeal.Read.v_at, MixBFwdSpec.attended]
  exact Finset.sum_congr rfl fun r _ => mul_comm _ _

/-! ## The result -/

theorem gate_col (R : Fin 8192) (c : Fin 768) :
    val_main_v78 (F := Ideal) x0 x1 x2 x3 x4 x5 (ix2 R ⟨c.val, by omega⟩) = val_main_v54 (F := Ideal) x0 x2 x3 x4 x5 (ix2 R c) := by
  pointwise [val_main_v78, val_main_v77]

theorem memory_col (R : Fin 8192) (c : Fin 256) :
    val_main_v78 (F := Ideal) x0 x1 x2 x3 x4 x5 (ix2 R ⟨768 + c.val, by omega⟩) = val_main_v76 (F := Ideal) x0 x1 (ix2 R c) := by
  pointwise [val_main_v78, val_main_v77]

theorem out_at (R : Fin 8192) (k : Fin 1024) : val_main_v78 (F := Ideal) x0 x1 x2 x3 x4 x5 (ix2 R k)
    = MixBFwdSpec.outAt (proj x0) (mixw x2) (lane6 x3) (lane6 x4) (lane6 x5)
        (MixBFwdSpec.attended (proj x0) (memo x1) MemSpec.weight) R k := by
  unfold MixBFwdSpec.outAt MixBFwdSpec.out
  by_cases h : k.val < 768
  · rw [dif_pos (show k.val / 128 < 6 by omega)]
    exact (gate_col x0 x1 x2 x3 x4 x5 R ⟨k.val, h⟩).trans (gated_at x0 x2 x3 x4 x5 R ⟨k.val, h⟩)
  · rw [dif_neg (show ¬k.val / 128 < 6 by omega)]
    have e : k = ⟨768 + (k.val - 768), by omega⟩ := Fin.ext (by simp only; omega)
    refine (congrArg (fun k => val_main_v78 (F := Ideal) x0 x1 x2 x3 x4 x5 (ix2 R k)) e).trans ?_
    refine (memory_col x0 x1 x2 x3 x4 x5 R ⟨k.val - 768, by omega⟩).trans ((attended_at x0 x1 R _).trans ?_)
    have e1 : MixBSpec.rowAt ⟨R.val / 128, by omega⟩ ⟨R.val % 128, by omega⟩ = R :=
      Fin.ext (by change 128 * (R.val / 128) + R.val % 128 = R.val; omega)
    rw [e1]
    congr 1
    · exact Fin.ext (by change (k.val - 768) / 64 = 2 * (k.val / 128 - 6) + k.val % 128 / 64; omega)
    · exact Fin.ext (by change (k.val - 768) % 64 = k.val % 128 % 64; omega)

end Cert.MixBFwdRefIdeal.Read

end
-- ==== Proof.MixBFwd.lean ====
/- The claims about the gated mixer's forward call. -/
module

public import proofs.«01_k».proof.Defs
public import proofs.«01_k».proof.Pre_finite_mem
public import proofs.«01_k».proof.Proof.Gen.MixBFwd.Frame
public import proofs.«01_k».proof.Proof.MixBFwdKernel
public import proofs.«01_k».proof.Proof.MixBFwdRef
public import proofs.«01_k».proof.Proof.MixBPre
public import Idealize.ShloMosaic.Lib.Claim

@[expose] public section

set_option maxRecDepth 16384

noncomputable section

namespace Cert.Pre_finite_mem

open Idealize.ShloMosaic Cert.Reals

instance facts : Facts where
  slices_S8192x1792_S8192x256_0_1536 := by decide
  bcast_S_S8192x256 := by decide
  reducesTo_S8192x256_S_d0_1 := by decide
  h_S_ := by decide
  slices_S256x512_S256x256_0_0 := by decide
  bcast_S_S256x256 := by decide
  reducesTo_S256x256_S_d0_1 := by decide

theorem reals (x : FVec Ideal S8192x1792 .f32) (kv : FVec Ideal S256x512 .f32) (w : FVec Ideal S6x128x128 .f32)
    (b lg lb : FVec Ideal S6x128 .f32) (h : fn (F := Ideal) x kv w b lg lb = fun _ => 1#1) :
    (∀ (R : Fin 8192) (k : Fin 256), IsReal (x (ix2 R ⟨1536 + k.val, by omega⟩)))
      ∧ ∀ r k : Fin 256, IsReal (kv (ix2 r ⟨k.val, by omega⟩)) :=
  Cert.Pre_finite_heads_b.reals x kv w b lg lb (fun _ => 0) h

end Cert.Pre_finite_mem

namespace Cert.Proof.MixBFwd

open Idealize.ShloMosaic Idealize.ShloMosaic.TcCoe Idealize.SL.Sem Cert.MemSpec

theorem frame : Cert.quiescent_MixBFwd := fun m ρ _ => Cert.MixBFwd.Gen.frame m ρ
theorem frame_ideal : Cert.quiescent_MixBFwdIdeal := fun m ρ _ => Cert.MixBFwdIdeal.Gen.frame m ρ
theorem frame_ideal_pre : Cert.quiescent_MixBFwdIdeal_pre_finite_mem := fun m ρ _ => Cert.MixBFwdIdeal.Gen.frame m ρ
theorem preserves : Cert.preserves_MixBFwd_MixBFwdIdeal := trivial

theorem frame_ref : Cert.quiescent_MixBFwdRefIdeal := fun m ρ _ =>
  (θ_run Cert.MixBFwdRefIdeal.defs _ _).mono
    (fun r h => ⟨fun c => (h c).2, Idealize.ShloMosaic.sem_eq_zero_of_no_sems (by decide) r.2⟩)
    (Cert.MixBFwdRefIdeal.Value.run m ρ)

theorem frame_ref_pre : Cert.quiescent_MixBFwdRefIdeal_pre_finite_mem := fun m ρ _ => frame_ref m ρ trivial

section Real

variable (m : (ℓ : Loc Cert.MixBFwdIdeal.nD Cert.MixBFwdIdeal.τ Cert.MixBFwdIdeal.sig) → Buf (Elt Ideal) ℓ)
  (c : Dev Cert.MixBFwdIdeal.nD) (hpre : Pre_MixBFwdIdeal_finite_mem m)

include hpre

/-- The queries are real. -/
theorem query_real (h : Fin 4) (R : Fin 8192) (l : Fin 64) :
    Reals.IsReal (MixBSpec.query (Cert.MixBFwdIdeal.Value.argP m c) h R l) := by
  have e := (Cert.Pre_finite_mem.reals _ _ _ _ _ _ (hpre c)).1 R ⟨64 * h.val + l.val, by omega⟩
  have e' : (⟨1536 + (64 * h.val + l.val), by omega⟩ : Fin 1792) = ⟨1536 + 64 * h.val + l.val, by omega⟩ :=
    Fin.ext (Nat.add_assoc _ _ _).symm
  rw [e'] at e
  exact e

/-- The memory's keys are real. -/
theorem key_real (h : Fin 4) (r : Fin 256) (l : Fin 64) :
    Reals.IsReal (MixBSpec.key (Cert.MixBFwdIdeal.Value.argM m c) h r l) :=
  (Cert.Pre_finite_mem.reals _ _ _ _ _ _ (hpre c)).2 r ⟨64 * h.val + l.val, by omega⟩

end Real

set_option maxHeartbeats 1000000 in
theorem algebraic : Cert.algebraic_MixBFwdIdeal_MixBFwdRefIdeal_pre_finite_mem := by
  pair_intro
  · run_from Cert.MixBFwdIdeal.Gen.frame m g & Cert.MixBFwdIdeal.Gen.run_main m g
    all_goals
      simp only [List.flatten_cons, List.flatten_nil, List.append_nil, List.cons_append, List.nil_append]
      after_results
  · run_from Cert.MixBFwdRefIdeal.Value.run m' g'
    all_goals
      obtain ⟨h0, h1, h2, h3, h4, h5⟩ := hagree c
    rw [Cert.MixBFwdRefIdeal.Read.val_main_v78_eq, h0, h1, h2, h3, h4, h5]
    funext i
    idx_vars i
    refine (Cert.MixBFwdRefIdeal.Read.out_at _ _ _ _ _ _ i0 i1).trans ?_
    rw [Cert.MixBFwdIdeal.Value.final8]
    refine Eq.trans ?_ (congrArg (fun a => MixBFwdSpec.outAt _ _ _ _ _ a i0 i1)
      (MixBFwdSpec.attended_eq _ _ (query_real m c hpre) (key_real m c hpre)).symm)
    rfl

end Cert.Proof.MixBFwd

end
-- ==== Proof.NormFwd.lean ====
/- The claims about the norm of the memory. -/
module

public import proofs.«01_k».proof.Defs
public import proofs.«01_k».proof.Proof.Gen.NormFwd.Frame
public import proofs.«01_k».proof.Proof.Gen.NormFwdIdeal.Frame
public import proofs.«01_k».proof.Proof.Gen.NormFwdRefIdeal.Run
public import proofs.«01_k».proof.Proof.Gen.NormFwdRefIdeal.Read
public import proofs.«01_k».proof.Proof.NormSpec
public import Idealize.ShloMosaic.Lib.Pipeline.ValueKit
public import Idealize.ShloMosaic.Lib.Pointwise
public import Idealize.ShloMosaic.Lib.Claim

@[expose] public section

set_option maxRecDepth 16384

noncomputable section

/-- One normalised row times the gain. -/
abbrev Cert.NormSpec.out (x g : Fin 1024 → EReal) (k : Fin 1024) : EReal := x k * Cert.NormSpec.rs x * g k

namespace Cert.NormFwdIdeal.Value

open Cert.NormFwdIdeal Cert.NormFwdIdeal.Gen Idealize.ShloMosaic Idealize.ShloMosaic.TcCoe Idealize.SL.Sem
open Idealize.ShloMosaic.Pipeline (Dat)
open Cert

theorem out_at (x : FVec Ideal S256x1024 .f32) (g : FVec Ideal S1x1024 .f32) (r : Fin 256) (k : Fin 1024) :
    out0_2 (F := Ideal) x g (ix2 r k) = NormSpec.out (fun k => x (ix2 r k)) (fun k => g (ix2 0 k)) k := by
  unfold out0_2
  canon_tiles y h
  all_goals
    obtain rfl : r = y 0 := Fin.ext h0
    obtain rfl : k = y 1 := Fin.ext h1
    open_payloads
    pointwise [NormSpec.rs, NormSpec.ms]
    have hy : y = ix2 (y 0) (y 1) := by funext a; fin_cases a <;> rfl
    exact congrArg (fun i => x i * NormSpec.rs (fun k => x (ix2 (y 0) k)) * g (ix2 0 (y 1))) hy

theorem idx : ∀ t : Fin cfg0.N, win0_0.index t = ![0, 0] ∧ win0_1.index t = ![0, 0] ∧ win0_2.index t = ![0, 0] :=
  (by decide +kernel : ∀ t : Fin grid0.N, _)

/-- The whole array of normalised rows. -/
def rows (x : FVec Ideal S256x1024 .f32) (g : FVec Ideal S1x1024 .f32) : FVec Ideal S256x1024 .bf16 := fun i =>
  NormSpec.out (fun k => x (ix2 (i 0) k)) (fun k => g (ix2 0 k)) (i 1)

variable (m : (ℓ : Loc nD τ sig) → Buf (Elt Ideal) ℓ)

/-- The gain reaches the kernel as one row. -/
theorem V_gain (c : Dev nD) : V m c main_v0
    = shapeCast S1x1024 (m ((c : Thread nD τ).loc main_arg1)) shapeCasts_S1024_S1x1024 := by
  unfold V; after_results; try rfl

theorem final2 (c : Dev nD) : (dats m 0 c).arrAt 2 (cfgs 0).N = rows (V m c main_arg0) (V m c main_v0) := by
  refine (dats m 0 c).arrAt_eq_of_covers 2 _ (by decide +kernel) fun t _ y => ?_
  blk_simp
  rw [after0_2]
  idx_vars y
  refine (out_at _ _ y0 y1).trans ?_
  unfold rows NormSpec.out NormSpec.rs NormSpec.ms
  pointwise []
  blk_point [iblk, idx t]

theorem rows_eq (c : Dev nD) (x : FVec Ideal S256x1024 .f32) (r : Fin 256) (k : Fin 1024) : rows x (V m c main_v0) (ix2 r k)
    = NormSpec.out (fun k => x (ix2 r k)) (fun k => m ((c : Thread nD τ).loc main_arg1) (ix1 k)) k := by
  rw [V_gain]
  unfold rows NormSpec.out
  pointwise []

end Cert.NormFwdIdeal.Value

namespace Cert.NormFwdRefIdeal.Read

open Cert.NormFwdRefIdeal Cert.NormFwdRefIdeal.Gen Idealize.ShloMosaic Idealize.ShloMosaic.TcCoe
open Cert

theorem out_at (x : FVec Ideal S256x1024 .f32) (g : FVec Ideal S1024 .f32) (r : Fin 256) (k : Fin 1024) :
    val_main_v13 (F := Ideal) x g (ix2 r k) = NormSpec.out (fun k => x (ix2 r k)) (fun k => g (ix1 k)) k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1,
    NormSpec.out, NormSpec.rs, NormSpec.ms]

end Cert.NormFwdRefIdeal.Read

namespace Cert.Proof.NormFwd

open Idealize.ShloMosaic Idealize.ShloMosaic.TcCoe Idealize.SL.Sem Cert.NormFwdIdeal.Value

theorem frame : Cert.quiescent_NormFwd := fun m ρ _ => Cert.NormFwd.Gen.frame m ρ
theorem frame_ideal : Cert.quiescent_NormFwdIdeal := fun m ρ _ => Cert.NormFwdIdeal.Gen.frame m ρ
theorem preserves : Cert.preserves_NormFwd_NormFwdIdeal := trivial

theorem frame_ref : Cert.quiescent_NormFwdRefIdeal := fun m ρ _ =>
  (θ_run Cert.NormFwdRefIdeal.defs _ _).mono
    (fun r h => ⟨fun c => (h c).2, Idealize.ShloMosaic.sem_eq_zero_of_no_sems (by decide) r.2⟩)
    (Cert.NormFwdRefIdeal.Value.run m ρ)

theorem algebraic : Cert.algebraic_NormFwdIdeal_NormFwdRefIdeal := by
  pair_intro
  · run_from Cert.NormFwdIdeal.Gen.run_main m g
  · run_from Cert.NormFwdRefIdeal.Value.run m' g'
    all_goals obtain ⟨hx, hg⟩ := hagree c
    rw [Cert.NormFwdRefIdeal.Read.val_main_v13_eq, final2, Cert.NormFwdIdeal.Gen.V_main_arg0]
    funext i
    idx_vars i
    refine (Cert.NormFwdRefIdeal.Read.out_at _ _ i0 i1).trans (Eq.trans ?_ (rows_eq m c _ i0 i1).symm)
    simp only [hx, hg]

end Cert.Proof.NormFwd

end
-- ==== Proof.MixAFwdBlock.lean ====
/- The attention mixer's forward result over all chunks and heads, and one chunk of it as its kernel computes it. -/
module

public import proofs.«01_k».proof.Proof.Gen.MixAFwdIdeal.Skeleton
public import proofs.«01_k».proof.Proof.MixAReads
public import proofs.«01_k».proof.Proof.MixAReal
public import proofs.«01_k».proof.Proof.MixBFwdBlock

@[expose] public section

set_option maxRecDepth 16384

noncomputable section

namespace Cert.MixAFwdSpec

open Idealize.ShloMosaic Cert.Reals Cert.MixASpec

variable {P : Fin 8192 → Fin 1280 → EReal} {M : Fin 256 → Fin 512 → EReal} {S : Fin 12 → EReal}

/-- The memory attention's result, where `w` gives the weights of one row of one head. -/
def attended (P : Fin 8192 → Fin 1280 → EReal) (M : Fin 256 → Fin 512 → EReal)
    (w : (Fin 64 → EReal) → (Fin 256 → Fin 64 → EReal) → Fin 256 → EReal) (h : Fin 4) (R : Fin 8192) (l : Fin 64) : EReal :=
  ∑ r : Fin 256, w (mquery P h R) (mkey M h) r * mval M h r l

/-- The result in row `i` of chunk `t` and lane `j` of slab `n`: six slabs of the window's heads (`x`), two of the
memory's (`a`). -/
def out (x : Fin 64 → Fin 12 → Fin 128 → Fin 64 → EReal) (a : Fin 4 → Fin 8192 → Fin 64 → EReal) (t : Fin 64) (n : Fin 8)
    (i j : Fin 128) : EReal :=
  if h : n.val < 6 then x t ⟨2 * n.val + j.val / 64, by omega⟩ i ⟨j.val % 64, by omega⟩
  else a ⟨2 * (n.val - 6) + j.val / 64, by omega⟩ (rowAt t i) ⟨j.val % 64, by omega⟩

/-- The same by row and column. -/
def outAt (x : Fin 64 → Fin 12 → Fin 128 → Fin 64 → EReal) (a : Fin 4 → Fin 8192 → Fin 64 → EReal) (R : Fin 8192)
    (c : Fin 1024) : EReal :=
  out x a ⟨R.val / 128, by omega⟩ ⟨c.val / 128, by omega⟩ ⟨R.val % 128, by omega⟩ ⟨c.val % 128, by omega⟩

/-- Either way of dividing by the sum of the weights gives the same for real queries and keys. -/
theorem attended_eq (hq : ∀ h R l, IsReal (mquery P h R l)) (hk : ∀ h r l, IsReal (mkey M h r l)) :
    attended P M MemSpec.weight' = attended P M MemSpec.weight := by
  funext h R l
  exact Finset.sum_congr rfl fun r _ => by rw [MemSpec.weight_eq (hq h R) (hk h)]

/-- The same of the window's heads; keys and values before the first chunk count for nothing. -/
theorem heads_eq (hP : ∀ (R : Fin 8192) (k : Fin 896), IsReal (P R ⟨k.val, by omega⟩)) (hS : ∀ h, IsReal (S h)) :
    dq (weight' P S) (val P) = dq (weight P S) (val0 P) := by
  funext t h r l
  refine Finset.sum_congr rfl fun m _ => ?_
  have hq : ∀ l, IsReal (query P t h r l) := fun l => hP _ ⟨64 * h.val + l.val, by omega⟩
  have hk : ∀ m l, IsReal (key0 P t (groupOf h) m l) := by
    intro m l
    unfold key0
    split
    · exact IsReal.zero
    · exact hP _ ⟨768 + 64 * (groupOf h).val + l.val, by omega⟩
  have e : weight' P S t h r m = weight P S t h r m := by
    unfold weight' weight
    rw [SwaSpec.weight_window (key0_seen P t (groupOf h) r)]
    exact SwaSpec.weight_eq hq hk (hS h) m
  rw [← e]
  by_cases e' : seen t r m
  · rw [val0_seen P t (groupOf h) r m e']
  · have z : weight' P S t h r m = 0 := SwaSpec.weight_out e'
    rw [z, zero_mul, zero_mul]

end Cert.MixAFwdSpec

namespace Cert.MixAFwdIdeal.Value

open Cert.MixAFwdIdeal Cert.MixAFwdIdeal.Gen Idealize.ShloMosaic Idealize.ShloMosaic.TcCoe
open Cert Cert.SwaSpec WordCmp
open Cert.MixAIdeal.Value (win and_words low_word bit_true sub_word select_slt unstack weights scores q3 z6 keysOf valsOf)
open Cert.MixBFwdIdeal.Value (beside pair)

/-! ## The window -/

theorem prev_word : ∀ n : Fin 64, (Scalar.cmpi CmpIPredicate.sgt (BitVec.ofNat 32 n.val) 0#32 = 1#1) ↔ 0 < n.val := by
  decide +kernel

theorem win_at (t : Fin 64) (c : Fin 768) : win (k0_pay43 (BitVec.ofNat 32 t.val)) c = MixASpec.seen t (row c) := by
  funext m
  unfold win MixASpec.seen
  refine decide_eq_decide.mpr ?_
  pointwise [k0_pay43]
  have hp := prev_word t
  have e1 : IntOp.cmpi .slt (BitVec.ofNat 32 m.val) 128#32 = BitVec.ofBool (decide (m.val < 128)) :=
    cmpi_slt_ofNat (w := 32) (by omega) (by omega)
  have e2 : IntOp.cmpi .sgt (BitVec.ofNat 32 m.val) (BitVec.ofNat 32 (c.val % 128)) = BitVec.ofBool (decide (c.val % 128 < m.val)) :=
    cmpi_sgt_ofNat (w := 32) (by omega) (by omega)
  have e3 : IntOp.cmpi .sge (BitVec.ofNat 32 m.val) 128#32 = BitVec.ofBool (decide (128 ≤ m.val)) :=
    cmpi_sge_ofNat (w := 32) (by omega) (by omega)
  rw [low_word, e1, e2, e3, and_words, hp]
  simp only [decide_eq_true_eq, row]
  refine or_congr Iff.rfl (and_congr_right fun h => ?_)
  have e4 : IntOp.cmpi .sle (BitVec.ofNat 32 (m.val - 128)) (BitVec.ofNat 32 (c.val % 128)) = BitVec.ofBool (decide (m.val - 128 ≤ c.val % 128)) :=
    cmpi_sle_ofNat (w := 32) (by omega) (by omega)
  rw [sub_word m h, e4, bit_true]

/-! ## One group of heads -/

/-- The values of a group mixed by its weights. -/
def mix (w : FVec Ideal S256x768 .bf16) (V : FVec Ideal S256x128 .f32) : FVec Ideal S768x128 .f32 :=
  matmul dot_S256x768_S256x128_S768x128_0_0_1_1_n_n none w (truncf .bf16 V bitsLt_bf16_f32) (constant S768x128 .f32 0x00000000#32)

theorem mix_at (w : FVec Ideal S256x768 .bf16) (V : FVec Ideal S256x128 .f32) (c : Fin 768) (l : Fin 128) :
    mix w V (ix2 c l) = ∑ m : Fin 256, w (ix2 m c) * V (ix2 m l) := by
  pointwise [mix]

/-- The numbers of the lanes. -/
abbrev lanes : IVec S1x128 32 := iota .tc S1x128 32 [1] iota_S1x128_d1_w32

/-- Slab `s` of a group's result. -/
def slabOf (T : FVec Ideal S768x128 .f32) (s : Fin 3) : FVec Ideal S128x128 .f32 :=
  (![k0_pay61 T lanes k0_pay59, k0_pay62 T lanes k0_pay59, k0_pay63 T lanes k0_pay59] : Fin 3 → _) s

theorem slabOf_at (T : FVec Ideal S768x128 .f32) (s : Fin 3) (r l : Fin 128) : slabOf T s (ix2 r l) = unstack T s r l := by
  have e : ∀ a b : Fin 768, a.val = b.val → T (ix2 a l) = T (ix2 b l) := fun a b h => by rw [Fin.ext h]
  fin_cases s
  · change k0_pay61 T lanes k0_pay59 (ix2 r l) = _
    pointwise [k0_pay61, k0_pay60, k0_pay59, lanes]
    rw [select_slt, unstack]
    exact if_congr Iff.rfl (e _ _ (by simp)) (e _ _ (by simp))
  · change k0_pay62 T lanes k0_pay59 (ix2 r l) = _
    pointwise [k0_pay62, k0_pay60, k0_pay59, lanes]
    rw [select_slt, unstack]
    exact if_congr Iff.rfl (e _ _ (by simp)) (e _ _ (by simp))
  · change k0_pay63 T lanes k0_pay59 (ix2 r l) = _
    pointwise [k0_pay63, k0_pay60, k0_pay59, lanes]
    rw [select_slt, unstack]
    exact if_congr Iff.rfl (e _ _ (by simp)) (e _ _ (by simp))

section Group

variable (M : IVec S256x768 1) (a b e : FVec Ideal S128x128 .f32) (K V : FVec Ideal S256x128 .f32)
  (z0 z1 z2 z3 z4 z5 : FVec Ideal S1x1 .f32)

theorem scores_eq : k0_pay44 a b e K M lanes 64#32 = scores M a b e K := rfl

theorem first_eq : k0_pay47 V (k0_pay44 a b e K M lanes 64#32) (k0_pay45 z0 z1 z2 z3 z4 z5)
    (k0_pay46 a b e K z0 z1 z2 z3 z4 z5 M lanes 64#32) = mix (weights M a b e K z0 z1 z2 z3 z4 z5) V := by
  unfold k0_pay46 weights
  rw [scores_eq]
  rfl

theorem second_eq : k0_pay58 b e K V z0 z1 z2 z3 z4 z5 M k0_pay52 (k0_pay53 a) (k0_pay54 a) (k0_pay55 b) k0_pay56 k0_pay57
    = mix (weights M a b e K z0 z1 z2 z3 z4 z5) V := by
  unfold weights
  rw [← scores_eq]
  rfl

end Group

/-! ## One chunk -/

variable (M : IVec S256x768 1) (X : FVec Ideal S128x768 .bf16) (kp kc vp vc : FVec Ideal S128x128 .bf16)
  (Q : FVec Ideal S128x256 .bf16) (S : FVec Ideal S16x128 .f32) (Km Vm : FVec Ideal S256x256 .bf16)

/-- The result of group `g`, stacked. -/
def groupOut (g : Fin 2) : FVec Ideal S768x128 .f32 :=
  mix (weights M (q3 X g 0) (q3 X g 1) (q3 X g 2) (keysOf kp kc g) (z6 S g 0) (z6 S g 1) (z6 S g 2) (z6 S g 3) (z6 S g 4) (z6 S g 5))
    (valsOf vp vc g)

/-- A chunk of the result. -/
def chunkOut : FVec Ideal S128x1024 .bf16 :=
  beside ![slabOf (groupOut M X kp kc vp vc S 0) 0, slabOf (groupOut M X kp kc vp vc S 0) 1, slabOf (groupOut M X kp kc vp vc S 0) 2,
    slabOf (groupOut M X kp kc vp vc S 1) 0, slabOf (groupOut M X kp kc vp vc S 1) 1, slabOf (groupOut M X kp kc vp vc S 1) 2,
    pair Q Km Vm 0, pair Q Km Vm 1]

/-! ## The kernel's own steps are these -/

theorem groupOut0 : groupOut M X kp kc vp vc S 0 = mix (weights M (k0_pay8 X) (k0_pay9 X) (k0_pay10 X)
    (k0_pay18 (k0_pay14 kp kc) (k0_pay15 kp kc) k0_pay17) (k0_pay25 (k0_pay5 S)) (k0_pay26 (k0_pay5 S)) (k0_pay27 (k0_pay5 S))
    (k0_pay28 (k0_pay5 S)) (k0_pay29 (k0_pay5 S)) (k0_pay30 (k0_pay5 S))) (k0_pay23 (k0_pay2 vp) (k0_pay3 vc)) := rfl

theorem groupOut1 : groupOut M X kp kc vp vc S 1 = mix (weights M (k0_pay11 X) (k0_pay12 X) (k0_pay13 X)
    (k0_pay19 (k0_pay14 kp kc) (k0_pay15 kp kc) k0_pay16) (k0_pay31 (k0_pay5 S)) (k0_pay32 (k0_pay5 S)) (k0_pay33 (k0_pay5 S))
    (k0_pay34 (k0_pay5 S)) (k0_pay35 (k0_pay5 S)) (k0_pay36 (k0_pay5 S))) (k0_pay24 (k0_pay2 vp) (k0_pay3 vc)) := rfl

theorem slab0 (V : FVec Ideal S256x128 .f32) (s : FVec Ideal S256x768 .f32) (z t : FVec Ideal S1x768 .f32) :
    k0_pay49 V s z t = slabOf (k0_pay47 V s z t) 0 := rfl

theorem slab1 (V : FVec Ideal S256x128 .f32) (s : FVec Ideal S256x768 .f32) (z t : FVec Ideal S1x768 .f32) :
    k0_pay50 V s z t = slabOf (k0_pay47 V s z t) 1 := rfl

theorem slab2 (V : FVec Ideal S256x128 .f32) (s : FVec Ideal S256x768 .f32) (z t : FVec Ideal S1x768 .f32) :
    k0_pay51 V s z t = slabOf (k0_pay47 V s z t) 2 := rfl

theorem last_eq (x0 x1 x2 x3 x4 x5 : FVec Ideal S128x128 .f32) : k0_pay66 (k0_pay38 (k0_pay4 Q)) (k0_pay40 (k0_pay6 Km))
    (k0_pay42 (k0_pay7 Vm)) x0 x1 x2 x3 x4 x5
    (k0_pay64 (k0_pay37 (k0_pay4 Q)) (k0_pay39 (k0_pay6 Km)) (k0_pay41 (k0_pay7 Vm))) k0_pay65
    = beside ![x0, x1, x2, x3, x4, x5, pair Q Km Vm 0, pair Q Km Vm 1] := rfl

end Cert.MixAFwdIdeal.Value

end
-- ==== Proof.MixAFwdKernel.lean ====
/- What the attention mixer's forward kernel leaves in its result, of the problem's own arrays. -/
module

public import proofs.«01_k».proof.Proof.Gen.MixAFwdIdeal.Frame
public import proofs.«01_k».proof.Proof.MixAFwdBlock
public import Idealize.ShloMosaic.Lib.Pipeline.ValueKit
public import Idealize.ShloMosaic.Lib.Claim

@[expose] public section

set_option maxRecDepth 16384

noncomputable section

namespace Cert.MixAFwdIdeal.Value

open Cert.MixAFwdIdeal Cert.MixAFwdIdeal.Gen Idealize.ShloMosaic Idealize.ShloMosaic.TcCoe Idealize.SL.Sem
open Idealize.ShloMosaic.Pipeline (Dat)
open Cert
open Cert.MixAIdeal.Value (win unstack weights weights_at rowsAt q3 z6 keysOf valsOf keysOf_at valsOf_at slabQ_at sinkOf_at lead within
  slab_place row_place lane_place slabs slabs_three sinkAt sinkAt_six)
open Cert.MixBIdeal.Value (at2 pairQ pairK pairV pairQ_at pairK_at pairV_at)
open Cert.MixBFwdIdeal.Value (beside beside_at pair pair_at)

variable (m : (ℓ : Loc nD τ sig) → Buf (Elt Ideal) ℓ)

theorem idx : ∀ t : Fin cfg0.N, win0_0.index t = ![t.val, 0] ∧ win0_1.index t = ![t.val - 1, 6]
    ∧ win0_2.index t = ![t.val, 6] ∧ win0_3.index t = ![t.val - 1, 7] ∧ win0_4.index t = ![t.val, 7]
    ∧ win0_5.index t = ![t.val, 4] ∧ win0_6.index t = ![0, 0] ∧ win0_7.index t = ![0, 0] ∧ win0_8.index t = ![0, 1]
    ∧ win0_9.index t = ![t.val, 0] :=
  (by decide +kernel : ∀ t : Fin grid0.N, _)

theorem coord (t : Fin cfg0.N) : (grid0.coords t 0).val = t.val := (by decide +kernel : ∀ t : Fin grid0.N, (grid0.coords t 0).val = t.val) t

/-- The chunk of a grid point. -/
abbrev chunk (t : Fin cfg0.N) : Fin 64 := ⟨t.val, t.isLt⟩

/-! ## The arrays -/

section Arrays

variable (c : Dev nD)

abbrev arrP (R : Fin 8192) (k : Fin 1280) : EReal := m ((c : Thread nD τ).loc main_arg0) (ix2 R k)

abbrev arrM (r : Fin 256) (k : Fin 512) : EReal := m ((c : Thread nD τ).loc main_arg1) (ix2 r k)

abbrev arrS (h : Fin 12) : EReal := m ((c : Thread nD τ).loc main_arg2) (ix1 h)

theorem V_proj (R : Fin 8192) (k : Fin 1280) : V m c main_v3 (ix2 R k) = arrP m c R k := by
  have h : V m c main_v3 = truncf (F := Ideal) .bf16 (m ((c : Thread nD τ).loc main_arg0)) bitsLt_bf16_f32 := by
    unfold V
    simp only [List.flatten_cons, List.flatten_nil, List.append_nil, List.cons_append, List.nil_append]
    after_results
    try rfl
  rw [h]
  pointwise []

theorem V_mem (r : Fin 256) (k : Fin 512) : V m c main_v4 (ix2 r k) = arrM m c r k := by
  have h : V m c main_v4 = truncf (F := Ideal) .bf16 (m ((c : Thread nD τ).loc main_arg1)) bitsLt_bf16_f32 := by
    unfold V
    simp only [List.flatten_cons, List.flatten_nil, List.append_nil, List.cons_append, List.nil_append]
    after_results
    try rfl
  rw [h]
  pointwise []

/-- The sinks as a column with four more rows below. -/
theorem padded (x : FVec Ideal S12 .f32) (g : Fin 12) : pad (α := EReal) S16x128 ![0, 0] ![4, 0] ![0, 0]
    (broadcastInDim S12x128 ![0, 1] bcast_S12x1_S12x128_0_1 (broadcastInDim S12x1 ![0] bcast_S12_S12x1_0 x))
    (sitofp (F := Ideal) .f32 (constantI S_ 32 0#32)) pads_S12x128_S16x128_040_000 h_S_
    (ix2 (⟨g.val, by omega⟩ : Fin 16) (0 : Fin 128)) = x (ix1 g) := by
  pointwise []

theorem V_sinks (g : Fin 12) : V m c main_v2 (ix2 (⟨g.val, by omega⟩ : Fin 16) (0 : Fin 128)) = arrS m c g := by
  have h : V m c main_v2 = pad (α := EReal) S16x128 ![0, 0] ![4, 0] ![0, 0]
      (broadcastInDim S12x128 ![0, 1] bcast_S12x1_S12x128_0_1 (broadcastInDim S12x1 ![0] bcast_S12_S12x1_0 (m ((c : Thread nD τ).loc main_arg2))))
      (sitofp (F := Ideal) .f32 (constantI S_ 32 0#32)) pads_S12x128_S16x128_040_000 h_S_ := by
    unfold V
    simp only [List.flatten_cons, List.flatten_nil, List.append_nil, List.cons_append, List.nil_append]
    after_results
    try rfl
  rw [h]
  exact padded _ g

end Arrays

/-! ## The blocks -/

theorem blockX (c : Dev nD) (t : Fin cfg0.N) (i : Fin 128) (k : Fin 768) :
    X0_0 m c t (ix2 i k) = arrP m c (MixASpec.rowAt (chunk t) i) ⟨k.val, by omega⟩ := by
  rw [← V_proj]
  unfold X0_0 Pipeline.Window.fill
  rw [dif_pos (moved0_0 t _)]
  unfold MixASpec.rowAt
  blk_point [iblk, idx t]

theorem blockKp (c : Dev nD) (t : Fin cfg0.N) (i : Fin 128) (k : Fin 128) :
    iblk m c 1 t (ix2 i k) = arrP m c (⟨128 * (t.val - 1) + i.val, by have : t.val < 64 := t.isLt; omega⟩ : Fin 8192) ⟨768 + k.val, by omega⟩ := by
  rw [← V_proj]
  blk_point [iblk, idx t]

theorem blockKc (c : Dev nD) (t : Fin cfg0.N) (i : Fin 128) (k : Fin 128) :
    iblk m c 2 t (ix2 i k) = arrP m c (MixASpec.rowAt (chunk t) i) ⟨768 + k.val, by omega⟩ := by
  rw [← V_proj]
  unfold MixASpec.rowAt
  blk_point [iblk, idx t]

theorem blockVp (c : Dev nD) (t : Fin cfg0.N) (i : Fin 128) (k : Fin 128) :
    iblk m c 3 t (ix2 i k) = arrP m c (⟨128 * (t.val - 1) + i.val, by have : t.val < 64 := t.isLt; omega⟩ : Fin 8192) ⟨896 + k.val, by omega⟩ := by
  rw [← V_proj]
  blk_point [iblk, idx t]

theorem blockVc (c : Dev nD) (t : Fin cfg0.N) (i : Fin 128) (k : Fin 128) :
    iblk m c 4 t (ix2 i k) = arrP m c (MixASpec.rowAt (chunk t) i) ⟨896 + k.val, by omega⟩ := by
  rw [← V_proj]
  unfold MixASpec.rowAt
  blk_point [iblk, idx t]

theorem blockQ (c : Dev nD) (t : Fin cfg0.N) (i : Fin 128) (k : Fin 256) :
    iblk m c 5 t (ix2 i k) = arrP m c (MixASpec.rowAt (chunk t) i) ⟨1024 + k.val, by omega⟩ := by
  rw [← V_proj]
  unfold MixASpec.rowAt
  blk_point [iblk, idx t]

theorem blockS (c : Dev nD) (t : Fin cfg0.N) (i : Fin 16) (k : Fin 128) : iblk m c 6 t (ix2 i k) = V m c main_v2 (ix2 i k) := by
  blk_point [iblk, idx t]

theorem blockK (c : Dev nD) (t : Fin cfg0.N) (i : Fin 256) (k : Fin 256) :
    iblk m c 7 t (ix2 i k) = arrM m c i ⟨k.val, by omega⟩ := by
  rw [← V_mem]
  blk_point [iblk, idx t]

theorem blockV (c : Dev nD) (t : Fin cfg0.N) (i : Fin 256) (k : Fin 256) :
    iblk m c 8 t (ix2 i k) = arrM m c i ⟨256 + k.val, by omega⟩ := by
  rw [← V_mem]
  blk_point [iblk, idx t]

/-! ## The window's heads -/

section Point

open Cert.SwaSpec

variable (c : Dev nD) (t : Fin cfg0.N)

theorem slab_q (g : Fin 2) (s : Fin 3) (r l : Fin 128) : slabs (q3 (X0_0 m c t) g 0) (q3 (X0_0 m c t) g 1) (q3 (X0_0 m c t) g 2) s r l
    = MixASpec.query (arrP m c) (chunk t) (MixASpec.headOf g (lead s l)) r (within l) := by
  refine (slabs_three (q3 (X0_0 m c t) g) s r l).trans ((slabQ_at _ _ r l).trans ((blockX m c t r _).trans ?_))
  unfold MixASpec.query arrP
  congr 3
  simp only [MixASpec.headOf, within]
  omega

theorem head_q (g : Fin 2) (s : Fin 3) (l r : Fin 128) :
    head (slabs (q3 (X0_0 m c t) g 0) (q3 (X0_0 m c t) g 1) (q3 (X0_0 m c t) g 2)) (place s l r)
      = MixASpec.query (arrP m c) (chunk t) (MixASpec.headOf g (lead s l)) r := by
  funext k
  unfold head
  rw [slab_q, slab_place, row_place]
  have := lane_place s l r k
  congr 2
  · exact Fin.ext (by simp only [lead]; omega)
  · exact Fin.ext (by simp only [within]; omega)

theorem keys_pt (g : Fin 2) (i : Fin 256) (l : Fin 128) :
    keysOf (iblk m c 1 t) (iblk m c 2 t) g (ix2 i l) = MixASpec.key (arrP m c) (chunk t) g i (within l) := by
  refine (keysOf_at _ _ g i l).trans ?_
  unfold MixASpec.key MixASpec.keyRow
  split
  · refine (blockKp m c t _ _).trans ?_
    unfold arrP
    congr 2
    · exact Fin.ext (by simp only; omega)
    · exact Fin.ext (by simp only; omega)
  · refine (blockKc m c t _ _).trans ?_
    unfold arrP MixASpec.rowAt
    congr 2
    · exact Fin.ext (by simp only; omega)
    · exact Fin.ext (by simp only; omega)

theorem vals_pt (g : Fin 2) (i : Fin 256) (l : Fin 128) :
    valsOf (iblk m c 3 t) (iblk m c 4 t) g (ix2 i l) = MixASpec.val (arrP m c) (chunk t) g i (within l) := by
  refine (valsOf_at _ _ g i l).trans ?_
  unfold MixASpec.val MixASpec.keyRow
  split
  · refine (blockVp m c t _ _).trans ?_
    unfold arrP
    congr 2
    · exact Fin.ext (by simp only; omega)
    · exact Fin.ext (by simp only; omega)
  · refine (blockVc m c t _ _).trans ?_
    unfold arrP MixASpec.rowAt
    congr 2
    · exact Fin.ext (by simp only; omega)
    · exact Fin.ext (by simp only; omega)

theorem mem_k (g : Fin 2) (x : Fin 768) : mem (rowsAt (keysOf (iblk m c 1 t) (iblk m c 2 t) g)) x = MixASpec.key (arrP m c) (chunk t) g := by
  funext i k
  refine (keys_pt m c t g i (lane x k)).trans (congrArg _ (Fin.ext ?_))
  simp only [within, lane]
  omega

theorem sink_pt (g : Fin 2) (s : Fin 3) (l r : Fin 128) : sinkAt (z6 (iblk m c 6 t) g 0) (z6 (iblk m c 6 t) g 1) (z6 (iblk m c 6 t) g 2)
    (z6 (iblk m c 6 t) g 3) (z6 (iblk m c 6 t) g 4) (z6 (iblk m c 6 t) g 5) (place s l r) = arrS m c (MixASpec.headOf g (lead s l)) := by
  refine (sinkAt_six (z6 (iblk m c 6 t) g) _).trans ((sinkOf_at _ _).trans ((blockS m c t _ _).trans ?_))
  have e : (⟨(place s l r).val / 128, by omega⟩ : Fin 6) = lead s l := Fin.ext (by simp only [place, lead]; omega)
  rw [e]
  exact V_sinks m c _

/-- The mask of a grid point. -/
abbrev mask : IVec S256x768 1 := k0_pay43 (BitVec.ofNat 32 (grid0.coords t 0).val)

theorem window_pt (s : Fin 3) (l r : Fin 128) : win (mask t) (place s l r) = MixASpec.seen (chunk t) r := by
  have e : mask t = k0_pay43 (BitVec.ofNat 32 (chunk t).val) := by
    change k0_pay43 (BitVec.ofNat 32 (grid0.coords t 0).val) = _
    rw [coord]
  rw [e, win_at, row_place]

/-- The result of group `g`, stacked, at a grid point. -/
abbrev group (g : Fin 2) : FVec Ideal S768x128 .f32 :=
  groupOut (mask t) (X0_0 m c t) (iblk m c 1 t) (iblk m c 2 t) (iblk m c 3 t) (iblk m c 4 t) (iblk m c 6 t) g

theorem group_pt (g : Fin 2) (s : Fin 3) (r l : Fin 128) : group m c t g (ix2 (place s l r) l)
    = MixASpec.dq (MixASpec.weight' (arrP m c) (arrS m c)) (MixASpec.val (arrP m c)) (chunk t) (MixASpec.headOf g (lead s l)) r (within l) := by
  refine (mix_at _ _ _ l).trans (Finset.sum_congr rfl fun i _ => ?_)
  rw [weights_at, window_pt, head_q, mem_k, sink_pt, vals_pt]
  unfold MixASpec.weight'
  rw [MixASpec.groupOf_headOf]

theorem slab_pt (g : Fin 2) (s : Fin 3) (r l : Fin 128) (n : Fin 8) (hn : n.val = 3 * g.val + s.val)
    (a : Fin 4 → Fin 8192 → Fin 64 → EReal) : slabOf (group m c t g) s (ix2 r l)
    = MixAFwdSpec.out (MixASpec.dq (MixASpec.weight' (arrP m c) (arrS m c)) (MixASpec.val (arrP m c))) a (chunk t) n r l := by
  have h : unstack (group m c t g) s r l = group m c t g (ix2 (place s l r) l) := by
    unfold unstack
    split
    · refine congrArg (fun x => group m c t g (ix2 x l)) (Fin.ext ?_)
      simp only [place]; omega
    · refine congrArg (fun x => group m c t g (ix2 x l)) (Fin.ext ?_)
      simp only [place]; omega
  rw [slabOf_at, h, group_pt]
  unfold MixAFwdSpec.out
  rw [dif_pos (show n.val < 6 by omega)]
  have e : MixASpec.headOf g (lead s l) = ⟨2 * n.val + l.val / 64, by omega⟩ :=
    Fin.ext (by simp only [MixASpec.headOf]; omega)
  rw [e]

end Point

/-! ## The memory's heads -/

section Memory

open Cert.MemSpec
open Cert.MixAIdeal.Value (headOf mrow_place mlane_place)

variable (c : Dev nD) (t : Fin cfg0.N)

theorem pair_pt (p : Fin 2) (i l : Fin 128) (n : Fin 8) (hn : n.val = 6 + p.val)
    (x : Fin 64 → Fin 12 → Fin 128 → Fin 64 → EReal) : pair (iblk m c 5 t) (iblk m c 7 t) (iblk m c 8 t) p (ix2 i l)
    = MixAFwdSpec.out x (MixAFwdSpec.attended (arrP m c) (arrM m c) weight') (chunk t) n i l := by
  have hQ : head (at2 (pairQ (iblk m c 5 t) p)) (place l i) = MixASpec.mquery (arrP m c) (headOf p l) (MixASpec.rowAt (chunk t) i) := by
    funext k
    unfold head
    rw [mrow_place]
    refine (pairQ_at _ p i _).trans ((blockQ m c t i _).trans ?_)
    unfold MixASpec.mquery arrP
    have := mlane_place l i k
    congr 3
    simp only [headOf]
    omega
  have hK : mem (fun i j => pairK (iblk m c 7 t) p (ix2 i j)) (place l i) = MixASpec.mkey (arrM m c) (headOf p l) := by
    funext r k
    unfold mem
    refine (pairK_at _ p r _).trans ((blockK m c t r _).trans ?_)
    unfold MixASpec.mkey arrM
    have := mlane_place l i k
    congr 3
    simp only [headOf]
    omega
  have h : pair (iblk m c 5 t) (iblk m c 7 t) (iblk m c 8 t) p (ix2 i l)
      = MixAFwdSpec.attended (arrP m c) (arrM m c) weight' (headOf p l) (MixASpec.rowAt (chunk t) i) (within l) := by
    rw [pair_at, hQ, hK]
    refine Finset.sum_congr rfl fun r _ => congrArg (_ * ·) ((pairV_at _ p r l).trans ((blockV m c t r _).trans ?_))
    unfold MixASpec.mval arrM
    congr 3
    simp only [headOf, within]
    omega
  rw [h]
  unfold MixAFwdSpec.out
  rw [dif_neg (show ¬n.val < 6 by omega)]
  have e : headOf p l = ⟨2 * (n.val - 6) + l.val / 64, by omega⟩ := Fin.ext (by simp only [headOf]; omega)
  rw [e]

end Memory

/-! ## One chunk of the result -/

variable (c : Dev nD)

/-- The result in slab `n`. -/
abbrev outSlab := MixAFwdSpec.out (MixASpec.dq (MixASpec.weight' (arrP m c) (arrS m c)) (MixASpec.val (arrP m c)))
  (MixAFwdSpec.attended (arrP m c) (arrM m c) MemSpec.weight')

theorem eight (a0 a1 a2 a3 a4 a5 a6 a7 : FVec Ideal S128x128 .f32) (n : Fin 8) (i j : Fin 128) (f : Fin 8 → EReal)
    (h0 : a0 (ix2 i j) = f 0) (h1 : a1 (ix2 i j) = f 1) (h2 : a2 (ix2 i j) = f 2) (h3 : a3 (ix2 i j) = f 3) (h4 : a4 (ix2 i j) = f 4)
    (h5 : a5 (ix2 i j) = f 5) (h6 : a6 (ix2 i j) = f 6) (h7 : a7 (ix2 i j) = f 7) :
    (![a0, a1, a2, a3, a4, a5, a6, a7] : Fin 8 → FVec Ideal S128x128 .f32) n (ix2 i j) = f n := by
  fin_cases n
  · exact h0
  · exact h1
  · exact h2
  · exact h3
  · exact h4
  · exact h5
  · exact h6
  · exact h7

theorem chunk_pt (t : Fin cfg0.N) (n : Fin 8) (i j : Fin 128) :
    chunkOut (mask t) (X0_0 m c t) (iblk m c 1 t) (iblk m c 2 t) (iblk m c 3 t) (iblk m c 4 t) (iblk m c 5 t) (iblk m c 6 t) (iblk m c 7 t)
        (iblk m c 8 t) (ix2 i ⟨128 * n.val + j.val, by omega⟩) = outSlab m c (chunk t) n i j := by
  have h0 := slab_pt m c t 0 0 i j 0 (by decide) (MixAFwdSpec.attended (arrP m c) (arrM m c) MemSpec.weight')
  have h1 := slab_pt m c t 0 1 i j 1 (by decide) (MixAFwdSpec.attended (arrP m c) (arrM m c) MemSpec.weight')
  have h2 := slab_pt m c t 0 2 i j 2 (by decide) (MixAFwdSpec.attended (arrP m c) (arrM m c) MemSpec.weight')
  have h3 := slab_pt m c t 1 0 i j 3 (by decide) (MixAFwdSpec.attended (arrP m c) (arrM m c) MemSpec.weight')
  have h4 := slab_pt m c t 1 1 i j 4 (by decide) (MixAFwdSpec.attended (arrP m c) (arrM m c) MemSpec.weight')
  have h5 := slab_pt m c t 1 2 i j 5 (by decide) (MixAFwdSpec.attended (arrP m c) (arrM m c) MemSpec.weight')
  have h6 := pair_pt m c t 0 i j 6 (by decide) (MixASpec.dq (MixASpec.weight' (arrP m c) (arrS m c)) (MixASpec.val (arrP m c)))
  have h7 := pair_pt m c t 1 i j 7 (by decide) (MixASpec.dq (MixASpec.weight' (arrP m c) (arrS m c)) (MixASpec.val (arrP m c)))
  unfold group at h0 h1 h2 h3 h4 h5
  unfold chunkOut outSlab
  rw [beside_at]
  exact eight _ _ _ _ _ _ _ _ n i j (fun n => MixAFwdSpec.out _ _ (chunk t) n i j) h0 h1 h2 h3 h4 h5 h6 h7

/-! ## The result -/

/-- The result as an array. -/
def outArr : FVec Ideal S8192x1024 .bf16 := fun i =>
  MixAFwdSpec.outAt (MixASpec.dq (MixASpec.weight' (arrP m c) (arrS m c)) (MixASpec.val (arrP m c)))
    (MixAFwdSpec.attended (arrP m c) (arrM m c) MemSpec.weight') (i 0) (i 1)

theorem outs_eq (t : Fin cfg0.N) : outsAt0 m c t
    = chunkOut (mask t) (X0_0 m c t) (iblk m c 1 t) (iblk m c 2 t) (iblk m c 3 t) (iblk m c 4 t) (iblk m c 5 t) (iblk m c 6 t) (iblk m c 7 t)
        (iblk m c 8 t) := by
  unfold outsAt0 chunkOut
  rw [← last_eq, groupOut0, groupOut1, ← first_eq, ← second_eq, ← slab0, ← slab1, ← slab2]
  frame_out
  try rfl

theorem final9 : (dats m 0 c).arrAt 9 (cfgs 0).N = outArr m c := by
  refine (dats m 0 c).arrAt_eq_of_covers 9 _ (by decide +kernel) fun t _ y => ?_
  blk_simp
  rw [after0_9, outs_eq]
  idx_vars y
  have h := chunk_pt m c t ⟨y1.val / 128, by omega⟩ y0 ⟨y1.val % 128, by omega⟩
  have e : (⟨128 * (y1.val / 128) + y1.val % 128, by omega⟩ : Fin 1024) = y1 := Fin.ext (by simp only; omega)
  rw [e] at h
  refine h.trans ?_
  have e1 : (⟨(MixASpec.rowAt (chunk t) y0).val / 128, by omega⟩ : Fin 64) = chunk t :=
    Fin.ext (by simp only [MixASpec.rowAt]; omega)
  have e2 : (⟨(MixASpec.rowAt (chunk t) y0).val % 128, by omega⟩ : Fin 128) = y0 :=
    Fin.ext (by simp only [MixASpec.rowAt]; omega)
  have ho : outSlab m c (chunk t) ⟨y1.val / 128, by omega⟩ y0 ⟨y1.val % 128, by omega⟩
      = outArr m c (ix2 (MixASpec.rowAt (chunk t) y0) y1) := by
    change _ = MixAFwdSpec.outAt _ _ (MixASpec.rowAt (chunk t) y0) y1
    unfold MixAFwdSpec.outAt
    rw [e1, e2]
  rw [ho]
  generalize outArr m c = f
  unfold MixASpec.rowAt
  blk_point [idx t]

end Cert.MixAFwdIdeal.Value

end
-- ==== Proof.MixAFwdRef.lean ====
/- The reference of the attention mixer's forward call. Its weights are those on which the gradient's reference works. -/
module

public import proofs.«01_k».proof.Proof.Gen.MixAFwdRefIdeal.Read
public import proofs.«01_k».proof.Proof.MixARefRow
public import proofs.«01_k».proof.Proof.MixAFwdBlock
public import Idealize.ShloMosaic.Lib.Pointwise

@[expose] public section

set_option maxRecDepth 16384

noncomputable section

namespace Cert.MixAFwdRefIdeal.Read

open Cert.MixAFwdRefIdeal Cert.MixAFwdRefIdeal.Gen Idealize.ShloMosaic Idealize.ShloMosaic.TcCoe Idealize.SL.Sem
open Cert
open Cert.MixARefIdeal.Read (proj memo sinks)

variable (x0 : FVec Ideal S8192x1280 .f32) (x1 : FVec Ideal S256x512 .f32) (x2 : FVec Ideal S12 .f32)

/-! ## What the gradient's reference computes too -/

theorem weights_same : val_main_v70 (F := Ideal) x0 x2 = Cert.MixARefIdeal.Read.val_main_v95 (F := Ideal) x0 x2 := rfl

theorem values_same : val_main_v19 (F := Ideal) x0 = Cert.MixARefIdeal.Read.val_main_v21 (F := Ideal) x0 := rfl

theorem mweights_same : val_main_v92 (F := Ideal) x0 x1 = Cert.MixARefIdeal.Read.val_main_v134 (F := Ideal) x0 x1 := rfl

theorem mvalues_same : val_main_v78 (F := Ideal) x1 = Cert.MixARefIdeal.Read.val_main_v106 (F := Ideal) x1 := rfl

/-! ## The window's heads -/

section Row

variable (t : Fin 64) (g : Fin 2) (j : Fin 6) (r : Fin 128)

theorem heads_at (l : Fin 64) : val_main_v72 (F := Ideal) x0 x2 (ix5 t r g j l)
    = MixASpec.dq (MixASpec.weight (proj x0) (sinks x2)) (MixASpec.val0 (proj x0)) t (MixASpec.headOf g j) r l := by
  pointwise [val_main_v72, val_main_v71, weights_same, values_same, Cert.MixARefIdeal.Read.weight_at, Cert.MixARefIdeal.Read.v_at]
  unfold MixASpec.dq MixASpec.weight
  rw [MixASpec.groupOf_headOf]
  exact Finset.sum_congr rfl fun _ _ => mul_comm _ _

end Row

theorem window_at (R : Fin 8192) (k : Fin 768) : val_main_v73 (F := Ideal) x0 x2 (ix2 R k)
    = MixASpec.dq (MixASpec.weight (proj x0) (sinks x2)) (MixASpec.val0 (proj x0)) ⟨R.val / 128, by omega⟩ ⟨k.val / 64, by omega⟩
        ⟨R.val % 128, by omega⟩ ⟨k.val % 64, by omega⟩ := by
  have h := heads_at x0 x2 ⟨R.val / 128, by omega⟩ ⟨k.val / 384, by omega⟩ ⟨k.val % 384 / 64, by omega⟩ ⟨R.val % 128, by omega⟩
    ⟨k.val % 64, by omega⟩
  have e : MixASpec.headOf ⟨k.val / 384, by omega⟩ ⟨k.val % 384 / 64, by omega⟩ = ⟨k.val / 64, by omega⟩ :=
    Fin.ext (by simp only [MixASpec.headOf]; omega)
  rw [e] at h
  rw [← h]
  generalize hw : val_main_v72 (F := Ideal) x0 x2 = w
  pointwise [val_main_v73, hw]
  congr 1
  funext a
  match a with
  | ⟨0, _⟩ => exact Fin.ext (by first | rfl | (simp; try omega))
  | ⟨1, _⟩ => exact Fin.ext (by first | rfl | (simp; try omega))
  | ⟨2, _⟩ => exact Fin.ext (by first | rfl | (simp; try omega))
  | ⟨3, _⟩ => exact Fin.ext (by first | rfl | (simp; try omega))
  | ⟨4, _⟩ => exact Fin.ext (by first | rfl | (simp; try omega))

/-! ## The memory's heads -/

theorem attended_at (R : Fin 8192) (c : Fin 256) : val_main_v95 (F := Ideal) x0 x1 (ix2 R c)
    = MixAFwdSpec.attended (proj x0) (memo x1) MemSpec.weight ⟨c.val / 64, by omega⟩ R ⟨c.val % 64, by omega⟩ := by
  pointwise [val_main_v95, val_main_v94, val_main_v93, mweights_same, mvalues_same, Cert.MixARefIdeal.Read.mweight_at,
    Cert.MixARefIdeal.Read.mv_at, MixAFwdSpec.attended]
  exact Finset.sum_congr rfl fun r _ => mul_comm _ _

/-! ## The result -/

theorem window_col (R : Fin 8192) (c : Fin 768) :
    val_main_v97 (F := Ideal) x0 x1 x2 (ix2 R ⟨c.val, by omega⟩) = val_main_v73 (F := Ideal) x0 x2 (ix2 R c) := by
  generalize h3 : val_main_v73 (F := Ideal) x0 x2 = w
  generalize h5 : val_main_v95 (F := Ideal) x0 x1 = w'
  pointwise [val_main_v97, val_main_v96, h3, h5]

theorem memory_col (R : Fin 8192) (c : Fin 256) :
    val_main_v97 (F := Ideal) x0 x1 x2 (ix2 R ⟨768 + c.val, by omega⟩) = val_main_v95 (F := Ideal) x0 x1 (ix2 R c) := by
  generalize h3 : val_main_v73 (F := Ideal) x0 x2 = w
  generalize h5 : val_main_v95 (F := Ideal) x0 x1 = w'
  pointwise [val_main_v97, val_main_v96, h3, h5]

theorem out_at (R : Fin 8192) (k : Fin 1024) : val_main_v97 (F := Ideal) x0 x1 x2 (ix2 R k)
    = MixAFwdSpec.outAt (MixASpec.dq (MixASpec.weight (proj x0) (sinks x2)) (MixASpec.val0 (proj x0)))
        (MixAFwdSpec.attended (proj x0) (memo x1) MemSpec.weight) R k := by
  unfold MixAFwdSpec.outAt MixAFwdSpec.out
  by_cases h : k.val < 768
  · rw [dif_pos (show k.val / 128 < 6 by omega)]
    refine (window_col x0 x1 x2 R ⟨k.val, h⟩).trans ((window_at x0 x2 R ⟨k.val, h⟩).trans ?_)
    congr 1
    · exact Fin.ext (by change k.val / 64 = 2 * (k.val / 128) + k.val % 128 / 64; omega)
    · exact Fin.ext (by change k.val % 64 = k.val % 128 % 64; omega)
  · rw [dif_neg (show ¬k.val / 128 < 6 by omega)]
    have e : k = ⟨768 + (k.val - 768), by omega⟩ := Fin.ext (by simp only; omega)
    refine (congrArg (fun k => val_main_v97 (F := Ideal) x0 x1 x2 (ix2 R k)) e).trans ?_
    refine (memory_col x0 x1 x2 R ⟨k.val - 768, by omega⟩).trans ((attended_at x0 x1 R _).trans ?_)
    have e1 : MixASpec.rowAt ⟨R.val / 128, by omega⟩ ⟨R.val % 128, by omega⟩ = R :=
      Fin.ext (by change 128 * (R.val / 128) + R.val % 128 = R.val; omega)
    rw [e1]
    congr 1
    · exact Fin.ext (by change (k.val - 768) / 64 = 2 * (k.val / 128 - 6) + k.val % 128 / 64; omega)
    · exact Fin.ext (by change (k.val - 768) % 64 = k.val % 128 % 64; omega)

end Cert.MixAFwdRefIdeal.Read

end
-- ==== Proof.MixAFwd.lean ====
/- The claims about the attention mixer's forward call. -/
module

public import proofs.«01_k».proof.Defs
public import proofs.«01_k».proof.Pre_finite_win
public import proofs.«01_k».proof.Proof.Gen.MixAFwd.Frame
public import proofs.«01_k».proof.Proof.MixAFwdKernel
public import proofs.«01_k».proof.Proof.MixAFwdRef
public import proofs.«01_k».proof.Proof.SwigluPre
public import Idealize.ShloMosaic.Lib.Claim

@[expose] public section

set_option maxRecDepth 16384

noncomputable section

namespace Cert.Pre_finite_win

open Idealize.ShloMosaic Cert.Reals

instance facts : Facts where
  slices_S8192x1280_S8192x896_0_0 := by decide
  slices_S8192x1280_S8192x256_0_1024 := by decide
  slices_S256x512_S256x256_0_0 := by decide
  bcast_S_S8192x896 := by decide
  reducesTo_S8192x896_S_d0_1 := by decide
  h_S_ := by decide
  bcast_S_S8192x256 := by decide
  reducesTo_S8192x256_S_d0_1 := by decide
  bcast_S_S256x256 := by decide
  reducesTo_S256x256_S_d0_1 := by decide
  bcast_S_S12 := by decide
  reducesTo_S12_S_d0 := by decide

theorem window_slice (x : FVec Ideal S8192x1280 .f32) (R : Fin 8192) (k : Fin 896) :
    extractStridedSlice S8192x896 ![0, 0] x Facts.slices_S8192x1280_S8192x896_0_0 (ix2 R k) = x (ix2 R ⟨k.val, by omega⟩) := by
  pointwise []

theorem query_slice (x : FVec Ideal S8192x1280 .f32) (R : Fin 8192) (k : Fin 256) :
    extractStridedSlice S8192x256 ![0, 1024] x Facts.slices_S8192x1280_S8192x256_0_1024 (ix2 R k) = x (ix2 R ⟨1024 + k.val, by omega⟩) := by
  pointwise []

theorem key_slice (x : FVec Ideal S256x512 .f32) (r k : Fin 256) :
    extractStridedSlice S256x256 ![0, 0] x Facts.slices_S256x512_S256x256_0_0 (ix2 r k) = x (ix2 r ⟨k.val, by omega⟩) := by
  pointwise []

/-- What the precondition says: the window's queries and keys, the memory's and the sinks are real. -/
theorem reals (x : FVec Ideal S8192x1280 .f32) (kv : FVec Ideal S256x512 .f32) (z : FVec Ideal S12 .f32)
    (h : fn (F := Ideal) x kv z = fun _ => 1#1) :
    (∀ (R : Fin 8192) (k : Fin 896), IsReal (x (ix2 R ⟨k.val, by omega⟩)))
      ∧ (∀ (R : Fin 8192) (k : Fin 256), IsReal (x (ix2 R ⟨1024 + k.val, by omega⟩)))
      ∧ (∀ r k : Fin 256, IsReal (kv (ix2 r ⟨k.val, by omega⟩))) ∧ ∀ g : Fin 12, IsReal (z (ix1 g)) := by
  have h0 := congrFun h (fun d => d.elim0)
  dsimp only [fn, fn_part1] at h0
  obtain ⟨h1, hz⟩ := IntOp.andi_eq_one.1 h0
  obtain ⟨h2, hk⟩ := IntOp.andi_eq_one.1 h1
  obtain ⟨hx, hq⟩ := IntOp.andi_eq_one.1 h2
  have : Subsingleton S_.Idx := ⟨fun a b => funext fun d => d.elim0⟩
  refine ⟨fun R k => ?_, fun R k => ?_, fun r k => ?_, fun g => ?_⟩
  · rw [← window_slice x R k]
    exact Pre_finite_ffn.real_of_test _ _ _ rfl (Host.reduce_andi_all _ _ _ _ _ hx (ix2 R k))
  · rw [← query_slice x R k]
    exact Pre_finite_ffn.real_of_test _ _ _ rfl (Host.reduce_andi_all _ _ _ _ _ hq (ix2 R k))
  · rw [← key_slice kv r k]
    exact Pre_finite_ffn.real_of_test _ _ _ rfl (Host.reduce_andi_all _ _ _ _ _ hk (ix2 r k))
  · exact Pre_finite_ffn.real_of_test _ _ _ rfl (Host.reduce_andi_all _ _ _ _ _ hz (ix1 g))

end Cert.Pre_finite_win

namespace Cert.Proof.MixAFwd

open Idealize.ShloMosaic Idealize.ShloMosaic.TcCoe Idealize.SL.Sem

theorem frame : Cert.quiescent_MixAFwd := fun m ρ _ => Cert.MixAFwd.Gen.frame m ρ
theorem frame_ideal : Cert.quiescent_MixAFwdIdeal := fun m ρ _ => Cert.MixAFwdIdeal.Gen.frame m ρ
theorem frame_ideal_pre : Cert.quiescent_MixAFwdIdeal_pre_finite_win := fun m ρ _ => Cert.MixAFwdIdeal.Gen.frame m ρ

/-- The mask's constant is read as minus infinity. -/
theorem preserves : Cert.preserves_MixAFwd_MixAFwdIdeal :=
  IdealRules.named_const.statement Cert.MixAFwdIdeal.κ "mask" .f32 0xF149F2CA#32 ⊥ rfl

theorem frame_ref : Cert.quiescent_MixAFwdRefIdeal := fun m ρ _ =>
  (θ_run Cert.MixAFwdRefIdeal.defs _ _).mono
    (fun r h => ⟨fun c => (h c).2, Idealize.ShloMosaic.sem_eq_zero_of_no_sems (by decide) r.2⟩)
    (Cert.MixAFwdRefIdeal.Value.run m ρ)

theorem frame_ref_pre : Cert.quiescent_MixAFwdRefIdeal_pre_finite_win := fun m ρ _ => frame_ref m ρ trivial

section Real

variable (m : (ℓ : Loc Cert.MixAFwdIdeal.nD Cert.MixAFwdIdeal.τ Cert.MixAFwdIdeal.sig) → Buf (Elt Ideal) ℓ)
  (c : Dev Cert.MixAFwdIdeal.nD) (hpre : Pre_MixAFwdIdeal_finite_win m)

include hpre

/-- The memory's queries are real. -/
theorem query_real (h : Fin 4) (R : Fin 8192) (l : Fin 64) :
    Reals.IsReal (MixASpec.mquery (Cert.MixAFwdIdeal.Value.arrP m c) h R l) := by
  have e := (Cert.Pre_finite_win.reals _ _ _ (hpre c)).2.1 R ⟨64 * h.val + l.val, by omega⟩
  have e' : (⟨1024 + (64 * h.val + l.val), by omega⟩ : Fin 1280) = ⟨1024 + 64 * h.val + l.val, by omega⟩ :=
    Fin.ext (Nat.add_assoc _ _ _).symm
  rw [e'] at e
  exact e

/-- The memory's keys are real. -/
theorem key_real (h : Fin 4) (r : Fin 256) (l : Fin 64) :
    Reals.IsReal (MixASpec.mkey (Cert.MixAFwdIdeal.Value.arrM m c) h r l) :=
  (Cert.Pre_finite_win.reals _ _ _ (hpre c)).2.2.1 r ⟨64 * h.val + l.val, by omega⟩

/-- The window's heads by either way of weighing. -/
theorem heads_same : MixASpec.dq (MixASpec.weight' (Cert.MixAFwdIdeal.Value.arrP m c) (Cert.MixAFwdIdeal.Value.arrS m c))
      (MixASpec.val (Cert.MixAFwdIdeal.Value.arrP m c))
    = MixASpec.dq (MixASpec.weight (Cert.MixAFwdIdeal.Value.arrP m c) (Cert.MixAFwdIdeal.Value.arrS m c))
      (MixASpec.val0 (Cert.MixAFwdIdeal.Value.arrP m c)) :=
  MixAFwdSpec.heads_eq (Cert.Pre_finite_win.reals _ _ _ (hpre c)).1 (Cert.Pre_finite_win.reals _ _ _ (hpre c)).2.2.2

end Real

set_option maxHeartbeats 1000000 in
theorem algebraic : Cert.algebraic_MixAFwdIdeal_MixAFwdRefIdeal_pre_finite_win := by
  pair_intro
  · run_from Cert.MixAFwdIdeal.Gen.frame m g & Cert.MixAFwdIdeal.Gen.run_main m g
    all_goals
      simp only [List.flatten_cons, List.flatten_nil, List.append_nil, List.cons_append, List.nil_append]
      after_results
  · run_from Cert.MixAFwdRefIdeal.Value.run m' g'
    all_goals
      obtain ⟨h0, h1, h2⟩ := hagree c
    rw [Cert.MixAFwdRefIdeal.Read.val_main_v97_eq, h0, h1, h2]
    funext i
    idx_vars i
    refine (Cert.MixAFwdRefIdeal.Read.out_at _ _ _ i0 i1).trans ?_
    rw [Cert.MixAFwdIdeal.Value.final9]
    refine Eq.trans ?_ (congrArg₂ (fun x a => MixAFwdSpec.outAt x a i0 i1) (heads_same m c hpre)
      (MixAFwdSpec.attended_eq (query_real m c hpre) (key_real m c hpre))).symm
    rfl

end Cert.Proof.MixAFwd

end
-- ==== Proof.BInKernel.lean ====
/- What the kernel of the gated mixer's input projection leaves in its results: the normalised rows and their product with the weights. -/
module

public import proofs.«01_k».proof.Proof.Gen.BInIdeal.Frame
public import proofs.«01_k».proof.Proof.Gen.BInIdeal.Skeleton
public import proofs.«01_k».proof.Proof.NormSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.BInIdeal.Value

open Cert.BInIdeal Cert.BInIdeal.Gen Idealize.ShloMosaic Idealize.ShloMosaic.TcCoe Idealize.SL.Sem
open Idealize.ShloMosaic.Pipeline (Dat)
open Cert

/-! ## One block of rows -/

section Blocks

variable (x : FVec Ideal S512x1024 .f32) (g : FVec Ideal S1x1024 .f32) (w : FVec Ideal S1024x1792 .bf16)

theorem norm_at (r : Fin 512) (k : Fin 1024) : k0_pay5 (F := Ideal) x g (ix2 r k)
    = x (ix2 r k) * NormSpec.rs (fun k => x (ix2 r k)) * g (ix2 0 k) := by
  pointwise [k0_pay5, NormSpec.rs, NormSpec.ms]

theorem dot_at (r : Fin 512) (j : Fin 1792) : k0_pay6 (F := Ideal) x g w (ix2 r j)
    = ∑ k : Fin 1024, x (ix2 r k) * NormSpec.rs (fun k => x (ix2 r k)) * g (ix2 0 k) * w (ix2 k j) := by
  pointwise [k0_pay6, norm_at]

end Blocks

theorem idx : ∀ t : Fin cfg0.N, win0_0.index t = ![(grid0.coords t 0).val, 0] ∧ win0_1.index t = ![0, 0]
    ∧ win0_2.index t = ![0, 0, 0, 0] ∧ win0_3.index t = ![(grid0.coords t 0).val, 0] ∧ win0_4.index t = ![(grid0.coords t 0).val, 0] :=
  (by decide +kernel : ∀ t : Fin grid0.N, _)

theorem coord (t : Fin cfg0.N) : (grid0.coords t 0).val = t.val := (by decide +kernel : ∀ t : Fin grid0.N, (grid0.coords t 0).val = t.val) t

/-! ## The weights in one piece -/

/-- The four planes of columns side by side. -/
def whole (w : FVec Ideal S1x4x1024x448 .bf16) : FVec Ideal S1024x1792 .bf16 := fun i =>
  w (ix4 0 ⟨(i 1).val / 448, by have := (i 1).isLt; change (i 1 : ℕ) < 1792 at this; omega⟩ (i 0) ⟨(i 1).val % 448, Nat.mod_lt _ (by decide)⟩)

variable (m : (ℓ : Loc nD τ sig) → Buf (Elt Ideal) ℓ)

theorem whole_block (c : Dev nD) (t : Fin cfg0.N) : whole (iblk m c 2 t) = whole (V m c main_v4) := by
  unfold whole
  funext y
  blk_point [iblk, idx t]

/-- The first point lays the planes side by side. -/
theorem kept_A (c : Dev nD) (t : Fin cfg0.N) (h : t.val % 16 = 0) :
    (outsAt0 m c t.val t.isLt).2.2 = whole (V m c main_v4) := by
  refine Eq.trans ?_ (whole_block m c t)
  rw [outsAt0_A m c t h]
  funext y
  unfold whole
  frame_out
  canon_tiles y h
  all_goals
    open_payloads
    pointwise []
    blk_point []

/-- They stay as they are for the rest of the grid. -/
theorem kept (c : Dev nD) (n : ℕ) (hn : n < cfg0.N) : (outsAt0 m c n hn).2.2 = whole (V m c main_v4) := by
  induction n with
  | zero => exact kept_A m c ⟨0, hn⟩ (Nat.zero_mod _)
  | succ n ih =>
    have hN : cfg0.N = 16 := N_0
    have h : ¬ (n + 1) % 16 = 0 := by omega
    refine Eq.trans ?_ (ih (by omega))
    rw [outsAt0_B m c ⟨n + 1, hn⟩ h]
    rfl

/-- What the first point reads back of the weights it laid out. -/
theorem read_A (c : Dev nD) (t : Fin cfg0.N) :
    (View.whole cc0_scratch0).readCov (Val := Elt Ideal)
      [⟨Rect.unit ![0, 1344] ![1024, 448] inb_S1024x1792_S1024x448_0_1344, k0_pay4 (View.ld (iblk m c 2 t) (Rect.unit ![0, 3, 0, 0] ![1, 1, 1024, 448] inb_S1x4x1024x448_S1x1x1024x448_0_3_0_0))⟩,
       ⟨Rect.unit ![0, 896] ![1024, 448] inb_S1024x1792_S1024x448_0_896, k0_pay3 (View.ld (iblk m c 2 t) (Rect.unit ![0, 2, 0, 0] ![1, 1, 1024, 448] inb_S1x4x1024x448_S1x1x1024x448_0_2_0_0))⟩,
       ⟨Rect.unit ![0, 448] ![1024, 448] inb_S1024x1792_S1024x448_0_448, k0_pay2 (View.ld (iblk m c 2 t) (Rect.unit ![0, 1, 0, 0] ![1, 1, 1024, 448] inb_S1x4x1024x448_S1x1x1024x448_0_1_0_0))⟩,
       ⟨Rect.unit ![0, 0] ![1024, 448] inb_S1024x1792_S1024x448_0_0, k0_pay1 (View.ld (iblk m c 2 t) (Rect.unit ![0, 0, 0, 0] ![1, 1, 1024, 448] inb_S1x4x1024x448_S1x1x1024x448_0_0_0_0))⟩]
      (Rect.unit ![0, 0] ![1024, 1792] inb_S1024x1792_S1024x1792_0_0).toLoadRect = whole (V m c main_v4) := by
  refine Eq.trans ?_ (whole_block m c t)
  rw [View.readCov_eq_canon']
  funext y
  unfold whole
  refine (congrArg (View.canon _) (funext fun a => Fin.ext (by fin_cases a <;> (change 0 + 1 * _ = _; omega)) : _ = y)).trans ?_
  canon_tiles y h
  all_goals
    open_payloads
    pointwise []
    blk_point []

/-! ## The arrays -/

section Arrays

variable (x : FVec Ideal S8192x1024 .f32) (g : FVec Ideal S1x1024 .f32) (w : FVec Ideal S1024x1792 .bf16)

/-- The normalised rows. -/
def rows : FVec Ideal S8192x1024 .bf16 := fun i => x (ix2 (i 0) (i 1)) * NormSpec.rs (fun k => x (ix2 (i 0) k)) * g (ix2 0 (i 1))

/-- Their product with the weights. -/
def proj : FVec Ideal S8192x1792 .bf16 := fun i =>
  ∑ k : Fin 1024, x (ix2 (i 0) k) * NormSpec.rs (fun k => x (ix2 (i 0) k)) * g (ix2 0 k) * w (ix2 k (i 1))

end Arrays

/-- Row `k` of the block of point `t`. -/
abbrev rowAt (t : Fin cfg0.N) (k : Fin 512) : Fin 8192 := ⟨t.val * 512 + k, by have := t.isLt; change (t : ℕ) < 16 at *; omega⟩

/-- What the body makes of a block, in terms of the array of which the block is a part. -/
theorem proj_block {w w' : FVec Ideal S1024x1792 .bf16} (hw : w = w') (c : Dev nD) (t : Fin cfg0.N) (r : Fin 512) (j : Fin 1792) :
    k0_pay6 (F := Ideal) (iblk m c 0 t) (iblk m c 1 t) w (ix2 r j) = proj (V m c main_arg0) (V m c main_v0) w' (ix2 (rowAt t r) j) := by
  subst hw
  refine (dot_at _ _ _ r j).trans ?_
  unfold proj NormSpec.rs NormSpec.ms
  pointwise []
  blk_point [iblk, idx t, coord t]

theorem rows_block (c : Dev nD) (t : Fin cfg0.N) (r : Fin 512) (k : Fin 1024) :
    k0_pay5 (F := Ideal) (iblk m c 0 t) (iblk m c 1 t) (ix2 r k) = rows (V m c main_arg0) (V m c main_v0) (ix2 (rowAt t r) k) := by
  refine (norm_at _ _ r k).trans ?_
  unfold rows NormSpec.rs NormSpec.ms
  pointwise []
  blk_point [iblk, idx t, coord t]

/-- What either kind of grid point leaves of the product. -/
theorem point4 (c : Dev nD) (t : Fin cfg0.N) (y : S512x1792.Idx) : (outsAt0 m c t.val t.isLt).2.1 y
    = proj (V m c main_arg0) (V m c main_v0) (whole (V m c main_v4)) (ix2 (rowAt t (y 0)) (y 1)) := by
  idx_vars y
  by_cases h : t.val % 16 = 0
  · rw [outsAt0_A m c t h]
    frame_out
    exact proj_block m (read_A m c t) c t y0 y1
  · rw [outsAt0_B m c t h]
    frame_out
    exact proj_block m ((read_unread_whole _ _ _).trans (kept m c (t.val - 1) _)) c t y0 y1

/-- And of the normalised rows. -/
theorem point3 (c : Dev nD) (t : Fin cfg0.N) (y : S512x1024.Idx) : (outsAt0 m c t.val t.isLt).1 y
    = rows (V m c main_arg0) (V m c main_v0) (ix2 (rowAt t (y 0)) (y 1)) := by
  idx_vars y
  by_cases h : t.val % 16 = 0
  on_goal 1 => rw [outsAt0_A m c t h]
  on_goal 2 => rw [outsAt0_B m c t h]
  all_goals
    frame_out
    exact rows_block m c t y0 y1

theorem final3 (c : Dev nD) : (dats m 0 c).arrAt 3 (cfgs 0).N = rows (V m c main_arg0) (V m c main_v0) := by
  refine (dats m 0 c).arrAt_eq_of_covers 3 _ (by decide +kernel) fun t _ y => ?_
  blk_simp
  rw [after0_3]
  refine (point3 m c t y).trans ?_
  generalize rows (V m c main_arg0) (V m c main_v0) = f
  blk_point [idx t, coord t]

theorem final4 (c : Dev nD) : (dats m 0 c).arrAt 4 (cfgs 0).N
    = proj (V m c main_arg0) (V m c main_v0) (whole (V m c main_v4)) := by
  refine (dats m 0 c).arrAt_eq_of_covers 4 _ (by decide +kernel) fun t _ y => ?_
  blk_simp
  rw [after0_4]
  refine (point4 m c t y).trans ?_
  generalize proj (V m c main_arg0) (V m c main_v0) (whole (V m c main_v4)) = f
  blk_point [idx t, coord t]

/-! ## The arrays from the arguments -/

/-- The gain reaches the kernel as one row. -/
theorem V_gain (c : Dev nD) : V m c main_v0 = shapeCast S1x1024 (m ((c : Thread nD τ).loc main_arg1)) shapeCasts_S1024_S1x1024 := by
  unfold V; after_results; try rfl

/-- The weights reach it cut into four planes of columns. -/
theorem V_planes (c : Dev nD) : V m c main_v4 = broadcastInDim S1x4x1024x448 ![1, 2, 3] bcast_S4x1024x448_S1x4x1024x448_1_2_3
    (transpose S4x1024x448 [1, 0, 2] (shapeCast S1024x4x448 (truncf (F := Ideal) .bf16 (m ((c : Thread nD τ).loc main_arg2)) bitsLt_bf16_f32)
      shapeCasts_S1024x1792_S1024x4x448) transposes_S1024x4x448_S4x1024x448_1_0_2) := by
  unfold V; after_results; try rfl

/-- Laid side by side, the planes are the weights again. -/
theorem whole_planes (c : Dev nD) : whole (V m c main_v4) = m ((c : Thread nD τ).loc main_arg2) := by
  rw [V_planes]
  funext y
  idx_vars y
  unfold whole
  pointwise []

variable (c : Dev nD) (x : FVec Ideal S8192x1024 .f32)

theorem rows_eq (r : Fin 8192) (k : Fin 1024) : rows x (V m c main_v0) (ix2 r k)
    = x (ix2 r k) * NormSpec.rs (fun k => x (ix2 r k)) * m ((c : Thread nD τ).loc main_arg1) (ix1 k) := by
  rw [V_gain]
  unfold rows
  pointwise []

theorem proj_eq (r : Fin 8192) (j : Fin 1792) : proj x (V m c main_v0) (whole (V m c main_v4)) (ix2 r j)
    = ∑ k : Fin 1024, x (ix2 r k) * NormSpec.rs (fun k => x (ix2 r k)) * m ((c : Thread nD τ).loc main_arg1) (ix1 k)
      * m ((c : Thread nD τ).loc main_arg2) (ix2 k j) := by
  rw [whole_planes, V_gain]
  unfold proj
  pointwise []

end Cert.BInIdeal.Value

end
-- ==== Proof.BIn.lean ====
/- The claims about the gated mixer's input projection. -/
module

public import proofs.«01_k».proof.Defs
public import proofs.«01_k».proof.Proof.Gen.BIn.Frame
public import proofs.«01_k».proof.Proof.BInKernel
public import proofs.«01_k».proof.Proof.Gen.BInRefIdeal.Run
public import proofs.«01_k».proof.Proof.Gen.BInRefIdeal.Read
public import Idealize.ShloMosaic.Lib.Claim

@[expose] public section

set_option maxRecDepth 16384

noncomputable section

namespace Cert.BInRefIdeal.Read

open Cert.BInRefIdeal Cert.BInRefIdeal.Gen Idealize.ShloMosaic Idealize.ShloMosaic.TcCoe
open Cert

variable (x : FVec Ideal S8192x1024 .f32) (g : FVec Ideal S1024 .f32) (w : FVec Ideal S1024x1792 .f32)

theorem norm_at (r : Fin 8192) (k : Fin 1024) : val_main_v12 (F := Ideal) x g (ix2 r k)
    = x (ix2 r k) * NormSpec.rs (fun k => x (ix2 r k)) * g (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1,
    NormSpec.rs, NormSpec.ms]

theorem rows_at (r : Fin 8192) (k : Fin 1024) : val_main_v13 (F := Ideal) x g (ix2 r k)
    = x (ix2 r k) * NormSpec.rs (fun k => x (ix2 r k)) * g (ix1 k) := by
  pointwise [val_main_v13, norm_at]

theorem proj_at (r : Fin 8192) (j : Fin 1792) : val_main_v15 (F := Ideal) x g w (ix2 r j)
    = ∑ k : Fin 1024, x (ix2 r k) * NormSpec.rs (fun k => x (ix2 r k)) * g (ix1 k) * w (ix2 k j) := by
  pointwise [val_main_v15, val_main_v14, norm_at]

end Cert.BInRefIdeal.Read

namespace Cert.Proof.BIn

open Idealize.ShloMosaic Idealize.ShloMosaic.TcCoe Idealize.SL.Sem Cert.BInIdeal.Value

theorem frame : Cert.quiescent_BIn := fun m ρ _ => Cert.BIn.Gen.frame m ρ
theorem frame_ideal : Cert.quiescent_BInIdeal := fun m ρ _ => Cert.BInIdeal.Gen.frame m ρ
theorem preserves : Cert.preserves_BIn_BInIdeal := trivial

theorem frame_ref : Cert.quiescent_BInRefIdeal := fun m ρ _ =>
  (θ_run Cert.BInRefIdeal.defs _ _).mono
    (fun r h => ⟨fun c => (h c).2.2, Idealize.ShloMosaic.sem_eq_zero_of_no_sems (by decide) r.2⟩)
    (Cert.BInRefIdeal.Value.run m ρ)

theorem algebraic : Cert.algebraic_BInIdeal_BInRefIdeal := by
  pair_intro
  · run_from Cert.BInIdeal.Gen.run_main m g
  · run_from Cert.BInRefIdeal.Value.run m' g'
    all_goals obtain ⟨hx, hg, hw⟩ := hagree c
    · rw [Cert.BInRefIdeal.Read.val_main_v13_eq, final3, Cert.BInIdeal.Gen.V_main_arg0]
      funext i
      idx_vars i
      refine (Cert.BInRefIdeal.Read.rows_at _ _ i0 i1).trans (Eq.trans ?_ (rows_eq m c _ i0 i1).symm)
      simp only [hx, hg]
    · rw [Cert.BInRefIdeal.Read.val_main_v15_eq, final4, Cert.BInIdeal.Gen.V_main_arg0]
      funext i
      idx_vars i
      refine (Cert.BInRefIdeal.Read.proj_at _ _ _ i0 i1).trans (Eq.trans ?_ (proj_eq m c _ i0 i1).symm)
      simp only [hx, hg, hw]

end Cert.Proof.BIn

end
-- ==== Proof.AInKernel.lean ====
/- What the kernel of the attention mixer's input projection leaves in its results: the normalised rows and their product with the weights. -/
module

public import proofs.«01_k».proof.Proof.Gen.AInIdeal.Frame
public import proofs.«01_k».proof.Proof.Gen.AInIdeal.Skeleton
public import proofs.«01_k».proof.Proof.BInKernel
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.AInIdeal.Value

open Cert.AInIdeal Cert.AInIdeal.Gen Idealize.ShloMosaic Idealize.ShloMosaic.TcCoe Idealize.SL.Sem
open Idealize.ShloMosaic.Pipeline (Dat)
open Cert

/-! ## One block of rows -/

section Blocks

variable (x : FVec Ideal S512x1024 .f32) (g : FVec Ideal S1x1024 .f32) (w : FVec Ideal S1024x1280 .bf16)

theorem norm_at (r : Fin 512) (k : Fin 1024) : k0_pay5 (F := Ideal) x g (ix2 r k)
    = x (ix2 r k) * NormSpec.rs (fun k => x (ix2 r k)) * g (ix2 0 k) :=
  Cert.BInIdeal.Value.norm_at x g r k

theorem dot_at (r : Fin 512) (j : Fin 1280) : k0_pay6 (F := Ideal) x g w (ix2 r j)
    = ∑ k : Fin 1024, x (ix2 r k) * NormSpec.rs (fun k => x (ix2 r k)) * g (ix2 0 k) * w (ix2 k j) := by
  pointwise [k0_pay6, norm_at]

end Blocks

theorem idx : ∀ t : Fin cfg0.N, win0_0.index t = ![(grid0.coords t 0).val, 0] ∧ win0_1.index t = ![0, 0]
    ∧ win0_2.index t = ![0, 0, 0, 0] ∧ win0_3.index t = ![(grid0.coords t 0).val, 0] ∧ win0_4.index t = ![(grid0.coords t 0).val, 0] :=
  (by decide +kernel : ∀ t : Fin grid0.N, _)

theorem coord (t : Fin cfg0.N) : (grid0.coords t 0).val = t.val := (by decide +kernel : ∀ t : Fin grid0.N, (grid0.coords t 0).val = t.val) t

/-! ## The weights in one piece -/

/-- The four planes of columns side by side. -/
def whole (w : FVec Ideal S1x4x1024x320 .bf16) : FVec Ideal S1024x1280 .bf16 := fun i =>
  w (ix4 0 ⟨(i 1).val / 320, by have := (i 1).isLt; change (i 1 : ℕ) < 1280 at this; omega⟩ (i 0) ⟨(i 1).val % 320, Nat.mod_lt _ (by decide)⟩)

variable (m : (ℓ : Loc nD τ sig) → Buf (Elt Ideal) ℓ)

theorem whole_block (c : Dev nD) (t : Fin cfg0.N) : whole (iblk m c 2 t) = whole (V m c main_v4) := by
  unfold whole
  funext y
  blk_point [iblk, idx t]

/-- The first point lays the planes side by side. -/
theorem kept_A (c : Dev nD) (t : Fin cfg0.N) (h : t.val % 16 = 0) :
    (outsAt0 m c t.val t.isLt).2.2 = whole (V m c main_v4) := by
  refine Eq.trans ?_ (whole_block m c t)
  rw [outsAt0_A m c t h]
  funext y
  unfold whole
  frame_out
  canon_tiles y h
  all_goals
    open_payloads
    pointwise []
    blk_point []

/-- They stay as they are for the rest of the grid. -/
theorem kept (c : Dev nD) (n : ℕ) (hn : n < cfg0.N) : (outsAt0 m c n hn).2.2 = whole (V m c main_v4) := by
  induction n with
  | zero => exact kept_A m c ⟨0, hn⟩ (Nat.zero_mod _)
  | succ n ih =>
    have hN : cfg0.N = 16 := N_0
    have h : ¬ (n + 1) % 16 = 0 := by omega
    refine Eq.trans ?_ (ih (by omega))
    rw [outsAt0_B m c ⟨n + 1, hn⟩ h]
    rfl

/-- What the first point reads back of the weights it laid out. -/
theorem read_A (c : Dev nD) (t : Fin cfg0.N) :
    (View.whole cc0_scratch0).readCov (Val := Elt Ideal)
      [⟨Rect.unit ![0, 960] ![1024, 320] inb_S1024x1280_S1024x320_0_960, k0_pay4 (View.ld (iblk m c 2 t) (Rect.unit ![0, 3, 0, 0] ![1, 1, 1024, 320] inb_S1x4x1024x320_S1x1x1024x320_0_3_0_0))⟩,
       ⟨Rect.unit ![0, 640] ![1024, 320] inb_S1024x1280_S1024x320_0_640, k0_pay3 (View.ld (iblk m c 2 t) (Rect.unit ![0, 2, 0, 0] ![1, 1, 1024, 320] inb_S1x4x1024x320_S1x1x1024x320_0_2_0_0))⟩,
       ⟨Rect.unit ![0, 320] ![1024, 320] inb_S1024x1280_S1024x320_0_320, k0_pay2 (View.ld (iblk m c 2 t) (Rect.unit ![0, 1, 0, 0] ![1, 1, 1024, 320] inb_S1x4x1024x320_S1x1x1024x320_0_1_0_0))⟩,
       ⟨Rect.unit ![0, 0] ![1024, 320] inb_S1024x1280_S1024x320_0_0, k0_pay1 (View.ld (iblk m c 2 t) (Rect.unit ![0, 0, 0, 0] ![1, 1, 1024, 320] inb_S1x4x1024x320_S1x1x1024x320_0_0_0_0))⟩]
      (Rect.unit ![0, 0] ![1024, 1280] inb_S1024x1280_S1024x1280_0_0).toLoadRect = whole (V m c main_v4) := by
  refine Eq.trans ?_ (whole_block m c t)
  rw [View.readCov_eq_canon']
  funext y
  unfold whole
  refine (congrArg (View.canon _) (funext fun a => Fin.ext (by fin_cases a <;> (change 0 + 1 * _ = _; omega)) : _ = y)).trans ?_
  canon_tiles y h
  all_goals
    open_payloads
    pointwise []
    blk_point []

/-! ## The arrays -/

section Arrays

variable (x : FVec Ideal S8192x1024 .f32) (g : FVec Ideal S1x1024 .f32) (w : FVec Ideal S1024x1280 .bf16)

/-- The normalised rows. -/
def rows : FVec Ideal S8192x1024 .bf16 := fun i => x (ix2 (i 0) (i 1)) * NormSpec.rs (fun k => x (ix2 (i 0) k)) * g (ix2 0 (i 1))

/-- Their product with the weights. -/
def proj : FVec Ideal S8192x1280 .bf16 := fun i =>
  ∑ k : Fin 1024, x (ix2 (i 0) k) * NormSpec.rs (fun k => x (ix2 (i 0) k)) * g (ix2 0 k) * w (ix2 k (i 1))

end Arrays

/-- Row `k` of the block of point `t`. -/
abbrev rowAt (t : Fin cfg0.N) (k : Fin 512) : Fin 8192 := ⟨t.val * 512 + k, by have := t.isLt; change (t : ℕ) < 16 at *; omega⟩

/-- What the body makes of a block, in terms of the array of which the block is a part. -/
theorem proj_block {w w' : FVec Ideal S1024x1280 .bf16} (hw : w = w') (c : Dev nD) (t : Fin cfg0.N) (r : Fin 512) (j : Fin 1280) :
    k0_pay6 (F := Ideal) (iblk m c 0 t) (iblk m c 1 t) w (ix2 r j) = proj (V m c main_arg0) (V m c main_v0) w' (ix2 (rowAt t r) j) := by
  subst hw
  refine (dot_at _ _ _ r j).trans ?_
  unfold proj NormSpec.rs NormSpec.ms
  pointwise []
  blk_point [iblk, idx t, coord t]

theorem rows_block (c : Dev nD) (t : Fin cfg0.N) (r : Fin 512) (k : Fin 1024) :
    k0_pay5 (F := Ideal) (iblk m c 0 t) (iblk m c 1 t) (ix2 r k) = rows (V m c main_arg0) (V m c main_v0) (ix2 (rowAt t r) k) := by
  refine (norm_at _ _ r k).trans ?_
  unfold rows NormSpec.rs NormSpec.ms
  pointwise []
  blk_point [iblk, idx t, coord t]

/-- What either kind of grid point leaves of the product. -/
theorem point4 (c : Dev nD) (t : Fin cfg0.N) (y : S512x1280.Idx) : (outsAt0 m c t.val t.isLt).2.1 y
    = proj (V m c main_arg0) (V m c main_v0) (whole (V m c main_v4)) (ix2 (rowAt t (y 0)) (y 1)) := by
  idx_vars y
  by_cases h : t.val % 16 = 0
  · rw [outsAt0_A m c t h]
    frame_out
    exact proj_block m (read_A m c t) c t y0 y1
  · rw [outsAt0_B m c t h]
    frame_out
    exact proj_block m ((read_unread_whole _ _ _).trans (kept m c (t.val - 1) _)) c t y0 y1

/-- And of the normalised rows. -/
theorem point3 (c : Dev nD) (t : Fin cfg0.N) (y : S512x1024.Idx) : (outsAt0 m c t.val t.isLt).1 y
    = rows (V m c main_arg0) (V m c main_v0) (ix2 (rowAt t (y 0)) (y 1)) := by
  idx_vars y
  by_cases h : t.val % 16 = 0
  on_goal 1 => rw [outsAt0_A m c t h]
  on_goal 2 => rw [outsAt0_B m c t h]
  all_goals
    frame_out
    exact rows_block m c t y0 y1

theorem final3 (c : Dev nD) : (dats m 0 c).arrAt 3 (cfgs 0).N = rows (V m c main_arg0) (V m c main_v0) := by
  refine (dats m 0 c).arrAt_eq_of_covers 3 _ (by decide +kernel) fun t _ y => ?_
  blk_simp
  rw [after0_3]
  refine (point3 m c t y).trans ?_
  generalize rows (V m c main_arg0) (V m c main_v0) = f
  blk_point [idx t, coord t]

theorem final4 (c : Dev nD) : (dats m 0 c).arrAt 4 (cfgs 0).N
    = proj (V m c main_arg0) (V m c main_v0) (whole (V m c main_v4)) := by
  refine (dats m 0 c).arrAt_eq_of_covers 4 _ (by decide +kernel) fun t _ y => ?_
  blk_simp
  rw [after0_4]
  refine (point4 m c t y).trans ?_
  generalize proj (V m c main_arg0) (V m c main_v0) (whole (V m c main_v4)) = f
  blk_point [idx t, coord t]

/-! ## The arrays from the arguments -/

/-- The gain reaches the kernel as one row. -/
theorem V_gain (c : Dev nD) : V m c main_v0 = shapeCast S1x1024 (m ((c : Thread nD τ).loc main_arg1)) shapeCasts_S1024_S1x1024 := by
  unfold V; after_results; try rfl

/-- The weights reach it cut into four planes of columns. -/
theorem V_planes (c : Dev nD) : V m c main_v4 = broadcastInDim S1x4x1024x320 ![1, 2, 3] bcast_S4x1024x320_S1x4x1024x320_1_2_3
    (transpose S4x1024x320 [1, 0, 2] (shapeCast S1024x4x320 (truncf (F := Ideal) .bf16 (m ((c : Thread nD τ).loc main_arg2)) bitsLt_bf16_f32)
      shapeCasts_S1024x1280_S1024x4x320) transposes_S1024x4x320_S4x1024x320_1_0_2) := by
  unfold V; after_results; try rfl

/-- Laid side by side, the planes are the weights again. -/
theorem whole_planes (c : Dev nD) : whole (V m c main_v4) = m ((c : Thread nD τ).loc main_arg2) := by
  rw [V_planes]
  funext y
  idx_vars y
  unfold whole
  pointwise []

variable (c : Dev nD) (x : FVec Ideal S8192x1024 .f32)

theorem rows_eq (r : Fin 8192) (k : Fin 1024) : rows x (V m c main_v0) (ix2 r k)
    = x (ix2 r k) * NormSpec.rs (fun k => x (ix2 r k)) * m ((c : Thread nD τ).loc main_arg1) (ix1 k) := by
  rw [V_gain]
  unfold rows
  pointwise []

theorem proj_eq (r : Fin 8192) (j : Fin 1280) : proj x (V m c main_v0) (whole (V m c main_v4)) (ix2 r j)
    = ∑ k : Fin 1024, x (ix2 r k) * NormSpec.rs (fun k => x (ix2 r k)) * m ((c : Thread nD τ).loc main_arg1) (ix1 k)
      * m ((c : Thread nD τ).loc main_arg2) (ix2 k j) := by
  rw [whole_planes, V_gain]
  unfold proj
  pointwise []

end Cert.AInIdeal.Value

end
-- ==== Proof.AIn.lean ====
/- The claims about the attention mixer's input projection. -/
module

public import proofs.«01_k».proof.Defs
public import proofs.«01_k».proof.Proof.Gen.AIn.Frame
public import proofs.«01_k».proof.Proof.AInKernel
public import proofs.«01_k».proof.Proof.BIn
public import proofs.«01_k».proof.Proof.Gen.AInRefIdeal.Run
public import proofs.«01_k».proof.Proof.Gen.AInRefIdeal.Read
public import Idealize.ShloMosaic.Lib.Claim

@[expose] public section

set_option maxRecDepth 16384

noncomputable section

namespace Cert.AInRefIdeal.Read

open Cert.AInRefIdeal Cert.AInRefIdeal.Gen Idealize.ShloMosaic Idealize.ShloMosaic.TcCoe
open Cert

variable (x : FVec Ideal S8192x1024 .f32) (g : FVec Ideal S1024 .f32) (w : FVec Ideal S1024x1280 .f32)

theorem norm_at (r : Fin 8192) (k : Fin 1024) : val_main_v12 (F := Ideal) x g (ix2 r k)
    = x (ix2 r k) * NormSpec.rs (fun k => x (ix2 r k)) * g (ix1 k) :=
  Cert.BInRefIdeal.Read.norm_at x g r k

theorem rows_at (r : Fin 8192) (k : Fin 1024) : val_main_v13 (F := Ideal) x g (ix2 r k)
    = x (ix2 r k) * NormSpec.rs (fun k => x (ix2 r k)) * g (ix1 k) :=
  Cert.BInRefIdeal.Read.rows_at x g r k

theorem proj_at (r : Fin 8192) (j : Fin 1280) : val_main_v15 (F := Ideal) x g w (ix2 r j)
    = ∑ k : Fin 1024, x (ix2 r k) * NormSpec.rs (fun k => x (ix2 r k)) * g (ix1 k) * w (ix2 k j) := by
  pointwise [val_main_v15, val_main_v14, norm_at]

end Cert.AInRefIdeal.Read

namespace Cert.Proof.AIn

open Idealize.ShloMosaic Idealize.ShloMosaic.TcCoe Idealize.SL.Sem Cert.AInIdeal.Value

theorem frame : Cert.quiescent_AIn := fun m ρ _ => Cert.AIn.Gen.frame m ρ
theorem frame_ideal : Cert.quiescent_AInIdeal := fun m ρ _ => Cert.AInIdeal.Gen.frame m ρ
theorem preserves : Cert.preserves_AIn_AInIdeal := trivial

theorem frame_ref : Cert.quiescent_AInRefIdeal := fun m ρ _ =>
  (θ_run Cert.AInRefIdeal.defs _ _).mono
    (fun r h => ⟨fun c => (h c).2.2, Idealize.ShloMosaic.sem_eq_zero_of_no_sems (by decide) r.2⟩)
    (Cert.AInRefIdeal.Value.run m ρ)

theorem algebraic : Cert.algebraic_AInIdeal_AInRefIdeal := by
  pair_intro
  · run_from Cert.AInIdeal.Gen.run_main m g
  · run_from Cert.AInRefIdeal.Value.run m' g'
    all_goals obtain ⟨hx, hg, hw⟩ := hagree c
    · rw [Cert.AInRefIdeal.Read.val_main_v13_eq, final3, Cert.AInIdeal.Gen.V_main_arg0]
      funext i
      idx_vars i
      refine (Cert.AInRefIdeal.Read.rows_at _ _ i0 i1).trans (Eq.trans ?_ (rows_eq m c _ i0 i1).symm)
      simp only [hx, hg]
    · rw [Cert.AInRefIdeal.Read.val_main_v15_eq, final4, Cert.AInIdeal.Gen.V_main_arg0]
      funext i
      idx_vars i
      refine (Cert.AInRefIdeal.Read.proj_at _ _ _ i0 i1).trans (Eq.trans ?_ (proj_eq m c _ i0 i1).symm)
      simp only [hx, hg, hw]

end Cert.Proof.AIn

end
-- ==== Proof.lean ====
/- The claims about each pair of programs, put together. -/
module

public import proofs.«01_k».proof.Defs
public import proofs.«01_k».proof.Proof.Gen.MemNorm.Frame
public import proofs.«01_k».proof.Proof.MemNorm
public import proofs.«01_k».proof.Proof.Gen.MemNorm
public import proofs.«01_k».proof.Proof.Gen.MemNormIdeal
public import proofs.«01_k».proof.Proof.Gen.MemNormRefIdeal
public import proofs.«01_k».proof.Proof.Gen.MemNormRefIdeal.Run
public import proofs.«01_k».proof.Proof.Gen.MemNormRefIdeal.Read
public import proofs.«01_k».proof.Proof.Gen.Swiglu.Frame
public import proofs.«01_k».proof.Proof.Swiglu
public import proofs.«01_k».proof.Proof.Gen.Swiglu
public import proofs.«01_k».proof.Proof.Gen.SwigluIdeal
public import proofs.«01_k».proof.Proof.Gen.SwigluRefIdeal
public import proofs.«01_k».proof.Proof.Gen.SwigluRefIdeal.Run
public import proofs.«01_k».proof.Proof.Gen.SwigluRefIdeal.Read
public import proofs.«01_k».proof.Proof.Gen.GateUpDx.Frame
public import proofs.«01_k».proof.Proof.GateUpDx
public import proofs.«01_k».proof.Proof.Gen.GateUpDx
public import proofs.«01_k».proof.Proof.Gen.GateUpDxIdeal
public import proofs.«01_k».proof.Proof.Gen.GateUpDxRefIdeal
public import proofs.«01_k».proof.Proof.Gen.GateUpDxRefIdeal.Run
public import proofs.«01_k».proof.Proof.Gen.GateUpDxRefIdeal.Read
public import proofs.«01_k».proof.Proof.Gen.AInDx.Frame
public import proofs.«01_k».proof.Proof.AInDx
public import proofs.«01_k».proof.Proof.Gen.AInDx
public import proofs.«01_k».proof.Proof.Gen.AInDxIdeal
public import proofs.«01_k».proof.Proof.Gen.AInDxRefIdeal
public import proofs.«01_k».proof.Proof.Gen.AInDxRefIdeal.Run
public import proofs.«01_k».proof.Proof.Gen.AInDxRefIdeal.Read
public import proofs.«01_k».proof.Proof.Gen.BInDx.Frame
public import proofs.«01_k».proof.Proof.BInDx
public import proofs.«01_k».proof.Proof.Gen.BInDx
public import proofs.«01_k».proof.Proof.Gen.BInDxIdeal
public import proofs.«01_k».proof.Proof.Gen.BInDxRefIdeal
public import proofs.«01_k».proof.Proof.Gen.BInDxRefIdeal.Run
public import proofs.«01_k».proof.Proof.Gen.BInDxRefIdeal.Read
public import proofs.«01_k».proof.Proof.Gen.LossHead.Frame
public import proofs.«01_k».proof.Proof.LossHead
public import proofs.«01_k».proof.Proof.Gen.LossHead
public import proofs.«01_k».proof.Proof.Gen.LossHeadIdeal
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.MixB.Frame
public import proofs.«01_k».proof.Proof.MixB
public import proofs.«01_k».proof.Proof.Gen.MixB
public import proofs.«01_k».proof.Proof.Gen.MixBIdeal
public import proofs.«01_k».proof.Proof.Gen.MixBRefIdeal
public import proofs.«01_k».proof.Proof.Gen.MixBRefIdeal.Run
public import proofs.«01_k».proof.Proof.Gen.MixBRefIdeal.Read
public import proofs.«01_k».proof.Proof.MixAFrame
public import proofs.«01_k».proof.Proof.MixA
public import proofs.«01_k».proof.Proof.Gen.MixA
public import proofs.«01_k».proof.Proof.Gen.MixAIdeal
public import proofs.«01_k».proof.Proof.Gen.MixARefIdeal
public import proofs.«01_k».proof.Proof.Gen.MixARefIdeal.Run
public import proofs.«01_k».proof.Proof.Gen.MixARefIdeal.Read
public import proofs.«01_k».proof.Proof.Gen.GateUp.Frame
public import proofs.«01_k».proof.Proof.GateUp
public import proofs.«01_k».proof.Proof.Gen.GateUp
public import proofs.«01_k».proof.Proof.Gen.GateUpIdeal
public import proofs.«01_k».proof.Proof.Gen.GateUpRefIdeal
public import proofs.«01_k».proof.Proof.Gen.GateUpRefIdeal.Run
public import proofs.«01_k».proof.Proof.Gen.GateUpRefIdeal.Read
public import proofs.«01_k».proof.Proof.Gen.MixBFwd.Frame
public import proofs.«01_k».proof.Proof.MixBFwd
public import proofs.«01_k».proof.Proof.Gen.MixBFwd
public import proofs.«01_k».proof.Proof.Gen.MixBFwdIdeal
public import proofs.«01_k».proof.Proof.Gen.MixBFwdRefIdeal
public import proofs.«01_k».proof.Proof.Gen.MixBFwdRefIdeal.Run
public import proofs.«01_k».proof.Proof.Gen.MixBFwdRefIdeal.Read
public import proofs.«01_k».proof.Proof.Gen.NormFwd.Frame
public import proofs.«01_k».proof.Proof.NormFwd
public import proofs.«01_k».proof.Proof.Gen.NormFwd
public import proofs.«01_k».proof.Proof.Gen.NormFwdIdeal
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.MixAFwd.Frame
public import proofs.«01_k».proof.Proof.MixAFwd
public import proofs.«01_k».proof.Proof.Gen.MixAFwd
public import proofs.«01_k».proof.Proof.Gen.MixAFwdIdeal
public import proofs.«01_k».proof.Proof.Gen.MixAFwdRefIdeal
public import proofs.«01_k».proof.Proof.Gen.MixAFwdRefIdeal.Run
public import proofs.«01_k».proof.Proof.Gen.MixAFwdRefIdeal.Read
public import proofs.«01_k».proof.Proof.Gen.BIn.Frame
public import proofs.«01_k».proof.Proof.BIn
public import proofs.«01_k».proof.Proof.Gen.BIn
public import proofs.«01_k».proof.Proof.Gen.BInIdeal
public import proofs.«01_k».proof.Proof.Gen.BInRefIdeal
public import proofs.«01_k».proof.Proof.Gen.BInRefIdeal.Run
public import proofs.«01_k».proof.Proof.Gen.BInRefIdeal.Read
public import proofs.«01_k».proof.Proof.Gen.AIn.Frame
public import proofs.«01_k».proof.Proof.AIn
public import proofs.«01_k».proof.Proof.Gen.AIn
public import proofs.«01_k».proof.Proof.Gen.AInIdeal
public import proofs.«01_k».proof.Proof.Gen.AInRefIdeal
public import proofs.«01_k».proof.Proof.Gen.AInRefIdeal.Run
public import proofs.«01_k».proof.Proof.Gen.AInRefIdeal.Read

@[expose] public section

noncomputable section

namespace Cert.Proof

open Idealize.ShloMosaic Idealize.SL.Sem

theorem claim : Cert.Claim :=
  ⟨Cert.MemNorm.Gen.facts,
   Cert.MemNormIdeal.Gen.facts,
   Cert.MemNormRefIdeal.Gen.facts,
   Cert.Swiglu.Gen.facts,
   Cert.SwigluIdeal.Gen.facts,
   Cert.SwigluRefIdeal.Gen.facts,
   Cert.GateUpDx.Gen.facts,
   Cert.GateUpDxIdeal.Gen.facts,
   Cert.GateUpDxRefIdeal.Gen.facts,
   Cert.AInDx.Gen.facts,
   Cert.AInDxIdeal.Gen.facts,
   Cert.AInDxRefIdeal.Gen.facts,
   Cert.BInDx.Gen.facts,
   Cert.BInDxIdeal.Gen.facts,
   Cert.BInDxRefIdeal.Gen.facts,
   Cert.LossHead.Gen.facts,
   Cert.LossHeadIdeal.Gen.facts,
   Cert.LossHeadRefIdeal.Gen.facts,
   Cert.MixB.Gen.facts,
   Cert.MixBIdeal.Gen.facts,
   Cert.MixBRefIdeal.Gen.facts,
   Cert.MixA.Gen.facts,
   Cert.MixAIdeal.Gen.facts,
   Cert.MixARefIdeal.Gen.facts,
   Cert.GateUp.Gen.facts,
   Cert.GateUpIdeal.Gen.facts,
   Cert.GateUpRefIdeal.Gen.facts,
   Cert.MixBFwd.Gen.facts,
   Cert.MixBFwdIdeal.Gen.facts,
   Cert.MixBFwdRefIdeal.Gen.facts,
   Cert.NormFwd.Gen.facts,
   Cert.NormFwdIdeal.Gen.facts,
   Cert.NormFwdRefIdeal.Gen.facts,
   Cert.MixAFwd.Gen.facts,
   Cert.MixAFwdIdeal.Gen.facts,
   Cert.MixAFwdRefIdeal.Gen.facts,
   Cert.BIn.Gen.facts,
   Cert.BInIdeal.Gen.facts,
   Cert.BInRefIdeal.Gen.facts,
   Cert.AIn.Gen.facts,
   Cert.AInIdeal.Gen.facts,
   Cert.AInRefIdeal.Gen.facts,
   Cert.Pre_finite_ffn.facts,
   Cert.Pre_finite_heads_b.facts,
   Cert.Pre_finite_heads_a.facts,
   Cert.Pre_finite_gate_up.facts,
   Cert.Pre_finite_mem.facts,
   Cert.Pre_finite_win.facts,
   MemNorm.frame,
   MemNorm.frame_ideal,
   MemNorm.frame_ref,
   Swiglu.frame,
   Swiglu.frame_ideal,
   Swiglu.frame_ideal_pre,
   Swiglu.frame_ref,
   Swiglu.frame_ref_pre,
   GateUpDx.frame,
   GateUpDx.frame_ideal,
   GateUpDx.frame_ref,
   AInDx.frame,
   AInDx.frame_ideal,
   AInDx.frame_ref,
   BInDx.frame,
   BInDx.frame_ideal,
   BInDx.frame_ref,
   LossHead.frame,
   LossHead.frame_ideal,
   LossHead.frame_ref,
   MixB.frame,
   MixB.frame_ideal,
   MixB.frame_ideal_pre,
   MixB.frame_ref,
   MixB.frame_ref_pre,
   MixA.frame,
   MixA.frame_ideal,
   MixA.frame_ideal_pre,
   MixA.frame_ref,
   MixA.frame_ref_pre,
   GateUp.frame,
   GateUp.frame_ideal,
   GateUp.frame_ideal_pre,
   GateUp.frame_ref,
   GateUp.frame_ref_pre,
   MixBFwd.frame,
   MixBFwd.frame_ideal,
   MixBFwd.frame_ideal_pre,
   MixBFwd.frame_ref,
   MixBFwd.frame_ref_pre,
   NormFwd.frame,
   NormFwd.frame_ideal,
   NormFwd.frame_ref,
   MixAFwd.frame,
   MixAFwd.frame_ideal,
   MixAFwd.frame_ideal_pre,
   MixAFwd.frame_ref,
   MixAFwd.frame_ref_pre,
   BIn.frame,
   BIn.frame_ideal,
   BIn.frame_ref,
   AIn.frame,
   AIn.frame_ideal,
   AIn.frame_ref,
   MemNorm.preserves,
   MemNorm.algebraic,
   Swiglu.preserves,
   Swiglu.algebraic,
   GateUpDx.preserves,
   GateUpDx.algebraic,
   AInDx.preserves,
   AInDx.algebraic,
   BInDx.preserves,
   BInDx.algebraic,
   LossHead.preserves,
   LossHead.algebraic,
   MixB.preserves,
   MixB.algebraic,
   MixA.preserves,
   MixA.algebraic,
   GateUp.preserves,
   GateUp.algebraic,
   MixBFwd.preserves,
   MixBFwd.algebraic,
   NormFwd.preserves,
   NormFwd.algebraic,
   MixAFwd.preserves,
   MixAFwd.algebraic,
   BIn.preserves,
   BIn.algebraic,
   AIn.preserves,
   AIn.algebraic⟩

end Cert.Proof

end
